-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherSmallRef (m : (ℓ : Loc Cert.GatherSmallRef.nD Cert.GatherSmallRef.τ Cert.GatherSmallRef.sig) → Buf (Elt Bits) ℓ) : Prop :=
  True

def Pre_Sum0 (m : (ℓ : Loc Cert.Sum0.nD Cert.Sum0.τ Cert.Sum0.sig) → Buf (Elt Bits) ℓ) : Prop :=
  True

def Pre_Sum0Ideal (m : (ℓ : Loc Cert.Sum0Ideal.nD Cert.Sum0Ideal.τ Cert.Sum0Ideal.sig) → Buf (Elt Ideal) ℓ) : Prop :=
  True

def Pre_Sum0RefIdeal (m : (ℓ : Loc Cert.Sum0RefIdeal.nD Cert.Sum0RefIdeal.τ Cert.Sum0RefIdeal.sig) → Buf (Elt Ideal) ℓ) : Prop :=
  True

def Pre_Sum1 (m : (ℓ : Loc Cert.Sum1.nD Cert.Sum1.τ Cert.Sum1.sig) → Buf (Elt Bits) ℓ) : Prop :=
  True

def Pre_Sum1Ideal (m : (ℓ : Loc Cert.Sum1Ideal.nD Cert.Sum1Ideal.τ Cert.Sum1Ideal.sig) → Buf (Elt Ideal) ℓ) : Prop :=
  True

def Pre_Sum1RefIdeal (m : (ℓ : Loc Cert.Sum1RefIdeal.nD Cert.Sum1RefIdeal.τ Cert.Sum1RefIdeal.sig) → Buf (Elt Ideal) ℓ) : Prop :=
  True

def Pre_Sum2 (m : (ℓ : Loc Cert.Sum2.nD Cert.Sum2.τ Cert.Sum2.sig) → Buf (Elt Bits) ℓ) : Prop :=
  True

def Pre_Sum2Ideal (m : (ℓ : Loc Cert.Sum2Ideal.nD Cert.Sum2Ideal.τ Cert.Sum2Ideal.sig) → Buf (Elt Ideal) ℓ) : Prop :=
  True

def Pre_Sum2RefIdeal (m : (ℓ : Loc Cert.Sum2RefIdeal.nD Cert.Sum2RefIdeal.τ Cert.Sum2RefIdeal.sig) → Buf (Elt Ideal) ℓ) : Prop :=
  True

def Pre_Sum3 (m : (ℓ : Loc Cert.Sum3.nD Cert.Sum3.τ Cert.Sum3.sig) → Buf (Elt Bits) ℓ) : Prop :=
  True

def Pre_Sum3Ideal (m : (ℓ : Loc Cert.Sum3Ideal.nD Cert.Sum3Ideal.τ Cert.Sum3Ideal.sig) → Buf (Elt Ideal) ℓ) : Prop :=
  True

def Pre_Sum3RefIdeal (m : (ℓ : Loc Cert.Sum3RefIdeal.nD Cert.Sum3RefIdeal.τ Cert.Sum3RefIdeal.sig) → Buf (Elt Ideal) ℓ) : Prop :=
  True

def Pre_Sum4 (m : (ℓ : Loc Cert.Sum4.nD Cert.Sum4.τ Cert.Sum4.sig) → Buf (Elt Bits) ℓ) : Prop :=
  True

def Pre_Sum4Ideal (m : (ℓ : Loc Cert.Sum4Ideal.nD Cert.Sum4Ideal.τ Cert.Sum4Ideal.sig) → Buf (Elt Ideal) ℓ) : Prop :=
  True

def Pre_Sum4RefIdeal (m : (ℓ : Loc Cert.Sum4RefIdeal.nD Cert.Sum4RefIdeal.τ Cert.Sum4RefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Step0 (m : (ℓ : Loc Cert.Step0.nD Cert.Step0.τ Cert.Step0.sig) → Buf (Elt Bits) ℓ) : Prop :=
  True

def Pre_Step0Ideal (m : (ℓ : Loc Cert.Step0Ideal.nD Cert.Step0Ideal.τ Cert.Step0Ideal.sig) → Buf (Elt Ideal) ℓ) : Prop :=
  True

def Pre_Step0RefIdeal (m : (ℓ : Loc Cert.Step0RefIdeal.nD Cert.Step0RefIdeal.τ Cert.Step0RefIdeal.sig) → Buf (Elt Ideal) ℓ) : Prop :=
  True

def Pre_Step1 (m : (ℓ : Loc Cert.Step1.nD Cert.Step1.τ Cert.Step1.sig) → Buf (Elt Bits) ℓ) : Prop :=
  True

def Pre_Step1Ideal (m : (ℓ : Loc Cert.Step1Ideal.nD Cert.Step1Ideal.τ Cert.Step1Ideal.sig) → Buf (Elt Ideal) ℓ) : Prop :=
  True

def Pre_Step1RefIdeal (m : (ℓ : Loc Cert.Step1RefIdeal.nD Cert.Step1RefIdeal.τ Cert.Step1RefIdeal.sig) → Buf (Elt Ideal) ℓ) : Prop :=
  True

def Pre_Step2 (m : (ℓ : Loc Cert.Step2.nD Cert.Step2.τ Cert.Step2.sig) → Buf (Elt Bits) ℓ) : Prop :=
  True

def Pre_Step2Ideal (m : (ℓ : Loc Cert.Step2Ideal.nD Cert.Step2Ideal.τ Cert.Step2Ideal.sig) → Buf (Elt Ideal) ℓ) : Prop :=
  True

def Pre_Step2RefIdeal (m : (ℓ : Loc Cert.Step2RefIdeal.nD Cert.Step2RefIdeal.τ Cert.Step2RefIdeal.sig) → Buf (Elt Ideal) ℓ) : Prop :=
  True

def Pre_Step3 (m : (ℓ : Loc Cert.Step3.nD Cert.Step3.τ Cert.Step3.sig) → Buf (Elt Bits) ℓ) : Prop :=
  True

def Pre_Step3Ideal (m : (ℓ : Loc Cert.Step3Ideal.nD Cert.Step3Ideal.τ Cert.Step3Ideal.sig) → Buf (Elt Ideal) ℓ) : Prop :=
  True

def Pre_Step3RefIdeal (m : (ℓ : Loc Cert.Step3RefIdeal.nD Cert.Step3RefIdeal.τ Cert.Step3RefIdeal.sig) → Buf (Elt Ideal) ℓ) : Prop :=
  True

def Pre_Step4 (m : (ℓ : Loc Cert.Step4.nD Cert.Step4.τ Cert.Step4.sig) → Buf (Elt Bits) ℓ) : Prop :=
  True

def Pre_Step4Ideal (m : (ℓ : Loc Cert.Step4Ideal.nD Cert.Step4Ideal.τ Cert.Step4Ideal.sig) → Buf (Elt Ideal) ℓ) : Prop :=
  True

def Pre_Step4RefIdeal (m : (ℓ : Loc Cert.Step4RefIdeal.nD Cert.Step4RefIdeal.τ Cert.Step4RefIdeal.sig) → Buf (Elt Ideal) ℓ) : Prop :=
  True

def Pre_Step5 (m : (ℓ : Loc Cert.Step5.nD Cert.Step5.τ Cert.Step5.sig) → Buf (Elt Bits) ℓ) : Prop :=
  True

def Pre_Step5Ideal (m : (ℓ : Loc Cert.Step5Ideal.nD Cert.Step5Ideal.τ Cert.Step5Ideal.sig) → Buf (Elt Ideal) ℓ) : Prop :=
  True

def Pre_Step5RefIdeal (m : (ℓ : Loc Cert.Step5RefIdeal.nD Cert.Step5RefIdeal.τ Cert.Step5RefIdeal.sig) → Buf (Elt Ideal) ℓ) : Prop :=
  True

def Pre_Step6 (m : (ℓ : Loc Cert.Step6.nD Cert.Step6.τ Cert.Step6.sig) → Buf (Elt Bits) ℓ) : Prop :=
  True

def Pre_Step6Ideal (m : (ℓ : Loc Cert.Step6Ideal.nD Cert.Step6Ideal.τ Cert.Step6Ideal.sig) → Buf (Elt Ideal) ℓ) : Prop :=
  True

def Pre_Step6RefIdeal (m : (ℓ : Loc Cert.Step6RefIdeal.nD Cert.Step6RefIdeal.τ Cert.Step6RefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_ActBack (m : (ℓ : Loc Cert.ActBack.nD Cert.ActBack.τ Cert.ActBack.sig) → Buf (Elt Bits) ℓ) : Prop :=
  True

def Pre_ActBackIdeal (m : (ℓ : Loc Cert.ActBackIdeal.nD Cert.ActBackIdeal.τ Cert.ActBackIdeal.sig) → Buf (Elt Ideal) ℓ) : Prop :=
  True

def Pre_ActBackRefIdeal (m : (ℓ : Loc Cert.ActBackRefIdeal.nD Cert.ActBackRefIdeal.τ Cert.ActBackRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_GatesBack (m : (ℓ : Loc Cert.GatesBack.nD Cert.GatesBack.τ Cert.GatesBack.sig) → Buf (Elt Bits) ℓ) : Prop :=
  True

def Pre_GatesBackIdeal (m : (ℓ : Loc Cert.GatesBackIdeal.nD Cert.GatesBackIdeal.τ Cert.GatesBackIdeal.sig) → Buf (Elt Ideal) ℓ) : Prop :=
  True

def Pre_GatesBackRefIdeal (m : (ℓ : Loc Cert.GatesBackRefIdeal.nD Cert.GatesBackRefIdeal.τ Cert.GatesBackRefIdeal.sig) → Buf (Elt Ideal) ℓ) : Prop :=
  True

def Pre_Widen (m : (ℓ : Loc Cert.Widen.nD Cert.Widen.τ Cert.Widen.sig) → Buf (Elt Bits) ℓ) : Prop :=
  True

def Pre_WidenIdeal (m : (ℓ : Loc Cert.WidenIdeal.nD Cert.WidenIdeal.τ Cert.WidenIdeal.sig) → Buf (Elt Ideal) ℓ) : Prop :=
  True

def Pre_WidenRefIdeal (m : (ℓ : Loc Cert.WidenRefIdeal.nD Cert.WidenRefIdeal.τ Cert.WidenRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dhid (m : (ℓ : Loc Cert.Dhid.nD Cert.Dhid.τ Cert.Dhid.sig) → Buf (Elt Bits) ℓ) : Prop :=
  True

def Pre_DhidIdeal (m : (ℓ : Loc Cert.DhidIdeal.nD Cert.DhidIdeal.τ Cert.DhidIdeal.sig) → Buf (Elt Ideal) ℓ) : Prop :=
  True

def Pre_DhidRefIdeal (m : (ℓ : Loc Cert.DhidRefIdeal.nD Cert.DhidRefIdeal.τ Cert.DhidRefIdeal.sig) → Buf (Elt Ideal) ℓ) : Prop :=
  True

def Pre_Inward (m : (ℓ : Loc Cert.Inward.nD Cert.Inward.τ Cert.Inward.sig) → Buf (Elt Bits) ℓ) : Prop :=
  True

def Pre_InwardIdeal (m : (ℓ : Loc Cert.InwardIdeal.nD Cert.InwardIdeal.τ Cert.InwardIdeal.sig) → Buf (Elt Ideal) ℓ) : Prop :=
  True

def Pre_InwardRefIdeal (m : (ℓ : Loc Cert.InwardRefIdeal.nD Cert.InwardRefIdeal.τ Cert.InwardRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_Outward (m : (ℓ : Loc Cert.Outward.nD Cert.Outward.τ Cert.Outward.sig) → Buf (Elt Bits) ℓ) : Prop :=
  True

def Pre_OutwardIdeal (m : (ℓ : Loc Cert.OutwardIdeal.nD Cert.OutwardIdeal.τ Cert.OutwardIdeal.sig) → Buf (Elt Ideal) ℓ) : Prop :=
  True

def Pre_OutwardRefIdeal (m : (ℓ : Loc Cert.OutwardRefIdeal.nD Cert.OutwardRefIdeal.τ Cert.OutwardRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_Dya (m : (ℓ : Loc Cert.Dya.nD Cert.Dya.τ Cert.Dya.sig) → Buf (Elt Bits) ℓ) : Prop :=
  True

def Pre_DyaIdeal (m : (ℓ : Loc Cert.DyaIdeal.nD Cert.DyaIdeal.τ Cert.DyaIdeal.sig) → Buf (Elt Ideal) ℓ) : Prop :=
  True

def Pre_DyaRefIdeal (m : (ℓ : Loc Cert.DyaRefIdeal.nD Cert.DyaRefIdeal.τ Cert.DyaRefIdeal.sig) → Buf (Elt Ideal) ℓ) : Prop :=
  True

def Pre_Dyb (m : (ℓ : Loc Cert.Dyb.nD Cert.Dyb.τ Cert.Dyb.sig) → Buf (Elt Bits) ℓ) : Prop :=
  True

def Pre_DybIdeal (m : (ℓ : Loc Cert.DybIdeal.nD Cert.DybIdeal.τ Cert.DybIdeal.sig) → Buf (Elt Ideal) ℓ) : Prop :=
  True

def Pre_DybRefIdeal (m : (ℓ : Loc Cert.DybRefIdeal.nD Cert.DybRefIdeal.τ Cert.DybRefIdeal.sig) → Buf (Elt Ideal) ℓ) : Prop :=
  True

def Pre_Dyc (m : (ℓ : Loc Cert.Dyc.nD Cert.Dyc.τ Cert.Dyc.sig) → Buf (Elt Bits) ℓ) : Prop :=
  True

def Pre_DycIdeal (m : (ℓ : Loc Cert.DycIdeal.nD Cert.DycIdeal.τ Cert.DycIdeal.sig) → Buf (Elt Ideal) ℓ) : Prop :=
  True

def Pre_DycRefIdeal (m : (ℓ : Loc Cert.DycRefIdeal.nD Cert.DycRefIdeal.τ Cert.DycRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_WgDown (m : (ℓ : Loc Cert.WgDown.nD Cert.WgDown.τ Cert.WgDown.sig) → Buf (Elt Bits) ℓ) : Prop :=
  True

def Pre_WgDownIdeal (m : (ℓ : Loc Cert.WgDownIdeal.nD Cert.WgDownIdeal.τ Cert.WgDownIdeal.sig) → Buf (Elt Ideal) ℓ) : Prop :=
  True

def Pre_WgDownRefIdeal (m : (ℓ : Loc Cert.WgDownRefIdeal.nD Cert.WgDownRefIdeal.τ Cert.WgDownRefIdeal.sig) → Buf (Elt Ideal) ℓ) : Prop :=
  True

def Pre_WgWiden (m : (ℓ : Loc Cert.WgWiden.nD Cert.WgWiden.τ Cert.WgWiden.sig) → Buf (Elt Bits) ℓ) : Prop :=
  True

def Pre_WgWidenIdeal (m : (ℓ : Loc Cert.WgWidenIdeal.nD Cert.WgWidenIdeal.τ Cert.WgWidenIdeal.sig) → Buf (Elt Ideal) ℓ) : Prop :=
  True

def Pre_WgWidenRefIdeal (m : (ℓ : Loc Cert.WgWidenRefIdeal.nD Cert.WgWidenRefIdeal.τ Cert.WgWidenRefIdeal.sig) → Buf (Elt Ideal) ℓ) : Prop :=
  True

def Pre_WgIn (m : (ℓ : Loc Cert.WgIn.nD Cert.WgIn.τ Cert.WgIn.sig) → Buf (Elt Bits) ℓ) : Prop :=
  True

def Pre_WgInIdeal (m : (ℓ : Loc Cert.WgInIdeal.nD Cert.WgInIdeal.τ Cert.WgInIdeal.sig) → Buf (Elt Ideal) ℓ) : Prop :=
  True

def Pre_WgInRefIdeal (m : (ℓ : Loc Cert.WgInRefIdeal.nD Cert.WgInRefIdeal.τ Cert.WgInRefIdeal.sig) → Buf (Elt Ideal) ℓ) : Prop :=
  True

def Pre_WgOut (m : (ℓ : Loc Cert.WgOut.nD Cert.WgOut.τ Cert.WgOut.sig) → Buf (Elt Bits) ℓ) : Prop :=
  True

def Pre_WgOutIdeal (m : (ℓ : Loc Cert.WgOutIdeal.nD Cert.WgOutIdeal.τ Cert.WgOutIdeal.sig) → Buf (Elt Ideal) ℓ) : Prop :=
  True

def Pre_WgOutRefIdeal (m : (ℓ : Loc Cert.WgOutRefIdeal.nD Cert.WgOutRefIdeal.τ Cert.WgOutRefIdeal.sig) → Buf (Elt Ideal) ℓ) : Prop :=
  True

def Pre_WgA (m : (ℓ : Loc Cert.WgA.nD Cert.WgA.τ Cert.WgA.sig) → Buf (Elt Bits) ℓ) : Prop :=
  True

def Pre_WgAIdeal (m : (ℓ : Loc Cert.WgAIdeal.nD Cert.WgAIdeal.τ Cert.WgAIdeal.sig) → Buf (Elt Ideal) ℓ) : Prop :=
  True

def Pre_WgARefIdeal (m : (ℓ : Loc Cert.WgARefIdeal.nD Cert.WgARefIdeal.τ Cert.WgARefIdeal.sig) → Buf (Elt Ideal) ℓ) : Prop :=
  True

def Pre_WgB (m : (ℓ : Loc Cert.WgB.nD Cert.WgB.τ Cert.WgB.sig) → Buf (Elt Bits) ℓ) : Prop :=
  True

def Pre_WgBIdeal (m : (ℓ : Loc Cert.WgBIdeal.nD Cert.WgBIdeal.τ Cert.WgBIdeal.sig) → Buf (Elt Ideal) ℓ) : Prop :=
  True

def Pre_WgBRefIdeal (m : (ℓ : Loc Cert.WgBRefIdeal.nD Cert.WgBRefIdeal.τ Cert.WgBRefIdeal.sig) → Buf (Elt Ideal) ℓ) : Prop :=
  True

def Pre_WgC (m : (ℓ : Loc Cert.WgC.nD Cert.WgC.τ Cert.WgC.sig) → Buf (Elt Bits) ℓ) : Prop :=
  True

def Pre_WgCIdeal (m : (ℓ : Loc Cert.WgCIdeal.nD Cert.WgCIdeal.τ Cert.WgCIdeal.sig) → Buf (Elt Ideal) ℓ) : Prop :=
  True

def Pre_WgCRefIdeal (m : (ℓ : Loc Cert.WgCRefIdeal.nD Cert.WgCRefIdeal.τ Cert.WgCRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherSmallRef [hGatherSmallRef : Cert.GatherSmallRef.Facts] : Prop :=
  ∀ (m : (ℓ : Loc Cert.GatherSmallRef.nD Cert.GatherSmallRef.τ Cert.GatherSmallRef.sig) → Buf (Elt Bits) ℓ) (g : Dev Cert.GatherSmallRef.nD → PrngReg), Pre_GatherSmallRef m →
    θ_run (Cert.GatherSmallRef.defs (F := Bits)) (onTc (τ := Cert.GatherSmallRef.τ) (Cert.GatherSmallRef.main (F := Bits))) ⟨m, fun _ => 0, g⟩ (fun r => (∀ c : Dev Cert.GatherSmallRef.nD,
      r.2.mem ((c.tc : Thread Cert.GatherSmallRef.nD Cert.GatherSmallRef.τ).loc Cert.GatherSmallRef.main_arg0) = m ((c.tc : Thread Cert.GatherSmallRef.nD Cert.GatherSmallRef.τ).loc Cert.GatherSmallRef.main_arg0))
      ∧ r.2.sem = fun _ => 0)

def quiescent_Sum0 [hSum0 : Cert.Sum0.Facts] : Prop :=
  ∀ (m : (ℓ : Loc Cert.Sum0.nD Cert.Sum0.τ Cert.Sum0.sig) → Buf (Elt Bits) ℓ) (g : Dev Cert.Sum0.nD → PrngReg), Pre_Sum0 m →
    θ_run (Cert.Sum0.defs (F := Bits)) (onTc (τ := Cert.Sum0.τ) (Cert.Sum0.main (F := Bits))) ⟨m, fun _ => 0, g⟩ (fun r => (∀ c : Dev Cert.Sum0.nD,
      r.2.mem ((c.tc : Thread Cert.Sum0.nD Cert.Sum0.τ).loc Cert.Sum0.main_arg0) = m ((c.tc : Thread Cert.Sum0.nD Cert.Sum0.τ).loc Cert.Sum0.main_arg0))
      ∧ r.2.sem = fun _ => 0)

def quiescent_Sum0Ideal [hSum0Ideal : Cert.Sum0Ideal.Facts] : Prop :=
  ∀ (m : (ℓ : Loc Cert.Sum0Ideal.nD Cert.Sum0Ideal.τ Cert.Sum0Ideal.sig) → Buf (Elt Ideal) ℓ) (g : Dev Cert.Sum0Ideal.nD → PrngReg), Pre_Sum0Ideal m →
    θ_run (Cert.Sum0Ideal.defs (F := Ideal)) (onTc (τ := Cert.Sum0Ideal.τ) (Cert.Sum0Ideal.main (F := Ideal))) ⟨m, fun _ => 0, g⟩ (fun r => (∀ c : Dev Cert.Sum0Ideal.nD,
      r.2.mem ((c.tc : Thread Cert.Sum0Ideal.nD Cert.Sum0Ideal.τ).loc Cert.Sum0Ideal.main_arg0) = m ((c.tc : Thread Cert.Sum0Ideal.nD Cert.Sum0Ideal.τ).loc Cert.Sum0Ideal.main_arg0))
      ∧ r.2.sem = fun _ => 0)

def quiescent_Sum0RefIdeal [hSum0RefIdeal : Cert.Sum0RefIdeal.Facts] : Prop :=
  ∀ (m : (ℓ : Loc Cert.Sum0RefIdeal.nD Cert.Sum0RefIdeal.τ Cert.Sum0RefIdeal.sig) → Buf (Elt Ideal) ℓ) (g : Dev Cert.Sum0RefIdeal.nD → PrngReg), Pre_Sum0RefIdeal m →
    θ_run (Cert.Sum0RefIdeal.defs (F := Ideal)) (onTc (τ := Cert.Sum0RefIdeal.τ) (Cert.Sum0RefIdeal.main (F := Ideal))) ⟨m, fun _ => 0, g⟩ (fun r => (∀ c : Dev Cert.Sum0RefIdeal.nD,
      r.2.mem ((c.tc : Thread Cert.Sum0RefIdeal.nD Cert.Sum0RefIdeal.τ).loc Cert.Sum0RefIdeal.main_arg0) = m ((c.tc : Thread Cert.Sum0RefIdeal.nD Cert.Sum0RefIdeal.τ).loc Cert.Sum0RefIdeal.main_arg0))
      ∧ r.2.sem = fun _ => 0)

def quiescent_Sum1 [hSum1 : Cert.Sum1.Facts] : Prop :=
  ∀ (m : (ℓ : Loc Cert.Sum1.nD Cert.Sum1.τ Cert.Sum1.sig) → Buf (Elt Bits) ℓ) (g : Dev Cert.Sum1.nD → PrngReg), Pre_Sum1 m →
    θ_run (Cert.Sum1.defs (F := Bits)) (onTc (τ := Cert.Sum1.τ) (Cert.Sum1.main (F := Bits))) ⟨m, fun _ => 0, g⟩ (fun r => (∀ c : Dev Cert.Sum1.nD,
      r.2.mem ((c.tc : Thread Cert.Sum1.nD Cert.Sum1.τ).loc Cert.Sum1.main_arg0) = m ((c.tc : Thread Cert.Sum1.nD Cert.Sum1.τ).loc Cert.Sum1.main_arg0))
      ∧ r.2.sem = fun _ => 0)

def quiescent_Sum1Ideal [hSum1Ideal : Cert.Sum1Ideal.Facts] : Prop :=
  ∀ (m : (ℓ : Loc Cert.Sum1Ideal.nD Cert.Sum1Ideal.τ Cert.Sum1Ideal.sig) → Buf (Elt Ideal) ℓ) (g : Dev Cert.Sum1Ideal.nD → PrngReg), Pre_Sum1Ideal m →
    θ_run (Cert.Sum1Ideal.defs (F := Ideal)) (onTc (τ := Cert.Sum1Ideal.τ) (Cert.Sum1Ideal.main (F := Ideal))) ⟨m, fun _ => 0, g⟩ (fun r => (∀ c : Dev Cert.Sum1Ideal.nD,
      r.2.mem ((c.tc : Thread Cert.Sum1Ideal.nD Cert.Sum1Ideal.τ).loc Cert.Sum1Ideal.main_arg0) = m ((c.tc : Thread Cert.Sum1Ideal.nD Cert.Sum1Ideal.τ).loc Cert.Sum1Ideal.main_arg0))
      ∧ r.2.sem = fun _ => 0)

def quiescent_Sum1RefIdeal [hSum1RefIdeal : Cert.Sum1RefIdeal.Facts] : Prop :=
  ∀ (m : (ℓ : Loc Cert.Sum1RefIdeal.nD Cert.Sum1RefIdeal.τ Cert.Sum1RefIdeal.sig) → Buf (Elt Ideal) ℓ) (g : Dev Cert.Sum1RefIdeal.nD → PrngReg), Pre_Sum1RefIdeal m →
    θ_run (Cert.Sum1RefIdeal.defs (F := Ideal)) (onTc (τ := Cert.Sum1RefIdeal.τ) (Cert.Sum1RefIdeal.main (F := Ideal))) ⟨m, fun _ => 0, g⟩ (fun r => (∀ c : Dev Cert.Sum1RefIdeal.nD,
      r.2.mem ((c.tc : Thread Cert.Sum1RefIdeal.nD Cert.Sum1RefIdeal.τ).loc Cert.Sum1RefIdeal.main_arg0) = m ((c.tc : Thread Cert.Sum1RefIdeal.nD Cert.Sum1RefIdeal.τ).loc Cert.Sum1RefIdeal.main_arg0))
      ∧ r.2.sem = fun _ => 0)

def quiescent_Sum2 [hSum2 : Cert.Sum2.Facts] : Prop :=
  ∀ (m : (ℓ : Loc Cert.Sum2.nD Cert.Sum2.τ Cert.Sum2.sig) → Buf (Elt Bits) ℓ) (g : Dev Cert.Sum2.nD → PrngReg), Pre_Sum2 m →
    θ_run (Cert.Sum2.defs (F := Bits)) (onTc (τ := Cert.Sum2.τ) (Cert.Sum2.main (F := Bits))) ⟨m, fun _ => 0, g⟩ (fun r => (∀ c : Dev Cert.Sum2.nD,
      r.2.mem ((c.tc : Thread Cert.Sum2.nD Cert.Sum2.τ).loc Cert.Sum2.main_arg0) = m ((c.tc : Thread Cert.Sum2.nD Cert.Sum2.τ).loc Cert.Sum2.main_arg0))
      ∧ r.2.sem = fun _ => 0)

def quiescent_Sum2Ideal [hSum2Ideal : Cert.Sum2Ideal.Facts] : Prop :=
  ∀ (m : (ℓ : Loc Cert.Sum2Ideal.nD Cert.Sum2Ideal.τ Cert.Sum2Ideal.sig) → Buf (Elt Ideal) ℓ) (g : Dev Cert.Sum2Ideal.nD → PrngReg), Pre_Sum2Ideal m →
    θ_run (Cert.Sum2Ideal.defs (F := Ideal)) (onTc (τ := Cert.Sum2Ideal.τ) (Cert.Sum2Ideal.main (F := Ideal))) ⟨m, fun _ => 0, g⟩ (fun r => (∀ c : Dev Cert.Sum2Ideal.nD,
      r.2.mem ((c.tc : Thread Cert.Sum2Ideal.nD Cert.Sum2Ideal.τ).loc Cert.Sum2Ideal.main_arg0) = m ((c.tc : Thread Cert.Sum2Ideal.nD Cert.Sum2Ideal.τ).loc Cert.Sum2Ideal.main_arg0))
      ∧ r.2.sem = fun _ => 0)

def quiescent_Sum2RefIdeal [hSum2RefIdeal : Cert.Sum2RefIdeal.Facts] : Prop :=
  ∀ (m : (ℓ : Loc Cert.Sum2RefIdeal.nD Cert.Sum2RefIdeal.τ Cert.Sum2RefIdeal.sig) → Buf (Elt Ideal) ℓ) (g : Dev Cert.Sum2RefIdeal.nD → PrngReg), Pre_Sum2RefIdeal m →
    θ_run (Cert.Sum2RefIdeal.defs (F := Ideal)) (onTc (τ := Cert.Sum2RefIdeal.τ) (Cert.Sum2RefIdeal.main (F := Ideal))) ⟨m, fun _ => 0, g⟩ (fun r => (∀ c : Dev Cert.Sum2RefIdeal.nD,
      r.2.mem ((c.tc : Thread Cert.Sum2RefIdeal.nD Cert.Sum2RefIdeal.τ).loc Cert.Sum2RefIdeal.main_arg0) = m ((c.tc : Thread Cert.Sum2RefIdeal.nD Cert.Sum2RefIdeal.τ).loc Cert.Sum2RefIdeal.main_arg0))
      ∧ r.2.sem = fun _ => 0)

def quiescent_Sum3 [hSum3 : Cert.Sum3.Facts] : Prop :=
  ∀ (m : (ℓ : Loc Cert.Sum3.nD Cert.Sum3.τ Cert.Sum3.sig) → Buf (Elt Bits) ℓ) (g : Dev Cert.Sum3.nD → PrngReg), Pre_Sum3 m →
    θ_run (Cert.Sum3.defs (F := Bits)) (onTc (τ := Cert.Sum3.τ) (Cert.Sum3.main (F := Bits))) ⟨m, fun _ => 0, g⟩ (fun r => (∀ c : Dev Cert.Sum3.nD,
      r.2.mem ((c.tc : Thread Cert.Sum3.nD Cert.Sum3.τ).loc Cert.Sum3.main_arg0) = m ((c.tc : Thread Cert.Sum3.nD Cert.Sum3.τ).loc Cert.Sum3.main_arg0))
      ∧ r.2.sem = fun _ => 0)

def quiescent_Sum3Ideal [hSum3Ideal : Cert.Sum3Ideal.Facts] : Prop :=
  ∀ (m : (ℓ : Loc Cert.Sum3Ideal.nD Cert.Sum3Ideal.τ Cert.Sum3Ideal.sig) → Buf (Elt Ideal) ℓ) (g : Dev Cert.Sum3Ideal.nD → PrngReg), Pre_Sum3Ideal m →
    θ_run (Cert.Sum3Ideal.defs (F := Ideal)) (onTc (τ := Cert.Sum3Ideal.τ) (Cert.Sum3Ideal.main (F := Ideal))) ⟨m, fun _ => 0, g⟩ (fun r => (∀ c : Dev Cert.Sum3Ideal.nD,
      r.2.mem ((c.tc : Thread Cert.Sum3Ideal.nD Cert.Sum3Ideal.τ).loc Cert.Sum3Ideal.main_arg0) = m ((c.tc : Thread Cert.Sum3Ideal.nD Cert.Sum3Ideal.τ).loc Cert.Sum3Ideal.main_arg0))
      ∧ r.2.sem = fun _ => 0)

def quiescent_Sum3RefIdeal [hSum3RefIdeal : Cert.Sum3RefIdeal.Facts] : Prop :=
  ∀ (m : (ℓ : Loc Cert.Sum3RefIdeal.nD Cert.Sum3RefIdeal.τ Cert.Sum3RefIdeal.sig) → Buf (Elt Ideal) ℓ) (g : Dev Cert.Sum3RefIdeal.nD → PrngReg), Pre_Sum3RefIdeal m →
    θ_run (Cert.Sum3RefIdeal.defs (F := Ideal)) (onTc (τ := Cert.Sum3RefIdeal.τ) (Cert.Sum3RefIdeal.main (F := Ideal))) ⟨m, fun _ => 0, g⟩ (fun r => (∀ c : Dev Cert.Sum3RefIdeal.nD,
      r.2.mem ((c.tc : Thread Cert.Sum3RefIdeal.nD Cert.Sum3RefIdeal.τ).loc Cert.Sum3RefIdeal.main_arg0) = m ((c.tc : Thread Cert.Sum3RefIdeal.nD Cert.Sum3RefIdeal.τ).loc Cert.Sum3RefIdeal.main_arg0))
      ∧ r.2.sem = fun _ => 0)

def quiescent_Sum4 [hSum4 : Cert.Sum4.Facts] : Prop :=
  ∀ (m : (ℓ : Loc Cert.Sum4.nD Cert.Sum4.τ Cert.Sum4.sig) → Buf (Elt Bits) ℓ) (g : Dev Cert.Sum4.nD → PrngReg), Pre_Sum4 m →
    θ_run (Cert.Sum4.defs (F := Bits)) (onTc (τ := Cert.Sum4.τ) (Cert.Sum4.main (F := Bits))) ⟨m, fun _ => 0, g⟩ (fun r => (∀ c : Dev Cert.Sum4.nD,
      r.2.mem ((c.tc : Thread Cert.Sum4.nD Cert.Sum4.τ).loc Cert.Sum4.main_arg0) = m ((c.tc : Thread Cert.Sum4.nD Cert.Sum4.τ).loc Cert.Sum4.main_arg0))
      ∧ r.2.sem = fun _ => 0)

def quiescent_Sum4Ideal [hSum4Ideal : Cert.Sum4Ideal.Facts] : Prop :=
  ∀ (m : (ℓ : Loc Cert.Sum4Ideal.nD Cert.Sum4Ideal.τ Cert.Sum4Ideal.sig) → Buf (Elt Ideal) ℓ) (g : Dev Cert.Sum4Ideal.nD → PrngReg), Pre_Sum4Ideal m →
    θ_run (Cert.Sum4Ideal.defs (F := Ideal)) (onTc (τ := Cert.Sum4Ideal.τ) (Cert.Sum4Ideal.main (F := Ideal))) ⟨m, fun _ => 0, g⟩ (fun r => (∀ c : Dev Cert.Sum4Ideal.nD,
      r.2.mem ((c.tc : Thread Cert.Sum4Ideal.nD Cert.Sum4Ideal.τ).loc Cert.Sum4Ideal.main_arg0) = m ((c.tc : Thread Cert.Sum4Ideal.nD Cert.Sum4Ideal.τ).loc Cert.Sum4Ideal.main_arg0))
      ∧ r.2.sem = fun _ => 0)

def quiescent_Sum4RefIdeal [hSum4RefIdeal : Cert.Sum4RefIdeal.Facts] : Prop :=
  ∀ (m : (ℓ : Loc Cert.Sum4RefIdeal.nD Cert.Sum4RefIdeal.τ Cert.Sum4RefIdeal.sig) → Buf (Elt Ideal) ℓ) (g : Dev Cert.Sum4RefIdeal.nD → PrngReg), Pre_Sum4RefIdeal m →
    θ_run (Cert.Sum4RefIdeal.defs (F := Ideal)) (onTc (τ := Cert.Sum4RefIdeal.τ) (Cert.Sum4RefIdeal.main (F := Ideal))) ⟨m, fun _ => 0, g⟩ (fun r => (∀ c : Dev Cert.Sum4RefIdeal.nD,
      r.2.mem ((c.tc : Thread Cert.Sum4RefIdeal.nD Cert.Sum4RefIdeal.τ).loc Cert.Sum4RefIdeal.main_arg0) = m ((c.tc : Thread Cert.Sum4RefIdeal.nD Cert.Sum4RefIdeal.τ).loc Cert.Sum4RefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Step0 [hStep0 : Cert.Step0.Facts] : Prop :=
  ∀ (m : (ℓ : Loc Cert.Step0.nD Cert.Step0.τ Cert.Step0.sig) → Buf (Elt Bits) ℓ) (g : Dev Cert.Step0.nD → PrngReg), Pre_Step0 m →
    θ_run (Cert.Step0.defs (F := Bits)) (onTc (τ := Cert.Step0.τ) (Cert.Step0.main (F := Bits))) ⟨m, fun _ => 0, g⟩ (fun r => (∀ c : Dev Cert.Step0.nD,
      r.2.mem ((c.tc : Thread Cert.Step0.nD Cert.Step0.τ).loc Cert.Step0.main_arg0) = m ((c.tc : Thread Cert.Step0.nD Cert.Step0.τ).loc Cert.Step0.main_arg0)
      ∧ r.2.mem ((c.tc : Thread Cert.Step0.nD Cert.Step0.τ).loc Cert.Step0.main_arg1) = m ((c.tc : Thread Cert.Step0.nD Cert.Step0.τ).loc Cert.Step0.main_arg1)
      ∧ r.2.mem ((c.tc : Thread Cert.Step0.nD Cert.Step0.τ).loc Cert.Step0.main_arg2) = m ((c.tc : Thread Cert.Step0.nD Cert.Step0.τ).loc Cert.Step0.main_arg2)
      ∧ r.2.mem ((c.tc : Thread Cert.Step0.nD Cert.Step0.τ).loc Cert.Step0.main_arg3) = m ((c.tc : Thread Cert.Step0.nD Cert.Step0.τ).loc Cert.Step0.main_arg3))
      ∧ r.2.sem = fun _ => 0)

def quiescent_Step0Ideal [hStep0Ideal : Cert.Step0Ideal.Facts] : Prop :=
  ∀ (m : (ℓ : Loc Cert.Step0Ideal.nD Cert.Step0Ideal.τ Cert.Step0Ideal.sig) → Buf (Elt Ideal) ℓ) (g : Dev Cert.Step0Ideal.nD → PrngReg), Pre_Step0Ideal m →
    θ_run (Cert.Step0Ideal.defs (F := Ideal)) (onTc (τ := Cert.Step0Ideal.τ) (Cert.Step0Ideal.main (F := Ideal))) ⟨m, fun _ => 0, g⟩ (fun r => (∀ c : Dev Cert.Step0Ideal.nD,
      r.2.mem ((c.tc : Thread Cert.Step0Ideal.nD Cert.Step0Ideal.τ).loc Cert.Step0Ideal.main_arg0) = m ((c.tc : Thread Cert.Step0Ideal.nD Cert.Step0Ideal.τ).loc Cert.Step0Ideal.main_arg0)
      ∧ r.2.mem ((c.tc : Thread Cert.Step0Ideal.nD Cert.Step0Ideal.τ).loc Cert.Step0Ideal.main_arg1) = m ((c.tc : Thread Cert.Step0Ideal.nD Cert.Step0Ideal.τ).loc Cert.Step0Ideal.main_arg1)
      ∧ r.2.mem ((c.tc : Thread Cert.Step0Ideal.nD Cert.Step0Ideal.τ).loc Cert.Step0Ideal.main_arg2) = m ((c.tc : Thread Cert.Step0Ideal.nD Cert.Step0Ideal.τ).loc Cert.Step0Ideal.main_arg2)
      ∧ r.2.mem ((c.tc : Thread Cert.Step0Ideal.nD Cert.Step0Ideal.τ).loc Cert.Step0Ideal.main_arg3) = m ((c.tc : Thread Cert.Step0Ideal.nD Cert.Step0Ideal.τ).loc Cert.Step0Ideal.main_arg3))
      ∧ r.2.sem = fun _ => 0)

def quiescent_Step0RefIdeal [hStep0RefIdeal : Cert.Step0RefIdeal.Facts] : Prop :=
  ∀ (m : (ℓ : Loc Cert.Step0RefIdeal.nD Cert.Step0RefIdeal.τ Cert.Step0RefIdeal.sig) → Buf (Elt Ideal) ℓ) (g : Dev Cert.Step0RefIdeal.nD → PrngReg), Pre_Step0RefIdeal m →
    θ_run (Cert.Step0RefIdeal.defs (F := Ideal)) (onTc (τ := Cert.Step0RefIdeal.τ) (Cert.Step0RefIdeal.main (F := Ideal))) ⟨m, fun _ => 0, g⟩ (fun r => (∀ c : Dev Cert.Step0RefIdeal.nD,
      r.2.mem ((c.tc : Thread Cert.Step0RefIdeal.nD Cert.Step0RefIdeal.τ).loc Cert.Step0RefIdeal.main_arg0) = m ((c.tc : Thread Cert.Step0RefIdeal.nD Cert.Step0RefIdeal.τ).loc Cert.Step0RefIdeal.main_arg0)
      ∧ r.2.mem ((c.tc : Thread Cert.Step0RefIdeal.nD Cert.Step0RefIdeal.τ).loc Cert.Step0RefIdeal.main_arg1) = m ((c.tc : Thread Cert.Step0RefIdeal.nD Cert.Step0RefIdeal.τ).loc Cert.Step0RefIdeal.main_arg1)
      ∧ r.2.mem ((c.tc : Thread Cert.Step0RefIdeal.nD Cert.Step0RefIdeal.τ).loc Cert.Step0RefIdeal.main_arg2) = m ((c.tc : Thread Cert.Step0RefIdeal.nD Cert.Step0RefIdeal.τ).loc Cert.Step0RefIdeal.main_arg2)
      ∧ r.2.mem ((c.tc : Thread Cert.Step0RefIdeal.nD Cert.Step0RefIdeal.τ).loc Cert.Step0RefIdeal.main_arg3) = m ((c.tc : Thread Cert.Step0RefIdeal.nD Cert.Step0RefIdeal.τ).loc Cert.Step0RefIdeal.main_arg3))
      ∧ r.2.sem = fun _ => 0)

def quiescent_Step1 [hStep1 : Cert.Step1.Facts] : Prop :=
  ∀ (m : (ℓ : Loc Cert.Step1.nD Cert.Step1.τ Cert.Step1.sig) → Buf (Elt Bits) ℓ) (g : Dev Cert.Step1.nD → PrngReg), Pre_Step1 m →
    θ_run (Cert.Step1.defs (F := Bits)) (onTc (τ := Cert.Step1.τ) (Cert.Step1.main (F := Bits))) ⟨m, fun _ => 0, g⟩ (fun r => (∀ c : Dev Cert.Step1.nD,
      r.2.mem ((c.tc : Thread Cert.Step1.nD Cert.Step1.τ).loc Cert.Step1.main_arg0) = m ((c.tc : Thread Cert.Step1.nD Cert.Step1.τ).loc Cert.Step1.main_arg0)
      ∧ r.2.mem ((c.tc : Thread Cert.Step1.nD Cert.Step1.τ).loc Cert.Step1.main_arg1) = m ((c.tc : Thread Cert.Step1.nD Cert.Step1.τ).loc Cert.Step1.main_arg1)
      ∧ r.2.mem ((c.tc : Thread Cert.Step1.nD Cert.Step1.τ).loc Cert.Step1.main_arg2) = m ((c.tc : Thread Cert.Step1.nD Cert.Step1.τ).loc Cert.Step1.main_arg2)
      ∧ r.2.mem ((c.tc : Thread Cert.Step1.nD Cert.Step1.τ).loc Cert.Step1.main_arg3) = m ((c.tc : Thread Cert.Step1.nD Cert.Step1.τ).loc Cert.Step1.main_arg3))
      ∧ r.2.sem = fun _ => 0)

def quiescent_Step1Ideal [hStep1Ideal : Cert.Step1Ideal.Facts] : Prop :=
  ∀ (m : (ℓ : Loc Cert.Step1Ideal.nD Cert.Step1Ideal.τ Cert.Step1Ideal.sig) → Buf (Elt Ideal) ℓ) (g : Dev Cert.Step1Ideal.nD → PrngReg), Pre_Step1Ideal m →
    θ_run (Cert.Step1Ideal.defs (F := Ideal)) (onTc (τ := Cert.Step1Ideal.τ) (Cert.Step1Ideal.main (F := Ideal))) ⟨m, fun _ => 0, g⟩ (fun r => (∀ c : Dev Cert.Step1Ideal.nD,
      r.2.mem ((c.tc : Thread Cert.Step1Ideal.nD Cert.Step1Ideal.τ).loc Cert.Step1Ideal.main_arg0) = m ((c.tc : Thread Cert.Step1Ideal.nD Cert.Step1Ideal.τ).loc Cert.Step1Ideal.main_arg0)
      ∧ r.2.mem ((c.tc : Thread Cert.Step1Ideal.nD Cert.Step1Ideal.τ).loc Cert.Step1Ideal.main_arg1) = m ((c.tc : Thread Cert.Step1Ideal.nD Cert.Step1Ideal.τ).loc Cert.Step1Ideal.main_arg1)
      ∧ r.2.mem ((c.tc : Thread Cert.Step1Ideal.nD Cert.Step1Ideal.τ).loc Cert.Step1Ideal.main_arg2) = m ((c.tc : Thread Cert.Step1Ideal.nD Cert.Step1Ideal.τ).loc Cert.Step1Ideal.main_arg2)
      ∧ r.2.mem ((c.tc : Thread Cert.Step1Ideal.nD Cert.Step1Ideal.τ).loc Cert.Step1Ideal.main_arg3) = m ((c.tc : Thread Cert.Step1Ideal.nD Cert.Step1Ideal.τ).loc Cert.Step1Ideal.main_arg3))
      ∧ r.2.sem = fun _ => 0)

def quiescent_Step1RefIdeal [hStep1RefIdeal : Cert.Step1RefIdeal.Facts] : Prop :=
  ∀ (m : (ℓ : Loc Cert.Step1RefIdeal.nD Cert.Step1RefIdeal.τ Cert.Step1RefIdeal.sig) → Buf (Elt Ideal) ℓ) (g : Dev Cert.Step1RefIdeal.nD → PrngReg), Pre_Step1RefIdeal m →
    θ_run (Cert.Step1RefIdeal.defs (F := Ideal)) (onTc (τ := Cert.Step1RefIdeal.τ) (Cert.Step1RefIdeal.main (F := Ideal))) ⟨m, fun _ => 0, g⟩ (fun r => (∀ c : Dev Cert.Step1RefIdeal.nD,
      r.2.mem ((c.tc : Thread Cert.Step1RefIdeal.nD Cert.Step1RefIdeal.τ).loc Cert.Step1RefIdeal.main_arg0) = m ((c.tc : Thread Cert.Step1RefIdeal.nD Cert.Step1RefIdeal.τ).loc Cert.Step1RefIdeal.main_arg0)
      ∧ r.2.mem ((c.tc : Thread Cert.Step1RefIdeal.nD Cert.Step1RefIdeal.τ).loc Cert.Step1RefIdeal.main_arg1) = m ((c.tc : Thread Cert.Step1RefIdeal.nD Cert.Step1RefIdeal.τ).loc Cert.Step1RefIdeal.main_arg1)
      ∧ r.2.mem ((c.tc : Thread Cert.Step1RefIdeal.nD Cert.Step1RefIdeal.τ).loc Cert.Step1RefIdeal.main_arg2) = m ((c.tc : Thread Cert.Step1RefIdeal.nD Cert.Step1RefIdeal.τ).loc Cert.Step1RefIdeal.main_arg2)
      ∧ r.2.mem ((c.tc : Thread Cert.Step1RefIdeal.nD Cert.Step1RefIdeal.τ).loc Cert.Step1RefIdeal.main_arg3) = m ((c.tc : Thread Cert.Step1RefIdeal.nD Cert.Step1RefIdeal.τ).loc Cert.Step1RefIdeal.main_arg3))
      ∧ r.2.sem = fun _ => 0)

def quiescent_Step2 [hStep2 : Cert.Step2.Facts] : Prop :=
  ∀ (m : (ℓ : Loc Cert.Step2.nD Cert.Step2.τ Cert.Step2.sig) → Buf (Elt Bits) ℓ) (g : Dev Cert.Step2.nD → PrngReg), Pre_Step2 m →
    θ_run (Cert.Step2.defs (F := Bits)) (onTc (τ := Cert.Step2.τ) (Cert.Step2.main (F := Bits))) ⟨m, fun _ => 0, g⟩ (fun r => (∀ c : Dev Cert.Step2.nD,
      r.2.mem ((c.tc : Thread Cert.Step2.nD Cert.Step2.τ).loc Cert.Step2.main_arg0) = m ((c.tc : Thread Cert.Step2.nD Cert.Step2.τ).loc Cert.Step2.main_arg0)
      ∧ r.2.mem ((c.tc : Thread Cert.Step2.nD Cert.Step2.τ).loc Cert.Step2.main_arg1) = m ((c.tc : Thread Cert.Step2.nD Cert.Step2.τ).loc Cert.Step2.main_arg1)
      ∧ r.2.mem ((c.tc : Thread Cert.Step2.nD Cert.Step2.τ).loc Cert.Step2.main_arg2) = m ((c.tc : Thread Cert.Step2.nD Cert.Step2.τ).loc Cert.Step2.main_arg2)
      ∧ r.2.mem ((c.tc : Thread Cert.Step2.nD Cert.Step2.τ).loc Cert.Step2.main_arg3) = m ((c.tc : Thread Cert.Step2.nD Cert.Step2.τ).loc Cert.Step2.main_arg3))
      ∧ r.2.sem = fun _ => 0)

def quiescent_Step2Ideal [hStep2Ideal : Cert.Step2Ideal.Facts] : Prop :=
  ∀ (m : (ℓ : Loc Cert.Step2Ideal.nD Cert.Step2Ideal.τ Cert.Step2Ideal.sig) → Buf (Elt Ideal) ℓ) (g : Dev Cert.Step2Ideal.nD → PrngReg), Pre_Step2Ideal m →
    θ_run (Cert.Step2Ideal.defs (F := Ideal)) (onTc (τ := Cert.Step2Ideal.τ) (Cert.Step2Ideal.main (F := Ideal))) ⟨m, fun _ => 0, g⟩ (fun r => (∀ c : Dev Cert.Step2Ideal.nD,
      r.2.mem ((c.tc : Thread Cert.Step2Ideal.nD Cert.Step2Ideal.τ).loc Cert.Step2Ideal.main_arg0) = m ((c.tc : Thread Cert.Step2Ideal.nD Cert.Step2Ideal.τ).loc Cert.Step2Ideal.main_arg0)
      ∧ r.2.mem ((c.tc : Thread Cert.Step2Ideal.nD Cert.Step2Ideal.τ).loc Cert.Step2Ideal.main_arg1) = m ((c.tc : Thread Cert.Step2Ideal.nD Cert.Step2Ideal.τ).loc Cert.Step2Ideal.main_arg1)
      ∧ r.2.mem ((c.tc : Thread Cert.Step2Ideal.nD Cert.Step2Ideal.τ).loc Cert.Step2Ideal.main_arg2) = m ((c.tc : Thread Cert.Step2Ideal.nD Cert.Step2Ideal.τ).loc Cert.Step2Ideal.main_arg2)
      ∧ r.2.mem ((c.tc : Thread Cert.Step2Ideal.nD Cert.Step2Ideal.τ).loc Cert.Step2Ideal.main_arg3) = m ((c.tc : Thread Cert.Step2Ideal.nD Cert.Step2Ideal.τ).loc Cert.Step2Ideal.main_arg3))
      ∧ r.2.sem = fun _ => 0)

def quiescent_Step2RefIdeal [hStep2RefIdeal : Cert.Step2RefIdeal.Facts] : Prop :=
  ∀ (m : (ℓ : Loc Cert.Step2RefIdeal.nD Cert.Step2RefIdeal.τ Cert.Step2RefIdeal.sig) → Buf (Elt Ideal) ℓ) (g : Dev Cert.Step2RefIdeal.nD → PrngReg), Pre_Step2RefIdeal m →
    θ_run (Cert.Step2RefIdeal.defs (F := Ideal)) (onTc (τ := Cert.Step2RefIdeal.τ) (Cert.Step2RefIdeal.main (F := Ideal))) ⟨m, fun _ => 0, g⟩ (fun r => (∀ c : Dev Cert.Step2RefIdeal.nD,
      r.2.mem ((c.tc : Thread Cert.Step2RefIdeal.nD Cert.Step2RefIdeal.τ).loc Cert.Step2RefIdeal.main_arg0) = m ((c.tc : Thread Cert.Step2RefIdeal.nD Cert.Step2RefIdeal.τ).loc Cert.Step2RefIdeal.main_arg0)
      ∧ r.2.mem ((c.tc : Thread Cert.Step2RefIdeal.nD Cert.Step2RefIdeal.τ).loc Cert.Step2RefIdeal.main_arg1) = m ((c.tc : Thread Cert.Step2RefIdeal.nD Cert.Step2RefIdeal.τ).loc Cert.Step2RefIdeal.main_arg1)
      ∧ r.2.mem ((c.tc : Thread Cert.Step2RefIdeal.nD Cert.Step2RefIdeal.τ).loc Cert.Step2RefIdeal.main_arg2) = m ((c.tc : Thread Cert.Step2RefIdeal.nD Cert.Step2RefIdeal.τ).loc Cert.Step2RefIdeal.main_arg2)
      ∧ r.2.mem ((c.tc : Thread Cert.Step2RefIdeal.nD Cert.Step2RefIdeal.τ).loc Cert.Step2RefIdeal.main_arg3) = m ((c.tc : Thread Cert.Step2RefIdeal.nD Cert.Step2RefIdeal.τ).loc Cert.Step2RefIdeal.main_arg3))
      ∧ r.2.sem = fun _ => 0)

def quiescent_Step3 [hStep3 : Cert.Step3.Facts] : Prop :=
  ∀ (m : (ℓ : Loc Cert.Step3.nD Cert.Step3.τ Cert.Step3.sig) → Buf (Elt Bits) ℓ) (g : Dev Cert.Step3.nD → PrngReg), Pre_Step3 m →
    θ_run (Cert.Step3.defs (F := Bits)) (onTc (τ := Cert.Step3.τ) (Cert.Step3.main (F := Bits))) ⟨m, fun _ => 0, g⟩ (fun r => (∀ c : Dev Cert.Step3.nD,
      r.2.mem ((c.tc : Thread Cert.Step3.nD Cert.Step3.τ).loc Cert.Step3.main_arg0) = m ((c.tc : Thread Cert.Step3.nD Cert.Step3.τ).loc Cert.Step3.main_arg0)
      ∧ r.2.mem ((c.tc : Thread Cert.Step3.nD Cert.Step3.τ).loc Cert.Step3.main_arg1) = m ((c.tc : Thread Cert.Step3.nD Cert.Step3.τ).loc Cert.Step3.main_arg1)
      ∧ r.2.mem ((c.tc : Thread Cert.Step3.nD Cert.Step3.τ).loc Cert.Step3.main_arg2) = m ((c.tc : Thread Cert.Step3.nD Cert.Step3.τ).loc Cert.Step3.main_arg2)
      ∧ r.2.mem ((c.tc : Thread Cert.Step3.nD Cert.Step3.τ).loc Cert.Step3.main_arg3) = m ((c.tc : Thread Cert.Step3.nD Cert.Step3.τ).loc Cert.Step3.main_arg3))
      ∧ r.2.sem = fun _ => 0)

def quiescent_Step3Ideal [hStep3Ideal : Cert.Step3Ideal.Facts] : Prop :=
  ∀ (m : (ℓ : Loc Cert.Step3Ideal.nD Cert.Step3Ideal.τ Cert.Step3Ideal.sig) → Buf (Elt Ideal) ℓ) (g : Dev Cert.Step3Ideal.nD → PrngReg), Pre_Step3Ideal m →
    θ_run (Cert.Step3Ideal.defs (F := Ideal)) (onTc (τ := Cert.Step3Ideal.τ) (Cert.Step3Ideal.main (F := Ideal))) ⟨m, fun _ => 0, g⟩ (fun r => (∀ c : Dev Cert.Step3Ideal.nD,
      r.2.mem ((c.tc : Thread Cert.Step3Ideal.nD Cert.Step3Ideal.τ).loc Cert.Step3Ideal.main_arg0) = m ((c.tc : Thread Cert.Step3Ideal.nD Cert.Step3Ideal.τ).loc Cert.Step3Ideal.main_arg0)
      ∧ r.2.mem ((c.tc : Thread Cert.Step3Ideal.nD Cert.Step3Ideal.τ).loc Cert.Step3Ideal.main_arg1) = m ((c.tc : Thread Cert.Step3Ideal.nD Cert.Step3Ideal.τ).loc Cert.Step3Ideal.main_arg1)
      ∧ r.2.mem ((c.tc : Thread Cert.Step3Ideal.nD Cert.Step3Ideal.τ).loc Cert.Step3Ideal.main_arg2) = m ((c.tc : Thread Cert.Step3Ideal.nD Cert.Step3Ideal.τ).loc Cert.Step3Ideal.main_arg2)
      ∧ r.2.mem ((c.tc : Thread Cert.Step3Ideal.nD Cert.Step3Ideal.τ).loc Cert.Step3Ideal.main_arg3) = m ((c.tc : Thread Cert.Step3Ideal.nD Cert.Step3Ideal.τ).loc Cert.Step3Ideal.main_arg3))
      ∧ r.2.sem = fun _ => 0)

def quiescent_Step3RefIdeal [hStep3RefIdeal : Cert.Step3RefIdeal.Facts] : Prop :=
  ∀ (m : (ℓ : Loc Cert.Step3RefIdeal.nD Cert.Step3RefIdeal.τ Cert.Step3RefIdeal.sig) → Buf (Elt Ideal) ℓ) (g : Dev Cert.Step3RefIdeal.nD → PrngReg), Pre_Step3RefIdeal m →
    θ_run (Cert.Step3RefIdeal.defs (F := Ideal)) (onTc (τ := Cert.Step3RefIdeal.τ) (Cert.Step3RefIdeal.main (F := Ideal))) ⟨m, fun _ => 0, g⟩ (fun r => (∀ c : Dev Cert.Step3RefIdeal.nD,
      r.2.mem ((c.tc : Thread Cert.Step3RefIdeal.nD Cert.Step3RefIdeal.τ).loc Cert.Step3RefIdeal.main_arg0) = m ((c.tc : Thread Cert.Step3RefIdeal.nD Cert.Step3RefIdeal.τ).loc Cert.Step3RefIdeal.main_arg0)
      ∧ r.2.mem ((c.tc : Thread Cert.Step3RefIdeal.nD Cert.Step3RefIdeal.τ).loc Cert.Step3RefIdeal.main_arg1) = m ((c.tc : Thread Cert.Step3RefIdeal.nD Cert.Step3RefIdeal.τ).loc Cert.Step3RefIdeal.main_arg1)
      ∧ r.2.mem ((c.tc : Thread Cert.Step3RefIdeal.nD Cert.Step3RefIdeal.τ).loc Cert.Step3RefIdeal.main_arg2) = m ((c.tc : Thread Cert.Step3RefIdeal.nD Cert.Step3RefIdeal.τ).loc Cert.Step3RefIdeal.main_arg2)
      ∧ r.2.mem ((c.tc : Thread Cert.Step3RefIdeal.nD Cert.Step3RefIdeal.τ).loc Cert.Step3RefIdeal.main_arg3) = m ((c.tc : Thread Cert.Step3RefIdeal.nD Cert.Step3RefIdeal.τ).loc Cert.Step3RefIdeal.main_arg3))
      ∧ r.2.sem = fun _ => 0)

def quiescent_Step4 [hStep4 : Cert.Step4.Facts] : Prop :=
  ∀ (m : (ℓ : Loc Cert.Step4.nD Cert.Step4.τ Cert.Step4.sig) → Buf (Elt Bits) ℓ) (g : Dev Cert.Step4.nD → PrngReg), Pre_Step4 m →
    θ_run (Cert.Step4.defs (F := Bits)) (onTc (τ := Cert.Step4.τ) (Cert.Step4.main (F := Bits))) ⟨m, fun _ => 0, g⟩ (fun r => (∀ c : Dev Cert.Step4.nD,
      r.2.mem ((c.tc : Thread Cert.Step4.nD Cert.Step4.τ).loc Cert.Step4.main_arg0) = m ((c.tc : Thread Cert.Step4.nD Cert.Step4.τ).loc Cert.Step4.main_arg0)
      ∧ r.2.mem ((c.tc : Thread Cert.Step4.nD Cert.Step4.τ).loc Cert.Step4.main_arg1) = m ((c.tc : Thread Cert.Step4.nD Cert.Step4.τ).loc Cert.Step4.main_arg1)
      ∧ r.2.mem ((c.tc : Thread Cert.Step4.nD Cert.Step4.τ).loc Cert.Step4.main_arg2) = m ((c.tc : Thread Cert.Step4.nD Cert.Step4.τ).loc Cert.Step4.main_arg2)
      ∧ r.2.mem ((c.tc : Thread Cert.Step4.nD Cert.Step4.τ).loc Cert.Step4.main_arg3) = m ((c.tc : Thread Cert.Step4.nD Cert.Step4.τ).loc Cert.Step4.main_arg3))
      ∧ r.2.sem = fun _ => 0)

def quiescent_Step4Ideal [hStep4Ideal : Cert.Step4Ideal.Facts] : Prop :=
  ∀ (m : (ℓ : Loc Cert.Step4Ideal.nD Cert.Step4Ideal.τ Cert.Step4Ideal.sig) → Buf (Elt Ideal) ℓ) (g : Dev Cert.Step4Ideal.nD → PrngReg), Pre_Step4Ideal m →
    θ_run (Cert.Step4Ideal.defs (F := Ideal)) (onTc (τ := Cert.Step4Ideal.τ) (Cert.Step4Ideal.main (F := Ideal))) ⟨m, fun _ => 0, g⟩ (fun r => (∀ c : Dev Cert.Step4Ideal.nD,
      r.2.mem ((c.tc : Thread Cert.Step4Ideal.nD Cert.Step4Ideal.τ).loc Cert.Step4Ideal.main_arg0) = m ((c.tc : Thread Cert.Step4Ideal.nD Cert.Step4Ideal.τ).loc Cert.Step4Ideal.main_arg0)
      ∧ r.2.mem ((c.tc : Thread Cert.Step4Ideal.nD Cert.Step4Ideal.τ).loc Cert.Step4Ideal.main_arg1) = m ((c.tc : Thread Cert.Step4Ideal.nD Cert.Step4Ideal.τ).loc Cert.Step4Ideal.main_arg1)
      ∧ r.2.mem ((c.tc : Thread Cert.Step4Ideal.nD Cert.Step4Ideal.τ).loc Cert.Step4Ideal.main_arg2) = m ((c.tc : Thread Cert.Step4Ideal.nD Cert.Step4Ideal.τ).loc Cert.Step4Ideal.main_arg2)
      ∧ r.2.mem ((c.tc : Thread Cert.Step4Ideal.nD Cert.Step4Ideal.τ).loc Cert.Step4Ideal.main_arg3) = m ((c.tc : Thread Cert.Step4Ideal.nD Cert.Step4Ideal.τ).loc Cert.Step4Ideal.main_arg3))
      ∧ r.2.sem = fun _ => 0)

def quiescent_Step4RefIdeal [hStep4RefIdeal : Cert.Step4RefIdeal.Facts] : Prop :=
  ∀ (m : (ℓ : Loc Cert.Step4RefIdeal.nD Cert.Step4RefIdeal.τ Cert.Step4RefIdeal.sig) → Buf (Elt Ideal) ℓ) (g : Dev Cert.Step4RefIdeal.nD → PrngReg), Pre_Step4RefIdeal m →
    θ_run (Cert.Step4RefIdeal.defs (F := Ideal)) (onTc (τ := Cert.Step4RefIdeal.τ) (Cert.Step4RefIdeal.main (F := Ideal))) ⟨m, fun _ => 0, g⟩ (fun r => (∀ c : Dev Cert.Step4RefIdeal.nD,
      r.2.mem ((c.tc : Thread Cert.Step4RefIdeal.nD Cert.Step4RefIdeal.τ).loc Cert.Step4RefIdeal.main_arg0) = m ((c.tc : Thread Cert.Step4RefIdeal.nD Cert.Step4RefIdeal.τ).loc Cert.Step4RefIdeal.main_arg0)
      ∧ r.2.mem ((c.tc : Thread Cert.Step4RefIdeal.nD Cert.Step4RefIdeal.τ).loc Cert.Step4RefIdeal.main_arg1) = m ((c.tc : Thread Cert.Step4RefIdeal.nD Cert.Step4RefIdeal.τ).loc Cert.Step4RefIdeal.main_arg1)
      ∧ r.2.mem ((c.tc : Thread Cert.Step4RefIdeal.nD Cert.Step4RefIdeal.τ).loc Cert.Step4RefIdeal.main_arg2) = m ((c.tc : Thread Cert.Step4RefIdeal.nD Cert.Step4RefIdeal.τ).loc Cert.Step4RefIdeal.main_arg2)
      ∧ r.2.mem ((c.tc : Thread Cert.Step4RefIdeal.nD Cert.Step4RefIdeal.τ).loc Cert.Step4RefIdeal.main_arg3) = m ((c.tc : Thread Cert.Step4RefIdeal.nD Cert.Step4RefIdeal.τ).loc Cert.Step4RefIdeal.main_arg3))
      ∧ r.2.sem = fun _ => 0)

def quiescent_Step5 [hStep5 : Cert.Step5.Facts] : Prop :=
  ∀ (m : (ℓ : Loc Cert.Step5.nD Cert.Step5.τ Cert.Step5.sig) → Buf (Elt Bits) ℓ) (g : Dev Cert.Step5.nD → PrngReg), Pre_Step5 m →
    θ_run (Cert.Step5.defs (F := Bits)) (onTc (τ := Cert.Step5.τ) (Cert.Step5.main (F := Bits))) ⟨m, fun _ => 0, g⟩ (fun r => (∀ c : Dev Cert.Step5.nD,
      r.2.mem ((c.tc : Thread Cert.Step5.nD Cert.Step5.τ).loc Cert.Step5.main_arg0) = m ((c.tc : Thread Cert.Step5.nD Cert.Step5.τ).loc Cert.Step5.main_arg0)
      ∧ r.2.mem ((c.tc : Thread Cert.Step5.nD Cert.Step5.τ).loc Cert.Step5.main_arg1) = m ((c.tc : Thread Cert.Step5.nD Cert.Step5.τ).loc Cert.Step5.main_arg1)
      ∧ r.2.mem ((c.tc : Thread Cert.Step5.nD Cert.Step5.τ).loc Cert.Step5.main_arg2) = m ((c.tc : Thread Cert.Step5.nD Cert.Step5.τ).loc Cert.Step5.main_arg2)
      ∧ r.2.mem ((c.tc : Thread Cert.Step5.nD Cert.Step5.τ).loc Cert.Step5.main_arg3) = m ((c.tc : Thread Cert.Step5.nD Cert.Step5.τ).loc Cert.Step5.main_arg3))
      ∧ r.2.sem = fun _ => 0)

def quiescent_Step5Ideal [hStep5Ideal : Cert.Step5Ideal.Facts] : Prop :=
  ∀ (m : (ℓ : Loc Cert.Step5Ideal.nD Cert.Step5Ideal.τ Cert.Step5Ideal.sig) → Buf (Elt Ideal) ℓ) (g : Dev Cert.Step5Ideal.nD → PrngReg), Pre_Step5Ideal m →
    θ_run (Cert.Step5Ideal.defs (F := Ideal)) (onTc (τ := Cert.Step5Ideal.τ) (Cert.Step5Ideal.main (F := Ideal))) ⟨m, fun _ => 0, g⟩ (fun r => (∀ c : Dev Cert.Step5Ideal.nD,
      r.2.mem ((c.tc : Thread Cert.Step5Ideal.nD Cert.Step5Ideal.τ).loc Cert.Step5Ideal.main_arg0) = m ((c.tc : Thread Cert.Step5Ideal.nD Cert.Step5Ideal.τ).loc Cert.Step5Ideal.main_arg0)
      ∧ r.2.mem ((c.tc : Thread Cert.Step5Ideal.nD Cert.Step5Ideal.τ).loc Cert.Step5Ideal.main_arg1) = m ((c.tc : Thread Cert.Step5Ideal.nD Cert.Step5Ideal.τ).loc Cert.Step5Ideal.main_arg1)
      ∧ r.2.mem ((c.tc : Thread Cert.Step5Ideal.nD Cert.Step5Ideal.τ).loc Cert.Step5Ideal.main_arg2) = m ((c.tc : Thread Cert.Step5Ideal.nD Cert.Step5Ideal.τ).loc Cert.Step5Ideal.main_arg2)
      ∧ r.2.mem ((c.tc : Thread Cert.Step5Ideal.nD Cert.Step5Ideal.τ).loc Cert.Step5Ideal.main_arg3) = m ((c.tc : Thread Cert.Step5Ideal.nD Cert.Step5Ideal.τ).loc Cert.Step5Ideal.main_arg3))
      ∧ r.2.sem = fun _ => 0)

def quiescent_Step5RefIdeal [hStep5RefIdeal : Cert.Step5RefIdeal.Facts] : Prop :=
  ∀ (m : (ℓ : Loc Cert.Step5RefIdeal.nD Cert.Step5RefIdeal.τ Cert.Step5RefIdeal.sig) → Buf (Elt Ideal) ℓ) (g : Dev Cert.Step5RefIdeal.nD → PrngReg), Pre_Step5RefIdeal m →
    θ_run (Cert.Step5RefIdeal.defs (F := Ideal)) (onTc (τ := Cert.Step5RefIdeal.τ) (Cert.Step5RefIdeal.main (F := Ideal))) ⟨m, fun _ => 0, g⟩ (fun r => (∀ c : Dev Cert.Step5RefIdeal.nD,
      r.2.mem ((c.tc : Thread Cert.Step5RefIdeal.nD Cert.Step5RefIdeal.τ).loc Cert.Step5RefIdeal.main_arg0) = m ((c.tc : Thread Cert.Step5RefIdeal.nD Cert.Step5RefIdeal.τ).loc Cert.Step5RefIdeal.main_arg0)
      ∧ r.2.mem ((c.tc : Thread Cert.Step5RefIdeal.nD Cert.Step5RefIdeal.τ).loc Cert.Step5RefIdeal.main_arg1) = m ((c.tc : Thread Cert.Step5RefIdeal.nD Cert.Step5RefIdeal.τ).loc Cert.Step5RefIdeal.main_arg1)
      ∧ r.2.mem ((c.tc : Thread Cert.Step5RefIdeal.nD Cert.Step5RefIdeal.τ).loc Cert.Step5RefIdeal.main_arg2) = m ((c.tc : Thread Cert.Step5RefIdeal.nD Cert.Step5RefIdeal.τ).loc Cert.Step5RefIdeal.main_arg2)
      ∧ r.2.mem ((c.tc : Thread Cert.Step5RefIdeal.nD Cert.Step5RefIdeal.τ).loc Cert.Step5RefIdeal.main_arg3) = m ((c.tc : Thread Cert.Step5RefIdeal.nD Cert.Step5RefIdeal.τ).loc Cert.Step5RefIdeal.main_arg3))
      ∧ r.2.sem = fun _ => 0)

def quiescent_Step6 [hStep6 : Cert.Step6.Facts] : Prop :=
  ∀ (m : (ℓ : Loc Cert.Step6.nD Cert.Step6.τ Cert.Step6.sig) → Buf (Elt Bits) ℓ) (g : Dev Cert.Step6.nD → PrngReg), Pre_Step6 m →
    θ_run (Cert.Step6.defs (F := Bits)) (onTc (τ := Cert.Step6.τ) (Cert.Step6.main (F := Bits))) ⟨m, fun _ => 0, g⟩ (fun r => (∀ c : Dev Cert.Step6.nD,
      r.2.mem ((c.tc : Thread Cert.Step6.nD Cert.Step6.τ).loc Cert.Step6.main_arg0) = m ((c.tc : Thread Cert.Step6.nD Cert.Step6.τ).loc Cert.Step6.main_arg0)
      ∧ r.2.mem ((c.tc : Thread Cert.Step6.nD Cert.Step6.τ).loc Cert.Step6.main_arg1) = m ((c.tc : Thread Cert.Step6.nD Cert.Step6.τ).loc Cert.Step6.main_arg1)
      ∧ r.2.mem ((c.tc : Thread Cert.Step6.nD Cert.Step6.τ).loc Cert.Step6.main_arg2) = m ((c.tc : Thread Cert.Step6.nD Cert.Step6.τ).loc Cert.Step6.main_arg2)
      ∧ r.2.mem ((c.tc : Thread Cert.Step6.nD Cert.Step6.τ).loc Cert.Step6.main_arg3) = m ((c.tc : Thread Cert.Step6.nD Cert.Step6.τ).loc Cert.Step6.main_arg3))
      ∧ r.2.sem = fun _ => 0)

def quiescent_Step6Ideal [hStep6Ideal : Cert.Step6Ideal.Facts] : Prop :=
  ∀ (m : (ℓ : Loc Cert.Step6Ideal.nD Cert.Step6Ideal.τ Cert.Step6Ideal.sig) → Buf (Elt Ideal) ℓ) (g : Dev Cert.Step6Ideal.nD → PrngReg), Pre_Step6Ideal m →
    θ_run (Cert.Step6Ideal.defs (F := Ideal)) (onTc (τ := Cert.Step6Ideal.τ) (Cert.Step6Ideal.main (F := Ideal))) ⟨m, fun _ => 0, g⟩ (fun r => (∀ c : Dev Cert.Step6Ideal.nD,
      r.2.mem ((c.tc : Thread Cert.Step6Ideal.nD Cert.Step6Ideal.τ).loc Cert.Step6Ideal.main_arg0) = m ((c.tc : Thread Cert.Step6Ideal.nD Cert.Step6Ideal.τ).loc Cert.Step6Ideal.main_arg0)
      ∧ r.2.mem ((c.tc : Thread Cert.Step6Ideal.nD Cert.Step6Ideal.τ).loc Cert.Step6Ideal.main_arg1) = m ((c.tc : Thread Cert.Step6Ideal.nD Cert.Step6Ideal.τ).loc Cert.Step6Ideal.main_arg1)
      ∧ r.2.mem ((c.tc : Thread Cert.Step6Ideal.nD Cert.Step6Ideal.τ).loc Cert.Step6Ideal.main_arg2) = m ((c.tc : Thread Cert.Step6Ideal.nD Cert.Step6Ideal.τ).loc Cert.Step6Ideal.main_arg2)
      ∧ r.2.mem ((c.tc : Thread Cert.Step6Ideal.nD Cert.Step6Ideal.τ).loc Cert.Step6Ideal.main_arg3) = m ((c.tc : Thread Cert.Step6Ideal.nD Cert.Step6Ideal.τ).loc Cert.Step6Ideal.main_arg3))
      ∧ r.2.sem = fun _ => 0)

def quiescent_Step6RefIdeal [hStep6RefIdeal : Cert.Step6RefIdeal.Facts] : Prop :=
  ∀ (m : (ℓ : Loc Cert.Step6RefIdeal.nD Cert.Step6RefIdeal.τ Cert.Step6RefIdeal.sig) → Buf (Elt Ideal) ℓ) (g : Dev Cert.Step6RefIdeal.nD → PrngReg), Pre_Step6RefIdeal m →
    θ_run (Cert.Step6RefIdeal.defs (F := Ideal)) (onTc (τ := Cert.Step6RefIdeal.τ) (Cert.Step6RefIdeal.main (F := Ideal))) ⟨m, fun _ => 0, g⟩ (fun r => (∀ c : Dev Cert.Step6RefIdeal.nD,
      r.2.mem ((c.tc : Thread Cert.Step6RefIdeal.nD Cert.Step6RefIdeal.τ).loc Cert.Step6RefIdeal.main_arg0) = m ((c.tc : Thread Cert.Step6RefIdeal.nD Cert.Step6RefIdeal.τ).loc Cert.Step6RefIdeal.main_arg0)
      ∧ r.2.mem ((c.tc : Thread Cert.Step6RefIdeal.nD Cert.Step6RefIdeal.τ).loc Cert.Step6RefIdeal.main_arg1) = m ((c.tc : Thread Cert.Step6RefIdeal.nD Cert.Step6RefIdeal.τ).loc Cert.Step6RefIdeal.main_arg1)
      ∧ r.2.mem ((c.tc : Thread Cert.Step6RefIdeal.nD Cert.Step6RefIdeal.τ).loc Cert.Step6RefIdeal.main_arg2) = m ((c.tc : Thread Cert.Step6RefIdeal.nD Cert.Step6RefIdeal.τ).loc Cert.Step6RefIdeal.main_arg2)
      ∧ r.2.mem ((c.tc : Thread Cert.Step6RefIdeal.nD Cert.Step6RefIdeal.τ).loc Cert.Step6RefIdeal.main_arg3) = m ((c.tc : Thread Cert.Step6RefIdeal.nD Cert.Step6RefIdeal.τ).loc Cert.Step6RefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0))
      ∧ r.2.sem = fun _ => 0)

def quiescent_ActBack [hActBack : Cert.ActBack.Facts] : Prop :=
  ∀ (m : (ℓ : Loc Cert.ActBack.nD Cert.ActBack.τ Cert.ActBack.sig) → Buf (Elt Bits) ℓ) (g : Dev Cert.ActBack.nD → PrngReg), Pre_ActBack m →
    θ_run (Cert.ActBack.defs (F := Bits)) (onTc (τ := Cert.ActBack.τ) (Cert.ActBack.main (F := Bits))) ⟨m, fun _ => 0, g⟩ (fun r => (∀ c : Dev Cert.ActBack.nD,
      r.2.mem ((c.tc : Thread Cert.ActBack.nD Cert.ActBack.τ).loc Cert.ActBack.main_arg0) = m ((c.tc : Thread Cert.ActBack.nD Cert.ActBack.τ).loc Cert.ActBack.main_arg0)
      ∧ r.2.mem ((c.tc : Thread Cert.ActBack.nD Cert.ActBack.τ).loc Cert.ActBack.main_arg1) = m ((c.tc : Thread Cert.ActBack.nD Cert.ActBack.τ).loc Cert.ActBack.main_arg1))
      ∧ r.2.sem = fun _ => 0)

def quiescent_ActBackIdeal [hActBackIdeal : Cert.ActBackIdeal.Facts] : Prop :=
  ∀ (m : (ℓ : Loc Cert.ActBackIdeal.nD Cert.ActBackIdeal.τ Cert.ActBackIdeal.sig) → Buf (Elt Ideal) ℓ) (g : Dev Cert.ActBackIdeal.nD → PrngReg), Pre_ActBackIdeal m →
    θ_run (Cert.ActBackIdeal.defs (F := Ideal)) (onTc (τ := Cert.ActBackIdeal.τ) (Cert.ActBackIdeal.main (F := Ideal))) ⟨m, fun _ => 0, g⟩ (fun r => (∀ c : Dev Cert.ActBackIdeal.nD,
      r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
      ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1))
      ∧ r.2.sem = fun _ => 0)

def quiescent_ActBackRefIdeal [hActBackRefIdeal : Cert.ActBackRefIdeal.Facts] : Prop :=
  ∀ (m : (ℓ : Loc Cert.ActBackRefIdeal.nD Cert.ActBackRefIdeal.τ Cert.ActBackRefIdeal.sig) → Buf (Elt Ideal) ℓ) (g : Dev Cert.ActBackRefIdeal.nD → PrngReg), Pre_ActBackRefIdeal m →
    θ_run (Cert.ActBackRefIdeal.defs (F := Ideal)) (onTc (τ := Cert.ActBackRefIdeal.τ) (Cert.ActBackRefIdeal.main (F := Ideal))) ⟨m, fun _ => 0, g⟩ (fun r => (∀ c : Dev Cert.ActBackRefIdeal.nD,
      r.2.mem ((c.tc : Thread Cert.ActBackRefIdeal.nD Cert.ActBackRefIdeal.τ).loc Cert.ActBackRefIdeal.main_arg0) = m ((c.tc : Thread Cert.ActBackRefIdeal.nD Cert.ActBackRefIdeal.τ).loc Cert.ActBackRefIdeal.main_arg0)
      ∧ r.2.mem ((c.tc : Thread Cert.ActBackRefIdeal.nD Cert.ActBackRefIdeal.τ).loc Cert.ActBackRefIdeal.main_arg1) = m ((c.tc : Thread Cert.ActBackRefIdeal.nD Cert.ActBackRefIdeal.τ).loc Cert.ActBackRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_GatesBack [hGatesBack : Cert.GatesBack.Facts] : Prop :=
  ∀ (m : (ℓ : Loc Cert.GatesBack.nD Cert.GatesBack.τ Cert.GatesBack.sig) → Buf (Elt Bits) ℓ) (g : Dev Cert.GatesBack.nD → PrngReg), Pre_GatesBack m →
    θ_run (Cert.GatesBack.defs (F := Bits)) (onTc (τ := Cert.GatesBack.τ) (Cert.GatesBack.main (F := Bits))) ⟨m, fun _ => 0, g⟩ (fun r => (∀ c : Dev Cert.GatesBack.nD,
      r.2.mem ((c.tc : Thread Cert.GatesBack.nD Cert.GatesBack.τ).loc Cert.GatesBack.main_arg0) = m ((c.tc : Thread Cert.GatesBack.nD Cert.GatesBack.τ).loc Cert.GatesBack.main_arg0)
      ∧ r.2.mem ((c.tc : Thread Cert.GatesBack.nD Cert.GatesBack.τ).loc Cert.GatesBack.main_arg1) = m ((c.tc : Thread Cert.GatesBack.nD Cert.GatesBack.τ).loc Cert.GatesBack.main_arg1)
      ∧ r.2.mem ((c.tc : Thread Cert.GatesBack.nD Cert.GatesBack.τ).loc Cert.GatesBack.main_arg2) = m ((c.tc : Thread Cert.GatesBack.nD Cert.GatesBack.τ).loc Cert.GatesBack.main_arg2)
      ∧ r.2.mem ((c.tc : Thread Cert.GatesBack.nD Cert.GatesBack.τ).loc Cert.GatesBack.main_arg3) = m ((c.tc : Thread Cert.GatesBack.nD Cert.GatesBack.τ).loc Cert.GatesBack.main_arg3)
      ∧ r.2.mem ((c.tc : Thread Cert.GatesBack.nD Cert.GatesBack.τ).loc Cert.GatesBack.main_arg4) = m ((c.tc : Thread Cert.GatesBack.nD Cert.GatesBack.τ).loc Cert.GatesBack.main_arg4)
      ∧ r.2.mem ((c.tc : Thread Cert.GatesBack.nD Cert.GatesBack.τ).loc Cert.GatesBack.main_arg5) = m ((c.tc : Thread Cert.GatesBack.nD Cert.GatesBack.τ).loc Cert.GatesBack.main_arg5))
      ∧ r.2.sem = fun _ => 0)

def quiescent_GatesBackIdeal [hGatesBackIdeal : Cert.GatesBackIdeal.Facts] : Prop :=
  ∀ (m : (ℓ : Loc Cert.GatesBackIdeal.nD Cert.GatesBackIdeal.τ Cert.GatesBackIdeal.sig) → Buf (Elt Ideal) ℓ) (g : Dev Cert.GatesBackIdeal.nD → PrngReg), Pre_GatesBackIdeal m →
    θ_run (Cert.GatesBackIdeal.defs (F := Ideal)) (onTc (τ := Cert.GatesBackIdeal.τ) (Cert.GatesBackIdeal.main (F := Ideal))) ⟨m, fun _ => 0, g⟩ (fun r => (∀ c : Dev Cert.GatesBackIdeal.nD,
      r.2.mem ((c.tc : Thread Cert.GatesBackIdeal.nD Cert.GatesBackIdeal.τ).loc Cert.GatesBackIdeal.main_arg0) = m ((c.tc : Thread Cert.GatesBackIdeal.nD Cert.GatesBackIdeal.τ).loc Cert.GatesBackIdeal.main_arg0)
      ∧ r.2.mem ((c.tc : Thread Cert.GatesBackIdeal.nD Cert.GatesBackIdeal.τ).loc Cert.GatesBackIdeal.main_arg1) = m ((c.tc : Thread Cert.GatesBackIdeal.nD Cert.GatesBackIdeal.τ).loc Cert.GatesBackIdeal.main_arg1)
      ∧ r.2.mem ((c.tc : Thread Cert.GatesBackIdeal.nD Cert.GatesBackIdeal.τ).loc Cert.GatesBackIdeal.main_arg2) = m ((c.tc : Thread Cert.GatesBackIdeal.nD Cert.GatesBackIdeal.τ).loc Cert.GatesBackIdeal.main_arg2)
      ∧ r.2.mem ((c.tc : Thread Cert.GatesBackIdeal.nD Cert.GatesBackIdeal.τ).loc Cert.GatesBackIdeal.main_arg3) = m ((c.tc : Thread Cert.GatesBackIdeal.nD Cert.GatesBackIdeal.τ).loc Cert.GatesBackIdeal.main_arg3)
      ∧ r.2.mem ((c.tc : Thread Cert.GatesBackIdeal.nD Cert.GatesBackIdeal.τ).loc Cert.GatesBackIdeal.main_arg4) = m ((c.tc : Thread Cert.GatesBackIdeal.nD Cert.GatesBackIdeal.τ).loc Cert.GatesBackIdeal.main_arg4)
      ∧ r.2.mem ((c.tc : Thread Cert.GatesBackIdeal.nD Cert.GatesBackIdeal.τ).loc Cert.GatesBackIdeal.main_arg5) = m ((c.tc : Thread Cert.GatesBackIdeal.nD Cert.GatesBackIdeal.τ).loc Cert.GatesBackIdeal.main_arg5))
      ∧ r.2.sem = fun _ => 0)

def quiescent_GatesBackRefIdeal [hGatesBackRefIdeal : Cert.GatesBackRefIdeal.Facts] : Prop :=
  ∀ (m : (ℓ : Loc Cert.GatesBackRefIdeal.nD Cert.GatesBackRefIdeal.τ Cert.GatesBackRefIdeal.sig) → Buf (Elt Ideal) ℓ) (g : Dev Cert.GatesBackRefIdeal.nD → PrngReg), Pre_GatesBackRefIdeal m →
    θ_run (Cert.GatesBackRefIdeal.defs (F := Ideal)) (onTc (τ := Cert.GatesBackRefIdeal.τ) (Cert.GatesBackRefIdeal.main (F := Ideal))) ⟨m, fun _ => 0, g⟩ (fun r => (∀ c : Dev Cert.GatesBackRefIdeal.nD,
      r.2.mem ((c.tc : Thread Cert.GatesBackRefIdeal.nD Cert.GatesBackRefIdeal.τ).loc Cert.GatesBackRefIdeal.main_arg0) = m ((c.tc : Thread Cert.GatesBackRefIdeal.nD Cert.GatesBackRefIdeal.τ).loc Cert.GatesBackRefIdeal.main_arg0)
      ∧ r.2.mem ((c.tc : Thread Cert.GatesBackRefIdeal.nD Cert.GatesBackRefIdeal.τ).loc Cert.GatesBackRefIdeal.main_arg1) = m ((c.tc : Thread Cert.GatesBackRefIdeal.nD Cert.GatesBackRefIdeal.τ).loc Cert.GatesBackRefIdeal.main_arg1)
      ∧ r.2.mem ((c.tc : Thread Cert.GatesBackRefIdeal.nD Cert.GatesBackRefIdeal.τ).loc Cert.GatesBackRefIdeal.main_arg2) = m ((c.tc : Thread Cert.GatesBackRefIdeal.nD Cert.GatesBackRefIdeal.τ).loc Cert.GatesBackRefIdeal.main_arg2)
      ∧ r.2.mem ((c.tc : Thread Cert.GatesBackRefIdeal.nD Cert.GatesBackRefIdeal.τ).loc Cert.GatesBackRefIdeal.main_arg3) = m ((c.tc : Thread Cert.GatesBackRefIdeal.nD Cert.GatesBackRefIdeal.τ).loc Cert.GatesBackRefIdeal.main_arg3)
      ∧ r.2.mem ((c.tc : Thread Cert.GatesBackRefIdeal.nD Cert.GatesBackRefIdeal.τ).loc Cert.GatesBackRefIdeal.main_arg4) = m ((c.tc : Thread Cert.GatesBackRefIdeal.nD Cert.GatesBackRefIdeal.τ).loc Cert.GatesBackRefIdeal.main_arg4)
      ∧ r.2.mem ((c.tc : Thread Cert.GatesBackRefIdeal.nD Cert.GatesBackRefIdeal.τ).loc Cert.GatesBackRefIdeal.main_arg5) = m ((c.tc : Thread Cert.GatesBackRefIdeal.nD Cert.GatesBackRefIdeal.τ).loc Cert.GatesBackRefIdeal.main_arg5))
      ∧ r.2.sem = fun _ => 0)

def quiescent_Widen [hWiden : Cert.Widen.Facts] : Prop :=
  ∀ (m : (ℓ : Loc Cert.Widen.nD Cert.Widen.τ Cert.Widen.sig) → Buf (Elt Bits) ℓ) (g : Dev Cert.Widen.nD → PrngReg), Pre_Widen m →
    θ_run (Cert.Widen.defs (F := Bits)) (onTc (τ := Cert.Widen.τ) (Cert.Widen.main (F := Bits))) ⟨m, fun _ => 0, g⟩ (fun r => (∀ c : Dev Cert.Widen.nD,
      r.2.mem ((c.tc : Thread Cert.Widen.nD Cert.Widen.τ).loc Cert.Widen.main_arg0) = m ((c.tc : Thread Cert.Widen.nD Cert.Widen.τ).loc Cert.Widen.main_arg0)
      ∧ r.2.mem ((c.tc : Thread Cert.Widen.nD Cert.Widen.τ).loc Cert.Widen.main_arg1) = m ((c.tc : Thread Cert.Widen.nD Cert.Widen.τ).loc Cert.Widen.main_arg1))
      ∧ r.2.sem = fun _ => 0)

def quiescent_WidenIdeal [hWidenIdeal : Cert.WidenIdeal.Facts] : Prop :=
  ∀ (m : (ℓ : Loc Cert.WidenIdeal.nD Cert.WidenIdeal.τ Cert.WidenIdeal.sig) → Buf (Elt Ideal) ℓ) (g : Dev Cert.WidenIdeal.nD → PrngReg), Pre_WidenIdeal m →
    θ_run (Cert.WidenIdeal.defs (F := Ideal)) (onTc (τ := Cert.WidenIdeal.τ) (Cert.WidenIdeal.main (F := Ideal))) ⟨m, fun _ => 0, g⟩ (fun r => (∀ c : Dev Cert.WidenIdeal.nD,
      r.2.mem ((c.tc : Thread Cert.WidenIdeal.nD Cert.WidenIdeal.τ).loc Cert.WidenIdeal.main_arg0) = m ((c.tc : Thread Cert.WidenIdeal.nD Cert.WidenIdeal.τ).loc Cert.WidenIdeal.main_arg0)
      ∧ r.2.mem ((c.tc : Thread Cert.WidenIdeal.nD Cert.WidenIdeal.τ).loc Cert.WidenIdeal.main_arg1) = m ((c.tc : Thread Cert.WidenIdeal.nD Cert.WidenIdeal.τ).loc Cert.WidenIdeal.main_arg1))
      ∧ r.2.sem = fun _ => 0)

def quiescent_WidenRefIdeal [hWidenRefIdeal : Cert.WidenRefIdeal.Facts] : Prop :=
  ∀ (m : (ℓ : Loc Cert.WidenRefIdeal.nD Cert.WidenRefIdeal.τ Cert.WidenRefIdeal.sig) → Buf (Elt Ideal) ℓ) (g : Dev Cert.WidenRefIdeal.nD → PrngReg), Pre_WidenRefIdeal m →
    θ_run (Cert.WidenRefIdeal.defs (F := Ideal)) (onTc (τ := Cert.WidenRefIdeal.τ) (Cert.WidenRefIdeal.main (F := Ideal))) ⟨m, fun _ => 0, g⟩ (fun r => (∀ c : Dev Cert.WidenRefIdeal.nD,
      r.2.mem ((c.tc : Thread Cert.WidenRefIdeal.nD Cert.WidenRefIdeal.τ).loc Cert.WidenRefIdeal.main_arg0) = m ((c.tc : Thread Cert.WidenRefIdeal.nD Cert.WidenRefIdeal.τ).loc Cert.WidenRefIdeal.main_arg0)
      ∧ r.2.mem ((c.tc : Thread Cert.WidenRefIdeal.nD Cert.WidenRefIdeal.τ).loc Cert.WidenRefIdeal.main_arg1) = m ((c.tc : Thread Cert.WidenRefIdeal.nD Cert.WidenRefIdeal.τ).loc Cert.WidenRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dhid [hDhid : Cert.Dhid.Facts] : Prop :=
  ∀ (m : (ℓ : Loc Cert.Dhid.nD Cert.Dhid.τ Cert.Dhid.sig) → Buf (Elt Bits) ℓ) (g : Dev Cert.Dhid.nD → PrngReg), Pre_Dhid m →
    θ_run (Cert.Dhid.defs (F := Bits)) (onTc (τ := Cert.Dhid.τ) (Cert.Dhid.main (F := Bits))) ⟨m, fun _ => 0, g⟩ (fun r => (∀ c : Dev Cert.Dhid.nD,
      r.2.mem ((c.tc : Thread Cert.Dhid.nD Cert.Dhid.τ).loc Cert.Dhid.main_arg0) = m ((c.tc : Thread Cert.Dhid.nD Cert.Dhid.τ).loc Cert.Dhid.main_arg0)
      ∧ r.2.mem ((c.tc : Thread Cert.Dhid.nD Cert.Dhid.τ).loc Cert.Dhid.main_arg1) = m ((c.tc : Thread Cert.Dhid.nD Cert.Dhid.τ).loc Cert.Dhid.main_arg1))
      ∧ r.2.sem = fun _ => 0)

def quiescent_DhidIdeal [hDhidIdeal : Cert.DhidIdeal.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1))
      ∧ r.2.sem = fun _ => 0)

def quiescent_DhidRefIdeal [hDhidRefIdeal : Cert.DhidRefIdeal.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1))
      ∧ r.2.sem = fun _ => 0)

def quiescent_Inward [hInward : Cert.Inward.Facts] : Prop :=
  ∀ (m : (ℓ : Loc Cert.Inward.nD Cert.Inward.τ Cert.Inward.sig) → Buf (Elt Bits) ℓ) (g : Dev Cert.Inward.nD → PrngReg), Pre_Inward m →
    θ_run (Cert.Inward.defs (F := Bits)) (onTc (τ := Cert.Inward.τ) (Cert.Inward.main (F := Bits))) ⟨m, fun _ => 0, g⟩ (fun r => (∀ c : Dev Cert.Inward.nD,
      r.2.mem ((c.tc : Thread Cert.Inward.nD Cert.Inward.τ).loc Cert.Inward.main_arg0) = m ((c.tc : Thread Cert.Inward.nD Cert.Inward.τ).loc Cert.Inward.main_arg0)
      ∧ r.2.mem ((c.tc : Thread Cert.Inward.nD Cert.Inward.τ).loc Cert.Inward.main_arg1) = m ((c.tc : Thread Cert.Inward.nD Cert.Inward.τ).loc Cert.Inward.main_arg1))
      ∧ r.2.sem = fun _ => 0)

def quiescent_InwardIdeal [hInwardIdeal : Cert.InwardIdeal.Facts] : Prop :=
  ∀ (m : (ℓ : Loc Cert.InwardIdeal.nD Cert.InwardIdeal.τ Cert.InwardIdeal.sig) → Buf (Elt Ideal) ℓ) (g : Dev Cert.InwardIdeal.nD → PrngReg), Pre_InwardIdeal m →
    θ_run (Cert.InwardIdeal.defs (F := Ideal)) (onTc (τ := Cert.InwardIdeal.τ) (Cert.InwardIdeal.main (F := Ideal))) ⟨m, fun _ => 0, g⟩ (fun r => (∀ c : Dev Cert.InwardIdeal.nD,
      r.2.mem ((c.tc : Thread Cert.InwardIdeal.nD Cert.InwardIdeal.τ).loc Cert.InwardIdeal.main_arg0) = m ((c.tc : Thread Cert.InwardIdeal.nD Cert.InwardIdeal.τ).loc Cert.InwardIdeal.main_arg0)
      ∧ r.2.mem ((c.tc : Thread Cert.InwardIdeal.nD Cert.InwardIdeal.τ).loc Cert.InwardIdeal.main_arg1) = m ((c.tc : Thread Cert.InwardIdeal.nD Cert.InwardIdeal.τ).loc Cert.InwardIdeal.main_arg1))
      ∧ r.2.sem = fun _ => 0)

def quiescent_InwardRefIdeal [hInwardRefIdeal : Cert.InwardRefIdeal.Facts] : Prop :=
  ∀ (m : (ℓ : Loc Cert.InwardRefIdeal.nD Cert.InwardRefIdeal.τ Cert.InwardRefIdeal.sig) → Buf (Elt Ideal) ℓ) (g : Dev Cert.InwardRefIdeal.nD → PrngReg), Pre_InwardRefIdeal m →
    θ_run (Cert.InwardRefIdeal.defs (F := Ideal)) (onTc (τ := Cert.InwardRefIdeal.τ) (Cert.InwardRefIdeal.main (F := Ideal))) ⟨m, fun _ => 0, g⟩ (fun r => (∀ c : Dev Cert.InwardRefIdeal.nD,
      r.2.mem ((c.tc : Thread Cert.InwardRefIdeal.nD Cert.InwardRefIdeal.τ).loc Cert.InwardRefIdeal.main_arg0) = m ((c.tc : Thread Cert.InwardRefIdeal.nD Cert.InwardRefIdeal.τ).loc Cert.InwardRefIdeal.main_arg0)
      ∧ r.2.mem ((c.tc : Thread Cert.InwardRefIdeal.nD Cert.InwardRefIdeal.τ).loc Cert.InwardRefIdeal.main_arg1) = m ((c.tc : Thread Cert.InwardRefIdeal.nD Cert.InwardRefIdeal.τ).loc Cert.InwardRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1))
      ∧ r.2.sem = fun _ => 0)

def quiescent_Outward [hOutward : Cert.Outward.Facts] : Prop :=
  ∀ (m : (ℓ : Loc Cert.Outward.nD Cert.Outward.τ Cert.Outward.sig) → Buf (Elt Bits) ℓ) (g : Dev Cert.Outward.nD → PrngReg), Pre_Outward m →
    θ_run (Cert.Outward.defs (F := Bits)) (onTc (τ := Cert.Outward.τ) (Cert.Outward.main (F := Bits))) ⟨m, fun _ => 0, g⟩ (fun r => (∀ c : Dev Cert.Outward.nD,
      r.2.mem ((c.tc : Thread Cert.Outward.nD Cert.Outward.τ).loc Cert.Outward.main_arg0) = m ((c.tc : Thread Cert.Outward.nD Cert.Outward.τ).loc Cert.Outward.main_arg0)
      ∧ r.2.mem ((c.tc : Thread Cert.Outward.nD Cert.Outward.τ).loc Cert.Outward.main_arg1) = m ((c.tc : Thread Cert.Outward.nD Cert.Outward.τ).loc Cert.Outward.main_arg1)
      ∧ r.2.mem ((c.tc : Thread Cert.Outward.nD Cert.Outward.τ).loc Cert.Outward.main_arg2) = m ((c.tc : Thread Cert.Outward.nD Cert.Outward.τ).loc Cert.Outward.main_arg2))
      ∧ r.2.sem = fun _ => 0)

def quiescent_OutwardIdeal [hOutwardIdeal : Cert.OutwardIdeal.Facts] : Prop :=
  ∀ (m : (ℓ : Loc Cert.OutwardIdeal.nD Cert.OutwardIdeal.τ Cert.OutwardIdeal.sig) → Buf (Elt Ideal) ℓ) (g : Dev Cert.OutwardIdeal.nD → PrngReg), Pre_OutwardIdeal m →
    θ_run (Cert.OutwardIdeal.defs (F := Ideal)) (onTc (τ := Cert.OutwardIdeal.τ) (Cert.OutwardIdeal.main (F := Ideal))) ⟨m, fun _ => 0, g⟩ (fun r => (∀ c : Dev Cert.OutwardIdeal.nD,
      r.2.mem ((c.tc : Thread Cert.OutwardIdeal.nD Cert.OutwardIdeal.τ).loc Cert.OutwardIdeal.main_arg0) = m ((c.tc : Thread Cert.OutwardIdeal.nD Cert.OutwardIdeal.τ).loc Cert.OutwardIdeal.main_arg0)
      ∧ r.2.mem ((c.tc : Thread Cert.OutwardIdeal.nD Cert.OutwardIdeal.τ).loc Cert.OutwardIdeal.main_arg1) = m ((c.tc : Thread Cert.OutwardIdeal.nD Cert.OutwardIdeal.τ).loc Cert.OutwardIdeal.main_arg1)
      ∧ r.2.mem ((c.tc : Thread Cert.OutwardIdeal.nD Cert.OutwardIdeal.τ).loc Cert.OutwardIdeal.main_arg2) = m ((c.tc : Thread Cert.OutwardIdeal.nD Cert.OutwardIdeal.τ).loc Cert.OutwardIdeal.main_arg2))
      ∧ r.2.sem = fun _ => 0)

def quiescent_OutwardRefIdeal [hOutwardRefIdeal : Cert.OutwardRefIdeal.Facts] : Prop :=
  ∀ (m : (ℓ : Loc Cert.OutwardRefIdeal.nD Cert.OutwardRefIdeal.τ Cert.OutwardRefIdeal.sig) → Buf (Elt Ideal) ℓ) (g : Dev Cert.OutwardRefIdeal.nD → PrngReg), Pre_OutwardRefIdeal m →
    θ_run (Cert.OutwardRefIdeal.defs (F := Ideal)) (onTc (τ := Cert.OutwardRefIdeal.τ) (Cert.OutwardRefIdeal.main (F := Ideal))) ⟨m, fun _ => 0, g⟩ (fun r => (∀ c : Dev Cert.OutwardRefIdeal.nD,
      r.2.mem ((c.tc : Thread Cert.OutwardRefIdeal.nD Cert.OutwardRefIdeal.τ).loc Cert.OutwardRefIdeal.main_arg0) = m ((c.tc : Thread Cert.OutwardRefIdeal.nD Cert.OutwardRefIdeal.τ).loc Cert.OutwardRefIdeal.main_arg0)
      ∧ r.2.mem ((c.tc : Thread Cert.OutwardRefIdeal.nD Cert.OutwardRefIdeal.τ).loc Cert.OutwardRefIdeal.main_arg1) = m ((c.tc : Thread Cert.OutwardRefIdeal.nD Cert.OutwardRefIdeal.τ).loc Cert.OutwardRefIdeal.main_arg1)
      ∧ r.2.mem ((c.tc : Thread Cert.OutwardRefIdeal.nD Cert.OutwardRefIdeal.τ).loc Cert.OutwardRefIdeal.main_arg2) = m ((c.tc : Thread Cert.OutwardRefIdeal.nD Cert.OutwardRefIdeal.τ).loc Cert.OutwardRefIdeal.main_arg2))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_Dya [hDya : Cert.Dya.Facts] : Prop :=
  ∀ (m : (ℓ : Loc Cert.Dya.nD Cert.Dya.τ Cert.Dya.sig) → Buf (Elt Bits) ℓ) (g : Dev Cert.Dya.nD → PrngReg), Pre_Dya m →
    θ_run (Cert.Dya.defs (F := Bits)) (onTc (τ := Cert.Dya.τ) (Cert.Dya.main (F := Bits))) ⟨m, fun _ => 0, g⟩ (fun r => (∀ c : Dev Cert.Dya.nD,
      r.2.mem ((c.tc : Thread Cert.Dya.nD Cert.Dya.τ).loc Cert.Dya.main_arg0) = m ((c.tc : Thread Cert.Dya.nD Cert.Dya.τ).loc Cert.Dya.main_arg0)
      ∧ r.2.mem ((c.tc : Thread Cert.Dya.nD Cert.Dya.τ).loc Cert.Dya.main_arg1) = m ((c.tc : Thread Cert.Dya.nD Cert.Dya.τ).loc Cert.Dya.main_arg1))
      ∧ r.2.sem = fun _ => 0)

def quiescent_DyaIdeal [hDyaIdeal : Cert.DyaIdeal.Facts] : Prop :=
  ∀ (m : (ℓ : Loc Cert.DyaIdeal.nD Cert.DyaIdeal.τ Cert.DyaIdeal.sig) → Buf (Elt Ideal) ℓ) (g : Dev Cert.DyaIdeal.nD → PrngReg), Pre_DyaIdeal m →
    θ_run (Cert.DyaIdeal.defs (F := Ideal)) (onTc (τ := Cert.DyaIdeal.τ) (Cert.DyaIdeal.main (F := Ideal))) ⟨m, fun _ => 0, g⟩ (fun r => (∀ c : Dev Cert.DyaIdeal.nD,
      r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
      ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ r.2.sem = fun _ => 0)

def quiescent_DyaRefIdeal [hDyaRefIdeal : Cert.DyaRefIdeal.Facts] : Prop :=
  ∀ (m : (ℓ : Loc Cert.DyaRefIdeal.nD Cert.DyaRefIdeal.τ Cert.DyaRefIdeal.sig) → Buf (Elt Ideal) ℓ) (g : Dev Cert.DyaRefIdeal.nD → PrngReg), Pre_DyaRefIdeal m →
    θ_run (Cert.DyaRefIdeal.defs (F := Ideal)) (onTc (τ := Cert.DyaRefIdeal.τ) (Cert.DyaRefIdeal.main (F := Ideal))) ⟨m, fun _ => 0, g⟩ (fun r => (∀ c : Dev Cert.DyaRefIdeal.nD,
      r.2.mem ((c.tc : Thread Cert.DyaRefIdeal.nD Cert.DyaRefIdeal.τ).loc Cert.DyaRefIdeal.main_arg0) = m ((c.tc : Thread Cert.DyaRefIdeal.nD Cert.DyaRefIdeal.τ).loc Cert.DyaRefIdeal.main_arg0)
      ∧ r.2.mem ((c.tc : Thread Cert.DyaRefIdeal.nD Cert.DyaRefIdeal.τ).loc Cert.DyaRefIdeal.main_arg1) = m ((c.tc : Thread Cert.DyaRefIdeal.nD Cert.DyaRefIdeal.τ).loc Cert.DyaRefIdeal.main_arg1))
      ∧ r.2.sem = fun _ => 0)

def quiescent_Dyb [hDyb : Cert.Dyb.Facts] : Prop :=
  ∀ (m : (ℓ : Loc Cert.Dyb.nD Cert.Dyb.τ Cert.Dyb.sig) → Buf (Elt Bits) ℓ) (g : Dev Cert.Dyb.nD → PrngReg), Pre_Dyb m →
    θ_run (Cert.Dyb.defs (F := Bits)) (onTc (τ := Cert.Dyb.τ) (Cert.Dyb.main (F := Bits))) ⟨m, fun _ => 0, g⟩ (fun r => (∀ c : Dev Cert.Dyb.nD,
      r.2.mem ((c.tc : Thread Cert.Dyb.nD Cert.Dyb.τ).loc Cert.Dyb.main_arg0) = m ((c.tc : Thread Cert.Dyb.nD Cert.Dyb.τ).loc Cert.Dyb.main_arg0)
      ∧ r.2.mem ((c.tc : Thread Cert.Dyb.nD Cert.Dyb.τ).loc Cert.Dyb.main_arg1) = m ((c.tc : Thread Cert.Dyb.nD Cert.Dyb.τ).loc Cert.Dyb.main_arg1))
      ∧ r.2.sem = fun _ => 0)

def quiescent_DybIdeal [hDybIdeal : Cert.DybIdeal.Facts] : Prop :=
  ∀ (m : (ℓ : Loc Cert.DybIdeal.nD Cert.DybIdeal.τ Cert.DybIdeal.sig) → Buf (Elt Ideal) ℓ) (g : Dev Cert.DybIdeal.nD → PrngReg), Pre_DybIdeal m →
    θ_run (Cert.DybIdeal.defs (F := Ideal)) (onTc (τ := Cert.DybIdeal.τ) (Cert.DybIdeal.main (F := Ideal))) ⟨m, fun _ => 0, g⟩ (fun r => (∀ c : Dev Cert.DybIdeal.nD,
      r.2.mem ((c.tc : Thread Cert.DybIdeal.nD Cert.DybIdeal.τ).loc Cert.DybIdeal.main_arg0) = m ((c.tc : Thread Cert.DybIdeal.nD Cert.DybIdeal.τ).loc Cert.DybIdeal.main_arg0)
      ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ r.2.sem = fun _ => 0)

def quiescent_DybRefIdeal [hDybRefIdeal : Cert.DybRefIdeal.Facts] : Prop :=
  ∀ (m : (ℓ : Loc Cert.DybRefIdeal.nD Cert.DybRefIdeal.τ Cert.DybRefIdeal.sig) → Buf (Elt Ideal) ℓ) (g : Dev Cert.DybRefIdeal.nD → PrngReg), Pre_DybRefIdeal m →
    θ_run (Cert.DybRefIdeal.defs (F := Ideal)) (onTc (τ := Cert.DybRefIdeal.τ) (Cert.DybRefIdeal.main (F := Ideal))) ⟨m, fun _ => 0, g⟩ (fun r => (∀ c : Dev Cert.DybRefIdeal.nD,
      r.2.mem ((c.tc : Thread Cert.DybRefIdeal.nD Cert.DybRefIdeal.τ).loc Cert.DybRefIdeal.main_arg0) = m ((c.tc : Thread Cert.DybRefIdeal.nD Cert.DybRefIdeal.τ).loc Cert.DybRefIdeal.main_arg0)
      ∧ r.2.mem ((c.tc : Thread Cert.DybRefIdeal.nD Cert.DybRefIdeal.τ).loc Cert.DybRefIdeal.main_arg1) = m ((c.tc : Thread Cert.DybRefIdeal.nD Cert.DybRefIdeal.τ).loc Cert.DybRefIdeal.main_arg1))
      ∧ r.2.sem = fun _ => 0)

def quiescent_Dyc [hDyc : Cert.Dyc.Facts] : Prop :=
  ∀ (m : (ℓ : Loc Cert.Dyc.nD Cert.Dyc.τ Cert.Dyc.sig) → Buf (Elt Bits) ℓ) (g : Dev Cert.Dyc.nD → PrngReg), Pre_Dyc m →
    θ_run (Cert.Dyc.defs (F := Bits)) (onTc (τ := Cert.Dyc.τ) (Cert.Dyc.main (F := Bits))) ⟨m, fun _ => 0, g⟩ (fun r => (∀ c : Dev Cert.Dyc.nD,
      r.2.mem ((c.tc : Thread Cert.Dyc.nD Cert.Dyc.τ).loc Cert.Dyc.main_arg0) = m ((c.tc : Thread Cert.Dyc.nD Cert.Dyc.τ).loc Cert.Dyc.main_arg0)
      ∧ r.2.mem ((c.tc : Thread Cert.Dyc.nD Cert.Dyc.τ).loc Cert.Dyc.main_arg1) = m ((c.tc : Thread Cert.Dyc.nD Cert.Dyc.τ).loc Cert.Dyc.main_arg1))
      ∧ r.2.sem = fun _ => 0)

def quiescent_DycIdeal [hDycIdeal : Cert.DycIdeal.Facts] : Prop :=
  ∀ (m : (ℓ : Loc Cert.DycIdeal.nD Cert.DycIdeal.τ Cert.DycIdeal.sig) → Buf (Elt Ideal) ℓ) (g : Dev Cert.DycIdeal.nD → PrngReg), Pre_DycIdeal m →
    θ_run (Cert.DycIdeal.defs (F := Ideal)) (onTc (τ := Cert.DycIdeal.τ) (Cert.DycIdeal.main (F := Ideal))) ⟨m, fun _ => 0, g⟩ (fun r => (∀ c : Dev Cert.DycIdeal.nD,
      r.2.mem ((c.tc : Thread Cert.DycIdeal.nD Cert.DycIdeal.τ).loc Cert.DycIdeal.main_arg0) = m ((c.tc : Thread Cert.DycIdeal.nD Cert.DycIdeal.τ).loc Cert.DycIdeal.main_arg0)
      ∧ r.2.mem ((c.tc : Thread Cert.DycIdeal.nD Cert.DycIdeal.τ).loc Cert.DycIdeal.main_arg1) = m ((c.tc : Thread Cert.DycIdeal.nD Cert.DycIdeal.τ).loc Cert.DycIdeal.main_arg1))
      ∧ r.2.sem = fun _ => 0)

def quiescent_DycRefIdeal [hDycRefIdeal : Cert.DycRefIdeal.Facts] : Prop :=
  ∀ (m : (ℓ : Loc Cert.DycRefIdeal.nD Cert.DycRefIdeal.τ Cert.DycRefIdeal.sig) → Buf (Elt Ideal) ℓ) (g : Dev Cert.DycRefIdeal.nD → PrngReg), Pre_DycRefIdeal m →
    θ_run (Cert.DycRefIdeal.defs (F := Ideal)) (onTc (τ := Cert.DycRefIdeal.τ) (Cert.DycRefIdeal.main (F := Ideal))) ⟨m, fun _ => 0, g⟩ (fun r => (∀ c : Dev Cert.DycRefIdeal.nD,
      r.2.mem ((c.tc : Thread Cert.DycRefIdeal.nD Cert.DycRefIdeal.τ).loc Cert.DycRefIdeal.main_arg0) = m ((c.tc : Thread Cert.DycRefIdeal.nD Cert.DycRefIdeal.τ).loc Cert.DycRefIdeal.main_arg0)
      ∧ r.2.mem ((c.tc : Thread Cert.DycRefIdeal.nD Cert.DycRefIdeal.τ).loc Cert.DycRefIdeal.main_arg1) = m ((c.tc : Thread Cert.DycRefIdeal.nD Cert.DycRefIdeal.τ).loc Cert.DycRefIdeal.main_arg1))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_WgDown [hWgDown : Cert.WgDown.Facts] : Prop :=
  ∀ (m : (ℓ : Loc Cert.WgDown.nD Cert.WgDown.τ Cert.WgDown.sig) → Buf (Elt Bits) ℓ) (g : Dev Cert.WgDown.nD → PrngReg), Pre_WgDown m →
    θ_run (Cert.WgDown.defs (F := Bits)) (onTc (τ := Cert.WgDown.τ) (Cert.WgDown.main (F := Bits))) ⟨m, fun _ => 0, g⟩ (fun r => (∀ c : Dev Cert.WgDown.nD,
      r.2.mem ((c.tc : Thread Cert.WgDown.nD Cert.WgDown.τ).loc Cert.WgDown.main_arg0) = m ((c.tc : Thread Cert.WgDown.nD Cert.WgDown.τ).loc Cert.WgDown.main_arg0)
      ∧ r.2.mem ((c.tc : Thread Cert.WgDown.nD Cert.WgDown.τ).loc Cert.WgDown.main_arg1) = m ((c.tc : Thread Cert.WgDown.nD Cert.WgDown.τ).loc Cert.WgDown.main_arg1)
      ∧ r.2.mem ((c.tc : Thread Cert.WgDown.nD Cert.WgDown.τ).loc Cert.WgDown.main_arg2) = m ((c.tc : Thread Cert.WgDown.nD Cert.WgDown.τ).loc Cert.WgDown.main_arg2))
      ∧ r.2.sem = fun _ => 0)

def quiescent_WgDownIdeal [hWgDownIdeal : Cert.WgDownIdeal.Facts] : Prop :=
  ∀ (m : (ℓ : Loc Cert.WgDownIdeal.nD Cert.WgDownIdeal.τ Cert.WgDownIdeal.sig) → Buf (Elt Ideal) ℓ) (g : Dev Cert.WgDownIdeal.nD → PrngReg), Pre_WgDownIdeal m →
    θ_run (Cert.WgDownIdeal.defs (F := Ideal)) (onTc (τ := Cert.WgDownIdeal.τ) (Cert.WgDownIdeal.main (F := Ideal))) ⟨m, fun _ => 0, g⟩ (fun r => (∀ c : Dev Cert.WgDownIdeal.nD,
      r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
      ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1)
      ∧ r.2.mem ((c.tc : Thread Cert.WgDownIdeal.nD Cert.WgDownIdeal.τ).loc Cert.WgDownIdeal.main_arg2) = m ((c.tc : Thread Cert.WgDownIdeal.nD Cert.WgDownIdeal.τ).loc Cert.WgDownIdeal.main_arg2))
      ∧ r.2.sem = fun _ => 0)

def quiescent_WgDownRefIdeal [hWgDownRefIdeal : Cert.WgDownRefIdeal.Facts] : Prop :=
  ∀ (m : (ℓ : Loc Cert.WgDownRefIdeal.nD Cert.WgDownRefIdeal.τ Cert.WgDownRefIdeal.sig) → Buf (Elt Ideal) ℓ) (g : Dev Cert.WgDownRefIdeal.nD → PrngReg), Pre_WgDownRefIdeal m →
    θ_run (Cert.WgDownRefIdeal.defs (F := Ideal)) (onTc (τ := Cert.WgDownRefIdeal.τ) (Cert.WgDownRefIdeal.main (F := Ideal))) ⟨m, fun _ => 0, g⟩ (fun r => (∀ c : Dev Cert.WgDownRefIdeal.nD,
      r.2.mem ((c.tc : Thread Cert.WgDownRefIdeal.nD Cert.WgDownRefIdeal.τ).loc Cert.WgDownRefIdeal.main_arg0) = m ((c.tc : Thread Cert.WgDownRefIdeal.nD Cert.WgDownRefIdeal.τ).loc Cert.WgDownRefIdeal.main_arg0)
      ∧ r.2.mem ((c.tc : Thread Cert.WgDownRefIdeal.nD Cert.WgDownRefIdeal.τ).loc Cert.WgDownRefIdeal.main_arg1) = m ((c.tc : Thread Cert.WgDownRefIdeal.nD Cert.WgDownRefIdeal.τ).loc Cert.WgDownRefIdeal.main_arg1)
      ∧ r.2.mem ((c.tc : Thread Cert.WgDownRefIdeal.nD Cert.WgDownRefIdeal.τ).loc Cert.WgDownRefIdeal.main_arg2) = m ((c.tc : Thread Cert.WgDownRefIdeal.nD Cert.WgDownRefIdeal.τ).loc Cert.WgDownRefIdeal.main_arg2))
      ∧ r.2.sem = fun _ => 0)

def quiescent_WgWiden [hWgWiden : Cert.WgWiden.Facts] : Prop :=
  ∀ (m : (ℓ : Loc Cert.WgWiden.nD Cert.WgWiden.τ Cert.WgWiden.sig) → Buf (Elt Bits) ℓ) (g : Dev Cert.WgWiden.nD → PrngReg), Pre_WgWiden m →
    θ_run (Cert.WgWiden.defs (F := Bits)) (onTc (τ := Cert.WgWiden.τ) (Cert.WgWiden.main (F := Bits))) ⟨m, fun _ => 0, g⟩ (fun r => (∀ c : Dev Cert.WgWiden.nD,
      r.2.mem ((c.tc : Thread Cert.WgWiden.nD Cert.WgWiden.τ).loc Cert.WgWiden.main_arg0) = m ((c.tc : Thread Cert.WgWiden.nD Cert.WgWiden.τ).loc Cert.WgWiden.main_arg0)
      ∧ r.2.mem ((c.tc : Thread Cert.WgWiden.nD Cert.WgWiden.τ).loc Cert.WgWiden.main_arg1) = m ((c.tc : Thread Cert.WgWiden.nD Cert.WgWiden.τ).loc Cert.WgWiden.main_arg1)
      ∧ r.2.mem ((c.tc : Thread Cert.WgWiden.nD Cert.WgWiden.τ).loc Cert.WgWiden.main_arg2) = m ((c.tc : Thread Cert.WgWiden.nD Cert.WgWiden.τ).loc Cert.WgWiden.main_arg2))
      ∧ r.2.sem = fun _ => 0)

def quiescent_WgWidenIdeal [hWgWidenIdeal : Cert.WgWidenIdeal.Facts] : Prop :=
  ∀ (m : (ℓ : Loc Cert.WgWidenIdeal.nD Cert.WgWidenIdeal.τ Cert.WgWidenIdeal.sig) → Buf (Elt Ideal) ℓ) (g : Dev Cert.WgWidenIdeal.nD → PrngReg), Pre_WgWidenIdeal m →
    θ_run (Cert.WgWidenIdeal.defs (F := Ideal)) (onTc (τ := Cert.WgWidenIdeal.τ) (Cert.WgWidenIdeal.main (F := Ideal))) ⟨m, fun _ => 0, g⟩ (fun r => (∀ c : Dev Cert.WgWidenIdeal.nD,
      r.2.mem ((c.tc : Thread Cert.WgWidenIdeal.nD Cert.WgWidenIdeal.τ).loc Cert.WgWidenIdeal.main_arg0) = m ((c.tc : Thread Cert.WgWidenIdeal.nD Cert.WgWidenIdeal.τ).loc Cert.WgWidenIdeal.main_arg0)
      ∧ r.2.mem ((c.tc : Thread Cert.WgWidenIdeal.nD Cert.WgWidenIdeal.τ).loc Cert.WgWidenIdeal.main_arg1) = m ((c.tc : Thread Cert.WgWidenIdeal.nD Cert.WgWidenIdeal.τ).loc Cert.WgWidenIdeal.main_arg1)
      ∧ r.2.mem ((c.tc : Thread Cert.WgWidenIdeal.nD Cert.WgWidenIdeal.τ).loc Cert.WgWidenIdeal.main_arg2) = m ((c.tc : Thread Cert.WgWidenIdeal.nD Cert.WgWidenIdeal.τ).loc Cert.WgWidenIdeal.main_arg2))
      ∧ r.2.sem = fun _ => 0)

def quiescent_WgWidenRefIdeal [hWgWidenRefIdeal : Cert.WgWidenRefIdeal.Facts] : Prop :=
  ∀ (m : (ℓ : Loc Cert.WgWidenRefIdeal.nD Cert.WgWidenRefIdeal.τ Cert.WgWidenRefIdeal.sig) → Buf (Elt Ideal) ℓ) (g : Dev Cert.WgWidenRefIdeal.nD → PrngReg), Pre_WgWidenRefIdeal m →
    θ_run (Cert.WgWidenRefIdeal.defs (F := Ideal)) (onTc (τ := Cert.WgWidenRefIdeal.τ) (Cert.WgWidenRefIdeal.main (F := Ideal))) ⟨m, fun _ => 0, g⟩ (fun r => (∀ c : Dev Cert.WgWidenRefIdeal.nD,
      r.2.mem ((c.tc : Thread Cert.WgWidenRefIdeal.nD Cert.WgWidenRefIdeal.τ).loc Cert.WgWidenRefIdeal.main_arg0) = m ((c.tc : Thread Cert.WgWidenRefIdeal.nD Cert.WgWidenRefIdeal.τ).loc Cert.WgWidenRefIdeal.main_arg0)
      ∧ r.2.mem ((c.tc : Thread Cert.WgWidenRefIdeal.nD Cert.WgWidenRefIdeal.τ).loc Cert.WgWidenRefIdeal.main_arg1) = m ((c.tc : Thread Cert.WgWidenRefIdeal.nD Cert.WgWidenRefIdeal.τ).loc Cert.WgWidenRefIdeal.main_arg1)
      ∧ r.2.mem ((c.tc : Thread Cert.WgWidenRefIdeal.nD Cert.WgWidenRefIdeal.τ).loc Cert.WgWidenRefIdeal.main_arg2) = m ((c.tc : Thread Cert.WgWidenRefIdeal.nD Cert.WgWidenRefIdeal.τ).loc Cert.WgWidenRefIdeal.main_arg2))
      ∧ r.2.sem = fun _ => 0)

def quiescent_WgIn [hWgIn : Cert.WgIn.Facts] : Prop :=
  ∀ (m : (ℓ : Loc Cert.WgIn.nD Cert.WgIn.τ Cert.WgIn.sig) → Buf (Elt Bits) ℓ) (g : Dev Cert.WgIn.nD → PrngReg), Pre_WgIn m →
    θ_run (Cert.WgIn.defs (F := Bits)) (onTc (τ := Cert.WgIn.τ) (Cert.WgIn.main (F := Bits))) ⟨m, fun _ => 0, g⟩ (fun r => (∀ c : Dev Cert.WgIn.nD,
      r.2.mem ((c.tc : Thread Cert.WgIn.nD Cert.WgIn.τ).loc Cert.WgIn.main_arg0) = m ((c.tc : Thread Cert.WgIn.nD Cert.WgIn.τ).loc Cert.WgIn.main_arg0)
      ∧ r.2.mem ((c.tc : Thread Cert.WgIn.nD Cert.WgIn.τ).loc Cert.WgIn.main_arg1) = m ((c.tc : Thread Cert.WgIn.nD Cert.WgIn.τ).loc Cert.WgIn.main_arg1)
      ∧ r.2.mem ((c.tc : Thread Cert.WgIn.nD Cert.WgIn.τ).loc Cert.WgIn.main_arg2) = m ((c.tc : Thread Cert.WgIn.nD Cert.WgIn.τ).loc Cert.WgIn.main_arg2))
      ∧ r.2.sem = fun _ => 0)

def quiescent_WgInIdeal [hWgInIdeal : Cert.WgInIdeal.Facts] : Prop :=
  ∀ (m : (ℓ : Loc Cert.WgInIdeal.nD Cert.WgInIdeal.τ Cert.WgInIdeal.sig) → Buf (Elt Ideal) ℓ) (g : Dev Cert.WgInIdeal.nD → PrngReg), Pre_WgInIdeal m →
    θ_run (Cert.WgInIdeal.defs (F := Ideal)) (onTc (τ := Cert.WgInIdeal.τ) (Cert.WgInIdeal.main (F := Ideal))) ⟨m, fun _ => 0, g⟩ (fun r => (∀ c : Dev Cert.WgInIdeal.nD,
      r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
      ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1)
      ∧ r.2.mem ((c.tc : Thread Cert.WgInIdeal.nD Cert.WgInIdeal.τ).loc Cert.WgInIdeal.main_arg2) = m ((c.tc : Thread Cert.WgInIdeal.nD Cert.WgInIdeal.τ).loc Cert.WgInIdeal.main_arg2))
      ∧ r.2.sem = fun _ => 0)

def quiescent_WgInRefIdeal [hWgInRefIdeal : Cert.WgInRefIdeal.Facts] : Prop :=
  ∀ (m : (ℓ : Loc Cert.WgInRefIdeal.nD Cert.WgInRefIdeal.τ Cert.WgInRefIdeal.sig) → Buf (Elt Ideal) ℓ) (g : Dev Cert.WgInRefIdeal.nD → PrngReg), Pre_WgInRefIdeal m →
    θ_run (Cert.WgInRefIdeal.defs (F := Ideal)) (onTc (τ := Cert.WgInRefIdeal.τ) (Cert.WgInRefIdeal.main (F := Ideal))) ⟨m, fun _ => 0, g⟩ (fun r => (∀ c : Dev Cert.WgInRefIdeal.nD,
      r.2.mem ((c.tc : Thread Cert.WgInRefIdeal.nD Cert.WgInRefIdeal.τ).loc Cert.WgInRefIdeal.main_arg0) = m ((c.tc : Thread Cert.WgInRefIdeal.nD Cert.WgInRefIdeal.τ).loc Cert.WgInRefIdeal.main_arg0)
      ∧ r.2.mem ((c.tc : Thread Cert.WgInRefIdeal.nD Cert.WgInRefIdeal.τ).loc Cert.WgInRefIdeal.main_arg1) = m ((c.tc : Thread Cert.WgInRefIdeal.nD Cert.WgInRefIdeal.τ).loc Cert.WgInRefIdeal.main_arg1)
      ∧ r.2.mem ((c.tc : Thread Cert.WgInRefIdeal.nD Cert.WgInRefIdeal.τ).loc Cert.WgInRefIdeal.main_arg2) = m ((c.tc : Thread Cert.WgInRefIdeal.nD Cert.WgInRefIdeal.τ).loc Cert.WgInRefIdeal.main_arg2))
      ∧ r.2.sem = fun _ => 0)

def quiescent_WgOut [hWgOut : Cert.WgOut.Facts] : Prop :=
  ∀ (m : (ℓ : Loc Cert.WgOut.nD Cert.WgOut.τ Cert.WgOut.sig) → Buf (Elt Bits) ℓ) (g : Dev Cert.WgOut.nD → PrngReg), Pre_WgOut m →
    θ_run (Cert.WgOut.defs (F := Bits)) (onTc (τ := Cert.WgOut.τ) (Cert.WgOut.main (F := Bits))) ⟨m, fun _ => 0, g⟩ (fun r => (∀ c : Dev Cert.WgOut.nD,
      r.2.mem ((c.tc : Thread Cert.WgOut.nD Cert.WgOut.τ).loc Cert.WgOut.main_arg0) = m ((c.tc : Thread Cert.WgOut.nD Cert.WgOut.τ).loc Cert.WgOut.main_arg0)
      ∧ r.2.mem ((c.tc : Thread Cert.WgOut.nD Cert.WgOut.τ).loc Cert.WgOut.main_arg1) = m ((c.tc : Thread Cert.WgOut.nD Cert.WgOut.τ).loc Cert.WgOut.main_arg1)
      ∧ r.2.mem ((c.tc : Thread Cert.WgOut.nD Cert.WgOut.τ).loc Cert.WgOut.main_arg2) = m ((c.tc : Thread Cert.WgOut.nD Cert.WgOut.τ).loc Cert.WgOut.main_arg2))
      ∧ r.2.sem = fun _ => 0)

def quiescent_WgOutIdeal [hWgOutIdeal : Cert.WgOutIdeal.Facts] : Prop :=
  ∀ (m : (ℓ : Loc Cert.WgOutIdeal.nD Cert.WgOutIdeal.τ Cert.WgOutIdeal.sig) → Buf (Elt Ideal) ℓ) (g : Dev Cert.WgOutIdeal.nD → PrngReg), Pre_WgOutIdeal m →
    θ_run (Cert.WgOutIdeal.defs (F := Ideal)) (onTc (τ := Cert.WgOutIdeal.τ) (Cert.WgOutIdeal.main (F := Ideal))) ⟨m, fun _ => 0, g⟩ (fun r => (∀ c : Dev Cert.WgOutIdeal.nD,
      r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
      ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1)
      ∧ r.2.mem ((c.tc : Thread Cert.WgOutIdeal.nD Cert.WgOutIdeal.τ).loc Cert.WgOutIdeal.main_arg2) = m ((c.tc : Thread Cert.WgOutIdeal.nD Cert.WgOutIdeal.τ).loc Cert.WgOutIdeal.main_arg2))
      ∧ r.2.sem = fun _ => 0)

def quiescent_WgOutRefIdeal [hWgOutRefIdeal : Cert.WgOutRefIdeal.Facts] : Prop :=
  ∀ (m : (ℓ : Loc Cert.WgOutRefIdeal.nD Cert.WgOutRefIdeal.τ Cert.WgOutRefIdeal.sig) → Buf (Elt Ideal) ℓ) (g : Dev Cert.WgOutRefIdeal.nD → PrngReg), Pre_WgOutRefIdeal m →
    θ_run (Cert.WgOutRefIdeal.defs (F := Ideal)) (onTc (τ := Cert.WgOutRefIdeal.τ) (Cert.WgOutRefIdeal.main (F := Ideal))) ⟨m, fun _ => 0, g⟩ (fun r => (∀ c : Dev Cert.WgOutRefIdeal.nD,
      r.2.mem ((c.tc : Thread Cert.WgOutRefIdeal.nD Cert.WgOutRefIdeal.τ).loc Cert.WgOutRefIdeal.main_arg0) = m ((c.tc : Thread Cert.WgOutRefIdeal.nD Cert.WgOutRefIdeal.τ).loc Cert.WgOutRefIdeal.main_arg0)
      ∧ r.2.mem ((c.tc : Thread Cert.WgOutRefIdeal.nD Cert.WgOutRefIdeal.τ).loc Cert.WgOutRefIdeal.main_arg1) = m ((c.tc : Thread Cert.WgOutRefIdeal.nD Cert.WgOutRefIdeal.τ).loc Cert.WgOutRefIdeal.main_arg1)
      ∧ r.2.mem ((c.tc : Thread Cert.WgOutRefIdeal.nD Cert.WgOutRefIdeal.τ).loc Cert.WgOutRefIdeal.main_arg2) = m ((c.tc : Thread Cert.WgOutRefIdeal.nD Cert.WgOutRefIdeal.τ).loc Cert.WgOutRefIdeal.main_arg2))
      ∧ r.2.sem = fun _ => 0)

def quiescent_WgA [hWgA : Cert.WgA.Facts] : Prop :=
  ∀ (m : (ℓ : Loc Cert.WgA.nD Cert.WgA.τ Cert.WgA.sig) → Buf (Elt Bits) ℓ) (g : Dev Cert.WgA.nD → PrngReg), Pre_WgA m →
    θ_run (Cert.WgA.defs (F := Bits)) (onTc (τ := Cert.WgA.τ) (Cert.WgA.main (F := Bits))) ⟨m, fun _ => 0, g⟩ (fun r => (∀ c : Dev Cert.WgA.nD,
      r.2.mem ((c.tc : Thread Cert.WgA.nD Cert.WgA.τ).loc Cert.WgA.main_arg0) = m ((c.tc : Thread Cert.WgA.nD Cert.WgA.τ).loc Cert.WgA.main_arg0)
      ∧ r.2.mem ((c.tc : Thread Cert.WgA.nD Cert.WgA.τ).loc Cert.WgA.main_arg1) = m ((c.tc : Thread Cert.WgA.nD Cert.WgA.τ).loc Cert.WgA.main_arg1)
      ∧ r.2.mem ((c.tc : Thread Cert.WgA.nD Cert.WgA.τ).loc Cert.WgA.main_arg2) = m ((c.tc : Thread Cert.WgA.nD Cert.WgA.τ).loc Cert.WgA.main_arg2))
      ∧ r.2.sem = fun _ => 0)

def quiescent_WgAIdeal [hWgAIdeal : Cert.WgAIdeal.Facts] : Prop :=
  ∀ (m : (ℓ : Loc Cert.WgAIdeal.nD Cert.WgAIdeal.τ Cert.WgAIdeal.sig) → Buf (Elt Ideal) ℓ) (g : Dev Cert.WgAIdeal.nD → PrngReg), Pre_WgAIdeal m →
    θ_run (Cert.WgAIdeal.defs (F := Ideal)) (onTc (τ := Cert.WgAIdeal.τ) (Cert.WgAIdeal.main (F := Ideal))) ⟨m, fun _ => 0, g⟩ (fun r => (∀ c : Dev Cert.WgAIdeal.nD,
      r.2.mem ((c.tc : Thread Cert.WgAIdeal.nD Cert.WgAIdeal.τ).loc Cert.WgAIdeal.main_arg0) = m ((c.tc : Thread Cert.WgAIdeal.nD Cert.WgAIdeal.τ).loc Cert.WgAIdeal.main_arg0)
      ∧ r.2.mem ((c.tc : Thread Cert.WgAIdeal.nD Cert.WgAIdeal.τ).loc Cert.WgAIdeal.main_arg1) = m ((c.tc : Thread Cert.WgAIdeal.nD Cert.WgAIdeal.τ).loc Cert.WgAIdeal.main_arg1)
      ∧ r.2.mem ((c.tc : Thread Cert.WgAIdeal.nD Cert.WgAIdeal.τ).loc Cert.WgAIdeal.main_arg2) = m ((c.tc : Thread Cert.WgAIdeal.nD Cert.WgAIdeal.τ).loc Cert.WgAIdeal.main_arg2))
      ∧ r.2.sem = fun _ => 0)

def quiescent_WgARefIdeal [hWgARefIdeal : Cert.WgARefIdeal.Facts] : Prop :=
  ∀ (m : (ℓ : Loc Cert.WgARefIdeal.nD Cert.WgARefIdeal.τ Cert.WgARefIdeal.sig) → Buf (Elt Ideal) ℓ) (g : Dev Cert.WgARefIdeal.nD → PrngReg), Pre_WgARefIdeal m →
    θ_run (Cert.WgARefIdeal.defs (F := Ideal)) (onTc (τ := Cert.WgARefIdeal.τ) (Cert.WgARefIdeal.main (F := Ideal))) ⟨m, fun _ => 0, g⟩ (fun r => (∀ c : Dev Cert.WgARefIdeal.nD,
      r.2.mem ((c.tc : Thread Cert.WgARefIdeal.nD Cert.WgARefIdeal.τ).loc Cert.WgARefIdeal.main_arg0) = m ((c.tc : Thread Cert.WgARefIdeal.nD Cert.WgARefIdeal.τ).loc Cert.WgARefIdeal.main_arg0)
      ∧ r.2.mem ((c.tc : Thread Cert.WgARefIdeal.nD Cert.WgARefIdeal.τ).loc Cert.WgARefIdeal.main_arg1) = m ((c.tc : Thread Cert.WgARefIdeal.nD Cert.WgARefIdeal.τ).loc Cert.WgARefIdeal.main_arg1)
      ∧ r.2.mem ((c.tc : Thread Cert.WgARefIdeal.nD Cert.WgARefIdeal.τ).loc Cert.WgARefIdeal.main_arg2) = m ((c.tc : Thread Cert.WgARefIdeal.nD Cert.WgARefIdeal.τ).loc Cert.WgARefIdeal.main_arg2))
      ∧ r.2.sem = fun _ => 0)

def quiescent_WgB [hWgB : Cert.WgB.Facts] : Prop :=
  ∀ (m : (ℓ : Loc Cert.WgB.nD Cert.WgB.τ Cert.WgB.sig) → Buf (Elt Bits) ℓ) (g : Dev Cert.WgB.nD → PrngReg), Pre_WgB m →
    θ_run (Cert.WgB.defs (F := Bits)) (onTc (τ := Cert.WgB.τ) (Cert.WgB.main (F := Bits))) ⟨m, fun _ => 0, g⟩ (fun r => (∀ c : Dev Cert.WgB.nD,
      r.2.mem ((c.tc : Thread Cert.WgB.nD Cert.WgB.τ).loc Cert.WgB.main_arg0) = m ((c.tc : Thread Cert.WgB.nD Cert.WgB.τ).loc Cert.WgB.main_arg0)
      ∧ r.2.mem ((c.tc : Thread Cert.WgB.nD Cert.WgB.τ).loc Cert.WgB.main_arg1) = m ((c.tc : Thread Cert.WgB.nD Cert.WgB.τ).loc Cert.WgB.main_arg1)
      ∧ r.2.mem ((c.tc : Thread Cert.WgB.nD Cert.WgB.τ).loc Cert.WgB.main_arg2) = m ((c.tc : Thread Cert.WgB.nD Cert.WgB.τ).loc Cert.WgB.main_arg2))
      ∧ r.2.sem = fun _ => 0)

def quiescent_WgBIdeal [hWgBIdeal : Cert.WgBIdeal.Facts] : Prop :=
  ∀ (m : (ℓ : Loc Cert.WgBIdeal.nD Cert.WgBIdeal.τ Cert.WgBIdeal.sig) → Buf (Elt Ideal) ℓ) (g : Dev Cert.WgBIdeal.nD → PrngReg), Pre_WgBIdeal m →
    θ_run (Cert.WgBIdeal.defs (F := Ideal)) (onTc (τ := Cert.WgBIdeal.τ) (Cert.WgBIdeal.main (F := Ideal))) ⟨m, fun _ => 0, g⟩ (fun r => (∀ c : Dev Cert.WgBIdeal.nD,
      r.2.mem ((c.tc : Thread Cert.WgBIdeal.nD Cert.WgBIdeal.τ).loc Cert.WgBIdeal.main_arg0) = m ((c.tc : Thread Cert.WgBIdeal.nD Cert.WgBIdeal.τ).loc Cert.WgBIdeal.main_arg0)
      ∧ r.2.mem ((c.tc : Thread Cert.WgBIdeal.nD Cert.WgBIdeal.τ).loc Cert.WgBIdeal.main_arg1) = m ((c.tc : Thread Cert.WgBIdeal.nD Cert.WgBIdeal.τ).loc Cert.WgBIdeal.main_arg1)
      ∧ r.2.mem ((c.tc : Thread Cert.WgBIdeal.nD Cert.WgBIdeal.τ).loc Cert.WgBIdeal.main_arg2) = m ((c.tc : Thread Cert.WgBIdeal.nD Cert.WgBIdeal.τ).loc Cert.WgBIdeal.main_arg2))
      ∧ r.2.sem = fun _ => 0)

def quiescent_WgBRefIdeal [hWgBRefIdeal : Cert.WgBRefIdeal.Facts] : Prop :=
  ∀ (m : (ℓ : Loc Cert.WgBRefIdeal.nD Cert.WgBRefIdeal.τ Cert.WgBRefIdeal.sig) → Buf (Elt Ideal) ℓ) (g : Dev Cert.WgBRefIdeal.nD → PrngReg), Pre_WgBRefIdeal m →
    θ_run (Cert.WgBRefIdeal.defs (F := Ideal)) (onTc (τ := Cert.WgBRefIdeal.τ) (Cert.WgBRefIdeal.main (F := Ideal))) ⟨m, fun _ => 0, g⟩ (fun r => (∀ c : Dev Cert.WgBRefIdeal.nD,
      r.2.mem ((c.tc : Thread Cert.WgBRefIdeal.nD Cert.WgBRefIdeal.τ).loc Cert.WgBRefIdeal.main_arg0) = m ((c.tc : Thread Cert.WgBRefIdeal.nD Cert.WgBRefIdeal.τ).loc Cert.WgBRefIdeal.main_arg0)
      ∧ r.2.mem ((c.tc : Thread Cert.WgBRefIdeal.nD Cert.WgBRefIdeal.τ).loc Cert.WgBRefIdeal.main_arg1) = m ((c.tc : Thread Cert.WgBRefIdeal.nD Cert.WgBRefIdeal.τ).loc Cert.WgBRefIdeal.main_arg1)
      ∧ r.2.mem ((c.tc : Thread Cert.WgBRefIdeal.nD Cert.WgBRefIdeal.τ).loc Cert.WgBRefIdeal.main_arg2) = m ((c.tc : Thread Cert.WgBRefIdeal.nD Cert.WgBRefIdeal.τ).loc Cert.WgBRefIdeal.main_arg2))
      ∧ r.2.sem = fun _ => 0)

def quiescent_WgC [hWgC : Cert.WgC.Facts] : Prop :=
  ∀ (m : (ℓ : Loc Cert.WgC.nD Cert.WgC.τ Cert.WgC.sig) → Buf (Elt Bits) ℓ) (g : Dev Cert.WgC.nD → PrngReg), Pre_WgC m →
    θ_run (Cert.WgC.defs (F := Bits)) (onTc (τ := Cert.WgC.τ) (Cert.WgC.main (F := Bits))) ⟨m, fun _ => 0, g⟩ (fun r => (∀ c : Dev Cert.WgC.nD,
      r.2.mem ((c.tc : Thread Cert.WgC.nD Cert.WgC.τ).loc Cert.WgC.main_arg0) = m ((c.tc : Thread Cert.WgC.nD Cert.WgC.τ).loc Cert.WgC.main_arg0)
      ∧ r.2.mem ((c.tc : Thread Cert.WgC.nD Cert.WgC.τ).loc Cert.WgC.main_arg1) = m ((c.tc : Thread Cert.WgC.nD Cert.WgC.τ).loc Cert.WgC.main_arg1)
      ∧ r.2.mem ((c.tc : Thread Cert.WgC.nD Cert.WgC.τ).loc Cert.WgC.main_arg2) = m ((c.tc : Thread Cert.WgC.nD Cert.WgC.τ).loc Cert.WgC.main_arg2))
      ∧ r.2.sem = fun _ => 0)

def quiescent_WgCIdeal [hWgCIdeal : Cert.WgCIdeal.Facts] : Prop :=
  ∀ (m : (ℓ : Loc Cert.WgCIdeal.nD Cert.WgCIdeal.τ Cert.WgCIdeal.sig) → Buf (Elt Ideal) ℓ) (g : Dev Cert.WgCIdeal.nD → PrngReg), Pre_WgCIdeal m →
    θ_run (Cert.WgCIdeal.defs (F := Ideal)) (onTc (τ := Cert.WgCIdeal.τ) (Cert.WgCIdeal.main (F := Ideal))) ⟨m, fun _ => 0, g⟩ (fun r => (∀ c : Dev Cert.WgCIdeal.nD,
      r.2.mem ((c.tc : Thread Cert.WgCIdeal.nD Cert.WgCIdeal.τ).loc Cert.WgCIdeal.main_arg0) = m ((c.tc : Thread Cert.WgCIdeal.nD Cert.WgCIdeal.τ).loc Cert.WgCIdeal.main_arg0)
      ∧ r.2.mem ((c.tc : Thread Cert.WgCIdeal.nD Cert.WgCIdeal.τ).loc Cert.WgCIdeal.main_arg1) = m ((c.tc : Thread Cert.WgCIdeal.nD Cert.WgCIdeal.τ).loc Cert.WgCIdeal.main_arg1)
      ∧ r.2.mem ((c.tc : Thread Cert.WgCIdeal.nD Cert.WgCIdeal.τ).loc Cert.WgCIdeal.main_arg2) = m ((c.tc : Thread Cert.WgCIdeal.nD Cert.WgCIdeal.τ).loc Cert.WgCIdeal.main_arg2))
      ∧ r.2.sem = fun _ => 0)

def quiescent_WgCRefIdeal [hWgCRefIdeal : Cert.WgCRefIdeal.Facts] : Prop :=
  ∀ (m : (ℓ : Loc Cert.WgCRefIdeal.nD Cert.WgCRefIdeal.τ Cert.WgCRefIdeal.sig) → Buf (Elt Ideal) ℓ) (g : Dev Cert.WgCRefIdeal.nD → PrngReg), Pre_WgCRefIdeal m →
    θ_run (Cert.WgCRefIdeal.defs (F := Ideal)) (onTc (τ := Cert.WgCRefIdeal.τ) (Cert.WgCRefIdeal.main (F := Ideal))) ⟨m, fun _ => 0, g⟩ (fun r => (∀ c : Dev Cert.WgCRefIdeal.nD,
      r.2.mem ((c.tc : Thread Cert.WgCRefIdeal.nD Cert.WgCRefIdeal.τ).loc Cert.WgCRefIdeal.main_arg0) = m ((c.tc : Thread Cert.WgCRefIdeal.nD Cert.WgCRefIdeal.τ).loc Cert.WgCRefIdeal.main_arg0)
      ∧ r.2.mem ((c.tc : Thread Cert.WgCRefIdeal.nD Cert.WgCRefIdeal.τ).loc Cert.WgCRefIdeal.main_arg1) = m ((c.tc : Thread Cert.WgCRefIdeal.nD Cert.WgCRefIdeal.τ).loc Cert.WgCRefIdeal.main_arg1)
      ∧ r.2.mem ((c.tc : Thread Cert.WgCRefIdeal.nD Cert.WgCRefIdeal.τ).loc Cert.WgCRefIdeal.main_arg2) = m ((c.tc : Thread Cert.WgCRefIdeal.nD Cert.WgCRefIdeal.τ).loc Cert.WgCRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![6, 8, 352, 1024]⟩ ⟨4, ![48, 8, 352, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![1, 8, 864, 1024]⟩ ⟨4, ![8, 8, 864, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 8, 128, 1024]⟩ ⟨4, ![8, 8, 128, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 8, 128, 256]⟩ ⟨4, ![8, 8, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 8, 128, 512]⟩ ⟨4, ![16, 8, 128, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨4, ![8, 6, 352, 1024]⟩ ⟨4, ![8, 48, 352, 1024]⟩ 1 8 c v0
          ∧ r.2.mem ((c.tc : Thread Cert.KernelIdeal.nD Cert.KernelIdeal.τ).loc Cert.KernelIdeal.main_v1_1) = Layout.block ⟨4, ![8, 1, 864, 1024]⟩ ⟨4, ![8, 8, 864, 1024]⟩ 1 8 c v1
          ∧ r.2.mem ((c.tc : Thread Cert.KernelIdeal.nD Cert.KernelIdeal.τ).loc Cert.KernelIdeal.main_v1_2) = Layout.block ⟨4, ![8, 1, 128, 1024]⟩ ⟨4, ![8, 8, 128, 1024]⟩ 1 8 c v2
          ∧ r.2.mem ((c.tc : Thread Cert.KernelIdeal.nD Cert.KernelIdeal.τ).loc Cert.KernelIdeal.main_v1_3) = Layout.block ⟨4, ![8, 1, 128, 256]⟩ ⟨4, ![8, 8, 128, 256]⟩ 1 8 c v3
          ∧ r.2.mem ((c.tc : Thread Cert.KernelIdeal.nD Cert.KernelIdeal.τ).loc Cert.KernelIdeal.main_v1_4) = Layout.block ⟨4, ![8, 2, 128, 512]⟩ ⟨4, ![8, 16, 128, 512]⟩ 1 8 c v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨4, ![6, 8, 352, 1024]⟩ ⟨4, ![48, 8, 352, 1024]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨4, ![1, 8, 864, 1024]⟩ ⟨4, ![8, 8, 864, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨4, ![1, 8, 128, 1024]⟩ ⟨4, ![8, 8, 128, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨4, ![1, 8, 128, 256]⟩ ⟨4, ![8, 8, 128, 256]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨4, ![2, 8, 128, 512]⟩ ⟨4, ![16, 8, 128, 512]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨4, ![8, 6, 352, 1024]⟩ ⟨4, ![8, 48, 352, 1024]⟩ 1 8 c v0
          ∧ r.2.mem ((c.tc : Thread Cert.Kernel.nD Cert.Kernel.τ).loc Cert.Kernel.main_v1_1) = Layout.block ⟨4, ![8, 1, 864, 1024]⟩ ⟨4, ![8, 8, 864, 1024]⟩ 1 8 c v1
          ∧ r.2.mem ((c.tc : Thread Cert.Kernel.nD Cert.Kernel.τ).loc Cert.Kernel.main_v1_2) = Layout.block ⟨4, ![8, 1, 128, 1024]⟩ ⟨4, ![8, 8, 128, 1024]⟩ 1 8 c v2
          ∧ r.2.mem ((c.tc : Thread Cert.Kernel.nD Cert.Kernel.τ).loc Cert.Kernel.main_v1_3) = Layout.block ⟨4, ![8, 1, 128, 256]⟩ ⟨4, ![8, 8, 128, 256]⟩ 1 8 c v3
          ∧ r.2.mem ((c.tc : Thread Cert.Kernel.nD Cert.Kernel.τ).loc Cert.Kernel.main_v1_4) = Layout.block ⟨4, ![8, 2, 128, 512]⟩ ⟨4, ![8, 16, 128, 512]⟩ 1 8 c v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨3, ![6, 352, 1024]⟩ ⟨3, ![6, 2816, 1024]⟩ 1 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨3, ![1, 864, 1024]⟩ ⟨3, ![1, 6912, 1024]⟩ 1 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨3, ![1, 128, 1024]⟩ ⟨3, ![1, 1024, 1024]⟩ 1 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨3, ![1, 128, 256]⟩ ⟨3, ![1, 1024, 256]⟩ 1 8 c (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.block ⟨3, ![2, 128, 512]⟩ ⟨3, ![2, 1024, 512]⟩ 1 8 c (m' (((0 : Dev Cert.GatherRefIdeal.nD).tc : Thread Cert.GatherRefIdeal.nD Cert.GatherRefIdeal.τ).loc Cert.GatherRefIdeal.main_arg4))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)) (v3 : Buf (Elt Ideal) (((0 : Dev Cert.GatherRefIdeal.nD).tc : Thread Cert.GatherRefIdeal.nD Cert.GatherRefIdeal.τ).loc Cert.GatherRefIdeal.main_v3)) (v4 : Buf (Elt Ideal) (((0 : Dev Cert.GatherRefIdeal.nD).tc : Thread Cert.GatherRefIdeal.nD Cert.GatherRefIdeal.τ).loc Cert.GatherRefIdeal.main_v4)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_v4) = v4
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨3, ![6, 352, 1024]⟩ ⟨3, ![6, 2816, 1024]⟩ 1 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨3, ![1, 864, 1024]⟩ ⟨3, ![1, 6912, 1024]⟩ 1 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨3, ![1, 128, 1024]⟩ ⟨3, ![1, 1024, 1024]⟩ 1 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨3, ![1, 128, 256]⟩ ⟨3, ![1, 1024, 256]⟩ 1 8 c (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.block ⟨3, ![2, 128, 512]⟩ ⟨3, ![2, 1024, 512]⟩ 1 8 c (m' (((0 : Dev Cert.GatherRef.nD).tc : Thread Cert.GatherRef.nD Cert.GatherRef.τ).loc Cert.GatherRef.main_arg4))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)) (v3 : Buf (Elt Bits) (((0 : Dev Cert.GatherRef.nD).tc : Thread Cert.GatherRef.nD Cert.GatherRef.τ).loc Cert.GatherRef.main_v3)) (v4 : Buf (Elt Bits) (((0 : Dev Cert.GatherRef.nD).tc : Thread Cert.GatherRef.nD Cert.GatherRef.τ).loc Cert.GatherRef.main_v4)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_v3) = v3
          ∧ r.2.mem (((0 : Dev Cert.GatherRef.nD).tc : Thread Cert.GatherRef.nD Cert.GatherRef.τ).loc Cert.GatherRef.main_v4) = v4
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4))

def preserves_GatherSmall_GatherSmallIdeal : Prop :=
  True

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨3, ![1, 2184, 128]⟩ ⟨3, ![8, 2184, 128]⟩ 0 8 c (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def bitexact_GatherSmall_GatherSmallRef [hGatherSmall : Cert.GatherSmall.Facts] [hGatherSmallRef : Cert.GatherSmallRef.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallRef.nD Cert.GatherSmallRef.τ Cert.GatherSmallRef.sig) → Buf (Elt Bits) ℓ) (g' : Dev Cert.GatherSmallRef.nD → PrngReg), Pre_GatherSmall m →
    (∀ c : Dev Cert.GatherSmall.nD,
      m ((c.tc : Thread Cert.GatherSmall.nD Cert.GatherSmall.τ).loc Cert.GatherSmall.main_arg0) = Layout.block ⟨3, ![1, 2184, 128]⟩ ⟨3, ![8, 2184, 128]⟩ 0 8 c (m' (((0 : Dev Cert.GatherSmallRef.nD).tc : Thread Cert.GatherSmallRef.nD Cert.GatherSmallRef.τ).loc Cert.GatherSmallRef.main_arg0))) →
    ∃ (v0 : Buf (Elt Bits) (((0 : Dev Cert.GatherSmallRef.nD).tc : Thread Cert.GatherSmallRef.nD Cert.GatherSmallRef.τ).loc Cert.GatherSmallRef.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallRef.defs (F := Bits)) (onTc (τ := Cert.GatherSmallRef.τ) (Cert.GatherSmallRef.main (F := Bits))) ⟨m', fun _ => 0, g'⟩ (fun r =>
          r.2.mem (((0 : Dev Cert.GatherSmallRef.nD).tc : Thread Cert.GatherSmallRef.nD Cert.GatherSmallRef.τ).loc Cert.GatherSmallRef.main_v0) = v0
          ∧ r.2.mem (((0 : Dev Cert.GatherSmallRef.nD).tc : Thread Cert.GatherSmallRef.nD Cert.GatherSmallRef.τ).loc Cert.GatherSmallRef.main_arg0) = m' (((0 : Dev Cert.GatherSmallRef.nD).tc : Thread Cert.GatherSmallRef.nD Cert.GatherSmallRef.τ).loc Cert.GatherSmallRef.main_arg0))

def preserves_Sum0_Sum0Ideal : Prop :=
  True

def algebraic_Sum0Ideal_Sum0RefIdeal [hSum0Ideal : Cert.Sum0Ideal.Facts] [hSum0RefIdeal : Cert.Sum0RefIdeal.Facts] : Prop :=
  ∀ (m : (ℓ : Loc Cert.Sum0Ideal.nD Cert.Sum0Ideal.τ Cert.Sum0Ideal.sig) → Buf (Elt Ideal) ℓ) (g : Dev Cert.Sum0Ideal.nD → PrngReg)
    (m' : (ℓ : Loc Cert.Sum0RefIdeal.nD Cert.Sum0RefIdeal.τ Cert.Sum0RefIdeal.sig) → Buf (Elt Ideal) ℓ) (g' : Dev Cert.Sum0RefIdeal.nD → PrngReg), Pre_Sum0Ideal m →
    (∀ c : Dev Cert.Sum0Ideal.nD,
      m ((c.tc : Thread Cert.Sum0Ideal.nD Cert.Sum0Ideal.τ).loc Cert.Sum0Ideal.main_arg0) = Layout.block ⟨4, ![8, 6, 352, 1024]⟩ ⟨4, ![8, 48, 352, 1024]⟩ 1 8 c (m' (((0 : Dev Cert.Sum0RefIdeal.nD).tc : Thread Cert.Sum0RefIdeal.nD Cert.Sum0RefIdeal.τ).loc Cert.Sum0RefIdeal.main_arg0))) →
    ∃ (v0 : Buf (Elt Ideal) (((0 : Dev Cert.Sum0RefIdeal.nD).tc : Thread Cert.Sum0RefIdeal.nD Cert.Sum0RefIdeal.τ).loc Cert.Sum0RefIdeal.main_v1)),
      θ_run (Cert.Sum0Ideal.defs (F := Ideal)) (onTc (τ := Cert.Sum0Ideal.τ) (Cert.Sum0Ideal.main (F := Ideal))) ⟨m, fun _ => 0, g⟩ (fun r => ∀ c : Dev Cert.Sum0Ideal.nD,
          r.2.mem ((c.tc : Thread Cert.Sum0Ideal.nD Cert.Sum0Ideal.τ).loc Cert.Sum0Ideal.main_v1) = Layout.block ⟨3, ![6, 352, 1024]⟩ ⟨3, ![48, 352, 1024]⟩ 0 8 c v0
          ∧ r.2.mem ((c.tc : Thread Cert.Sum0Ideal.nD Cert.Sum0Ideal.τ).loc Cert.Sum0Ideal.main_arg0) = m ((c.tc : Thread Cert.Sum0Ideal.nD Cert.Sum0Ideal.τ).loc Cert.Sum0Ideal.main_arg0))
      ∧ θ_run (Cert.Sum0RefIdeal.defs (F := Ideal)) (onTc (τ := Cert.Sum0RefIdeal.τ) (Cert.Sum0RefIdeal.main (F := Ideal))) ⟨m', fun _ => 0, g'⟩ (fun r =>
          r.2.mem (((0 : Dev Cert.Sum0RefIdeal.nD).tc : Thread Cert.Sum0RefIdeal.nD Cert.Sum0RefIdeal.τ).loc Cert.Sum0RefIdeal.main_v1) = v0
          ∧ r.2.mem (((0 : Dev Cert.Sum0RefIdeal.nD).tc : Thread Cert.Sum0RefIdeal.nD Cert.Sum0RefIdeal.τ).loc Cert.Sum0RefIdeal.main_arg0) = m' (((0 : Dev Cert.Sum0RefIdeal.nD).tc : Thread Cert.Sum0RefIdeal.nD Cert.Sum0RefIdeal.τ).loc Cert.Sum0RefIdeal.main_arg0))

def preserves_Sum1_Sum1Ideal : Prop :=
  True

def algebraic_Sum1Ideal_Sum1RefIdeal [hSum1Ideal : Cert.Sum1Ideal.Facts] [hSum1RefIdeal : Cert.Sum1RefIdeal.Facts] : Prop :=
  ∀ (m : (ℓ : Loc Cert.Sum1Ideal.nD Cert.Sum1Ideal.τ Cert.Sum1Ideal.sig) → Buf (Elt Ideal) ℓ) (g : Dev Cert.Sum1Ideal.nD → PrngReg)
    (m' : (ℓ : Loc Cert.Sum1RefIdeal.nD Cert.Sum1RefIdeal.τ Cert.Sum1RefIdeal.sig) → Buf (Elt Ideal) ℓ) (g' : Dev Cert.Sum1RefIdeal.nD → PrngReg), Pre_Sum1Ideal m →
    (∀ c : Dev Cert.Sum1Ideal.nD,
      m ((c.tc : Thread Cert.Sum1Ideal.nD Cert.Sum1Ideal.τ).loc Cert.Sum1Ideal.main_arg0) = Layout.block ⟨4, ![8, 1, 864, 1024]⟩ ⟨4, ![8, 8, 864, 1024]⟩ 1 8 c (m' (((0 : Dev Cert.Sum1RefIdeal.nD).tc : Thread Cert.Sum1RefIdeal.nD Cert.Sum1RefIdeal.τ).loc Cert.Sum1RefIdeal.main_arg0))) →
    ∃ (v0 : Buf (Elt Ideal) (((0 : Dev Cert.Sum1RefIdeal.nD).tc : Thread Cert.Sum1RefIdeal.nD Cert.Sum1RefIdeal.τ).loc Cert.Sum1RefIdeal.main_v1)),
      θ_run (Cert.Sum1Ideal.defs (F := Ideal)) (onTc (τ := Cert.Sum1Ideal.τ) (Cert.Sum1Ideal.main (F := Ideal))) ⟨m, fun _ => 0, g⟩ (fun r => ∀ c : Dev Cert.Sum1Ideal.nD,
          r.2.mem ((c.tc : Thread Cert.Sum1Ideal.nD Cert.Sum1Ideal.τ).loc Cert.Sum1Ideal.main_v1) = Layout.block ⟨3, ![1, 864, 1024]⟩ ⟨3, ![8, 864, 1024]⟩ 0 8 c v0
          ∧ r.2.mem ((c.tc : Thread Cert.Sum1Ideal.nD Cert.Sum1Ideal.τ).loc Cert.Sum1Ideal.main_arg0) = m ((c.tc : Thread Cert.Sum1Ideal.nD Cert.Sum1Ideal.τ).loc Cert.Sum1Ideal.main_arg0))
      ∧ θ_run (Cert.Sum1RefIdeal.defs (F := Ideal)) (onTc (τ := Cert.Sum1RefIdeal.τ) (Cert.Sum1RefIdeal.main (F := Ideal))) ⟨m', fun _ => 0, g'⟩ (fun r =>
          r.2.mem (((0 : Dev Cert.Sum1RefIdeal.nD).tc : Thread Cert.Sum1RefIdeal.nD Cert.Sum1RefIdeal.τ).loc Cert.Sum1RefIdeal.main_v1) = v0
          ∧ r.2.mem (((0 : Dev Cert.Sum1RefIdeal.nD).tc : Thread Cert.Sum1RefIdeal.nD Cert.Sum1RefIdeal.τ).loc Cert.Sum1RefIdeal.main_arg0) = m' (((0 : Dev Cert.Sum1RefIdeal.nD).tc : Thread Cert.Sum1RefIdeal.nD Cert.Sum1RefIdeal.τ).loc Cert.Sum1RefIdeal.main_arg0))

def preserves_Sum2_Sum2Ideal : Prop :=
  True

def algebraic_Sum2Ideal_Sum2RefIdeal [hSum2Ideal : Cert.Sum2Ideal.Facts] [hSum2RefIdeal : Cert.Sum2RefIdeal.Facts] : Prop :=
  ∀ (m : (ℓ : Loc Cert.Sum2Ideal.nD Cert.Sum2Ideal.τ Cert.Sum2Ideal.sig) → Buf (Elt Ideal) ℓ) (g : Dev Cert.Sum2Ideal.nD → PrngReg)
    (m' : (ℓ : Loc Cert.Sum2RefIdeal.nD Cert.Sum2RefIdeal.τ Cert.Sum2RefIdeal.sig) → Buf (Elt Ideal) ℓ) (g' : Dev Cert.Sum2RefIdeal.nD → PrngReg), Pre_Sum2Ideal m →
    (∀ c : Dev Cert.Sum2Ideal.nD,
      m ((c.tc : Thread Cert.Sum2Ideal.nD Cert.Sum2Ideal.τ).loc Cert.Sum2Ideal.main_arg0) = Layout.block ⟨4, ![8, 1, 128, 1024]⟩ ⟨4, ![8, 8, 128, 1024]⟩ 1 8 c (m' (((0 : Dev Cert.Sum2RefIdeal.nD).tc : Thread Cert.Sum2RefIdeal.nD Cert.Sum2RefIdeal.τ).loc Cert.Sum2RefIdeal.main_arg0))) →
    ∃ (v0 : Buf (Elt Ideal) (((0 : Dev Cert.Sum2RefIdeal.nD).tc : Thread Cert.Sum2RefIdeal.nD Cert.Sum2RefIdeal.τ).loc Cert.Sum2RefIdeal.main_v1)),
      θ_run (Cert.Sum2Ideal.defs (F := Ideal)) (onTc (τ := Cert.Sum2Ideal.τ) (Cert.Sum2Ideal.main (F := Ideal))) ⟨m, fun _ => 0, g⟩ (fun r => ∀ c : Dev Cert.Sum2Ideal.nD,
          r.2.mem ((c.tc : Thread Cert.Sum2Ideal.nD Cert.Sum2Ideal.τ).loc Cert.Sum2Ideal.main_v1) = Layout.block ⟨3, ![1, 128, 1024]⟩ ⟨3, ![8, 128, 1024]⟩ 0 8 c v0
          ∧ r.2.mem ((c.tc : Thread Cert.Sum2Ideal.nD Cert.Sum2Ideal.τ).loc Cert.Sum2Ideal.main_arg0) = m ((c.tc : Thread Cert.Sum2Ideal.nD Cert.Sum2Ideal.τ).loc Cert.Sum2Ideal.main_arg0))
      ∧ θ_run (Cert.Sum2RefIdeal.defs (F := Ideal)) (onTc (τ := Cert.Sum2RefIdeal.τ) (Cert.Sum2RefIdeal.main (F := Ideal))) ⟨m', fun _ => 0, g'⟩ (fun r =>
          r.2.mem (((0 : Dev Cert.Sum2RefIdeal.nD).tc : Thread Cert.Sum2RefIdeal.nD Cert.Sum2RefIdeal.τ).loc Cert.Sum2RefIdeal.main_v1) = v0
          ∧ r.2.mem (((0 : Dev Cert.Sum2RefIdeal.nD).tc : Thread Cert.Sum2RefIdeal.nD Cert.Sum2RefIdeal.τ).loc Cert.Sum2RefIdeal.main_arg0) = m' (((0 : Dev Cert.Sum2RefIdeal.nD).tc : Thread Cert.Sum2RefIdeal.nD Cert.Sum2RefIdeal.τ).loc Cert.Sum2RefIdeal.main_arg0))

def preserves_Sum3_Sum3Ideal : Prop :=
  True

def algebraic_Sum3Ideal_Sum3RefIdeal [hSum3Ideal : Cert.Sum3Ideal.Facts] [hSum3RefIdeal : Cert.Sum3RefIdeal.Facts] : Prop :=
  ∀ (m : (ℓ : Loc Cert.Sum3Ideal.nD Cert.Sum3Ideal.τ Cert.Sum3Ideal.sig) → Buf (Elt Ideal) ℓ) (g : Dev Cert.Sum3Ideal.nD → PrngReg)
    (m' : (ℓ : Loc Cert.Sum3RefIdeal.nD Cert.Sum3RefIdeal.τ Cert.Sum3RefIdeal.sig) → Buf (Elt Ideal) ℓ) (g' : Dev Cert.Sum3RefIdeal.nD → PrngReg), Pre_Sum3Ideal m →
    (∀ c : Dev Cert.Sum3Ideal.nD,
      m ((c.tc : Thread Cert.Sum3Ideal.nD Cert.Sum3Ideal.τ).loc Cert.Sum3Ideal.main_arg0) = Layout.block ⟨4, ![8, 1, 128, 256]⟩ ⟨4, ![8, 8, 128, 256]⟩ 1 8 c (m' (((0 : Dev Cert.Sum3RefIdeal.nD).tc : Thread Cert.Sum3RefIdeal.nD Cert.Sum3RefIdeal.τ).loc Cert.Sum3RefIdeal.main_arg0))) →
    ∃ (v0 : Buf (Elt Ideal) (((0 : Dev Cert.Sum3RefIdeal.nD).tc : Thread Cert.Sum3RefIdeal.nD Cert.Sum3RefIdeal.τ).loc Cert.Sum3RefIdeal.main_v1)),
      θ_run (Cert.Sum3Ideal.defs (F := Ideal)) (onTc (τ := Cert.Sum3Ideal.τ) (Cert.Sum3Ideal.main (F := Ideal))) ⟨m, fun _ => 0, g⟩ (fun r => ∀ c : Dev Cert.Sum3Ideal.nD,
          r.2.mem ((c.tc : Thread Cert.Sum3Ideal.nD Cert.Sum3Ideal.τ).loc Cert.Sum3Ideal.main_v1) = Layout.block ⟨3, ![1, 128, 256]⟩ ⟨3, ![8, 128, 256]⟩ 0 8 c v0
          ∧ r.2.mem ((c.tc : Thread Cert.Sum3Ideal.nD Cert.Sum3Ideal.τ).loc Cert.Sum3Ideal.main_arg0) = m ((c.tc : Thread Cert.Sum3Ideal.nD Cert.Sum3Ideal.τ).loc Cert.Sum3Ideal.main_arg0))
      ∧ θ_run (Cert.Sum3RefIdeal.defs (F := Ideal)) (onTc (τ := Cert.Sum3RefIdeal.τ) (Cert.Sum3RefIdeal.main (F := Ideal))) ⟨m', fun _ => 0, g'⟩ (fun r =>
          r.2.mem (((0 : Dev Cert.Sum3RefIdeal.nD).tc : Thread Cert.Sum3RefIdeal.nD Cert.Sum3RefIdeal.τ).loc Cert.Sum3RefIdeal.main_v1) = v0
          ∧ r.2.mem (((0 : Dev Cert.Sum3RefIdeal.nD).tc : Thread Cert.Sum3RefIdeal.nD Cert.Sum3RefIdeal.τ).loc Cert.Sum3RefIdeal.main_arg0) = m' (((0 : Dev Cert.Sum3RefIdeal.nD).tc : Thread Cert.Sum3RefIdeal.nD Cert.Sum3RefIdeal.τ).loc Cert.Sum3RefIdeal.main_arg0))

def preserves_Sum4_Sum4Ideal : Prop :=
  True

def algebraic_Sum4Ideal_Sum4RefIdeal [hSum4Ideal : Cert.Sum4Ideal.Facts] [hSum4RefIdeal : Cert.Sum4RefIdeal.Facts] : Prop :=
  ∀ (m : (ℓ : Loc Cert.Sum4Ideal.nD Cert.Sum4Ideal.τ Cert.Sum4Ideal.sig) → Buf (Elt Ideal) ℓ) (g : Dev Cert.Sum4Ideal.nD → PrngReg)
    (m' : (ℓ : Loc Cert.Sum4RefIdeal.nD Cert.Sum4RefIdeal.τ Cert.Sum4RefIdeal.sig) → Buf (Elt Ideal) ℓ) (g' : Dev Cert.Sum4RefIdeal.nD → PrngReg), Pre_Sum4Ideal m →
    (∀ c : Dev Cert.Sum4Ideal.nD,
      m ((c.tc : Thread Cert.Sum4Ideal.nD Cert.Sum4Ideal.τ).loc Cert.Sum4Ideal.main_arg0) = Layout.block ⟨4, ![8, 2, 128, 512]⟩ ⟨4, ![8, 16, 128, 512]⟩ 1 8 c (m' (((0 : Dev Cert.Sum4RefIdeal.nD).tc : Thread Cert.Sum4RefIdeal.nD Cert.Sum4RefIdeal.τ).loc Cert.Sum4RefIdeal.main_arg0))) →
    ∃ (v0 : Buf (Elt Ideal) (((0 : Dev Cert.Sum4RefIdeal.nD).tc : Thread Cert.Sum4RefIdeal.nD Cert.Sum4RefIdeal.τ).loc Cert.Sum4RefIdeal.main_v1)),
      θ_run (Cert.Sum4Ideal.defs (F := Ideal)) (onTc (τ := Cert.Sum4Ideal.τ) (Cert.Sum4Ideal.main (F := Ideal))) ⟨m, fun _ => 0, g⟩ (fun r => ∀ c : Dev Cert.Sum4Ideal.nD,
          r.2.mem ((c.tc : Thread Cert.Sum4Ideal.nD Cert.Sum4Ideal.τ).loc Cert.Sum4Ideal.main_v1) = Layout.block ⟨3, ![2, 128, 512]⟩ ⟨3, ![16, 128, 512]⟩ 0 8 c v0
          ∧ r.2.mem ((c.tc : Thread Cert.Sum4Ideal.nD Cert.Sum4Ideal.τ).loc Cert.Sum4Ideal.main_arg0) = m ((c.tc : Thread Cert.Sum4Ideal.nD Cert.Sum4Ideal.τ).loc Cert.Sum4Ideal.main_arg0))
      ∧ θ_run (Cert.Sum4RefIdeal.defs (F := Ideal)) (onTc (τ := Cert.Sum4RefIdeal.τ) (Cert.Sum4RefIdeal.main (F := Ideal))) ⟨m', fun _ => 0, g'⟩ (fun r =>
          r.2.mem (((0 : Dev Cert.Sum4RefIdeal.nD).tc : Thread Cert.Sum4RefIdeal.nD Cert.Sum4RefIdeal.τ).loc Cert.Sum4RefIdeal.main_v1) = v0
          ∧ r.2.mem (((0 : Dev Cert.Sum4RefIdeal.nD).tc : Thread Cert.Sum4RefIdeal.nD Cert.Sum4RefIdeal.τ).loc Cert.Sum4RefIdeal.main_arg0) = m' (((0 : Dev Cert.Sum4RefIdeal.nD).tc : Thread Cert.Sum4RefIdeal.nD Cert.Sum4RefIdeal.τ).loc Cert.Sum4RefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Step0_Step0Ideal : Prop :=
  True

def algebraic_Step0Ideal_Step0RefIdeal [hStep0Ideal : Cert.Step0Ideal.Facts] [hStep0RefIdeal : Cert.Step0RefIdeal.Facts] : Prop :=
  ∀ (m : (ℓ : Loc Cert.Step0Ideal.nD Cert.Step0Ideal.τ Cert.Step0Ideal.sig) → Buf (Elt Ideal) ℓ) (g : Dev Cert.Step0Ideal.nD → PrngReg)
    (m' : (ℓ : Loc Cert.Step0RefIdeal.nD Cert.Step0RefIdeal.τ Cert.Step0RefIdeal.sig) → Buf (Elt Ideal) ℓ) (g' : Dev Cert.Step0RefIdeal.nD → PrngReg), Pre_Step0Ideal m →
    (∀ c : Dev Cert.Step0Ideal.nD,
      m' ((c.tc : Thread Cert.Step0RefIdeal.nD Cert.Step0RefIdeal.τ).loc Cert.Step0RefIdeal.main_arg0) = m ((c.tc : Thread Cert.Step0Ideal.nD Cert.Step0Ideal.τ).loc Cert.Step0Ideal.main_arg0)
      ∧ m' ((c.tc : Thread Cert.Step0RefIdeal.nD Cert.Step0RefIdeal.τ).loc Cert.Step0RefIdeal.main_arg1) = m ((c.tc : Thread Cert.Step0Ideal.nD Cert.Step0Ideal.τ).loc Cert.Step0Ideal.main_arg1)
      ∧ m' ((c.tc : Thread Cert.Step0RefIdeal.nD Cert.Step0RefIdeal.τ).loc Cert.Step0RefIdeal.main_arg2) = m ((c.tc : Thread Cert.Step0Ideal.nD Cert.Step0Ideal.τ).loc Cert.Step0Ideal.main_arg2)
      ∧ m' ((c.tc : Thread Cert.Step0RefIdeal.nD Cert.Step0RefIdeal.τ).loc Cert.Step0RefIdeal.main_arg3) = m ((c.tc : Thread Cert.Step0Ideal.nD Cert.Step0Ideal.τ).loc Cert.Step0Ideal.main_arg3)) →
    ∃ (v0 : (c : Dev Cert.Step0Ideal.nD) → Buf (Elt Ideal) ((c.tc : Thread Cert.Step0Ideal.nD Cert.Step0Ideal.τ).loc Cert.Step0Ideal.main_v0_0)) (v1 : (c : Dev Cert.Step0Ideal.nD) → Buf (Elt Ideal) ((c.tc : Thread Cert.Step0Ideal.nD Cert.Step0Ideal.τ).loc Cert.Step0Ideal.main_v0_1)) (v2 : (c : Dev Cert.Step0Ideal.nD) → Buf (Elt Ideal) ((c.tc : Thread Cert.Step0Ideal.nD Cert.Step0Ideal.τ).loc Cert.Step0Ideal.main_v0_2)),
      θ_run (Cert.Step0Ideal.defs (F := Ideal)) (onTc (τ := Cert.Step0Ideal.τ) (Cert.Step0Ideal.main (F := Ideal))) ⟨m, fun _ => 0, g⟩ (fun r => ∀ c : Dev Cert.Step0Ideal.nD,
          r.2.mem ((c.tc : Thread Cert.Step0Ideal.nD Cert.Step0Ideal.τ).loc Cert.Step0Ideal.main_v0_0) = v0 c
          ∧ r.2.mem ((c.tc : Thread Cert.Step0Ideal.nD Cert.Step0Ideal.τ).loc Cert.Step0Ideal.main_v0_1) = v1 c
          ∧ r.2.mem ((c.tc : Thread Cert.Step0Ideal.nD Cert.Step0Ideal.τ).loc Cert.Step0Ideal.main_v0_2) = v2 c
          ∧ r.2.mem ((c.tc : Thread Cert.Step0Ideal.nD Cert.Step0Ideal.τ).loc Cert.Step0Ideal.main_arg0) = m ((c.tc : Thread Cert.Step0Ideal.nD Cert.Step0Ideal.τ).loc Cert.Step0Ideal.main_arg0)
          ∧ r.2.mem ((c.tc : Thread Cert.Step0Ideal.nD Cert.Step0Ideal.τ).loc Cert.Step0Ideal.main_arg1) = m ((c.tc : Thread Cert.Step0Ideal.nD Cert.Step0Ideal.τ).loc Cert.Step0Ideal.main_arg1)
          ∧ r.2.mem ((c.tc : Thread Cert.Step0Ideal.nD Cert.Step0Ideal.τ).loc Cert.Step0Ideal.main_arg2) = m ((c.tc : Thread Cert.Step0Ideal.nD Cert.Step0Ideal.τ).loc Cert.Step0Ideal.main_arg2)
          ∧ r.2.mem ((c.tc : Thread Cert.Step0Ideal.nD Cert.Step0Ideal.τ).loc Cert.Step0Ideal.main_arg3) = m ((c.tc : Thread Cert.Step0Ideal.nD Cert.Step0Ideal.τ).loc Cert.Step0Ideal.main_arg3))
      ∧ θ_run (Cert.Step0RefIdeal.defs (F := Ideal)) (onTc (τ := Cert.Step0RefIdeal.τ) (Cert.Step0RefIdeal.main (F := Ideal))) ⟨m', fun _ => 0, g'⟩ (fun r => ∀ c : Dev Cert.Step0RefIdeal.nD,
          r.2.mem ((c.tc : Thread Cert.Step0RefIdeal.nD Cert.Step0RefIdeal.τ).loc Cert.Step0RefIdeal.main_v23) = v0 c
          ∧ r.2.mem ((c.tc : Thread Cert.Step0RefIdeal.nD Cert.Step0RefIdeal.τ).loc Cert.Step0RefIdeal.main_v4) = v1 c
          ∧ r.2.mem ((c.tc : Thread Cert.Step0RefIdeal.nD Cert.Step0RefIdeal.τ).loc Cert.Step0RefIdeal.main_v10) = v2 c
          ∧ r.2.mem ((c.tc : Thread Cert.Step0RefIdeal.nD Cert.Step0RefIdeal.τ).loc Cert.Step0RefIdeal.main_arg0) = m' ((c.tc : Thread Cert.Step0RefIdeal.nD Cert.Step0RefIdeal.τ).loc Cert.Step0RefIdeal.main_arg0)
          ∧ r.2.mem ((c.tc : Thread Cert.Step0RefIdeal.nD Cert.Step0RefIdeal.τ).loc Cert.Step0RefIdeal.main_arg1) = m' ((c.tc : Thread Cert.Step0RefIdeal.nD Cert.Step0RefIdeal.τ).loc Cert.Step0RefIdeal.main_arg1)
          ∧ r.2.mem ((c.tc : Thread Cert.Step0RefIdeal.nD Cert.Step0RefIdeal.τ).loc Cert.Step0RefIdeal.main_arg2) = m' ((c.tc : Thread Cert.Step0RefIdeal.nD Cert.Step0RefIdeal.τ).loc Cert.Step0RefIdeal.main_arg2)
          ∧ r.2.mem ((c.tc : Thread Cert.Step0RefIdeal.nD Cert.Step0RefIdeal.τ).loc Cert.Step0RefIdeal.main_arg3) = m' ((c.tc : Thread Cert.Step0RefIdeal.nD Cert.Step0RefIdeal.τ).loc Cert.Step0RefIdeal.main_arg3))

def preserves_Step1_Step1Ideal : Prop :=
  True

def algebraic_Step1Ideal_Step1RefIdeal [hStep1Ideal : Cert.Step1Ideal.Facts] [hStep1RefIdeal : Cert.Step1RefIdeal.Facts] : Prop :=
  ∀ (m : (ℓ : Loc Cert.Step1Ideal.nD Cert.Step1Ideal.τ Cert.Step1Ideal.sig) → Buf (Elt Ideal) ℓ) (g : Dev Cert.Step1Ideal.nD → PrngReg)
    (m' : (ℓ : Loc Cert.Step1RefIdeal.nD Cert.Step1RefIdeal.τ Cert.Step1RefIdeal.sig) → Buf (Elt Ideal) ℓ) (g' : Dev Cert.Step1RefIdeal.nD → PrngReg), Pre_Step1Ideal m →
    (∀ c : Dev Cert.Step1Ideal.nD,
      m' ((c.tc : Thread Cert.Step1RefIdeal.nD Cert.Step1RefIdeal.τ).loc Cert.Step1RefIdeal.main_arg0) = m ((c.tc : Thread Cert.Step1Ideal.nD Cert.Step1Ideal.τ).loc Cert.Step1Ideal.main_arg0)
      ∧ m' ((c.tc : Thread Cert.Step1RefIdeal.nD Cert.Step1RefIdeal.τ).loc Cert.Step1RefIdeal.main_arg1) = m ((c.tc : Thread Cert.Step1Ideal.nD Cert.Step1Ideal.τ).loc Cert.Step1Ideal.main_arg1)
      ∧ m' ((c.tc : Thread Cert.Step1RefIdeal.nD Cert.Step1RefIdeal.τ).loc Cert.Step1RefIdeal.main_arg2) = m ((c.tc : Thread Cert.Step1Ideal.nD Cert.Step1Ideal.τ).loc Cert.Step1Ideal.main_arg2)
      ∧ m' ((c.tc : Thread Cert.Step1RefIdeal.nD Cert.Step1RefIdeal.τ).loc Cert.Step1RefIdeal.main_arg3) = m ((c.tc : Thread Cert.Step1Ideal.nD Cert.Step1Ideal.τ).loc Cert.Step1Ideal.main_arg3)) →
    ∃ (v0 : (c : Dev Cert.Step1Ideal.nD) → Buf (Elt Ideal) ((c.tc : Thread Cert.Step1Ideal.nD Cert.Step1Ideal.τ).loc Cert.Step1Ideal.main_v0_0)) (v1 : (c : Dev Cert.Step1Ideal.nD) → Buf (Elt Ideal) ((c.tc : Thread Cert.Step1Ideal.nD Cert.Step1Ideal.τ).loc Cert.Step1Ideal.main_v0_1)) (v2 : (c : Dev Cert.Step1Ideal.nD) → Buf (Elt Ideal) ((c.tc : Thread Cert.Step1Ideal.nD Cert.Step1Ideal.τ).loc Cert.Step1Ideal.main_v0_2)),
      θ_run (Cert.Step1Ideal.defs (F := Ideal)) (onTc (τ := Cert.Step1Ideal.τ) (Cert.Step1Ideal.main (F := Ideal))) ⟨m, fun _ => 0, g⟩ (fun r => ∀ c : Dev Cert.Step1Ideal.nD,
          r.2.mem ((c.tc : Thread Cert.Step1Ideal.nD Cert.Step1Ideal.τ).loc Cert.Step1Ideal.main_v0_0) = v0 c
          ∧ r.2.mem ((c.tc : Thread Cert.Step1Ideal.nD Cert.Step1Ideal.τ).loc Cert.Step1Ideal.main_v0_1) = v1 c
          ∧ r.2.mem ((c.tc : Thread Cert.Step1Ideal.nD Cert.Step1Ideal.τ).loc Cert.Step1Ideal.main_v0_2) = v2 c
          ∧ r.2.mem ((c.tc : Thread Cert.Step1Ideal.nD Cert.Step1Ideal.τ).loc Cert.Step1Ideal.main_arg0) = m ((c.tc : Thread Cert.Step1Ideal.nD Cert.Step1Ideal.τ).loc Cert.Step1Ideal.main_arg0)
          ∧ r.2.mem ((c.tc : Thread Cert.Step1Ideal.nD Cert.Step1Ideal.τ).loc Cert.Step1Ideal.main_arg1) = m ((c.tc : Thread Cert.Step1Ideal.nD Cert.Step1Ideal.τ).loc Cert.Step1Ideal.main_arg1)
          ∧ r.2.mem ((c.tc : Thread Cert.Step1Ideal.nD Cert.Step1Ideal.τ).loc Cert.Step1Ideal.main_arg2) = m ((c.tc : Thread Cert.Step1Ideal.nD Cert.Step1Ideal.τ).loc Cert.Step1Ideal.main_arg2)
          ∧ r.2.mem ((c.tc : Thread Cert.Step1Ideal.nD Cert.Step1Ideal.τ).loc Cert.Step1Ideal.main_arg3) = m ((c.tc : Thread Cert.Step1Ideal.nD Cert.Step1Ideal.τ).loc Cert.Step1Ideal.main_arg3))
      ∧ θ_run (Cert.Step1RefIdeal.defs (F := Ideal)) (onTc (τ := Cert.Step1RefIdeal.τ) (Cert.Step1RefIdeal.main (F := Ideal))) ⟨m', fun _ => 0, g'⟩ (fun r => ∀ c : Dev Cert.Step1RefIdeal.nD,
          r.2.mem ((c.tc : Thread Cert.Step1RefIdeal.nD Cert.Step1RefIdeal.τ).loc Cert.Step1RefIdeal.main_v23) = v0 c
          ∧ r.2.mem ((c.tc : Thread Cert.Step1RefIdeal.nD Cert.Step1RefIdeal.τ).loc Cert.Step1RefIdeal.main_v4) = v1 c
          ∧ r.2.mem ((c.tc : Thread Cert.Step1RefIdeal.nD Cert.Step1RefIdeal.τ).loc Cert.Step1RefIdeal.main_v10) = v2 c
          ∧ r.2.mem ((c.tc : Thread Cert.Step1RefIdeal.nD Cert.Step1RefIdeal.τ).loc Cert.Step1RefIdeal.main_arg0) = m' ((c.tc : Thread Cert.Step1RefIdeal.nD Cert.Step1RefIdeal.τ).loc Cert.Step1RefIdeal.main_arg0)
          ∧ r.2.mem ((c.tc : Thread Cert.Step1RefIdeal.nD Cert.Step1RefIdeal.τ).loc Cert.Step1RefIdeal.main_arg1) = m' ((c.tc : Thread Cert.Step1RefIdeal.nD Cert.Step1RefIdeal.τ).loc Cert.Step1RefIdeal.main_arg1)
          ∧ r.2.mem ((c.tc : Thread Cert.Step1RefIdeal.nD Cert.Step1RefIdeal.τ).loc Cert.Step1RefIdeal.main_arg2) = m' ((c.tc : Thread Cert.Step1RefIdeal.nD Cert.Step1RefIdeal.τ).loc Cert.Step1RefIdeal.main_arg2)
          ∧ r.2.mem ((c.tc : Thread Cert.Step1RefIdeal.nD Cert.Step1RefIdeal.τ).loc Cert.Step1RefIdeal.main_arg3) = m' ((c.tc : Thread Cert.Step1RefIdeal.nD Cert.Step1RefIdeal.τ).loc Cert.Step1RefIdeal.main_arg3))

def preserves_Step2_Step2Ideal : Prop :=
  True

def algebraic_Step2Ideal_Step2RefIdeal [hStep2Ideal : Cert.Step2Ideal.Facts] [hStep2RefIdeal : Cert.Step2RefIdeal.Facts] : Prop :=
  ∀ (m : (ℓ : Loc Cert.Step2Ideal.nD Cert.Step2Ideal.τ Cert.Step2Ideal.sig) → Buf (Elt Ideal) ℓ) (g : Dev Cert.Step2Ideal.nD → PrngReg)
    (m' : (ℓ : Loc Cert.Step2RefIdeal.nD Cert.Step2RefIdeal.τ Cert.Step2RefIdeal.sig) → Buf (Elt Ideal) ℓ) (g' : Dev Cert.Step2RefIdeal.nD → PrngReg), Pre_Step2Ideal m →
    (∀ c : Dev Cert.Step2Ideal.nD,
      m' ((c.tc : Thread Cert.Step2RefIdeal.nD Cert.Step2RefIdeal.τ).loc Cert.Step2RefIdeal.main_arg0) = m ((c.tc : Thread Cert.Step2Ideal.nD Cert.Step2Ideal.τ).loc Cert.Step2Ideal.main_arg0)
      ∧ m' ((c.tc : Thread Cert.Step2RefIdeal.nD Cert.Step2RefIdeal.τ).loc Cert.Step2RefIdeal.main_arg1) = m ((c.tc : Thread Cert.Step2Ideal.nD Cert.Step2Ideal.τ).loc Cert.Step2Ideal.main_arg1)
      ∧ m' ((c.tc : Thread Cert.Step2RefIdeal.nD Cert.Step2RefIdeal.τ).loc Cert.Step2RefIdeal.main_arg2) = m ((c.tc : Thread Cert.Step2Ideal.nD Cert.Step2Ideal.τ).loc Cert.Step2Ideal.main_arg2)
      ∧ m' ((c.tc : Thread Cert.Step2RefIdeal.nD Cert.Step2RefIdeal.τ).loc Cert.Step2RefIdeal.main_arg3) = m ((c.tc : Thread Cert.Step2Ideal.nD Cert.Step2Ideal.τ).loc Cert.Step2Ideal.main_arg3)) →
    ∃ (v0 : (c : Dev Cert.Step2Ideal.nD) → Buf (Elt Ideal) ((c.tc : Thread Cert.Step2Ideal.nD Cert.Step2Ideal.τ).loc Cert.Step2Ideal.main_v0_0)) (v1 : (c : Dev Cert.Step2Ideal.nD) → Buf (Elt Ideal) ((c.tc : Thread Cert.Step2Ideal.nD Cert.Step2Ideal.τ).loc Cert.Step2Ideal.main_v0_1)) (v2 : (c : Dev Cert.Step2Ideal.nD) → Buf (Elt Ideal) ((c.tc : Thread Cert.Step2Ideal.nD Cert.Step2Ideal.τ).loc Cert.Step2Ideal.main_v0_2)),
      θ_run (Cert.Step2Ideal.defs (F := Ideal)) (onTc (τ := Cert.Step2Ideal.τ) (Cert.Step2Ideal.main (F := Ideal))) ⟨m, fun _ => 0, g⟩ (fun r => ∀ c : Dev Cert.Step2Ideal.nD,
          r.2.mem ((c.tc : Thread Cert.Step2Ideal.nD Cert.Step2Ideal.τ).loc Cert.Step2Ideal.main_v0_0) = v0 c
          ∧ r.2.mem ((c.tc : Thread Cert.Step2Ideal.nD Cert.Step2Ideal.τ).loc Cert.Step2Ideal.main_v0_1) = v1 c
          ∧ r.2.mem ((c.tc : Thread Cert.Step2Ideal.nD Cert.Step2Ideal.τ).loc Cert.Step2Ideal.main_v0_2) = v2 c
          ∧ r.2.mem ((c.tc : Thread Cert.Step2Ideal.nD Cert.Step2Ideal.τ).loc Cert.Step2Ideal.main_arg0) = m ((c.tc : Thread Cert.Step2Ideal.nD Cert.Step2Ideal.τ).loc Cert.Step2Ideal.main_arg0)
          ∧ r.2.mem ((c.tc : Thread Cert.Step2Ideal.nD Cert.Step2Ideal.τ).loc Cert.Step2Ideal.main_arg1) = m ((c.tc : Thread Cert.Step2Ideal.nD Cert.Step2Ideal.τ).loc Cert.Step2Ideal.main_arg1)
          ∧ r.2.mem ((c.tc : Thread Cert.Step2Ideal.nD Cert.Step2Ideal.τ).loc Cert.Step2Ideal.main_arg2) = m ((c.tc : Thread Cert.Step2Ideal.nD Cert.Step2Ideal.τ).loc Cert.Step2Ideal.main_arg2)
          ∧ r.2.mem ((c.tc : Thread Cert.Step2Ideal.nD Cert.Step2Ideal.τ).loc Cert.Step2Ideal.main_arg3) = m ((c.tc : Thread Cert.Step2Ideal.nD Cert.Step2Ideal.τ).loc Cert.Step2Ideal.main_arg3))
      ∧ θ_run (Cert.Step2RefIdeal.defs (F := Ideal)) (onTc (τ := Cert.Step2RefIdeal.τ) (Cert.Step2RefIdeal.main (F := Ideal))) ⟨m', fun _ => 0, g'⟩ (fun r => ∀ c : Dev Cert.Step2RefIdeal.nD,
          r.2.mem ((c.tc : Thread Cert.Step2RefIdeal.nD Cert.Step2RefIdeal.τ).loc Cert.Step2RefIdeal.main_v23) = v0 c
          ∧ r.2.mem ((c.tc : Thread Cert.Step2RefIdeal.nD Cert.Step2RefIdeal.τ).loc Cert.Step2RefIdeal.main_v4) = v1 c
          ∧ r.2.mem ((c.tc : Thread Cert.Step2RefIdeal.nD Cert.Step2RefIdeal.τ).loc Cert.Step2RefIdeal.main_v10) = v2 c
          ∧ r.2.mem ((c.tc : Thread Cert.Step2RefIdeal.nD Cert.Step2RefIdeal.τ).loc Cert.Step2RefIdeal.main_arg0) = m' ((c.tc : Thread Cert.Step2RefIdeal.nD Cert.Step2RefIdeal.τ).loc Cert.Step2RefIdeal.main_arg0)
          ∧ r.2.mem ((c.tc : Thread Cert.Step2RefIdeal.nD Cert.Step2RefIdeal.τ).loc Cert.Step2RefIdeal.main_arg1) = m' ((c.tc : Thread Cert.Step2RefIdeal.nD Cert.Step2RefIdeal.τ).loc Cert.Step2RefIdeal.main_arg1)
          ∧ r.2.mem ((c.tc : Thread Cert.Step2RefIdeal.nD Cert.Step2RefIdeal.τ).loc Cert.Step2RefIdeal.main_arg2) = m' ((c.tc : Thread Cert.Step2RefIdeal.nD Cert.Step2RefIdeal.τ).loc Cert.Step2RefIdeal.main_arg2)
          ∧ r.2.mem ((c.tc : Thread Cert.Step2RefIdeal.nD Cert.Step2RefIdeal.τ).loc Cert.Step2RefIdeal.main_arg3) = m' ((c.tc : Thread Cert.Step2RefIdeal.nD Cert.Step2RefIdeal.τ).loc Cert.Step2RefIdeal.main_arg3))

def preserves_Step3_Step3Ideal : Prop :=
  True

def algebraic_Step3Ideal_Step3RefIdeal [hStep3Ideal : Cert.Step3Ideal.Facts] [hStep3RefIdeal : Cert.Step3RefIdeal.Facts] : Prop :=
  ∀ (m : (ℓ : Loc Cert.Step3Ideal.nD Cert.Step3Ideal.τ Cert.Step3Ideal.sig) → Buf (Elt Ideal) ℓ) (g : Dev Cert.Step3Ideal.nD → PrngReg)
    (m' : (ℓ : Loc Cert.Step3RefIdeal.nD Cert.Step3RefIdeal.τ Cert.Step3RefIdeal.sig) → Buf (Elt Ideal) ℓ) (g' : Dev Cert.Step3RefIdeal.nD → PrngReg), Pre_Step3Ideal m →
    (∀ c : Dev Cert.Step3Ideal.nD,
      m' ((c.tc : Thread Cert.Step3RefIdeal.nD Cert.Step3RefIdeal.τ).loc Cert.Step3RefIdeal.main_arg0) = m ((c.tc : Thread Cert.Step3Ideal.nD Cert.Step3Ideal.τ).loc Cert.Step3Ideal.main_arg0)
      ∧ m' ((c.tc : Thread Cert.Step3RefIdeal.nD Cert.Step3RefIdeal.τ).loc Cert.Step3RefIdeal.main_arg1) = m ((c.tc : Thread Cert.Step3Ideal.nD Cert.Step3Ideal.τ).loc Cert.Step3Ideal.main_arg1)
      ∧ m' ((c.tc : Thread Cert.Step3RefIdeal.nD Cert.Step3RefIdeal.τ).loc Cert.Step3RefIdeal.main_arg2) = m ((c.tc : Thread Cert.Step3Ideal.nD Cert.Step3Ideal.τ).loc Cert.Step3Ideal.main_arg2)
      ∧ m' ((c.tc : Thread Cert.Step3RefIdeal.nD Cert.Step3RefIdeal.τ).loc Cert.Step3RefIdeal.main_arg3) = m ((c.tc : Thread Cert.Step3Ideal.nD Cert.Step3Ideal.τ).loc Cert.Step3Ideal.main_arg3)) →
    ∃ (v0 : (c : Dev Cert.Step3Ideal.nD) → Buf (Elt Ideal) ((c.tc : Thread Cert.Step3Ideal.nD Cert.Step3Ideal.τ).loc Cert.Step3Ideal.main_v0_0)) (v1 : (c : Dev Cert.Step3Ideal.nD) → Buf (Elt Ideal) ((c.tc : Thread Cert.Step3Ideal.nD Cert.Step3Ideal.τ).loc Cert.Step3Ideal.main_v0_1)) (v2 : (c : Dev Cert.Step3Ideal.nD) → Buf (Elt Ideal) ((c.tc : Thread Cert.Step3Ideal.nD Cert.Step3Ideal.τ).loc Cert.Step3Ideal.main_v0_2)),
      θ_run (Cert.Step3Ideal.defs (F := Ideal)) (onTc (τ := Cert.Step3Ideal.τ) (Cert.Step3Ideal.main (F := Ideal))) ⟨m, fun _ => 0, g⟩ (fun r => ∀ c : Dev Cert.Step3Ideal.nD,
          r.2.mem ((c.tc : Thread Cert.Step3Ideal.nD Cert.Step3Ideal.τ).loc Cert.Step3Ideal.main_v0_0) = v0 c
          ∧ r.2.mem ((c.tc : Thread Cert.Step3Ideal.nD Cert.Step3Ideal.τ).loc Cert.Step3Ideal.main_v0_1) = v1 c
          ∧ r.2.mem ((c.tc : Thread Cert.Step3Ideal.nD Cert.Step3Ideal.τ).loc Cert.Step3Ideal.main_v0_2) = v2 c
          ∧ r.2.mem ((c.tc : Thread Cert.Step3Ideal.nD Cert.Step3Ideal.τ).loc Cert.Step3Ideal.main_arg0) = m ((c.tc : Thread Cert.Step3Ideal.nD Cert.Step3Ideal.τ).loc Cert.Step3Ideal.main_arg0)
          ∧ r.2.mem ((c.tc : Thread Cert.Step3Ideal.nD Cert.Step3Ideal.τ).loc Cert.Step3Ideal.main_arg1) = m ((c.tc : Thread Cert.Step3Ideal.nD Cert.Step3Ideal.τ).loc Cert.Step3Ideal.main_arg1)
          ∧ r.2.mem ((c.tc : Thread Cert.Step3Ideal.nD Cert.Step3Ideal.τ).loc Cert.Step3Ideal.main_arg2) = m ((c.tc : Thread Cert.Step3Ideal.nD Cert.Step3Ideal.τ).loc Cert.Step3Ideal.main_arg2)
          ∧ r.2.mem ((c.tc : Thread Cert.Step3Ideal.nD Cert.Step3Ideal.τ).loc Cert.Step3Ideal.main_arg3) = m ((c.tc : Thread Cert.Step3Ideal.nD Cert.Step3Ideal.τ).loc Cert.Step3Ideal.main_arg3))
      ∧ θ_run (Cert.Step3RefIdeal.defs (F := Ideal)) (onTc (τ := Cert.Step3RefIdeal.τ) (Cert.Step3RefIdeal.main (F := Ideal))) ⟨m', fun _ => 0, g'⟩ (fun r => ∀ c : Dev Cert.Step3RefIdeal.nD,
          r.2.mem ((c.tc : Thread Cert.Step3RefIdeal.nD Cert.Step3RefIdeal.τ).loc Cert.Step3RefIdeal.main_v23) = v0 c
          ∧ r.2.mem ((c.tc : Thread Cert.Step3RefIdeal.nD Cert.Step3RefIdeal.τ).loc Cert.Step3RefIdeal.main_v4) = v1 c
          ∧ r.2.mem ((c.tc : Thread Cert.Step3RefIdeal.nD Cert.Step3RefIdeal.τ).loc Cert.Step3RefIdeal.main_v10) = v2 c
          ∧ r.2.mem ((c.tc : Thread Cert.Step3RefIdeal.nD Cert.Step3RefIdeal.τ).loc Cert.Step3RefIdeal.main_arg0) = m' ((c.tc : Thread Cert.Step3RefIdeal.nD Cert.Step3RefIdeal.τ).loc Cert.Step3RefIdeal.main_arg0)
          ∧ r.2.mem ((c.tc : Thread Cert.Step3RefIdeal.nD Cert.Step3RefIdeal.τ).loc Cert.Step3RefIdeal.main_arg1) = m' ((c.tc : Thread Cert.Step3RefIdeal.nD Cert.Step3RefIdeal.τ).loc Cert.Step3RefIdeal.main_arg1)
          ∧ r.2.mem ((c.tc : Thread Cert.Step3RefIdeal.nD Cert.Step3RefIdeal.τ).loc Cert.Step3RefIdeal.main_arg2) = m' ((c.tc : Thread Cert.Step3RefIdeal.nD Cert.Step3RefIdeal.τ).loc Cert.Step3RefIdeal.main_arg2)
          ∧ r.2.mem ((c.tc : Thread Cert.Step3RefIdeal.nD Cert.Step3RefIdeal.τ).loc Cert.Step3RefIdeal.main_arg3) = m' ((c.tc : Thread Cert.Step3RefIdeal.nD Cert.Step3RefIdeal.τ).loc Cert.Step3RefIdeal.main_arg3))

def preserves_Step4_Step4Ideal : Prop :=
  True

def algebraic_Step4Ideal_Step4RefIdeal [hStep4Ideal : Cert.Step4Ideal.Facts] [hStep4RefIdeal : Cert.Step4RefIdeal.Facts] : Prop :=
  ∀ (m : (ℓ : Loc Cert.Step4Ideal.nD Cert.Step4Ideal.τ Cert.Step4Ideal.sig) → Buf (Elt Ideal) ℓ) (g : Dev Cert.Step4Ideal.nD → PrngReg)
    (m' : (ℓ : Loc Cert.Step4RefIdeal.nD Cert.Step4RefIdeal.τ Cert.Step4RefIdeal.sig) → Buf (Elt Ideal) ℓ) (g' : Dev Cert.Step4RefIdeal.nD → PrngReg), Pre_Step4Ideal m →
    (∀ c : Dev Cert.Step4Ideal.nD,
      m' ((c.tc : Thread Cert.Step4RefIdeal.nD Cert.Step4RefIdeal.τ).loc Cert.Step4RefIdeal.main_arg0) = m ((c.tc : Thread Cert.Step4Ideal.nD Cert.Step4Ideal.τ).loc Cert.Step4Ideal.main_arg0)
      ∧ m' ((c.tc : Thread Cert.Step4RefIdeal.nD Cert.Step4RefIdeal.τ).loc Cert.Step4RefIdeal.main_arg1) = m ((c.tc : Thread Cert.Step4Ideal.nD Cert.Step4Ideal.τ).loc Cert.Step4Ideal.main_arg1)
      ∧ m' ((c.tc : Thread Cert.Step4RefIdeal.nD Cert.Step4RefIdeal.τ).loc Cert.Step4RefIdeal.main_arg2) = m ((c.tc : Thread Cert.Step4Ideal.nD Cert.Step4Ideal.τ).loc Cert.Step4Ideal.main_arg2)
      ∧ m' ((c.tc : Thread Cert.Step4RefIdeal.nD Cert.Step4RefIdeal.τ).loc Cert.Step4RefIdeal.main_arg3) = m ((c.tc : Thread Cert.Step4Ideal.nD Cert.Step4Ideal.τ).loc Cert.Step4Ideal.main_arg3)) →
    ∃ (v0 : (c : Dev Cert.Step4Ideal.nD) → Buf (Elt Ideal) ((c.tc : Thread Cert.Step4Ideal.nD Cert.Step4Ideal.τ).loc Cert.Step4Ideal.main_v0_0)) (v1 : (c : Dev Cert.Step4Ideal.nD) → Buf (Elt Ideal) ((c.tc : Thread Cert.Step4Ideal.nD Cert.Step4Ideal.τ).loc Cert.Step4Ideal.main_v0_1)) (v2 : (c : Dev Cert.Step4Ideal.nD) → Buf (Elt Ideal) ((c.tc : Thread Cert.Step4Ideal.nD Cert.Step4Ideal.τ).loc Cert.Step4Ideal.main_v0_2)),
      θ_run (Cert.Step4Ideal.defs (F := Ideal)) (onTc (τ := Cert.Step4Ideal.τ) (Cert.Step4Ideal.main (F := Ideal))) ⟨m, fun _ => 0, g⟩ (fun r => ∀ c : Dev Cert.Step4Ideal.nD,
          r.2.mem ((c.tc : Thread Cert.Step4Ideal.nD Cert.Step4Ideal.τ).loc Cert.Step4Ideal.main_v0_0) = v0 c
          ∧ r.2.mem ((c.tc : Thread Cert.Step4Ideal.nD Cert.Step4Ideal.τ).loc Cert.Step4Ideal.main_v0_1) = v1 c
          ∧ r.2.mem ((c.tc : Thread Cert.Step4Ideal.nD Cert.Step4Ideal.τ).loc Cert.Step4Ideal.main_v0_2) = v2 c
          ∧ r.2.mem ((c.tc : Thread Cert.Step4Ideal.nD Cert.Step4Ideal.τ).loc Cert.Step4Ideal.main_arg0) = m ((c.tc : Thread Cert.Step4Ideal.nD Cert.Step4Ideal.τ).loc Cert.Step4Ideal.main_arg0)
          ∧ r.2.mem ((c.tc : Thread Cert.Step4Ideal.nD Cert.Step4Ideal.τ).loc Cert.Step4Ideal.main_arg1) = m ((c.tc : Thread Cert.Step4Ideal.nD Cert.Step4Ideal.τ).loc Cert.Step4Ideal.main_arg1)
          ∧ r.2.mem ((c.tc : Thread Cert.Step4Ideal.nD Cert.Step4Ideal.τ).loc Cert.Step4Ideal.main_arg2) = m ((c.tc : Thread Cert.Step4Ideal.nD Cert.Step4Ideal.τ).loc Cert.Step4Ideal.main_arg2)
          ∧ r.2.mem ((c.tc : Thread Cert.Step4Ideal.nD Cert.Step4Ideal.τ).loc Cert.Step4Ideal.main_arg3) = m ((c.tc : Thread Cert.Step4Ideal.nD Cert.Step4Ideal.τ).loc Cert.Step4Ideal.main_arg3))
      ∧ θ_run (Cert.Step4RefIdeal.defs (F := Ideal)) (onTc (τ := Cert.Step4RefIdeal.τ) (Cert.Step4RefIdeal.main (F := Ideal))) ⟨m', fun _ => 0, g'⟩ (fun r => ∀ c : Dev Cert.Step4RefIdeal.nD,
          r.2.mem ((c.tc : Thread Cert.Step4RefIdeal.nD Cert.Step4RefIdeal.τ).loc Cert.Step4RefIdeal.main_v23) = v0 c
          ∧ r.2.mem ((c.tc : Thread Cert.Step4RefIdeal.nD Cert.Step4RefIdeal.τ).loc Cert.Step4RefIdeal.main_v4) = v1 c
          ∧ r.2.mem ((c.tc : Thread Cert.Step4RefIdeal.nD Cert.Step4RefIdeal.τ).loc Cert.Step4RefIdeal.main_v10) = v2 c
          ∧ r.2.mem ((c.tc : Thread Cert.Step4RefIdeal.nD Cert.Step4RefIdeal.τ).loc Cert.Step4RefIdeal.main_arg0) = m' ((c.tc : Thread Cert.Step4RefIdeal.nD Cert.Step4RefIdeal.τ).loc Cert.Step4RefIdeal.main_arg0)
          ∧ r.2.mem ((c.tc : Thread Cert.Step4RefIdeal.nD Cert.Step4RefIdeal.τ).loc Cert.Step4RefIdeal.main_arg1) = m' ((c.tc : Thread Cert.Step4RefIdeal.nD Cert.Step4RefIdeal.τ).loc Cert.Step4RefIdeal.main_arg1)
          ∧ r.2.mem ((c.tc : Thread Cert.Step4RefIdeal.nD Cert.Step4RefIdeal.τ).loc Cert.Step4RefIdeal.main_arg2) = m' ((c.tc : Thread Cert.Step4RefIdeal.nD Cert.Step4RefIdeal.τ).loc Cert.Step4RefIdeal.main_arg2)
          ∧ r.2.mem ((c.tc : Thread Cert.Step4RefIdeal.nD Cert.Step4RefIdeal.τ).loc Cert.Step4RefIdeal.main_arg3) = m' ((c.tc : Thread Cert.Step4RefIdeal.nD Cert.Step4RefIdeal.τ).loc Cert.Step4RefIdeal.main_arg3))

def preserves_Step5_Step5Ideal : Prop :=
  True

def algebraic_Step5Ideal_Step5RefIdeal [hStep5Ideal : Cert.Step5Ideal.Facts] [hStep5RefIdeal : Cert.Step5RefIdeal.Facts] : Prop :=
  ∀ (m : (ℓ : Loc Cert.Step5Ideal.nD Cert.Step5Ideal.τ Cert.Step5Ideal.sig) → Buf (Elt Ideal) ℓ) (g : Dev Cert.Step5Ideal.nD → PrngReg)
    (m' : (ℓ : Loc Cert.Step5RefIdeal.nD Cert.Step5RefIdeal.τ Cert.Step5RefIdeal.sig) → Buf (Elt Ideal) ℓ) (g' : Dev Cert.Step5RefIdeal.nD → PrngReg), Pre_Step5Ideal m →
    (∀ c : Dev Cert.Step5Ideal.nD,
      m' ((c.tc : Thread Cert.Step5RefIdeal.nD Cert.Step5RefIdeal.τ).loc Cert.Step5RefIdeal.main_arg0) = m ((c.tc : Thread Cert.Step5Ideal.nD Cert.Step5Ideal.τ).loc Cert.Step5Ideal.main_arg0)
      ∧ m' ((c.tc : Thread Cert.Step5RefIdeal.nD Cert.Step5RefIdeal.τ).loc Cert.Step5RefIdeal.main_arg1) = m ((c.tc : Thread Cert.Step5Ideal.nD Cert.Step5Ideal.τ).loc Cert.Step5Ideal.main_arg1)
      ∧ m' ((c.tc : Thread Cert.Step5RefIdeal.nD Cert.Step5RefIdeal.τ).loc Cert.Step5RefIdeal.main_arg2) = m ((c.tc : Thread Cert.Step5Ideal.nD Cert.Step5Ideal.τ).loc Cert.Step5Ideal.main_arg2)
      ∧ m' ((c.tc : Thread Cert.Step5RefIdeal.nD Cert.Step5RefIdeal.τ).loc Cert.Step5RefIdeal.main_arg3) = m ((c.tc : Thread Cert.Step5Ideal.nD Cert.Step5Ideal.τ).loc Cert.Step5Ideal.main_arg3)) →
    ∃ (v0 : (c : Dev Cert.Step5Ideal.nD) → Buf (Elt Ideal) ((c.tc : Thread Cert.Step5Ideal.nD Cert.Step5Ideal.τ).loc Cert.Step5Ideal.main_v0_0)) (v1 : (c : Dev Cert.Step5Ideal.nD) → Buf (Elt Ideal) ((c.tc : Thread Cert.Step5Ideal.nD Cert.Step5Ideal.τ).loc Cert.Step5Ideal.main_v0_1)) (v2 : (c : Dev Cert.Step5Ideal.nD) → Buf (Elt Ideal) ((c.tc : Thread Cert.Step5Ideal.nD Cert.Step5Ideal.τ).loc Cert.Step5Ideal.main_v0_2)),
      θ_run (Cert.Step5Ideal.defs (F := Ideal)) (onTc (τ := Cert.Step5Ideal.τ) (Cert.Step5Ideal.main (F := Ideal))) ⟨m, fun _ => 0, g⟩ (fun r => ∀ c : Dev Cert.Step5Ideal.nD,
          r.2.mem ((c.tc : Thread Cert.Step5Ideal.nD Cert.Step5Ideal.τ).loc Cert.Step5Ideal.main_v0_0) = v0 c
          ∧ r.2.mem ((c.tc : Thread Cert.Step5Ideal.nD Cert.Step5Ideal.τ).loc Cert.Step5Ideal.main_v0_1) = v1 c
          ∧ r.2.mem ((c.tc : Thread Cert.Step5Ideal.nD Cert.Step5Ideal.τ).loc Cert.Step5Ideal.main_v0_2) = v2 c
          ∧ r.2.mem ((c.tc : Thread Cert.Step5Ideal.nD Cert.Step5Ideal.τ).loc Cert.Step5Ideal.main_arg0) = m ((c.tc : Thread Cert.Step5Ideal.nD Cert.Step5Ideal.τ).loc Cert.Step5Ideal.main_arg0)
          ∧ r.2.mem ((c.tc : Thread Cert.Step5Ideal.nD Cert.Step5Ideal.τ).loc Cert.Step5Ideal.main_arg1) = m ((c.tc : Thread Cert.Step5Ideal.nD Cert.Step5Ideal.τ).loc Cert.Step5Ideal.main_arg1)
          ∧ r.2.mem ((c.tc : Thread Cert.Step5Ideal.nD Cert.Step5Ideal.τ).loc Cert.Step5Ideal.main_arg2) = m ((c.tc : Thread Cert.Step5Ideal.nD Cert.Step5Ideal.τ).loc Cert.Step5Ideal.main_arg2)
          ∧ r.2.mem ((c.tc : Thread Cert.Step5Ideal.nD Cert.Step5Ideal.τ).loc Cert.Step5Ideal.main_arg3) = m ((c.tc : Thread Cert.Step5Ideal.nD Cert.Step5Ideal.τ).loc Cert.Step5Ideal.main_arg3))
      ∧ θ_run (Cert.Step5RefIdeal.defs (F := Ideal)) (onTc (τ := Cert.Step5RefIdeal.τ) (Cert.Step5RefIdeal.main (F := Ideal))) ⟨m', fun _ => 0, g'⟩ (fun r => ∀ c : Dev Cert.Step5RefIdeal.nD,
          r.2.mem ((c.tc : Thread Cert.Step5RefIdeal.nD Cert.Step5RefIdeal.τ).loc Cert.Step5RefIdeal.main_v23) = v0 c
          ∧ r.2.mem ((c.tc : Thread Cert.Step5RefIdeal.nD Cert.Step5RefIdeal.τ).loc Cert.Step5RefIdeal.main_v4) = v1 c
          ∧ r.2.mem ((c.tc : Thread Cert.Step5RefIdeal.nD Cert.Step5RefIdeal.τ).loc Cert.Step5RefIdeal.main_v10) = v2 c
          ∧ r.2.mem ((c.tc : Thread Cert.Step5RefIdeal.nD Cert.Step5RefIdeal.τ).loc Cert.Step5RefIdeal.main_arg0) = m' ((c.tc : Thread Cert.Step5RefIdeal.nD Cert.Step5RefIdeal.τ).loc Cert.Step5RefIdeal.main_arg0)
          ∧ r.2.mem ((c.tc : Thread Cert.Step5RefIdeal.nD Cert.Step5RefIdeal.τ).loc Cert.Step5RefIdeal.main_arg1) = m' ((c.tc : Thread Cert.Step5RefIdeal.nD Cert.Step5RefIdeal.τ).loc Cert.Step5RefIdeal.main_arg1)
          ∧ r.2.mem ((c.tc : Thread Cert.Step5RefIdeal.nD Cert.Step5RefIdeal.τ).loc Cert.Step5RefIdeal.main_arg2) = m' ((c.tc : Thread Cert.Step5RefIdeal.nD Cert.Step5RefIdeal.τ).loc Cert.Step5RefIdeal.main_arg2)
          ∧ r.2.mem ((c.tc : Thread Cert.Step5RefIdeal.nD Cert.Step5RefIdeal.τ).loc Cert.Step5RefIdeal.main_arg3) = m' ((c.tc : Thread Cert.Step5RefIdeal.nD Cert.Step5RefIdeal.τ).loc Cert.Step5RefIdeal.main_arg3))

def preserves_Step6_Step6Ideal : Prop :=
  True

def algebraic_Step6Ideal_Step6RefIdeal [hStep6Ideal : Cert.Step6Ideal.Facts] [hStep6RefIdeal : Cert.Step6RefIdeal.Facts] : Prop :=
  ∀ (m : (ℓ : Loc Cert.Step6Ideal.nD Cert.Step6Ideal.τ Cert.Step6Ideal.sig) → Buf (Elt Ideal) ℓ) (g : Dev Cert.Step6Ideal.nD → PrngReg)
    (m' : (ℓ : Loc Cert.Step6RefIdeal.nD Cert.Step6RefIdeal.τ Cert.Step6RefIdeal.sig) → Buf (Elt Ideal) ℓ) (g' : Dev Cert.Step6RefIdeal.nD → PrngReg), Pre_Step6Ideal m →
    (∀ c : Dev Cert.Step6Ideal.nD,
      m' ((c.tc : Thread Cert.Step6RefIdeal.nD Cert.Step6RefIdeal.τ).loc Cert.Step6RefIdeal.main_arg0) = m ((c.tc : Thread Cert.Step6Ideal.nD Cert.Step6Ideal.τ).loc Cert.Step6Ideal.main_arg0)
      ∧ m' ((c.tc : Thread Cert.Step6RefIdeal.nD Cert.Step6RefIdeal.τ).loc Cert.Step6RefIdeal.main_arg1) = m ((c.tc : Thread Cert.Step6Ideal.nD Cert.Step6Ideal.τ).loc Cert.Step6Ideal.main_arg1)
      ∧ m' ((c.tc : Thread Cert.Step6RefIdeal.nD Cert.Step6RefIdeal.τ).loc Cert.Step6RefIdeal.main_arg2) = m ((c.tc : Thread Cert.Step6Ideal.nD Cert.Step6Ideal.τ).loc Cert.Step6Ideal.main_arg2)
      ∧ m' ((c.tc : Thread Cert.Step6RefIdeal.nD Cert.Step6RefIdeal.τ).loc Cert.Step6RefIdeal.main_arg3) = m ((c.tc : Thread Cert.Step6Ideal.nD Cert.Step6Ideal.τ).loc Cert.Step6Ideal.main_arg3)) →
    ∃ (v0 : (c : Dev Cert.Step6Ideal.nD) → Buf (Elt Ideal) ((c.tc : Thread Cert.Step6Ideal.nD Cert.Step6Ideal.τ).loc Cert.Step6Ideal.main_v0_0)) (v1 : (c : Dev Cert.Step6Ideal.nD) → Buf (Elt Ideal) ((c.tc : Thread Cert.Step6Ideal.nD Cert.Step6Ideal.τ).loc Cert.Step6Ideal.main_v0_1)) (v2 : (c : Dev Cert.Step6Ideal.nD) → Buf (Elt Ideal) ((c.tc : Thread Cert.Step6Ideal.nD Cert.Step6Ideal.τ).loc Cert.Step6Ideal.main_v0_2)),
      θ_run (Cert.Step6Ideal.defs (F := Ideal)) (onTc (τ := Cert.Step6Ideal.τ) (Cert.Step6Ideal.main (F := Ideal))) ⟨m, fun _ => 0, g⟩ (fun r => ∀ c : Dev Cert.Step6Ideal.nD,
          r.2.mem ((c.tc : Thread Cert.Step6Ideal.nD Cert.Step6Ideal.τ).loc Cert.Step6Ideal.main_v0_0) = v0 c
          ∧ r.2.mem ((c.tc : Thread Cert.Step6Ideal.nD Cert.Step6Ideal.τ).loc Cert.Step6Ideal.main_v0_1) = v1 c
          ∧ r.2.mem ((c.tc : Thread Cert.Step6Ideal.nD Cert.Step6Ideal.τ).loc Cert.Step6Ideal.main_v0_2) = v2 c
          ∧ r.2.mem ((c.tc : Thread Cert.Step6Ideal.nD Cert.Step6Ideal.τ).loc Cert.Step6Ideal.main_arg0) = m ((c.tc : Thread Cert.Step6Ideal.nD Cert.Step6Ideal.τ).loc Cert.Step6Ideal.main_arg0)
          ∧ r.2.mem ((c.tc : Thread Cert.Step6Ideal.nD Cert.Step6Ideal.τ).loc Cert.Step6Ideal.main_arg1) = m ((c.tc : Thread Cert.Step6Ideal.nD Cert.Step6Ideal.τ).loc Cert.Step6Ideal.main_arg1)
          ∧ r.2.mem ((c.tc : Thread Cert.Step6Ideal.nD Cert.Step6Ideal.τ).loc Cert.Step6Ideal.main_arg2) = m ((c.tc : Thread Cert.Step6Ideal.nD Cert.Step6Ideal.τ).loc Cert.Step6Ideal.main_arg2)
          ∧ r.2.mem ((c.tc : Thread Cert.Step6Ideal.nD Cert.Step6Ideal.τ).loc Cert.Step6Ideal.main_arg3) = m ((c.tc : Thread Cert.Step6Ideal.nD Cert.Step6Ideal.τ).loc Cert.Step6Ideal.main_arg3))
      ∧ θ_run (Cert.Step6RefIdeal.defs (F := Ideal)) (onTc (τ := Cert.Step6RefIdeal.τ) (Cert.Step6RefIdeal.main (F := Ideal))) ⟨m', fun _ => 0, g'⟩ (fun r => ∀ c : Dev Cert.Step6RefIdeal.nD,
          r.2.mem ((c.tc : Thread Cert.Step6RefIdeal.nD Cert.Step6RefIdeal.τ).loc Cert.Step6RefIdeal.main_v23) = v0 c
          ∧ r.2.mem ((c.tc : Thread Cert.Step6RefIdeal.nD Cert.Step6RefIdeal.τ).loc Cert.Step6RefIdeal.main_v4) = v1 c
          ∧ r.2.mem ((c.tc : Thread Cert.Step6RefIdeal.nD Cert.Step6RefIdeal.τ).loc Cert.Step6RefIdeal.main_v10) = v2 c
          ∧ r.2.mem ((c.tc : Thread Cert.Step6RefIdeal.nD Cert.Step6RefIdeal.τ).loc Cert.Step6RefIdeal.main_arg0) = m' ((c.tc : Thread Cert.Step6RefIdeal.nD Cert.Step6RefIdeal.τ).loc Cert.Step6RefIdeal.main_arg0)
          ∧ r.2.mem ((c.tc : Thread Cert.Step6RefIdeal.nD Cert.Step6RefIdeal.τ).loc Cert.Step6RefIdeal.main_arg1) = m' ((c.tc : Thread Cert.Step6RefIdeal.nD Cert.Step6RefIdeal.τ).loc Cert.Step6RefIdeal.main_arg1)
          ∧ r.2.mem ((c.tc : Thread Cert.Step6RefIdeal.nD Cert.Step6RefIdeal.τ).loc Cert.Step6RefIdeal.main_arg2) = m' ((c.tc : Thread Cert.Step6RefIdeal.nD Cert.Step6RefIdeal.τ).loc Cert.Step6RefIdeal.main_arg2)
          ∧ r.2.mem ((c.tc : Thread Cert.Step6RefIdeal.nD Cert.Step6RefIdeal.τ).loc Cert.Step6RefIdeal.main_arg3) = m' ((c.tc : Thread Cert.Step6RefIdeal.nD Cert.Step6RefIdeal.τ).loc Cert.Step6RefIdeal.main_arg3))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v35) = v0 c
          ∧ r.2.mem ((c.tc : Thread Cert.HeadRefIdeal.nD Cert.HeadRefIdeal.τ).loc Cert.HeadRefIdeal.main_v34) = v1 c
          ∧ r.2.mem ((c.tc : Thread Cert.HeadRefIdeal.nD Cert.HeadRefIdeal.τ).loc Cert.HeadRefIdeal.main_v40) = v2 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8, 128]⟩ ⟨2, ![64, 128]⟩ 0 8 c (m' (((0 : Dev Cert.LossRefIdeal.nD).tc : Thread Cert.LossRefIdeal.nD Cert.LossRefIdeal.τ).loc Cert.LossRefIdeal.main_arg0))) →
    ∃ (v0 : Buf (Elt Ideal) (((0 : Dev Cert.LossRefIdeal.nD).tc : Thread Cert.LossRefIdeal.nD Cert.LossRefIdeal.τ).loc Cert.LossRefIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ θ_run (Cert.LossRefIdeal.defs (F := Ideal)) (onTc (τ := Cert.LossRefIdeal.τ) (Cert.LossRefIdeal.main (F := Ideal))) ⟨m', fun _ => 0, g'⟩ (fun r =>
          r.2.mem (((0 : Dev Cert.LossRefIdeal.nD).tc : Thread Cert.LossRefIdeal.nD Cert.LossRefIdeal.τ).loc Cert.LossRefIdeal.main_v2) = v0
          ∧ r.2.mem (((0 : Dev Cert.LossRefIdeal.nD).tc : Thread Cert.LossRefIdeal.nD Cert.LossRefIdeal.τ).loc Cert.LossRefIdeal.main_arg0) = m' (((0 : Dev Cert.LossRefIdeal.nD).tc : Thread Cert.LossRefIdeal.nD Cert.LossRefIdeal.τ).loc Cert.LossRefIdeal.main_arg0))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v22) = v0 c
          ∧ r.2.mem ((c.tc : Thread Cert.BackRefIdeal.nD Cert.BackRefIdeal.τ).loc Cert.BackRefIdeal.main_v27) = v1 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v12) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v12) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0))

def preserves_ActBack_ActBackIdeal : Prop :=
  True

def algebraic_ActBackIdeal_ActBackRefIdeal [hActBackIdeal : Cert.ActBackIdeal.Facts] [hActBackRefIdeal : Cert.ActBackRefIdeal.Facts] : Prop :=
  ∀ (m : (ℓ : Loc Cert.ActBackIdeal.nD Cert.ActBackIdeal.τ Cert.ActBackIdeal.sig) → Buf (Elt Ideal) ℓ) (g : Dev Cert.ActBackIdeal.nD → PrngReg)
    (m' : (ℓ : Loc Cert.ActBackRefIdeal.nD Cert.ActBackRefIdeal.τ Cert.ActBackRefIdeal.sig) → Buf (Elt Ideal) ℓ) (g' : Dev Cert.ActBackRefIdeal.nD → PrngReg), Pre_ActBackIdeal m →
    (∀ c : Dev Cert.ActBackIdeal.nD,
      m' ((c.tc : Thread Cert.ActBackRefIdeal.nD Cert.ActBackRefIdeal.τ).loc Cert.ActBackRefIdeal.main_arg0) = m ((c.tc : Thread Cert.ActBackIdeal.nD Cert.ActBackIdeal.τ).loc Cert.ActBackIdeal.main_arg0)
      ∧ m' ((c.tc : Thread Cert.ActBackRefIdeal.nD Cert.ActBackRefIdeal.τ).loc Cert.ActBackRefIdeal.main_arg1) = m ((c.tc : Thread Cert.ActBackIdeal.nD Cert.ActBackIdeal.τ).loc Cert.ActBackIdeal.main_arg1)) →
    ∃ (v0 : (c : Dev Cert.ActBackIdeal.nD) → Buf (Elt Ideal) ((c.tc : Thread Cert.ActBackIdeal.nD Cert.ActBackIdeal.τ).loc Cert.ActBackIdeal.main_v0)),
      θ_run (Cert.ActBackIdeal.defs (F := Ideal)) (onTc (τ := Cert.ActBackIdeal.τ) (Cert.ActBackIdeal.main (F := Ideal))) ⟨m, fun _ => 0, g⟩ (fun r => ∀ c : Dev Cert.ActBackIdeal.nD,
          r.2.mem ((c.tc : Thread Cert.ActBackIdeal.nD Cert.ActBackIdeal.τ).loc Cert.ActBackIdeal.main_v0) = v0 c
          ∧ r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
          ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1))
      ∧ θ_run (Cert.ActBackRefIdeal.defs (F := Ideal)) (onTc (τ := Cert.ActBackRefIdeal.τ) (Cert.ActBackRefIdeal.main (F := Ideal))) ⟨m', fun _ => 0, g'⟩ (fun r => ∀ c : Dev Cert.ActBackRefIdeal.nD,
          r.2.mem ((c.tc : Thread Cert.ActBackRefIdeal.nD Cert.ActBackRefIdeal.τ).loc Cert.ActBackRefIdeal.main_v22) = v0 c
          ∧ r.2.mem ((c.tc : Thread Cert.ActBackRefIdeal.nD Cert.ActBackRefIdeal.τ).loc Cert.ActBackRefIdeal.main_arg0) = m' ((c.tc : Thread Cert.ActBackRefIdeal.nD Cert.ActBackRefIdeal.τ).loc Cert.ActBackRefIdeal.main_arg0)
          ∧ r.2.mem ((c.tc : Thread Cert.ActBackRefIdeal.nD Cert.ActBackRefIdeal.τ).loc Cert.ActBackRefIdeal.main_arg1) = m' ((c.tc : Thread Cert.ActBackRefIdeal.nD Cert.ActBackRefIdeal.τ).loc Cert.ActBackRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v17) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_GatesBack_GatesBackIdeal : Prop :=
  True

def algebraic_GatesBackIdeal_GatesBackRefIdeal [hGatesBackIdeal : Cert.GatesBackIdeal.Facts] [hGatesBackRefIdeal : Cert.GatesBackRefIdeal.Facts] : Prop :=
  ∀ (m : (ℓ : Loc Cert.GatesBackIdeal.nD Cert.GatesBackIdeal.τ Cert.GatesBackIdeal.sig) → Buf (Elt Ideal) ℓ) (g : Dev Cert.GatesBackIdeal.nD → PrngReg)
    (m' : (ℓ : Loc Cert.GatesBackRefIdeal.nD Cert.GatesBackRefIdeal.τ Cert.GatesBackRefIdeal.sig) → Buf (Elt Ideal) ℓ) (g' : Dev Cert.GatesBackRefIdeal.nD → PrngReg), Pre_GatesBackIdeal m →
    (∀ c : Dev Cert.GatesBackIdeal.nD,
      m' ((c.tc : Thread Cert.GatesBackRefIdeal.nD Cert.GatesBackRefIdeal.τ).loc Cert.GatesBackRefIdeal.main_arg0) = m ((c.tc : Thread Cert.GatesBackIdeal.nD Cert.GatesBackIdeal.τ).loc Cert.GatesBackIdeal.main_arg0)
      ∧ m' ((c.tc : Thread Cert.GatesBackRefIdeal.nD Cert.GatesBackRefIdeal.τ).loc Cert.GatesBackRefIdeal.main_arg1) = m ((c.tc : Thread Cert.GatesBackIdeal.nD Cert.GatesBackIdeal.τ).loc Cert.GatesBackIdeal.main_arg1)
      ∧ m' ((c.tc : Thread Cert.GatesBackRefIdeal.nD Cert.GatesBackRefIdeal.τ).loc Cert.GatesBackRefIdeal.main_arg2) = m ((c.tc : Thread Cert.GatesBackIdeal.nD Cert.GatesBackIdeal.τ).loc Cert.GatesBackIdeal.main_arg2)
      ∧ m' ((c.tc : Thread Cert.GatesBackRefIdeal.nD Cert.GatesBackRefIdeal.τ).loc Cert.GatesBackRefIdeal.main_arg3) = m ((c.tc : Thread Cert.GatesBackIdeal.nD Cert.GatesBackIdeal.τ).loc Cert.GatesBackIdeal.main_arg3)
      ∧ m' ((c.tc : Thread Cert.GatesBackRefIdeal.nD Cert.GatesBackRefIdeal.τ).loc Cert.GatesBackRefIdeal.main_arg4) = m ((c.tc : Thread Cert.GatesBackIdeal.nD Cert.GatesBackIdeal.τ).loc Cert.GatesBackIdeal.main_arg4)
      ∧ m' ((c.tc : Thread Cert.GatesBackRefIdeal.nD Cert.GatesBackRefIdeal.τ).loc Cert.GatesBackRefIdeal.main_arg5) = m ((c.tc : Thread Cert.GatesBackIdeal.nD Cert.GatesBackIdeal.τ).loc Cert.GatesBackIdeal.main_arg5)) →
    ∃ (v0 : (c : Dev Cert.GatesBackIdeal.nD) → Buf (Elt Ideal) ((c.tc : Thread Cert.GatesBackIdeal.nD Cert.GatesBackIdeal.τ).loc Cert.GatesBackIdeal.main_v0_0)) (v1 : (c : Dev Cert.GatesBackIdeal.nD) → Buf (Elt Ideal) ((c.tc : Thread Cert.GatesBackIdeal.nD Cert.GatesBackIdeal.τ).loc Cert.GatesBackIdeal.main_v0_1)) (v2 : (c : Dev Cert.GatesBackIdeal.nD) → Buf (Elt Ideal) ((c.tc : Thread Cert.GatesBackIdeal.nD Cert.GatesBackIdeal.τ).loc Cert.GatesBackIdeal.main_v0_2)) (v3 : (c : Dev Cert.GatesBackIdeal.nD) → Buf (Elt Ideal) ((c.tc : Thread Cert.GatesBackIdeal.nD Cert.GatesBackIdeal.τ).loc Cert.GatesBackIdeal.main_v0_3)) (v4 : (c : Dev Cert.GatesBackIdeal.nD) → Buf (Elt Ideal) ((c.tc : Thread Cert.GatesBackIdeal.nD Cert.GatesBackIdeal.τ).loc Cert.GatesBackIdeal.main_v0_4)) (v5 : (c : Dev Cert.GatesBackIdeal.nD) → Buf (Elt Ideal) ((c.tc : Thread Cert.GatesBackIdeal.nD Cert.GatesBackIdeal.τ).loc Cert.GatesBackIdeal.main_v0_5)) (v6 : (c : Dev Cert.GatesBackIdeal.nD) → Buf (Elt Ideal) ((c.tc : Thread Cert.GatesBackIdeal.nD Cert.GatesBackIdeal.τ).loc Cert.GatesBackIdeal.main_v0_6)) (v7 : (c : Dev Cert.GatesBackIdeal.nD) → Buf (Elt Ideal) ((c.tc : Thread Cert.GatesBackIdeal.nD Cert.GatesBackIdeal.τ).loc Cert.GatesBackIdeal.main_v0_7)) (v8 : (c : Dev Cert.GatesBackIdeal.nD) → Buf (Elt Ideal) ((c.tc : Thread Cert.GatesBackIdeal.nD Cert.GatesBackIdeal.τ).loc Cert.GatesBackIdeal.main_v0_8)),
      θ_run (Cert.GatesBackIdeal.defs (F := Ideal)) (onTc (τ := Cert.GatesBackIdeal.τ) (Cert.GatesBackIdeal.main (F := Ideal))) ⟨m, fun _ => 0, g⟩ (fun r => ∀ c : Dev Cert.GatesBackIdeal.nD,
          r.2.mem ((c.tc : Thread Cert.GatesBackIdeal.nD Cert.GatesBackIdeal.τ).loc Cert.GatesBackIdeal.main_v0_0) = v0 c
          ∧ r.2.mem ((c.tc : Thread Cert.GatesBackIdeal.nD Cert.GatesBackIdeal.τ).loc Cert.GatesBackIdeal.main_v0_1) = v1 c
          ∧ r.2.mem ((c.tc : Thread Cert.GatesBackIdeal.nD Cert.GatesBackIdeal.τ).loc Cert.GatesBackIdeal.main_v0_2) = v2 c
          ∧ r.2.mem ((c.tc : Thread Cert.GatesBackIdeal.nD Cert.GatesBackIdeal.τ).loc Cert.GatesBackIdeal.main_v0_3) = v3 c
          ∧ r.2.mem ((c.tc : Thread Cert.GatesBackIdeal.nD Cert.GatesBackIdeal.τ).loc Cert.GatesBackIdeal.main_v0_4) = v4 c
          ∧ r.2.mem ((c.tc : Thread Cert.GatesBackIdeal.nD Cert.GatesBackIdeal.τ).loc Cert.GatesBackIdeal.main_v0_5) = v5 c
          ∧ r.2.mem ((c.tc : Thread Cert.GatesBackIdeal.nD Cert.GatesBackIdeal.τ).loc Cert.GatesBackIdeal.main_v0_6) = v6 c
          ∧ r.2.mem ((c.tc : Thread Cert.GatesBackIdeal.nD Cert.GatesBackIdeal.τ).loc Cert.GatesBackIdeal.main_v0_7) = v7 c
          ∧ r.2.mem ((c.tc : Thread Cert.GatesBackIdeal.nD Cert.GatesBackIdeal.τ).loc Cert.GatesBackIdeal.main_v0_8) = v8 c
          ∧ r.2.mem ((c.tc : Thread Cert.GatesBackIdeal.nD Cert.GatesBackIdeal.τ).loc Cert.GatesBackIdeal.main_arg0) = m ((c.tc : Thread Cert.GatesBackIdeal.nD Cert.GatesBackIdeal.τ).loc Cert.GatesBackIdeal.main_arg0)
          ∧ r.2.mem ((c.tc : Thread Cert.GatesBackIdeal.nD Cert.GatesBackIdeal.τ).loc Cert.GatesBackIdeal.main_arg1) = m ((c.tc : Thread Cert.GatesBackIdeal.nD Cert.GatesBackIdeal.τ).loc Cert.GatesBackIdeal.main_arg1)
          ∧ r.2.mem ((c.tc : Thread Cert.GatesBackIdeal.nD Cert.GatesBackIdeal.τ).loc Cert.GatesBackIdeal.main_arg2) = m ((c.tc : Thread Cert.GatesBackIdeal.nD Cert.GatesBackIdeal.τ).loc Cert.GatesBackIdeal.main_arg2)
          ∧ r.2.mem ((c.tc : Thread Cert.GatesBackIdeal.nD Cert.GatesBackIdeal.τ).loc Cert.GatesBackIdeal.main_arg3) = m ((c.tc : Thread Cert.GatesBackIdeal.nD Cert.GatesBackIdeal.τ).loc Cert.GatesBackIdeal.main_arg3)
          ∧ r.2.mem ((c.tc : Thread Cert.GatesBackIdeal.nD Cert.GatesBackIdeal.τ).loc Cert.GatesBackIdeal.main_arg4) = m ((c.tc : Thread Cert.GatesBackIdeal.nD Cert.GatesBackIdeal.τ).loc Cert.GatesBackIdeal.main_arg4)
          ∧ r.2.mem ((c.tc : Thread Cert.GatesBackIdeal.nD Cert.GatesBackIdeal.τ).loc Cert.GatesBackIdeal.main_arg5) = m ((c.tc : Thread Cert.GatesBackIdeal.nD Cert.GatesBackIdeal.τ).loc Cert.GatesBackIdeal.main_arg5))
      ∧ θ_run (Cert.GatesBackRefIdeal.defs (F := Ideal)) (onTc (τ := Cert.GatesBackRefIdeal.τ) (Cert.GatesBackRefIdeal.main (F := Ideal))) ⟨m', fun _ => 0, g'⟩ (fun r => ∀ c : Dev Cert.GatesBackRefIdeal.nD,
          r.2.mem ((c.tc : Thread Cert.GatesBackRefIdeal.nD Cert.GatesBackRefIdeal.τ).loc Cert.GatesBackRefIdeal.main_v28) = v0 c
          ∧ r.2.mem ((c.tc : Thread Cert.GatesBackRefIdeal.nD Cert.GatesBackRefIdeal.τ).loc Cert.GatesBackRefIdeal.main_v30) = v1 c
          ∧ r.2.mem ((c.tc : Thread Cert.GatesBackRefIdeal.nD Cert.GatesBackRefIdeal.τ).loc Cert.GatesBackRefIdeal.main_v32) = v2 c
          ∧ r.2.mem ((c.tc : Thread Cert.GatesBackRefIdeal.nD Cert.GatesBackRefIdeal.τ).loc Cert.GatesBackRefIdeal.main_v33) = v3 c
          ∧ r.2.mem ((c.tc : Thread Cert.GatesBackRefIdeal.nD Cert.GatesBackRefIdeal.τ).loc Cert.GatesBackRefIdeal.main_v34) = v4 c
          ∧ r.2.mem ((c.tc : Thread Cert.GatesBackRefIdeal.nD Cert.GatesBackRefIdeal.τ).loc Cert.GatesBackRefIdeal.main_v35) = v5 c
          ∧ r.2.mem ((c.tc : Thread Cert.GatesBackRefIdeal.nD Cert.GatesBackRefIdeal.τ).loc Cert.GatesBackRefIdeal.main_v37) = v6 c
          ∧ r.2.mem ((c.tc : Thread Cert.GatesBackRefIdeal.nD Cert.GatesBackRefIdeal.τ).loc Cert.GatesBackRefIdeal.main_v39) = v7 c
          ∧ r.2.mem ((c.tc : Thread Cert.GatesBackRefIdeal.nD Cert.GatesBackRefIdeal.τ).loc Cert.GatesBackRefIdeal.main_v41) = v8 c
          ∧ r.2.mem ((c.tc : Thread Cert.GatesBackRefIdeal.nD Cert.GatesBackRefIdeal.τ).loc Cert.GatesBackRefIdeal.main_arg0) = m' ((c.tc : Thread Cert.GatesBackRefIdeal.nD Cert.GatesBackRefIdeal.τ).loc Cert.GatesBackRefIdeal.main_arg0)
          ∧ r.2.mem ((c.tc : Thread Cert.GatesBackRefIdeal.nD Cert.GatesBackRefIdeal.τ).loc Cert.GatesBackRefIdeal.main_arg1) = m' ((c.tc : Thread Cert.GatesBackRefIdeal.nD Cert.GatesBackRefIdeal.τ).loc Cert.GatesBackRefIdeal.main_arg1)
          ∧ r.2.mem ((c.tc : Thread Cert.GatesBackRefIdeal.nD Cert.GatesBackRefIdeal.τ).loc Cert.GatesBackRefIdeal.main_arg2) = m' ((c.tc : Thread Cert.GatesBackRefIdeal.nD Cert.GatesBackRefIdeal.τ).loc Cert.GatesBackRefIdeal.main_arg2)
          ∧ r.2.mem ((c.tc : Thread Cert.GatesBackRefIdeal.nD Cert.GatesBackRefIdeal.τ).loc Cert.GatesBackRefIdeal.main_arg3) = m' ((c.tc : Thread Cert.GatesBackRefIdeal.nD Cert.GatesBackRefIdeal.τ).loc Cert.GatesBackRefIdeal.main_arg3)
          ∧ r.2.mem ((c.tc : Thread Cert.GatesBackRefIdeal.nD Cert.GatesBackRefIdeal.τ).loc Cert.GatesBackRefIdeal.main_arg4) = m' ((c.tc : Thread Cert.GatesBackRefIdeal.nD Cert.GatesBackRefIdeal.τ).loc Cert.GatesBackRefIdeal.main_arg4)
          ∧ r.2.mem ((c.tc : Thread Cert.GatesBackRefIdeal.nD Cert.GatesBackRefIdeal.τ).loc Cert.GatesBackRefIdeal.main_arg5) = m' ((c.tc : Thread Cert.GatesBackRefIdeal.nD Cert.GatesBackRefIdeal.τ).loc Cert.GatesBackRefIdeal.main_arg5))

def preserves_Widen_WidenIdeal : Prop :=
  True

def algebraic_WidenIdeal_WidenRefIdeal [hWidenIdeal : Cert.WidenIdeal.Facts] [hWidenRefIdeal : Cert.WidenRefIdeal.Facts] : Prop :=
  ∀ (m : (ℓ : Loc Cert.WidenIdeal.nD Cert.WidenIdeal.τ Cert.WidenIdeal.sig) → Buf (Elt Ideal) ℓ) (g : Dev Cert.WidenIdeal.nD → PrngReg)
    (m' : (ℓ : Loc Cert.WidenRefIdeal.nD Cert.WidenRefIdeal.τ Cert.WidenRefIdeal.sig) → Buf (Elt Ideal) ℓ) (g' : Dev Cert.WidenRefIdeal.nD → PrngReg), Pre_WidenIdeal m →
    (∀ c : Dev Cert.WidenIdeal.nD,
      m' ((c.tc : Thread Cert.WidenRefIdeal.nD Cert.WidenRefIdeal.τ).loc Cert.WidenRefIdeal.main_arg0) = m ((c.tc : Thread Cert.WidenIdeal.nD Cert.WidenIdeal.τ).loc Cert.WidenIdeal.main_arg0)
      ∧ m' ((c.tc : Thread Cert.WidenRefIdeal.nD Cert.WidenRefIdeal.τ).loc Cert.WidenRefIdeal.main_arg1) = m ((c.tc : Thread Cert.WidenIdeal.nD Cert.WidenIdeal.τ).loc Cert.WidenIdeal.main_arg1)) →
    ∃ (v0 : (c : Dev Cert.WidenIdeal.nD) → Buf (Elt Ideal) ((c.tc : Thread Cert.WidenIdeal.nD Cert.WidenIdeal.τ).loc Cert.WidenIdeal.main_v0)),
      θ_run (Cert.WidenIdeal.defs (F := Ideal)) (onTc (τ := Cert.WidenIdeal.τ) (Cert.WidenIdeal.main (F := Ideal))) ⟨m, fun _ => 0, g⟩ (fun r => ∀ c : Dev Cert.WidenIdeal.nD,
          r.2.mem ((c.tc : Thread Cert.WidenIdeal.nD Cert.WidenIdeal.τ).loc Cert.WidenIdeal.main_v0) = v0 c
          ∧ r.2.mem ((c.tc : Thread Cert.WidenIdeal.nD Cert.WidenIdeal.τ).loc Cert.WidenIdeal.main_arg0) = m ((c.tc : Thread Cert.WidenIdeal.nD Cert.WidenIdeal.τ).loc Cert.WidenIdeal.main_arg0)
          ∧ r.2.mem ((c.tc : Thread Cert.WidenIdeal.nD Cert.WidenIdeal.τ).loc Cert.WidenIdeal.main_arg1) = m ((c.tc : Thread Cert.WidenIdeal.nD Cert.WidenIdeal.τ).loc Cert.WidenIdeal.main_arg1))
      ∧ θ_run (Cert.WidenRefIdeal.defs (F := Ideal)) (onTc (τ := Cert.WidenRefIdeal.τ) (Cert.WidenRefIdeal.main (F := Ideal))) ⟨m', fun _ => 0, g'⟩ (fun r => ∀ c : Dev Cert.WidenRefIdeal.nD,
          r.2.mem ((c.tc : Thread Cert.WidenRefIdeal.nD Cert.WidenRefIdeal.τ).loc Cert.WidenRefIdeal.main_v5) = v0 c
          ∧ r.2.mem ((c.tc : Thread Cert.WidenRefIdeal.nD Cert.WidenRefIdeal.τ).loc Cert.WidenRefIdeal.main_arg0) = m' ((c.tc : Thread Cert.WidenRefIdeal.nD Cert.WidenRefIdeal.τ).loc Cert.WidenRefIdeal.main_arg0)
          ∧ r.2.mem ((c.tc : Thread Cert.WidenRefIdeal.nD Cert.WidenRefIdeal.τ).loc Cert.WidenRefIdeal.main_arg1) = m' ((c.tc : Thread Cert.WidenRefIdeal.nD Cert.WidenRefIdeal.τ).loc Cert.WidenRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v6) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dhid_DhidIdeal : Prop :=
  True

def algebraic_DhidIdeal_DhidRefIdeal [hDhidIdeal : Cert.DhidIdeal.Facts] [hDhidRefIdeal : Cert.DhidRefIdeal.Facts] : Prop :=
  ∀ (m : (ℓ : Loc Cert.DhidIdeal.nD Cert.DhidIdeal.τ Cert.DhidIdeal.sig) → Buf (Elt Ideal) ℓ) (g : Dev Cert.DhidIdeal.nD → PrngReg)
    (m' : (ℓ : Loc Cert.DhidRefIdeal.nD Cert.DhidRefIdeal.τ Cert.DhidRefIdeal.sig) → Buf (Elt Ideal) ℓ) (g' : Dev Cert.DhidRefIdeal.nD → PrngReg), Pre_DhidIdeal m →
    (∀ c : Dev Cert.DhidIdeal.nD,
      m' ((c.tc : Thread Cert.DhidRefIdeal.nD Cert.DhidRefIdeal.τ).loc Cert.DhidRefIdeal.main_arg0) = m ((c.tc : Thread Cert.DhidIdeal.nD Cert.DhidIdeal.τ).loc Cert.DhidIdeal.main_arg0)
      ∧ m' ((c.tc : Thread Cert.DhidRefIdeal.nD Cert.DhidRefIdeal.τ).loc Cert.DhidRefIdeal.main_arg1) = m ((c.tc : Thread Cert.DhidIdeal.nD Cert.DhidIdeal.τ).loc Cert.DhidIdeal.main_arg1)) →
    ∃ (v0 : (c : Dev Cert.DhidIdeal.nD) → Buf (Elt Ideal) ((c.tc : Thread Cert.DhidIdeal.nD Cert.DhidIdeal.τ).loc Cert.DhidIdeal.main_v0)),
      θ_run (Cert.DhidIdeal.defs (F := Ideal)) (onTc (τ := Cert.DhidIdeal.τ) (Cert.DhidIdeal.main (F := Ideal))) ⟨m, fun _ => 0, g⟩ (fun r => ∀ c : Dev Cert.DhidIdeal.nD,
          r.2.mem ((c.tc : Thread Cert.DhidIdeal.nD Cert.DhidIdeal.τ).loc Cert.DhidIdeal.main_v0) = v0 c
          ∧ r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
          ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1))
      ∧ θ_run (Cert.DhidRefIdeal.defs (F := Ideal)) (onTc (τ := Cert.DhidRefIdeal.τ) (Cert.DhidRefIdeal.main (F := Ideal))) ⟨m', fun _ => 0, g'⟩ (fun r => ∀ c : Dev Cert.DhidRefIdeal.nD,
          r.2.mem ((c.tc : Thread Cert.DhidRefIdeal.nD Cert.DhidRefIdeal.τ).loc Cert.DhidRefIdeal.main_v3) = v0 c
          ∧ r.2.mem ((c.tc : Thread Cert.DhidRefIdeal.nD Cert.DhidRefIdeal.τ).loc Cert.DhidRefIdeal.main_arg0) = m' ((c.tc : Thread Cert.DhidRefIdeal.nD Cert.DhidRefIdeal.τ).loc Cert.DhidRefIdeal.main_arg0)
          ∧ r.2.mem ((c.tc : Thread Cert.DhidRefIdeal.nD Cert.DhidRefIdeal.τ).loc Cert.DhidRefIdeal.main_arg1) = m' ((c.tc : Thread Cert.DhidRefIdeal.nD Cert.DhidRefIdeal.τ).loc Cert.DhidRefIdeal.main_arg1))

def preserves_Inward_InwardIdeal : Prop :=
  True

def algebraic_InwardIdeal_InwardRefIdeal [hInwardIdeal : Cert.InwardIdeal.Facts] [hInwardRefIdeal : Cert.InwardRefIdeal.Facts] : Prop :=
  ∀ (m : (ℓ : Loc Cert.InwardIdeal.nD Cert.InwardIdeal.τ Cert.InwardIdeal.sig) → Buf (Elt Ideal) ℓ) (g : Dev Cert.InwardIdeal.nD → PrngReg)
    (m' : (ℓ : Loc Cert.InwardRefIdeal.nD Cert.InwardRefIdeal.τ Cert.InwardRefIdeal.sig) → Buf (Elt Ideal) ℓ) (g' : Dev Cert.InwardRefIdeal.nD → PrngReg), Pre_InwardIdeal m →
    (∀ c : Dev Cert.InwardIdeal.nD,
      m' ((c.tc : Thread Cert.InwardRefIdeal.nD Cert.InwardRefIdeal.τ).loc Cert.InwardRefIdeal.main_arg0) = m ((c.tc : Thread Cert.InwardIdeal.nD Cert.InwardIdeal.τ).loc Cert.InwardIdeal.main_arg0)
      ∧ m' ((c.tc : Thread Cert.InwardRefIdeal.nD Cert.InwardRefIdeal.τ).loc Cert.InwardRefIdeal.main_arg1) = m ((c.tc : Thread Cert.InwardIdeal.nD Cert.InwardIdeal.τ).loc Cert.InwardIdeal.main_arg1)) →
    ∃ (v0 : (c : Dev Cert.InwardIdeal.nD) → Buf (Elt Ideal) ((c.tc : Thread Cert.InwardIdeal.nD Cert.InwardIdeal.τ).loc Cert.InwardIdeal.main_v0)),
      θ_run (Cert.InwardIdeal.defs (F := Ideal)) (onTc (τ := Cert.InwardIdeal.τ) (Cert.InwardIdeal.main (F := Ideal))) ⟨m, fun _ => 0, g⟩ (fun r => ∀ c : Dev Cert.InwardIdeal.nD,
          r.2.mem ((c.tc : Thread Cert.InwardIdeal.nD Cert.InwardIdeal.τ).loc Cert.InwardIdeal.main_v0) = v0 c
          ∧ r.2.mem ((c.tc : Thread Cert.InwardIdeal.nD Cert.InwardIdeal.τ).loc Cert.InwardIdeal.main_arg0) = m ((c.tc : Thread Cert.InwardIdeal.nD Cert.InwardIdeal.τ).loc Cert.InwardIdeal.main_arg0)
          ∧ r.2.mem ((c.tc : Thread Cert.InwardIdeal.nD Cert.InwardIdeal.τ).loc Cert.InwardIdeal.main_arg1) = m ((c.tc : Thread Cert.InwardIdeal.nD Cert.InwardIdeal.τ).loc Cert.InwardIdeal.main_arg1))
      ∧ θ_run (Cert.InwardRefIdeal.defs (F := Ideal)) (onTc (τ := Cert.InwardRefIdeal.τ) (Cert.InwardRefIdeal.main (F := Ideal))) ⟨m', fun _ => 0, g'⟩ (fun r => ∀ c : Dev Cert.InwardRefIdeal.nD,
          r.2.mem ((c.tc : Thread Cert.InwardRefIdeal.nD Cert.InwardRefIdeal.τ).loc Cert.InwardRefIdeal.main_v3) = v0 c
          ∧ r.2.mem ((c.tc : Thread Cert.InwardRefIdeal.nD Cert.InwardRefIdeal.τ).loc Cert.InwardRefIdeal.main_arg0) = m' ((c.tc : Thread Cert.InwardRefIdeal.nD Cert.InwardRefIdeal.τ).loc Cert.InwardRefIdeal.main_arg0)
          ∧ r.2.mem ((c.tc : Thread Cert.InwardRefIdeal.nD Cert.InwardRefIdeal.τ).loc Cert.InwardRefIdeal.main_arg1) = m' ((c.tc : Thread Cert.InwardRefIdeal.nD Cert.InwardRefIdeal.τ).loc Cert.InwardRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v4) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v0)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v0) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v4) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1))

def preserves_Outward_OutwardIdeal : Prop :=
  True

def algebraic_OutwardIdeal_OutwardRefIdeal [hOutwardIdeal : Cert.OutwardIdeal.Facts] [hOutwardRefIdeal : Cert.OutwardRefIdeal.Facts] : Prop :=
  ∀ (m : (ℓ : Loc Cert.OutwardIdeal.nD Cert.OutwardIdeal.τ Cert.OutwardIdeal.sig) → Buf (Elt Ideal) ℓ) (g : Dev Cert.OutwardIdeal.nD → PrngReg)
    (m' : (ℓ : Loc Cert.OutwardRefIdeal.nD Cert.OutwardRefIdeal.τ Cert.OutwardRefIdeal.sig) → Buf (Elt Ideal) ℓ) (g' : Dev Cert.OutwardRefIdeal.nD → PrngReg), Pre_OutwardIdeal m →
    (∀ c : Dev Cert.OutwardIdeal.nD,
      m' ((c.tc : Thread Cert.OutwardRefIdeal.nD Cert.OutwardRefIdeal.τ).loc Cert.OutwardRefIdeal.main_arg0) = m ((c.tc : Thread Cert.OutwardIdeal.nD Cert.OutwardIdeal.τ).loc Cert.OutwardIdeal.main_arg0)
      ∧ m' ((c.tc : Thread Cert.OutwardRefIdeal.nD Cert.OutwardRefIdeal.τ).loc Cert.OutwardRefIdeal.main_arg1) = m ((c.tc : Thread Cert.OutwardIdeal.nD Cert.OutwardIdeal.τ).loc Cert.OutwardIdeal.main_arg1)
      ∧ m' ((c.tc : Thread Cert.OutwardRefIdeal.nD Cert.OutwardRefIdeal.τ).loc Cert.OutwardRefIdeal.main_arg2) = m ((c.tc : Thread Cert.OutwardIdeal.nD Cert.OutwardIdeal.τ).loc Cert.OutwardIdeal.main_arg2)) →
    ∃ (v0 : (c : Dev Cert.OutwardIdeal.nD) → Buf (Elt Ideal) ((c.tc : Thread Cert.OutwardIdeal.nD Cert.OutwardIdeal.τ).loc Cert.OutwardIdeal.main_v0)),
      θ_run (Cert.OutwardIdeal.defs (F := Ideal)) (onTc (τ := Cert.OutwardIdeal.τ) (Cert.OutwardIdeal.main (F := Ideal))) ⟨m, fun _ => 0, g⟩ (fun r => ∀ c : Dev Cert.OutwardIdeal.nD,
          r.2.mem ((c.tc : Thread Cert.OutwardIdeal.nD Cert.OutwardIdeal.τ).loc Cert.OutwardIdeal.main_v0) = v0 c
          ∧ r.2.mem ((c.tc : Thread Cert.OutwardIdeal.nD Cert.OutwardIdeal.τ).loc Cert.OutwardIdeal.main_arg0) = m ((c.tc : Thread Cert.OutwardIdeal.nD Cert.OutwardIdeal.τ).loc Cert.OutwardIdeal.main_arg0)
          ∧ r.2.mem ((c.tc : Thread Cert.OutwardIdeal.nD Cert.OutwardIdeal.τ).loc Cert.OutwardIdeal.main_arg1) = m ((c.tc : Thread Cert.OutwardIdeal.nD Cert.OutwardIdeal.τ).loc Cert.OutwardIdeal.main_arg1)
          ∧ r.2.mem ((c.tc : Thread Cert.OutwardIdeal.nD Cert.OutwardIdeal.τ).loc Cert.OutwardIdeal.main_arg2) = m ((c.tc : Thread Cert.OutwardIdeal.nD Cert.OutwardIdeal.τ).loc Cert.OutwardIdeal.main_arg2))
      ∧ θ_run (Cert.OutwardRefIdeal.defs (F := Ideal)) (onTc (τ := Cert.OutwardRefIdeal.τ) (Cert.OutwardRefIdeal.main (F := Ideal))) ⟨m', fun _ => 0, g'⟩ (fun r => ∀ c : Dev Cert.OutwardRefIdeal.nD,
          r.2.mem ((c.tc : Thread Cert.OutwardRefIdeal.nD Cert.OutwardRefIdeal.τ).loc Cert.OutwardRefIdeal.main_v3) = v0 c
          ∧ r.2.mem ((c.tc : Thread Cert.OutwardRefIdeal.nD Cert.OutwardRefIdeal.τ).loc Cert.OutwardRefIdeal.main_arg0) = m' ((c.tc : Thread Cert.OutwardRefIdeal.nD Cert.OutwardRefIdeal.τ).loc Cert.OutwardRefIdeal.main_arg0)
          ∧ r.2.mem ((c.tc : Thread Cert.OutwardRefIdeal.nD Cert.OutwardRefIdeal.τ).loc Cert.OutwardRefIdeal.main_arg1) = m' ((c.tc : Thread Cert.OutwardRefIdeal.nD Cert.OutwardRefIdeal.τ).loc Cert.OutwardRefIdeal.main_arg1)
          ∧ r.2.mem ((c.tc : Thread Cert.OutwardRefIdeal.nD Cert.OutwardRefIdeal.τ).loc Cert.OutwardRefIdeal.main_arg2) = m' ((c.tc : Thread Cert.OutwardRefIdeal.nD Cert.OutwardRefIdeal.τ).loc Cert.OutwardRefIdeal.main_arg2))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v2) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_Dya_DyaIdeal : Prop :=
  True

def algebraic_DyaIdeal_DyaRefIdeal [hDyaIdeal : Cert.DyaIdeal.Facts] [hDyaRefIdeal : Cert.DyaRefIdeal.Facts] : Prop :=
  ∀ (m : (ℓ : Loc Cert.DyaIdeal.nD Cert.DyaIdeal.τ Cert.DyaIdeal.sig) → Buf (Elt Ideal) ℓ) (g : Dev Cert.DyaIdeal.nD → PrngReg)
    (m' : (ℓ : Loc Cert.DyaRefIdeal.nD Cert.DyaRefIdeal.τ Cert.DyaRefIdeal.sig) → Buf (Elt Ideal) ℓ) (g' : Dev Cert.DyaRefIdeal.nD → PrngReg), Pre_DyaIdeal m →
    (∀ c : Dev Cert.DyaIdeal.nD,
      m' ((c.tc : Thread Cert.DyaRefIdeal.nD Cert.DyaRefIdeal.τ).loc Cert.DyaRefIdeal.main_arg0) = m ((c.tc : Thread Cert.DyaIdeal.nD Cert.DyaIdeal.τ).loc Cert.DyaIdeal.main_arg0)
      ∧ m' ((c.tc : Thread Cert.DyaRefIdeal.nD Cert.DyaRefIdeal.τ).loc Cert.DyaRefIdeal.main_arg1) = m ((c.tc : Thread Cert.DyaIdeal.nD Cert.DyaIdeal.τ).loc Cert.DyaIdeal.main_arg1)) →
    ∃ (v0 : (c : Dev Cert.DyaIdeal.nD) → Buf (Elt Ideal) ((c.tc : Thread Cert.DyaIdeal.nD Cert.DyaIdeal.τ).loc Cert.DyaIdeal.main_v0)),
      θ_run (Cert.DyaIdeal.defs (F := Ideal)) (onTc (τ := Cert.DyaIdeal.τ) (Cert.DyaIdeal.main (F := Ideal))) ⟨m, fun _ => 0, g⟩ (fun r => ∀ c : Dev Cert.DyaIdeal.nD,
          r.2.mem ((c.tc : Thread Cert.DyaIdeal.nD Cert.DyaIdeal.τ).loc Cert.DyaIdeal.main_v0) = v0 c
          ∧ r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
          ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ θ_run (Cert.DyaRefIdeal.defs (F := Ideal)) (onTc (τ := Cert.DyaRefIdeal.τ) (Cert.DyaRefIdeal.main (F := Ideal))) ⟨m', fun _ => 0, g'⟩ (fun r => ∀ c : Dev Cert.DyaRefIdeal.nD,
          r.2.mem ((c.tc : Thread Cert.DyaRefIdeal.nD Cert.DyaRefIdeal.τ).loc Cert.DyaRefIdeal.main_v2) = v0 c
          ∧ r.2.mem ((c.tc : Thread Cert.DyaRefIdeal.nD Cert.DyaRefIdeal.τ).loc Cert.DyaRefIdeal.main_arg0) = m' ((c.tc : Thread Cert.DyaRefIdeal.nD Cert.DyaRefIdeal.τ).loc Cert.DyaRefIdeal.main_arg0)
          ∧ r.2.mem ((c.tc : Thread Cert.DyaRefIdeal.nD Cert.DyaRefIdeal.τ).loc Cert.DyaRefIdeal.main_arg1) = m' ((c.tc : Thread Cert.DyaRefIdeal.nD Cert.DyaRefIdeal.τ).loc Cert.DyaRefIdeal.main_arg1))

def preserves_Dyb_DybIdeal : Prop :=
  True

def algebraic_DybIdeal_DybRefIdeal [hDybIdeal : Cert.DybIdeal.Facts] [hDybRefIdeal : Cert.DybRefIdeal.Facts] : Prop :=
  ∀ (m : (ℓ : Loc Cert.DybIdeal.nD Cert.DybIdeal.τ Cert.DybIdeal.sig) → Buf (Elt Ideal) ℓ) (g : Dev Cert.DybIdeal.nD → PrngReg)
    (m' : (ℓ : Loc Cert.DybRefIdeal.nD Cert.DybRefIdeal.τ Cert.DybRefIdeal.sig) → Buf (Elt Ideal) ℓ) (g' : Dev Cert.DybRefIdeal.nD → PrngReg), Pre_DybIdeal m →
    (∀ c : Dev Cert.DybIdeal.nD,
      m' ((c.tc : Thread Cert.DybRefIdeal.nD Cert.DybRefIdeal.τ).loc Cert.DybRefIdeal.main_arg0) = m ((c.tc : Thread Cert.DybIdeal.nD Cert.DybIdeal.τ).loc Cert.DybIdeal.main_arg0)
      ∧ m' ((c.tc : Thread Cert.DybRefIdeal.nD Cert.DybRefIdeal.τ).loc Cert.DybRefIdeal.main_arg1) = m ((c.tc : Thread Cert.DybIdeal.nD Cert.DybIdeal.τ).loc Cert.DybIdeal.main_arg1)) →
    ∃ (v0 : (c : Dev Cert.DybIdeal.nD) → Buf (Elt Ideal) ((c.tc : Thread Cert.DybIdeal.nD Cert.DybIdeal.τ).loc Cert.DybIdeal.main_v0)),
      θ_run (Cert.DybIdeal.defs (F := Ideal)) (onTc (τ := Cert.DybIdeal.τ) (Cert.DybIdeal.main (F := Ideal))) ⟨m, fun _ => 0, g⟩ (fun r => ∀ c : Dev Cert.DybIdeal.nD,
          r.2.mem ((c.tc : Thread Cert.DybIdeal.nD Cert.DybIdeal.τ).loc Cert.DybIdeal.main_v0) = v0 c
          ∧ r.2.mem ((c.tc : Thread Cert.DybIdeal.nD Cert.DybIdeal.τ).loc Cert.DybIdeal.main_arg0) = m ((c.tc : Thread Cert.DybIdeal.nD Cert.DybIdeal.τ).loc Cert.DybIdeal.main_arg0)
          ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ θ_run (Cert.DybRefIdeal.defs (F := Ideal)) (onTc (τ := Cert.DybRefIdeal.τ) (Cert.DybRefIdeal.main (F := Ideal))) ⟨m', fun _ => 0, g'⟩ (fun r => ∀ c : Dev Cert.DybRefIdeal.nD,
          r.2.mem ((c.tc : Thread Cert.DybRefIdeal.nD Cert.DybRefIdeal.τ).loc Cert.DybRefIdeal.main_v3) = v0 c
          ∧ r.2.mem ((c.tc : Thread Cert.DybRefIdeal.nD Cert.DybRefIdeal.τ).loc Cert.DybRefIdeal.main_arg0) = m' ((c.tc : Thread Cert.DybRefIdeal.nD Cert.DybRefIdeal.τ).loc Cert.DybRefIdeal.main_arg0)
          ∧ r.2.mem ((c.tc : Thread Cert.DybRefIdeal.nD Cert.DybRefIdeal.τ).loc Cert.DybRefIdeal.main_arg1) = m' ((c.tc : Thread Cert.DybRefIdeal.nD Cert.DybRefIdeal.τ).loc Cert.DybRefIdeal.main_arg1))

def preserves_Dyc_DycIdeal : Prop :=
  True

def algebraic_DycIdeal_DycRefIdeal [hDycIdeal : Cert.DycIdeal.Facts] [hDycRefIdeal : Cert.DycRefIdeal.Facts] : Prop :=
  ∀ (m : (ℓ : Loc Cert.DycIdeal.nD Cert.DycIdeal.τ Cert.DycIdeal.sig) → Buf (Elt Ideal) ℓ) (g : Dev Cert.DycIdeal.nD → PrngReg)
    (m' : (ℓ : Loc Cert.DycRefIdeal.nD Cert.DycRefIdeal.τ Cert.DycRefIdeal.sig) → Buf (Elt Ideal) ℓ) (g' : Dev Cert.DycRefIdeal.nD → PrngReg), Pre_DycIdeal m →
    (∀ c : Dev Cert.DycIdeal.nD,
      m' ((c.tc : Thread Cert.DycRefIdeal.nD Cert.DycRefIdeal.τ).loc Cert.DycRefIdeal.main_arg0) = m ((c.tc : Thread Cert.DycIdeal.nD Cert.DycIdeal.τ).loc Cert.DycIdeal.main_arg0)
      ∧ m' ((c.tc : Thread Cert.DycRefIdeal.nD Cert.DycRefIdeal.τ).loc Cert.DycRefIdeal.main_arg1) = m ((c.tc : Thread Cert.DycIdeal.nD Cert.DycIdeal.τ).loc Cert.DycIdeal.main_arg1)) →
    ∃ (v0 : (c : Dev Cert.DycIdeal.nD) → Buf (Elt Ideal) ((c.tc : Thread Cert.DycIdeal.nD Cert.DycIdeal.τ).loc Cert.DycIdeal.main_v0)),
      θ_run (Cert.DycIdeal.defs (F := Ideal)) (onTc (τ := Cert.DycIdeal.τ) (Cert.DycIdeal.main (F := Ideal))) ⟨m, fun _ => 0, g⟩ (fun r => ∀ c : Dev Cert.DycIdeal.nD,
          r.2.mem ((c.tc : Thread Cert.DycIdeal.nD Cert.DycIdeal.τ).loc Cert.DycIdeal.main_v0) = v0 c
          ∧ r.2.mem ((c.tc : Thread Cert.DycIdeal.nD Cert.DycIdeal.τ).loc Cert.DycIdeal.main_arg0) = m ((c.tc : Thread Cert.DycIdeal.nD Cert.DycIdeal.τ).loc Cert.DycIdeal.main_arg0)
          ∧ r.2.mem ((c.tc : Thread Cert.DycIdeal.nD Cert.DycIdeal.τ).loc Cert.DycIdeal.main_arg1) = m ((c.tc : Thread Cert.DycIdeal.nD Cert.DycIdeal.τ).loc Cert.DycIdeal.main_arg1))
      ∧ θ_run (Cert.DycRefIdeal.defs (F := Ideal)) (onTc (τ := Cert.DycRefIdeal.τ) (Cert.DycRefIdeal.main (F := Ideal))) ⟨m', fun _ => 0, g'⟩ (fun r => ∀ c : Dev Cert.DycRefIdeal.nD,
          r.2.mem ((c.tc : Thread Cert.DycRefIdeal.nD Cert.DycRefIdeal.τ).loc Cert.DycRefIdeal.main_v3) = v0 c
          ∧ r.2.mem ((c.tc : Thread Cert.DycRefIdeal.nD Cert.DycRefIdeal.τ).loc Cert.DycRefIdeal.main_arg0) = m' ((c.tc : Thread Cert.DycRefIdeal.nD Cert.DycRefIdeal.τ).loc Cert.DycRefIdeal.main_arg0)
          ∧ r.2.mem ((c.tc : Thread Cert.DycRefIdeal.nD Cert.DycRefIdeal.τ).loc Cert.DycRefIdeal.main_arg1) = m' ((c.tc : Thread Cert.DycRefIdeal.nD Cert.DycRefIdeal.τ).loc Cert.DycRefIdeal.main_arg1))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v2) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_WgDown_WgDownIdeal : Prop :=
  True

def algebraic_WgDownIdeal_WgDownRefIdeal [hWgDownIdeal : Cert.WgDownIdeal.Facts] [hWgDownRefIdeal : Cert.WgDownRefIdeal.Facts] : Prop :=
  ∀ (m : (ℓ : Loc Cert.WgDownIdeal.nD Cert.WgDownIdeal.τ Cert.WgDownIdeal.sig) → Buf (Elt Ideal) ℓ) (g : Dev Cert.WgDownIdeal.nD → PrngReg)
    (m' : (ℓ : Loc Cert.WgDownRefIdeal.nD Cert.WgDownRefIdeal.τ Cert.WgDownRefIdeal.sig) → Buf (Elt Ideal) ℓ) (g' : Dev Cert.WgDownRefIdeal.nD → PrngReg), Pre_WgDownIdeal m →
    (∀ c : Dev Cert.WgDownIdeal.nD,
      m' ((c.tc : Thread Cert.WgDownRefIdeal.nD Cert.WgDownRefIdeal.τ).loc Cert.WgDownRefIdeal.main_arg0) = m ((c.tc : Thread Cert.WgDownIdeal.nD Cert.WgDownIdeal.τ).loc Cert.WgDownIdeal.main_arg0)
      ∧ m' ((c.tc : Thread Cert.WgDownRefIdeal.nD Cert.WgDownRefIdeal.τ).loc Cert.WgDownRefIdeal.main_arg1) = m ((c.tc : Thread Cert.WgDownIdeal.nD Cert.WgDownIdeal.τ).loc Cert.WgDownIdeal.main_arg1)
      ∧ m' ((c.tc : Thread Cert.WgDownRefIdeal.nD Cert.WgDownRefIdeal.τ).loc Cert.WgDownRefIdeal.main_arg2) = m ((c.tc : Thread Cert.WgDownIdeal.nD Cert.WgDownIdeal.τ).loc Cert.WgDownIdeal.main_arg2)) →
    ∃ (v0 : (c : Dev Cert.WgDownIdeal.nD) → Buf (Elt Ideal) ((c.tc : Thread Cert.WgDownIdeal.nD Cert.WgDownIdeal.τ).loc Cert.WgDownIdeal.main_v0)),
      θ_run (Cert.WgDownIdeal.defs (F := Ideal)) (onTc (τ := Cert.WgDownIdeal.τ) (Cert.WgDownIdeal.main (F := Ideal))) ⟨m, fun _ => 0, g⟩ (fun r => ∀ c : Dev Cert.WgDownIdeal.nD,
          r.2.mem ((c.tc : Thread Cert.WgDownIdeal.nD Cert.WgDownIdeal.τ).loc Cert.WgDownIdeal.main_v0) = v0 c
          ∧ r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
          ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1)
          ∧ r.2.mem ((c.tc : Thread Cert.WgDownIdeal.nD Cert.WgDownIdeal.τ).loc Cert.WgDownIdeal.main_arg2) = m ((c.tc : Thread Cert.WgDownIdeal.nD Cert.WgDownIdeal.τ).loc Cert.WgDownIdeal.main_arg2))
      ∧ θ_run (Cert.WgDownRefIdeal.defs (F := Ideal)) (onTc (τ := Cert.WgDownRefIdeal.τ) (Cert.WgDownRefIdeal.main (F := Ideal))) ⟨m', fun _ => 0, g'⟩ (fun r => ∀ c : Dev Cert.WgDownRefIdeal.nD,
          r.2.mem ((c.tc : Thread Cert.WgDownRefIdeal.nD Cert.WgDownRefIdeal.τ).loc Cert.WgDownRefIdeal.main_v9) = v0 c
          ∧ r.2.mem ((c.tc : Thread Cert.WgDownRefIdeal.nD Cert.WgDownRefIdeal.τ).loc Cert.WgDownRefIdeal.main_arg0) = m' ((c.tc : Thread Cert.WgDownRefIdeal.nD Cert.WgDownRefIdeal.τ).loc Cert.WgDownRefIdeal.main_arg0)
          ∧ r.2.mem ((c.tc : Thread Cert.WgDownRefIdeal.nD Cert.WgDownRefIdeal.τ).loc Cert.WgDownRefIdeal.main_arg1) = m' ((c.tc : Thread Cert.WgDownRefIdeal.nD Cert.WgDownRefIdeal.τ).loc Cert.WgDownRefIdeal.main_arg1)
          ∧ r.2.mem ((c.tc : Thread Cert.WgDownRefIdeal.nD Cert.WgDownRefIdeal.τ).loc Cert.WgDownRefIdeal.main_arg2) = m' ((c.tc : Thread Cert.WgDownRefIdeal.nD Cert.WgDownRefIdeal.τ).loc Cert.WgDownRefIdeal.main_arg2))

def preserves_WgWiden_WgWidenIdeal : Prop :=
  True

def algebraic_WgWidenIdeal_WgWidenRefIdeal [hWgWidenIdeal : Cert.WgWidenIdeal.Facts] [hWgWidenRefIdeal : Cert.WgWidenRefIdeal.Facts] : Prop :=
  ∀ (m : (ℓ : Loc Cert.WgWidenIdeal.nD Cert.WgWidenIdeal.τ Cert.WgWidenIdeal.sig) → Buf (Elt Ideal) ℓ) (g : Dev Cert.WgWidenIdeal.nD → PrngReg)
    (m' : (ℓ : Loc Cert.WgWidenRefIdeal.nD Cert.WgWidenRefIdeal.τ Cert.WgWidenRefIdeal.sig) → Buf (Elt Ideal) ℓ) (g' : Dev Cert.WgWidenRefIdeal.nD → PrngReg), Pre_WgWidenIdeal m →
    (∀ c : Dev Cert.WgWidenIdeal.nD,
      m' ((c.tc : Thread Cert.WgWidenRefIdeal.nD Cert.WgWidenRefIdeal.τ).loc Cert.WgWidenRefIdeal.main_arg0) = m ((c.tc : Thread Cert.WgWidenIdeal.nD Cert.WgWidenIdeal.τ).loc Cert.WgWidenIdeal.main_arg0)
      ∧ m' ((c.tc : Thread Cert.WgWidenRefIdeal.nD Cert.WgWidenRefIdeal.τ).loc Cert.WgWidenRefIdeal.main_arg1) = m ((c.tc : Thread Cert.WgWidenIdeal.nD Cert.WgWidenIdeal.τ).loc Cert.WgWidenIdeal.main_arg1)
      ∧ m' ((c.tc : Thread Cert.WgWidenRefIdeal.nD Cert.WgWidenRefIdeal.τ).loc Cert.WgWidenRefIdeal.main_arg2) = m ((c.tc : Thread Cert.WgWidenIdeal.nD Cert.WgWidenIdeal.τ).loc Cert.WgWidenIdeal.main_arg2)) →
    ∃ (v0 : (c : Dev Cert.WgWidenIdeal.nD) → Buf (Elt Ideal) ((c.tc : Thread Cert.WgWidenIdeal.nD Cert.WgWidenIdeal.τ).loc Cert.WgWidenIdeal.main_v0)),
      θ_run (Cert.WgWidenIdeal.defs (F := Ideal)) (onTc (τ := Cert.WgWidenIdeal.τ) (Cert.WgWidenIdeal.main (F := Ideal))) ⟨m, fun _ => 0, g⟩ (fun r => ∀ c : Dev Cert.WgWidenIdeal.nD,
          r.2.mem ((c.tc : Thread Cert.WgWidenIdeal.nD Cert.WgWidenIdeal.τ).loc Cert.WgWidenIdeal.main_v0) = v0 c
          ∧ r.2.mem ((c.tc : Thread Cert.WgWidenIdeal.nD Cert.WgWidenIdeal.τ).loc Cert.WgWidenIdeal.main_arg0) = m ((c.tc : Thread Cert.WgWidenIdeal.nD Cert.WgWidenIdeal.τ).loc Cert.WgWidenIdeal.main_arg0)
          ∧ r.2.mem ((c.tc : Thread Cert.WgWidenIdeal.nD Cert.WgWidenIdeal.τ).loc Cert.WgWidenIdeal.main_arg1) = m ((c.tc : Thread Cert.WgWidenIdeal.nD Cert.WgWidenIdeal.τ).loc Cert.WgWidenIdeal.main_arg1)
          ∧ r.2.mem ((c.tc : Thread Cert.WgWidenIdeal.nD Cert.WgWidenIdeal.τ).loc Cert.WgWidenIdeal.main_arg2) = m ((c.tc : Thread Cert.WgWidenIdeal.nD Cert.WgWidenIdeal.τ).loc Cert.WgWidenIdeal.main_arg2))
      ∧ θ_run (Cert.WgWidenRefIdeal.defs (F := Ideal)) (onTc (τ := Cert.WgWidenRefIdeal.τ) (Cert.WgWidenRefIdeal.main (F := Ideal))) ⟨m', fun _ => 0, g'⟩ (fun r => ∀ c : Dev Cert.WgWidenRefIdeal.nD,
          r.2.mem ((c.tc : Thread Cert.WgWidenRefIdeal.nD Cert.WgWidenRefIdeal.τ).loc Cert.WgWidenRefIdeal.main_v10) = v0 c
          ∧ r.2.mem ((c.tc : Thread Cert.WgWidenRefIdeal.nD Cert.WgWidenRefIdeal.τ).loc Cert.WgWidenRefIdeal.main_arg0) = m' ((c.tc : Thread Cert.WgWidenRefIdeal.nD Cert.WgWidenRefIdeal.τ).loc Cert.WgWidenRefIdeal.main_arg0)
          ∧ r.2.mem ((c.tc : Thread Cert.WgWidenRefIdeal.nD Cert.WgWidenRefIdeal.τ).loc Cert.WgWidenRefIdeal.main_arg1) = m' ((c.tc : Thread Cert.WgWidenRefIdeal.nD Cert.WgWidenRefIdeal.τ).loc Cert.WgWidenRefIdeal.main_arg1)
          ∧ r.2.mem ((c.tc : Thread Cert.WgWidenRefIdeal.nD Cert.WgWidenRefIdeal.τ).loc Cert.WgWidenRefIdeal.main_arg2) = m' ((c.tc : Thread Cert.WgWidenRefIdeal.nD Cert.WgWidenRefIdeal.τ).loc Cert.WgWidenRefIdeal.main_arg2))

def preserves_WgIn_WgInIdeal : Prop :=
  True

def algebraic_WgInIdeal_WgInRefIdeal [hWgInIdeal : Cert.WgInIdeal.Facts] [hWgInRefIdeal : Cert.WgInRefIdeal.Facts] : Prop :=
  ∀ (m : (ℓ : Loc Cert.WgInIdeal.nD Cert.WgInIdeal.τ Cert.WgInIdeal.sig) → Buf (Elt Ideal) ℓ) (g : Dev Cert.WgInIdeal.nD → PrngReg)
    (m' : (ℓ : Loc Cert.WgInRefIdeal.nD Cert.WgInRefIdeal.τ Cert.WgInRefIdeal.sig) → Buf (Elt Ideal) ℓ) (g' : Dev Cert.WgInRefIdeal.nD → PrngReg), Pre_WgInIdeal m →
    (∀ c : Dev Cert.WgInIdeal.nD,
      m' ((c.tc : Thread Cert.WgInRefIdeal.nD Cert.WgInRefIdeal.τ).loc Cert.WgInRefIdeal.main_arg0) = m ((c.tc : Thread Cert.WgInIdeal.nD Cert.WgInIdeal.τ).loc Cert.WgInIdeal.main_arg0)
      ∧ m' ((c.tc : Thread Cert.WgInRefIdeal.nD Cert.WgInRefIdeal.τ).loc Cert.WgInRefIdeal.main_arg1) = m ((c.tc : Thread Cert.WgInIdeal.nD Cert.WgInIdeal.τ).loc Cert.WgInIdeal.main_arg1)
      ∧ m' ((c.tc : Thread Cert.WgInRefIdeal.nD Cert.WgInRefIdeal.τ).loc Cert.WgInRefIdeal.main_arg2) = m ((c.tc : Thread Cert.WgInIdeal.nD Cert.WgInIdeal.τ).loc Cert.WgInIdeal.main_arg2)) →
    ∃ (v0 : (c : Dev Cert.WgInIdeal.nD) → Buf (Elt Ideal) ((c.tc : Thread Cert.WgInIdeal.nD Cert.WgInIdeal.τ).loc Cert.WgInIdeal.main_v0)),
      θ_run (Cert.WgInIdeal.defs (F := Ideal)) (onTc (τ := Cert.WgInIdeal.τ) (Cert.WgInIdeal.main (F := Ideal))) ⟨m, fun _ => 0, g⟩ (fun r => ∀ c : Dev Cert.WgInIdeal.nD,
          r.2.mem ((c.tc : Thread Cert.WgInIdeal.nD Cert.WgInIdeal.τ).loc Cert.WgInIdeal.main_v0) = v0 c
          ∧ r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
          ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1)
          ∧ r.2.mem ((c.tc : Thread Cert.WgInIdeal.nD Cert.WgInIdeal.τ).loc Cert.WgInIdeal.main_arg2) = m ((c.tc : Thread Cert.WgInIdeal.nD Cert.WgInIdeal.τ).loc Cert.WgInIdeal.main_arg2))
      ∧ θ_run (Cert.WgInRefIdeal.defs (F := Ideal)) (onTc (τ := Cert.WgInRefIdeal.τ) (Cert.WgInRefIdeal.main (F := Ideal))) ⟨m', fun _ => 0, g'⟩ (fun r => ∀ c : Dev Cert.WgInRefIdeal.nD,
          r.2.mem ((c.tc : Thread Cert.WgInRefIdeal.nD Cert.WgInRefIdeal.τ).loc Cert.WgInRefIdeal.main_v10) = v0 c
          ∧ r.2.mem ((c.tc : Thread Cert.WgInRefIdeal.nD Cert.WgInRefIdeal.τ).loc Cert.WgInRefIdeal.main_arg0) = m' ((c.tc : Thread Cert.WgInRefIdeal.nD Cert.WgInRefIdeal.τ).loc Cert.WgInRefIdeal.main_arg0)
          ∧ r.2.mem ((c.tc : Thread Cert.WgInRefIdeal.nD Cert.WgInRefIdeal.τ).loc Cert.WgInRefIdeal.main_arg1) = m' ((c.tc : Thread Cert.WgInRefIdeal.nD Cert.WgInRefIdeal.τ).loc Cert.WgInRefIdeal.main_arg1)
          ∧ r.2.mem ((c.tc : Thread Cert.WgInRefIdeal.nD Cert.WgInRefIdeal.τ).loc Cert.WgInRefIdeal.main_arg2) = m' ((c.tc : Thread Cert.WgInRefIdeal.nD Cert.WgInRefIdeal.τ).loc Cert.WgInRefIdeal.main_arg2))

def preserves_WgOut_WgOutIdeal : Prop :=
  True

def algebraic_WgOutIdeal_WgOutRefIdeal [hWgOutIdeal : Cert.WgOutIdeal.Facts] [hWgOutRefIdeal : Cert.WgOutRefIdeal.Facts] : Prop :=
  ∀ (m : (ℓ : Loc Cert.WgOutIdeal.nD Cert.WgOutIdeal.τ Cert.WgOutIdeal.sig) → Buf (Elt Ideal) ℓ) (g : Dev Cert.WgOutIdeal.nD → PrngReg)
    (m' : (ℓ : Loc Cert.WgOutRefIdeal.nD Cert.WgOutRefIdeal.τ Cert.WgOutRefIdeal.sig) → Buf (Elt Ideal) ℓ) (g' : Dev Cert.WgOutRefIdeal.nD → PrngReg), Pre_WgOutIdeal m →
    (∀ c : Dev Cert.WgOutIdeal.nD,
      m' ((c.tc : Thread Cert.WgOutRefIdeal.nD Cert.WgOutRefIdeal.τ).loc Cert.WgOutRefIdeal.main_arg0) = m ((c.tc : Thread Cert.WgOutIdeal.nD Cert.WgOutIdeal.τ).loc Cert.WgOutIdeal.main_arg0)
      ∧ m' ((c.tc : Thread Cert.WgOutRefIdeal.nD Cert.WgOutRefIdeal.τ).loc Cert.WgOutRefIdeal.main_arg1) = m ((c.tc : Thread Cert.WgOutIdeal.nD Cert.WgOutIdeal.τ).loc Cert.WgOutIdeal.main_arg1)
      ∧ m' ((c.tc : Thread Cert.WgOutRefIdeal.nD Cert.WgOutRefIdeal.τ).loc Cert.WgOutRefIdeal.main_arg2) = m ((c.tc : Thread Cert.WgOutIdeal.nD Cert.WgOutIdeal.τ).loc Cert.WgOutIdeal.main_arg2)) →
    ∃ (v0 : (c : Dev Cert.WgOutIdeal.nD) → Buf (Elt Ideal) ((c.tc : Thread Cert.WgOutIdeal.nD Cert.WgOutIdeal.τ).loc Cert.WgOutIdeal.main_v0)),
      θ_run (Cert.WgOutIdeal.defs (F := Ideal)) (onTc (τ := Cert.WgOutIdeal.τ) (Cert.WgOutIdeal.main (F := Ideal))) ⟨m, fun _ => 0, g⟩ (fun r => ∀ c : Dev Cert.WgOutIdeal.nD,
          r.2.mem ((c.tc : Thread Cert.WgOutIdeal.nD Cert.WgOutIdeal.τ).loc Cert.WgOutIdeal.main_v0) = v0 c
          ∧ r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
          ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1)
          ∧ r.2.mem ((c.tc : Thread Cert.WgOutIdeal.nD Cert.WgOutIdeal.τ).loc Cert.WgOutIdeal.main_arg2) = m ((c.tc : Thread Cert.WgOutIdeal.nD Cert.WgOutIdeal.τ).loc Cert.WgOutIdeal.main_arg2))
      ∧ θ_run (Cert.WgOutRefIdeal.defs (F := Ideal)) (onTc (τ := Cert.WgOutRefIdeal.τ) (Cert.WgOutRefIdeal.main (F := Ideal))) ⟨m', fun _ => 0, g'⟩ (fun r => ∀ c : Dev Cert.WgOutRefIdeal.nD,
          r.2.mem ((c.tc : Thread Cert.WgOutRefIdeal.nD Cert.WgOutRefIdeal.τ).loc Cert.WgOutRefIdeal.main_v9) = v0 c
          ∧ r.2.mem ((c.tc : Thread Cert.WgOutRefIdeal.nD Cert.WgOutRefIdeal.τ).loc Cert.WgOutRefIdeal.main_arg0) = m' ((c.tc : Thread Cert.WgOutRefIdeal.nD Cert.WgOutRefIdeal.τ).loc Cert.WgOutRefIdeal.main_arg0)
          ∧ r.2.mem ((c.tc : Thread Cert.WgOutRefIdeal.nD Cert.WgOutRefIdeal.τ).loc Cert.WgOutRefIdeal.main_arg1) = m' ((c.tc : Thread Cert.WgOutRefIdeal.nD Cert.WgOutRefIdeal.τ).loc Cert.WgOutRefIdeal.main_arg1)
          ∧ r.2.mem ((c.tc : Thread Cert.WgOutRefIdeal.nD Cert.WgOutRefIdeal.τ).loc Cert.WgOutRefIdeal.main_arg2) = m' ((c.tc : Thread Cert.WgOutRefIdeal.nD Cert.WgOutRefIdeal.τ).loc Cert.WgOutRefIdeal.main_arg2))

def preserves_WgA_WgAIdeal : Prop :=
  True

def algebraic_WgAIdeal_WgARefIdeal [hWgAIdeal : Cert.WgAIdeal.Facts] [hWgARefIdeal : Cert.WgARefIdeal.Facts] : Prop :=
  ∀ (m : (ℓ : Loc Cert.WgAIdeal.nD Cert.WgAIdeal.τ Cert.WgAIdeal.sig) → Buf (Elt Ideal) ℓ) (g : Dev Cert.WgAIdeal.nD → PrngReg)
    (m' : (ℓ : Loc Cert.WgARefIdeal.nD Cert.WgARefIdeal.τ Cert.WgARefIdeal.sig) → Buf (Elt Ideal) ℓ) (g' : Dev Cert.WgARefIdeal.nD → PrngReg), Pre_WgAIdeal m →
    (∀ c : Dev Cert.WgAIdeal.nD,
      m' ((c.tc : Thread Cert.WgARefIdeal.nD Cert.WgARefIdeal.τ).loc Cert.WgARefIdeal.main_arg0) = m ((c.tc : Thread Cert.WgAIdeal.nD Cert.WgAIdeal.τ).loc Cert.WgAIdeal.main_arg0)
      ∧ m' ((c.tc : Thread Cert.WgARefIdeal.nD Cert.WgARefIdeal.τ).loc Cert.WgARefIdeal.main_arg1) = m ((c.tc : Thread Cert.WgAIdeal.nD Cert.WgAIdeal.τ).loc Cert.WgAIdeal.main_arg1)
      ∧ m' ((c.tc : Thread Cert.WgARefIdeal.nD Cert.WgARefIdeal.τ).loc Cert.WgARefIdeal.main_arg2) = m ((c.tc : Thread Cert.WgAIdeal.nD Cert.WgAIdeal.τ).loc Cert.WgAIdeal.main_arg2)) →
    ∃ (v0 : (c : Dev Cert.WgAIdeal.nD) → Buf (Elt Ideal) ((c.tc : Thread Cert.WgAIdeal.nD Cert.WgAIdeal.τ).loc Cert.WgAIdeal.main_v0)),
      θ_run (Cert.WgAIdeal.defs (F := Ideal)) (onTc (τ := Cert.WgAIdeal.τ) (Cert.WgAIdeal.main (F := Ideal))) ⟨m, fun _ => 0, g⟩ (fun r => ∀ c : Dev Cert.WgAIdeal.nD,
          r.2.mem ((c.tc : Thread Cert.WgAIdeal.nD Cert.WgAIdeal.τ).loc Cert.WgAIdeal.main_v0) = v0 c
          ∧ r.2.mem ((c.tc : Thread Cert.WgAIdeal.nD Cert.WgAIdeal.τ).loc Cert.WgAIdeal.main_arg0) = m ((c.tc : Thread Cert.WgAIdeal.nD Cert.WgAIdeal.τ).loc Cert.WgAIdeal.main_arg0)
          ∧ r.2.mem ((c.tc : Thread Cert.WgAIdeal.nD Cert.WgAIdeal.τ).loc Cert.WgAIdeal.main_arg1) = m ((c.tc : Thread Cert.WgAIdeal.nD Cert.WgAIdeal.τ).loc Cert.WgAIdeal.main_arg1)
          ∧ r.2.mem ((c.tc : Thread Cert.WgAIdeal.nD Cert.WgAIdeal.τ).loc Cert.WgAIdeal.main_arg2) = m ((c.tc : Thread Cert.WgAIdeal.nD Cert.WgAIdeal.τ).loc Cert.WgAIdeal.main_arg2))
      ∧ θ_run (Cert.WgARefIdeal.defs (F := Ideal)) (onTc (τ := Cert.WgARefIdeal.τ) (Cert.WgARefIdeal.main (F := Ideal))) ⟨m', fun _ => 0, g'⟩ (fun r => ∀ c : Dev Cert.WgARefIdeal.nD,
          r.2.mem ((c.tc : Thread Cert.WgARefIdeal.nD Cert.WgARefIdeal.τ).loc Cert.WgARefIdeal.main_v9) = v0 c
          ∧ r.2.mem ((c.tc : Thread Cert.WgARefIdeal.nD Cert.WgARefIdeal.τ).loc Cert.WgARefIdeal.main_arg0) = m' ((c.tc : Thread Cert.WgARefIdeal.nD Cert.WgARefIdeal.τ).loc Cert.WgARefIdeal.main_arg0)
          ∧ r.2.mem ((c.tc : Thread Cert.WgARefIdeal.nD Cert.WgARefIdeal.τ).loc Cert.WgARefIdeal.main_arg1) = m' ((c.tc : Thread Cert.WgARefIdeal.nD Cert.WgARefIdeal.τ).loc Cert.WgARefIdeal.main_arg1)
          ∧ r.2.mem ((c.tc : Thread Cert.WgARefIdeal.nD Cert.WgARefIdeal.τ).loc Cert.WgARefIdeal.main_arg2) = m' ((c.tc : Thread Cert.WgARefIdeal.nD Cert.WgARefIdeal.τ).loc Cert.WgARefIdeal.main_arg2))

def preserves_WgB_WgBIdeal : Prop :=
  True

def algebraic_WgBIdeal_WgBRefIdeal [hWgBIdeal : Cert.WgBIdeal.Facts] [hWgBRefIdeal : Cert.WgBRefIdeal.Facts] : Prop :=
  ∀ (m : (ℓ : Loc Cert.WgBIdeal.nD Cert.WgBIdeal.τ Cert.WgBIdeal.sig) → Buf (Elt Ideal) ℓ) (g : Dev Cert.WgBIdeal.nD → PrngReg)
    (m' : (ℓ : Loc Cert.WgBRefIdeal.nD Cert.WgBRefIdeal.τ Cert.WgBRefIdeal.sig) → Buf (Elt Ideal) ℓ) (g' : Dev Cert.WgBRefIdeal.nD → PrngReg), Pre_WgBIdeal m →
    (∀ c : Dev Cert.WgBIdeal.nD,
      m' ((c.tc : Thread Cert.WgBRefIdeal.nD Cert.WgBRefIdeal.τ).loc Cert.WgBRefIdeal.main_arg0) = m ((c.tc : Thread Cert.WgBIdeal.nD Cert.WgBIdeal.τ).loc Cert.WgBIdeal.main_arg0)
      ∧ m' ((c.tc : Thread Cert.WgBRefIdeal.nD Cert.WgBRefIdeal.τ).loc Cert.WgBRefIdeal.main_arg1) = m ((c.tc : Thread Cert.WgBIdeal.nD Cert.WgBIdeal.τ).loc Cert.WgBIdeal.main_arg1)
      ∧ m' ((c.tc : Thread Cert.WgBRefIdeal.nD Cert.WgBRefIdeal.τ).loc Cert.WgBRefIdeal.main_arg2) = m ((c.tc : Thread Cert.WgBIdeal.nD Cert.WgBIdeal.τ).loc Cert.WgBIdeal.main_arg2)) →
    ∃ (v0 : (c : Dev Cert.WgBIdeal.nD) → Buf (Elt Ideal) ((c.tc : Thread Cert.WgBIdeal.nD Cert.WgBIdeal.τ).loc Cert.WgBIdeal.main_v0)),
      θ_run (Cert.WgBIdeal.defs (F := Ideal)) (onTc (τ := Cert.WgBIdeal.τ) (Cert.WgBIdeal.main (F := Ideal))) ⟨m, fun _ => 0, g⟩ (fun r => ∀ c : Dev Cert.WgBIdeal.nD,
          r.2.mem ((c.tc : Thread Cert.WgBIdeal.nD Cert.WgBIdeal.τ).loc Cert.WgBIdeal.main_v0) = v0 c
          ∧ r.2.mem ((c.tc : Thread Cert.WgBIdeal.nD Cert.WgBIdeal.τ).loc Cert.WgBIdeal.main_arg0) = m ((c.tc : Thread Cert.WgBIdeal.nD Cert.WgBIdeal.τ).loc Cert.WgBIdeal.main_arg0)
          ∧ r.2.mem ((c.tc : Thread Cert.WgBIdeal.nD Cert.WgBIdeal.τ).loc Cert.WgBIdeal.main_arg1) = m ((c.tc : Thread Cert.WgBIdeal.nD Cert.WgBIdeal.τ).loc Cert.WgBIdeal.main_arg1)
          ∧ r.2.mem ((c.tc : Thread Cert.WgBIdeal.nD Cert.WgBIdeal.τ).loc Cert.WgBIdeal.main_arg2) = m ((c.tc : Thread Cert.WgBIdeal.nD Cert.WgBIdeal.τ).loc Cert.WgBIdeal.main_arg2))
      ∧ θ_run (Cert.WgBRefIdeal.defs (F := Ideal)) (onTc (τ := Cert.WgBRefIdeal.τ) (Cert.WgBRefIdeal.main (F := Ideal))) ⟨m', fun _ => 0, g'⟩ (fun r => ∀ c : Dev Cert.WgBRefIdeal.nD,
          r.2.mem ((c.tc : Thread Cert.WgBRefIdeal.nD Cert.WgBRefIdeal.τ).loc Cert.WgBRefIdeal.main_v10) = v0 c
          ∧ r.2.mem ((c.tc : Thread Cert.WgBRefIdeal.nD Cert.WgBRefIdeal.τ).loc Cert.WgBRefIdeal.main_arg0) = m' ((c.tc : Thread Cert.WgBRefIdeal.nD Cert.WgBRefIdeal.τ).loc Cert.WgBRefIdeal.main_arg0)
          ∧ r.2.mem ((c.tc : Thread Cert.WgBRefIdeal.nD Cert.WgBRefIdeal.τ).loc Cert.WgBRefIdeal.main_arg1) = m' ((c.tc : Thread Cert.WgBRefIdeal.nD Cert.WgBRefIdeal.τ).loc Cert.WgBRefIdeal.main_arg1)
          ∧ r.2.mem ((c.tc : Thread Cert.WgBRefIdeal.nD Cert.WgBRefIdeal.τ).loc Cert.WgBRefIdeal.main_arg2) = m' ((c.tc : Thread Cert.WgBRefIdeal.nD Cert.WgBRefIdeal.τ).loc Cert.WgBRefIdeal.main_arg2))

def preserves_WgC_WgCIdeal : Prop :=
  True

def algebraic_WgCIdeal_WgCRefIdeal [hWgCIdeal : Cert.WgCIdeal.Facts] [hWgCRefIdeal : Cert.WgCRefIdeal.Facts] : Prop :=
  ∀ (m : (ℓ : Loc Cert.WgCIdeal.nD Cert.WgCIdeal.τ Cert.WgCIdeal.sig) → Buf (Elt Ideal) ℓ) (g : Dev Cert.WgCIdeal.nD → PrngReg)
    (m' : (ℓ : Loc Cert.WgCRefIdeal.nD Cert.WgCRefIdeal.τ Cert.WgCRefIdeal.sig) → Buf (Elt Ideal) ℓ) (g' : Dev Cert.WgCRefIdeal.nD → PrngReg), Pre_WgCIdeal m →
    (∀ c : Dev Cert.WgCIdeal.nD,
      m' ((c.tc : Thread Cert.WgCRefIdeal.nD Cert.WgCRefIdeal.τ).loc Cert.WgCRefIdeal.main_arg0) = m ((c.tc : Thread Cert.WgCIdeal.nD Cert.WgCIdeal.τ).loc Cert.WgCIdeal.main_arg0)
      ∧ m' ((c.tc : Thread Cert.WgCRefIdeal.nD Cert.WgCRefIdeal.τ).loc Cert.WgCRefIdeal.main_arg1) = m ((c.tc : Thread Cert.WgCIdeal.nD Cert.WgCIdeal.τ).loc Cert.WgCIdeal.main_arg1)
      ∧ m' ((c.tc : Thread Cert.WgCRefIdeal.nD Cert.WgCRefIdeal.τ).loc Cert.WgCRefIdeal.main_arg2) = m ((c.tc : Thread Cert.WgCIdeal.nD Cert.WgCIdeal.τ).loc Cert.WgCIdeal.main_arg2)) →
    ∃ (v0 : (c : Dev Cert.WgCIdeal.nD) → Buf (Elt Ideal) ((c.tc : Thread Cert.WgCIdeal.nD Cert.WgCIdeal.τ).loc Cert.WgCIdeal.main_v0)),
      θ_run (Cert.WgCIdeal.defs (F := Ideal)) (onTc (τ := Cert.WgCIdeal.τ) (Cert.WgCIdeal.main (F := Ideal))) ⟨m, fun _ => 0, g⟩ (fun r => ∀ c : Dev Cert.WgCIdeal.nD,
          r.2.mem ((c.tc : Thread Cert.WgCIdeal.nD Cert.WgCIdeal.τ).loc Cert.WgCIdeal.main_v0) = v0 c
          ∧ r.2.mem ((c.tc : Thread Cert.WgCIdeal.nD Cert.WgCIdeal.τ).loc Cert.WgCIdeal.main_arg0) = m ((c.tc : Thread Cert.WgCIdeal.nD Cert.WgCIdeal.τ).loc Cert.WgCIdeal.main_arg0)
          ∧ r.2.mem ((c.tc : Thread Cert.WgCIdeal.nD Cert.WgCIdeal.τ).loc Cert.WgCIdeal.main_arg1) = m ((c.tc : Thread Cert.WgCIdeal.nD Cert.WgCIdeal.τ).loc Cert.WgCIdeal.main_arg1)
          ∧ r.2.mem ((c.tc : Thread Cert.WgCIdeal.nD Cert.WgCIdeal.τ).loc Cert.WgCIdeal.main_arg2) = m ((c.tc : Thread Cert.WgCIdeal.nD Cert.WgCIdeal.τ).loc Cert.WgCIdeal.main_arg2))
      ∧ θ_run (Cert.WgCRefIdeal.defs (F := Ideal)) (onTc (τ := Cert.WgCRefIdeal.τ) (Cert.WgCRefIdeal.main (F := Ideal))) ⟨m', fun _ => 0, g'⟩ (fun r => ∀ c : Dev Cert.WgCRefIdeal.nD,
          r.2.mem ((c.tc : Thread Cert.WgCRefIdeal.nD Cert.WgCRefIdeal.τ).loc Cert.WgCRefIdeal.main_v10) = v0 c
          ∧ r.2.mem ((c.tc : Thread Cert.WgCRefIdeal.nD Cert.WgCRefIdeal.τ).loc Cert.WgCRefIdeal.main_arg0) = m' ((c.tc : Thread Cert.WgCRefIdeal.nD Cert.WgCRefIdeal.τ).loc Cert.WgCRefIdeal.main_arg0)
          ∧ r.2.mem ((c.tc : Thread Cert.WgCRefIdeal.nD Cert.WgCRefIdeal.τ).loc Cert.WgCRefIdeal.main_arg1) = m' ((c.tc : Thread Cert.WgCRefIdeal.nD Cert.WgCRefIdeal.τ).loc Cert.WgCRefIdeal.main_arg1)
          ∧ r.2.mem ((c.tc : Thread Cert.WgCRefIdeal.nD Cert.WgCRefIdeal.τ).loc Cert.WgCRefIdeal.main_arg2) = m' ((c.tc : Thread Cert.WgCRefIdeal.nD Cert.WgCRefIdeal.τ).loc Cert.WgCRefIdeal.main_arg2))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherRefIdeal : Cert.GatherRefIdeal.Facts) (hGatherRef : Cert.GatherRef.Facts) (hGatherSmall : Cert.GatherSmall.Facts) (hGatherSmallIdeal : Cert.GatherSmallIdeal.Facts) (hGatherSmallRefIdeal : Cert.GatherSmallRefIdeal.Facts) (hGatherSmallRef : Cert.GatherSmallRef.Facts) (hSum0 : Cert.Sum0.Facts) (hSum0Ideal : Cert.Sum0Ideal.Facts) (hSum0RefIdeal : Cert.Sum0RefIdeal.Facts) (hSum1 : Cert.Sum1.Facts) (hSum1Ideal : Cert.Sum1Ideal.Facts) (hSum1RefIdeal : Cert.Sum1RefIdeal.Facts) (hSum2 : Cert.Sum2.Facts) (hSum2Ideal : Cert.Sum2Ideal.Facts) (hSum2RefIdeal : Cert.Sum2RefIdeal.Facts) (hSum3 : Cert.Sum3.Facts) (hSum3Ideal : Cert.Sum3Ideal.Facts) (hSum3RefIdeal : Cert.Sum3RefIdeal.Facts) (hSum4 : Cert.Sum4.Facts) (hSum4Ideal : Cert.Sum4Ideal.Facts) (hSum4RefIdeal : Cert.Sum4RefIdeal.Facts) (hSumSmall : Cert.SumSmall.Facts) (hSumSmallIdeal : Cert.SumSmallIdeal.Facts) (hSumSmallRefIdeal : Cert.SumSmallRefIdeal.Facts) (hStep0 : Cert.Step0.Facts) (hStep0Ideal : Cert.Step0Ideal.Facts) (hStep0RefIdeal : Cert.Step0RefIdeal.Facts) (hStep1 : Cert.Step1.Facts) (hStep1Ideal : Cert.Step1Ideal.Facts) (hStep1RefIdeal : Cert.Step1RefIdeal.Facts) (hStep2 : Cert.Step2.Facts) (hStep2Ideal : Cert.Step2Ideal.Facts) (hStep2RefIdeal : Cert.Step2RefIdeal.Facts) (hStep3 : Cert.Step3.Facts) (hStep3Ideal : Cert.Step3Ideal.Facts) (hStep3RefIdeal : Cert.Step3RefIdeal.Facts) (hStep4 : Cert.Step4.Facts) (hStep4Ideal : Cert.Step4Ideal.Facts) (hStep4RefIdeal : Cert.Step4RefIdeal.Facts) (hStep5 : Cert.Step5.Facts) (hStep5Ideal : Cert.Step5Ideal.Facts) (hStep5RefIdeal : Cert.Step5RefIdeal.Facts) (hStep6 : Cert.Step6.Facts) (hStep6Ideal : Cert.Step6Ideal.Facts) (hStep6RefIdeal : Cert.Step6RefIdeal.Facts) (hHead : Cert.Head.Facts) (hHeadIdeal : Cert.HeadIdeal.Facts) (hHeadRefIdeal : Cert.HeadRefIdeal.Facts) (hLoss : Cert.Loss.Facts) (hLossIdeal : Cert.LossIdeal.Facts) (hLossRefIdeal : Cert.LossRefIdeal.Facts) (hBack : Cert.Back.Facts) (hBackIdeal : Cert.BackIdeal.Facts) (hBackRefIdeal : Cert.BackRefIdeal.Facts) (hNorm1 : Cert.Norm1.Facts) (hNorm1Ideal : Cert.Norm1Ideal.Facts) (hNorm1RefIdeal : Cert.Norm1RefIdeal.Facts) (hAct : Cert.Act.Facts) (hActIdeal : Cert.ActIdeal.Facts) (hActRefIdeal : Cert.ActRefIdeal.Facts) (hActBack : Cert.ActBack.Facts) (hActBackIdeal : Cert.ActBackIdeal.Facts) (hActBackRefIdeal : Cert.ActBackRefIdeal.Facts) (hGates : Cert.Gates.Facts) (hGatesIdeal : Cert.GatesIdeal.Facts) (hGatesRefIdeal : Cert.GatesRefIdeal.Facts) (hGatesBack : Cert.GatesBack.Facts) (hGatesBackIdeal : Cert.GatesBackIdeal.Facts) (hGatesBackRefIdeal : Cert.GatesBackRefIdeal.Facts) (hWiden : Cert.Widen.Facts) (hWidenIdeal : Cert.WidenIdeal.Facts) (hWidenRefIdeal : Cert.WidenRefIdeal.Facts) (hDown : Cert.Down.Facts) (hDownIdeal : Cert.DownIdeal.Facts) (hDownRefIdeal : Cert.DownRefIdeal.Facts) (hDact : Cert.Dact.Facts) (hDactIdeal : Cert.DactIdeal.Facts) (hDactRefIdeal : Cert.DactRefIdeal.Facts) (hDhid : Cert.Dhid.Facts) (hDhidIdeal : Cert.DhidIdeal.Facts) (hDhidRefIdeal : Cert.DhidRefIdeal.Facts) (hInward : Cert.Inward.Facts) (hInwardIdeal : Cert.InwardIdeal.Facts) (hInwardRefIdeal : Cert.InwardRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjC : Cert.ProjC.Facts) (hProjCIdeal : Cert.ProjCIdeal.Facts) (hProjCRefIdeal : Cert.ProjCRefIdeal.Facts) (hOutward : Cert.Outward.Facts) (hOutwardIdeal : Cert.OutwardIdeal.Facts) (hOutwardRefIdeal : Cert.OutwardRefIdeal.Facts) (hDmerged : Cert.Dmerged.Facts) (hDmergedIdeal : Cert.DmergedIdeal.Facts) (hDmergedRefIdeal : Cert.DmergedRefIdeal.Facts) (hDya : Cert.Dya.Facts) (hDyaIdeal : Cert.DyaIdeal.Facts) (hDyaRefIdeal : Cert.DyaRefIdeal.Facts) (hDyb : Cert.Dyb.Facts) (hDybIdeal : Cert.DybIdeal.Facts) (hDybRefIdeal : Cert.DybRefIdeal.Facts) (hDyc : Cert.Dyc.Facts) (hDycIdeal : Cert.DycIdeal.Facts) (hDycRefIdeal : Cert.DycRefIdeal.Facts) (hDmix : Cert.Dmix.Facts) (hDmixIdeal : Cert.DmixIdeal.Facts) (hDmixRefIdeal : Cert.DmixRefIdeal.Facts) (hWgDown : Cert.WgDown.Facts) (hWgDownIdeal : Cert.WgDownIdeal.Facts) (hWgDownRefIdeal : Cert.WgDownRefIdeal.Facts) (hWgWiden : Cert.WgWiden.Facts) (hWgWidenIdeal : Cert.WgWidenIdeal.Facts) (hWgWidenRefIdeal : Cert.WgWidenRefIdeal.Facts) (hWgIn : Cert.WgIn.Facts) (hWgInIdeal : Cert.WgInIdeal.Facts) (hWgInRefIdeal : Cert.WgInRefIdeal.Facts) (hWgOut : Cert.WgOut.Facts) (hWgOutIdeal : Cert.WgOutIdeal.Facts) (hWgOutRefIdeal : Cert.WgOutRefIdeal.Facts) (hWgA : Cert.WgA.Facts) (hWgAIdeal : Cert.WgAIdeal.Facts) (hWgARefIdeal : Cert.WgARefIdeal.Facts) (hWgB : Cert.WgB.Facts) (hWgBIdeal : Cert.WgBIdeal.Facts) (hWgBRefIdeal : Cert.WgBRefIdeal.Facts) (hWgC : Cert.WgC.Facts) (hWgCIdeal : Cert.WgCIdeal.Facts) (hWgCRefIdeal : Cert.WgCRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherSmallRef (hGatherSmallRef := hGatherSmallRef)
    ∧ quiescent_Sum0 (hSum0 := hSum0)
    ∧ quiescent_Sum0Ideal (hSum0Ideal := hSum0Ideal)
    ∧ quiescent_Sum0RefIdeal (hSum0RefIdeal := hSum0RefIdeal)
    ∧ quiescent_Sum1 (hSum1 := hSum1)
    ∧ quiescent_Sum1Ideal (hSum1Ideal := hSum1Ideal)
    ∧ quiescent_Sum1RefIdeal (hSum1RefIdeal := hSum1RefIdeal)
    ∧ quiescent_Sum2 (hSum2 := hSum2)
    ∧ quiescent_Sum2Ideal (hSum2Ideal := hSum2Ideal)
    ∧ quiescent_Sum2RefIdeal (hSum2RefIdeal := hSum2RefIdeal)
    ∧ quiescent_Sum3 (hSum3 := hSum3)
    ∧ quiescent_Sum3Ideal (hSum3Ideal := hSum3Ideal)
    ∧ quiescent_Sum3RefIdeal (hSum3RefIdeal := hSum3RefIdeal)
    ∧ quiescent_Sum4 (hSum4 := hSum4)
    ∧ quiescent_Sum4Ideal (hSum4Ideal := hSum4Ideal)
    ∧ quiescent_Sum4RefIdeal (hSum4RefIdeal := hSum4RefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Step0 (hStep0 := hStep0)
    ∧ quiescent_Step0Ideal (hStep0Ideal := hStep0Ideal)
    ∧ quiescent_Step0RefIdeal (hStep0RefIdeal := hStep0RefIdeal)
    ∧ quiescent_Step1 (hStep1 := hStep1)
    ∧ quiescent_Step1Ideal (hStep1Ideal := hStep1Ideal)
    ∧ quiescent_Step1RefIdeal (hStep1RefIdeal := hStep1RefIdeal)
    ∧ quiescent_Step2 (hStep2 := hStep2)
    ∧ quiescent_Step2Ideal (hStep2Ideal := hStep2Ideal)
    ∧ quiescent_Step2RefIdeal (hStep2RefIdeal := hStep2RefIdeal)
    ∧ quiescent_Step3 (hStep3 := hStep3)
    ∧ quiescent_Step3Ideal (hStep3Ideal := hStep3Ideal)
    ∧ quiescent_Step3RefIdeal (hStep3RefIdeal := hStep3RefIdeal)
    ∧ quiescent_Step4 (hStep4 := hStep4)
    ∧ quiescent_Step4Ideal (hStep4Ideal := hStep4Ideal)
    ∧ quiescent_Step4RefIdeal (hStep4RefIdeal := hStep4RefIdeal)
    ∧ quiescent_Step5 (hStep5 := hStep5)
    ∧ quiescent_Step5Ideal (hStep5Ideal := hStep5Ideal)
    ∧ quiescent_Step5RefIdeal (hStep5RefIdeal := hStep5RefIdeal)
    ∧ quiescent_Step6 (hStep6 := hStep6)
    ∧ quiescent_Step6Ideal (hStep6Ideal := hStep6Ideal)
    ∧ quiescent_Step6RefIdeal (hStep6RefIdeal := hStep6RefIdeal)
    ∧ quiescent_Head (hHead := hHead)
    ∧ quiescent_HeadIdeal (hHeadIdeal := hHeadIdeal)
    ∧ quiescent_HeadRefIdeal (hHeadRefIdeal := hHeadRefIdeal)
    ∧ quiescent_Loss (hLoss := hLoss)
    ∧ quiescent_LossIdeal (hLossIdeal := hLossIdeal)
    ∧ quiescent_LossRefIdeal (hLossRefIdeal := hLossRefIdeal)
    ∧ quiescent_Back (hBack := hBack)
    ∧ quiescent_BackIdeal (hBackIdeal := hBackIdeal)
    ∧ quiescent_BackRefIdeal (hBackRefIdeal := hBackRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Act (hAct := hAct)
    ∧ quiescent_ActIdeal (hActIdeal := hActIdeal)
    ∧ quiescent_ActRefIdeal (hActRefIdeal := hActRefIdeal)
    ∧ quiescent_ActBack (hActBack := hActBack)
    ∧ quiescent_ActBackIdeal (hActBackIdeal := hActBackIdeal)
    ∧ quiescent_ActBackRefIdeal (hActBackRefIdeal := hActBackRefIdeal)
    ∧ quiescent_Gates (hGates := hGates)
    ∧ quiescent_GatesIdeal (hGatesIdeal := hGatesIdeal)
    ∧ quiescent_GatesRefIdeal (hGatesRefIdeal := hGatesRefIdeal)
    ∧ quiescent_GatesBack (hGatesBack := hGatesBack)
    ∧ quiescent_GatesBackIdeal (hGatesBackIdeal := hGatesBackIdeal)
    ∧ quiescent_GatesBackRefIdeal (hGatesBackRefIdeal := hGatesBackRefIdeal)
    ∧ quiescent_Widen (hWiden := hWiden)
    ∧ quiescent_WidenIdeal (hWidenIdeal := hWidenIdeal)
    ∧ quiescent_WidenRefIdeal (hWidenRefIdeal := hWidenRefIdeal)
    ∧ quiescent_Down (hDown := hDown)
    ∧ quiescent_DownIdeal (hDownIdeal := hDownIdeal)
    ∧ quiescent_DownRefIdeal (hDownRefIdeal := hDownRefIdeal)
    ∧ quiescent_Dact (hDact := hDact)
    ∧ quiescent_DactIdeal (hDactIdeal := hDactIdeal)
    ∧ quiescent_DactRefIdeal (hDactRefIdeal := hDactRefIdeal)
    ∧ quiescent_Dhid (hDhid := hDhid)
    ∧ quiescent_DhidIdeal (hDhidIdeal := hDhidIdeal)
    ∧ quiescent_DhidRefIdeal (hDhidRefIdeal := hDhidRefIdeal)
    ∧ quiescent_Inward (hInward := hInward)
    ∧ quiescent_InwardIdeal (hInwardIdeal := hInwardIdeal)
    ∧ quiescent_InwardRefIdeal (hInwardRefIdeal := hInwardRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_Outward (hOutward := hOutward)
    ∧ quiescent_OutwardIdeal (hOutwardIdeal := hOutwardIdeal)
    ∧ quiescent_OutwardRefIdeal (hOutwardRefIdeal := hOutwardRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_Dya (hDya := hDya)
    ∧ quiescent_DyaIdeal (hDyaIdeal := hDyaIdeal)
    ∧ quiescent_DyaRefIdeal (hDyaRefIdeal := hDyaRefIdeal)
    ∧ quiescent_Dyb (hDyb := hDyb)
    ∧ quiescent_DybIdeal (hDybIdeal := hDybIdeal)
    ∧ quiescent_DybRefIdeal (hDybRefIdeal := hDybRefIdeal)
    ∧ quiescent_Dyc (hDyc := hDyc)
    ∧ quiescent_DycIdeal (hDycIdeal := hDycIdeal)
    ∧ quiescent_DycRefIdeal (hDycRefIdeal := hDycRefIdeal)
    ∧ quiescent_Dmix (hDmix := hDmix)
    ∧ quiescent_DmixIdeal (hDmixIdeal := hDmixIdeal)
    ∧ quiescent_DmixRefIdeal (hDmixRefIdeal := hDmixRefIdeal)
    ∧ quiescent_WgDown (hWgDown := hWgDown)
    ∧ quiescent_WgDownIdeal (hWgDownIdeal := hWgDownIdeal)
    ∧ quiescent_WgDownRefIdeal (hWgDownRefIdeal := hWgDownRefIdeal)
    ∧ quiescent_WgWiden (hWgWiden := hWgWiden)
    ∧ quiescent_WgWidenIdeal (hWgWidenIdeal := hWgWidenIdeal)
    ∧ quiescent_WgWidenRefIdeal (hWgWidenRefIdeal := hWgWidenRefIdeal)
    ∧ quiescent_WgIn (hWgIn := hWgIn)
    ∧ quiescent_WgInIdeal (hWgInIdeal := hWgInIdeal)
    ∧ quiescent_WgInRefIdeal (hWgInRefIdeal := hWgInRefIdeal)
    ∧ quiescent_WgOut (hWgOut := hWgOut)
    ∧ quiescent_WgOutIdeal (hWgOutIdeal := hWgOutIdeal)
    ∧ quiescent_WgOutRefIdeal (hWgOutRefIdeal := hWgOutRefIdeal)
    ∧ quiescent_WgA (hWgA := hWgA)
    ∧ quiescent_WgAIdeal (hWgAIdeal := hWgAIdeal)
    ∧ quiescent_WgARefIdeal (hWgARefIdeal := hWgARefIdeal)
    ∧ quiescent_WgB (hWgB := hWgB)
    ∧ quiescent_WgBIdeal (hWgBIdeal := hWgBIdeal)
    ∧ quiescent_WgBRefIdeal (hWgBRefIdeal := hWgBRefIdeal)
    ∧ quiescent_WgC (hWgC := hWgC)
    ∧ quiescent_WgCIdeal (hWgCIdeal := hWgCIdeal)
    ∧ quiescent_WgCRefIdeal (hWgCRefIdeal := hWgCRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_GatherSmall_GatherSmallIdeal
    ∧ algebraic_GatherSmallIdeal_GatherSmallRefIdeal (hGatherSmallIdeal := hGatherSmallIdeal) (hGatherSmallRefIdeal := hGatherSmallRefIdeal)
    ∧ bitexact_GatherSmall_GatherSmallRef (hGatherSmall := hGatherSmall) (hGatherSmallRef := hGatherSmallRef)
    ∧ preserves_Sum0_Sum0Ideal
    ∧ algebraic_Sum0Ideal_Sum0RefIdeal (hSum0Ideal := hSum0Ideal) (hSum0RefIdeal := hSum0RefIdeal)
    ∧ preserves_Sum1_Sum1Ideal
    ∧ algebraic_Sum1Ideal_Sum1RefIdeal (hSum1Ideal := hSum1Ideal) (hSum1RefIdeal := hSum1RefIdeal)
    ∧ preserves_Sum2_Sum2Ideal
    ∧ algebraic_Sum2Ideal_Sum2RefIdeal (hSum2Ideal := hSum2Ideal) (hSum2RefIdeal := hSum2RefIdeal)
    ∧ preserves_Sum3_Sum3Ideal
    ∧ algebraic_Sum3Ideal_Sum3RefIdeal (hSum3Ideal := hSum3Ideal) (hSum3RefIdeal := hSum3RefIdeal)
    ∧ preserves_Sum4_Sum4Ideal
    ∧ algebraic_Sum4Ideal_Sum4RefIdeal (hSum4Ideal := hSum4Ideal) (hSum4RefIdeal := hSum4RefIdeal)
    ∧ preserves_SumSmall_SumSmallIdeal
    ∧ algebraic_SumSmallIdeal_SumSmallRefIdeal (hSumSmallIdeal := hSumSmallIdeal) (hSumSmallRefIdeal := hSumSmallRefIdeal)
    ∧ preserves_Step0_Step0Ideal
    ∧ algebraic_Step0Ideal_Step0RefIdeal (hStep0Ideal := hStep0Ideal) (hStep0RefIdeal := hStep0RefIdeal)
    ∧ preserves_Step1_Step1Ideal
    ∧ algebraic_Step1Ideal_Step1RefIdeal (hStep1Ideal := hStep1Ideal) (hStep1RefIdeal := hStep1RefIdeal)
    ∧ preserves_Step2_Step2Ideal
    ∧ algebraic_Step2Ideal_Step2RefIdeal (hStep2Ideal := hStep2Ideal) (hStep2RefIdeal := hStep2RefIdeal)
    ∧ preserves_Step3_Step3Ideal
    ∧ algebraic_Step3Ideal_Step3RefIdeal (hStep3Ideal := hStep3Ideal) (hStep3RefIdeal := hStep3RefIdeal)
    ∧ preserves_Step4_Step4Ideal
    ∧ algebraic_Step4Ideal_Step4RefIdeal (hStep4Ideal := hStep4Ideal) (hStep4RefIdeal := hStep4RefIdeal)
    ∧ preserves_Step5_Step5Ideal
    ∧ algebraic_Step5Ideal_Step5RefIdeal (hStep5Ideal := hStep5Ideal) (hStep5RefIdeal := hStep5RefIdeal)
    ∧ preserves_Step6_Step6Ideal
    ∧ algebraic_Step6Ideal_Step6RefIdeal (hStep6Ideal := hStep6Ideal) (hStep6RefIdeal := hStep6RefIdeal)
    ∧ preserves_Head_HeadIdeal
    ∧ algebraic_HeadIdeal_HeadRefIdeal (hHeadIdeal := hHeadIdeal) (hHeadRefIdeal := hHeadRefIdeal)
    ∧ preserves_Loss_LossIdeal
    ∧ algebraic_LossIdeal_LossRefIdeal (hLossIdeal := hLossIdeal) (hLossRefIdeal := hLossRefIdeal)
    ∧ preserves_Back_BackIdeal
    ∧ algebraic_BackIdeal_BackRefIdeal (hBackIdeal := hBackIdeal) (hBackRefIdeal := hBackRefIdeal)
    ∧ preserves_Norm1_Norm1Ideal
    ∧ algebraic_Norm1Ideal_Norm1RefIdeal (hNorm1Ideal := hNorm1Ideal) (hNorm1RefIdeal := hNorm1RefIdeal)
    ∧ preserves_Act_ActIdeal
    ∧ algebraic_ActIdeal_ActRefIdeal (hActIdeal := hActIdeal) (hActRefIdeal := hActRefIdeal)
    ∧ preserves_ActBack_ActBackIdeal
    ∧ algebraic_ActBackIdeal_ActBackRefIdeal (hActBackIdeal := hActBackIdeal) (hActBackRefIdeal := hActBackRefIdeal)
    ∧ preserves_Gates_GatesIdeal
    ∧ algebraic_GatesIdeal_GatesRefIdeal (hGatesIdeal := hGatesIdeal) (hGatesRefIdeal := hGatesRefIdeal)
    ∧ preserves_GatesBack_GatesBackIdeal
    ∧ algebraic_GatesBackIdeal_GatesBackRefIdeal (hGatesBackIdeal := hGatesBackIdeal) (hGatesBackRefIdeal := hGatesBackRefIdeal)
    ∧ preserves_Widen_WidenIdeal
    ∧ algebraic_WidenIdeal_WidenRefIdeal (hWidenIdeal := hWidenIdeal) (hWidenRefIdeal := hWidenRefIdeal)
    ∧ preserves_Down_DownIdeal
    ∧ algebraic_DownIdeal_DownRefIdeal (hDownIdeal := hDownIdeal) (hDownRefIdeal := hDownRefIdeal)
    ∧ preserves_Dact_DactIdeal
    ∧ algebraic_DactIdeal_DactRefIdeal (hDactIdeal := hDactIdeal) (hDactRefIdeal := hDactRefIdeal)
    ∧ preserves_Dhid_DhidIdeal
    ∧ algebraic_DhidIdeal_DhidRefIdeal (hDhidIdeal := hDhidIdeal) (hDhidRefIdeal := hDhidRefIdeal)
    ∧ preserves_Inward_InwardIdeal
    ∧ algebraic_InwardIdeal_InwardRefIdeal (hInwardIdeal := hInwardIdeal) (hInwardRefIdeal := hInwardRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjC_ProjCIdeal
    ∧ algebraic_ProjCIdeal_ProjCRefIdeal (hProjCIdeal := hProjCIdeal) (hProjCRefIdeal := hProjCRefIdeal)
    ∧ preserves_Outward_OutwardIdeal
    ∧ algebraic_OutwardIdeal_OutwardRefIdeal (hOutwardIdeal := hOutwardIdeal) (hOutwardRefIdeal := hOutwardRefIdeal)
    ∧ preserves_Dmerged_DmergedIdeal
    ∧ algebraic_DmergedIdeal_DmergedRefIdeal (hDmergedIdeal := hDmergedIdeal) (hDmergedRefIdeal := hDmergedRefIdeal)
    ∧ preserves_Dya_DyaIdeal
    ∧ algebraic_DyaIdeal_DyaRefIdeal (hDyaIdeal := hDyaIdeal) (hDyaRefIdeal := hDyaRefIdeal)
    ∧ preserves_Dyb_DybIdeal
    ∧ algebraic_DybIdeal_DybRefIdeal (hDybIdeal := hDybIdeal) (hDybRefIdeal := hDybRefIdeal)
    ∧ preserves_Dyc_DycIdeal
    ∧ algebraic_DycIdeal_DycRefIdeal (hDycIdeal := hDycIdeal) (hDycRefIdeal := hDycRefIdeal)
    ∧ preserves_Dmix_DmixIdeal
    ∧ algebraic_DmixIdeal_DmixRefIdeal (hDmixIdeal := hDmixIdeal) (hDmixRefIdeal := hDmixRefIdeal)
    ∧ preserves_WgDown_WgDownIdeal
    ∧ algebraic_WgDownIdeal_WgDownRefIdeal (hWgDownIdeal := hWgDownIdeal) (hWgDownRefIdeal := hWgDownRefIdeal)
    ∧ preserves_WgWiden_WgWidenIdeal
    ∧ algebraic_WgWidenIdeal_WgWidenRefIdeal (hWgWidenIdeal := hWgWidenIdeal) (hWgWidenRefIdeal := hWgWidenRefIdeal)
    ∧ preserves_WgIn_WgInIdeal
    ∧ algebraic_WgInIdeal_WgInRefIdeal (hWgInIdeal := hWgInIdeal) (hWgInRefIdeal := hWgInRefIdeal)
    ∧ preserves_WgOut_WgOutIdeal
    ∧ algebraic_WgOutIdeal_WgOutRefIdeal (hWgOutIdeal := hWgOutIdeal) (hWgOutRefIdeal := hWgOutRefIdeal)
    ∧ preserves_WgA_WgAIdeal
    ∧ algebraic_WgAIdeal_WgARefIdeal (hWgAIdeal := hWgAIdeal) (hWgARefIdeal := hWgARefIdeal)
    ∧ preserves_WgB_WgBIdeal
    ∧ algebraic_WgBIdeal_WgBRefIdeal (hWgBIdeal := hWgBIdeal) (hWgBRefIdeal := hWgBRefIdeal)
    ∧ preserves_WgC_WgCIdeal
    ∧ algebraic_WgCIdeal_WgCRefIdeal (hWgCIdeal := hWgCIdeal) (hWgCRefIdeal := hWgCRefIdeal)
-- ==== Kernel.lean ====
abbrev S6x8x352x1024 : Shape := ⟨4, ![6, 8, 352, 1024]⟩
abbrev S1x8x864x1024 : Shape := ⟨4, ![1, 8, 864, 1024]⟩
abbrev S1x8x128x1024 : Shape := ⟨4, ![1, 8, 128, 1024]⟩
abbrev S1x8x128x256 : Shape := ⟨4, ![1, 8, 128, 256]⟩
abbrev S2x8x128x512 : Shape := ⟨4, ![2, 8, 128, 512]⟩
abbrev S8x6x352x1024 : Shape := ⟨4, ![8, 6, 352, 1024]⟩
abbrev S8x1x864x1024 : Shape := ⟨4, ![8, 1, 864, 1024]⟩
abbrev S8x1x128x1024 : Shape := ⟨4, ![8, 1, 128, 1024]⟩
abbrev S8x1x128x256 : Shape := ⟨4, ![8, 1, 128, 256]⟩
abbrev S8x2x128x512 : Shape := ⟨4, ![8, 2, 128, 512]⟩
abbrev S35 : Shape := ⟨1, ![35]⟩
abbrev S5 : Shape := ⟨1, ![5]⟩
abbrev S1 : Shape := ⟨1, ![1]⟩
abbrev S_ : Shape := ⟨0, ![]⟩
abbrev S1x6x352x1024 : Shape := ⟨4, ![1, 6, 352, 1024]⟩
abbrev S6x352x1024 : Shape := ⟨3, ![6, 352, 1024]⟩
abbrev S6x1x352x1024 : Shape := ⟨4, ![6, 1, 352, 1024]⟩
abbrev S1x1x864x1024 : Shape := ⟨4, ![1, 1, 864, 1024]⟩
abbrev S1x864x1024 : Shape := ⟨3, ![1, 864, 1024]⟩
abbrev S1x1x128x1024 : Shape := ⟨4, ![1, 1, 128, 1024]⟩
abbrev S1x128x1024 : Shape := ⟨3, ![1, 128, 1024]⟩
abbrev S1x1x128x256 : Shape := ⟨4, ![1, 1, 128, 256]⟩
abbrev S1x128x256 : Shape := ⟨3, ![1, 128, 256]⟩
abbrev S1x2x128x512 : Shape := ⟨4, ![1, 2, 128, 512]⟩
abbrev S2x128x512 : Shape := ⟨3, ![2, 128, 512]⟩
abbrev S2x1x128x512 : Shape := ⟨4, ![2, 1, 128, 512]⟩

abbrev nBuf : Space → Nat
  | .hbm => 10
  | .vmem => 0
  | .smem => 0
  | _ => 0

abbrev bufTy : (tb : Table) → Fin (tcTables nBuf tb) → BufTy
  | .hbm, ⟨0, _⟩ => ⟨S6x8x352x1024, .bf16⟩
  | .hbm, ⟨1, _⟩ => ⟨S1x8x864x1024, .bf16⟩
  | .hbm, ⟨2, _⟩ => ⟨S1x8x128x1024, .bf16⟩
  | .hbm, ⟨3, _⟩ => ⟨S1x8x128x256, .bf16⟩
  | .hbm, ⟨4, _⟩ => ⟨S2x8x128x512, .bf16⟩
  | .hbm, ⟨5, _⟩ => ⟨S8x6x352x1024, .bf16⟩
  | .hbm, ⟨6, _⟩ => ⟨S8x1x864x1024, .bf16⟩
  | .hbm, ⟨7, _⟩ => ⟨S8x1x128x1024, .bf16⟩
  | .hbm, ⟨8, _⟩ => ⟨S8x1x128x256, .bf16⟩
  | .hbm, ⟨9, _⟩ => ⟨S8x2x128x512, .bf16⟩
  | _, _ => ⟨S6x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 4 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  let c0_i32_7 : BitVec 32 := 0#32
  ![v12.toNat, 0, 0, 0]
def k0_off2 (d0 : Dev nD) : Fin 4 → Nat :=
  let c0_i32_8 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_9 : BitVec 32 := 0#32
  let c0_i32_10 : BitVec 32 := 0#32
  ![0, v12.toNat, 0, 0]
def k0_off3 (d0 : Dev nD) : Fin 4 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_12 : BitVec 32 := 0#32
  let c0_i32_13 : BitVec 32 := 0#32
  let c0_i32_14 : BitVec 32 := 0#32
  ![v12.toNat, 0, 0, 0]
def k0_off4 (d0 : Dev nD) : Fin 4 → Nat :=
  let c0_i32_15 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_16 : BitVec 32 := 0#32
  let c0_i32_17 : BitVec 32 := 0#32
  ![0, v12.toNat, 0, 0]
def k0_off5 (d0 : Dev nD) : Fin 4 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_19 : BitVec 32 := 0#32
  let c0_i32_20 : BitVec 32 := 0#32
  let c0_i32_21 : BitVec 32 := 0#32
  ![v12.toNat, 0, 0, 0]
def k0_off6 (d0 : Dev nD) : Fin 4 → Nat :=
  let c0_i32_22 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_23 : BitVec 32 := 0#32
  let c0_i32_24 : BitVec 32 := 0#32
  ![0, v12.toNat, 0, 0]
def k0_off7 (d0 : Dev nD) : Fin 4 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_25 : BitVec 32 := 0#32
  let c0_i32_26 : BitVec 32 := 0#32
  let c0_i32_27 : BitVec 32 := 0#32
  ![v12.toNat, 0, 0, 0]
def k0_off8 (d0 : Dev nD) : Fin 4 → Nat :=
  let c0_i32_28 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_29 : BitVec 32 := 0#32
  let c0_i32_30 : BitVec 32 := 0#32
  ![0, v12.toNat, 0, 0]
def k0_off9 (d0 : Dev nD) : Fin 4 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_32 : BitVec 32 := 0#32
  let c0_i32_33 : BitVec 32 := 0#32
  let c0_i32_34 : BitVec 32 := 0#32
  ![v12.toNat, 0, 0, 0]
def k0_off10 (d0 : Dev nD) : Fin 4 → Nat :=
  let c0_i32_35 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_36 : BitVec 32 := 0#32
  let c0_i32_37 : BitVec 32 := 0#32
  ![0, v12.toNat, 0, 0]
def k0_off11 (d0 : Dev nD) : Fin 4 → Nat :=
  let c0_i32_73 : BitVec 32 := 0#32
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_39 v2
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_40 v5
  let v46 : BitVec 32 := Scalar.addi v44 v45
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let v47 : BitVec 32 := Scalar.addi v46 v43
  let c0_i32_74 : BitVec 32 := 0#32
  let c0_i32_75 : BitVec 32 := 0#32
  ![0, v47.toNat, 0, 0]
def k0_dev1 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v83 : BitVec 32 := Scalar.muli v2 c4_i32_66
  let v84 : BitVec 32 := Scalar.addi c0_i32_67 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v85 : BitVec 32 := Scalar.muli v5 c2_i32_68
  let v86 : BitVec 32 := Scalar.addi v84 v85
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let c1_i32_69 : BitVec 32 := 1#32
  let v87 : BitVec 32 := Scalar.muli v43 c1_i32_69
  let v88 : BitVec 32 := Scalar.addi v86 v87
  v88.toNat
def k0_off12 (d0 : Dev nD) : Fin 4 → Nat :=
  let c0_i32_84 : BitVec 32 := 0#32
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_39 v2
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_40 v5
  let v46 : BitVec 32 := Scalar.addi v44 v45
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let v47 : BitVec 32 := Scalar.addi v46 v43
  let c0_i32_85 : BitVec 32 := 0#32
  let c0_i32_86 : BitVec 32 := 0#32
  ![0, v47.toNat, 0, 0]
def k0_dev2 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v97 : BitVec 32 := Scalar.muli v2 c4_i32_77
  let v98 : BitVec 32 := Scalar.addi c0_i32_78 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v99 : BitVec 32 := Scalar.muli v5 c2_i32_79
  let v100 : BitVec 32 := Scalar.addi v98 v99
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let c1_i32_80 : BitVec 32 := 1#32
  let v101 : BitVec 32 := Scalar.muli v43 c1_i32_80
  let v102 : BitVec 32 := Scalar.addi v100 v101
  v102.toNat
def k0_off13 (d0 : Dev nD) : Fin 4 → Nat :=
  let c0_i32_95 : BitVec 32 := 0#32
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_39 v2
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_40 v5
  let v46 : BitVec 32 := Scalar.addi v44 v45
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let v47 : BitVec 32 := Scalar.addi v46 v43
  let c0_i32_96 : BitVec 32 := 0#32
  let c0_i32_97 : BitVec 32 := 0#32
  ![0, v47.toNat, 0, 0]
def k0_dev3 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v111 : BitVec 32 := Scalar.muli v2 c4_i32_88
  let v112 : BitVec 32 := Scalar.addi c0_i32_89 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v113 : BitVec 32 := Scalar.muli v5 c2_i32_90
  let v114 : BitVec 32 := Scalar.addi v112 v113
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let c1_i32_91 : BitVec 32 := 1#32
  let v115 : BitVec 32 := Scalar.muli v43 c1_i32_91
  let v116 : BitVec 32 := Scalar.addi v114 v115
  v116.toNat
def k0_off14 (d0 : Dev nD) : Fin 4 → Nat :=
  let c0_i32_106 : BitVec 32 := 0#32
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_39 v2
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_40 v5
  let v46 : BitVec 32 := Scalar.addi v44 v45
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let v47 : BitVec 32 := Scalar.addi v46 v43
  let c0_i32_107 : BitVec 32 := 0#32
  let c0_i32_108 : BitVec 32 := 0#32
  ![0, v47.toNat, 0, 0]
def k0_dev4 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v125 : BitVec 32 := Scalar.muli v2 c4_i32_99
  let v126 : BitVec 32 := Scalar.addi c0_i32_100 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v127 : BitVec 32 := Scalar.muli v5 c2_i32_101
  let v128 : BitVec 32 := Scalar.addi v126 v127
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let c1_i32_102 : BitVec 32 := 1#32
  let v129 : BitVec 32 := Scalar.muli v43 c1_i32_102
  let v130 : BitVec 32 := Scalar.addi v128 v129
  v130.toNat
def k0_off15 (d0 : Dev nD) : Fin 4 → Nat :=
  let c0_i32_117 : BitVec 32 := 0#32
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_39 v2
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_40 v5
  let v46 : BitVec 32 := Scalar.addi v44 v45
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let v47 : BitVec 32 := Scalar.addi v46 v43
  let c0_i32_118 : BitVec 32 := 0#32
  let c0_i32_119 : BitVec 32 := 0#32
  ![0, v47.toNat, 0, 0]
def k0_dev5 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v139 : BitVec 32 := Scalar.muli v2 c4_i32_110
  let v140 : BitVec 32 := Scalar.addi c0_i32_111 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v141 : BitVec 32 := Scalar.muli v5 c2_i32_112
  let v142 : BitVec 32 := Scalar.addi v140 v141
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_38 v8
  let c1_i32_113 : BitVec 32 := 1#32
  let v143 : BitVec 32 := Scalar.muli v43 c1_i32_113
  let v144 : BitVec 32 := Scalar.addi v142 v143
  v144.toNat
def k0_off16 (d0 : Dev nD) : Fin 4 → Nat :=
  let c0_i32_129 : BitVec 32 := 0#32
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let v50 : BitVec 32 := Scalar.muli c2_i32_43 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_130 : BitVec 32 := 0#32
  let c0_i32_131 : BitVec 32 := 0#32
  ![0, v52.toNat, 0, 0]
def k0_dev6 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v153 : BitVec 32 := Scalar.muli v2 c4_i32_122
  let v154 : BitVec 32 := Scalar.addi c0_i32_123 v153
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let c2_i32_124 : BitVec 32 := 2#32
  let v155 : BitVec 32 := Scalar.muli v48 c2_i32_124
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v157 : BitVec 32 := Scalar.muli v8 c1_i32_125
  let v158 : BitVec 32 := Scalar.addi v156 v157
  v158.toNat
def k0_off17 (d0 : Dev nD) : Fin 4 → Nat :=
  let c0_i32_140 : BitVec 32 := 0#32
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let v50 : BitVec 32 := Scalar.muli c2_i32_43 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_141 : BitVec 32 := 0#32
  let c0_i32_142 : BitVec 32 := 0#32
  ![0, v52.toNat, 0, 0]
def k0_dev7 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v167 : BitVec 32 := Scalar.muli v2 c4_i32_133
  let v168 : BitVec 32 := Scalar.addi c0_i32_134 v167
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let c2_i32_135 : BitVec 32 := 2#32
  let v169 : BitVec 32 := Scalar.muli v48 c2_i32_135
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v171 : BitVec 32 := Scalar.muli v8 c1_i32_136
  let v172 : BitVec 32 := Scalar.addi v170 v171
  v172.toNat
def k0_off18 (d0 : Dev nD) : Fin 4 → Nat :=
  let c0_i32_151 : BitVec 32 := 0#32
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let v50 : BitVec 32 := Scalar.muli c2_i32_43 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_152 : BitVec 32 := 0#32
  let c0_i32_153 : BitVec 32 := 0#32
  ![0, v52.toNat, 0, 0]
def k0_dev8 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v181 : BitVec 32 := Scalar.muli v2 c4_i32_144
  let v182 : BitVec 32 := Scalar.addi c0_i32_145 v181
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let c2_i32_146 : BitVec 32 := 2#32
  let v183 : BitVec 32 := Scalar.muli v48 c2_i32_146
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v185 : BitVec 32 := Scalar.muli v8 c1_i32_147
  let v186 : BitVec 32 := Scalar.addi v184 v185
  v186.toNat
def k0_off19 (d0 : Dev nD) : Fin 4 → Nat :=
  let c0_i32_162 : BitVec 32 := 0#32
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let v50 : BitVec 32 := Scalar.muli c2_i32_43 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_163 : BitVec 32 := 0#32
  let c0_i32_164 : BitVec 32 := 0#32
  ![0, v52.toNat, 0, 0]
def k0_dev9 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v195 : BitVec 32 := Scalar.muli v2 c4_i32_155
  let v196 : BitVec 32 := Scalar.addi c0_i32_156 v195
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let c2_i32_157 : BitVec 32 := 2#32
  let v197 : BitVec 32 := Scalar.muli v48 c2_i32_157
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v199 : BitVec 32 := Scalar.muli v8 c1_i32_158
  let v200 : BitVec 32 := Scalar.addi v198 v199
  v200.toNat
def k0_off20 (d0 : Dev nD) : Fin 4 → Nat :=
  let c0_i32_173 : BitVec 32 := 0#32
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_42 v2
  let c2_i32_43 : BitVec 32 := 2#32
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let v50 : BitVec 32 := Scalar.muli c2_i32_43 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_174 : BitVec 32 := 0#32
  let c0_i32_175 : BitVec 32 := 0#32
  ![0, v52.toNat, 0, 0]
def k0_dev10 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v209 : BitVec 32 := Scalar.muli v2 c4_i32_166
  let v210 : BitVec 32 := Scalar.addi c0_i32_167 v209
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_41 v5
  let c2_i32_168 : BitVec 32 := 2#32
  let v211 : BitVec 32 := Scalar.muli v48 c2_i32_168
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v213 : BitVec 32 := Scalar.muli v8 c1_i32_169
  let v214 : BitVec 32 := Scalar.addi v212 v213
  v214.toNat
def k0_off21 (d0 : Dev nD) : Fin 4 → Nat :=
  let c0_i32_185 : BitVec 32 := 0#32
  let c4_i32_46 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_46 v2
  let c2_i32_47 : BitVec 32 := 2#32
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let v56 : BitVec 32 := Scalar.muli c2_i32_47 v53
  let v57 : BitVec 32 := Scalar.addi v55 v56
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let v58 : BitVec 32 := Scalar.addi v57 v54
  let c0_i32_186 : BitVec 32 := 0#32
  let c0_i32_187 : BitVec 32 := 0#32
  ![0, v58.toNat, 0, 0]
def k0_dev11 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v223 : BitVec 32 := Scalar.muli v2 c4_i32_178
  let v224 : BitVec 32 := Scalar.addi c0_i32_179 v223
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let c2_i32_180 : BitVec 32 := 2#32
  let v225 : BitVec 32 := Scalar.muli v53 c2_i32_180
  let v226 : BitVec 32 := Scalar.addi v224 v225
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let c1_i32_181 : BitVec 32 := 1#32
  let v227 : BitVec 32 := Scalar.muli v54 c1_i32_181
  let v228 : BitVec 32 := Scalar.addi v226 v227
  v228.toNat
def k0_off22 (d0 : Dev nD) : Fin 4 → Nat :=
  let c0_i32_196 : BitVec 32 := 0#32
  let c4_i32_46 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_46 v2
  let c2_i32_47 : BitVec 32 := 2#32
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let v56 : BitVec 32 := Scalar.muli c2_i32_47 v53
  let v57 : BitVec 32 := Scalar.addi v55 v56
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let v58 : BitVec 32 := Scalar.addi v57 v54
  let c0_i32_197 : BitVec 32 := 0#32
  let c0_i32_198 : BitVec 32 := 0#32
  ![0, v58.toNat, 0, 0]
def k0_dev12 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v237 : BitVec 32 := Scalar.muli v2 c4_i32_189
  let v238 : BitVec 32 := Scalar.addi c0_i32_190 v237
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let c2_i32_191 : BitVec 32 := 2#32
  let v239 : BitVec 32 := Scalar.muli v53 c2_i32_191
  let v240 : BitVec 32 := Scalar.addi v238 v239
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let c1_i32_192 : BitVec 32 := 1#32
  let v241 : BitVec 32 := Scalar.muli v54 c1_i32_192
  let v242 : BitVec 32 := Scalar.addi v240 v241
  v242.toNat
def k0_off23 (d0 : Dev nD) : Fin 4 → Nat :=
  let c0_i32_207 : BitVec 32 := 0#32
  let c4_i32_46 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_46 v2
  let c2_i32_47 : BitVec 32 := 2#32
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let v56 : BitVec 32 := Scalar.muli c2_i32_47 v53
  let v57 : BitVec 32 := Scalar.addi v55 v56
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let v58 : BitVec 32 := Scalar.addi v57 v54
  let c0_i32_208 : BitVec 32 := 0#32
  let c0_i32_209 : BitVec 32 := 0#32
  ![0, v58.toNat, 0, 0]
def k0_dev13 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v251 : BitVec 32 := Scalar.muli v2 c4_i32_200
  let v252 : BitVec 32 := Scalar.addi c0_i32_201 v251
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let c2_i32_202 : BitVec 32 := 2#32
  let v253 : BitVec 32 := Scalar.muli v53 c2_i32_202
  let v254 : BitVec 32 := Scalar.addi v252 v253
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let c1_i32_203 : BitVec 32 := 1#32
  let v255 : BitVec 32 := Scalar.muli v54 c1_i32_203
  let v256 : BitVec 32 := Scalar.addi v254 v255
  v256.toNat
def k0_off24 (d0 : Dev nD) : Fin 4 → Nat :=
  let c0_i32_218 : BitVec 32 := 0#32
  let c4_i32_46 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_46 v2
  let c2_i32_47 : BitVec 32 := 2#32
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let v56 : BitVec 32 := Scalar.muli c2_i32_47 v53
  let v57 : BitVec 32 := Scalar.addi v55 v56
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let v58 : BitVec 32 := Scalar.addi v57 v54
  let c0_i32_219 : BitVec 32 := 0#32
  let c0_i32_220 : BitVec 32 := 0#32
  ![0, v58.toNat, 0, 0]
def k0_dev14 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v265 : BitVec 32 := Scalar.muli v2 c4_i32_211
  let v266 : BitVec 32 := Scalar.addi c0_i32_212 v265
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let c2_i32_213 : BitVec 32 := 2#32
  let v267 : BitVec 32 := Scalar.muli v53 c2_i32_213
  let v268 : BitVec 32 := Scalar.addi v266 v267
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let c1_i32_214 : BitVec 32 := 1#32
  let v269 : BitVec 32 := Scalar.muli v54 c1_i32_214
  let v270 : BitVec 32 := Scalar.addi v268 v269
  v270.toNat
def k0_off25 (d0 : Dev nD) : Fin 4 → Nat :=
  let c0_i32_229 : BitVec 32 := 0#32
  let c4_i32_46 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_46 v2
  let c2_i32_47 : BitVec 32 := 2#32
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let v56 : BitVec 32 := Scalar.muli c2_i32_47 v53
  let v57 : BitVec 32 := Scalar.addi v55 v56
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let v58 : BitVec 32 := Scalar.addi v57 v54
  let c0_i32_230 : BitVec 32 := 0#32
  let c0_i32_231 : BitVec 32 := 0#32
  ![0, v58.toNat, 0, 0]
def k0_dev15 (d0 : Dev nD) : Nat :=
  let c0_i32_223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_222 : BitVec 32 := 4#32
  let v279 : BitVec 32 := Scalar.muli v2 c4_i32_222
  let v280 : BitVec 32 := Scalar.addi c0_i32_223 v279
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_44 v5
  let c2_i32_224 : BitVec 32 := 2#32
  let v281 : BitVec 32 := Scalar.muli v53 c2_i32_224
  let v282 : BitVec 32 := Scalar.addi v280 v281
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let c1_i32_225 : BitVec 32 := 1#32
  let v283 : BitVec 32 := Scalar.muli v54 c1_i32_225
  let v284 : BitVec 32 := Scalar.addi v282 v283
  v284.toNat
def k0_off26 (d0 : Dev nD) : Fin 4 → Nat :=
  let c0_i32_241 : BitVec 32 := 0#32
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let v60 : BitVec 32 := Scalar.muli c4_i32_49 v59
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_50 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_242 : BitVec 32 := 0#32
  let c0_i32_243 : BitVec 32 := 0#32
  ![0, v63.toNat, 0, 0]
def k0_dev16 (d0 : Dev nD) : Nat :=
  let c0_i32_235 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let c4_i32_234 : BitVec 32 := 4#32
  let v293 : BitVec 32 := Scalar.muli v59 c4_i32_234
  let v294 : BitVec 32 := Scalar.addi c0_i32_235 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v295 : BitVec 32 := Scalar.muli v5 c2_i32_236
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v297 : BitVec 32 := Scalar.muli v8 c1_i32_237
  let v298 : BitVec 32 := Scalar.addi v296 v297
  v298.toNat
def k0_off27 (d0 : Dev nD) : Fin 4 → Nat :=
  let c0_i32_252 : BitVec 32 := 0#32
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let v60 : BitVec 32 := Scalar.muli c4_i32_49 v59
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_50 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_253 : BitVec 32 := 0#32
  let c0_i32_254 : BitVec 32 := 0#32
  ![0, v63.toNat, 0, 0]
def k0_dev17 (d0 : Dev nD) : Nat :=
  let c0_i32_246 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let c4_i32_245 : BitVec 32 := 4#32
  let v307 : BitVec 32 := Scalar.muli v59 c4_i32_245
  let v308 : BitVec 32 := Scalar.addi c0_i32_246 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v309 : BitVec 32 := Scalar.muli v5 c2_i32_247
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v311 : BitVec 32 := Scalar.muli v8 c1_i32_248
  let v312 : BitVec 32 := Scalar.addi v310 v311
  v312.toNat
def k0_off28 (d0 : Dev nD) : Fin 4 → Nat :=
  let c0_i32_263 : BitVec 32 := 0#32
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let v60 : BitVec 32 := Scalar.muli c4_i32_49 v59
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_50 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_264 : BitVec 32 := 0#32
  let c0_i32_265 : BitVec 32 := 0#32
  ![0, v63.toNat, 0, 0]
def k0_dev18 (d0 : Dev nD) : Nat :=
  let c0_i32_257 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let c4_i32_256 : BitVec 32 := 4#32
  let v321 : BitVec 32 := Scalar.muli v59 c4_i32_256
  let v322 : BitVec 32 := Scalar.addi c0_i32_257 v321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v323 : BitVec 32 := Scalar.muli v5 c2_i32_258
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v325 : BitVec 32 := Scalar.muli v8 c1_i32_259
  let v326 : BitVec 32 := Scalar.addi v324 v325
  v326.toNat
def k0_off29 (d0 : Dev nD) : Fin 4 → Nat :=
  let c0_i32_274 : BitVec 32 := 0#32
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let v60 : BitVec 32 := Scalar.muli c4_i32_49 v59
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_50 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_275 : BitVec 32 := 0#32
  let c0_i32_276 : BitVec 32 := 0#32
  ![0, v63.toNat, 0, 0]
def k0_dev19 (d0 : Dev nD) : Nat :=
  let c0_i32_268 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let c4_i32_267 : BitVec 32 := 4#32
  let v335 : BitVec 32 := Scalar.muli v59 c4_i32_267
  let v336 : BitVec 32 := Scalar.addi c0_i32_268 v335
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_269 : BitVec 32 := 2#32
  let v337 : BitVec 32 := Scalar.muli v5 c2_i32_269
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v339 : BitVec 32 := Scalar.muli v8 c1_i32_270
  let v340 : BitVec 32 := Scalar.addi v338 v339
  v340.toNat
def k0_off30 (d0 : Dev nD) : Fin 4 → Nat :=
  let c0_i32_285 : BitVec 32 := 0#32
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let v60 : BitVec 32 := Scalar.muli c4_i32_49 v59
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_50 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_286 : BitVec 32 := 0#32
  let c0_i32_287 : BitVec 32 := 0#32
  ![0, v63.toNat, 0, 0]
def k0_dev20 (d0 : Dev nD) : Nat :=
  let c0_i32_279 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_48 v2
  let c4_i32_278 : BitVec 32 := 4#32
  let v349 : BitVec 32 := Scalar.muli v59 c4_i32_278
  let v350 : BitVec 32 := Scalar.addi c0_i32_279 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v351 : BitVec 32 := Scalar.muli v5 c2_i32_280
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_281 : BitVec 32 := 1#32
  let v353 : BitVec 32 := Scalar.muli v8 c1_i32_281
  let v354 : BitVec 32 := Scalar.addi v352 v353
  v354.toNat
def k0_off31 (d0 : Dev nD) : Fin 4 → Nat :=
  let c0_i32_297 : BitVec 32 := 0#32
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let v66 : BitVec 32 := Scalar.muli c4_i32_53 v64
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_54 v5
  let v68 : BitVec 32 := Scalar.addi v66 v67
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let v69 : BitVec 32 := Scalar.addi v68 v65
  let c0_i32_298 : BitVec 32 := 0#32
  let c0_i32_299 : BitVec 32 := 0#32
  ![0, v69.toNat, 0, 0]
def k0_dev21 (d0 : Dev nD) : Nat :=
  let c0_i32_291 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let c4_i32_290 : BitVec 32 := 4#32
  let v363 : BitVec 32 := Scalar.muli v64 c4_i32_290
  let v364 : BitVec 32 := Scalar.addi c0_i32_291 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v365 : BitVec 32 := Scalar.muli v5 c2_i32_292
  let v366 : BitVec 32 := Scalar.addi v364 v365
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let c1_i32_293 : BitVec 32 := 1#32
  let v367 : BitVec 32 := Scalar.muli v65 c1_i32_293
  let v368 : BitVec 32 := Scalar.addi v366 v367
  v368.toNat
def k0_off32 (d0 : Dev nD) : Fin 4 → Nat :=
  let c0_i32_308 : BitVec 32 := 0#32
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let v66 : BitVec 32 := Scalar.muli c4_i32_53 v64
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_54 v5
  let v68 : BitVec 32 := Scalar.addi v66 v67
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let v69 : BitVec 32 := Scalar.addi v68 v65
  let c0_i32_309 : BitVec 32 := 0#32
  let c0_i32_310 : BitVec 32 := 0#32
  ![0, v69.toNat, 0, 0]
def k0_dev22 (d0 : Dev nD) : Nat :=
  let c0_i32_302 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let c4_i32_301 : BitVec 32 := 4#32
  let v377 : BitVec 32 := Scalar.muli v64 c4_i32_301
  let v378 : BitVec 32 := Scalar.addi c0_i32_302 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v379 : BitVec 32 := Scalar.muli v5 c2_i32_303
  let v380 : BitVec 32 := Scalar.addi v378 v379
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let c1_i32_304 : BitVec 32 := 1#32
  let v381 : BitVec 32 := Scalar.muli v65 c1_i32_304
  let v382 : BitVec 32 := Scalar.addi v380 v381
  v382.toNat
def k0_off33 (d0 : Dev nD) : Fin 4 → Nat :=
  let c0_i32_319 : BitVec 32 := 0#32
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let v66 : BitVec 32 := Scalar.muli c4_i32_53 v64
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_54 v5
  let v68 : BitVec 32 := Scalar.addi v66 v67
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let v69 : BitVec 32 := Scalar.addi v68 v65
  let c0_i32_320 : BitVec 32 := 0#32
  let c0_i32_321 : BitVec 32 := 0#32
  ![0, v69.toNat, 0, 0]
def k0_dev23 (d0 : Dev nD) : Nat :=
  let c0_i32_313 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let c4_i32_312 : BitVec 32 := 4#32
  let v391 : BitVec 32 := Scalar.muli v64 c4_i32_312
  let v392 : BitVec 32 := Scalar.addi c0_i32_313 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v393 : BitVec 32 := Scalar.muli v5 c2_i32_314
  let v394 : BitVec 32 := Scalar.addi v392 v393
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let c1_i32_315 : BitVec 32 := 1#32
  let v395 : BitVec 32 := Scalar.muli v65 c1_i32_315
  let v396 : BitVec 32 := Scalar.addi v394 v395
  v396.toNat
def k0_off34 (d0 : Dev nD) : Fin 4 → Nat :=
  let c0_i32_330 : BitVec 32 := 0#32
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let v66 : BitVec 32 := Scalar.muli c4_i32_53 v64
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_54 v5
  let v68 : BitVec 32 := Scalar.addi v66 v67
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let v69 : BitVec 32 := Scalar.addi v68 v65
  let c0_i32_331 : BitVec 32 := 0#32
  let c0_i32_332 : BitVec 32 := 0#32
  ![0, v69.toNat, 0, 0]
def k0_dev24 (d0 : Dev nD) : Nat :=
  let c0_i32_324 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let c4_i32_323 : BitVec 32 := 4#32
  let v405 : BitVec 32 := Scalar.muli v64 c4_i32_323
  let v406 : BitVec 32 := Scalar.addi c0_i32_324 v405
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v407 : BitVec 32 := Scalar.muli v5 c2_i32_325
  let v408 : BitVec 32 := Scalar.addi v406 v407
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let c1_i32_326 : BitVec 32 := 1#32
  let v409 : BitVec 32 := Scalar.muli v65 c1_i32_326
  let v410 : BitVec 32 := Scalar.addi v408 v409
  v410.toNat
def k0_off35 (d0 : Dev nD) : Fin 4 → Nat :=
  let c0_i32_341 : BitVec 32 := 0#32
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let v66 : BitVec 32 := Scalar.muli c4_i32_53 v64
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_54 v5
  let v68 : BitVec 32 := Scalar.addi v66 v67
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let v69 : BitVec 32 := Scalar.addi v68 v65
  let c0_i32_342 : BitVec 32 := 0#32
  let c0_i32_343 : BitVec 32 := 0#32
  ![0, v69.toNat, 0, 0]
def k0_dev25 (d0 : Dev nD) : Nat :=
  let c0_i32_335 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_51 v2
  let c4_i32_334 : BitVec 32 := 4#32
  let v419 : BitVec 32 := Scalar.muli v64 c4_i32_334
  let v420 : BitVec 32 := Scalar.addi c0_i32_335 v419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v421 : BitVec 32 := Scalar.muli v5 c2_i32_336
  let v422 : BitVec 32 := Scalar.addi v420 v421
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let c1_i32_337 : BitVec 32 := 1#32
  let v423 : BitVec 32 := Scalar.muli v65 c1_i32_337
  let v424 : BitVec 32 := Scalar.addi v422 v423
  v424.toNat
def k0_off36 (d0 : Dev nD) : Fin 4 → Nat :=
  let c0_i32_352 : BitVec 32 := 0#32
  let c4_i32_57 : BitVec 32 := 4#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let v72 : BitVec 32 := Scalar.muli c4_i32_57 v70
  let c2_i32_58 : BitVec 32 := 2#32
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let v73 : BitVec 32 := Scalar.muli c2_i32_58 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_353 : BitVec 32 := 0#32
  let c0_i32_354 : BitVec 32 := 0#32
  ![0, v75.toNat, 0, 0]
def k0_dev26 (d0 : Dev nD) : Nat :=
  let c0_i32_346 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let c4_i32_345 : BitVec 32 := 4#32
  let v433 : BitVec 32 := Scalar.muli v70 c4_i32_345
  let v434 : BitVec 32 := Scalar.addi c0_i32_346 v433
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let c2_i32_347 : BitVec 32 := 2#32
  let v435 : BitVec 32 := Scalar.muli v71 c2_i32_347
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_348 : BitVec 32 := 1#32
  let v437 : BitVec 32 := Scalar.muli v8 c1_i32_348
  let v438 : BitVec 32 := Scalar.addi v436 v437
  v438.toNat
def k0_off37 (d0 : Dev nD) : Fin 4 → Nat :=
  let c0_i32_363 : BitVec 32 := 0#32
  let c4_i32_57 : BitVec 32 := 4#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let v72 : BitVec 32 := Scalar.muli c4_i32_57 v70
  let c2_i32_58 : BitVec 32 := 2#32
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let v73 : BitVec 32 := Scalar.muli c2_i32_58 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_364 : BitVec 32 := 0#32
  let c0_i32_365 : BitVec 32 := 0#32
  ![0, v75.toNat, 0, 0]
def k0_dev27 (d0 : Dev nD) : Nat :=
  let c0_i32_357 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let c4_i32_356 : BitVec 32 := 4#32
  let v447 : BitVec 32 := Scalar.muli v70 c4_i32_356
  let v448 : BitVec 32 := Scalar.addi c0_i32_357 v447
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let c2_i32_358 : BitVec 32 := 2#32
  let v449 : BitVec 32 := Scalar.muli v71 c2_i32_358
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v451 : BitVec 32 := Scalar.muli v8 c1_i32_359
  let v452 : BitVec 32 := Scalar.addi v450 v451
  v452.toNat
def k0_off38 (d0 : Dev nD) : Fin 4 → Nat :=
  let c0_i32_374 : BitVec 32 := 0#32
  let c4_i32_57 : BitVec 32 := 4#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let v72 : BitVec 32 := Scalar.muli c4_i32_57 v70
  let c2_i32_58 : BitVec 32 := 2#32
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let v73 : BitVec 32 := Scalar.muli c2_i32_58 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_375 : BitVec 32 := 0#32
  let c0_i32_376 : BitVec 32 := 0#32
  ![0, v75.toNat, 0, 0]
def k0_dev28 (d0 : Dev nD) : Nat :=
  let c0_i32_368 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let c4_i32_367 : BitVec 32 := 4#32
  let v461 : BitVec 32 := Scalar.muli v70 c4_i32_367
  let v462 : BitVec 32 := Scalar.addi c0_i32_368 v461
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let c2_i32_369 : BitVec 32 := 2#32
  let v463 : BitVec 32 := Scalar.muli v71 c2_i32_369
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_370 : BitVec 32 := 1#32
  let v465 : BitVec 32 := Scalar.muli v8 c1_i32_370
  let v466 : BitVec 32 := Scalar.addi v464 v465
  v466.toNat
def k0_off39 (d0 : Dev nD) : Fin 4 → Nat :=
  let c0_i32_385 : BitVec 32 := 0#32
  let c4_i32_57 : BitVec 32 := 4#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let v72 : BitVec 32 := Scalar.muli c4_i32_57 v70
  let c2_i32_58 : BitVec 32 := 2#32
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let v73 : BitVec 32 := Scalar.muli c2_i32_58 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_386 : BitVec 32 := 0#32
  let c0_i32_387 : BitVec 32 := 0#32
  ![0, v75.toNat, 0, 0]
def k0_dev29 (d0 : Dev nD) : Nat :=
  let c0_i32_379 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let c4_i32_378 : BitVec 32 := 4#32
  let v475 : BitVec 32 := Scalar.muli v70 c4_i32_378
  let v476 : BitVec 32 := Scalar.addi c0_i32_379 v475
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let c2_i32_380 : BitVec 32 := 2#32
  let v477 : BitVec 32 := Scalar.muli v71 c2_i32_380
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_381 : BitVec 32 := 1#32
  let v479 : BitVec 32 := Scalar.muli v8 c1_i32_381
  let v480 : BitVec 32 := Scalar.addi v478 v479
  v480.toNat
def k0_off40 (d0 : Dev nD) : Fin 4 → Nat :=
  let c0_i32_396 : BitVec 32 := 0#32
  let c4_i32_57 : BitVec 32 := 4#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let v72 : BitVec 32 := Scalar.muli c4_i32_57 v70
  let c2_i32_58 : BitVec 32 := 2#32
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let v73 : BitVec 32 := Scalar.muli c2_i32_58 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_397 : BitVec 32 := 0#32
  let c0_i32_398 : BitVec 32 := 0#32
  ![0, v75.toNat, 0, 0]
def k0_dev30 (d0 : Dev nD) : Nat :=
  let c0_i32_390 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_55 v2
  let c4_i32_389 : BitVec 32 := 4#32
  let v489 : BitVec 32 := Scalar.muli v70 c4_i32_389
  let v490 : BitVec 32 := Scalar.addi c0_i32_390 v489
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_56 v5
  let c2_i32_391 : BitVec 32 := 2#32
  let v491 : BitVec 32 := Scalar.muli v71 c2_i32_391
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v493 : BitVec 32 := Scalar.muli v8 c1_i32_392
  let v494 : BitVec 32 := Scalar.addi v492 v493
  v494.toNat
def k0_off41 (d0 : Dev nD) : Fin 4 → Nat :=
  let c0_i32_407 : BitVec 32 := 0#32
  let c4_i32_62 : BitVec 32 := 4#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let v79 : BitVec 32 := Scalar.muli c4_i32_62 v76
  let c2_i32_63 : BitVec 32 := 2#32
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let v80 : BitVec 32 := Scalar.muli c2_i32_63 v77
  let v81 : BitVec 32 := Scalar.addi v79 v80
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let v82 : BitVec 32 := Scalar.addi v81 v78
  let c0_i32_408 : BitVec 32 := 0#32
  let c0_i32_409 : BitVec 32 := 0#32
  ![0, v82.toNat, 0, 0]
def k0_dev31 (d0 : Dev nD) : Nat :=
  let c0_i32_401 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let c4_i32_400 : BitVec 32 := 4#32
  let v503 : BitVec 32 := Scalar.muli v76 c4_i32_400
  let v504 : BitVec 32 := Scalar.addi c0_i32_401 v503
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let c2_i32_402 : BitVec 32 := 2#32
  let v505 : BitVec 32 := Scalar.muli v77 c2_i32_402
  let v506 : BitVec 32 := Scalar.addi v504 v505
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let c1_i32_403 : BitVec 32 := 1#32
  let v507 : BitVec 32 := Scalar.muli v78 c1_i32_403
  let v508 : BitVec 32 := Scalar.addi v506 v507
  v508.toNat
def k0_off42 (d0 : Dev nD) : Fin 4 → Nat :=
  let c0_i32_418 : BitVec 32 := 0#32
  let c4_i32_62 : BitVec 32 := 4#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let v79 : BitVec 32 := Scalar.muli c4_i32_62 v76
  let c2_i32_63 : BitVec 32 := 2#32
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let v80 : BitVec 32 := Scalar.muli c2_i32_63 v77
  let v81 : BitVec 32 := Scalar.addi v79 v80
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let v82 : BitVec 32 := Scalar.addi v81 v78
  let c0_i32_419 : BitVec 32 := 0#32
  let c0_i32_420 : BitVec 32 := 0#32
  ![0, v82.toNat, 0, 0]
def k0_dev32 (d0 : Dev nD) : Nat :=
  let c0_i32_412 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let c4_i32_411 : BitVec 32 := 4#32
  let v517 : BitVec 32 := Scalar.muli v76 c4_i32_411
  let v518 : BitVec 32 := Scalar.addi c0_i32_412 v517
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let c2_i32_413 : BitVec 32 := 2#32
  let v519 : BitVec 32 := Scalar.muli v77 c2_i32_413
  let v520 : BitVec 32 := Scalar.addi v518 v519
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let c1_i32_414 : BitVec 32 := 1#32
  let v521 : BitVec 32 := Scalar.muli v78 c1_i32_414
  let v522 : BitVec 32 := Scalar.addi v520 v521
  v522.toNat
def k0_off43 (d0 : Dev nD) : Fin 4 → Nat :=
  let c0_i32_429 : BitVec 32 := 0#32
  let c4_i32_62 : BitVec 32 := 4#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let v79 : BitVec 32 := Scalar.muli c4_i32_62 v76
  let c2_i32_63 : BitVec 32 := 2#32
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let v80 : BitVec 32 := Scalar.muli c2_i32_63 v77
  let v81 : BitVec 32 := Scalar.addi v79 v80
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let v82 : BitVec 32 := Scalar.addi v81 v78
  let c0_i32_430 : BitVec 32 := 0#32
  let c0_i32_431 : BitVec 32 := 0#32
  ![0, v82.toNat, 0, 0]
def k0_dev33 (d0 : Dev nD) : Nat :=
  let c0_i32_423 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let c4_i32_422 : BitVec 32 := 4#32
  let v531 : BitVec 32 := Scalar.muli v76 c4_i32_422
  let v532 : BitVec 32 := Scalar.addi c0_i32_423 v531
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let c2_i32_424 : BitVec 32 := 2#32
  let v533 : BitVec 32 := Scalar.muli v77 c2_i32_424
  let v534 : BitVec 32 := Scalar.addi v532 v533
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let c1_i32_425 : BitVec 32 := 1#32
  let v535 : BitVec 32 := Scalar.muli v78 c1_i32_425
  let v536 : BitVec 32 := Scalar.addi v534 v535
  v536.toNat
def k0_off44 (d0 : Dev nD) : Fin 4 → Nat :=
  let c0_i32_440 : BitVec 32 := 0#32
  let c4_i32_62 : BitVec 32 := 4#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let v79 : BitVec 32 := Scalar.muli c4_i32_62 v76
  let c2_i32_63 : BitVec 32 := 2#32
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let v80 : BitVec 32 := Scalar.muli c2_i32_63 v77
  let v81 : BitVec 32 := Scalar.addi v79 v80
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let v82 : BitVec 32 := Scalar.addi v81 v78
  let c0_i32_441 : BitVec 32 := 0#32
  let c0_i32_442 : BitVec 32 := 0#32
  ![0, v82.toNat, 0, 0]
def k0_dev34 (d0 : Dev nD) : Nat :=
  let c0_i32_434 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let c4_i32_433 : BitVec 32 := 4#32
  let v545 : BitVec 32 := Scalar.muli v76 c4_i32_433
  let v546 : BitVec 32 := Scalar.addi c0_i32_434 v545
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let c2_i32_435 : BitVec 32 := 2#32
  let v547 : BitVec 32 := Scalar.muli v77 c2_i32_435
  let v548 : BitVec 32 := Scalar.addi v546 v547
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let c1_i32_436 : BitVec 32 := 1#32
  let v549 : BitVec 32 := Scalar.muli v78 c1_i32_436
  let v550 : BitVec 32 := Scalar.addi v548 v549
  v550.toNat
def k0_off45 (d0 : Dev nD) : Fin 4 → Nat :=
  let c0_i32_451 : BitVec 32 := 0#32
  let c4_i32_62 : BitVec 32 := 4#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let v79 : BitVec 32 := Scalar.muli c4_i32_62 v76
  let c2_i32_63 : BitVec 32 := 2#32
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let v80 : BitVec 32 := Scalar.muli c2_i32_63 v77
  let v81 : BitVec 32 := Scalar.addi v79 v80
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let v82 : BitVec 32 := Scalar.addi v81 v78
  let c0_i32_452 : BitVec 32 := 0#32
  let c0_i32_453 : BitVec 32 := 0#32
  ![0, v82.toNat, 0, 0]
def k0_dev35 (d0 : Dev nD) : Nat :=
  let c0_i32_445 : BitVec 32 := 0#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_59 v2
  let c4_i32_444 : BitVec 32 := 4#32
  let v559 : BitVec 32 := Scalar.muli v76 c4_i32_444
  let v560 : BitVec 32 := Scalar.addi c0_i32_445 v559
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_60 v5
  let c2_i32_446 : BitVec 32 := 2#32
  let v561 : BitVec 32 := Scalar.muli v77 c2_i32_446
  let v562 : BitVec 32 := Scalar.addi v560 v561
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_61 v8
  let c1_i32_447 : BitVec 32 := 1#32
  let v563 : BitVec 32 := Scalar.muli v78 c1_i32_447
  let v564 : BitVec 32 := Scalar.addi v562 v563
  v564.toNat
def k0_off46 (d0 : Dev nD) : Fin 4 → Nat :=
  let c4_i32_455 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v574 : BitVec 32 := Scalar.muli c4_i32_455 v2
  let c2_i32_456 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v575 : BitVec 32 := Scalar.muli c2_i32_456 v5
  let v576 : BitVec 32 := Scalar.addi v574 v575
  let c1_i32_454 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v573 : BitVec 32 := Scalar.subi c1_i32_454 v8
  let v577 : BitVec 32 := Scalar.addi v576 v573
  let c0_i32_463 : BitVec 32 := 0#32
  let c0_i32_464 : BitVec 32 := 0#32
  let c0_i32_465 : BitVec 32 := 0#32
  ![v577.toNat, 0, 0, 0]
def k0_off47 (d0 : Dev nD) : Fin 4 → Nat :=
  let c4_i32_455 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v574 : BitVec 32 := Scalar.muli c4_i32_455 v2
  let c2_i32_456 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v575 : BitVec 32 := Scalar.muli c2_i32_456 v5
  let v576 : BitVec 32 := Scalar.addi v574 v575
  let c1_i32_454 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v573 : BitVec 32 := Scalar.subi c1_i32_454 v8
  let v577 : BitVec 32 := Scalar.addi v576 v573
  let c0_i32_475 : BitVec 32 := 0#32
  let c0_i32_476 : BitVec 32 := 0#32
  let c0_i32_477 : BitVec 32 := 0#32
  ![v577.toNat, 0, 0, 0]
def k0_off48 (d0 : Dev nD) : Fin 4 → Nat :=
  let c4_i32_455 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v574 : BitVec 32 := Scalar.muli c4_i32_455 v2
  let c2_i32_456 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v575 : BitVec 32 := Scalar.muli c2_i32_456 v5
  let v576 : BitVec 32 := Scalar.addi v574 v575
  let c1_i32_454 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v573 : BitVec 32 := Scalar.subi c1_i32_454 v8
  let v577 : BitVec 32 := Scalar.addi v576 v573
  let c0_i32_487 : BitVec 32 := 0#32
  let c0_i32_488 : BitVec 32 := 0#32
  let c0_i32_489 : BitVec 32 := 0#32
  ![v577.toNat, 0, 0, 0]
def k0_off49 (d0 : Dev nD) : Fin 4 → Nat :=
  let c4_i32_455 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v574 : BitVec 32 := Scalar.muli c4_i32_455 v2
  let c2_i32_456 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v575 : BitVec 32 := Scalar.muli c2_i32_456 v5
  let v576 : BitVec 32 := Scalar.addi v574 v575
  let c1_i32_454 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v573 : BitVec 32 := Scalar.subi c1_i32_454 v8
  let v577 : BitVec 32 := Scalar.addi v576 v573
  let c0_i32_499 : BitVec 32 := 0#32
  let c0_i32_500 : BitVec 32 := 0#32
  let c0_i32_501 : BitVec 32 := 0#32
  ![v577.toNat, 0, 0, 0]
def k0_off50 (d0 : Dev nD) : Fin 4 → Nat :=
  let c4_i32_455 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v574 : BitVec 32 := Scalar.muli c4_i32_455 v2
  let c2_i32_456 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v575 : BitVec 32 := Scalar.muli c2_i32_456 v5
  let v576 : BitVec 32 := Scalar.addi v574 v575
  let c1_i32_454 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v573 : BitVec 32 := Scalar.subi c1_i32_454 v8
  let v577 : BitVec 32 := Scalar.addi v576 v573
  let c0_i32_511 : BitVec 32 := 0#32
  let c0_i32_512 : BitVec 32 := 0#32
  let c0_i32_513 : BitVec 32 := 0#32
  ![v577.toNat, 0, 0, 0]
def k0_off51 (d0 : Dev nD) : Fin 4 → Nat :=
  let c4_i32_518 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.muli c4_i32_518 v2
  let c2_i32_519 : BitVec 32 := 2#32
  let c1_i32_517 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v638 : BitVec 32 := Scalar.subi c1_i32_517 v5
  let v640 : BitVec 32 := Scalar.muli c2_i32_519 v638
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v642 : BitVec 32 := Scalar.addi v641 v8
  let c0_i32_526 : BitVec 32 := 0#32
  let c0_i32_527 : BitVec 32 := 0#32
  let c0_i32_528 : BitVec 32 := 0#32
  ![v642.toNat, 0, 0, 0]
def k0_off52 (d0 : Dev nD) : Fin 4 → Nat :=
  let c4_i32_518 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.muli c4_i32_518 v2
  let c2_i32_519 : BitVec 32 := 2#32
  let c1_i32_517 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v638 : BitVec 32 := Scalar.subi c1_i32_517 v5
  let v640 : BitVec 32 := Scalar.muli c2_i32_519 v638
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v642 : BitVec 32 := Scalar.addi v641 v8
  let c0_i32_538 : BitVec 32 := 0#32
  let c0_i32_539 : BitVec 32 := 0#32
  let c0_i32_540 : BitVec 32 := 0#32
  ![v642.toNat, 0, 0, 0]
def k0_off53 (d0 : Dev nD) : Fin 4 → Nat :=
  let c4_i32_518 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.muli c4_i32_518 v2
  let c2_i32_519 : BitVec 32 := 2#32
  let c1_i32_517 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v638 : BitVec 32 := Scalar.subi c1_i32_517 v5
  let v640 : BitVec 32 := Scalar.muli c2_i32_519 v638
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v642 : BitVec 32 := Scalar.addi v641 v8
  let c0_i32_550 : BitVec 32 := 0#32
  let c0_i32_551 : BitVec 32 := 0#32
  let c0_i32_552 : BitVec 32 := 0#32
  ![v642.toNat, 0, 0, 0]
def k0_off54 (d0 : Dev nD) : Fin 4 → Nat :=
  let c4_i32_518 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.muli c4_i32_518 v2
  let c2_i32_519 : BitVec 32 := 2#32
  let c1_i32_517 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v638 : BitVec 32 := Scalar.subi c1_i32_517 v5
  let v640 : BitVec 32 := Scalar.muli c2_i32_519 v638
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v642 : BitVec 32 := Scalar.addi v641 v8
  let c0_i32_562 : BitVec 32 := 0#32
  let c0_i32_563 : BitVec 32 := 0#32
  let c0_i32_564 : BitVec 32 := 0#32
  ![v642.toNat, 0, 0, 0]
def k0_off55 (d0 : Dev nD) : Fin 4 → Nat :=
  let c4_i32_518 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v639 : BitVec 32 := Scalar.muli c4_i32_518 v2
  let c2_i32_519 : BitVec 32 := 2#32
  let c1_i32_517 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v638 : BitVec 32 := Scalar.subi c1_i32_517 v5
  let v640 : BitVec 32 := Scalar.muli c2_i32_519 v638
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v642 : BitVec 32 := Scalar.addi v641 v8
  let c0_i32_574 : BitVec 32 := 0#32
  let c0_i32_575 : BitVec 32 := 0#32
  let c0_i32_576 : BitVec 32 := 0#32
  ![v642.toNat, 0, 0, 0]
def k0_off56 (d0 : Dev nD) : Fin 4 → Nat :=
  let c4_i32_582 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v705 : BitVec 32 := Scalar.muli c4_i32_582 v2
  let c2_i32_583 : BitVec 32 := 2#32
  let c1_i32_580 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v703 : BitVec 32 := Scalar.subi c1_i32_580 v5
  let v706 : BitVec 32 := Scalar.muli c2_i32_583 v703
  let v707 : BitVec 32 := Scalar.addi v705 v706
  let c1_i32_581 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v704 : BitVec 32 := Scalar.subi c1_i32_581 v8
  let v708 : BitVec 32 := Scalar.addi v707 v704
  let c0_i32_590 : BitVec 32 := 0#32
  let c0_i32_591 : BitVec 32 := 0#32
  let c0_i32_592 : BitVec 32 := 0#32
  ![v708.toNat, 0, 0, 0]
def k0_off57 (d0 : Dev nD) : Fin 4 → Nat :=
  let c4_i32_582 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v705 : BitVec 32 := Scalar.muli c4_i32_582 v2
  let c2_i32_583 : BitVec 32 := 2#32
  let c1_i32_580 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v703 : BitVec 32 := Scalar.subi c1_i32_580 v5
  let v706 : BitVec 32 := Scalar.muli c2_i32_583 v703
  let v707 : BitVec 32 := Scalar.addi v705 v706
  let c1_i32_581 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v704 : BitVec 32 := Scalar.subi c1_i32_581 v8
  let v708 : BitVec 32 := Scalar.addi v707 v704
  let c0_i32_602 : BitVec 32 := 0#32
  let c0_i32_603 : BitVec 32 := 0#32
  let c0_i32_604 : BitVec 32 := 0#32
  ![v708.toNat, 0, 0, 0]
def k0_off58 (d0 : Dev nD) : Fin 4 → Nat :=
  let c4_i32_582 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v705 : BitVec 32 := Scalar.muli c4_i32_582 v2
  let c2_i32_583 : BitVec 32 := 2#32
  let c1_i32_580 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v703 : BitVec 32 := Scalar.subi c1_i32_580 v5
  let v706 : BitVec 32 := Scalar.muli c2_i32_583 v703
  let v707 : BitVec 32 := Scalar.addi v705 v706
  let c1_i32_581 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v704 : BitVec 32 := Scalar.subi c1_i32_581 v8
  let v708 : BitVec 32 := Scalar.addi v707 v704
  let c0_i32_614 : BitVec 32 := 0#32
  let c0_i32_615 : BitVec 32 := 0#32
  let c0_i32_616 : BitVec 32 := 0#32
  ![v708.toNat, 0, 0, 0]
def k0_off59 (d0 : Dev nD) : Fin 4 → Nat :=
  let c4_i32_582 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v705 : BitVec 32 := Scalar.muli c4_i32_582 v2
  let c2_i32_583 : BitVec 32 := 2#32
  let c1_i32_580 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v703 : BitVec 32 := Scalar.subi c1_i32_580 v5
  let v706 : BitVec 32 := Scalar.muli c2_i32_583 v703
  let v707 : BitVec 32 := Scalar.addi v705 v706
  let c1_i32_581 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v704 : BitVec 32 := Scalar.subi c1_i32_581 v8
  let v708 : BitVec 32 := Scalar.addi v707 v704
  let c0_i32_626 : BitVec 32 := 0#32
  let c0_i32_627 : BitVec 32 := 0#32
  let c0_i32_628 : BitVec 32 := 0#32
  ![v708.toNat, 0, 0, 0]
def k0_off60 (d0 : Dev nD) : Fin 4 → Nat :=
  let c4_i32_582 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v705 : BitVec 32 := Scalar.muli c4_i32_582 v2
  let c2_i32_583 : BitVec 32 := 2#32
  let c1_i32_580 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v703 : BitVec 32 := Scalar.subi c1_i32_580 v5
  let v706 : BitVec 32 := Scalar.muli c2_i32_583 v703
  let v707 : BitVec 32 := Scalar.addi v705 v706
  let c1_i32_581 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v704 : BitVec 32 := Scalar.subi c1_i32_581 v8
  let v708 : BitVec 32 := Scalar.addi v707 v704
  let c0_i32_638 : BitVec 32 := 0#32
  let c0_i32_639 : BitVec 32 := 0#32
  let c0_i32_640 : BitVec 32 := 0#32
  ![v708.toNat, 0, 0, 0]
def k0_off61 (d0 : Dev nD) : Fin 4 → Nat :=
  let c4_i32_645 : BitVec 32 := 4#32
  let c1_i32_644 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v769 : BitVec 32 := Scalar.subi c1_i32_644 v2
  let v770 : BitVec 32 := Scalar.muli c4_i32_645 v769
  let c2_i32_646 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v771 : BitVec 32 := Scalar.muli c2_i32_646 v5
  let v772 : BitVec 32 := Scalar.addi v770 v771
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v773 : BitVec 32 := Scalar.addi v772 v8
  let c0_i32_653 : BitVec 32 := 0#32
  let c0_i32_654 : BitVec 32 := 0#32
  let c0_i32_655 : BitVec 32 := 0#32
  ![v773.toNat, 0, 0, 0]
def k0_off62 (d0 : Dev nD) : Fin 4 → Nat :=
  let c4_i32_645 : BitVec 32 := 4#32
  let c1_i32_644 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v769 : BitVec 32 := Scalar.subi c1_i32_644 v2
  let v770 : BitVec 32 := Scalar.muli c4_i32_645 v769
  let c2_i32_646 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v771 : BitVec 32 := Scalar.muli c2_i32_646 v5
  let v772 : BitVec 32 := Scalar.addi v770 v771
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v773 : BitVec 32 := Scalar.addi v772 v8
  let c0_i32_665 : BitVec 32 := 0#32
  let c0_i32_666 : BitVec 32 := 0#32
  let c0_i32_667 : BitVec 32 := 0#32
  ![v773.toNat, 0, 0, 0]
def k0_off63 (d0 : Dev nD) : Fin 4 → Nat :=
  let c4_i32_645 : BitVec 32 := 4#32
  let c1_i32_644 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v769 : BitVec 32 := Scalar.subi c1_i32_644 v2
  let v770 : BitVec 32 := Scalar.muli c4_i32_645 v769
  let c2_i32_646 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v771 : BitVec 32 := Scalar.muli c2_i32_646 v5
  let v772 : BitVec 32 := Scalar.addi v770 v771
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v773 : BitVec 32 := Scalar.addi v772 v8
  let c0_i32_677 : BitVec 32 := 0#32
  let c0_i32_678 : BitVec 32 := 0#32
  let c0_i32_679 : BitVec 32 := 0#32
  ![v773.toNat, 0, 0, 0]
def k0_off64 (d0 : Dev nD) : Fin 4 → Nat :=
  let c4_i32_645 : BitVec 32 := 4#32
  let c1_i32_644 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v769 : BitVec 32 := Scalar.subi c1_i32_644 v2
  let v770 : BitVec 32 := Scalar.muli c4_i32_645 v769
  let c2_i32_646 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v771 : BitVec 32 := Scalar.muli c2_i32_646 v5
  let v772 : BitVec 32 := Scalar.addi v770 v771
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v773 : BitVec 32 := Scalar.addi v772 v8
  let c0_i32_689 : BitVec 32 := 0#32
  let c0_i32_690 : BitVec 32 := 0#32
  let c0_i32_691 : BitVec 32 := 0#32
  ![v773.toNat, 0, 0, 0]
def k0_off65 (d0 : Dev nD) : Fin 4 → Nat :=
  let c4_i32_645 : BitVec 32 := 4#32
  let c1_i32_644 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v769 : BitVec 32 := Scalar.subi c1_i32_644 v2
  let v770 : BitVec 32 := Scalar.muli c4_i32_645 v769
  let c2_i32_646 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v771 : BitVec 32 := Scalar.muli c2_i32_646 v5
  let v772 : BitVec 32 := Scalar.addi v770 v771
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v773 : BitVec 32 := Scalar.addi v772 v8
  let c0_i32_701 : BitVec 32 := 0#32
  let c0_i32_702 : BitVec 32 := 0#32
  let c0_i32_703 : BitVec 32 := 0#32
  ![v773.toNat, 0, 0, 0]
def k0_off66 (d0 : Dev nD) : Fin 4 → Nat :=
  let c4_i32_709 : BitVec 32 := 4#32
  let c1_i32_707 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v834 : BitVec 32 := Scalar.subi c1_i32_707 v2
  let v836 : BitVec 32 := Scalar.muli c4_i32_709 v834
  let c2_i32_710 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.muli c2_i32_710 v5
  let v838 : BitVec 32 := Scalar.addi v836 v837
  let c1_i32_708 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v835 : BitVec 32 := Scalar.subi c1_i32_708 v8
  let v839 : BitVec 32 := Scalar.addi v838 v835
  let c0_i32_717 : BitVec 32 := 0#32
  let c0_i32_718 : BitVec 32 := 0#32
  let c0_i32_719 : BitVec 32 := 0#32
  ![v839.toNat, 0, 0, 0]
def k0_off67 (d0 : Dev nD) : Fin 4 → Nat :=
  let c4_i32_709 : BitVec 32 := 4#32
  let c1_i32_707 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v834 : BitVec 32 := Scalar.subi c1_i32_707 v2
  let v836 : BitVec 32 := Scalar.muli c4_i32_709 v834
  let c2_i32_710 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.muli c2_i32_710 v5
  let v838 : BitVec 32 := Scalar.addi v836 v837
  let c1_i32_708 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v835 : BitVec 32 := Scalar.subi c1_i32_708 v8
  let v839 : BitVec 32 := Scalar.addi v838 v835
  let c0_i32_729 : BitVec 32 := 0#32
  let c0_i32_730 : BitVec 32 := 0#32
  let c0_i32_731 : BitVec 32 := 0#32
  ![v839.toNat, 0, 0, 0]
def k0_off68 (d0 : Dev nD) : Fin 4 → Nat :=
  let c4_i32_709 : BitVec 32 := 4#32
  let c1_i32_707 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v834 : BitVec 32 := Scalar.subi c1_i32_707 v2
  let v836 : BitVec 32 := Scalar.muli c4_i32_709 v834
  let c2_i32_710 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.muli c2_i32_710 v5
  let v838 : BitVec 32 := Scalar.addi v836 v837
  let c1_i32_708 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v835 : BitVec 32 := Scalar.subi c1_i32_708 v8
  let v839 : BitVec 32 := Scalar.addi v838 v835
  let c0_i32_741 : BitVec 32 := 0#32
  let c0_i32_742 : BitVec 32 := 0#32
  let c0_i32_743 : BitVec 32 := 0#32
  ![v839.toNat, 0, 0, 0]
def k0_off69 (d0 : Dev nD) : Fin 4 → Nat :=
  let c4_i32_709 : BitVec 32 := 4#32
  let c1_i32_707 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v834 : BitVec 32 := Scalar.subi c1_i32_707 v2
  let v836 : BitVec 32 := Scalar.muli c4_i32_709 v834
  let c2_i32_710 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.muli c2_i32_710 v5
  let v838 : BitVec 32 := Scalar.addi v836 v837
  let c1_i32_708 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v835 : BitVec 32 := Scalar.subi c1_i32_708 v8
  let v839 : BitVec 32 := Scalar.addi v838 v835
  let c0_i32_753 : BitVec 32 := 0#32
  let c0_i32_754 : BitVec 32 := 0#32
  let c0_i32_755 : BitVec 32 := 0#32
  ![v839.toNat, 0, 0, 0]
def k0_off70 (d0 : Dev nD) : Fin 4 → Nat :=
  let c4_i32_709 : BitVec 32 := 4#32
  let c1_i32_707 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v834 : BitVec 32 := Scalar.subi c1_i32_707 v2
  let v836 : BitVec 32 := Scalar.muli c4_i32_709 v834
  let c2_i32_710 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.muli c2_i32_710 v5
  let v838 : BitVec 32 := Scalar.addi v836 v837
  let c1_i32_708 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v835 : BitVec 32 := Scalar.subi c1_i32_708 v8
  let v839 : BitVec 32 := Scalar.addi v838 v835
  let c0_i32_765 : BitVec 32 := 0#32
  let c0_i32_766 : BitVec 32 := 0#32
  let c0_i32_767 : BitVec 32 := 0#32
  ![v839.toNat, 0, 0, 0]
def k0_off71 (d0 : Dev nD) : Fin 4 → Nat :=
  let c4_i32_773 : BitVec 32 := 4#32
  let c1_i32_771 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v900 : BitVec 32 := Scalar.subi c1_i32_771 v2
  let v902 : BitVec 32 := Scalar.muli c4_i32_773 v900
  let c2_i32_774 : BitVec 32 := 2#32
  let c1_i32_772 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v901 : BitVec 32 := Scalar.subi c1_i32_772 v5
  let v903 : BitVec 32 := Scalar.muli c2_i32_774 v901
  let v904 : BitVec 32 := Scalar.addi v902 v903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v905 : BitVec 32 := Scalar.addi v904 v8
  let c0_i32_781 : BitVec 32 := 0#32
  let c0_i32_782 : BitVec 32 := 0#32
  let c0_i32_783 : BitVec 32 := 0#32
  ![v905.toNat, 0, 0, 0]
def k0_off72 (d0 : Dev nD) : Fin 4 → Nat :=
  let c4_i32_773 : BitVec 32 := 4#32
  let c1_i32_771 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v900 : BitVec 32 := Scalar.subi c1_i32_771 v2
  let v902 : BitVec 32 := Scalar.muli c4_i32_773 v900
  let c2_i32_774 : BitVec 32 := 2#32
  let c1_i32_772 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v901 : BitVec 32 := Scalar.subi c1_i32_772 v5
  let v903 : BitVec 32 := Scalar.muli c2_i32_774 v901
  let v904 : BitVec 32 := Scalar.addi v902 v903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v905 : BitVec 32 := Scalar.addi v904 v8
  let c0_i32_793 : BitVec 32 := 0#32
  let c0_i32_794 : BitVec 32 := 0#32
  let c0_i32_795 : BitVec 32 := 0#32
  ![v905.toNat, 0, 0, 0]
def k0_off73 (d0 : Dev nD) : Fin 4 → Nat :=
  let c4_i32_773 : BitVec 32 := 4#32
  let c1_i32_771 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v900 : BitVec 32 := Scalar.subi c1_i32_771 v2
  let v902 : BitVec 32 := Scalar.muli c4_i32_773 v900
  let c2_i32_774 : BitVec 32 := 2#32
  let c1_i32_772 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v901 : BitVec 32 := Scalar.subi c1_i32_772 v5
  let v903 : BitVec 32 := Scalar.muli c2_i32_774 v901
  let v904 : BitVec 32 := Scalar.addi v902 v903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v905 : BitVec 32 := Scalar.addi v904 v8
  let c0_i32_805 : BitVec 32 := 0#32
  let c0_i32_806 : BitVec 32 := 0#32
  let c0_i32_807 : BitVec 32 := 0#32
  ![v905.toNat, 0, 0, 0]
def k0_off74 (d0 : Dev nD) : Fin 4 → Nat :=
  let c4_i32_773 : BitVec 32 := 4#32
  let c1_i32_771 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v900 : BitVec 32 := Scalar.subi c1_i32_771 v2
  let v902 : BitVec 32 := Scalar.muli c4_i32_773 v900
  let c2_i32_774 : BitVec 32 := 2#32
  let c1_i32_772 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v901 : BitVec 32 := Scalar.subi c1_i32_772 v5
  let v903 : BitVec 32 := Scalar.muli c2_i32_774 v901
  let v904 : BitVec 32 := Scalar.addi v902 v903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v905 : BitVec 32 := Scalar.addi v904 v8
  let c0_i32_817 : BitVec 32 := 0#32
  let c0_i32_818 : BitVec 32 := 0#32
  let c0_i32_819 : BitVec 32 := 0#32
  ![v905.toNat, 0, 0, 0]
def k0_off75 (d0 : Dev nD) : Fin 4 → Nat :=
  let c4_i32_773 : BitVec 32 := 4#32
  let c1_i32_771 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v900 : BitVec 32 := Scalar.subi c1_i32_771 v2
  let v902 : BitVec 32 := Scalar.muli c4_i32_773 v900
  let c2_i32_774 : BitVec 32 := 2#32
  let c1_i32_772 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v901 : BitVec 32 := Scalar.subi c1_i32_772 v5
  let v903 : BitVec 32 := Scalar.muli c2_i32_774 v901
  let v904 : BitVec 32 := Scalar.addi v902 v903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v905 : BitVec 32 := Scalar.addi v904 v8
  let c0_i32_829 : BitVec 32 := 0#32
  let c0_i32_830 : BitVec 32 := 0#32
  let c0_i32_831 : BitVec 32 := 0#32
  ![v905.toNat, 0, 0, 0]
def k0_off76 (d0 : Dev nD) : Fin 4 → Nat :=
  let c4_i32_838 : BitVec 32 := 4#32
  let c1_i32_835 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v966 : BitVec 32 := Scalar.subi c1_i32_835 v2
  let v969 : BitVec 32 := Scalar.muli c4_i32_838 v966
  let c2_i32_839 : BitVec 32 := 2#32
  let c1_i32_836 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v967 : BitVec 32 := Scalar.subi c1_i32_836 v5
  let v970 : BitVec 32 := Scalar.muli c2_i32_839 v967
  let v971 : BitVec 32 := Scalar.addi v969 v970
  let c1_i32_837 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v968 : BitVec 32 := Scalar.subi c1_i32_837 v8
  let v972 : BitVec 32 := Scalar.addi v971 v968
  let c0_i32_846 : BitVec 32 := 0#32
  let c0_i32_847 : BitVec 32 := 0#32
  let c0_i32_848 : BitVec 32 := 0#32
  ![v972.toNat, 0, 0, 0]
def k0_off77 (d0 : Dev nD) : Fin 4 → Nat :=
  let c4_i32_838 : BitVec 32 := 4#32
  let c1_i32_835 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v966 : BitVec 32 := Scalar.subi c1_i32_835 v2
  let v969 : BitVec 32 := Scalar.muli c4_i32_838 v966
  let c2_i32_839 : BitVec 32 := 2#32
  let c1_i32_836 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v967 : BitVec 32 := Scalar.subi c1_i32_836 v5
  let v970 : BitVec 32 := Scalar.muli c2_i32_839 v967
  let v971 : BitVec 32 := Scalar.addi v969 v970
  let c1_i32_837 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v968 : BitVec 32 := Scalar.subi c1_i32_837 v8
  let v972 : BitVec 32 := Scalar.addi v971 v968
  let c0_i32_858 : BitVec 32 := 0#32
  let c0_i32_859 : BitVec 32 := 0#32
  let c0_i32_860 : BitVec 32 := 0#32
  ![v972.toNat, 0, 0, 0]
def k0_off78 (d0 : Dev nD) : Fin 4 → Nat :=
  let c4_i32_838 : BitVec 32 := 4#32
  let c1_i32_835 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v966 : BitVec 32 := Scalar.subi c1_i32_835 v2
  let v969 : BitVec 32 := Scalar.muli c4_i32_838 v966
  let c2_i32_839 : BitVec 32 := 2#32
  let c1_i32_836 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v967 : BitVec 32 := Scalar.subi c1_i32_836 v5
  let v970 : BitVec 32 := Scalar.muli c2_i32_839 v967
  let v971 : BitVec 32 := Scalar.addi v969 v970
  let c1_i32_837 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v968 : BitVec 32 := Scalar.subi c1_i32_837 v8
  let v972 : BitVec 32 := Scalar.addi v971 v968
  let c0_i32_870 : BitVec 32 := 0#32
  let c0_i32_871 : BitVec 32 := 0#32
  let c0_i32_872 : BitVec 32 := 0#32
  ![v972.toNat, 0, 0, 0]
def k0_off79 (d0 : Dev nD) : Fin 4 → Nat :=
  let c4_i32_838 : BitVec 32 := 4#32
  let c1_i32_835 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v966 : BitVec 32 := Scalar.subi c1_i32_835 v2
  let v969 : BitVec 32 := Scalar.muli c4_i32_838 v966
  let c2_i32_839 : BitVec 32 := 2#32
  let c1_i32_836 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v967 : BitVec 32 := Scalar.subi c1_i32_836 v5
  let v970 : BitVec 32 := Scalar.muli c2_i32_839 v967
  let v971 : BitVec 32 := Scalar.addi v969 v970
  let c1_i32_837 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v968 : BitVec 32 := Scalar.subi c1_i32_837 v8
  let v972 : BitVec 32 := Scalar.addi v971 v968
  let c0_i32_882 : BitVec 32 := 0#32
  let c0_i32_883 : BitVec 32 := 0#32
  let c0_i32_884 : BitVec 32 := 0#32
  ![v972.toNat, 0, 0, 0]
def k0_off80 (d0 : Dev nD) : Fin 4 → Nat :=
  let c4_i32_838 : BitVec 32 := 4#32
  let c1_i32_835 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v966 : BitVec 32 := Scalar.subi c1_i32_835 v2
  let v969 : BitVec 32 := Scalar.muli c4_i32_838 v966
  let c2_i32_839 : BitVec 32 := 2#32
  let c1_i32_836 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v967 : BitVec 32 := Scalar.subi c1_i32_836 v5
  let v970 : BitVec 32 := Scalar.muli c2_i32_839 v967
  let v971 : BitVec 32 := Scalar.addi v969 v970
  let c1_i32_837 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v968 : BitVec 32 := Scalar.subi c1_i32_837 v8
  let v972 : BitVec 32 := Scalar.addi v971 v968
  let c0_i32_894 : BitVec 32 := 0#32
  let c0_i32_895 : BitVec 32 := 0#32
  let c0_i32_896 : BitVec 32 := 0#32
  ![v972.toNat, 0, 0, 0]
-- ==== Reference.lean ====
abbrev S48x8x352x1024 : Shape := ⟨4, ![48, 8, 352, 1024]⟩
abbrev S8x8x864x1024 : Shape := ⟨4, ![8, 8, 864, 1024]⟩
abbrev S8x8x128x1024 : Shape := ⟨4, ![8, 8, 128, 1024]⟩
abbrev S8x8x128x256 : Shape := ⟨4, ![8, 8, 128, 256]⟩
abbrev S16x8x128x512 : Shape := ⟨4, ![16, 8, 128, 512]⟩
abbrev S8x6x8x352x1024 : Shape := ⟨5, ![8, 6, 8, 352, 1024]⟩
abbrev S8x8x6x352x1024 : Shape := ⟨5, ![8, 8, 6, 352, 1024]⟩
abbrev S8x48x352x1024 : Shape := ⟨4, ![8, 48, 352, 1024]⟩
abbrev S8x1x8x864x1024 : Shape := ⟨5, ![8, 1, 8, 864, 1024]⟩
abbrev S8x8x1x864x1024 : Shape := ⟨5, ![8, 8, 1, 864, 1024]⟩
abbrev S8x1x8x128x1024 : Shape := ⟨5, ![8, 1, 8, 128, 1024]⟩
abbrev S8x8x1x128x1024 : Shape := ⟨5, ![8, 8, 1, 128, 1024]⟩
abbrev S8x1x8x128x256 : Shape := ⟨5, ![8, 1, 8, 128, 256]⟩
abbrev S8x8x1x128x256 : Shape := ⟨5, ![8, 8, 1, 128, 256]⟩
abbrev S8x2x8x128x512 : Shape := ⟨5, ![8, 2, 8, 128, 512]⟩
abbrev S8x8x2x128x512 : Shape := ⟨5, ![8, 8, 2, 128, 512]⟩
abbrev S8x16x128x512 : Shape := ⟨4, ![8, 16, 128, 512]⟩

abbrev nBuf : Space → Nat
  | .hbm => 20
  | .vmem => 0
  | .smem => 0
  | _ => 0

abbrev bufTy : (tb : Table) → Fin (tcTables nBuf tb) → BufTy
  | .hbm, ⟨0, _⟩ => ⟨S48x8x352x1024, .bf16⟩
  | .hbm, ⟨1, _⟩ => ⟨S8x8x864x1024, .bf16⟩
  | .hbm, ⟨2, _⟩ => ⟨S8x8x128x1024, .bf16⟩
  | .hbm, ⟨3, _⟩ => ⟨S8x8x128x256, .bf16⟩
  | .hbm, ⟨4, _⟩ => ⟨S16x8x128x512, .bf16⟩
  | .hbm, ⟨5, _⟩ => ⟨S8x6x8x352x1024, .bf16⟩
  | .hbm, ⟨6, _⟩ => ⟨S8x8x6x352x1024, .bf16⟩
  | .hbm, ⟨7, _⟩ => ⟨S8x48x352x1024, .bf16⟩
  | .hbm, ⟨8, _⟩ => ⟨S8x1x8x864x1024, .bf16⟩
  | .hbm, ⟨9, _⟩ => ⟨S8x8x1x864x1024, .bf16⟩
  | .hbm, ⟨10, _⟩ => ⟨S8x8x864x1024, .bf16⟩
  | .hbm, ⟨11, _⟩ => ⟨S8x1x8x128x1024, .bf16⟩
  | .hbm, ⟨12, _⟩ => ⟨S8x8x1x128x1024, .bf16⟩
  | .hbm, ⟨13, _⟩ => ⟨S8x8x128x1024, .bf16⟩
  | .hbm, ⟨14, _⟩ => ⟨S8x1x8x128x256, .bf16⟩
  | .hbm, ⟨15, _⟩ => ⟨S8x8x1x128x256, .bf16⟩
  | .hbm, ⟨16, _⟩ => ⟨S8x8x128x256, .bf16⟩
  | .hbm, ⟨17, _⟩ => ⟨S8x2x8x128x512, .bf16⟩
  | .hbm, ⟨18, _⟩ => ⟨S8x8x2x128x512, .bf16⟩
  | .hbm, ⟨19, _⟩ => ⟨S8x16x128x512, .bf16⟩
  | _, _ => ⟨S48x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Gather.lean ====
abbrev S6x352x1024 : Shape := ⟨3, ![6, 352, 1024]⟩
abbrev S1x864x1024 : Shape := ⟨3, ![1, 864, 1024]⟩
abbrev S1x128x1024 : Shape := ⟨3, ![1, 128, 1024]⟩
abbrev S1x128x256 : Shape := ⟨3, ![1, 128, 256]⟩
abbrev S2x128x512 : Shape := ⟨3, ![2, 128, 512]⟩
abbrev S6x8x352x1024 : Shape := ⟨4, ![6, 8, 352, 1024]⟩
abbrev S1x8x864x1024 : Shape := ⟨4, ![1, 8, 864, 1024]⟩
abbrev S1x8x128x1024 : Shape := ⟨4, ![1, 8, 128, 1024]⟩
abbrev S1x8x128x256 : Shape := ⟨4, ![1, 8, 128, 256]⟩
abbrev S2x8x128x512 : Shape := ⟨4, ![2, 8, 128, 512]⟩
abbrev S35 : Shape := ⟨1, ![35]⟩
abbrev S5 : Shape := ⟨1, ![5]⟩
abbrev S1 : Shape := ⟨1, ![1]⟩
abbrev S_ : Shape := ⟨0, ![]⟩
abbrev S6x1x352x1024 : Shape := ⟨4, ![6, 1, 352, 1024]⟩
abbrev S1x1x864x1024 : Shape := ⟨4, ![1, 1, 864, 1024]⟩
abbrev S1x1x128x1024 : Shape := ⟨4, ![1, 1, 128, 1024]⟩
abbrev S1x1x128x256 : Shape := ⟨4, ![1, 1, 128, 256]⟩
abbrev S2x1x128x512 : Shape := ⟨4, ![2, 1, 128, 512]⟩

abbrev nBuf : Space → Nat
  | .hbm => 10
  | .vmem => 0
  | .smem => 0
  | _ => 0

abbrev bufTy : (tb : Table) → Fin (tcTables nBuf tb) → BufTy
  | .hbm, ⟨0, _⟩ => ⟨S6x352x1024, .bf16⟩
  | .hbm, ⟨1, _⟩ => ⟨S1x864x1024, .bf16⟩
  | .hbm, ⟨2, _⟩ => ⟨S1x128x1024, .bf16⟩
  | .hbm, ⟨3, _⟩ => ⟨S1x128x256, .bf16⟩
  | .hbm, ⟨4, _⟩ => ⟨S2x128x512, .bf16⟩
  | .hbm, ⟨5, _⟩ => ⟨S6x8x352x1024, .bf16⟩
  | .hbm, ⟨6, _⟩ => ⟨S1x8x864x1024, .bf16⟩
  | .hbm, ⟨7, _⟩ => ⟨S1x8x128x1024, .bf16⟩
  | .hbm, ⟨8, _⟩ => ⟨S1x8x128x256, .bf16⟩
  | .hbm, ⟨9, _⟩ => ⟨S2x8x128x512, .bf16⟩
  | _, _ => ⟨S6x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_11 : BitVec 32 := 0#32
  let c0_i32_12 : BitVec 32 := 0#32
  ![0, v12.toNat, 0, 0]
def k0_off2 (d0 : Dev nD) : Fin 4 → Nat :=
  let c0_i32_14 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![0, v12.toNat, 0, 0]
def k0_off3 (d0 : Dev nD) : Fin 4 → Nat :=
  let c0_i32_18 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_19 : BitVec 32 := 0#32
  let c0_i32_20 : BitVec 32 := 0#32
  ![0, v12.toNat, 0, 0]
def k0_off4 (d0 : Dev nD) : Fin 4 → Nat :=
  let c0_i32_21 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_22 : BitVec 32 := 0#32
  let c0_i32_23 : BitVec 32 := 0#32
  ![0, v12.toNat, 0, 0]
def k0_off5 (d0 : Dev nD) : Fin 4 → Nat :=
  let c0_i32_25 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![0, v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v38 : BitVec 32 := Scalar.muli v2 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v40 : BitVec 32 := Scalar.muli v5 c2_i32_32
  let v41 : BitVec 32 := Scalar.addi v39 v40
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_33 : BitVec 32 := 1#32
  let v42 : BitVec 32 := Scalar.muli v13 c1_i32_33
  let v43 : BitVec 32 := Scalar.addi v41 v42
  v43.toNat
def k0_dev2 (d0 : Dev nD) : Nat :=
  let c0_i32_40 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_39 : BitVec 32 := 4#32
  let v50 : BitVec 32 := Scalar.muli v14 c4_i32_39
  let v51 : BitVec 32 := Scalar.addi c0_i32_40 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v52 : BitVec 32 := Scalar.muli v5 c2_i32_41
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v54 : BitVec 32 := Scalar.muli v8 c1_i32_42
  let v55 : BitVec 32 := Scalar.addi v53 v54
  v55.toNat
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v62 : BitVec 32 := Scalar.muli v2 c4_i32_48
  let v63 : BitVec 32 := Scalar.addi c0_i32_49 v62
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_50 : BitVec 32 := 2#32
  let v64 : BitVec 32 := Scalar.muli v15 c2_i32_50
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v66 : BitVec 32 := Scalar.muli v8 c1_i32_51
  let v67 : BitVec 32 := Scalar.addi v65 v66
  v67.toNat
def k0_dev4 (d0 : Dev nD) : Nat :=
  let c0_i32_58 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_57 : BitVec 32 := 4#32
  let v74 : BitVec 32 := Scalar.muli v16 c4_i32_57
  let v75 : BitVec 32 := Scalar.addi c0_i32_58 v74
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_59 : BitVec 32 := 2#32
  let v76 : BitVec 32 := Scalar.muli v17 c2_i32_59
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v78 : BitVec 32 := Scalar.muli v8 c1_i32_60
  let v79 : BitVec 32 := Scalar.addi v77 v78
  v79.toNat
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v86 : BitVec 32 := Scalar.muli v2 c4_i32_65
  let v87 : BitVec 32 := Scalar.addi c0_i32_66 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v88 : BitVec 32 := Scalar.muli v5 c2_i32_67
  let v89 : BitVec 32 := Scalar.addi v87 v88
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_68 : BitVec 32 := 1#32
  let v90 : BitVec 32 := Scalar.muli v13 c1_i32_68
  let v91 : BitVec 32 := Scalar.addi v89 v90
  v91.toNat
def k0_dev6 (d0 : Dev nD) : Nat :=
  let c0_i32_74 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_73 : BitVec 32 := 4#32
  let v98 : BitVec 32 := Scalar.muli v14 c4_i32_73
  let v99 : BitVec 32 := Scalar.addi c0_i32_74 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v100 : BitVec 32 := Scalar.muli v5 c2_i32_75
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v102 : BitVec 32 := Scalar.muli v8 c1_i32_76
  let v103 : BitVec 32 := Scalar.addi v101 v102
  v103.toNat
def k0_dev7 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v110 : BitVec 32 := Scalar.muli v2 c4_i32_81
  let v111 : BitVec 32 := Scalar.addi c0_i32_82 v110
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_83 : BitVec 32 := 2#32
  let v112 : BitVec 32 := Scalar.muli v15 c2_i32_83
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v114 : BitVec 32 := Scalar.muli v8 c1_i32_84
  let v115 : BitVec 32 := Scalar.addi v113 v114
  v115.toNat
def k0_dev8 (d0 : Dev nD) : Nat :=
  let c0_i32_90 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_89 : BitVec 32 := 4#32
  let v122 : BitVec 32 := Scalar.muli v16 c4_i32_89
  let v123 : BitVec 32 := Scalar.addi c0_i32_90 v122
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_91 : BitVec 32 := 2#32
  let v124 : BitVec 32 := Scalar.muli v17 c2_i32_91
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v126 : BitVec 32 := Scalar.muli v8 c1_i32_92
  let v127 : BitVec 32 := Scalar.addi v125 v126
  v127.toNat
def k0_dev9 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v134 : BitVec 32 := Scalar.muli v2 c4_i32_97
  let v135 : BitVec 32 := Scalar.addi c0_i32_98 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v136 : BitVec 32 := Scalar.muli v5 c2_i32_99
  let v137 : BitVec 32 := Scalar.addi v135 v136
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_100 : BitVec 32 := 1#32
  let v138 : BitVec 32 := Scalar.muli v13 c1_i32_100
  let v139 : BitVec 32 := Scalar.addi v137 v138
  v139.toNat
def k0_dev10 (d0 : Dev nD) : Nat :=
  let c0_i32_106 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_105 : BitVec 32 := 4#32
  let v146 : BitVec 32 := Scalar.muli v14 c4_i32_105
  let v147 : BitVec 32 := Scalar.addi c0_i32_106 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v148 : BitVec 32 := Scalar.muli v5 c2_i32_107
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v150 : BitVec 32 := Scalar.muli v8 c1_i32_108
  let v151 : BitVec 32 := Scalar.addi v149 v150
  v151.toNat
def k0_dev11 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v158 : BitVec 32 := Scalar.muli v2 c4_i32_113
  let v159 : BitVec 32 := Scalar.addi c0_i32_114 v158
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_115 : BitVec 32 := 2#32
  let v160 : BitVec 32 := Scalar.muli v15 c2_i32_115
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v162 : BitVec 32 := Scalar.muli v8 c1_i32_116
  let v163 : BitVec 32 := Scalar.addi v161 v162
  v163.toNat
def k0_dev12 (d0 : Dev nD) : Nat :=
  let c0_i32_122 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_121 : BitVec 32 := 4#32
  let v170 : BitVec 32 := Scalar.muli v16 c4_i32_121
  let v171 : BitVec 32 := Scalar.addi c0_i32_122 v170
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_123 : BitVec 32 := 2#32
  let v172 : BitVec 32 := Scalar.muli v17 c2_i32_123
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v174 : BitVec 32 := Scalar.muli v8 c1_i32_124
  let v175 : BitVec 32 := Scalar.addi v173 v174
  v175.toNat
def k0_dev13 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v182 : BitVec 32 := Scalar.muli v2 c4_i32_129
  let v183 : BitVec 32 := Scalar.addi c0_i32_130 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v184 : BitVec 32 := Scalar.muli v5 c2_i32_131
  let v185 : BitVec 32 := Scalar.addi v183 v184
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_132 : BitVec 32 := 1#32
  let v186 : BitVec 32 := Scalar.muli v13 c1_i32_132
  let v187 : BitVec 32 := Scalar.addi v185 v186
  v187.toNat
def k0_dev14 (d0 : Dev nD) : Nat :=
  let c0_i32_138 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_137 : BitVec 32 := 4#32
  let v194 : BitVec 32 := Scalar.muli v14 c4_i32_137
  let v195 : BitVec 32 := Scalar.addi c0_i32_138 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v196 : BitVec 32 := Scalar.muli v5 c2_i32_139
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v198 : BitVec 32 := Scalar.muli v8 c1_i32_140
  let v199 : BitVec 32 := Scalar.addi v197 v198
  v199.toNat
def k0_dev15 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v206 : BitVec 32 := Scalar.muli v2 c4_i32_145
  let v207 : BitVec 32 := Scalar.addi c0_i32_146 v206
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_147 : BitVec 32 := 2#32
  let v208 : BitVec 32 := Scalar.muli v15 c2_i32_147
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v210 : BitVec 32 := Scalar.muli v8 c1_i32_148
  let v211 : BitVec 32 := Scalar.addi v209 v210
  v211.toNat
def k0_dev16 (d0 : Dev nD) : Nat :=
  let c0_i32_154 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_153 : BitVec 32 := 4#32
  let v218 : BitVec 32 := Scalar.muli v16 c4_i32_153
  let v219 : BitVec 32 := Scalar.addi c0_i32_154 v218
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_155 : BitVec 32 := 2#32
  let v220 : BitVec 32 := Scalar.muli v17 c2_i32_155
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v222 : BitVec 32 := Scalar.muli v8 c1_i32_156
  let v223 : BitVec 32 := Scalar.addi v221 v222
  v223.toNat
def k0_dev17 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v230 : BitVec 32 := Scalar.muli v2 c4_i32_161
  let v231 : BitVec 32 := Scalar.addi c0_i32_162 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v232 : BitVec 32 := Scalar.muli v5 c2_i32_163
  let v233 : BitVec 32 := Scalar.addi v231 v232
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_164 : BitVec 32 := 1#32
  let v234 : BitVec 32 := Scalar.muli v13 c1_i32_164
  let v235 : BitVec 32 := Scalar.addi v233 v234
  v235.toNat
def k0_dev18 (d0 : Dev nD) : Nat :=
  let c0_i32_170 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_169 : BitVec 32 := 4#32
  let v242 : BitVec 32 := Scalar.muli v14 c4_i32_169
  let v243 : BitVec 32 := Scalar.addi c0_i32_170 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v244 : BitVec 32 := Scalar.muli v5 c2_i32_171
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v246 : BitVec 32 := Scalar.muli v8 c1_i32_172
  let v247 : BitVec 32 := Scalar.addi v245 v246
  v247.toNat
def k0_dev19 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v254 : BitVec 32 := Scalar.muli v2 c4_i32_177
  let v255 : BitVec 32 := Scalar.addi c0_i32_178 v254
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_179 : BitVec 32 := 2#32
  let v256 : BitVec 32 := Scalar.muli v15 c2_i32_179
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v258 : BitVec 32 := Scalar.muli v8 c1_i32_180
  let v259 : BitVec 32 := Scalar.addi v257 v258
  v259.toNat
def k0_dev20 (d0 : Dev nD) : Nat :=
  let c0_i32_186 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_185 : BitVec 32 := 4#32
  let v266 : BitVec 32 := Scalar.muli v16 c4_i32_185
  let v267 : BitVec 32 := Scalar.addi c0_i32_186 v266
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_187 : BitVec 32 := 2#32
  let v268 : BitVec 32 := Scalar.muli v17 c2_i32_187
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v270 : BitVec 32 := Scalar.muli v8 c1_i32_188
  let v271 : BitVec 32 := Scalar.addi v269 v270
  v271.toNat
def k0_off6 (d0 : Dev nD) : Fin 4 → Nat :=
  let c0_i32_200 : BitVec 32 := 0#32
  let c4_i32_192 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v278 : BitVec 32 := Scalar.muli c4_i32_192 v14
  let c2_i32_193 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v279 : BitVec 32 := Scalar.muli c2_i32_193 v5
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v281 : BitVec 32 := Scalar.addi v280 v8
  let c0_i32_201 : BitVec 32 := 0#32
  let c0_i32_202 : BitVec 32 := 0#32
  ![0, v281.toNat, 0, 0]
def k0_dev21 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v298 : BitVec 32 := Scalar.muli v2 c4_i32_210
  let v299 : BitVec 32 := Scalar.addi c0_i32_211 v298
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v300 : BitVec 32 := Scalar.muli v5 c2_i32_212
  let v301 : BitVec 32 := Scalar.addi v299 v300
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_213 : BitVec 32 := 1#32
  let v302 : BitVec 32 := Scalar.muli v13 c1_i32_213
  let v303 : BitVec 32 := Scalar.addi v301 v302
  v303.toNat
def k0_off7 (d0 : Dev nD) : Fin 4 → Nat :=
  let c0_i32_228 : BitVec 32 := 0#32
  let c4_i32_220 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v312 : BitVec 32 := Scalar.muli c4_i32_220 v14
  let c2_i32_221 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v313 : BitVec 32 := Scalar.muli c2_i32_221 v5
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v315 : BitVec 32 := Scalar.addi v314 v8
  let c0_i32_229 : BitVec 32 := 0#32
  let c0_i32_230 : BitVec 32 := 0#32
  ![0, v315.toNat, 0, 0]
def k0_dev22 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_237 : BitVec 32 := 4#32
  let v332 : BitVec 32 := Scalar.muli v2 c4_i32_237
  let v333 : BitVec 32 := Scalar.addi c0_i32_238 v332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_239 : BitVec 32 := 2#32
  let v334 : BitVec 32 := Scalar.muli v5 c2_i32_239
  let v335 : BitVec 32 := Scalar.addi v333 v334
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_240 : BitVec 32 := 1#32
  let v336 : BitVec 32 := Scalar.muli v13 c1_i32_240
  let v337 : BitVec 32 := Scalar.addi v335 v336
  v337.toNat
def k0_off8 (d0 : Dev nD) : Fin 4 → Nat :=
  let c0_i32_255 : BitVec 32 := 0#32
  let c4_i32_247 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v346 : BitVec 32 := Scalar.muli c4_i32_247 v14
  let c2_i32_248 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v347 : BitVec 32 := Scalar.muli c2_i32_248 v5
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v349 : BitVec 32 := Scalar.addi v348 v8
  let c0_i32_256 : BitVec 32 := 0#32
  let c0_i32_257 : BitVec 32 := 0#32
  ![0, v349.toNat, 0, 0]
def k0_dev23 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_264 : BitVec 32 := 4#32
  let v366 : BitVec 32 := Scalar.muli v2 c4_i32_264
  let v367 : BitVec 32 := Scalar.addi c0_i32_265 v366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v368 : BitVec 32 := Scalar.muli v5 c2_i32_266
  let v369 : BitVec 32 := Scalar.addi v367 v368
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_267 : BitVec 32 := 1#32
  let v370 : BitVec 32 := Scalar.muli v13 c1_i32_267
  let v371 : BitVec 32 := Scalar.addi v369 v370
  v371.toNat
def k0_off9 (d0 : Dev nD) : Fin 4 → Nat :=
  let c0_i32_282 : BitVec 32 := 0#32
  let c4_i32_274 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v380 : BitVec 32 := Scalar.muli c4_i32_274 v14
  let c2_i32_275 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v381 : BitVec 32 := Scalar.muli c2_i32_275 v5
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v383 : BitVec 32 := Scalar.addi v382 v8
  let c0_i32_283 : BitVec 32 := 0#32
  let c0_i32_284 : BitVec 32 := 0#32
  ![0, v383.toNat, 0, 0]
def k0_dev24 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v400 : BitVec 32 := Scalar.muli v2 c4_i32_291
  let v401 : BitVec 32 := Scalar.addi c0_i32_292 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v402 : BitVec 32 := Scalar.muli v5 c2_i32_293
  let v403 : BitVec 32 := Scalar.addi v401 v402
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_294 : BitVec 32 := 1#32
  let v404 : BitVec 32 := Scalar.muli v13 c1_i32_294
  let v405 : BitVec 32 := Scalar.addi v403 v404
  v405.toNat
def k0_off10 (d0 : Dev nD) : Fin 4 → Nat :=
  let c0_i32_309 : BitVec 32 := 0#32
  let c4_i32_301 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v414 : BitVec 32 := Scalar.muli c4_i32_301 v14
  let c2_i32_302 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v415 : BitVec 32 := Scalar.muli c2_i32_302 v5
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v417 : BitVec 32 := Scalar.addi v416 v8
  let c0_i32_310 : BitVec 32 := 0#32
  let c0_i32_311 : BitVec 32 := 0#32
  ![0, v417.toNat, 0, 0]
def k0_dev25 (d0 : Dev nD) : Nat :=
  let c0_i32_319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_318 : BitVec 32 := 4#32
  let v434 : BitVec 32 := Scalar.muli v2 c4_i32_318
  let v435 : BitVec 32 := Scalar.addi c0_i32_319 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v436 : BitVec 32 := Scalar.muli v5 c2_i32_320
  let v437 : BitVec 32 := Scalar.addi v435 v436
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_321 : BitVec 32 := 1#32
  let v438 : BitVec 32 := Scalar.muli v13 c1_i32_321
  let v439 : BitVec 32 := Scalar.addi v437 v438
  v439.toNat
def k0_off11 (d0 : Dev nD) : Fin 4 → Nat :=
  let c0_i32_336 : BitVec 32 := 0#32
  let c4_i32_328 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v448 : BitVec 32 := Scalar.muli c4_i32_328 v2
  let c2_i32_329 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v449 : BitVec 32 := Scalar.muli c2_i32_329 v15
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.addi v450 v8
  let c0_i32_337 : BitVec 32 := 0#32
  let c0_i32_338 : BitVec 32 := 0#32
  ![0, v451.toNat, 0, 0]
def k0_dev26 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v468 : BitVec 32 := Scalar.muli v2 c4_i32_345
  let v469 : BitVec 32 := Scalar.addi c0_i32_346 v468
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v470 : BitVec 32 := Scalar.muli v5 c2_i32_347
  let v471 : BitVec 32 := Scalar.addi v469 v470
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_348 : BitVec 32 := 1#32
  let v472 : BitVec 32 := Scalar.muli v13 c1_i32_348
  let v473 : BitVec 32 := Scalar.addi v471 v472
  v473.toNat
def k0_off12 (d0 : Dev nD) : Fin 4 → Nat :=
  let c0_i32_363 : BitVec 32 := 0#32
  let c4_i32_355 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.muli c4_i32_355 v2
  let c2_i32_356 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v483 : BitVec 32 := Scalar.muli c2_i32_356 v15
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v485 : BitVec 32 := Scalar.addi v484 v8
  let c0_i32_364 : BitVec 32 := 0#32
  let c0_i32_365 : BitVec 32 := 0#32
  ![0, v485.toNat, 0, 0]
def k0_dev27 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v502 : BitVec 32 := Scalar.muli v2 c4_i32_372
  let v503 : BitVec 32 := Scalar.addi c0_i32_373 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v504 : BitVec 32 := Scalar.muli v5 c2_i32_374
  let v505 : BitVec 32 := Scalar.addi v503 v504
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_375 : BitVec 32 := 1#32
  let v506 : BitVec 32 := Scalar.muli v13 c1_i32_375
  let v507 : BitVec 32 := Scalar.addi v505 v506
  v507.toNat
def k0_off13 (d0 : Dev nD) : Fin 4 → Nat :=
  let c0_i32_390 : BitVec 32 := 0#32
  let c4_i32_382 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v516 : BitVec 32 := Scalar.muli c4_i32_382 v2
  let c2_i32_383 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v517 : BitVec 32 := Scalar.muli c2_i32_383 v15
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v519 : BitVec 32 := Scalar.addi v518 v8
  let c0_i32_391 : BitVec 32 := 0#32
  let c0_i32_392 : BitVec 32 := 0#32
  ![0, v519.toNat, 0, 0]
def k0_dev28 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v536 : BitVec 32 := Scalar.muli v2 c4_i32_399
  let v537 : BitVec 32 := Scalar.addi c0_i32_400 v536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v538 : BitVec 32 := Scalar.muli v5 c2_i32_401
  let v539 : BitVec 32 := Scalar.addi v537 v538
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_402 : BitVec 32 := 1#32
  let v540 : BitVec 32 := Scalar.muli v13 c1_i32_402
  let v541 : BitVec 32 := Scalar.addi v539 v540
  v541.toNat
def k0_off14 (d0 : Dev nD) : Fin 4 → Nat :=
  let c0_i32_417 : BitVec 32 := 0#32
  let c4_i32_409 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v550 : BitVec 32 := Scalar.muli c4_i32_409 v2
  let c2_i32_410 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v551 : BitVec 32 := Scalar.muli c2_i32_410 v15
  let v552 : BitVec 32 := Scalar.addi v550 v551
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.addi v552 v8
  let c0_i32_418 : BitVec 32 := 0#32
  let c0_i32_419 : BitVec 32 := 0#32
  ![0, v553.toNat, 0, 0]
def k0_dev29 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v570 : BitVec 32 := Scalar.muli v2 c4_i32_426
  let v571 : BitVec 32 := Scalar.addi c0_i32_427 v570
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v572 : BitVec 32 := Scalar.muli v5 c2_i32_428
  let v573 : BitVec 32 := Scalar.addi v571 v572
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_429 : BitVec 32 := 1#32
  let v574 : BitVec 32 := Scalar.muli v13 c1_i32_429
  let v575 : BitVec 32 := Scalar.addi v573 v574
  v575.toNat
def k0_off15 (d0 : Dev nD) : Fin 4 → Nat :=
  let c0_i32_444 : BitVec 32 := 0#32
  let c4_i32_436 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v584 : BitVec 32 := Scalar.muli c4_i32_436 v2
  let c2_i32_437 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v585 : BitVec 32 := Scalar.muli c2_i32_437 v15
  let v586 : BitVec 32 := Scalar.addi v584 v585
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v587 : BitVec 32 := Scalar.addi v586 v8
  let c0_i32_445 : BitVec 32 := 0#32
  let c0_i32_446 : BitVec 32 := 0#32
  ![0, v587.toNat, 0, 0]
def k0_dev30 (d0 : Dev nD) : Nat :=
  let c0_i32_454 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_453 : BitVec 32 := 4#32
  let v604 : BitVec 32 := Scalar.muli v2 c4_i32_453
  let v605 : BitVec 32 := Scalar.addi c0_i32_454 v604
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_455 : BitVec 32 := 2#32
  let v606 : BitVec 32 := Scalar.muli v5 c2_i32_455
  let v607 : BitVec 32 := Scalar.addi v605 v606
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_456 : BitVec 32 := 1#32
  let v608 : BitVec 32 := Scalar.muli v13 c1_i32_456
  let v609 : BitVec 32 := Scalar.addi v607 v608
  v609.toNat
def k0_off16 (d0 : Dev nD) : Fin 4 → Nat :=
  let c0_i32_471 : BitVec 32 := 0#32
  let c4_i32_463 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v618 : BitVec 32 := Scalar.muli c4_i32_463 v16
  let c2_i32_464 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v619 : BitVec 32 := Scalar.muli c2_i32_464 v17
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v621 : BitVec 32 := Scalar.addi v620 v8
  let c0_i32_472 : BitVec 32 := 0#32
  let c0_i32_473 : BitVec 32 := 0#32
  ![0, v621.toNat, 0, 0]
def k0_dev31 (d0 : Dev nD) : Nat :=
  let c0_i32_481 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_480 : BitVec 32 := 4#32
  let v638 : BitVec 32 := Scalar.muli v2 c4_i32_480
  let v639 : BitVec 32 := Scalar.addi c0_i32_481 v638
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v640 : BitVec 32 := Scalar.muli v5 c2_i32_482
  let v641 : BitVec 32 := Scalar.addi v639 v640
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_483 : BitVec 32 := 1#32
  let v642 : BitVec 32 := Scalar.muli v13 c1_i32_483
  let v643 : BitVec 32 := Scalar.addi v641 v642
  v643.toNat
def k0_off17 (d0 : Dev nD) : Fin 4 → Nat :=
  let c0_i32_498 : BitVec 32 := 0#32
  let c4_i32_490 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v652 : BitVec 32 := Scalar.muli c4_i32_490 v16
  let c2_i32_491 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v653 : BitVec 32 := Scalar.muli c2_i32_491 v17
  let v654 : BitVec 32 := Scalar.addi v652 v653
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v655 : BitVec 32 := Scalar.addi v654 v8
  let c0_i32_499 : BitVec 32 := 0#32
  let c0_i32_500 : BitVec 32 := 0#32
  ![0, v655.toNat, 0, 0]
def k0_dev32 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_507 : BitVec 32 := 4#32
  let v672 : BitVec 32 := Scalar.muli v2 c4_i32_507
  let v673 : BitVec 32 := Scalar.addi c0_i32_508 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_509 : BitVec 32 := 2#32
  let v674 : BitVec 32 := Scalar.muli v5 c2_i32_509
  let v675 : BitVec 32 := Scalar.addi v673 v674
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_510 : BitVec 32 := 1#32
  let v676 : BitVec 32 := Scalar.muli v13 c1_i32_510
  let v677 : BitVec 32 := Scalar.addi v675 v676
  v677.toNat
def k0_off18 (d0 : Dev nD) : Fin 4 → Nat :=
  let c0_i32_525 : BitVec 32 := 0#32
  let c4_i32_517 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v686 : BitVec 32 := Scalar.muli c4_i32_517 v16
  let c2_i32_518 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v687 : BitVec 32 := Scalar.muli c2_i32_518 v17
  let v688 : BitVec 32 := Scalar.addi v686 v687
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v689 : BitVec 32 := Scalar.addi v688 v8
  let c0_i32_526 : BitVec 32 := 0#32
  let c0_i32_527 : BitVec 32 := 0#32
  ![0, v689.toNat, 0, 0]
def k0_dev33 (d0 : Dev nD) : Nat :=
  let c0_i32_535 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_534 : BitVec 32 := 4#32
  let v706 : BitVec 32 := Scalar.muli v2 c4_i32_534
  let v707 : BitVec 32 := Scalar.addi c0_i32_535 v706
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_536 : BitVec 32 := 2#32
  let v708 : BitVec 32 := Scalar.muli v5 c2_i32_536
  let v709 : BitVec 32 := Scalar.addi v707 v708
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_537 : BitVec 32 := 1#32
  let v710 : BitVec 32 := Scalar.muli v13 c1_i32_537
  let v711 : BitVec 32 := Scalar.addi v709 v710
  v711.toNat
def k0_off19 (d0 : Dev nD) : Fin 4 → Nat :=
  let c0_i32_552 : BitVec 32 := 0#32
  let c4_i32_544 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v720 : BitVec 32 := Scalar.muli c4_i32_544 v16
  let c2_i32_545 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v721 : BitVec 32 := Scalar.muli c2_i32_545 v17
  let v722 : BitVec 32 := Scalar.addi v720 v721
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v723 : BitVec 32 := Scalar.addi v722 v8
  let c0_i32_553 : BitVec 32 := 0#32
  let c0_i32_554 : BitVec 32 := 0#32
  ![0, v723.toNat, 0, 0]
def k0_dev34 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_561 : BitVec 32 := 4#32
  let v740 : BitVec 32 := Scalar.muli v2 c4_i32_561
  let v741 : BitVec 32 := Scalar.addi c0_i32_562 v740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_563 : BitVec 32 := 2#32
  let v742 : BitVec 32 := Scalar.muli v5 c2_i32_563
  let v743 : BitVec 32 := Scalar.addi v741 v742
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_564 : BitVec 32 := 1#32
  let v744 : BitVec 32 := Scalar.muli v13 c1_i32_564
  let v745 : BitVec 32 := Scalar.addi v743 v744
  v745.toNat
def k0_off20 (d0 : Dev nD) : Fin 4 → Nat :=
  let c0_i32_579 : BitVec 32 := 0#32
  let c4_i32_571 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v754 : BitVec 32 := Scalar.muli c4_i32_571 v16
  let c2_i32_572 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v755 : BitVec 32 := Scalar.muli c2_i32_572 v17
  let v756 : BitVec 32 := Scalar.addi v754 v755
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v757 : BitVec 32 := Scalar.addi v756 v8
  let c0_i32_580 : BitVec 32 := 0#32
  let c0_i32_581 : BitVec 32 := 0#32
  ![0, v757.toNat, 0, 0]
def k0_dev35 (d0 : Dev nD) : Nat :=
  let c0_i32_589 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_588 : BitVec 32 := 4#32
  let v774 : BitVec 32 := Scalar.muli v2 c4_i32_588
  let v775 : BitVec 32 := Scalar.addi c0_i32_589 v774
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_590 : BitVec 32 := 2#32
  let v776 : BitVec 32 := Scalar.muli v5 c2_i32_590
  let v777 : BitVec 32 := Scalar.addi v775 v776
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_591 : BitVec 32 := 1#32
  let v778 : BitVec 32 := Scalar.muli v13 c1_i32_591
  let v779 : BitVec 32 := Scalar.addi v777 v778
  v779.toNat
def k0_off21 (d0 : Dev nD) : Fin 4 → Nat :=
  let c0_i32_607 : BitVec 32 := 0#32
  let c4_i32_599 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v789 : BitVec 32 := Scalar.muli c4_i32_599 v2
  let c2_i32_600 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v790 : BitVec 32 := Scalar.muli c2_i32_600 v5
  let v791 : BitVec 32 := Scalar.addi v789 v790
  let c1_i32_598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v788 : BitVec 32 := Scalar.subi c1_i32_598 v8
  let v792 : BitVec 32 := Scalar.addi v791 v788
  let c0_i32_608 : BitVec 32 := 0#32
  let c0_i32_609 : BitVec 32 := 0#32
  ![0, v792.toNat, 0, 0]
def k0_off22 (d0 : Dev nD) : Fin 4 → Nat :=
  let c0_i32_622 : BitVec 32 := 0#32
  let c4_i32_614 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v806 : BitVec 32 := Scalar.muli c4_i32_614 v14
  let c2_i32_615 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v807 : BitVec 32 := Scalar.muli c2_i32_615 v5
  let v808 : BitVec 32 := Scalar.addi v806 v807
  let c1_i32_613 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v805 : BitVec 32 := Scalar.subi c1_i32_613 v8
  let v809 : BitVec 32 := Scalar.addi v808 v805
  let c0_i32_623 : BitVec 32 := 0#32
  let c0_i32_624 : BitVec 32 := 0#32
  ![0, v809.toNat, 0, 0]
def k0_off23 (d0 : Dev nD) : Fin 4 → Nat :=
  let c0_i32_637 : BitVec 32 := 0#32
  let c4_i32_629 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v823 : BitVec 32 := Scalar.muli c4_i32_629 v2
  let c2_i32_630 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v824 : BitVec 32 := Scalar.muli c2_i32_630 v15
  let v825 : BitVec 32 := Scalar.addi v823 v824
  let c1_i32_628 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v822 : BitVec 32 := Scalar.subi c1_i32_628 v8
  let v826 : BitVec 32 := Scalar.addi v825 v822
  let c0_i32_638 : BitVec 32 := 0#32
  let c0_i32_639 : BitVec 32 := 0#32
  ![0, v826.toNat, 0, 0]
def k0_off24 (d0 : Dev nD) : Fin 4 → Nat :=
  let c0_i32_652 : BitVec 32 := 0#32
  let c4_i32_644 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v840 : BitVec 32 := Scalar.muli c4_i32_644 v16
  let c2_i32_645 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v841 : BitVec 32 := Scalar.muli c2_i32_645 v17
  let v842 : BitVec 32 := Scalar.addi v840 v841
  let c1_i32_643 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v839 : BitVec 32 := Scalar.subi c1_i32_643 v8
  let v843 : BitVec 32 := Scalar.addi v842 v839
  let c0_i32_653 : BitVec 32 := 0#32
  let c0_i32_654 : BitVec 32 := 0#32
  ![0, v843.toNat, 0, 0]
def k0_off25 (d0 : Dev nD) : Fin 4 → Nat :=
  let c0_i32_667 : BitVec 32 := 0#32
  let c4_i32_659 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v857 : BitVec 32 := Scalar.muli c4_i32_659 v2
  let c2_i32_660 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v858 : BitVec 32 := Scalar.muli c2_i32_660 v5
  let v859 : BitVec 32 := Scalar.addi v857 v858
  let c1_i32_658 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v856 : BitVec 32 := Scalar.subi c1_i32_658 v8
  let v860 : BitVec 32 := Scalar.addi v859 v856
  let c0_i32_668 : BitVec 32 := 0#32
  let c0_i32_669 : BitVec 32 := 0#32
  ![0, v860.toNat, 0, 0]
def k0_off26 (d0 : Dev nD) : Fin 4 → Nat :=
  let c0_i32_682 : BitVec 32 := 0#32
  let c4_i32_674 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v874 : BitVec 32 := Scalar.muli c4_i32_674 v14
  let c2_i32_675 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v875 : BitVec 32 := Scalar.muli c2_i32_675 v5
  let v876 : BitVec 32 := Scalar.addi v874 v875
  let c1_i32_673 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v873 : BitVec 32 := Scalar.subi c1_i32_673 v8
  let v877 : BitVec 32 := Scalar.addi v876 v873
  let c0_i32_683 : BitVec 32 := 0#32
  let c0_i32_684 : BitVec 32 := 0#32
  ![0, v877.toNat, 0, 0]
def k0_off27 (d0 : Dev nD) : Fin 4 → Nat :=
  let c0_i32_697 : BitVec 32 := 0#32
  let c4_i32_689 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v891 : BitVec 32 := Scalar.muli c4_i32_689 v2
  let c2_i32_690 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v892 : BitVec 32 := Scalar.muli c2_i32_690 v15
  let v893 : BitVec 32 := Scalar.addi v891 v892
  let c1_i32_688 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v890 : BitVec 32 := Scalar.subi c1_i32_688 v8
  let v894 : BitVec 32 := Scalar.addi v893 v890
  let c0_i32_698 : BitVec 32 := 0#32
  let c0_i32_699 : BitVec 32 := 0#32
  ![0, v894.toNat, 0, 0]
def k0_off28 (d0 : Dev nD) : Fin 4 → Nat :=
  let c0_i32_712 : BitVec 32 := 0#32
  let c4_i32_704 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v908 : BitVec 32 := Scalar.muli c4_i32_704 v16
  let c2_i32_705 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v909 : BitVec 32 := Scalar.muli c2_i32_705 v17
  let v910 : BitVec 32 := Scalar.addi v908 v909
  let c1_i32_703 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v907 : BitVec 32 := Scalar.subi c1_i32_703 v8
  let v911 : BitVec 32 := Scalar.addi v910 v907
  let c0_i32_713 : BitVec 32 := 0#32
  let c0_i32_714 : BitVec 32 := 0#32
  ![0, v911.toNat, 0, 0]
def k0_off29 (d0 : Dev nD) : Fin 4 → Nat :=
  let c0_i32_727 : BitVec 32 := 0#32
  let c4_i32_719 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v925 : BitVec 32 := Scalar.muli c4_i32_719 v2
  let c2_i32_720 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v926 : BitVec 32 := Scalar.muli c2_i32_720 v5
  let v927 : BitVec 32 := Scalar.addi v925 v926
  let c1_i32_718 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v924 : BitVec 32 := Scalar.subi c1_i32_718 v8
  let v928 : BitVec 32 := Scalar.addi v927 v924
  let c0_i32_728 : BitVec 32 := 0#32
  let c0_i32_729 : BitVec 32 := 0#32
  ![0, v928.toNat, 0, 0]
def k0_off30 (d0 : Dev nD) : Fin 4 → Nat :=
  let c0_i32_742 : BitVec 32 := 0#32
  let c4_i32_734 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v942 : BitVec 32 := Scalar.muli c4_i32_734 v14
  let c2_i32_735 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v943 : BitVec 32 := Scalar.muli c2_i32_735 v5
  let v944 : BitVec 32 := Scalar.addi v942 v943
  let c1_i32_733 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v941 : BitVec 32 := Scalar.subi c1_i32_733 v8
  let v945 : BitVec 32 := Scalar.addi v944 v941
  let c0_i32_743 : BitVec 32 := 0#32
  let c0_i32_744 : BitVec 32 := 0#32
  ![0, v945.toNat, 0, 0]
def k0_off31 (d0 : Dev nD) : Fin 4 → Nat :=
  let c0_i32_757 : BitVec 32 := 0#32
  let c4_i32_749 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v959 : BitVec 32 := Scalar.muli c4_i32_749 v2
  let c2_i32_750 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v960 : BitVec 32 := Scalar.muli c2_i32_750 v15
  let v961 : BitVec 32 := Scalar.addi v959 v960
  let c1_i32_748 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v958 : BitVec 32 := Scalar.subi c1_i32_748 v8
  let v962 : BitVec 32 := Scalar.addi v961 v958
  let c0_i32_758 : BitVec 32 := 0#32
  let c0_i32_759 : BitVec 32 := 0#32
  ![0, v962.toNat, 0, 0]
def k0_off32 (d0 : Dev nD) : Fin 4 → Nat :=
  let c0_i32_772 : BitVec 32 := 0#32
  let c4_i32_764 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v976 : BitVec 32 := Scalar.muli c4_i32_764 v16
  let c2_i32_765 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v977 : BitVec 32 := Scalar.muli c2_i32_765 v17
  let v978 : BitVec 32 := Scalar.addi v976 v977
  let c1_i32_763 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v975 : BitVec 32 := Scalar.subi c1_i32_763 v8
  let v979 : BitVec 32 := Scalar.addi v978 v975
  let c0_i32_773 : BitVec 32 := 0#32
  let c0_i32_774 : BitVec 32 := 0#32
  ![0, v979.toNat, 0, 0]
def k0_off33 (d0 : Dev nD) : Fin 4 → Nat :=
  let c0_i32_787 : BitVec 32 := 0#32
  let c4_i32_779 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v993 : BitVec 32 := Scalar.muli c4_i32_779 v2
  let c2_i32_780 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v994 : BitVec 32 := Scalar.muli c2_i32_780 v5
  let v995 : BitVec 32 := Scalar.addi v993 v994
  let c1_i32_778 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v992 : BitVec 32 := Scalar.subi c1_i32_778 v8
  let v996 : BitVec 32 := Scalar.addi v995 v992
  let c0_i32_788 : BitVec 32 := 0#32
  let c0_i32_789 : BitVec 32 := 0#32
  ![0, v996.toNat, 0, 0]
def k0_off34 (d0 : Dev nD) : Fin 4 → Nat :=
  let c0_i32_802 : BitVec 32 := 0#32
  let c4_i32_794 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v1010 : BitVec 32 := Scalar.muli c4_i32_794 v14
  let c2_i32_795 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1011 : BitVec 32 := Scalar.muli c2_i32_795 v5
  let v1012 : BitVec 32 := Scalar.addi v1010 v1011
  let c1_i32_793 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1009 : BitVec 32 := Scalar.subi c1_i32_793 v8
  let v1013 : BitVec 32 := Scalar.addi v1012 v1009
  let c0_i32_803 : BitVec 32 := 0#32
  let c0_i32_804 : BitVec 32 := 0#32
  ![0, v1013.toNat, 0, 0]
def k0_off35 (d0 : Dev nD) : Fin 4 → Nat :=
  let c0_i32_817 : BitVec 32 := 0#32
  let c4_i32_809 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1027 : BitVec 32 := Scalar.muli c4_i32_809 v2
  let c2_i32_810 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v1028 : BitVec 32 := Scalar.muli c2_i32_810 v15
  let v1029 : BitVec 32 := Scalar.addi v1027 v1028
  let c1_i32_808 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1026 : BitVec 32 := Scalar.subi c1_i32_808 v8
  let v1030 : BitVec 32 := Scalar.addi v1029 v1026
  let c0_i32_818 : BitVec 32 := 0#32
  let c0_i32_819 : BitVec 32 := 0#32
  ![0, v1030.toNat, 0, 0]
def k0_off36 (d0 : Dev nD) : Fin 4 → Nat :=
  let c0_i32_832 : BitVec 32 := 0#32
  let c4_i32_824 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v1044 : BitVec 32 := Scalar.muli c4_i32_824 v16
  let c2_i32_825 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v1045 : BitVec 32 := Scalar.muli c2_i32_825 v17
  let v1046 : BitVec 32 := Scalar.addi v1044 v1045
  let c1_i32_823 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1043 : BitVec 32 := Scalar.subi c1_i32_823 v8
  let v1047 : BitVec 32 := Scalar.addi v1046 v1043
  let c0_i32_833 : BitVec 32 := 0#32
  let c0_i32_834 : BitVec 32 := 0#32
  ![0, v1047.toNat, 0, 0]
def k0_off37 (d0 : Dev nD) : Fin 4 → Nat :=
  let c0_i32_847 : BitVec 32 := 0#32
  let c4_i32_839 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1061 : BitVec 32 := Scalar.muli c4_i32_839 v2
  let c2_i32_840 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1062 : BitVec 32 := Scalar.muli c2_i32_840 v5
  let v1063 : BitVec 32 := Scalar.addi v1061 v1062
  let c1_i32_838 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1060 : BitVec 32 := Scalar.subi c1_i32_838 v8
  let v1064 : BitVec 32 := Scalar.addi v1063 v1060
  let c0_i32_848 : BitVec 32 := 0#32
  let c0_i32_849 : BitVec 32 := 0#32
  ![0, v1064.toNat, 0, 0]
def k0_off38 (d0 : Dev nD) : Fin 4 → Nat :=
  let c0_i32_862 : BitVec 32 := 0#32
  let c4_i32_854 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v1078 : BitVec 32 := Scalar.muli c4_i32_854 v14
  let c2_i32_855 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1079 : BitVec 32 := Scalar.muli c2_i32_855 v5
  let v1080 : BitVec 32 := Scalar.addi v1078 v1079
  let c1_i32_853 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1077 : BitVec 32 := Scalar.subi c1_i32_853 v8
  let v1081 : BitVec 32 := Scalar.addi v1080 v1077
  let c0_i32_863 : BitVec 32 := 0#32
  let c0_i32_864 : BitVec 32 := 0#32
  ![0, v1081.toNat, 0, 0]
def k0_off39 (d0 : Dev nD) : Fin 4 → Nat :=
  let c0_i32_877 : BitVec 32 := 0#32
  let c4_i32_869 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1095 : BitVec 32 := Scalar.muli c4_i32_869 v2
  let c2_i32_870 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v1096 : BitVec 32 := Scalar.muli c2_i32_870 v15
  let v1097 : BitVec 32 := Scalar.addi v1095 v1096
  let c1_i32_868 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1094 : BitVec 32 := Scalar.subi c1_i32_868 v8
  let v1098 : BitVec 32 := Scalar.addi v1097 v1094
  let c0_i32_878 : BitVec 32 := 0#32
  let c0_i32_879 : BitVec 32 := 0#32
  ![0, v1098.toNat, 0, 0]
def k0_off40 (d0 : Dev nD) : Fin 4 → Nat :=
  let c0_i32_892 : BitVec 32 := 0#32
  let c4_i32_884 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v1112 : BitVec 32 := Scalar.muli c4_i32_884 v16
  let c2_i32_885 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v1113 : BitVec 32 := Scalar.muli c2_i32_885 v17
  let v1114 : BitVec 32 := Scalar.addi v1112 v1113
  let c1_i32_883 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1111 : BitVec 32 := Scalar.subi c1_i32_883 v8
  let v1115 : BitVec 32 := Scalar.addi v1114 v1111
  let c0_i32_893 : BitVec 32 := 0#32
  let c0_i32_894 : BitVec 32 := 0#32
  ![0, v1115.toNat, 0, 0]
-- ==== GatherRef.lean ====
abbrev S6x2816x1024 : Shape := ⟨3, ![6, 2816, 1024]⟩
abbrev S1x6912x1024 : Shape := ⟨3, ![1, 6912, 1024]⟩
abbrev S1x1024x1024 : Shape := ⟨3, ![1, 1024, 1024]⟩
abbrev S1x1024x256 : Shape := ⟨3, ![1, 1024, 256]⟩
abbrev S2x1024x512 : Shape := ⟨3, ![2, 1024, 512]⟩
abbrev S6x8x352x1024 : Shape := ⟨4, ![6, 8, 352, 1024]⟩
abbrev S1x8x864x1024 : Shape := ⟨4, ![1, 8, 864, 1024]⟩
abbrev S1x8x128x1024 : Shape := ⟨4, ![1, 8, 128, 1024]⟩
abbrev S1x8x128x256 : Shape := ⟨4, ![1, 8, 128, 256]⟩
abbrev S2x8x128x512 : Shape := ⟨4, ![2, 8, 128, 512]⟩

abbrev nBuf : Space → Nat
  | .hbm => 10
  | .vmem => 0
  | .smem => 0
  | _ => 0

abbrev bufTy : (tb : Table) → Fin (tcTables nBuf tb) → BufTy
  | .hbm, ⟨0, _⟩ => ⟨S6x2816x1024, .bf16⟩
  | .hbm, ⟨1, _⟩ => ⟨S1x6912x1024, .bf16⟩
  | .hbm, ⟨2, _⟩ => ⟨S1x1024x1024, .bf16⟩
  | .hbm, ⟨3, _⟩ => ⟨S1x1024x256, .bf16⟩
  | .hbm, ⟨4, _⟩ => ⟨S2x1024x512, .bf16⟩
  | .hbm, ⟨5, _⟩ => ⟨S6x8x352x1024, .bf16⟩
  | .hbm, ⟨6, _⟩ => ⟨S1x8x864x1024, .bf16⟩
  | .hbm, ⟨7, _⟩ => ⟨S1x8x128x1024, .bf16⟩
  | .hbm, ⟨8, _⟩ => ⟨S1x8x128x256, .bf16⟩
  | .hbm, ⟨9, _⟩ => ⟨S2x8x128x512, .bf16⟩
  | _, _ => ⟨S6x2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== GatherSmall.lean ====
abbrev S1x2184x128 : Shape := ⟨3, ![1, 2184, 128]⟩
abbrev S1x8x2184x128 : Shape := ⟨4, ![1, 8, 2184, 128]⟩
abbrev S7 : Shape := ⟨1, ![7]⟩
abbrev S1 : Shape := ⟨1, ![1]⟩
abbrev S_ : Shape := ⟨0, ![]⟩
abbrev S1x1x2184x128 : Shape := ⟨4, ![1, 1, 2184, 128]⟩

abbrev nBuf : Space → Nat
  | .hbm => 2
  | .vmem => 0
  | .smem => 0
  | _ => 0

abbrev bufTy : (tb : Table) → Fin (tcTables nBuf tb) → BufTy
  | .hbm, ⟨0, _⟩ => ⟨S1x2184x128, .f32⟩
  | .hbm, ⟨1, _⟩ => ⟨S1x8x2184x128, .f32⟩
  | _, _ => ⟨S1x2184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_11 : BitVec 32 := 0#32
  let c0_i32_12 : BitVec 32 := 0#32
  ![0, v12.toNat, 0, 0]
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v22 : BitVec 32 := Scalar.muli v2 c4_i32_15
  let v23 : BitVec 32 := Scalar.addi c0_i32_16 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v24 : BitVec 32 := Scalar.muli v5 c2_i32_17
  let v25 : BitVec 32 := Scalar.addi v23 v24
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_18 : BitVec 32 := 1#32
  let v26 : BitVec 32 := Scalar.muli v13 c1_i32_18
  let v27 : BitVec 32 := Scalar.addi v25 v26
  v27.toNat
def k0_dev2 (d0 : Dev nD) : Nat :=
  let c0_i32_25 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_24 : BitVec 32 := 4#32
  let v34 : BitVec 32 := Scalar.muli v14 c4_i32_24
  let v35 : BitVec 32 := Scalar.addi c0_i32_25 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v36 : BitVec 32 := Scalar.muli v5 c2_i32_26
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v38 : BitVec 32 := Scalar.muli v8 c1_i32_27
  let v39 : BitVec 32 := Scalar.addi v37 v38
  v39.toNat
def k0_dev3 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v46 : BitVec 32 := Scalar.muli v2 c4_i32_33
  let v47 : BitVec 32 := Scalar.addi c0_i32_34 v46
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_35 : BitVec 32 := 2#32
  let v48 : BitVec 32 := Scalar.muli v15 c2_i32_35
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v50 : BitVec 32 := Scalar.muli v8 c1_i32_36
  let v51 : BitVec 32 := Scalar.addi v49 v50
  v51.toNat
def k0_dev4 (d0 : Dev nD) : Nat :=
  let c0_i32_42 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_41 : BitVec 32 := 4#32
  let v58 : BitVec 32 := Scalar.muli v16 c4_i32_41
  let v59 : BitVec 32 := Scalar.addi c0_i32_42 v58
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_43 : BitVec 32 := 2#32
  let v60 : BitVec 32 := Scalar.muli v17 c2_i32_43
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v62 : BitVec 32 := Scalar.muli v8 c1_i32_44
  let v63 : BitVec 32 := Scalar.addi v61 v62
  v63.toNat
def k0_off2 (d0 : Dev nD) : Fin 4 → Nat :=
  let c0_i32_56 : BitVec 32 := 0#32
  let c4_i32_48 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v70 : BitVec 32 := Scalar.muli c4_i32_48 v14
  let c2_i32_49 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.muli c2_i32_49 v5
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.addi v72 v8
  let c0_i32_57 : BitVec 32 := 0#32
  let c0_i32_58 : BitVec 32 := 0#32
  ![0, v73.toNat, 0, 0]
def k0_dev5 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v90 : BitVec 32 := Scalar.muli v2 c4_i32_66
  let v91 : BitVec 32 := Scalar.addi c0_i32_67 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v92 : BitVec 32 := Scalar.muli v5 c2_i32_68
  let v93 : BitVec 32 := Scalar.addi v91 v92
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_69 : BitVec 32 := 1#32
  let v94 : BitVec 32 := Scalar.muli v13 c1_i32_69
  let v95 : BitVec 32 := Scalar.addi v93 v94
  v95.toNat
def k0_off3 (d0 : Dev nD) : Fin 4 → Nat :=
  let c0_i32_84 : BitVec 32 := 0#32
  let c4_i32_76 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c4_i32_76 v2
  let c2_i32_77 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v105 : BitVec 32 := Scalar.muli c2_i32_77 v15
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v107 : BitVec 32 := Scalar.addi v106 v8
  let c0_i32_85 : BitVec 32 := 0#32
  let c0_i32_86 : BitVec 32 := 0#32
  ![0, v107.toNat, 0, 0]
def k0_dev6 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v124 : BitVec 32 := Scalar.muli v2 c4_i32_93
  let v125 : BitVec 32 := Scalar.addi c0_i32_94 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v126 : BitVec 32 := Scalar.muli v5 c2_i32_95
  let v127 : BitVec 32 := Scalar.addi v125 v126
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_96 : BitVec 32 := 1#32
  let v128 : BitVec 32 := Scalar.muli v13 c1_i32_96
  let v129 : BitVec 32 := Scalar.addi v127 v128
  v129.toNat
def k0_off4 (d0 : Dev nD) : Fin 4 → Nat :=
  let c0_i32_111 : BitVec 32 := 0#32
  let c4_i32_103 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v138 : BitVec 32 := Scalar.muli c4_i32_103 v16
  let c2_i32_104 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v139 : BitVec 32 := Scalar.muli c2_i32_104 v17
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.addi v140 v8
  let c0_i32_112 : BitVec 32 := 0#32
  let c0_i32_113 : BitVec 32 := 0#32
  ![0, v141.toNat, 0, 0]
def k0_dev7 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v158 : BitVec 32 := Scalar.muli v2 c4_i32_120
  let v159 : BitVec 32 := Scalar.addi c0_i32_121 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v160 : BitVec 32 := Scalar.muli v5 c2_i32_122
  let v161 : BitVec 32 := Scalar.addi v159 v160
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_123 : BitVec 32 := 1#32
  let v162 : BitVec 32 := Scalar.muli v13 c1_i32_123
  let v163 : BitVec 32 := Scalar.addi v161 v162
  v163.toNat
def k0_off5 (d0 : Dev nD) : Fin 4 → Nat :=
  let c0_i32_139 : BitVec 32 := 0#32
  let c4_i32_131 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v173 : BitVec 32 := Scalar.muli c4_i32_131 v2
  let c2_i32_132 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v174 : BitVec 32 := Scalar.muli c2_i32_132 v5
  let v175 : BitVec 32 := Scalar.addi v173 v174
  let c1_i32_130 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v172 : BitVec 32 := Scalar.subi c1_i32_130 v8
  let v176 : BitVec 32 := Scalar.addi v175 v172
  let c0_i32_140 : BitVec 32 := 0#32
  let c0_i32_141 : BitVec 32 := 0#32
  ![0, v176.toNat, 0, 0]
def k0_off6 (d0 : Dev nD) : Fin 4 → Nat :=
  let c0_i32_154 : BitVec 32 := 0#32
  let c4_i32_146 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v190 : BitVec 32 := Scalar.muli c4_i32_146 v14
  let c2_i32_147 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v191 : BitVec 32 := Scalar.muli c2_i32_147 v5
  let v192 : BitVec 32 := Scalar.addi v190 v191
  let c1_i32_145 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v189 : BitVec 32 := Scalar.subi c1_i32_145 v8
  let v193 : BitVec 32 := Scalar.addi v192 v189
  let c0_i32_155 : BitVec 32 := 0#32
  let c0_i32_156 : BitVec 32 := 0#32
  ![0, v193.toNat, 0, 0]
def k0_off7 (d0 : Dev nD) : Fin 4 → Nat :=
  let c0_i32_169 : BitVec 32 := 0#32
  let c4_i32_161 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v207 : BitVec 32 := Scalar.muli c4_i32_161 v2
  let c2_i32_162 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v208 : BitVec 32 := Scalar.muli c2_i32_162 v15
  let v209 : BitVec 32 := Scalar.addi v207 v208
  let c1_i32_160 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v206 : BitVec 32 := Scalar.subi c1_i32_160 v8
  let v210 : BitVec 32 := Scalar.addi v209 v206
  let c0_i32_170 : BitVec 32 := 0#32
  let c0_i32_171 : BitVec 32 := 0#32
  ![0, v210.toNat, 0, 0]
def k0_off8 (d0 : Dev nD) : Fin 4 → Nat :=
  let c0_i32_184 : BitVec 32 := 0#32
  let c4_i32_176 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v224 : BitVec 32 := Scalar.muli c4_i32_176 v16
  let c2_i32_177 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v225 : BitVec 32 := Scalar.muli c2_i32_177 v17
  let v226 : BitVec 32 := Scalar.addi v224 v225
  let c1_i32_175 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v223 : BitVec 32 := Scalar.subi c1_i32_175 v8
  let v227 : BitVec 32 := Scalar.addi v226 v223
  let c0_i32_185 : BitVec 32 := 0#32
  let c0_i32_186 : BitVec 32 := 0#32
  ![0, v227.toNat, 0, 0]
-- ==== GatherSmallRef.lean ====
abbrev S8x2184x128 : Shape := ⟨3, ![8, 2184, 128]⟩
abbrev S1x8x2184x128 : Shape := ⟨4, ![1, 8, 2184, 128]⟩

abbrev nBuf : Space → Nat
  | .hbm => 2
  | .vmem => 0
  | .smem => 0
  | _ => 0

abbrev bufTy : (tb : Table) → Fin (tcTables nBuf tb) → BufTy
  | .hbm, ⟨0, _⟩ => ⟨S8x2184x128, .f32⟩
  | .hbm, ⟨1, _⟩ => ⟨S1x8x2184x128, .f32⟩
  | _, _ => ⟨S8x2184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Sum0.lean ====
abbrev S8x6x352x1024 : Shape := ⟨4, ![8, 6, 352, 1024]⟩
abbrev S6x352x1024 : Shape := ⟨3, ![6, 352, 1024]⟩
abbrev S8x1x352x1024 : Shape := ⟨4, ![8, 1, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x6x352x1024, .bf16⟩
  | .hbm, ⟨1, _⟩ => ⟨S6x352x1024, .f32⟩
  | .local _ .vmem, ⟨0, _⟩ => ⟨S8x1x352x1024, .bf16⟩
  | .local _ .vmem, ⟨1, _⟩ => ⟨S8x1x352x1024, .bf16⟩
  | .local _ .vmem, ⟨2, _⟩ => ⟨S1x352x1024, .f32⟩
  | .local _ .vmem, ⟨3, _⟩ => ⟨S1x352x1024, .f32⟩
  | _, _ => ⟨S8x6x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![6, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Sum0Ideal.lean ====
abbrev S8x6x352x1024 : Shape := ⟨4, ![8, 6, 352, 1024]⟩
abbrev S6x352x1024 : Shape := ⟨3, ![6, 352, 1024]⟩
abbrev S8x1x352x1024 : Shape := ⟨4, ![8, 1, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x6x352x1024, .bf16⟩
  | .hbm, ⟨1, _⟩ => ⟨S6x352x1024, .f32⟩
  | .local _ .vmem, ⟨0, _⟩ => ⟨S8x1x352x1024, .bf16⟩
  | .local _ .vmem, ⟨1, _⟩ => ⟨S8x1x352x1024, .bf16⟩
  | .local _ .vmem, ⟨2, _⟩ => ⟨S1x352x1024, .f32⟩
  | .local _ .vmem, ⟨3, _⟩ => ⟨S1x352x1024, .f32⟩
  | _, _ => ⟨S8x6x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![6, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Sum0RefIdeal.lean ====
abbrev S8x48x352x1024 : Shape := ⟨4, ![8, 48, 352, 1024]⟩
abbrev S_ : Shape := ⟨0, ![]⟩
abbrev S48x352x1024 : Shape := ⟨3, ![48, 352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x48x352x1024, .bf16⟩
  | .hbm, ⟨1, _⟩ => ⟨S8x48x352x1024, .f32⟩
  | .hbm, ⟨2, _⟩ => ⟨S_, .f32⟩
  | .hbm, ⟨3, _⟩ => ⟨S48x352x1024, .f32⟩
  | _, _ => ⟨S8x48x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sum1.lean ====
abbrev S8x1x864x1024 : Shape := ⟨4, ![8, 1, 864, 1024]⟩
abbrev S1x864x1024 : Shape := ⟨3, ![1, 864, 1024]⟩
abbrev S8x1x432x1024 : Shape := ⟨4, ![8, 1, 432, 1024]⟩
abbrev S1x432x1024 : Shape := ⟨3, ![1, 432, 1024]⟩
abbrev S1x1x432x1024 : Shape := ⟨4, ![1, 1, 432, 1024]⟩
abbrev S432x1024 : Shape := ⟨2, ![432, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1x864x1024, .bf16⟩
  | .hbm, ⟨1, _⟩ => ⟨S1x864x1024, .f32⟩
  | .local _ .vmem, ⟨0, _⟩ => ⟨S8x1x432x1024, .bf16⟩
  | .local _ .vmem, ⟨1, _⟩ => ⟨S8x1x432x1024, .bf16⟩
  | .local _ .vmem, ⟨2, _⟩ => ⟨S1x432x1024, .f32⟩
  | .local _ .vmem, ⟨3, _⟩ => ⟨S1x432x1024, .f32⟩
  | _, _ => ⟨S8x1x864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x432x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Sum1Ideal.lean ====
abbrev S8x1x864x1024 : Shape := ⟨4, ![8, 1, 864, 1024]⟩
abbrev S1x864x1024 : Shape := ⟨3, ![1, 864, 1024]⟩
abbrev S8x1x432x1024 : Shape := ⟨4, ![8, 1, 432, 1024]⟩
abbrev S1x432x1024 : Shape := ⟨3, ![1, 432, 1024]⟩
abbrev S1x1x432x1024 : Shape := ⟨4, ![1, 1, 432, 1024]⟩
abbrev S432x1024 : Shape := ⟨2, ![432, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1x864x1024, .bf16⟩
  | .hbm, ⟨1, _⟩ => ⟨S1x864x1024, .f32⟩
  | .local _ .vmem, ⟨0, _⟩ => ⟨S8x1x432x1024, .bf16⟩
  | .local _ .vmem, ⟨1, _⟩ => ⟨S8x1x432x1024, .bf16⟩
  | .local _ .vmem, ⟨2, _⟩ => ⟨S1x432x1024, .f32⟩
  | .local _ .vmem, ⟨3, _⟩ => ⟨S1x432x1024, .f32⟩
  | _, _ => ⟨S8x1x864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x432x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Sum1RefIdeal.lean ====
abbrev S8x8x864x1024 : Shape := ⟨4, ![8, 8, 864, 1024]⟩
abbrev S_ : Shape := ⟨0, ![]⟩
abbrev S8x864x1024 : Shape := ⟨3, ![8, 864, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x8x864x1024, .bf16⟩
  | .hbm, ⟨1, _⟩ => ⟨S8x8x864x1024, .f32⟩
  | .hbm, ⟨2, _⟩ => ⟨S_, .f32⟩
  | .hbm, ⟨3, _⟩ => ⟨S8x864x1024, .f32⟩
  | _, _ => ⟨S8x8x864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sum2.lean ====
abbrev S8x1x128x1024 : Shape := ⟨4, ![8, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x1x128x1024, .bf16⟩
  | .hbm, ⟨1, _⟩ => ⟨S1x128x1024, .f32⟩
  | .local _ .vmem, ⟨0, _⟩ => ⟨S8x1x128x1024, .bf16⟩
  | .local _ .vmem, ⟨1, _⟩ => ⟨S1x128x1024, .f32⟩
  | _, _ => ⟨S8x1x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 8
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== Sum2Ideal.lean ====
abbrev S8x1x128x1024 : Shape := ⟨4, ![8, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x1x128x1024, .bf16⟩
  | .hbm, ⟨1, _⟩ => ⟨S1x128x1024, .f32⟩
  | .local _ .vmem, ⟨0, _⟩ => ⟨S8x1x128x1024, .bf16⟩
  | .local _ .vmem, ⟨1, _⟩ => ⟨S1x128x1024, .f32⟩
  | _, _ => ⟨S8x1x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 8
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== Sum2RefIdeal.lean ====
abbrev S8x8x128x1024 : Shape := ⟨4, ![8, 8, 128, 1024]⟩
abbrev S_ : Shape := ⟨0, ![]⟩
abbrev S8x128x1024 : Shape := ⟨3, ![8, 128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x8x128x1024, .bf16⟩
  | .hbm, ⟨1, _⟩ => ⟨S8x8x128x1024, .f32⟩
  | .hbm, ⟨2, _⟩ => ⟨S_, .f32⟩
  | .hbm, ⟨3, _⟩ => ⟨S8x128x1024, .f32⟩
  | _, _ => ⟨S8x8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sum3.lean ====
abbrev S8x1x128x256 : Shape := ⟨4, ![8, 1, 128, 256]⟩
abbrev S1x128x256 : Shape := ⟨3, ![1, 128, 256]⟩
abbrev S1x1x128x256 : Shape := ⟨4, ![1, 1, 128, 256]⟩
abbrev S128x256 : Shape := ⟨2, ![128, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x1x128x256, .bf16⟩
  | .hbm, ⟨1, _⟩ => ⟨S1x128x256, .f32⟩
  | .local _ .vmem, ⟨0, _⟩ => ⟨S8x1x128x256, .bf16⟩
  | .local _ .vmem, ⟨1, _⟩ => ⟨S1x128x256, .f32⟩
  | _, _ => ⟨S8x1x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 8
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== Sum3Ideal.lean ====
abbrev S8x1x128x256 : Shape := ⟨4, ![8, 1, 128, 256]⟩
abbrev S1x128x256 : Shape := ⟨3, ![1, 128, 256]⟩
abbrev S1x1x128x256 : Shape := ⟨4, ![1, 1, 128, 256]⟩
abbrev S128x256 : Shape := ⟨2, ![128, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x1x128x256, .bf16⟩
  | .hbm, ⟨1, _⟩ => ⟨S1x128x256, .f32⟩
  | .local _ .vmem, ⟨0, _⟩ => ⟨S8x1x128x256, .bf16⟩
  | .local _ .vmem, ⟨1, _⟩ => ⟨S1x128x256, .f32⟩
  | _, _ => ⟨S8x1x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 8
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== Sum3RefIdeal.lean ====
abbrev S8x8x128x256 : Shape := ⟨4, ![8, 8, 128, 256]⟩
abbrev S_ : Shape := ⟨0, ![]⟩
abbrev S8x128x256 : Shape := ⟨3, ![8, 128, 256]⟩

abbrev nBuf : Space → Nat
  | .hbm => 4
  | .vmem => 0
  | .smem => 0
  | _ => 0

abbrev bufTy : (tb : Table) → Fin (tcTables nBuf tb) → BufTy
  | .hbm, ⟨0, _⟩ => ⟨S8x8x128x256, .bf16⟩
  | .hbm, ⟨1, _⟩ => ⟨S8x8x128x256, .f32⟩
  | .hbm, ⟨2, _⟩ => ⟨S_, .f32⟩
  | .hbm, ⟨3, _⟩ => ⟨S8x128x256, .f32⟩
  | _, _ => ⟨S8x8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sum4.lean ====
abbrev S8x2x128x512 : Shape := ⟨4, ![8, 2, 128, 512]⟩
abbrev S2x128x512 : Shape := ⟨3, ![2, 128, 512]⟩
abbrev S8x1x128x512 : Shape := ⟨4, ![8, 1, 128, 512]⟩
abbrev S1x128x512 : Shape := ⟨3, ![1, 128, 512]⟩
abbrev S1x1x128x512 : Shape := ⟨4, ![1, 1, 128, 512]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x2x128x512, .bf16⟩
  | .hbm, ⟨1, _⟩ => ⟨S2x128x512, .f32⟩
  | .local _ .vmem, ⟨0, _⟩ => ⟨S8x1x128x512, .bf16⟩
  | .local _ .vmem, ⟨1, _⟩ => ⟨S8x1x128x512, .bf16⟩
  | .local _ .vmem, ⟨2, _⟩ => ⟨S1x128x512, .f32⟩
  | .local _ .vmem, ⟨3, _⟩ => ⟨S1x128x512, .f32⟩
  | _, _ => ⟨S8x2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Sum4Ideal.lean ====
abbrev S8x2x128x512 : Shape := ⟨4, ![8, 2, 128, 512]⟩
abbrev S2x128x512 : Shape := ⟨3, ![2, 128, 512]⟩
abbrev S8x1x128x512 : Shape := ⟨4, ![8, 1, 128, 512]⟩
abbrev S1x128x512 : Shape := ⟨3, ![1, 128, 512]⟩
abbrev S1x1x128x512 : Shape := ⟨4, ![1, 1, 128, 512]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x2x128x512, .bf16⟩
  | .hbm, ⟨1, _⟩ => ⟨S2x128x512, .f32⟩
  | .local _ .vmem, ⟨0, _⟩ => ⟨S8x1x128x512, .bf16⟩
  | .local _ .vmem, ⟨1, _⟩ => ⟨S8x1x128x512, .bf16⟩
  | .local _ .vmem, ⟨2, _⟩ => ⟨S1x128x512, .f32⟩
  | .local _ .vmem, ⟨3, _⟩ => ⟨S1x128x512, .f32⟩
  | _, _ => ⟨S8x2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Sum4RefIdeal.lean ====
abbrev S8x16x128x512 : Shape := ⟨4, ![8, 16, 128, 512]⟩
abbrev S_ : Shape := ⟨0, ![]⟩
abbrev S16x128x512 : Shape := ⟨3, ![16, 128, 512]⟩

abbrev nBuf : Space → Nat
  | .hbm => 4
  | .vmem => 0
  | .smem => 0
  | _ => 0

abbrev bufTy : (tb : Table) → Fin (tcTables nBuf tb) → BufTy
  | .hbm, ⟨0, _⟩ => ⟨S8x16x128x512, .bf16⟩
  | .hbm, ⟨1, _⟩ => ⟨S8x16x128x512, .f32⟩
  | .hbm, ⟨2, _⟩ => ⟨S_, .f32⟩
  | .hbm, ⟨3, _⟩ => ⟨S16x128x512, .f32⟩
  | _, _ => ⟨S8x16x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S1x8x2184x128 : Shape := ⟨4, ![1, 8, 2184, 128]⟩
abbrev S1x2184x128 : Shape := ⟨3, ![1, 2184, 128]⟩
abbrev S1x8x728x128 : Shape := ⟨4, ![1, 8, 728, 128]⟩
abbrev S1x728x128 : Shape := ⟨3, ![1, 728, 128]⟩
abbrev S1x1x728x128 : Shape := ⟨4, ![1, 1, 728, 128]⟩
abbrev S728x128 : Shape := ⟨2, ![728, 128]⟩

abbrev nBuf : Space → Nat
  | .hbm => 2
  | .vmem => 4
  | .smem => 0
  | _ => 0

abbrev bufTy : (tb : Table) → Fin (tcTables nBuf tb) → BufTy
  | .hbm, ⟨0, _⟩ => ⟨S1x8x2184x128, .f32⟩
  | .hbm, ⟨1, _⟩ => ⟨S1x2184x128, .f32⟩
  | .local _ .vmem, ⟨0, _⟩ => ⟨S1x8x728x128, .f32⟩
  | .local _ .vmem, ⟨1, _⟩ => ⟨S1x8x728x128, .f32⟩
  | .local _ .vmem, ⟨2, _⟩ => ⟨S1x728x128, .f32⟩
  | .local _ .vmem, ⟨3, _⟩ => ⟨S1x728x128, .f32⟩
  | _, _ => ⟨S1x8x2184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x728x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x728x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumSmallRefIdeal.lean ====
abbrev S1x8x2184x128 : Shape := ⟨4, ![1, 8, 2184, 128]⟩
abbrev S_ : Shape := ⟨0, ![]⟩
abbrev S1x2184x128 : Shape := ⟨3, ![1, 2184, 128]⟩

abbrev nBuf : Space → Nat
  | .hbm => 3
  | .vmem => 0
  | .smem => 0
  | _ => 0

abbrev bufTy : (tb : Table) → Fin (tcTables nBuf tb) → BufTy
  | .hbm, ⟨0, _⟩ => ⟨S1x8x2184x128, .f32⟩
  | .hbm, ⟨1, _⟩ => ⟨S_, .f32⟩
  | .hbm, ⟨2, _⟩ => ⟨S1x2184x128, .f32⟩
  | _, _ => ⟨S1x8x2184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Step0.lean ====
abbrev S2048x352 : Shape := ⟨2, ![2048, 352]⟩
abbrev S1024x352 : Shape := ⟨2, ![1024, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Step0Ideal.lean ====
abbrev S2048x352 : Shape := ⟨2, ![2048, 352]⟩
abbrev S1024x352 : Shape := ⟨2, ![1024, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Step0RefIdeal.lean ====
abbrev S2048x352 : Shape := ⟨2, ![2048, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S_, .f32⟩
  | .hbm, ⟨5, _⟩ => ⟨S2048x352, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S2048x352, .f32⟩
  | .hbm, ⟨11, _⟩ => ⟨S_, .f32⟩
  | .hbm, ⟨12, _⟩ => ⟨S2048x352, .f32⟩
  | .hbm, ⟨13, _⟩ => ⟨S2048x352, .f32⟩
  | .hbm, ⟨14, _⟩ => ⟨S2048x352, .f32⟩
  | .hbm, ⟨15, _⟩ => ⟨S_, .f32⟩
  | .hbm, ⟨16, _⟩ => ⟨S2048x352, .f32⟩
  | .hbm, ⟨17, _⟩ => ⟨S2048x352, .f32⟩
  | .hbm, ⟨18, _⟩ => ⟨S2048x352, .f32⟩
  | .hbm, ⟨19, _⟩ => ⟨S_, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S2048x352, .f32⟩
  | .hbm, ⟨26, _⟩ => ⟨S_, .f32⟩
  | .hbm, ⟨27, _⟩ => ⟨S2048x352, .f32⟩
  | .hbm, ⟨28, _⟩ => ⟨S2048x352, .f32⟩
  | .hbm, ⟨29, _⟩ => ⟨S2048x352, .f32⟩
  | .hbm, ⟨30, _⟩ => ⟨S_, .f32⟩
  | .hbm, ⟨31, _⟩ => ⟨S2048x352, .f32⟩
  | .hbm, ⟨32, _⟩ => ⟨S2048x352, .f32⟩
  | .hbm, ⟨33, _⟩ => ⟨S2048x352, .f32⟩
  | .hbm, ⟨34, _⟩ => ⟨S_, .f32⟩
  | .hbm, ⟨35, _⟩ => ⟨S2048x352, .f32⟩
  | .hbm, ⟨36, _⟩ => ⟨S2048x352, .f32⟩
  | _, _ => ⟨S2048x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Step1.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Step1Ideal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Step1RefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Step2.lean ====
abbrev S2048x864 : Shape := ⟨2, ![2048, 864]⟩
abbrev S512x864 : Shape := ⟨2, ![512, 864]⟩

abbrev nBuf : Space → Nat
  | .hbm => 7
  | .vmem => 14
  | .smem => 0
  | _ => 0

abbrev bufTy : (tb : Table) → Fin (tcTables nBuf tb) → BufTy
  | .hbm, ⟨0, _⟩ => ⟨S2048x864, .f32⟩
  | .hbm, ⟨1, _⟩ => ⟨S2048x864, .f32⟩
  | .hbm, ⟨2, _⟩ => ⟨S2048x864, .f32⟩
  | .hbm, ⟨3, _⟩ => ⟨S2048x864, .f32⟩
  | .hbm, ⟨4, _⟩ => ⟨S2048x864, .f32⟩
  | .hbm, ⟨5, _⟩ => ⟨S2048x864, .f32⟩
  | .hbm, ⟨6, _⟩ => ⟨S2048x864, .f32⟩
  | .local _ .vmem, ⟨0, _⟩ => ⟨S512x864, .f32⟩
  | .local _ .vmem, ⟨1, _⟩ => ⟨S512x864, .f32⟩
  | .local _ .vmem, ⟨2, _⟩ => ⟨S512x864, .f32⟩
  | .local _ .vmem, ⟨3, _⟩ => ⟨S512x864, .f32⟩
  | .local _ .vmem, ⟨4, _⟩ => ⟨S512x864, .f32⟩
  | .local _ .vmem, ⟨5, _⟩ => ⟨S512x864, .f32⟩
  | .local _ .vmem, ⟨6, _⟩ => ⟨S512x864, .f32⟩
  | .local _ .vmem, ⟨7, _⟩ => ⟨S512x864, .f32⟩
  | .local _ .vmem, ⟨8, _⟩ => ⟨S512x864, .f32⟩
  | .local _ .vmem, ⟨9, _⟩ => ⟨S512x864, .f32⟩
  | .local _ .vmem, ⟨10, _⟩ => ⟨S512x864, .f32⟩
  | .local _ .vmem, ⟨11, _⟩ => ⟨S512x864, .f32⟩
  | .local _ .vmem, ⟨12, _⟩ => ⟨S512x864, .f32⟩
  | .local _ .vmem, ⟨13, _⟩ => ⟨S512x864, .f32⟩
  | _, _ => ⟨S2048x864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x864 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x864 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x864 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x864 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Step2Ideal.lean ====
abbrev S2048x864 : Shape := ⟨2, ![2048, 864]⟩
abbrev S512x864 : Shape := ⟨2, ![512, 864]⟩

abbrev nBuf : Space → Nat
  | .hbm => 7
  | .vmem => 14
  | .smem => 0
  | _ => 0

abbrev bufTy : (tb : Table) → Fin (tcTables nBuf tb) → BufTy
  | .hbm, ⟨0, _⟩ => ⟨S2048x864, .f32⟩
  | .hbm, ⟨1, _⟩ => ⟨S2048x864, .f32⟩
  | .hbm, ⟨2, _⟩ => ⟨S2048x864, .f32⟩
  | .hbm, ⟨3, _⟩ => ⟨S2048x864, .f32⟩
  | .hbm, ⟨4, _⟩ => ⟨S2048x864, .f32⟩
  | .hbm, ⟨5, _⟩ => ⟨S2048x864, .f32⟩
  | .hbm, ⟨6, _⟩ => ⟨S2048x864, .f32⟩
  | .local _ .vmem, ⟨0, _⟩ => ⟨S512x864, .f32⟩
  | .local _ .vmem, ⟨1, _⟩ => ⟨S512x864, .f32⟩
  | .local _ .vmem, ⟨2, _⟩ => ⟨S512x864, .f32⟩
  | .local _ .vmem, ⟨3, _⟩ => ⟨S512x864, .f32⟩
  | .local _ .vmem, ⟨4, _⟩ => ⟨S512x864, .f32⟩
  | .local _ .vmem, ⟨5, _⟩ => ⟨S512x864, .f32⟩
  | .local _ .vmem, ⟨6, _⟩ => ⟨S512x864, .f32⟩
  | .local _ .vmem, ⟨7, _⟩ => ⟨S512x864, .f32⟩
  | .local _ .vmem, ⟨8, _⟩ => ⟨S512x864, .f32⟩
  | .local _ .vmem, ⟨9, _⟩ => ⟨S512x864, .f32⟩
  | .local _ .vmem, ⟨10, _⟩ => ⟨S512x864, .f32⟩
  | .local _ .vmem, ⟨11, _⟩ => ⟨S512x864, .f32⟩
  | .local _ .vmem, ⟨12, _⟩ => ⟨S512x864, .f32⟩
  | .local _ .vmem, ⟨13, _⟩ => ⟨S512x864, .f32⟩
  | _, _ => ⟨S2048x864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x864 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x864 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x864 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x864 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Step2RefIdeal.lean ====
abbrev S2048x864 : Shape := ⟨2, ![2048, 864]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x864, .f32⟩
  | .hbm, ⟨1, _⟩ => ⟨S2048x864, .f32⟩
  | .hbm, ⟨2, _⟩ => ⟨S2048x864, .f32⟩
  | .hbm, ⟨3, _⟩ => ⟨S2048x864, .f32⟩
  | .hbm, ⟨4, _⟩ => ⟨S_, .f32⟩
  | .hbm, ⟨5, _⟩ => ⟨S2048x864, .f32⟩
  | .hbm, ⟨6, _⟩ => ⟨S2048x864, .f32⟩
  | .hbm, ⟨7, _⟩ => ⟨S_, .f32⟩
  | .hbm, ⟨8, _⟩ => ⟨S2048x864, .f32⟩
  | .hbm, ⟨9, _⟩ => ⟨S2048x864, .f32⟩
  | .hbm, ⟨10, _⟩ => ⟨S2048x864, .f32⟩
  | .hbm, ⟨11, _⟩ => ⟨S_, .f32⟩
  | .hbm, ⟨12, _⟩ => ⟨S2048x864, .f32⟩
  | .hbm, ⟨13, _⟩ => ⟨S2048x864, .f32⟩
  | .hbm, ⟨14, _⟩ => ⟨S2048x864, .f32⟩
  | .hbm, ⟨15, _⟩ => ⟨S_, .f32⟩
  | .hbm, ⟨16, _⟩ => ⟨S2048x864, .f32⟩
  | .hbm, ⟨17, _⟩ => ⟨S2048x864, .f32⟩
  | .hbm, ⟨18, _⟩ => ⟨S2048x864, .f32⟩
  | .hbm, ⟨19, _⟩ => ⟨S_, .f32⟩
  | .hbm, ⟨20, _⟩ => ⟨S2048x864, .f32⟩
  | .hbm, ⟨21, _⟩ => ⟨S2048x864, .f32⟩
  | .hbm, ⟨22, _⟩ => ⟨S_, .f32⟩
  | .hbm, ⟨23, _⟩ => ⟨S2048x864, .f32⟩
  | .hbm, ⟨24, _⟩ => ⟨S2048x864, .f32⟩
  | .hbm, ⟨25, _⟩ => ⟨S2048x864, .f32⟩
  | .hbm, ⟨26, _⟩ => ⟨S_, .f32⟩
  | .hbm, ⟨27, _⟩ => ⟨S2048x864, .f32⟩
  | .hbm, ⟨28, _⟩ => ⟨S2048x864, .f32⟩
  | .hbm, ⟨29, _⟩ => ⟨S2048x864, .f32⟩
  | .hbm, ⟨30, _⟩ => ⟨S_, .f32⟩
  | .hbm, ⟨31, _⟩ => ⟨S2048x864, .f32⟩
  | .hbm, ⟨32, _⟩ => ⟨S2048x864, .f32⟩
  | .hbm, ⟨33, _⟩ => ⟨S2048x864, .f32⟩
  | .hbm, ⟨34, _⟩ => ⟨S_, .f32⟩
  | .hbm, ⟨35, _⟩ => ⟨S2048x864, .f32⟩
  | .hbm, ⟨36, _⟩ => ⟨S2048x864, .f32⟩
  | _, _ => ⟨S2048x864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Step3.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Step3Ideal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Step3RefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Step4.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Step4Ideal.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Step4RefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Step5.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Step5Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Step5RefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Step6.lean ====
abbrev S2184x128 : Shape := ⟨2, ![2184, 128]⟩
abbrev S728x128 : Shape := ⟨2, ![728, 128]⟩

abbrev nBuf : Space → Nat
  | .hbm => 7
  | .vmem => 14
  | .smem => 0
  | _ => 0

abbrev bufTy : (tb : Table) → Fin (tcTables nBuf tb) → BufTy
  | .hbm, ⟨0, _⟩ => ⟨S2184x128, .f32⟩
  | .hbm, ⟨1, _⟩ => ⟨S2184x128, .f32⟩
  | .hbm, ⟨2, _⟩ => ⟨S2184x128, .f32⟩
  | .hbm, ⟨3, _⟩ => ⟨S2184x128, .f32⟩
  | .hbm, ⟨4, _⟩ => ⟨S2184x128, .f32⟩
  | .hbm, ⟨5, _⟩ => ⟨S2184x128, .f32⟩
  | .hbm, ⟨6, _⟩ => ⟨S2184x128, .f32⟩
  | .local _ .vmem, ⟨0, _⟩ => ⟨S728x128, .f32⟩
  | .local _ .vmem, ⟨1, _⟩ => ⟨S728x128, .f32⟩
  | .local _ .vmem, ⟨2, _⟩ => ⟨S728x128, .f32⟩
  | .local _ .vmem, ⟨3, _⟩ => ⟨S728x128, .f32⟩
  | .local _ .vmem, ⟨4, _⟩ => ⟨S728x128, .f32⟩
  | .local _ .vmem, ⟨5, _⟩ => ⟨S728x128, .f32⟩
  | .local _ .vmem, ⟨6, _⟩ => ⟨S728x128, .f32⟩
  | .local _ .vmem, ⟨7, _⟩ => ⟨S728x128, .f32⟩
  | .local _ .vmem, ⟨8, _⟩ => ⟨S728x128, .f32⟩
  | .local _ .vmem, ⟨9, _⟩ => ⟨S728x128, .f32⟩
  | .local _ .vmem, ⟨10, _⟩ => ⟨S728x128, .f32⟩
  | .local _ .vmem, ⟨11, _⟩ => ⟨S728x128, .f32⟩
  | .local _ .vmem, ⟨12, _⟩ => ⟨S728x128, .f32⟩
  | .local _ .vmem, ⟨13, _⟩ => ⟨S728x128, .f32⟩
  | _, _ => ⟨S2184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S728x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S728x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S728x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S728x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S728x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S728x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S728x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Step6RefIdeal.lean ====
abbrev S2184x128 : Shape := ⟨2, ![2184, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2184x128, .f32⟩
  | .hbm, ⟨1, _⟩ => ⟨S2184x128, .f32⟩
  | .hbm, ⟨2, _⟩ => ⟨S2184x128, .f32⟩
  | .hbm, ⟨3, _⟩ => ⟨S2184x128, .f32⟩
  | .hbm, ⟨4, _⟩ => ⟨S_, .f32⟩
  | .hbm, ⟨5, _⟩ => ⟨S2184x128, .f32⟩
  | .hbm, ⟨6, _⟩ => ⟨S2184x128, .f32⟩
  | .hbm, ⟨7, _⟩ => ⟨S_, .f32⟩
  | .hbm, ⟨8, _⟩ => ⟨S2184x128, .f32⟩
  | .hbm, ⟨9, _⟩ => ⟨S2184x128, .f32⟩
  | .hbm, ⟨10, _⟩ => ⟨S2184x128, .f32⟩
  | .hbm, ⟨11, _⟩ => ⟨S_, .f32⟩
  | .hbm, ⟨12, _⟩ => ⟨S2184x128, .f32⟩
  | .hbm, ⟨13, _⟩ => ⟨S2184x128, .f32⟩
  | .hbm, ⟨14, _⟩ => ⟨S2184x128, .f32⟩
  | .hbm, ⟨15, _⟩ => ⟨S_, .f32⟩
  | .hbm, ⟨16, _⟩ => ⟨S2184x128, .f32⟩
  | .hbm, ⟨17, _⟩ => ⟨S2184x128, .f32⟩
  | .hbm, ⟨18, _⟩ => ⟨S2184x128, .f32⟩
  | .hbm, ⟨19, _⟩ => ⟨S_, .f32⟩
  | .hbm, ⟨20, _⟩ => ⟨S2184x128, .f32⟩
  | .hbm, ⟨21, _⟩ => ⟨S2184x128, .f32⟩
  | .hbm, ⟨22, _⟩ => ⟨S_, .f32⟩
  | .hbm, ⟨23, _⟩ => ⟨S2184x128, .f32⟩
  | .hbm, ⟨24, _⟩ => ⟨S2184x128, .f32⟩
  | .hbm, ⟨25, _⟩ => ⟨S2184x128, .f32⟩
  | .hbm, ⟨26, _⟩ => ⟨S_, .f32⟩
  | .hbm, ⟨27, _⟩ => ⟨S2184x128, .f32⟩
  | .hbm, ⟨28, _⟩ => ⟨S2184x128, .f32⟩
  | .hbm, ⟨29, _⟩ => ⟨S2184x128, .f32⟩
  | .hbm, ⟨30, _⟩ => ⟨S_, .f32⟩
  | .hbm, ⟨31, _⟩ => ⟨S2184x128, .f32⟩
  | .hbm, ⟨32, _⟩ => ⟨S2184x128, .f32⟩
  | .hbm, ⟨33, _⟩ => ⟨S2184x128, .f32⟩
  | .hbm, ⟨34, _⟩ => ⟨S_, .f32⟩
  | .hbm, ⟨35, _⟩ => ⟨S2184x128, .f32⟩
  | .hbm, ⟨36, _⟩ => ⟨S2184x128, .f32⟩
  | _, _ => ⟨S2184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S8x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S8x128, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Loss.lean ====
abbrev S8x128 : Shape := ⟨2, ![8, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== LossRefIdeal.lean ====
abbrev S64x128 : Shape := ⟨2, ![64, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Back.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== BackRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Norm1.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm1RefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Act.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ActRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x2816, .f32⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== ActBack.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActBackRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Gates.lean ====
abbrev S4096x6912 : Shape := ⟨2, ![4096, 6912]⟩
abbrev S1x3072 : Shape := ⟨2, ![1, 3072]⟩
abbrev S4096x1024 : Shape := ⟨2, ![4096, 1024]⟩
abbrev S512x256 : Shape := ⟨2, ![512, 256]⟩
abbrev S1x256 : Shape := ⟨2, ![1, 256]⟩

abbrev nBuf : Space → Nat
  | .hbm => 6
  | .vmem => 20
  | .smem => 0
  | _ => 0

abbrev bufTy : (tb : Table) → Fin (tcTables nBuf tb) → BufTy
  | .hbm, ⟨0, _⟩ => ⟨S4096x6912, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | _, _ => ⟨S4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GatesRefIdeal.lean ====
abbrev S4096x6912 : Shape := ⟨2, ![4096, 6912]⟩
abbrev S1x3072 : Shape := ⟨2, ![1, 3072]⟩
abbrev S4096x1024 : Shape := ⟨2, ![4096, 1024]⟩
abbrev S4096x3072 : Shape := ⟨2, ![4096, 3072]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x6912, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S_, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GatesBack.lean ====
abbrev S4096x6912 : Shape := ⟨2, ![4096, 6912]⟩
abbrev S1x3072 : Shape := ⟨2, ![1, 3072]⟩
abbrev S4096x1024 : Shape := ⟨2, ![4096, 1024]⟩
abbrev S1x1024 : Shape := ⟨2, ![1, 1024]⟩
abbrev S512x256 : Shape := ⟨2, ![512, 256]⟩
abbrev S1x256 : Shape := ⟨2, ![1, 256]⟩
abbrev S256 : Shape := ⟨1, ![256]⟩

abbrev nBuf : Space → Nat
  | .hbm => 15
  | .vmem => 38
  | .smem => 0
  | _ => 0

abbrev bufTy : (tb : Table) → Fin (tcTables nBuf tb) → BufTy
  | .hbm, ⟨0, _⟩ => ⟨S4096x6912, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | _, _ => ⟨S4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== GatesBackRefIdeal.lean ====
abbrev S4096x6912 : Shape := ⟨2, ![4096, 6912]⟩
abbrev S1x3072 : Shape := ⟨2, ![1, 3072]⟩
abbrev S4096x1024 : Shape := ⟨2, ![4096, 1024]⟩
abbrev S4096x3072 : Shape := ⟨2, ![4096, 3072]⟩
abbrev S_ : Shape := ⟨0, ![]⟩
abbrev S1024 : Shape := ⟨1, ![1024]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x6912, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x1024, .f32⟩
  | .hbm, ⟨41, _⟩ => ⟨S4096x1024, .bf16⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | _, _ => ⟨S4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Widen.lean ====
abbrev S4096x1024 : Shape := ⟨2, ![4096, 1024]⟩
abbrev S16896x1024 : Shape := ⟨2, ![16896, 1024]⟩
abbrev S4096x5632 : Shape := ⟨2, ![4096, 5632]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S16896x1024, .bf16⟩
  | .hbm, ⟨2, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WidenIdeal.lean ====
abbrev S4096x1024 : Shape := ⟨2, ![4096, 1024]⟩
abbrev S16896x1024 : Shape := ⟨2, ![16896, 1024]⟩
abbrev S4096x5632 : Shape := ⟨2, ![4096, 5632]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S16896x1024, .bf16⟩
  | .hbm, ⟨2, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WidenRefIdeal.lean ====
abbrev S4096x1024 : Shape := ⟨2, ![4096, 1024]⟩
abbrev S16896x1024 : Shape := ⟨2, ![16896, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S16896x1024, .bf16⟩
  | .hbm, ⟨2, _⟩ => ⟨S4096x1024, .f32⟩
  | .hbm, ⟨3, _⟩ => ⟨S5632x1024, .bf16⟩
  | .hbm, ⟨4, _⟩ => ⟨S5632x1024, .f32⟩
  | .hbm, ⟨5, _⟩ => ⟨S1024x5632, .f32⟩
  | .hbm, ⟨6, _⟩ => ⟨S4096x5632, .f32⟩
  | .hbm, ⟨7, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S4096x2816 : Shape := ⟨2, ![4096, 2816]⟩
abbrev S16896x1024 : Shape := ⟨2, ![16896, 1024]⟩
abbrev S4096x1024 : Shape := ⟨2, ![4096, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S16896x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
abbrev S4096x2816 : Shape := ⟨2, ![4096, 2816]⟩
abbrev S16896x1024 : Shape := ⟨2, ![16896, 1024]⟩
abbrev S4096x1024 : Shape := ⟨2, ![4096, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S16896x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2816 : Shape := ⟨2, ![4096, 2816]⟩
abbrev S16896x1024 : Shape := ⟨2, ![16896, 1024]⟩
abbrev S4096x1024 : Shape := ⟨2, ![4096, 1024]⟩
abbrev S2816x1024 : Shape := ⟨2, ![2816, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S16896x1024, .bf16⟩
  | .hbm, ⟨2, _⟩ => ⟨S4096x1024, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dact.lean ====
abbrev S4096x1024 : Shape := ⟨2, ![4096, 1024]⟩
abbrev S16896x1024 : Shape := ⟨2, ![16896, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S16896x1024, .bf16⟩
  | .hbm, ⟨2, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactIdeal.lean ====
abbrev S4096x1024 : Shape := ⟨2, ![4096, 1024]⟩
abbrev S16896x1024 : Shape := ⟨2, ![16896, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S16896x1024, .bf16⟩
  | .hbm, ⟨2, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x1024 : Shape := ⟨2, ![4096, 1024]⟩
abbrev S16896x1024 : Shape := ⟨2, ![16896, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16896x1024, .bf16⟩
  | .hbm, ⟨2, _⟩ => ⟨S2816x1024, .bf16⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhid.lean ====
abbrev S4096x5632 : Shape := ⟨2, ![4096, 5632]⟩
abbrev S16896x1024 : Shape := ⟨2, ![16896, 1024]⟩
abbrev S4096x1024 : Shape := ⟨2, ![4096, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S16896x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhidIdeal.lean ====
abbrev S4096x5632 : Shape := ⟨2, ![4096, 5632]⟩
abbrev S16896x1024 : Shape := ⟨2, ![16896, 1024]⟩
abbrev S4096x1024 : Shape := ⟨2, ![4096, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S16896x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhidRefIdeal.lean ====
abbrev S4096x5632 : Shape := ⟨2, ![4096, 5632]⟩
abbrev S16896x1024 : Shape := ⟨2, ![16896, 1024]⟩
abbrev S5632x1024 : Shape := ⟨2, ![5632, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S16896x1024, .bf16⟩
  | .hbm, ⟨2, _⟩ => ⟨S4096x5632, .f32⟩
  | .hbm, ⟨3, _⟩ => ⟨S5632x1024, .bf16⟩
  | .hbm, ⟨4, _⟩ => ⟨S5632x1024, .f32⟩
  | .hbm, ⟨5, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Inward.lean ====
abbrev S4096x1024 : Shape := ⟨2, ![4096, 1024]⟩
abbrev S6912x1024 : Shape := ⟨2, ![6912, 1024]⟩
abbrev S4096x6912 : Shape := ⟨2, ![4096, 6912]⟩
abbrev S512x1024 : Shape := ⟨2, ![512, 1024]⟩
abbrev S1152x1024 : Shape := ⟨2, ![1152, 1024]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S6912x1024, .bf16⟩
  | .hbm, ⟨2, _⟩ => ⟨S4096x6912, .f32⟩
  | .local _ .vmem, ⟨0, _⟩ => ⟨S512x1024, .bf16⟩
  | .local _ .vmem, ⟨1, _⟩ => ⟨S512x1024, .bf16⟩
  | .local _ .vmem, ⟨2, _⟩ => ⟨S1152x1024, .bf16⟩
  | .local _ .vmem, ⟨3, _⟩ => ⟨S1152x1024, .bf16⟩
  | .local _ .vmem, ⟨4, _⟩ => ⟨S512x1152, .f32⟩
  | .local _ .vmem, ⟨5, _⟩ => ⟨S512x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InwardIdeal.lean ====
abbrev S4096x1024 : Shape := ⟨2, ![4096, 1024]⟩
abbrev S6912x1024 : Shape := ⟨2, ![6912, 1024]⟩
abbrev S4096x6912 : Shape := ⟨2, ![4096, 6912]⟩
abbrev S512x1024 : Shape := ⟨2, ![512, 1024]⟩
abbrev S1152x1024 : Shape := ⟨2, ![1152, 1024]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S6912x1024, .bf16⟩
  | .hbm, ⟨2, _⟩ => ⟨S4096x6912, .f32⟩
  | .local _ .vmem, ⟨0, _⟩ => ⟨S512x1024, .bf16⟩
  | .local _ .vmem, ⟨1, _⟩ => ⟨S512x1024, .bf16⟩
  | .local _ .vmem, ⟨2, _⟩ => ⟨S1152x1024, .bf16⟩
  | .local _ .vmem, ⟨3, _⟩ => ⟨S1152x1024, .bf16⟩
  | .local _ .vmem, ⟨4, _⟩ => ⟨S512x1152, .f32⟩
  | .local _ .vmem, ⟨5, _⟩ => ⟨S512x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InwardRefIdeal.lean ====
abbrev S4096x1024 : Shape := ⟨2, ![4096, 1024]⟩
abbrev S6912x1024 : Shape := ⟨2, ![6912, 1024]⟩
abbrev S1024x6912 : Shape := ⟨2, ![1024, 6912]⟩
abbrev S4096x6912 : Shape := ⟨2, ![4096, 6912]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6912x1024, .bf16⟩
  | .hbm, ⟨2, _⟩ => ⟨S4096x1024, .f32⟩
  | .hbm, ⟨3, _⟩ => ⟨S6912x1024, .f32⟩
  | .hbm, ⟨4, _⟩ => ⟨S1024x6912, .f32⟩
  | .hbm, ⟨5, _⟩ => ⟨S4096x6912, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjA.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S512x256, .bf16⟩
  | .local _ .vmem, ⟨3, _⟩ => ⟨S512x256, .bf16⟩
  | .local _ .vmem, ⟨4, _⟩ => ⟨S1024x512, .f32⟩
  | .local _ .vmem, ⟨5, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S512x256, .bf16⟩
  | .local _ .vmem, ⟨3, _⟩ => ⟨S512x256, .bf16⟩
  | .local _ .vmem, ⟨4, _⟩ => ⟨S1024x512, .f32⟩
  | .local _ .vmem, ⟨5, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S4096x256 : Shape := ⟨2, ![4096, 256]⟩
abbrev S1024x256 : Shape := ⟨2, ![1024, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S1024x256, .f32⟩
  | .hbm, ⟨3, _⟩ => ⟨S256x1024, .f32⟩
  | .hbm, ⟨4, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjB.lean ====
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBIdeal.lean ====
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S4096x512 : Shape := ⟨2, ![4096, 512]⟩
abbrev S2048x512 : Shape := ⟨2, ![2048, 512]⟩
abbrev S1024x512 : Shape := ⟨2, ![1024, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x512, .f32⟩
  | .hbm, ⟨3, _⟩ => ⟨S1024x512, .bf16⟩
  | .hbm, ⟨4, _⟩ => ⟨S1024x512, .f32⟩
  | .hbm, ⟨5, _⟩ => ⟨S512x1024, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjC.lean ====
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCIdeal.lean ====
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCRefIdeal.lean ====
abbrev S4096x512 : Shape := ⟨2, ![4096, 512]⟩
abbrev S2048x512 : Shape := ⟨2, ![2048, 512]⟩
abbrev S1024x512 : Shape := ⟨2, ![1024, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x512, .f32⟩
  | .hbm, ⟨3, _⟩ => ⟨S1024x512, .bf16⟩
  | .hbm, ⟨4, _⟩ => ⟨S1024x512, .f32⟩
  | .hbm, ⟨5, _⟩ => ⟨S512x1024, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Outward.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutwardIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutwardRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dmerged.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dya.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaIdeal.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaRefIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x1024, .f32⟩
  | .hbm, ⟨3, _⟩ => ⟨S1024x256, .f32⟩
  | .hbm, ⟨4, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dyb.lean ====
abbrev S4096x1024 : Shape := ⟨2, ![4096, 1024]⟩
abbrev S2048x512 : Shape := ⟨2, ![2048, 512]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DybIdeal.lean ====
abbrev S4096x1024 : Shape := ⟨2, ![4096, 1024]⟩
abbrev S2048x512 : Shape := ⟨2, ![2048, 512]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DybRefIdeal.lean ====
abbrev S4096x1024 : Shape := ⟨2, ![4096, 1024]⟩
abbrev S2048x512 : Shape := ⟨2, ![2048, 512]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x512, .bf16⟩
  | .hbm, ⟨2, _⟩ => ⟨S4096x1024, .f32⟩
  | .hbm, ⟨3, _⟩ => ⟨S1024x512, .bf16⟩
  | .hbm, ⟨4, _⟩ => ⟨S1024x512, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dyc.lean ====
abbrev S4096x1024 : Shape := ⟨2, ![4096, 1024]⟩
abbrev S2048x512 : Shape := ⟨2, ![2048, 512]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DycIdeal.lean ====
abbrev S4096x1024 : Shape := ⟨2, ![4096, 1024]⟩
abbrev S2048x512 : Shape := ⟨2, ![2048, 512]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DycRefIdeal.lean ====
abbrev S4096x1024 : Shape := ⟨2, ![4096, 1024]⟩
abbrev S2048x512 : Shape := ⟨2, ![2048, 512]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x512, .bf16⟩
  | .hbm, ⟨2, _⟩ => ⟨S4096x1024, .f32⟩
  | .hbm, ⟨3, _⟩ => ⟨S1024x512, .bf16⟩
  | .hbm, ⟨4, _⟩ => ⟨S1024x512, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dmix.lean ====
abbrev S4096x6912 : Shape := ⟨2, ![4096, 6912]⟩
abbrev S6912x1024 : Shape := ⟨2, ![6912, 1024]⟩
abbrev S4096x1024 : Shape := ⟨2, ![4096, 1024]⟩
abbrev S512x3456 : Shape := ⟨2, ![512, 3456]⟩
abbrev S3456x512 : Shape := ⟨2, ![3456, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x6912, .bf16⟩
  | .hbm, ⟨1, _⟩ => ⟨S6912x1024, .bf16⟩
  | .hbm, ⟨2, _⟩ => ⟨S4096x1024, .f32⟩
  | .local _ .vmem, ⟨0, _⟩ => ⟨S512x3456, .bf16⟩
  | .local _ .vmem, ⟨1, _⟩ => ⟨S512x3456, .bf16⟩
  | .local _ .vmem, ⟨2, _⟩ => ⟨S3456x512, .bf16⟩
  | .local _ .vmem, ⟨3, _⟩ => ⟨S3456x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S3456x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixRefIdeal.lean ====
abbrev S4096x6912 : Shape := ⟨2, ![4096, 6912]⟩
abbrev S6912x1024 : Shape := ⟨2, ![6912, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x6912, .bf16⟩
  | .hbm, ⟨1, _⟩ => ⟨S6912x1024, .bf16⟩
  | .hbm, ⟨2, _⟩ => ⟨S4096x6912, .f32⟩
  | .hbm, ⟨3, _⟩ => ⟨S6912x1024, .f32⟩
  | .hbm, ⟨4, _⟩ => ⟨S4096x1024, .f32⟩
  | _, _ => ⟨S4096x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WgDown.lean ====
abbrev S4096x2816 : Shape := ⟨2, ![4096, 2816]⟩
abbrev S4096x1024 : Shape := ⟨2, ![4096, 1024]⟩
abbrev S6x8x352x1024 : Shape := ⟨4, ![6, 8, 352, 1024]⟩
abbrev S512x2816 : Shape := ⟨2, ![512, 2816]⟩
abbrev S512x512 : Shape := ⟨2, ![512, 512]⟩
abbrev S1x8x352x512 : Shape := ⟨4, ![1, 8, 352, 512]⟩
abbrev S2816x512 : Shape := ⟨2, ![2816, 512]⟩
abbrev S352x512 : Shape := ⟨2, ![352, 512]⟩
abbrev S1x1x352x512 : Shape := ⟨4, ![1, 1, 352, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S6x8x352x1024, .bf16⟩
  | .hbm, ⟨3, _⟩ => ⟨S6x8x352x1024, .bf16⟩
  | .local _ .vmem, ⟨0, _⟩ => ⟨S512x2816, .bf16⟩
  | .local _ .vmem, ⟨1, _⟩ => ⟨S512x2816, .bf16⟩
  | .local _ .vmem, ⟨2, _⟩ => ⟨S512x512, .f32⟩
  | .local _ .vmem, ⟨3, _⟩ => ⟨S512x512, .f32⟩
  | .local _ .vmem, ⟨4, _⟩ => ⟨S1x8x352x512, .bf16⟩
  | .local _ .vmem, ⟨5, _⟩ => ⟨S1x8x352x512, .bf16⟩
  | .local _ .vmem, ⟨6, _⟩ => ⟨S2816x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x8x352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgDownIdeal.lean ====
abbrev S4096x2816 : Shape := ⟨2, ![4096, 2816]⟩
abbrev S4096x1024 : Shape := ⟨2, ![4096, 1024]⟩
abbrev S6x8x352x1024 : Shape := ⟨4, ![6, 8, 352, 1024]⟩
abbrev S512x2816 : Shape := ⟨2, ![512, 2816]⟩
abbrev S512x512 : Shape := ⟨2, ![512, 512]⟩
abbrev S1x8x352x512 : Shape := ⟨4, ![1, 8, 352, 512]⟩
abbrev S2816x512 : Shape := ⟨2, ![2816, 512]⟩
abbrev S352x512 : Shape := ⟨2, ![352, 512]⟩
abbrev S1x1x352x512 : Shape := ⟨4, ![1, 1, 352, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S6x8x352x1024, .bf16⟩
  | .hbm, ⟨3, _⟩ => ⟨S6x8x352x1024, .bf16⟩
  | .local _ .vmem, ⟨0, _⟩ => ⟨S512x2816, .bf16⟩
  | .local _ .vmem, ⟨1, _⟩ => ⟨S512x2816, .bf16⟩
  | .local _ .vmem, ⟨2, _⟩ => ⟨S512x512, .f32⟩
  | .local _ .vmem, ⟨3, _⟩ => ⟨S512x512, .f32⟩
  | .local _ .vmem, ⟨4, _⟩ => ⟨S1x8x352x512, .bf16⟩
  | .local _ .vmem, ⟨5, _⟩ => ⟨S1x8x352x512, .bf16⟩
  | .local _ .vmem, ⟨6, _⟩ => ⟨S2816x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x8x352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgDownRefIdeal.lean ====
abbrev S4096x2816 : Shape := ⟨2, ![4096, 2816]⟩
abbrev S4096x1024 : Shape := ⟨2, ![4096, 1024]⟩
abbrev S6x8x352x1024 : Shape := ⟨4, ![6, 8, 352, 1024]⟩
abbrev S2816x4096 : Shape := ⟨2, ![2816, 4096]⟩
abbrev S2816x1024 : Shape := ⟨2, ![2816, 1024]⟩
abbrev S_ : Shape := ⟨0, ![]⟩
abbrev S1x8x352x1024 : Shape := ⟨4, ![1, 8, 352, 1024]⟩
abbrev S2x8x352x1024 : Shape := ⟨4, ![2, 8, 352, 1024]⟩
abbrev S3x8x352x1024 : Shape := ⟨4, ![3, 8, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S6x8x352x1024, .bf16⟩
  | .hbm, ⟨3, _⟩ => ⟨S4096x2816, .f32⟩
  | .hbm, ⟨4, _⟩ => ⟨S2816x4096, .f32⟩
  | .hbm, ⟨5, _⟩ => ⟨S2816x1024, .f32⟩
  | .hbm, ⟨6, _⟩ => ⟨S_, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S1x8x352x1024, .bf16⟩
  | .hbm, ⟨11, _⟩ => ⟨S2x8x352x1024, .bf16⟩
  | .hbm, ⟨12, _⟩ => ⟨S3x8x352x1024, .bf16⟩
  | .hbm, ⟨13, _⟩ => ⟨S6x8x352x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== WgWiden.lean ====
abbrev S4096x5632 : Shape := ⟨2, ![4096, 5632]⟩
abbrev S4096x1024 : Shape := ⟨2, ![4096, 1024]⟩
abbrev S6x8x352x1024 : Shape := ⟨4, ![6, 8, 352, 1024]⟩
abbrev S512x2816 : Shape := ⟨2, ![512, 2816]⟩
abbrev S512x512 : Shape := ⟨2, ![512, 512]⟩
abbrev S1x8x352x512 : Shape := ⟨4, ![1, 8, 352, 512]⟩
abbrev S2816x512 : Shape := ⟨2, ![2816, 512]⟩
abbrev S352x512 : Shape := ⟨2, ![352, 512]⟩
abbrev S1x1x352x512 : Shape := ⟨4, ![1, 1, 352, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S6x8x352x1024, .bf16⟩
  | .hbm, ⟨3, _⟩ => ⟨S6x8x352x1024, .bf16⟩
  | .local _ .vmem, ⟨0, _⟩ => ⟨S512x2816, .bf16⟩
  | .local _ .vmem, ⟨1, _⟩ => ⟨S512x2816, .bf16⟩
  | .local _ .vmem, ⟨2, _⟩ => ⟨S512x512, .bf16⟩
  | .local _ .vmem, ⟨3, _⟩ => ⟨S512x512, .bf16⟩
  | .local _ .vmem, ⟨4, _⟩ => ⟨S1x8x352x512, .bf16⟩
  | .local _ .vmem, ⟨5, _⟩ => ⟨S1x8x352x512, .bf16⟩
  | .local _ .vmem, ⟨6, _⟩ => ⟨S2816x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x8x352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgWidenIdeal.lean ====
abbrev S4096x5632 : Shape := ⟨2, ![4096, 5632]⟩
abbrev S4096x1024 : Shape := ⟨2, ![4096, 1024]⟩
abbrev S6x8x352x1024 : Shape := ⟨4, ![6, 8, 352, 1024]⟩
abbrev S512x2816 : Shape := ⟨2, ![512, 2816]⟩
abbrev S512x512 : Shape := ⟨2, ![512, 512]⟩
abbrev S1x8x352x512 : Shape := ⟨4, ![1, 8, 352, 512]⟩
abbrev S2816x512 : Shape := ⟨2, ![2816, 512]⟩
abbrev S352x512 : Shape := ⟨2, ![352, 512]⟩
abbrev S1x1x352x512 : Shape := ⟨4, ![1, 1, 352, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S6x8x352x1024, .bf16⟩
  | .hbm, ⟨3, _⟩ => ⟨S6x8x352x1024, .bf16⟩
  | .local _ .vmem, ⟨0, _⟩ => ⟨S512x2816, .bf16⟩
  | .local _ .vmem, ⟨1, _⟩ => ⟨S512x2816, .bf16⟩
  | .local _ .vmem, ⟨2, _⟩ => ⟨S512x512, .bf16⟩
  | .local _ .vmem, ⟨3, _⟩ => ⟨S512x512, .bf16⟩
  | .local _ .vmem, ⟨4, _⟩ => ⟨S1x8x352x512, .bf16⟩
  | .local _ .vmem, ⟨5, _⟩ => ⟨S1x8x352x512, .bf16⟩
  | .local _ .vmem, ⟨6, _⟩ => ⟨S2816x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x8x352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgWidenRefIdeal.lean ====
abbrev S4096x5632 : Shape := ⟨2, ![4096, 5632]⟩
abbrev S4096x1024 : Shape := ⟨2, ![4096, 1024]⟩
abbrev S6x8x352x1024 : Shape := ⟨4, ![6, 8, 352, 1024]⟩
abbrev S5632x4096 : Shape := ⟨2, ![5632, 4096]⟩
abbrev S5632x1024 : Shape := ⟨2, ![5632, 1024]⟩
abbrev S_ : Shape := ⟨0, ![]⟩
abbrev S2x8x352x1024 : Shape := ⟨4, ![2, 8, 352, 1024]⟩
abbrev S0x8x352x1024 : Shape := ⟨4, ![0, 8, 352, 1024]⟩
abbrev S4x8x352x1024 : Shape := ⟨4, ![4, 8, 352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S6x8x352x1024, .bf16⟩
  | .hbm, ⟨3, _⟩ => ⟨S4096x5632, .f32⟩
  | .hbm, ⟨4, _⟩ => ⟨S5632x4096, .f32⟩
  | .hbm, ⟨5, _⟩ => ⟨S4096x1024, .f32⟩
  | .hbm, ⟨6, _⟩ => ⟨S5632x1024, .f32⟩
  | .hbm, ⟨7, _⟩ => ⟨S_, .f32⟩
  | .hbm, ⟨8, _⟩ => ⟨S5632x1024, .f32⟩
  | .hbm, ⟨9, _⟩ => ⟨S5632x1024, .f32⟩
  | .hbm, ⟨10, _⟩ => ⟨S5632x1024, .bf16⟩
  | .hbm, ⟨11, _⟩ => ⟨S2x8x352x1024, .bf16⟩
  | .hbm, ⟨12, _⟩ => ⟨S0x8x352x1024, .bf16⟩
  | .hbm, ⟨13, _⟩ => ⟨S4x8x352x1024, .bf16⟩
  | .hbm, ⟨14, _⟩ => ⟨S6x8x352x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== WgIn.lean ====
abbrev S4096x6912 : Shape := ⟨2, ![4096, 6912]⟩
abbrev S4096x1024 : Shape := ⟨2, ![4096, 1024]⟩
abbrev S1x8x864x1024 : Shape := ⟨4, ![1, 8, 864, 1024]⟩
abbrev S512x3456 : Shape := ⟨2, ![512, 3456]⟩
abbrev S512x512 : Shape := ⟨2, ![512, 512]⟩
abbrev S1x4x864x512 : Shape := ⟨4, ![1, 4, 864, 512]⟩
abbrev S3456x512 : Shape := ⟨2, ![3456, 512]⟩
abbrev S864x512 : Shape := ⟨2, ![864, 512]⟩
abbrev S1x1x864x512 : Shape := ⟨4, ![1, 1, 864, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x6912, .bf16⟩
  | .hbm, ⟨1, _⟩ => ⟨S4096x1024, .bf16⟩
  | .hbm, ⟨2, _⟩ => ⟨S1x8x864x1024, .bf16⟩
  | .hbm, ⟨3, _⟩ => ⟨S1x8x864x1024, .bf16⟩
  | .local _ .vmem, ⟨0, _⟩ => ⟨S512x3456, .bf16⟩
  | .local _ .vmem, ⟨1, _⟩ => ⟨S512x3456, .bf16⟩
  | .local _ .vmem, ⟨2, _⟩ => ⟨S512x512, .bf16⟩
  | .local _ .vmem, ⟨3, _⟩ => ⟨S512x512, .bf16⟩
  | .local _ .vmem, ⟨4, _⟩ => ⟨S1x4x864x512, .bf16⟩
  | .local _ .vmem, ⟨5, _⟩ => ⟨S1x4x864x512, .bf16⟩
  | .local _ .vmem, ⟨6, _⟩ => ⟨S3456x512, .f32⟩
  | _, _ => ⟨S4096x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat, arg1.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4x864x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgInIdeal.lean ====
abbrev S4096x6912 : Shape := ⟨2, ![4096, 6912]⟩
abbrev S4096x1024 : Shape := ⟨2, ![4096, 1024]⟩
abbrev S1x8x864x1024 : Shape := ⟨4, ![1, 8, 864, 1024]⟩
abbrev S512x3456 : Shape := ⟨2, ![512, 3456]⟩
abbrev S512x512 : Shape := ⟨2, ![512, 512]⟩
abbrev S1x4x864x512 : Shape := ⟨4, ![1, 4, 864, 512]⟩
abbrev S3456x512 : Shape := ⟨2, ![3456, 512]⟩
abbrev S864x512 : Shape := ⟨2, ![864, 512]⟩
abbrev S1x1x864x512 : Shape := ⟨4, ![1, 1, 864, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x6912, .bf16⟩
  | .hbm, ⟨1, _⟩ => ⟨S4096x1024, .bf16⟩
  | .hbm, ⟨2, _⟩ => ⟨S1x8x864x1024, .bf16⟩
  | .hbm, ⟨3, _⟩ => ⟨S1x8x864x1024, .bf16⟩
  | .local _ .vmem, ⟨0, _⟩ => ⟨S512x3456, .bf16⟩
  | .local _ .vmem, ⟨1, _⟩ => ⟨S512x3456, .bf16⟩
  | .local _ .vmem, ⟨2, _⟩ => ⟨S512x512, .bf16⟩
  | .local _ .vmem, ⟨3, _⟩ => ⟨S512x512, .bf16⟩
  | .local _ .vmem, ⟨4, _⟩ => ⟨S1x4x864x512, .bf16⟩
  | .local _ .vmem, ⟨5, _⟩ => ⟨S1x4x864x512, .bf16⟩
  | .local _ .vmem, ⟨6, _⟩ => ⟨S3456x512, .f32⟩
  | _, _ => ⟨S4096x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat, arg1.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4x864x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgInRefIdeal.lean ====
abbrev S4096x6912 : Shape := ⟨2, ![4096, 6912]⟩
abbrev S4096x1024 : Shape := ⟨2, ![4096, 1024]⟩
abbrev S1x8x864x1024 : Shape := ⟨4, ![1, 8, 864, 1024]⟩
abbrev S6912x4096 : Shape := ⟨2, ![6912, 4096]⟩
abbrev S6912x1024 : Shape := ⟨2, ![6912, 1024]⟩
abbrev S_ : Shape := ⟨0, ![]⟩
abbrev S0x8x864x1024 : Shape := ⟨4, ![0, 8, 864, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x6912, .bf16⟩
  | .hbm, ⟨1, _⟩ => ⟨S4096x1024, .bf16⟩
  | .hbm, ⟨2, _⟩ => ⟨S1x8x864x1024, .bf16⟩
  | .hbm, ⟨3, _⟩ => ⟨S4096x6912, .f32⟩
  | .hbm, ⟨4, _⟩ => ⟨S6912x4096, .f32⟩
  | .hbm, ⟨5, _⟩ => ⟨S4096x1024, .f32⟩
  | .hbm, ⟨6, _⟩ => ⟨S6912x1024, .f32⟩
  | .hbm, ⟨7, _⟩ => ⟨S_, .f32⟩
  | .hbm, ⟨8, _⟩ => ⟨S6912x1024, .f32⟩
  | .hbm, ⟨9, _⟩ => ⟨S6912x1024, .f32⟩
  | .hbm, ⟨10, _⟩ => ⟨S6912x1024, .bf16⟩
  | .hbm, ⟨11, _⟩ => ⟨S1x8x864x1024, .bf16⟩
  | .hbm, ⟨12, _⟩ => ⟨S0x8x864x1024, .bf16⟩
  | .hbm, ⟨13, _⟩ => ⟨S0x8x864x1024, .bf16⟩
  | .hbm, ⟨14, _⟩ => ⟨S1x8x864x1024, .bf16⟩
  | _, _ => ⟨S4096x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== WgOut.lean ====
abbrev S4096x1024 : Shape := ⟨2, ![4096, 1024]⟩
abbrev S1x8x128x1024 : Shape := ⟨4, ![1, 8, 128, 1024]⟩
abbrev S512x1024 : Shape := ⟨2, ![512, 1024]⟩
abbrev S1024x1024 : Shape := ⟨2, ![1024, 1024]⟩
abbrev S128x1024 : Shape := ⟨2, ![128, 1024]⟩
abbrev S1x1x128x1024 : Shape := ⟨4, ![1, 1, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x8x128x1024, .bf16⟩
  | .hbm, ⟨3, _⟩ => ⟨S1x8x128x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x128x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgOutIdeal.lean ====
abbrev S4096x1024 : Shape := ⟨2, ![4096, 1024]⟩
abbrev S1x8x128x1024 : Shape := ⟨4, ![1, 8, 128, 1024]⟩
abbrev S512x1024 : Shape := ⟨2, ![512, 1024]⟩
abbrev S1024x1024 : Shape := ⟨2, ![1024, 1024]⟩
abbrev S128x1024 : Shape := ⟨2, ![128, 1024]⟩
abbrev S1x1x128x1024 : Shape := ⟨4, ![1, 1, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x8x128x1024, .bf16⟩
  | .hbm, ⟨3, _⟩ => ⟨S1x8x128x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x128x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgOutRefIdeal.lean ====
abbrev S4096x1024 : Shape := ⟨2, ![4096, 1024]⟩
abbrev S1x8x128x1024 : Shape := ⟨4, ![1, 8, 128, 1024]⟩
abbrev S1024x4096 : Shape := ⟨2, ![1024, 4096]⟩
abbrev S1024x1024 : Shape := ⟨2, ![1024, 1024]⟩
abbrev S_ : Shape := ⟨0, ![]⟩
abbrev S0x8x128x1024 : Shape := ⟨4, ![0, 8, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x8x128x1024, .bf16⟩
  | .hbm, ⟨3, _⟩ => ⟨S4096x1024, .f32⟩
  | .hbm, ⟨4, _⟩ => ⟨S1024x4096, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x8x128x1024, .bf16⟩
  | .hbm, ⟨11, _⟩ => ⟨S0x8x128x1024, .bf16⟩
  | .hbm, ⟨12, _⟩ => ⟨S0x8x128x1024, .bf16⟩
  | .hbm, ⟨13, _⟩ => ⟨S1x8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== WgA.lean ====
abbrev S4096x1024 : Shape := ⟨2, ![4096, 1024]⟩
abbrev S4096x256 : Shape := ⟨2, ![4096, 256]⟩
abbrev S1x8x128x256 : Shape := ⟨4, ![1, 8, 128, 256]⟩
abbrev S512x1024 : Shape := ⟨2, ![512, 1024]⟩
abbrev S512x256 : Shape := ⟨2, ![512, 256]⟩
abbrev S1024x256 : Shape := ⟨2, ![1024, 256]⟩
abbrev S128x256 : Shape := ⟨2, ![128, 256]⟩
abbrev S1x1x128x256 : Shape := ⟨4, ![1, 1, 128, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1x8x128x256, .bf16⟩
  | .hbm, ⟨3, _⟩ => ⟨S1x8x128x256, .bf16⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S1x8x128x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgAIdeal.lean ====
abbrev S4096x1024 : Shape := ⟨2, ![4096, 1024]⟩
abbrev S4096x256 : Shape := ⟨2, ![4096, 256]⟩
abbrev S1x8x128x256 : Shape := ⟨4, ![1, 8, 128, 256]⟩
abbrev S512x1024 : Shape := ⟨2, ![512, 1024]⟩
abbrev S512x256 : Shape := ⟨2, ![512, 256]⟩
abbrev S1024x256 : Shape := ⟨2, ![1024, 256]⟩
abbrev S128x256 : Shape := ⟨2, ![128, 256]⟩
abbrev S1x1x128x256 : Shape := ⟨4, ![1, 1, 128, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1x8x128x256, .bf16⟩
  | .hbm, ⟨3, _⟩ => ⟨S1x8x128x256, .bf16⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S1x8x128x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgARefIdeal.lean ====
abbrev S4096x1024 : Shape := ⟨2, ![4096, 1024]⟩
abbrev S4096x256 : Shape := ⟨2, ![4096, 256]⟩
abbrev S1x8x128x256 : Shape := ⟨4, ![1, 8, 128, 256]⟩
abbrev S1024x4096 : Shape := ⟨2, ![1024, 4096]⟩
abbrev S1024x256 : Shape := ⟨2, ![1024, 256]⟩
abbrev S_ : Shape := ⟨0, ![]⟩
abbrev S0x8x128x256 : Shape := ⟨4, ![0, 8, 128, 256]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1x8x128x256, .bf16⟩
  | .hbm, ⟨3, _⟩ => ⟨S4096x1024, .f32⟩
  | .hbm, ⟨4, _⟩ => ⟨S1024x4096, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S1024x256, .bf16⟩
  | .hbm, ⟨10, _⟩ => ⟨S1x8x128x256, .bf16⟩
  | .hbm, ⟨11, _⟩ => ⟨S0x8x128x256, .bf16⟩
  | .hbm, ⟨12, _⟩ => ⟨S0x8x128x256, .bf16⟩
  | .hbm, ⟨13, _⟩ => ⟨S1x8x128x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== WgB.lean ====
abbrev S4096x1024 : Shape := ⟨2, ![4096, 1024]⟩
abbrev S4096x512 : Shape := ⟨2, ![4096, 512]⟩
abbrev S2x8x128x512 : Shape := ⟨4, ![2, 8, 128, 512]⟩
abbrev S512x1024 : Shape := ⟨2, ![512, 1024]⟩
abbrev S512x512 : Shape := ⟨2, ![512, 512]⟩
abbrev S1x8x128x512 : Shape := ⟨4, ![1, 8, 128, 512]⟩
abbrev S1024x512 : Shape := ⟨2, ![1024, 512]⟩
abbrev S128x512 : Shape := ⟨2, ![128, 512]⟩
abbrev S1x1x128x512 : Shape := ⟨4, ![1, 1, 128, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S2x8x128x512, .bf16⟩
  | .hbm, ⟨3, _⟩ => ⟨S2x8x128x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x8x128x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgBIdeal.lean ====
  let c0_i32_5 : BitVec 32 := 0#32
  let v17 : BitVec 32 := Scalar.addi c0_i32_5 v16
-- ==== WgBRefIdeal.lean ====
abbrev S4096x1024 : Shape := ⟨2, ![4096, 1024]⟩
abbrev S4096x512 : Shape := ⟨2, ![4096, 512]⟩
abbrev S2x8x128x512 : Shape := ⟨4, ![2, 8, 128, 512]⟩
abbrev S1024x4096 : Shape := ⟨2, ![1024, 4096]⟩
abbrev S1024x512 : Shape := ⟨2, ![1024, 512]⟩
abbrev S_ : Shape := ⟨0, ![]⟩
abbrev S1x8x128x512 : Shape := ⟨4, ![1, 8, 128, 512]⟩
abbrev S0x8x128x512 : Shape := ⟨4, ![0, 8, 128, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S2x8x128x512, .bf16⟩
  | .hbm, ⟨3, _⟩ => ⟨S4096x1024, .f32⟩
  | .hbm, ⟨4, _⟩ => ⟨S1024x4096, .f32⟩
  | .hbm, ⟨5, _⟩ => ⟨S4096x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .bf16⟩
  | .hbm, ⟨11, _⟩ => ⟨S1x8x128x512, .bf16⟩
  | .hbm, ⟨12, _⟩ => ⟨S0x8x128x512, .bf16⟩
  | .hbm, ⟨13, _⟩ => ⟨S1x8x128x512, .bf16⟩
  | .hbm, ⟨14, _⟩ => ⟨S2x8x128x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== WgC.lean ====
abbrev S4096x1024 : Shape := ⟨2, ![4096, 1024]⟩
abbrev S4096x512 : Shape := ⟨2, ![4096, 512]⟩
abbrev S2x8x128x512 : Shape := ⟨4, ![2, 8, 128, 512]⟩
abbrev S512x1024 : Shape := ⟨2, ![512, 1024]⟩
abbrev S512x512 : Shape := ⟨2, ![512, 512]⟩
abbrev S1x8x128x512 : Shape := ⟨4, ![1, 8, 128, 512]⟩
abbrev S1024x512 : Shape := ⟨2, ![1024, 512]⟩
abbrev S128x512 : Shape := ⟨2, ![128, 512]⟩
abbrev S1x1x128x512 : Shape := ⟨4, ![1, 1, 128, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S2x8x128x512, .bf16⟩
  | .hbm, ⟨3, _⟩ => ⟨S2x8x128x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x8x128x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, v27.toNat, c0_i32_12.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgCRefIdeal.lean ====
abbrev S4096x1024 : Shape := ⟨2, ![4096, 1024]⟩
abbrev S4096x512 : Shape := ⟨2, ![4096, 512]⟩
abbrev S2x8x128x512 : Shape := ⟨4, ![2, 8, 128, 512]⟩
abbrev S1024x4096 : Shape := ⟨2, ![1024, 4096]⟩
abbrev S1024x512 : Shape := ⟨2, ![1024, 512]⟩
abbrev S_ : Shape := ⟨0, ![]⟩
abbrev S1x8x128x512 : Shape := ⟨4, ![1, 8, 128, 512]⟩
abbrev S0x8x128x512 : Shape := ⟨4, ![0, 8, 128, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S2x8x128x512, .bf16⟩
  | .hbm, ⟨3, _⟩ => ⟨S4096x1024, .f32⟩
  | .hbm, ⟨4, _⟩ => ⟨S1024x4096, .f32⟩
  | .hbm, ⟨5, _⟩ => ⟨S4096x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .bf16⟩
  | .hbm, ⟨11, _⟩ => ⟨S1x8x128x512, .bf16⟩
  | .hbm, ⟨12, _⟩ => ⟨S1x8x128x512, .bf16⟩
  | .hbm, ⟨13, _⟩ => ⟨S0x8x128x512, .bf16⟩
  | .hbm, ⟨14, _⟩ => ⟨S2x8x128x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.SharedLaunch.lean ====
/-
# Starting a kernel whose devices write into each other's result arrays at once

The devices of such a kernel hand one another no buffer before the first transfer is issued: device `c` writes into the
result array of device `d` without having heard from `d`. So what a device needs at its start is not a share of its OWN
memory but slices of everybody's, and the memory has to be dealt before any device runs.

`θ_run_shared` is the launch for that case: @main is one kernel call with no windowed array, and the global step at
launch (`hglob`) receives, of all devices at once, the kernel's semaphores at zero AND the memory behind the arguments
and results, and deals out of them what each device starts from.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic Idealize.ShloMosaic.TcCoe
open Idealize.SL Idealize.SL.RA
open Idealize.SL.BI (sProp bigSep bigSep_sep' bigSep_mono bigSep_congr bigSep_univ_prod bigSep_fupd)
open scoped Idealize.SL.BI
open Idealize.SL.BI.BIBase Idealize.SL.BI.Laws Idealize.SL.Sem Idealize.SL.ProofMode
open Idealize.ShloMosaic.Pipeline Idealize.ShloMosaic.Pipeline.PerCore Idealize.ShloMosaic.Pipeline.PerCore.RDat
open PCS
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The level facts of every cell, from every TensorCore's unassigned cells, when no other thread's cell has an index. -/
theorem assign_levels [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hother : ∀ (d : Dev nD) (p : Proc τ), p ∈ Finset.univ.erase Proc.tc →
      (coreLevAts ((d, p) : Thread nD τ) L lv : sProp 𝕄) = BI.emp := by
    intro d p hp
    have hnone : ∀ sm : SemLoc sig, L (((d, p) : Thread nD τ), sm) = ∅ := fun sm => hL _ (Finset.ne_of_mem_erase hp)
    unfold coreLevAts
    simp only [hnone, BI.bigSep_empty, BI.bigSep_emp_const]
  have hall : (levAts L lv : sProp 𝕄)
      = iprop((bigSep Finset.univ fun d : Dev nD => coreLevAts (d.tc : Thread nD τ) L lv) ∗ BI.emp) := by
    rw [show (levAts L lv : sProp 𝕄) = bigSep Finset.univ fun c : Thread nD τ => coreLevAts c L lv
      from (bigSep_univ_prod fun g : GSem nD τ sig => bigSep (L g) fun ι => levAt g ι (lv g ι)),
      bigSep_threads (fun c : Thread nD τ => coreLevAts c L lv)]
    congr 1
    rw [bigSep_congr (Ψ := fun _ : Dev nD => (BI.emp : sProp 𝕄)) fun d _ =>
      (bigSep_congr (Ψ := fun _ : Proc τ => (BI.emp : sProp 𝕄)) (hother d)).trans (BI.bigSep_emp_const _), BI.bigSep_emp_const]
  refine (bigSep_mono fun c _ => lev_assign_cells (c.tc : Thread nD τ) L lv).trans <| (BI.bigSep_bupd _ _).trans <| BI.bupd_mono ?_
  have hkeep : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_sep']
    iintro ⟨-, H⟩
    isplitl [H]; · iexact H
    iempintro
  exact hkeep

variable {Λ₀ : Idealize.SL.Sem.Labels} {P : Type} [Fintype P]

section
variable (pcs : P → PCfg sig Λ₀ Val) (a : Dev nD → (p : P) → (pcs p).Adm)
  (rdats : (p : P) → (c : Dev nD) → RDat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

include phinj hw ho in
set_option maxHeartbeats 1600000 in
/-- The run of an @main that is one kernel call without windowed arrays, from: the body's obligation (`hbody`); what each
    device owes at launch (`O₀`); the global step (`hglob`), which deals every device's semaphores and memory; what each
    device enters with (`hX`, `hin`) and leaves with (`hout`), and what that says of a final state (`hY`). -/
theorem θ_run_shared [DecidableEq P] [Preorder Lvl] [∀ e, Nonempty (Val e)] [Infinite Name]
    [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, (rdats p c).BodyObligation defs₀ 𝒱₀ ι Set.univ)
    (hne : ∀ w : Fin (pcs p).W, 0 < ((pcs p).spec w).block.numel)
    (hstage : ∀ w s, (((pcs p).spec w).stage s).IsWhole)
    (O₀ : Dev nD → CellTallies nD τ sig Ix) (howed₀ : ∀ c, (rdats p c).owed 0 = O₀ c) (howedN : ∀ c, (rdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits (pinD pcs a) rdats ι p c)
    (G G' : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (hglob : (bigSep Finset.univ fun c => iprop(ownSems0 osem c ∗ unscopedBufs c (fun b => m ((c.tc : Thread nD τ).loc b)) ∗ G c) : sProp 𝕄)
      ⊢ |={Set.univ}=> bigSep Finset.univ G')
    (harr : ∀ c, (BI.emp : sProp 𝕄) ⊢ (rdats p c).arrays (rdats p c).A)
    (hpf : ∀ c, (BI.emp : sProp 𝕄) ⊢ prefHeld (pcs p).pre c (fun _ => fullShare.right) (a c p).1)
    (X Y : Dev nD → sProp 𝕄)
    (hX : ∀ c, iprop(levAts L lv ∗ launchCred O₀ c ∗ G' c) ⊢ |={Set.univ}=> X c)
    (hin : ∀ c, iprop(X c ∗ prefHeld (pcs p).pre c (fun _ => fullShare.right) (a c p).1 ∗ scopedRest (pinD pcs a c p).spec c) ⊢ (rdats p c).Φ 0)
    (hout : ∀ c, (rdats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hsems := fun c : Dev nD => scopedSems0_split (pinD pcs a) phinj p (fun _ => hw) (fun _ => ho) (Ix := Ix) (Val := Val) (Name := Name) (U := U) (Lvl := Lvl) c
  have hbufs := fun c : Dev nD => scopedBufs_split (pinD pcs a) p c hw.stage_scoped hw.stage_inj hstage (nD := nD) (τ := τ) (Ix := Ix) (Val := Val) (Name := Name) (U := U) (Lvl := Lvl)
  let own₀ : Dev nD → sProp 𝕄 := fun c =>
    iprop(scopedBufs (c.tc : Thread nD τ) ∗ cellsSems0 (pinD pcs a) p c ∗ idleSems0 (pinD pcs a) phinj p (fun _ => ho) c
      ∗ owes (c.tc : Thread nD τ) (O₀ c) ∅ ∗ launchCred O₀ c)
  let pre : Dev nD → sProp 𝕄 := fun c =>
    iprop(own₀ c ∗ levAts L lv ∗ cellsGhost (pinD pcs a) EP p c ∗ toksInit (pinD pcs a) EP p c ∗ G' c)
  let fin : Dev nD → sProp 𝕄 := fun c => iprop(Y c ∗ scopedSems0 (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?launch (fun _ c => ?run) fun _ => ?read))
  case launch =>
    have hcore (c : Dev nD) :
        coreInit (Ix := Ix) (Name := Name) (U := U) (Lvl := Lvl) (owing O₀) 0 (⟨m, fun _ => 0, g⟩ : MemSt nD τ sig Val) (c.tc : Thread nD τ)
          ⊢ iprop(own₀ c ∗ levels0 c ∗ ownSems0 osem c ∗ unscopedBufs c (fun b => m ((c.tc : Thread nD τ).loc b))) := by
      refine (coreInit_boundary_owing O₀ m g c).trans ?_
      unfold boundary
      rw [hsems c]
      iintro ⟨⟨Hsc, ⟨⟨Hcells, Hos⟩, Hidle⟩, -⟩, Hub, -, HL, Hlv, -, Hcr⟩
      simp only [own₀]
      isplitl [Hsc Hcells Hidle HL Hcr]
      · isplitl [Hsc]; · iexact Hsc
        isplitl [Hcells]; · iexact Hcells
        isplitl [Hidle]; · iexact Hidle
        isplitl [HL] <;> iassumption
      isplitl [Hlv]; · iexact Hlv
      isplitl [Hos] <;> iassumption
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ own₀)
            ∗ (bigSep Finset.univ fun c : Dev nD => levels0 (Ix := Ix) (Val := Val) (Name := Name) (U := U) (Lvl := Lvl) (τ := τ) (sig := sig) c)
            ∗ (bigSep Finset.univ fun c : Dev nD => ownSems0 (Ix := Ix) (Name := Name) (U := U) (Lvl := Lvl) (Val := Val) (τ := τ) osem c)
            ∗ (bigSep Finset.univ fun c : Dev nD => unscopedBufs c fun b => m ((c.tc : Thread nD τ).loc b)) : sProp 𝕄) := by
      rw [← bigSep_sep', ← bigSep_sep', ← bigSep_sep']
      exact bigSep_mono fun c _ => hcore c
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    have hdeal : iprop((bigSep Finset.univ own₀) ∗ (bigSep Finset.univ fun _ : Dev nD => levAts L lv)
          ∗ (bigSep Finset.univ fun c : Dev nD => cellsGhost (pinD pcs a) EP p c) ∗ (bigSep Finset.univ fun c : Dev nD => toksInit (pinD pcs a) EP p c)
          ∗ bigSep Finset.univ G') ⊢ (bigSep Finset.univ pre : sProp 𝕄) := by
      rw [← bigSep_sep', ← bigSep_sep', ← bigSep_sep', ← bigSep_sep']
    iintro ⟨Hcores, Hu⟩
    ihave Hc := hcores $$ Hcores
    icases Hc with ⟨Hown, Hlv, Hos, Hub⟩
    imod (assign_levels L lv hL) $$ Hlv with Hla
    imod hu₀ $$ Hu with ⟨HP, HG⟩
    imod (fund_ghost (pinD pcs a) EP phinj) $$ HP with ⟨Hg, Ht⟩
    imod hglob $$ [Hos Hub HG] with HG'
    · rw [bigSep_sep', bigSep_sep']; isplitl [Hos]; · iexact Hos
      isplitl [Hub] <;> iassumption
    imodintro
    iexists ()
    isplitr []
    · iapply hdeal
      isplitl [Hown]; · iexact Hown
      isplitl [Hla]; · iapply (BI.bigSep_intro_persistent (S := Finset.univ) fun (c : Dev nD) _ => (BI.Entails.refl (levAts L lv : sProp 𝕄))); iexact Hla
      isplitl [Hg]; · iapply (hpick fun p' c => cellsGhost (pinD pcs a) EP p' c); iexact Hg
      isplitl [Ht]; · iapply (hpick fun p' c => toksInit (pinD pcs a) EP p' c); iexact Ht
      iexact HG'
    · iempintro
  case run =>
    have hout' : iprop((rdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hsems c, hbufs c]
      iintro ⟨HΦ, Hcells, Hst, Hidle⟩
      ihave H := (hout c) $$ HΦ
      icases H with ⟨HY, Hos, Hrest⟩
      isplitl [HY]; · iexact HY
      isplitl [Hcells Hos Hidle]
      · isplitr [Hidle]; · isplitl [Hcells] <;> iassumption
        iexact Hidle
      isplitl [Hst] <;> iassumption
    have hpost : PerCore.RDat.EntryPost (pinD pcs a) rdats ι p c ⊢ iprop(∃ W, owes (c.tc : Thread nD τ) (0 : CellTallies nD τ sig Ix) W) := by
      unfold PerCore.RDat.EntryPost RDat.owesAt owesWithin
      rw [howedN c]
      iintro ⟨-, ⟨%W, -, HW⟩⟩
      iexists W; iexact HW
    rw [hmain c]
    simp only [pre, own₀]
    iintro ⟨⟨Hsc, Hcells, Hidle, HL, Hcr⟩, #Hla, Hg, Ht, HG⟩
    ihave Hw := (hwaits c) $$ Hla
    iapply (fupd_wp frame (wpE 𝔻 𝕍 (c.tc : Thread nD τ) none) Set.univ _ _)
    imod (cellsInit_alloc (pinD pcs a) rdats EP phinj p c) $$ [Hcells Hg] with ⟨%κ, -, Hinit⟩
    · isplitl [Hcells] <;> iassumption
    imod (hX c) $$ [Hcr HG] with HX
    · isplitr; · iexact Hla
      isplitl [Hcr] <;> iassumption
    imodintro
    iapply (wp_customCall_entry_frame pcs a rdats ι EP κ phinj p defs₀ 𝒱₀ (fun _ => fullShare.right) c Set.univ (fun _ _ => Set.mem_univ _)
        (hbody c) hne none (fun u h => nomatch h) (X := X c) (Y := Y c) (R := scopedRest (pinD pcs a c p).spec c) (I := idleSems0 (pinD pcs a) phinj p (fun _ => ho) c)
        (Entails.of_eq (hbufs c)) (hin c) hout'
        (k := fun _ => .ret ⟨⟩) (Q := fun _ => post (liftTc fin BI.emp) (c.tc : Thread nD τ))) $$ [HL Hinit Ht HX Hidle Hsc Hw]
    · isplitl [HL Hinit Ht Hw]
      · unfold PerCore.RDat.EntryPre RDat.owesAt owesWithin
        rw [howed₀ c]
        isplitr; · iapply (harr c); iempintro
        isplitl [HL]
        · iexists ∅; isplitr; · ipureintro; rw [Finset.coe_empty]; exact Set.empty_subset _
          iexact HL
        isplitl [Hw]; · iexact Hw
        isplitl [Hinit] <;> iassumption
      isplitr; · iapply (hpf c); iempintro
      isplitl [HX]; · iexact HX
      isplitl [Hidle] <;> iassumption
    iintro ⟨Hpost, HY, Hss, -⟩
    rw [wp_ret]; imodintro
    unfold post; simp only [liftTc_tc, fin]
    isplitl [HY Hss]
    · isplitl [HY] <;> iassumption
    · iapply hpost; iexact Hpost
  case read =>
    have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr; · ipureintro; exact ⟨hy, hz⟩
      iexact HSI
    iintro ⟨H, -, Hsc⟩ %s' HSI
    ihave %hsc := (scSems_read_zero m g s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end

end Cert.Exchange

end
-- ==== Proof.Exchange.lean ====
/-
# Transfers that use each semaphore once

Every kernel of this proof talks through one pattern: device `c` has one semaphore for each key `k` of a finite type `K`,
and each of these semaphores is used for exactly one transfer and one wait. This file has what follows from that alone,
for any key type, any number of devices and any float values:

* `sched`: the schedule of such a family. The cell of device `c` and key `k` has one duty, of `amt k` units, and hands
  its waiter `pay c k`;
* `step_copy`, `step_send`, `step_wait`: what a local copy, a copy to another device and a wait do;
* `close_all`: at the end every counter is zero;
* `phase`: a list of steps of one kind, one after the other;
* `fund_all`, `alloc_all`: the ghost state at launch.
-/
module

public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {K : Type} [Fintype K] [DecidableEq K]

/-- The ghost state: the pipeline's own, beside one family of one-round cells. -/
abbrev UK (nD : Nat) (τ : Topo) (sig : RefSig) (K : Type) [DecidableEq K] : Type :=
  URounds (GSem nD τ sig) Unit × URounds (GSem nD τ sig) K

local notation "𝕄" => MT nD τ sig Unit Val ℕ (UK nD τ sig K) ℕ

/-- Where the pipeline's ghost state sits. -/
abbrev EP : Emb (URounds (GSem nD τ sig) Unit) (MT nD τ sig Unit Val ℕ (UK nD τ sig K) ℕ) := embL
/-- Where the family's ghost state sits. -/
abbrev ER : Emb (URounds (GSem nD τ sig) K) (MT nD τ sig Unit Val ℕ (UK nD τ sig K) ℕ) := embR

variable (osem : K → SemLoc sig) (amt : K → ℕ) (hamt : ∀ k, 0 < amt k)

/-- The cell of device `c` and key `k`. -/
abbrev cell (ck : Dev nD × K) : GSem nD τ sig := ((ck.1 : Thread nD τ), osem ck.2)

theorem cell_inj (hinj : Function.Injective osem) : Function.Injective (cell (τ := τ) osem : Dev nD × K → GSem nD τ sig) := by
  rintro ⟨c, k⟩ ⟨c', k'⟩ h
  have h1 : c = c' := congrArg (fun g : GSem nD τ sig => g.1.1) h
  have h2 : k = k' := hinj (congrArg Prod.snd h)
  rw [h1, h2]

variable (pay : Dev nD → K → sProp (MT nD τ sig Unit Val ℕ (UK nD τ sig K) ℕ))

/-- One round, with one duty: the one whose key's semaphore the cell is. -/
def sched : Rounds.Schedule (GSem nD τ sig) K (MT nD τ sig Unit Val ℕ (UK nD τ sig K) ℕ) where
  duties g r := if r = 0 ∧ g.1.2 = .tc then Finset.univ.filter (fun k => osem k = g.2) else ∅
  amount _ _ k := amt k
  payload g _ k := pay g.1.1 k
  amount_pos _ _ k _ := hamt k
  unitless _ := False

/-- What a cell hands over can be kept in an invariant. -/
class Payable {nD : Nat} {τ : Topo} {sig : RefSig} {Val : EltTy → Type} {K : Type} [DecidableEq K]
    (pay : Dev nD → K → sProp (MT nD τ sig Unit Val ℕ (UK nD τ sig K) ℕ)) : Prop where
  storable : ∀ c k, BI.Storable (upEmb : UEmb _ (MT nD τ sig Unit Val ℕ (UK nD τ sig K) ℕ)) (pay c k)

instance sched_storable [hp : Payable pay] (g : GSem nD τ sig) (r : ℕ) (k : K) :
    BI.Storable (upEmb : UEmb _ 𝕄) ((sched osem amt hamt pay).payload g r k) := by
  exact hp.storable g.1.1 k

section Cells
variable (hinj : Function.Injective osem) (c : Dev nD) (k : K)

include hinj in
theorem duties_cell : (sched (τ := τ) osem amt hamt pay).duties (cell osem (c, k)) 0 = {k} := by
  dsimp only [sched]
  rw [if_pos ⟨rfl, rfl⟩]
  ext k'
  simp only [Finset.mem_filter, Finset.mem_univ, true_and, Finset.mem_singleton]
  exact ⟨fun h => hinj h, fun h => h ▸ rfl⟩

theorem duties_after (g : GSem nD τ sig) : ∀ r, 1 ≤ r → (sched osem amt hamt pay).duties g r = ∅ := by
  intro r hr
  dsimp only [sched]
  exact if_neg fun h => by omega

include hinj in
theorem expect_cell : (sched (τ := τ) osem amt hamt pay).expect (cell osem (c, k)) 0 = amt k := by
  unfold Rounds.Schedule.expect Rounds.Schedule.amountOf
  rw [duties_cell osem amt hamt pay hinj, Finset.sum_singleton]; rfl

include hinj in
theorem rest_cell : bigSep ((sched (τ := τ) osem amt hamt pay).duties (cell osem (c, k)) 0 \ ∅)
    (fun d => (sched osem amt hamt pay).payload (cell osem (c, k)) 0 d) = pay c k := by
  rw [duties_cell osem amt hamt pay hinj, Finset.sdiff_empty, bigSep_singleton]; rfl

end Cells

/-! ## The records -/

/-- That every cell carries its invariant, under the names `Kn`, and that its round is open. -/
def records [Payable pay] (Kn : Dev nD × K → ℕ) : sProp 𝕄 :=
  iprop((bigSep Finset.univ fun ck : Dev nD × K => cellInv ER (sched osem amt hamt pay) (Kn ck) (cell osem ck))
    ∗ bigSep Finset.univ fun ck : Dev nD × K => reached ER (cell osem ck) 0)

variable [Payable pay]

instance records_persistent (Kn : Dev nD × K → ℕ) : BI.Persistent (records osem amt hamt pay Kn : sProp 𝕄) := by
  unfold records; infer_instance

variable {osem amt hamt pay} in
theorem inv_of {Kn : Dev nD × K → ℕ} (ck : Dev nD × K) :
    (records osem amt hamt pay Kn : sProp 𝕄) ⊢ cellInv ER (sched osem amt hamt pay) (Kn ck) (cell osem ck) := by
  have h : (bigSep Finset.univ fun ck : Dev nD × K => (cellInv ER (sched osem amt hamt pay) (Kn ck) (cell osem ck) : sProp 𝕄))
      ⊢ cellInv ER (sched osem amt hamt pay) (Kn ck) (cell osem ck) := bigSep_elim (Finset.mem_univ ck)
  unfold records
  iintro ⟨H, -⟩
  iapply h
  iexact H

variable {osem amt hamt pay} in
theorem open_of {Kn : Dev nD × K → ℕ} (ck : Dev nD × K) :
    (records osem amt hamt pay Kn : sProp 𝕄) ⊢ reached ER (cell osem ck) 0 := by
  have h : (bigSep Finset.univ fun ck : Dev nD × K => (reached ER (cell osem ck) 0 : sProp 𝕄))
      ⊢ reached ER (cell osem ck) 0 := bigSep_elim (Finset.mem_univ ck)
  unfold records
  iintro ⟨-, H⟩
  iapply h
  iexact H

/-- What a device owes, the waits it has recorded not said. -/
def owesW (c : Dev nD) (O : CellTallies nD τ sig Unit) : sProp 𝕄 := iprop(∃ W, owes (c : Thread nD τ) O W)

/-! ## The steps -/

section Steps
variable {osem amt hamt pay}
variable {Λ : Idealize.SL.Sem.Labels} {defs : Defs nD τ sig Val Λ} {𝒱 : Variants}
variable (hinj : Function.Injective osem) {Kn : Dev nD × K → ℕ} {α : Type} {Q : α → sProp (MT nD τ sig Unit Val ℕ (UK nD τ sig K) ℕ)}

include hinj in
/-- A local copy on the semaphore of key `k`: it takes the source and the destination, and gives the right to wait. -/
theorem step_copy (c : Dev nD) (k : K) {sp sp' : Space} {s : Shape} {e : EltTy} {src : Memref sig .tc sp s e} {dst : Memref sig .tc sp' s e}
    {sem : SemLoc sig} {hsrc : src.view.WordExact} {hdst : dst.view.WordExact} {hsem : DmaTarget.Typed (p := (Proc.tc : Proc τ)) (nD := nD) sp sem (.here dst)}
    {kk : PUnit → Prog (TpuEff nD τ sig Val Λ .tc) α} (q : PosShare TreeShare) (fs : Buf Val (src.view.loc (c : Thread nD τ)))
    (fd : Buf Val (dst.view.loc (c : Thread nD τ))) (hs : sem = osem k) (hN : dst.view.amount sem = amt k)
    (hpay : iprop((dst.view.loc (c : Thread nD τ) ↦[dst.view.set]{fullShare} (dst.view.write Val fd (src.view.read Val fs) Finset.univ))
              ∗ (src.view.loc (c : Thread nD τ) ↦[src.view.set]{q} fs)) ⊢ pay c k) :
    iprop(records osem amt hamt pay Kn ∗ (src.view.loc (c : Thread nD τ) ↦[src.view.set]{q} fs)
        ∗ (dst.view.loc (c : Thread nD τ) ↦[dst.view.set]{fullShare} fd) ∗ dutyTok ER (cell osem (c, k)) 0 k)
      ⊢ iprop((cred (tallyAt (cell osem (c, k)) () (amt k)) -∗ wp frame (wpE defs 𝒱 (c : Thread nD τ) none) Set.univ (kk ⟨⟩) Q)
          -∗ wp frame (wpE defs 𝒱 (c : Thread nD τ) none) Set.univ (.op (.enqueueDma src (.here dst) sem hsrc hdst hsem) kk) Q) := by
  subst hs
  have h := Rounds.wp_copy_pointsTo (defs := defs) 𝒱 ER (sched osem amt hamt pay) (c : Thread nD τ) none (Γ := .empty) (κ := Kn (c, k)) (r := 0) (d := k) (q := q) (fs := fs) (fd := fd)
    (src := src) (dst := dst) (sem := osem k) (hsrc := hsrc) (hdst := hdst) (hsem := hsem) (k := kk) (Q := Q) (Es := Set.univ)
    (by rw [duties_cell osem amt hamt pay hinj]; exact Finset.mem_singleton_self _) () (amt k) hN rfl hpay
  iintro ⟨#HR, Hs, Hd, Ht⟩
  iapply h
  isplitr; · iapply (inv_of (c, k)); iexact HR
  isplitl [Hs]; · iexact Hs
  isplitl [Hd]; · iexact Hd
  isplitl [Ht]; · iexact Ht
  iapply (open_of (c, k)); iexact HR

include hinj in
/-- A copy to device `c'`: key `k₁` is the sender's, `k₂` the receiver's. -/
theorem step_send (c c' : Dev nD) (k₁ k₂ : K) {sp sp' : Space} {s : Shape} {e : EltTy} {src : Memref sig .tc sp s e}
    {n : Dev nD} {dst : Memref sig (Dev.tc n : Thread nD τ).2.kind sp' s e} {hsc : dst.view.ref.isScScratch = false} {sS sem : SemLoc sig}
    {hsrc : src.view.WordExact} {hdst : dst.view.WordExact} {hsem : DmaTarget.Typed (p := (Proc.tc : Proc τ)) sp sem (.remote (Dev.tc n : Thread nD τ) dst sS hsc)}
    {kk : PUnit → Prog (TpuEff nD τ sig Val Λ .tc) α} (q : PosShare TreeShare) (fs : Buf Val (src.view.loc (c : Thread nD τ)))
    (fd : Buf Val (dst.view.loc (Dev.tc n : Thread nD τ))) (hn : n = c') (hs₁ : sS = osem k₁) (hs₂ : sem = osem k₂)
    (hN : dst.view.amount sem = amt k₂) (hN' : amt k₁ = amt k₂) (O : CellTallies nD τ sig Unit) (hr : τ.routes (c : Thread nD τ) (Dev.tc n : Thread nD τ) = true)
    (hpay₁ : (src.view.loc (c : Thread nD τ) ↦[src.view.set]{q} fs) ⊢ pay c k₁)
    (hpay₂ : (dst.view.loc (Dev.tc n : Thread nD τ) ↦[dst.view.set]{fullShare} (dst.view.write Val fd (src.view.read Val fs) Finset.univ)) ⊢ pay c' k₂) :
    iprop(records osem amt hamt pay Kn ∗ (src.view.loc (c : Thread nD τ) ↦[src.view.set]{q} fs)
        ∗ (dst.view.loc (Dev.tc n : Thread nD τ) ↦[dst.view.set]{fullShare} fd) ∗ dutyTok ER (cell osem (c, k₁)) 0 k₁
        ∗ dutyTok ER (cell osem (c', k₂)) 0 k₂ ∗ owesW c (O + tallyAt (cell osem (c', k₂)) () (amt k₂)))
      ⊢ iprop(((cred (tallyAt (cell osem (c, k₁)) () (amt k₁)) ∗ owesW c O) -∗ wp frame (wpE defs 𝒱 (c : Thread nD τ) none) Set.univ (kk ⟨⟩) Q)
          -∗ wp frame (wpE defs 𝒱 (c : Thread nD τ) none) Set.univ (.op (.enqueueDma src (.remote (Dev.tc n : Thread nD τ) dst sS hsc) sem hsrc hdst hsem) kk) Q) := by
  subst hn hs₁ hs₂
  unfold owesW
  iintro ⟨#HR, Hs, Hd, Ht1, Ht2, ⟨%W, HO⟩⟩ Hk
  have h := Rounds.wp_send_pointsTo (defs := defs) 𝒱 ER (sched osem amt hamt pay) (c : Thread nD τ) none (Γ := .empty) (κ₁ := Kn (c, k₁)) (κ₂ := Kn (n, k₂)) (r₁ := 0) (r₂ := 0)
    (d₁ := k₁) (d₂ := k₂) (q := q) (fs := fs) (fd := fd) (hsc := hsc) (W := W)
    (src := src) (dst := dst) (sS := osem k₁) (sem := osem k₂) (hsrc := hsrc) (hdst := hdst) (hsem := hsem) (k := kk) (Q := Q) (Es := Set.univ)
    (by rw [duties_cell osem amt hamt pay hinj]; exact Finset.mem_singleton_self _)
    (by rw [duties_cell osem amt hamt pay hinj]; exact Finset.mem_singleton_self _) () () (amt k₂) hN hN' rfl O rfl hpay₁ hpay₂ hr
  iapply h $$ [Hs Hd Ht1 Ht2 HO]
  · isplitr; · iapply (inv_of (c, k₁)); iexact HR
    isplitr; · iapply (inv_of (n, k₂)); iexact HR
    isplitl [Hs]; · iexact Hs
    isplitl [Hd]; · iexact Hd
    isplitl [HO]; · iexact HO
    isplitl [Ht1]; · iexact Ht1
    isplitr; · iapply (open_of (c, k₁)); iexact HR
    isplitl [Ht2]; · iexact Ht2
    iapply (open_of (n, k₂)); iexact HR
  iintro ⟨Hc, HO⟩
  iapply Hk
  rw [hN']
  isplitl [Hc]; · iexact Hc
  iexists W; iexact HO

include hinj in
/-- A wait on the semaphore of key `k`: it spends the right to wait and gives what the transfer left. -/
theorem step_wait (c : Dev nD) (k : K) {sp sp' : Space} {s s' : Shape} {e e' : EltTy} {sem : DmaSem sig} {src : Memref sig .tc sp' s' e'} {dst : Memref sig .tc sp s e}
    {hsrc : src.view.WordExact} {hdst : dst.view.WordExact} {kk : PUnit → Prog (TpuEff nD τ sig Val Λ .tc) α}
    (hs : SemLoc.dma sem = osem k) (hN : dst.view.dmaCredit = amt k) (O : CellTallies nD τ sig Unit) :
    iprop(records osem amt hamt pay Kn ∗ cred (tallyAt (cell osem (c, k)) () (amt k)) ∗ owesW c O ∗ MayWait (c : Thread nD τ) (osem k) () O
        ∗ atPos ER (cell osem (c, k)) 0 ∅ 0)
      ⊢ iprop(((owesW c O ∗ atPos ER (cell osem (c, k)) 1 ∅ 0 ∗ pay c k) -∗ wp frame (wpE defs 𝒱 (c : Thread nD τ) none) Set.univ (kk ⟨⟩) Q)
          -∗ wp frame (wpE defs 𝒱 (c : Thread nD τ) none) Set.univ (.op (.waitDma2 sem src dst hsrc hdst) kk) Q) := by
  unfold owesW
  iintro ⟨#HR, Hc, ⟨%W, HO⟩, HM, Hat⟩ Hk
  have h := Rounds.wp_wait_rest_token (defs := defs) 𝒱 ER (sched osem amt hamt pay) (c : Thread nD τ) none (Γ := .empty) (κ := Kn (c, k)) (k := kk) (Q := Q) (W := W) (O := O)
    (w := .waitDma2 sem src dst hsrc hdst) (sm := osem k) (k' := amt k) (Es := Set.univ)
    (fun K' => by rw [wpE_waitDma2_eq, hs, hN]) (Set.mem_univ _) () (R := 0) (m := 0) (T := ∅)
    (by rw [Nat.zero_add, expect_cell osem amt hamt pay hinj])
  iapply h $$ [Hc HO HM Hat]
  · isplitr; · iapply (inv_of (c, k)); iexact HR
    isplitl [Hc]; · iexact Hc
    isplitl [HO]; · iexact HO
    isplitl [HM]; · iexact HM
    iexact Hat
  iintro ⟨HO, Hat, -, Hp⟩
  ihave Hp := (Entails.of_eq (rest_cell osem amt hamt pay hinj c k)) $$ Hp
  iapply Hk
  isplitl [HO]; · iexists _; iexact HO
  isplitl [Hat]; · iexact Hat
  iexact Hp

/-- A list of steps of one kind. `f a` is the step of `a` in front of a program, `pre a` what it takes, `post a` what it
    gives, `I l` what is carried along with `l` still to do, `R` what lasts. -/
theorem phase {β : Type} (c : Dev nD) (f : β → Prog (TpuEff nD τ sig Val Λ .tc) α → Prog (TpuEff nD τ sig Val Λ .tc) α)
    (R : sProp 𝕄) [BI.Persistent R] (pre post : β → sProp 𝕄) (I : List β → sProp 𝕄)
    (h : ∀ a l p, iprop(R ∗ pre a ∗ I (a :: l)) ⊢ iprop(((post a ∗ I l) -∗ wp frame (wpE defs 𝒱 (c : Thread nD τ) none) Set.univ p Q) -∗ wp frame (wpE defs 𝒱 (c : Thread nD τ) none) Set.univ (f a p) Q)) (p : Prog (TpuEff nD τ sig Val Λ .tc) α) :
    ∀ l : List β, iprop(R ∗ bigSepL l pre ∗ I l) ⊢ iprop(((bigSepL l post ∗ I []) -∗ wp frame (wpE defs 𝒱 (c : Thread nD τ) none) Set.univ p Q) -∗ wp frame (wpE defs 𝒱 (c : Thread nD τ) none) Set.univ (l.foldr f p) Q) := by
  intro l
  induction l with
  | nil =>
    rw [bigSepL_nil, bigSepL_nil]
    iintro ⟨-, -, HI⟩ Hk
    iapply Hk
    isplitr; · iempintro
    iexact HI
  | cons a l ih =>
    rw [bigSepL_cons', bigSepL_cons', List.foldr_cons]
    iintro ⟨#HR, ⟨Ha, Hl⟩, HI⟩ Hk
    iapply (h a l (l.foldr f p)) $$ [Ha HI]
    · isplitr; · iexact HR
      isplitl [Ha] <;> iassumption
    iintro ⟨Hpa, HI⟩
    iapply ih $$ [Hl HI]
    · isplitr; · iexact HR
      isplitl [Hl] <;> iassumption
    iintro ⟨Hpl, HI⟩
    iapply Hk
    isplitr [HI]
    · isplitl [Hpa] <;> iassumption
    iexact HI

end Steps

/-- At the end every cell's counter is zero. -/
theorem close_all (Kn : Dev nD × K → ℕ) (c : Dev nD) :
    iprop(records osem amt hamt pay Kn ∗ bigSep Finset.univ fun k => atPos ER (cell osem (c, k)) 1 ∅ 0)
      ⊢ (|={Set.univ}=> Pipeline.ownSems0 osem c : sProp 𝕄) := by
  have h1 : ∀ k : K, iprop(records osem amt hamt pay Kn ∗ atPos ER (cell osem (c, k)) 1 ∅ 0)
      ⊢ (|={Set.univ}=> semVal (cell osem (c, k)) 0 : sProp 𝕄) := fun k => by
    iintro ⟨#HR, Hat⟩
    iapply (Rounds.cell_close ER (sched osem amt hamt pay) (Set.mem_univ (Kn (c, k))) (fun h => h) (R := 1) (duties_after osem amt hamt pay _))
    isplitr; · iapply (inv_of (c, k)); iexact HR
    iexact Hat
  have h2 : iprop(records osem amt hamt pay Kn ∗ bigSep Finset.univ fun k => atPos ER (cell osem (c, k)) 1 ∅ 0)
      ⊢ (bigSep Finset.univ fun k => iprop(records osem amt hamt pay Kn ∗ atPos ER (cell osem (c, k)) 1 ∅ 0) : sProp 𝕄) := by
    rw [bigSep_sep']
    exact sep_mono_left (BI.bigSep_of_persistent Finset.univ (records osem amt hamt pay Kn))
  exact h2.trans ((bigSep_mono fun k _ => h1 k).trans (bigSep_fupd _ _))

/-! ## The launch -/

/-- The family's cells, and its duties' tokens. -/
def famCells (hinj : Function.Injective osem) : Finset (GSem nD τ sig) := Finset.univ.map ⟨cell osem, cell_inj osem hinj⟩
def famToks (hinj : Function.Injective osem) : Finset (GSem nD τ sig × ℕ × K) :=
  Finset.univ.map ⟨fun ck : Dev nD × K => (cell osem ck, 0, ck.2), fun _ _ h => cell_inj osem hinj (congrArg Prod.fst h)⟩

/-- What one device holds of the family before its invariants are allocated. -/
def funded (c : Dev nD) : sProp 𝕄 :=
  iprop((bigSep Finset.univ fun k => roundState ER (sched osem amt hamt pay) (cell osem (c, k)) 0)
    ∗ (bigSep Finset.univ fun k => reached ER (cell osem (c, k)) 0)
    ∗ (bigSep Finset.univ fun k => atPos ER (cell osem (c, k)) 0 ∅ 0)
    ∗ (bigSep Finset.univ fun k => dutyTok ER (cell osem (c, k)) 0 k))

theorem fund_all (hinj : Function.Injective osem) :
    BI.own (ER (initOf (famCells (nD := nD) (τ := τ) osem hinj) (famToks osem hinj)))
      ⊢ (|==> bigSep Finset.univ (funded osem amt hamt pay) : sProp 𝕄) := by
  have hX (Φ : GSem nD τ sig → sProp 𝕄) : bigSep (famCells osem hinj) Φ = bigSep Finset.univ fun c : Dev nD => bigSep Finset.univ fun k : K => Φ (cell osem (c, k)) := by
    unfold famCells; rw [bigSep_map, bigSep_univ_prod]; rfl
  have hT : bigSep (famToks osem hinj) (fun x => (dutyTok ER x.1 x.2.1 x.2.2 : sProp 𝕄))
      = bigSep Finset.univ fun c : Dev nD => bigSep Finset.univ fun k : K => dutyTok ER (cell osem (c, k)) 0 k := by
    unfold famToks; rw [bigSep_map, bigSep_univ_prod]; rfl
  iintro HX
  imod (Rounds.fund ER (sched osem amt hamt pay) (famCells osem hinj) (famToks osem hinj)) $$ HX with ⟨Hst, Hr, Hat, Htok⟩
  imodintro
  ihave Hst' := (Entails.of_eq (hX fun g => roundState ER (sched osem amt hamt pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold funded; simp only [bigSep_sep']
  isplitl [Hst']; · iexact Hst'
  isplitl [Hr']; · iexact Hr'
  isplitl [Hat'] <;> iassumption

/-- From the counters at zero and what was funded: the records, and every cell's position and token. -/
theorem alloc_all :
    (bigSep Finset.univ fun c : Dev nD => iprop(Pipeline.ownSems0 osem c ∗ funded osem amt hamt pay c) : sProp 𝕄)
      ⊢ |={Set.univ}=> iprop(∃ Kn, records osem amt hamt pay Kn
          ∗ (bigSep Finset.univ fun c : Dev nD => bigSep Finset.univ fun k => atPos ER (cell osem (c, k)) 0 ∅ 0)
          ∗ (bigSep Finset.univ fun c : Dev nD => bigSep Finset.univ fun k => dutyTok ER (cell osem (c, k)) 0 k)) := by
  have hcore (c : Dev nD) : iprop(Pipeline.ownSems0 osem c ∗ (bigSep Finset.univ fun k => roundState ER (sched osem amt hamt pay) (cell osem (c, k)) 0))
      ⊢ (|={Set.univ}=> bigSep Finset.univ fun k => iprop(∃ κ : ℕ, cellInv ER (sched osem amt hamt pay) κ (cell osem (c, k))) : sProp 𝕄) := by
    show iprop((bigSep Finset.univ fun k : K => semVal (cell osem (c, k)) 0) ∗ _) ⊢ _
    rw [← bigSep_sep']
    exact (bigSep_mono fun k _ => (Rounds.body_intro ER (sched osem amt hamt pay) (cell osem (c, k))).trans inv_alloc).trans (bigSep_fupd _ _)
  have hcores : (bigSep Finset.univ fun c : Dev nD => iprop(Pipeline.ownSems0 osem c ∗ (bigSep Finset.univ fun k => roundState ER (sched osem amt hamt pay) (cell osem (c, k)) 0)) : sProp 𝕄)
      ⊢ |={Set.univ}=> bigSep Finset.univ fun ck : Dev nD × K => iprop(∃ κ : ℕ, cellInv ER (sched osem amt hamt pay) κ (cell osem ck)) := by
    rw [bigSep_univ_prod (fun ck : Dev nD × K => iprop(∃ κ : ℕ, cellInv ER (sched osem amt hamt pay) κ (cell osem ck)))]
    exact (bigSep_mono fun c _ => hcore c).trans (bigSep_fupd _ _)
  have hin : (bigSep Finset.univ fun c : Dev nD => iprop(Pipeline.ownSems0 osem c ∗ funded osem amt hamt pay c) : sProp 𝕄)
      ⊢ iprop((bigSep Finset.univ fun c : Dev nD => iprop(Pipeline.ownSems0 osem c ∗ (bigSep Finset.univ fun k => roundState ER (sched osem amt hamt pay) (cell osem (c, k)) 0)))
        ∗ (bigSep Finset.univ fun ck : Dev nD × K => reached ER (cell osem ck) 0)
        ∗ (bigSep Finset.univ fun c : Dev nD => bigSep Finset.univ fun k => atPos ER (cell osem (c, k)) 0 ∅ 0)
        ∗ (bigSep Finset.univ fun c : Dev nD => bigSep Finset.univ fun k => dutyTok ER (cell osem (c, k)) 0 k)) := by
    unfold funded
    rw [bigSep_univ_prod (fun ck : Dev nD × K => (reached ER (cell osem ck) 0 : sProp 𝕄))]
    simp only [bigSep_sep']
    iintro ⟨H1, H2, H3, H4, H5⟩
    isplitl [H1 H2]; · isplitl [H1] <;> iassumption
    isplitl [H3]; · iexact H3
    isplitl [H4] <;> iassumption
  iintro H
  ihave H := hin $$ H
  icases H with ⟨H1, #Hr, Hat, Htok⟩
  imod hcores $$ H1 with HI
  imodintro
  ihave HK := (BI.bigSep_exists_pi Finset.univ (fun (ck : Dev nD × K) (κ : ℕ) => (cellInv ER (sched osem amt hamt pay) κ (cell osem ck) : sProp 𝕄))) $$ HI
  icases HK with ⟨%Kn, #HI⟩
  iexists Kn
  isplitr
  · unfold records; isplitr; · iexact HI
    iexact Hr
  isplitl [Hat] <;> iassumption

/-- What lasts may be handed to every part. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

end Cert.Exchange

end
-- ==== Proof.Slots.lean ====
/-
# An array in slots

An array of four axes with one slot per device, on axis 0 (`slot0`) or on axis 1 (`slot1`). A slot is the array's part at
one place of that axis, read without the axis. This file has, for any extents and any memref: where a slot's element lies
in the array (`read_slot0`, `read_slot1`); that the array held whole is its slots held one by one (`split0`, `split1`); and
that a slot written with what an array holds there holds it (`write_on`).
-/
module

public import Idealize.ShloMosaic.Lib.Pipeline.Frame
public import Idealize.ShloMosaic.Lib.Ring
public import Idealize.ShloMosaic.Lib.ValueLayout

@[expose] public section

noncomputable section

namespace Cert.Slots

open Idealize.ShloMosaic Idealize.ShloMosaic.TcCoe Idealize.ShloMosaic.ValueIdx Idealize.ShloMosaic.Ring
open Idealize.SL Idealize.SL.RA Idealize.SL.BI
open scoped Idealize.SL.BI
open Idealize.SL.BI.BIBase Idealize.SL.BI.Laws Idealize.SL.ProofMode

variable {sig : RefSig} {κ : Kind} {sp : Space} {e : EltTy} {W n r w : ℕ}

/-- The rectangle of slot `p` of axis 0, and that it lies in the array. -/
theorem inb0 (p : Fin W) : ∀ i : Fin 4, (![p.val, 0, 0, 0] : Fin 4 → ℕ) i + (⟨4, ![1, n, r, w]⟩ : Shape).size i ≤ (⟨4, ![W, n, r, w]⟩ : Shape).size i
  | ⟨0, _⟩ => p.isLt
  | ⟨1, _⟩ => (Nat.zero_add n).le
  | ⟨2, _⟩ => (Nat.zero_add r).le
  | ⟨3, _⟩ => (Nat.zero_add w).le

/-- The rectangle of slot `p` of axis 1, and that it lies in the array. -/
theorem inb1 (p : Fin W) : ∀ i : Fin 4, (![0, p.val, 0, 0] : Fin 4 → ℕ) i + (⟨4, ![n, 1, r, w]⟩ : Shape).size i ≤ (⟨4, ![n, W, r, w]⟩ : Shape).size i
  | ⟨0, _⟩ => (Nat.zero_add n).le
  | ⟨1, _⟩ => p.isLt
  | ⟨2, _⟩ => (Nat.zero_add r).le
  | ⟨3, _⟩ => (Nat.zero_add w).le

abbrev rect0 (p : Fin W) : Rect (⟨4, ![W, n, r, w]⟩ : Shape) := Rect.unit (s := ⟨4, ![W, n, r, w]⟩) ![p.val, 0, 0, 0] (⟨4, ![1, n, r, w]⟩ : Shape).size (inb0 p)
abbrev rect1 (p : Fin W) : Rect (⟨4, ![n, W, r, w]⟩ : Shape) := Rect.unit (s := ⟨4, ![n, W, r, w]⟩) ![0, p.val, 0, 0] (⟨4, ![n, 1, r, w]⟩ : Shape).size (inb1 p)

variable (N : Memref sig κ sp ⟨4, ![W, n, r, w]⟩ e) (M : Memref sig κ sp ⟨4, ![n, W, r, w]⟩ e)

/-- Slot `p` of an array with its slots on axis 0, on axis 1. -/
abbrev slot0 (h : (⟨4, ![1, n, r, w]⟩ : Shape).Squeezes ⟨3, ![n, r, w]⟩) (p : Fin W) : Memref sig κ sp ⟨3, ![n, r, w]⟩ e :=
  (N.slice (rect0 p) (fun _ => rfl)).squeeze ⟨3, ![n, r, w]⟩ h
abbrev slot1 (h : (⟨4, ![n, 1, r, w]⟩ : Shape).Squeezes ⟨3, ![n, r, w]⟩) (p : Fin W) : Memref sig κ sp ⟨3, ![n, r, w]⟩ e :=
  (M.slice (rect1 p) (fun _ => rfl)).squeeze ⟨3, ![n, r, w]⟩ h

/-! ## Where an element lies -/

theorem squeeze1 (h : (⟨3, ![n, r, w]⟩ : Shape).numel = (⟨4, ![n, 1, r, w]⟩ : Shape).numel) (x : Fin n) (y : Fin r) (z : Fin w) :
    Shape.reshapeEquiv h (ix3 x y z) = ix4 x (⟨0, Nat.one_pos⟩ : Fin 1) y z :=
  Shape.reshapeEquiv_eq_of_rowMajor h (by
    rw [Shape.rowMajor_val_four, Shape.rowMajor_val_three]
    show (((x.val * 1 + 0) * r + y.val) * w + z.val) = (x.val * r + y.val) * w + z.val
    rw [Nat.mul_one, Nat.add_zero])

variable {Val : EltTy → Type}

theorem read_slot0 (h) (p : Fin W) (g : N.view.ty.Contents Val) (x : Fin n) (y : Fin r) (z : Fin w) :
    (slot0 N h p).view.read Val g (ix3 x y z) = N.view.read Val g (ix4 p x y z) := by
  show N.view.read Val g ((rect0 p).emb (Shape.reshapeEquiv h.numel_eq (ix3 x y z))) = _
  rw [reshapeEquiv_ix3_1abc]
  congr 1
  funext i
  refine Fin.ext ?_
  rw [Rect.emb_apply]
  match i with
  | ⟨0, _⟩ => rfl
  | ⟨1, _⟩ => exact (Nat.zero_add _).trans (Nat.one_mul _)
  | ⟨2, _⟩ => exact (Nat.zero_add _).trans (Nat.one_mul _)
  | ⟨3, _⟩ => exact (Nat.zero_add _).trans (Nat.one_mul _)

theorem read_slot1 (h) (p : Fin W) (g : M.view.ty.Contents Val) (x : Fin n) (y : Fin r) (z : Fin w) :
    (slot1 M h p).view.read Val g (ix3 x y z) = M.view.read Val g (ix4 x p y z) := by
  show M.view.read Val g ((rect1 p).emb (Shape.reshapeEquiv h.numel_eq (ix3 x y z))) = _
  rw [squeeze1]
  congr 1
  funext i
  refine Fin.ext ?_
  rw [Rect.emb_apply]
  match i with
  | ⟨0, _⟩ => exact (Nat.zero_add _).trans (Nat.one_mul _)
  | ⟨1, _⟩ => rfl
  | ⟨2, _⟩ => exact (Nat.zero_add _).trans (Nat.one_mul _)
  | ⟨3, _⟩ => exact (Nat.zero_add _).trans (Nat.one_mul _)

/-- Written through a view with what `g` holds there, a buffer agrees with `g` under the view. -/
theorem write_on {s : Shape} (v : View sig κ sp s e) (f g : v.ty.Contents Val) (u : s.Idx → Val e) (h : ∀ x, v.read Val g x = u x) :
    ∀ i ∈ v.set, v.write Val f u Finset.univ i = g i := by
  intro i hi
  obtain ⟨x, -, rfl⟩ := Finset.mem_map.mp hi
  rw [View.write_emb_of_mem f u (Finset.mem_univ x), ← h x, View.read_apply, cast_cast, cast_eq]

/-! ## An array is its slots -/

theorem set_slot0 (h) (p : Fin W) : (slot0 N h p).view.set = (rect0 p).set.map N.view.emb := by
  exact (View.set_reshape _ _).trans (View.set_slice _ _)
theorem set_slot1 (h) (p : Fin W) : (slot1 M h p).view.set = (rect1 p).set.map M.view.emb := by
  exact (View.set_reshape _ _).trans (View.set_slice _ _)

variable {nD : ℕ} {τ : Topo} {Ix : Type} [DecidableEq Ix] {Name : Type} [DecidableEq Name] {U : Type} [URA U] {Lvl : Type}

local notation "𝕄" => MT nD τ sig Ix Val Name U Lvl

/-- Slots cover the array, and no two of them meet. -/
theorem cover {s : Shape} (v : View sig κ sp s e) (hv : v.set = Finset.univ) (R : Fin W → Rect s) (K : Fin W → Finset v.ty.Idx)
    (hK : ∀ p, K p = (R p).set.map v.emb) (hR : Finset.univ.biUnion (fun p => (R p).set) = Finset.univ) : Finset.univ.biUnion K = Finset.univ := by
  ext i
  simp only [Finset.mem_biUnion, Finset.mem_univ, true_and, iff_true]
  have hi : i ∈ v.set := by rw [hv]; exact Finset.mem_univ _
  obtain ⟨x, -, rfl⟩ := Finset.mem_map.mp hi
  have hx := Finset.mem_univ x
  rw [← hR] at hx
  obtain ⟨p, -, hp⟩ := Finset.mem_biUnion.mp hx
  exact ⟨p, by rw [hK]; exact Finset.mem_map_of_mem _ hp⟩

theorem apart {s : Shape} (v : View sig κ sp s e) (R : Fin W → Rect s) (K : Fin W → Finset v.ty.Idx)
    (hK : ∀ p, K p = (R p).set.map v.emb) (hR : ∀ p p', p ≠ p' → Disjoint (R p).set (R p').set) (p p' : Fin W) (h : p ≠ p') : Disjoint (K p) (K p') := by
  rw [hK, hK, Finset.disjoint_map]
  exact hR p p' h

theorem cover0 : Finset.univ.biUnion (fun p : Fin W => (rect0 (n := n) (r := r) (w := w) p).set) = Finset.univ :=
  lead_cover (s := ⟨4, ![W, n, r, w]⟩) (0 : Fin 4) 1 (fun p : Fin W => ![p.val, 0, 0, 0]) (⟨4, ![1, n, r, w]⟩ : Shape).size inb0 (fun p => (Nat.one_mul _).symm)
    (fun p a ha => by match a with | ⟨0, _⟩ => exact absurd rfl ha | ⟨1, _⟩ => rfl | ⟨2, _⟩ => rfl | ⟨3, _⟩ => rfl)
    rfl (fun a ha => by match a with | ⟨0, _⟩ => exact absurd rfl ha | ⟨1, _⟩ => rfl | ⟨2, _⟩ => rfl | ⟨3, _⟩ => rfl) (Nat.mul_one W)

theorem cover1 : Finset.univ.biUnion (fun p : Fin W => (rect1 (n := n) (r := r) (w := w) p).set) = Finset.univ :=
  lead_cover (s := ⟨4, ![n, W, r, w]⟩) (1 : Fin 4) 1 (fun p : Fin W => ![0, p.val, 0, 0]) (⟨4, ![n, 1, r, w]⟩ : Shape).size inb1 (fun p => (Nat.one_mul _).symm)
    (fun p a ha => by match a with | ⟨0, _⟩ => rfl | ⟨1, _⟩ => exact absurd rfl ha | ⟨2, _⟩ => rfl | ⟨3, _⟩ => rfl)
    rfl (fun a ha => by match a with | ⟨0, _⟩ => rfl | ⟨1, _⟩ => exact absurd rfl ha | ⟨2, _⟩ => rfl | ⟨3, _⟩ => rfl) (Nat.mul_one W)

theorem apart0 (p p' : Fin W) (h : p ≠ p') : Disjoint (rect0 (n := n) (r := r) (w := w) p).set (rect0 p').set :=
  lead_disjoint (s := ⟨4, ![W, n, r, w]⟩) (0 : Fin 4) 1 (fun p : Fin W => ![p.val, 0, 0, 0]) (⟨4, ![1, n, r, w]⟩ : Shape).size inb0 (fun p => (Nat.one_mul _).symm) rfl p p' h

theorem apart1 (p p' : Fin W) (h : p ≠ p') : Disjoint (rect1 (n := n) (r := r) (w := w) p).set (rect1 p').set :=
  lead_disjoint (s := ⟨4, ![n, W, r, w]⟩) (1 : Fin 4) 1 (fun p : Fin W => ![0, p.val, 0, 0]) (⟨4, ![n, 1, r, w]⟩ : Shape).size inb1 (fun p => (Nat.one_mul _).symm) rfl p p' h

/-- An array held whole is its slots held one by one: slots on axis 0, -/
theorem split0 {N : Memref sig .tc sp ⟨4, ![W, n, r, w]⟩ e} (hN : N.IsWhole) (h) (c : Dev nD) (q : PosShare TreeShare) (f : Buf Val (N.view.loc (c : Thread nD τ))) :
    (N.view.loc (c : Thread nD τ) ↦{q} f : sProp 𝕄) = bigSep Finset.univ fun p : Fin W => N.view.loc (c : Thread nD τ) ↦[(slot0 N h p).view.set]{q} f :=
  pointsTo_blocks (ℓ := N.view.loc (c : Thread nD τ)) (fun p : Fin W => (slot0 N h p).view.set)
    (apart N.view rect0 _ (set_slot0 N h) apart0) (cover N.view hN.set_eq_univ rect0 _ (set_slot0 N h) cover0) f

/-- and on axis 1. -/
theorem split1 {M : Memref sig .tc sp ⟨4, ![n, W, r, w]⟩ e} (hM : M.IsWhole) (h) (c : Dev nD) (q : PosShare TreeShare) (f : Buf Val (M.view.loc (c : Thread nD τ))) :
    (M.view.loc (c : Thread nD τ) ↦{q} f : sProp 𝕄) = bigSep Finset.univ fun p : Fin W => M.view.loc (c : Thread nD τ) ↦[(slot1 M h p).view.set]{q} f :=
  pointsTo_blocks (ℓ := M.view.loc (c : Thread nD τ)) (fun p : Fin W => (slot1 M h p).view.set)
    (apart M.view rect1 _ (set_slot1 M h) apart1) (cover M.view hM.set_eq_univ rect1 _ (set_slot1 M h) cover1) f

end Cert.Slots

end
-- ==== Proof.Program.lean ====
/-
# The exchange's body as lists of steps

The kernel's body, written over the five arrays `a` and the seven distances `k` instead of statement by statement: five
local copies, thirty-five copies to other devices, and a wait for each of them on either side. `body_eq` says that this
is the printed body, on every device.
-/
module

public import proofs.«01_k».proof.Proof.Exchange
public import proofs.«01_k».proof.Proof.Slots
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.Alltoall

open Cert.KernelIdeal Cert.KernelIdeal.Gen
open Idealize.ShloMosaic Idealize.ShloMosaic.TcCoe
open Idealize.SL Idealize.SL.Sem

set_option Elab.async false

variable {F : FTy → Type} [FloatOps F]

/-! ## The arrays -/

/-- Array `a`'s extents: how many matrices, their rows and their columns. -/
def nm : Fin 5 → ℕ := ![6, 1, 1, 1, 2]
def rw' : Fin 5 → ℕ := ![352, 864, 128, 128, 128]
def cl : Fin 5 → ℕ := ![1024, 1024, 1024, 256, 512]

/-- The argument's shape: one slot per device on axis 1. -/
abbrev inSh (a : Fin 5) : Shape := ⟨4, ![nm a, 8, rw' a, cl a]⟩
/-- The result's shape: one slot per device on axis 0. -/
abbrev outSh (a : Fin 5) : Shape := ⟨4, ![8, nm a, rw' a, cl a]⟩
/-- One slot, with its unit axis and without. -/
abbrev inSl (a : Fin 5) : Shape := ⟨4, ![nm a, 1, rw' a, cl a]⟩
abbrev outSl (a : Fin 5) : Shape := ⟨4, ![1, nm a, rw' a, cl a]⟩
abbrev blk (a : Fin 5) : Shape := ⟨3, ![nm a, rw' a, cl a]⟩

def inR : Fin 5 → Ref sig .tc := ![main_arg0, main_arg1, main_arg2, main_arg3, main_arg4]
def outR : Fin 5 → Ref sig .tc := ![main_v1_0, main_v1_1, main_v1_2, main_v1_3, main_v1_4]

/-- Argument `a`, and result `a`, whole. -/
def inM : (a : Fin 5) → Memref sig .tc .hbm (inSh a) .bf16
  | ⟨0, _⟩ => Memref.whole main_arg0
  | ⟨1, _⟩ => Memref.whole main_arg1
  | ⟨2, _⟩ => Memref.whole main_arg2
  | ⟨3, _⟩ => Memref.whole main_arg3
  | ⟨4, _⟩ => Memref.whole main_arg4

def outM : (a : Fin 5) → Memref sig .tc .hbm (outSh a) .bf16
  | ⟨0, _⟩ => Memref.whole main_v1_0
  | ⟨1, _⟩ => Memref.whole main_v1_1
  | ⟨2, _⟩ => Memref.whole main_v1_2
  | ⟨3, _⟩ => Memref.whole main_v1_3
  | ⟨4, _⟩ => Memref.whole main_v1_4

theorem inM_whole : ∀ a, (inM a).IsWhole
  | ⟨0, _⟩ => Memref.isWhole_whole _
  | ⟨1, _⟩ => Memref.isWhole_whole _
  | ⟨2, _⟩ => Memref.isWhole_whole _
  | ⟨3, _⟩ => Memref.isWhole_whole _
  | ⟨4, _⟩ => Memref.isWhole_whole _

theorem outM_whole : ∀ a, (outM a).IsWhole
  | ⟨0, _⟩ => Memref.isWhole_whole _
  | ⟨1, _⟩ => Memref.isWhole_whole _
  | ⟨2, _⟩ => Memref.isWhole_whole _
  | ⟨3, _⟩ => Memref.isWhole_whole _
  | ⟨4, _⟩ => Memref.isWhole_whole _

/-! ## The slots -/

theorem inWords : ∀ (a : Fin 5) (p : Fin 8), (Slots.rect1 (n := nm a) (r := rw' a) (w := cl a) p).WholeWords (EltTy.packing .bf16) := by decide +kernel
theorem outWords : ∀ (a : Fin 5) (p : Fin 8), (Slots.rect0 (n := nm a) (r := rw' a) (w := cl a) p).WholeWords (EltTy.packing .bf16) := by decide +kernel
theorem inSq : ∀ a : Fin 5, (inSl a).Squeezes (blk a) := by decide +kernel
theorem outSq : ∀ a : Fin 5, (outSl a).Squeezes (blk a) := by decide +kernel

/-- Slot `p` of argument `a`, of result `a`. -/
def src (a : Fin 5) (p : Fin 8) : Memref sig .tc .hbm (blk a) .bf16 := Slots.slot1 (inM a) (inSq a) p
def dst (a : Fin 5) (p : Fin 8) : Memref sig .tc .hbm (blk a) .bf16 := Slots.slot0 (outM a) (outSq a) p

theorem src_exact (a : Fin 5) (p : Fin 8) : (src a p).view.WordExact := ((inM_whole a).wordExact_slice rfl _ (inWords a p)).reshape _ _
theorem dst_exact (a : Fin 5) (p : Fin 8) : (dst a p).view.WordExact := ((outM_whole a).wordExact_slice rfl _ (outWords a p)).reshape _ _

/-! ## The semaphores -/

theorem inb35 : ∀ (j : Fin 35) (i : Fin 1), (![j.val] : Fin 1 → ℕ) i + S1.size i ≤ S35.size i := by decide +kernel
theorem inb5 : ∀ (j : Fin 5) (i : Fin 1), (![j.val] : Fin 1 → ℕ) i + S1.size i ≤ S5.size i := by decide +kernel

/-- The number of array `a`'s transfer over distance `k + 1`. -/
def num (a : Fin 5) (k : Fin 7) : Fin 35 := ⟨a.val * 7 + k.val, by have := a.isLt; have := k.isLt; omega⟩

def sendSem (j : Fin 35) : DmaSem sig := ((cc0_scratch0.slice (Rect.unit (s := S35) ![j.val] S1.size (inb35 j))).squeeze S_ squeezes_S1_S_).sem
def recvSem (j : Fin 35) : DmaSem sig := ((cc0_scratch1.slice (Rect.unit (s := S35) ![j.val] S1.size (inb35 j))).squeeze S_ squeezes_S1_S_).sem
def locSem (j : Fin 5) : DmaSem sig := ((cc0_scratch2.slice (Rect.unit (s := S5) ![j.val] S1.size (inb5 j))).squeeze S_ squeezes_S1_S_).sem

/-- The device at distance `k + 1`: the devices are numbered by three bits, and `k + 1` says which of them differ. -/
def peer (k : Fin 7) (d : Dev nD) : Dev nD := ⟨d.val ^^^ (k.val + 1), Nat.xor_lt_two_pow (n := 3) d.isLt (by have := k.isLt; omega)⟩

/-! ## The steps -/

abbrev Pg (F : FTy → Type) := Prog (TpuEff nD τ sig (Elt F) Λ₀ .tc) PUnit

/-- Copy the device's own slot. -/
def locStart (d : Dev nD) (a : Fin 5) (p : Pg F) : Pg F :=
  .op (.enqueueDma (src a d) (.here (dst a d)) (.dma (locSem a)) (src_exact a d) (dst_exact a d) ⟨Or.inl rfl, trivial⟩) fun _ => p
/-- Send the slot of the device at distance `k + 1` to it. -/
def sendStart (d : Dev nD) (j : Fin 7 × Fin 5) (p : Pg F) : Pg F :=
  .op (.enqueueDma (src j.2 (peer j.1 d)) (.remote (Dev.tc (peer j.1 d)) (dst j.2 d) (.dma (sendSem (num j.2 j.1)))) (.dma (recvSem (num j.2 j.1)))
    (src_exact _ _) (dst_exact _ _) ⟨⟨rfl, Or.inl rfl⟩, trivial⟩) fun _ => p
/-- Wait for what the device at distance `k + 1` sends. -/
def recvWait (d : Dev nD) (j : Fin 7 × Fin 5) (p : Pg F) : Pg F :=
  .op (.waitDma2 (recvSem (num j.2 j.1)) (src j.2 (peer j.1 d)) (dst j.2 (peer j.1 d)) (src_exact _ _) (dst_exact _ _)) fun _ => p
/-- Wait until the send to it has left. -/
def sendWait (d : Dev nD) (j : Fin 7 × Fin 5) (p : Pg F) : Pg F :=
  .op (.waitDma2 (sendSem (num j.2 j.1)) (dst j.2 d) (src j.2 (peer j.1 d)) (dst_exact _ _) (src_exact _ _)) fun _ => p
/-- Wait for the device's own copy. -/
def locWait (d : Dev nD) (a : Fin 5) (p : Pg F) : Pg F :=
  .op (.waitDma2 (locSem a) (src a d) (dst a d) (src_exact _ _) (dst_exact _ _)) fun _ => p

/-- The arrays, and the transfers in the order they are issued in. -/
def arrs : List (Fin 5) := [0, 1, 2, 3, 4]
def dists : List (Fin 7) := [0, 1, 2, 3, 4, 5, 6]
def sends : List (Fin 7 × Fin 5) := dists.flatMap fun k => arrs.map fun a => (k, a)

/-- The body after its device is known. -/
def prog (d : Dev nD) : Pg F :=
  arrs.foldr (locStart d) <| sends.foldr (sendStart d) <| sends.foldr (recvWait d) <| sends.foldr (sendWait d) <| arrs.foldr (locWait d) <| .ret ⟨⟩

/-- What a program that begins by asking for its device does on device `d`. -/
def onDev {α : Type} (d : Dev nD) : Prog (TpuEff nD τ sig (Elt F) Λ₀ .tc) α → Prog (TpuEff nD τ sig (Elt F) Λ₀ .tc) α
  | .op .deviceId k => k d
  | p => p

/-- The printed body, at the call's operands. -/
abbrev printed : Prog (TpuEff nD τ sig (Elt F) Λ₀ .tc) PUnit :=
  cc0_scatter_grads_l0 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) cc0_scratch0 cc0_scratch1 cc0_scratch2

/-- The printed body asks for its device first. -/
theorem printed_asks : (printed (F := F)) = .op .deviceId fun d => onDev d printed := by chain_rfl

theorem printed_on (d : Dev nD) : onDev d (printed (F := F)) = prog d := by
  fin_cases d <;> chain_rfl

end Cert.Alltoall

end
-- ==== Proof.Walk.lean ====
/-
# One device's walk through the exchange

The semaphores as a family over `Key`, what each of them hands over (`pay`), and the body's run on device `c` from the
slots, tokens and credits it starts with to the slots it ends with (`walk`).
-/
module

public import proofs.«01_k».proof.Proof.Program

@[expose] public section

noncomputable section

namespace Cert.Alltoall

open Cert.KernelIdeal Cert.KernelIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

/-! ## The semaphores -/

/-- A transfer: its distance and its array. -/
abbrev J : Type := Fin 7 × Fin 5
/-- The semaphores: a send's, a receive's, a local copy's. -/
abbrev Key : Type := (J ⊕ J) ⊕ Fin 5
abbrev kS (j : J) : Key := .inl (.inl j)
abbrev kR (j : J) : Key := .inl (.inr j)
abbrev kL (a : Fin 5) : Key := .inr a

def osem : Key → SemLoc sig
  | .inl (.inl j) => .dma (sendSem (num j.2 j.1))
  | .inl (.inr j) => .dma (recvSem (num j.2 j.1))
  | .inr a => .dma (locSem a)

/-- Where a semaphore lies. -/
def place : Key → ℕ
  | .inl (.inl j) => j.2.val * 7 + j.1.val
  | .inl (.inr j) => 35 + (j.2.val * 7 + j.1.val)
  | .inr a => 70 + a.val

theorem send_place : ∀ j : Fin 35, (sendSem j).val = j.val := by decide +kernel
theorem recv_place : ∀ j : Fin 35, (recvSem j).val = 35 + j.val := by decide +kernel
theorem loc_place : ∀ a : Fin 5, (locSem a).val = 70 + a.val := by decide +kernel

theorem osem_place : ∀ k : Key, ∃ s : DmaSem sig, osem k = .dma s ∧ s.val = place k
  | .inl (.inl j) => ⟨_, rfl, send_place _⟩
  | .inl (.inr j) => ⟨_, rfl, recv_place _⟩
  | .inr a => ⟨_, rfl, loc_place _⟩

theorem place_inj : Function.Injective place := by
  rintro ((⟨⟨k, hk⟩, ⟨a, ha⟩⟩ | ⟨⟨k, hk⟩, ⟨a, ha⟩⟩) | ⟨a, ha⟩) ((⟨⟨k', hk'⟩, ⟨a', ha'⟩⟩ | ⟨⟨k', hk'⟩, ⟨a', ha'⟩⟩) | ⟨a', ha'⟩) h <;>
    simp only [place] at h <;>
    first
    | (obtain ⟨rfl, rfl⟩ : k = k' ∧ a = a' := by omega
       rfl)
    | (obtain rfl : a = a' := by omega
       rfl)
    | (exfalso; omega)

theorem osem_inj : Function.Injective osem := by
  intro k k' h
  obtain ⟨s, hs, hp⟩ := osem_place k
  obtain ⟨s', hs', hp'⟩ := osem_place k'
  rw [hs, hs'] at h
  have : s = s' := SemLoc.dma.inj h
  exact place_inj (by rw [← hp, ← hp', this])

/-- The units a slot of array `a` credits. -/
def units (a : Fin 5) : ℕ := (dst a 0).view.dmaCredit

theorem dst_units : ∀ (a : Fin 5) (p : Fin 8), (dst a p).view.dmaCredit = units a
  | ⟨0, _⟩, _ => rfl
  | ⟨1, _⟩, _ => rfl
  | ⟨2, _⟩, _ => rfl
  | ⟨3, _⟩, _ => rfl
  | ⟨4, _⟩, _ => rfl

theorem src_units : ∀ (a : Fin 5) (p : Fin 8), (src a p).view.dmaCredit = units a
  | ⟨0, _⟩, _ => rfl
  | ⟨1, _⟩, _ => rfl
  | ⟨2, _⟩, _ => rfl
  | ⟨3, _⟩, _ => rfl
  | ⟨4, _⟩, _ => rfl

theorem blk_pos : ∀ a : Fin 5, 0 < (blk a).numel := by decide +kernel
theorem units_pos (a : Fin 5) : 0 < units a := View.dmaCredit_pos _ (blk_pos a)

def amt : Key → ℕ
  | .inl (.inl j) => units j.2
  | .inl (.inr j) => units j.2
  | .inr a => units a

theorem amt_pos : ∀ k, 0 < amt k
  | .inl (.inl j) => units_pos _
  | .inl (.inr j) => units_pos _
  | .inr a => units_pos _

theorem peer_peer (k : Fin 7) (c : Dev nD) : peer k (peer k c) = c :=
  Fin.ext (by show (c.val ^^^ (k.val + 1)) ^^^ (k.val + 1) = c.val; rw [Nat.xor_assoc, Nat.xor_self, Nat.xor_zero])

/-! ## The slots and what is handed over -/

variable {F : FTy → Type} [FloatOps F]

abbrev UA : Type := UK nD τ sig Key
local notation "𝕄" => MT nD τ sig Unit (Elt F) ℕ UA ℕ

variable (m : (ℓ : Loc nD τ sig) → Buf (Elt F) ℓ)

/-- Slot `p` of device `c`'s argument `a`, and of its result `a`, at what the launch finds there. -/
def srcAt (c : Dev nD) (a : Fin 5) (p : Fin 8) : sProp 𝕄 :=
  (inM a).view.loc (c : Thread nD τ) ↦[(src a p).view.set]{fullShare} m ((inM a).view.loc (c : Thread nD τ))
def dstAt (c : Dev nD) (a : Fin 5) (p : Fin 8) : sProp 𝕄 :=
  (outM a).view.loc (c : Thread nD τ) ↦[(dst a p).view.set]{fullShare} m ((outM a).view.loc (c : Thread nD τ))

/-- What device `d`'s argument `a` holds in the slot of device `c`. -/
def sent (d : Dev nD) (a : Fin 5) (c : Fin 8) : (blk a).Idx → Elt F .bf16 := (src a c).view.read (Elt F) (m ((inM a).view.loc (d : Thread nD τ)))

/-- Slot `p` of device `c`'s result `a` after device `p`'s slot for `c` has been written there. -/
def gotAt (c : Dev nD) (a : Fin 5) (p : Fin 8) : sProp 𝕄 :=
  (outM a).view.loc (c : Thread nD τ) ↦[(dst a p).view.set]{fullShare}
    ((dst a p).view.write (Elt F) (m ((outM a).view.loc (c : Thread nD τ))) (sent m p a c) Finset.univ)

/-- What a semaphore hands its waiter: a send gives the source back, a receive gives the slot as written, a local copy both. -/
def pay (c : Dev nD) : Key → sProp 𝕄
  | .inl (.inl j) => srcAt m c j.2 (peer j.1 c)
  | .inl (.inr j) => gotAt m c j.2 (peer j.1 c)
  | .inr a => iprop(gotAt m c a c ∗ srcAt m c a c)

theorem keeps (ℓ : Loc nD τ sig) (I : Finset (Idx ℓ)) (f : Buf (Elt F) ℓ) : BI.Storable (upEmb : UEmb _ 𝕄) (ℓ ↦[I]{fullShare} f : sProp 𝕄) := inferInstance
instance srcAt_keeps (c : Dev nD) (a : Fin 5) (p : Fin 8) : BI.Storable (upEmb : UEmb _ 𝕄) (srcAt m c a p) := keeps _ _ _
instance gotAt_keeps (c : Dev nD) (a : Fin 5) (p : Fin 8) : BI.Storable (upEmb : UEmb _ 𝕄) (gotAt m c a p) := keeps _ _ _

instance payable : Payable (pay m) where
  storable c k := match k with
    | .inl (.inl j) => srcAt_keeps m c _ _
    | .inl (.inr j) => gotAt_keeps m c _ _
    | .inr a => (inferInstance : BI.Storable (upEmb : UEmb _ 𝕄) iprop(gotAt m c a c ∗ srcAt m c a c))

/-! ## The steps -/

abbrev 𝒱₀ : Variants := Variants.none

section Walk
variable {m} {Kn : Dev nD × Key → ℕ} (c : Dev nD)

abbrev recs (Kn : Dev nD × Key → ℕ) : sProp 𝕄 := records osem amt amt_pos (pay m) Kn
abbrev wpc (c : Dev nD) (p : Pg F) (Q : PUnit → sProp 𝕄) : sProp 𝕄 := wp frame (wpE (defs₀ (F := F)) 𝒱₀ (c : Thread nD τ) none) Set.univ p Q
abbrev tok (c : Dev nD) (k : Key) : sProp 𝕄 := dutyTok ER (cell osem (c, k)) 0 k
abbrev at₀ (c : Dev nD) (k : Key) : sProp 𝕄 := atPos ER (cell osem (c, k)) 0 ∅ 0
abbrev at₁ (c : Dev nD) (k : Key) : sProp 𝕄 := atPos ER (cell osem (c, k)) 1 ∅ 0
abbrev crd (c : Dev nD) (k : Key) : sProp 𝕄 := cred (tallyAt (cell osem (c, k)) () (amt k))

/-- What device `c` owes while the sends `l` are still to be issued. -/
def owed (c : Dev nD) : List J → CellTallies nD τ sig Unit
  | [] => 0
  | j :: l => owed c l + tallyAt (cell osem (peer j.1 c, kR j)) () (amt (kR j))

theorem loc_step (a : Fin 5) (p : Pg F) (Q : PUnit → sProp 𝕄) :
    iprop(recs (m := m) Kn ∗ (srcAt m c a c ∗ dstAt m c a c ∗ tok c (kL a)) ∗ emp)
      ⊢ iprop(((crd c (kL a) ∗ emp) -∗ wpc c p Q) -∗ wpc c (locStart c a p) Q) := by
  have h := step_copy (osem := osem) (amt := amt) (hamt := amt_pos) (pay := pay m) (defs := defs₀ (F := F)) (𝒱 := 𝒱₀) osem_inj (Kn := Kn) (Q := Q) c (kL a)
    (src := src a c) (dst := dst a c) (sem := .dma (locSem a)) (hsrc := src_exact a c) (hdst := dst_exact a c) (hsem := ⟨Or.inl rfl, trivial⟩) (kk := fun _ => p)
    fullShare (m ((inM a).view.loc (c : Thread nD τ))) (m ((outM a).view.loc (c : Thread nD τ))) rfl (dst_units a c) .rfl
  unfold srcAt dstAt
  iintro ⟨#HR, ⟨Hs, Hd, Ht⟩, -⟩ Hk
  iapply h $$ [Hs Hd Ht]
  · isplitr; · iexact HR
    isplitl [Hs]; · iexact Hs
    isplitl [Hd]; · iexact Hd
    iexact Ht
  iintro Hc
  iapply Hk
  isplitl [Hc]; · iexact Hc
  iempintro

theorem send_step (j : J) (l : List J) (p : Pg F) (Q : PUnit → sProp 𝕄) :
    iprop(recs (m := m) Kn ∗ (srcAt m c j.2 (peer j.1 c) ∗ dstAt m (peer j.1 c) j.2 c ∗ tok c (kS j) ∗ tok (peer j.1 c) (kR j)) ∗ owesW c (owed c (j :: l)))
      ⊢ iprop(((crd c (kS j) ∗ owesW c (owed c l)) -∗ wpc c p Q) -∗ wpc c (sendStart c j p) Q) := by
  have h := step_send (osem := osem) (amt := amt) (hamt := amt_pos) (pay := pay m) (defs := defs₀ (F := F)) (𝒱 := 𝒱₀) osem_inj (Kn := Kn) (Q := Q) c (peer j.1 c) (kS j) (kR j)
    (src := src j.2 (peer j.1 c)) (n := peer j.1 c) (dst := dst j.2 c) (sS := .dma (sendSem (num j.2 j.1))) (sem := .dma (recvSem (num j.2 j.1)))
    (hsrc := src_exact _ _) (hdst := dst_exact _ _) (hsc := rfl) (hsem := ⟨⟨rfl, Or.inl rfl⟩, trivial⟩) (kk := fun _ => p)
    fullShare (m ((inM j.2).view.loc (c : Thread nD τ))) (m ((outM j.2).view.loc (peer j.1 c : Thread nD τ))) rfl rfl rfl (dst_units j.2 c) rfl (owed c l) (by routes) .rfl
    (by
      have hp : ∀ d, d = c → (gotAt m (peer j.1 c) j.2 c ⊢ gotAt m (peer j.1 c) j.2 d) := fun _ h => h ▸ .rfl
      exact hp _ (peer_peer j.1 c))
  unfold srcAt dstAt
  iintro ⟨#HR, ⟨Hs, Hd, Ht1, Ht2⟩, HO⟩ Hk
  iapply h $$ [Hs Hd Ht1 Ht2 HO]
  · isplitr; · iexact HR
    isplitl [Hs]; · iexact Hs
    isplitl [Hd]; · iexact Hd
    isplitl [Ht1]; · iexact Ht1
    isplitl [Ht2]; · iexact Ht2
    iexact HO
  iexact Hk

/-- A wait, nothing owed. -/
theorem wait_step (k : Key) {s : Shape} {sem : DmaSem sig} {u v : Memref sig .tc .hbm s .bf16} {hu : u.view.WordExact} {hv : v.view.WordExact}
    (hs : SemLoc.dma sem = osem k) (hN : v.view.dmaCredit = amt k) (p : Pg F) (Q : PUnit → sProp 𝕄) :
    iprop(recs (m := m) Kn ∗ (crd c k ∗ at₀ c k) ∗ owesW c 0)
      ⊢ iprop((((at₁ c k ∗ pay m c k) ∗ owesW c 0) -∗ wpc c p Q) -∗ wpc c (.op (.waitDma2 sem u v hu hv) fun _ => p) Q) := by
  have h := step_wait (osem := osem) (amt := amt) (hamt := amt_pos) (pay := pay m) (defs := defs₀ (F := F)) (𝒱 := 𝒱₀) osem_inj (Kn := Kn) (Q := Q) c k
    (src := u) (dst := v) (sem := sem) (hsrc := hu) (hdst := hv) (kk := fun _ => p) hs hN 0
  rw [MayWait_zero] at h
  iintro ⟨#HR, ⟨Hc, Ha⟩, HO⟩ Hk
  iapply h $$ [Hc Ha HO]
  · isplitr; · iexact HR
    isplitl [Hc]; · iexact Hc
    isplitl [HO]; · iexact HO
    isplitr; · iempintro
    iexact Ha
  iintro ⟨HO, Ha, Hp⟩
  iapply Hk
  isplitr [HO]
  · isplitl [Ha] <;> iassumption
  iexact HO

/-- What device `c` starts its walk with. -/
def begin (m : (ℓ : Loc nD τ sig) → Buf (Elt F) ℓ) (c : Dev nD) : sProp 𝕄 :=
  iprop(bigSepL arrs (fun a => iprop(srcAt m c a c ∗ dstAt m c a c ∗ tok c (kL a)))
    ∗ bigSepL sends (fun j => iprop(srcAt m c j.2 (peer j.1 c) ∗ dstAt m (peer j.1 c) j.2 c ∗ tok c (kS j) ∗ tok (peer j.1 c) (kR j)))
    ∗ bigSepL sends (fun j => crd c (kR j))
    ∗ bigSepL sends (fun j => at₀ c (kR j)) ∗ bigSepL sends (fun j => at₀ c (kS j)) ∗ bigSepL arrs (fun a => at₀ c (kL a)))

/-- What it ends with. -/
def finish (m : (ℓ : Loc nD τ sig) → Buf (Elt F) ℓ) (c : Dev nD) : sProp 𝕄 :=
  iprop(bigSepL sends (fun j => iprop(at₁ c (kR j) ∗ gotAt m c j.2 (peer j.1 c)))
    ∗ bigSepL sends (fun j => iprop(at₁ c (kS j) ∗ srcAt m c j.2 (peer j.1 c)))
    ∗ bigSepL arrs (fun a => iprop(at₁ c (kL a) ∗ gotAt m c a c ∗ srcAt m c a c)))

theorem zip_sep {β : Type} (l : List β) (Φ Ψ : β → sProp 𝕄) : iprop(bigSepL l Φ ∗ bigSepL l Ψ) ⊢ bigSepL l fun b => iprop(Φ b ∗ Ψ b) := by
  induction l with
  | nil => rw [bigSepL_nil, bigSepL_nil, bigSepL_nil]; iintro -; iempintro
  | cons b l ih =>
    rw [bigSepL_cons', bigSepL_cons', bigSepL_cons']
    iintro ⟨⟨H1, H2⟩, H3, H4⟩
    isplitl [H1 H3]; · isplitl [H1] <;> iassumption
    iapply ih; isplitl [H2] <;> iassumption

theorem walk (m : (ℓ : Loc nD τ sig) → Buf (Elt F) ℓ) (Q : PUnit → sProp 𝕄) :
    iprop(recs (m := m) Kn ∗ begin m c ∗ owesW c (owed c sends)) ⊢ iprop(((finish m c ∗ owesW c 0) -∗ Q ⟨⟩) -∗ wpc c (prog c) Q) := by
  unfold begin finish prog
  iintro ⟨#HR, ⟨HL, HS, Hcr, HaR, HaS, HaL⟩, HO⟩ Hk
  iapply (phase (defs := defs₀ (F := F)) (𝒱 := 𝒱₀) (Q := Q) c (locStart c) (recs (m := m) Kn) (fun a => iprop(srcAt m c a c ∗ dstAt m c a c ∗ tok c (kL a))) (fun a => crd c (kL a)) (fun _ => iprop(emp))
    (fun a _ p => loc_step c a p Q) _ arrs) $$ [HL]
  · isplitr; · iexact HR
    isplitl [HL]; · iexact HL
    iempintro
  iintro ⟨HcL, -⟩
  iapply (phase (defs := defs₀ (F := F)) (𝒱 := 𝒱₀) (Q := Q) c (sendStart c) (recs (m := m) Kn) _ (fun j => crd c (kS j)) (fun l => owesW c (owed c l))
    (fun j l p => send_step c j l p Q) _ sends) $$ [HS HO]
  · isplitr; · iexact HR
    isplitl [HS]; · iexact HS
    iexact HO
  iintro ⟨HcS, HO⟩
  iapply (phase (defs := defs₀ (F := F)) (𝒱 := 𝒱₀) (Q := Q) c (recvWait c) (recs (m := m) Kn) (fun j => iprop(crd c (kR j) ∗ at₀ c (kR j))) (fun j => iprop(at₁ c (kR j) ∗ pay m c (kR j))) (fun _ => owesW c 0)
    (fun j _ p => wait_step c (kR j) rfl (dst_units _ _) p Q) _ sends) $$ [Hcr HaR HO]
  · isplitr; · iexact HR
    isplitr [HO]
    · iapply zip_sep; isplitl [Hcr] <;> iassumption
    iexact HO
  iintro ⟨H1, HO⟩
  iapply (phase (defs := defs₀ (F := F)) (𝒱 := 𝒱₀) (Q := Q) c (sendWait c) (recs (m := m) Kn) (fun j => iprop(crd c (kS j) ∗ at₀ c (kS j))) (fun j => iprop(at₁ c (kS j) ∗ pay m c (kS j))) (fun _ => owesW c 0)
    (fun j _ p => wait_step c (kS j) rfl (src_units _ _) p Q) _ sends) $$ [HcS HaS HO]
  · isplitr; · iexact HR
    isplitr [HO]
    · iapply zip_sep; isplitl [HcS] <;> iassumption
    iexact HO
  iintro ⟨H2, HO⟩
  iapply (phase (defs := defs₀ (F := F)) (𝒱 := 𝒱₀) (Q := Q) c (locWait c) (recs (m := m) Kn) (fun a => iprop(crd c (kL a) ∗ at₀ c (kL a))) (fun a => iprop(at₁ c (kL a) ∗ pay m c (kL a))) (fun _ => owesW c 0)
    (fun a _ p => wait_step c (kL a) rfl (dst_units _ _) p Q) _ arrs) $$ [HcL HaL HO]
  · isplitr; · iexact HR
    isplitr [HO]
    · iapply zip_sep; isplitl [HcL] <;> iassumption
    iexact HO
  iintro ⟨H3, HO⟩
  rw [wp_ret]
  imodintro
  iapply Hk
  isplitr [HO]
  · isplitl [H1]; · iexact H1
    isplitl [H2]; · iexact H2
    iexact H3
  iexact HO

end Walk

end Cert.Alltoall

end
-- ==== Proof.Deal.lean ====
/-
# Dealing the slots and the tokens, and collecting them

At launch every device's memory is cut into slots and every slot of a result goes to the device that will write it
(`opening`); at the end the slots of a device are its arrays again, and result `a` of device `c` holds in slot `p` what
argument `a` of device `p` holds in slot `c` (`closing`).
-/
module

public import proofs.«01_k».proof.Proof.SharedLaunch
public import proofs.«01_k».proof.Proof.Walk

@[expose] public section

noncomputable section

namespace Cert.Alltoall

open Cert.KernelIdeal Cert.KernelIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]
local notation "𝕄" => MT nD τ sig Unit (Elt F) ℕ UA ℕ
variable (m : (ℓ : Loc nD τ sig) → Buf (Elt F) ℓ)

/-! ## Lists and families -/

theorem arrs_all (Φ : Fin 5 → sProp 𝕄) : bigSepL arrs Φ = bigSep Finset.univ Φ :=
  (bigSep_univ_eq_bigSepL arrs (by decide) (by decide) Φ).symm
theorem sends_all (Φ : J → sProp 𝕄) : bigSepL sends Φ = bigSep Finset.univ Φ :=
  (bigSep_univ_eq_bigSepL sends (by decide +kernel) (by decide +kernel) Φ).symm

/-- The devices, seen from `c`. -/
def around (c : Dev nD) : Fin 8 ≃ Dev nD where
  toFun k := ⟨c.val ^^^ k.val, Nat.xor_lt_two_pow (n := 3) c.isLt k.isLt⟩
  invFun d := ⟨c.val ^^^ d.val, Nat.xor_lt_two_pow (n := 3) c.isLt d.isLt⟩
  left_inv k := Fin.ext (by show c.val ^^^ (c.val ^^^ k.val) = k.val; rw [← Nat.xor_assoc, Nat.xor_self, Nat.zero_xor])
  right_inv d := Fin.ext (by show c.val ^^^ (c.val ^^^ d.val) = d.val; rw [← Nat.xor_assoc, Nat.xor_self, Nat.zero_xor])

theorem around_zero (c : Dev nD) : around c 0 = c := Fin.ext (Nat.xor_zero _)
theorem around_succ (c : Dev nD) (k : Fin 7) : around c k.succ = peer k c := rfl

/-- All devices are one and those at the seven distances. -/
theorem self_and_peers (c : Dev nD) (Φ : Dev nD → sProp 𝕄) :
    bigSep Finset.univ Φ = iprop(Φ c ∗ bigSep Finset.univ fun k : Fin 7 => Φ (peer k c)) := by
  rw [bigSep_univ_equiv (around c), Fin.univ_succ, Finset.cons_eq_insert, bigSep_insert (by simp [Fin.succ_ne_zero]), bigSep_map, around_zero]
  rfl

/-- The device at a distance, as a rearrangement of the devices. -/
def swap (k : Fin 7) : Dev nD ≃ Dev nD := ⟨peer k, peer k, peer_peer k, peer_peer k⟩

/-- What every device has for each transfer, handed to the device at the other end. -/
theorem swap_all (Θ : J → Dev nD → sProp 𝕄) :
    (bigSep Finset.univ fun c : Dev nD => bigSep Finset.univ fun j : J => Θ j c) = bigSep Finset.univ fun c : Dev nD => bigSep Finset.univ fun j : J => Θ j (peer j.1 c) := by
  rw [bigSep_univ_comm, bigSep_univ_comm (fun (c : Dev nD) (j : J) => Θ j (peer j.1 c))]
  exact bigSep_congr fun j _ => bigSep_univ_equiv (swap j.1) (Θ j)

/-- Slots by device are the device's own and those of the seven others. -/
theorem by_transfer (c : Dev nD) (Φ : Fin 5 → Dev nD → sProp 𝕄) :
    (bigSep Finset.univ fun a => bigSep Finset.univ fun p => Φ a p)
      = iprop((bigSep Finset.univ fun a => Φ a c) ∗ bigSep Finset.univ fun j : J => Φ j.2 (peer j.1 c)) := by
  rw [bigSep_congr (Ψ := fun a => iprop(Φ a c ∗ bigSep Finset.univ fun k : Fin 7 => Φ a (peer k c))) fun a _ => self_and_peers c (Φ a), bigSep_sep',
    bigSep_univ_comm (fun (a : Fin 5) (k : Fin 7) => Φ a (peer k c)), bigSep_univ_prod (fun j : J => Φ j.2 (peer j.1 c))]

/-! ## The memory -/

/-- Argument `a` of device `c`, and result `a`, whole, at contents. -/
abbrev inAll (c : Dev nD) (a : Fin 5) (f : Buf (Elt F) ((inM a).view.loc (c : Thread nD τ))) : sProp 𝕄 := (inM a).view.loc (c : Thread nD τ) ↦{fullShare} f
abbrev outAll (c : Dev nD) (a : Fin 5) (f : Buf (Elt F) ((outM a).view.loc (c : Thread nD τ))) : sProp 𝕄 := (outM a).view.loc (c : Thread nD τ) ↦{fullShare} f

theorem bufs_eq (c : Dev nD) :
    (unscopedBufs c (fun b => m ((c.tc : Thread nD τ).loc b)) : sProp 𝕄)
      = iprop((bigSep Finset.univ fun a => inAll c a (m _)) ∗ bigSep Finset.univ fun a => outAll c a (m _)) := by
  unfold unscopedBufs
  rw [bigSep_eq_bigSepL_of_eq (arrs.map inR ++ arrs.map outR) (by decide +kernel) (by decide +kernel), bigSepL_append, bigSepL_map, bigSepL_map, ← arrs_all, ← arrs_all]
  rfl

theorem in_slots (c : Dev nD) :
    (bigSep Finset.univ fun a => inAll (F := F) c a (m _)) = iprop((bigSep Finset.univ fun a => srcAt m c a c) ∗ bigSep Finset.univ fun j : J => srcAt m c j.2 (peer j.1 c)) := by
  rw [← by_transfer c (fun a p => srcAt m c a p)]
  exact bigSep_congr fun a _ => Slots.split1 (inM_whole a) (inSq a) c fullShare _

theorem out_slots (c : Dev nD) :
    (bigSep Finset.univ fun a => outAll (F := F) c a (m _)) = iprop((bigSep Finset.univ fun a => dstAt m c a c) ∗ bigSep Finset.univ fun j : J => dstAt m c j.2 (peer j.1 c)) := by
  rw [← by_transfer c (fun a p => dstAt m c a p)]
  exact bigSep_congr fun a _ => Slots.split0 (outM_whole a) (outSq a) c fullShare _

/-! ## The opening -/

/-- What device `c` starts with, its credits not counted. -/
def ready (c : Dev nD) : sProp 𝕄 :=
  iprop((bigSep Finset.univ fun a => iprop(srcAt m c a c ∗ dstAt m c a c ∗ tok c (kL a)))
    ∗ (bigSep Finset.univ fun j : J => iprop(srcAt m c j.2 (peer j.1 c) ∗ dstAt m (peer j.1 c) j.2 c ∗ tok c (kS j) ∗ tok (peer j.1 c) (kR j)))
    ∗ (bigSep Finset.univ fun j : J => at₀ c (kR j)) ∗ (bigSep Finset.univ fun j : J => at₀ c (kS j)) ∗ (bigSep Finset.univ fun a => at₀ c (kL a)))

theorem begin_eq (c : Dev nD) : iprop(ready m c ∗ bigSepL sends fun j => crd c (kR j)) ⊢ begin m c := by
  unfold ready begin
  rw [arrs_all, arrs_all, sends_all, sends_all, sends_all, sends_all]
  iintro ⟨⟨H1, H2, H3, H4, H5⟩, H6⟩
  isplitl [H1]; · iexact H1
  isplitl [H2]; · iexact H2
  isplitl [H6]; · iexact H6
  isplitl [H3]; · iexact H3
  isplitl [H4] <;> iassumption

theorem keys_split (Φ : Key → sProp 𝕄) :
    bigSep Finset.univ Φ = iprop(((bigSep Finset.univ fun j => Φ (kS j)) ∗ bigSep Finset.univ fun j => Φ (kR j)) ∗ bigSep Finset.univ fun a => Φ (kL a)) := by
  rw [bigSep_univ_sum, bigSep_univ_sum]; rfl

theorem opening :
    iprop((bigSep Finset.univ fun c : Dev nD => unscopedBufs c (fun b => m ((c.tc : Thread nD τ).loc b)))
        ∗ (bigSep Finset.univ fun c : Dev nD => bigSep Finset.univ fun k => at₀ c k) ∗ (bigSep Finset.univ fun c : Dev nD => bigSep Finset.univ fun k => tok c k))
      ⊢ (bigSep Finset.univ (ready m) : sProp 𝕄) := by
  have hb : (bigSep Finset.univ fun c : Dev nD => (unscopedBufs c (fun b => m ((c.tc : Thread nD τ).loc b)) : sProp 𝕄))
      = iprop(((bigSep Finset.univ fun c : Dev nD => bigSep Finset.univ fun a => srcAt m c a c) ∗ bigSep Finset.univ fun c : Dev nD => bigSep Finset.univ fun j : J => srcAt m c j.2 (peer j.1 c))
          ∗ (bigSep Finset.univ fun c : Dev nD => bigSep Finset.univ fun a => dstAt m c a c) ∗ bigSep Finset.univ fun c : Dev nD => bigSep Finset.univ fun j : J => dstAt m (peer j.1 c) j.2 c) := by
    rw [bigSep_congr fun c _ => bufs_eq m c, bigSep_sep', bigSep_congr fun c _ => in_slots m c, bigSep_congr fun c _ => out_slots m c, bigSep_sep', bigSep_sep',
      swap_all (fun j c => dstAt m c j.2 (peer j.1 c))]
    simp only [peer_peer]
  have ht : (bigSep Finset.univ fun c : Dev nD => bigSep Finset.univ fun k => (tok c k : sProp 𝕄))
      = iprop(((bigSep Finset.univ fun c : Dev nD => bigSep Finset.univ fun j => tok c (kS j)) ∗ bigSep Finset.univ fun c : Dev nD => bigSep Finset.univ fun j : J => tok (peer j.1 c) (kR j))
          ∗ bigSep Finset.univ fun c : Dev nD => bigSep Finset.univ fun a => tok c (kL a)) := by
    rw [bigSep_congr fun c _ => keys_split (fun k => tok c k), bigSep_sep', bigSep_sep', swap_all (fun j c => tok c (kR j))]
  have ha : (bigSep Finset.univ fun c : Dev nD => bigSep Finset.univ fun k => (at₀ c k : sProp 𝕄))
      = iprop(((bigSep Finset.univ fun c : Dev nD => bigSep Finset.univ fun j => at₀ c (kS j)) ∗ bigSep Finset.univ fun c : Dev nD => bigSep Finset.univ fun j : J => at₀ c (kR j))
          ∗ bigSep Finset.univ fun c : Dev nD => bigSep Finset.univ fun a => at₀ c (kL a)) := by
    rw [bigSep_congr fun c _ => keys_split (fun k => at₀ c k), bigSep_sep', bigSep_sep']
  rw [hb, ht, ha]
  unfold ready
  simp only [bigSep_sep']
  iintro ⟨⟨⟨H1, H2⟩, H3, H4⟩, ⟨⟨H5, H6⟩, H7⟩, ⟨H8, H9⟩, H10⟩
  isplitl [H1 H3 H10]
  · isplitl [H1]; · iexact H1
    isplitl [H3] <;> iassumption
  isplitl [H2 H4 H8 H9]
  · isplitl [H2]; · iexact H2
    isplitl [H4]; · iexact H4
    isplitl [H8] <;> iassumption
  isplitl [H6]; · iexact H6
  isplitl [H5] <;> iassumption

/-! ## The closing -/

/-- What result `a` of device `c` ends with: in slot `p`, what argument `a` of device `p` holds in slot `c`. -/
def exchanged (c : Dev nD) (a : Fin 5) : (outSh a).Idx → Elt F .bf16 := fun i =>
  (inM a).view.read (Elt F) (m ((inM a).view.loc ((⟨(i (0 : Fin 4)).val, (i (0 : Fin 4)).isLt⟩ : Dev nD) : Thread nD τ))) (ix4 (i (1 : Fin 4)) c (i (2 : Fin 4)) (i (3 : Fin 4)))

def result (c : Dev nD) (a : Fin 5) : Buf (Elt F) ((outM a).view.loc (c : Thread nD τ)) := (outM_whole a).unread (exchanged m c a)

theorem got_result (c : Dev nD) (a : Fin 5) (p : Fin 8) :
    gotAt m c a p = ((outM a).view.loc (c : Thread nD τ) ↦[(dst a p).view.set]{fullShare} result m c a : sProp 𝕄) := by
  refine pointsTo_congr (Slots.write_on (dst a p).view _ _ _ fun x => ?_)
  have hx : x = ix3 (x (0 : Fin 3)) (x (1 : Fin 3)) (x (2 : Fin 3)) := by
    funext i; match i with | ⟨0, _⟩ => rfl | ⟨1, _⟩ => rfl | ⟨2, _⟩ => rfl
  rw [hx]
  refine (Slots.read_slot0 (outM a) (outSq a) p _ _ _ _).trans ?_
  unfold result
  rw [(outM_whole a).read_unread]
  exact (Slots.read_slot1 (inM a) (inSq a) c _ _ _ _).symm

theorem closing (c : Dev nD) :
    finish m c ⊢ (iprop(((bigSep Finset.univ fun a => inAll c a (m _)) ∗ bigSep Finset.univ fun a => outAll c a (result m c a)) ∗ bigSep Finset.univ fun k => at₁ c k) : sProp 𝕄) := by
  have ho : (bigSep Finset.univ fun a => outAll (F := F) c a (result m c a)) = iprop((bigSep Finset.univ fun a => gotAt m c a c) ∗ bigSep Finset.univ fun j : J => gotAt m c j.2 (peer j.1 c)) := by
    rw [← by_transfer c (fun a p => gotAt m c a p)]
    refine bigSep_congr fun a _ => ?_
    rw [bigSep_congr fun p _ => got_result m c a p]
    exact Slots.split0 (outM_whole a) (outSq a) c fullShare _
  unfold finish
  rw [arrs_all, sends_all, sends_all, ho, in_slots, keys_split]
  simp only [bigSep_sep']
  iintro ⟨⟨H1, H2⟩, ⟨H3, H4⟩, H5, H6, H7⟩
  isplitr [H1 H3 H5]
  · isplitl [H4 H7]
    · isplitl [H7] <;> iassumption
    isplitl [H6] <;> iassumption
  isplitl [H1 H3]
  · isplitl [H3] <;> iassumption
  iexact H5

/-! ## The credits -/

theorem credits (c : Dev nD) (l : List J) :
    (Pipeline.launchCred (fun d => owed d l) c : sProp 𝕄) ⊢ bigSepL l fun j => crd c (kR j) := by
  induction l with
  | nil => rw [bigSepL_nil]; show Pipeline.launchCred (fun _ => 0) c ⊢ _; rw [Pipeline.launchCred_zero]; exact .rfl
  | cons j l ih =>
    rw [bigSepL_cons']
    have h := Pipeline.launchCred_tallyAt (Val := Elt F) (Name := ℕ) (U := UA) (Lvl := ℕ) (τ := τ) (osem (kR j)) (peer j.1) (peer j.1) (peer_peer j.1) (peer_peer j.1) () (amt (kR j)) c
    show Pipeline.launchCred (fun d => owed d l + tallyAt (cell osem (peer j.1 d, kR j)) () (amt (kR j))) c ⊢ _
    rw [Pipeline.launchCred_add]
    iintro ⟨H1, H2⟩
    isplitl [H2]; · iapply h; iexact H2
    iapply ih; iexact H1

end Cert.Alltoall

end
-- ==== Proof.Run.lean ====
/-
# The run of the exchange, for any float values

From any memory, every device returns with its arguments as they were, with what the devices hold for it in its results
and with every counter at zero.
-/
module

public import proofs.«01_k».proof.Proof.Deal

@[expose] public section

noncomputable section

namespace Cert.Alltoall

open Cert.KernelIdeal Cert.KernelIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {F : FTy → Type} [FloatOps F]
local notation "𝕄" => MT nD τ sig Unit (Elt F) ℕ UA ℕ
variable (m : (ℓ : Loc nD τ sig) → Buf (Elt F) ℓ)

/-- What device `c` enters with, and leaves with beside its semaphores. -/
def enter (c : Dev nD) : sProp 𝕄 := iprop(∃ Kn, recs (m := m) Kn ∗ begin m c)
def leave (c : Dev nD) : sProp 𝕄 := iprop((bigSep Finset.univ fun a => inAll c a (m _)) ∗ bigSep Finset.univ fun a => outAll c a (result m c a))

def dats (_ : Fin 1) (c : Dev nD) : Dat τ (Elt F) Unit ℕ UA ℕ cfg0 c where
  A w := w.elim0
  after w _ := w.elim0
  Φ t := match t with
    | ⟨0, _⟩ => enter m c
    | ⟨_ + 1, _⟩ => iprop(leave m c ∗ ownSems0 osem c)
  q _ := fullShare
  owed t := match t with
    | ⟨0, _⟩ => owed c sends
    | ⟨_ + 1, _⟩ => 0

theorem body_run (c : Dev nD) :
    iprop(enter m c ∗ (dats m 0 c).owesAt () t0_0.castSucc)
      ⊢ wp frame (wpE (defs₀ (F := F)) 𝒱₀ (c : Thread nD τ) none) Set.univ printed
          (fun _ => iprop((leave m c ∗ ownSems0 osem c) ∗ (dats m 0 c).owesAt () t0_0.succ)) := by
  rw [printed_asks, wp_deviceId, printed_on]
  unfold enter Dat.owesAt Pipeline.owesWithin
  rw [show (dats m 0 c).owed t0_0.castSucc = owed c sends from rfl, show (dats m 0 c).owed t0_0.succ = 0 from rfl]
  iintro ⟨⟨%Kn, #HR, HB⟩, ⟨%W, %hW, HO⟩⟩
  iapply wp_fupd
  iapply (walk c m _) $$ [HB HO]
  · isplitr; · iexact HR
    isplitl [HB]; · iexact HB
    unfold owesW; iexists W; iexact HO
  iintro ⟨HF, HO⟩
  ihave H := (closing m c) $$ HF
  icases H with ⟨HM, Hat⟩
  imod (close_all osem amt amt_pos (pay m) Kn c) $$ [Hat] with Hz
  · isplitr; · iexact HR
    iexact Hat
  imodintro
  isplitl [HM Hz]
  · isplitl [HM]; · unfold leave; iexact HM
    iexact Hz
  unfold owesW
  icases HO with ⟨%W', HO⟩
  iexists W'
  isplitr; · ipureintro; exact fun _ _ => Or.inl trivial
  iexact HO

theorem no_windows (Φ : Fin cfg0.W → sProp 𝕄) : bigSep Finset.univ Φ = iprop(emp) := by
  rw [show (Finset.univ : Finset (Fin cfg0.W)) = ∅ from rfl, bigSep_empty]; rfl

theorem called (F : FTy → Type) [FloatOps F] : defs₀ (F := F) .tc cfg0.body (cfg0.bodyArgs t0_0 (cfg0.slots t0_0)) = printed := by chain_rfl

theorem body_obligation (c : Dev nD) : BodyObligation (dats (F := F) m 0 c) (defs₀ (F := F)) 𝒱₀ () Set.univ := fun t => by
  rw [fin_N0 t, no_windows, no_windows]
  have e1 : (iprop((dats m 0 c).owesAt () t0_0.castSucc ∗ emp) : sProp 𝕄) = (dats m 0 c).owesAt () t0_0.castSucc := equiv_iff.mp sep_emp
  have e2 : (iprop((dats m 0 c).owesAt () t0_0.succ ∗ emp) : sProp 𝕄) = (dats m 0 c).owesAt () t0_0.succ := equiv_iff.mp sep_emp
  rw [e1, e2, called, show (dats m 0 c).Φ t0_0.castSucc = enter m c from rfl, show (dats m 0 c).Φ t0_0.succ = iprop(leave m c ∗ ownSems0 osem c) from rfl]
  refine (Entails.of_eq rfl).trans ((body_run m c).trans (Entails.of_eq ?_))
  clear e1 e2
  unfold printed
  generalize cc0_scatter_grads_l0 (F := F) _ _ _ _ _ _ _ _ _ _ _ _ _ _ _ _ _ _ _ _ _ _ _ = P
  congr 1

/-! ## The launch -/

theorem ownSemFacts : Pipeline.OwnSemFacts cfg0.spec osem := by decide +kernel

abbrev levels : GSem nD τ sig → Finset Unit := fun _ => ∅
abbrev level : GSem nD τ sig → Unit → ℕ := fun _ _ => 0

def u₀ : UA := (initOf (Pipeline.cells cfgs cellOf_inj) (Pipeline.launchToks cfgs cellOf_inj), initOf (famCells osem osem_inj) (famToks osem osem_inj))

def handed (c : Dev nD) : sProp 𝕄 := iprop(∃ Kn, recs (m := m) Kn ∗ ready m c)

theorem deal :
    (bigSep Finset.univ fun c => iprop(ownSems0 osem c ∗ unscopedBufs c (fun b => m ((c.tc : Thread nD τ).loc b)) ∗ funded osem amt amt_pos (pay m) c) : sProp 𝕄)
      ⊢ |={Set.univ}=> bigSep Finset.univ (handed m) := by
  have hre : (bigSep Finset.univ fun c => iprop(ownSems0 osem c ∗ unscopedBufs c (fun b => m ((c.tc : Thread nD τ).loc b)) ∗ funded osem amt amt_pos (pay m) c) : sProp 𝕄)
      ⊢ iprop((bigSep Finset.univ fun c : Dev nD => unscopedBufs c (fun b => m ((c.tc : Thread nD τ).loc b)))
          ∗ bigSep Finset.univ fun c : Dev nD => iprop(ownSems0 osem c ∗ funded osem amt amt_pos (pay m) c)) := by
    simp only [bigSep_sep']
    iintro ⟨H1, H2, H3⟩
    isplitl [H2]; · iexact H2
    isplitl [H1] <;> iassumption
  iintro H
  ihave H := hre $$ H
  icases H with ⟨HM, HG⟩
  imod (alloc_all osem amt amt_pos (pay m)) $$ HG with ⟨%Kn, #HR, Hat, Htok⟩
  imodintro
  ihave HD := (opening m) $$ [HM Hat Htok]
  · isplitl [HM]; · iexact HM
    isplitl [Hat] <;> iassumption
  iapply (share_out (R := recs (m := m) Kn) (Φ := ready m) (Ψ := handed m) fun c _ => by
    unfold handed
    iintro H
    iexists Kn
    iexact H)
  isplitr; · iexact HR
  iexact HD

/-- A final memory: every argument as it was, every result the exchanged one. -/
def QY (c : Dev nD) (s : MemSt nD τ sig (Elt F)) : Prop :=
  (∀ a, s.mem ((inM a).view.loc (c : Thread nD τ)) = m _) ∧ ∀ a, s.mem ((outM a).view.loc (c : Thread nD τ)) = result m c a

set_option maxRecDepth 8000 in
theorem run_main (g : Dev nD → PrngReg) :
    θ_run defs (onTc (τ := τ) (main (F := F))) ⟨m, fun _ => 0, g⟩ fun r => (∀ c, QY m c r.2) ∧ r.2.sem = fun _ => 0 :=
  θ_run_shared (fun p => (cfgs p).toPCfg) (fun _ p => (cfgs p).toPCfg_adm) (Dat.toRs (dats m)) () cellOf_inj (0 : Fin 1)
    winFacts0.to₀ ownSemFacts EP defs₀ 𝒱₀ m g main
    (hmain := fun _ => rfl)
    (hbody := fun c => (body_obligation m c).toR) (hne := block_pos0) (hstage := stage_whole0)
    (O₀ := fun c => owed c sends) (howed₀ := fun _ => rfl) (howedN := fun _ => rfl)
    (L := levels) (lv := level) (hL := fun _ _ => rfl)
    (hwaits := fun c => Pipeline.cellsWaits_intro cfgs (dats m) () 0 c fun w => w.elim0)
    (G := funded osem amt amt_pos (pay m)) (G' := handed m) (u₀ := u₀)
    (hu₀ := by
      unfold u₀
      iintro Hu
      ihave H := (ownU_pair _ _) $$ Hu
      icases H with ⟨HP, HX⟩
      imod (fund_all osem amt amt_pos (pay m) osem_inj) $$ HX with HG
      imodintro
      isplitl [HP] <;> iassumption)
    (hglob := deal m)
    (harr := fun c => by
      show _ ⊢ bigSep Finset.univ _
      rw [show (Finset.univ : Finset (Fin cfg0.W)) = ∅ from rfl, bigSep_empty])
    (hpf := fun c => by
      unfold Pipeline.prefHeld
      rw [show (Finset.univ : Finset (Fin 0)) = ∅ from rfl, bigSep_empty])
    (X := enter m) (Y := leave m)
    (hX := fun c => by
      unfold handed enter
      iintro ⟨-, Hcr, %Kn, #HR, HG⟩
      ihave Hc := (credits (F := F) c sends) $$ Hcr
      imodintro
      iexists Kn
      isplitr; · iexact HR
      iapply (begin_eq m c)
      isplitl [HG] <;> iassumption)
    (hin := fun c => by
      show iprop(enter m c ∗ _ ∗ _) ⊢ enter m c
      iintro ⟨H, -, -⟩
      iexact H)
    (hout := fun c => by
      show iprop(leave m c ∗ ownSems0 osem c) ⊢ iprop(leave m c ∗ ownSems0 osem c ∗ Pipeline.scopedRest cfg0.spec c)
      rw [scopedRest0_eq]
      iintro ⟨H1, H2⟩
      isplitl [H1]; · iexact H1
      isplitl [H2]; · iexact H2
      iempintro)
    (QY := QY m)
    (hY := fun c s' => by
      unfold leave
      iintro ⟨⟨H1, H2⟩, HSI⟩
      ihave H := (pointsTo_read_all Finset.univ (fun a : Fin 5 => (inM a).view.loc (c : Thread nD τ)) (fun a => m _) s') $$ [H1 HSI]
      · isplitl [H1] <;> iassumption
      icases H with ⟨%h1, HSI⟩
      ihave H := (pointsTo_read_all Finset.univ (fun a : Fin 5 => (outM a).view.loc (c : Thread nD τ)) (fun a => result m c a) s') $$ [H2 HSI]
      · isplitl [H2] <;> iassumption
      icases H with ⟨%h2, HSI⟩
      imodintro
      isplitr; · ipureintro; exact ⟨fun a => h1 a (Finset.mem_univ a), fun a => h2 a (Finset.mem_univ a)⟩
      iexact HSI)
    (hQ := fun s h hs => ⟨h, sem_eq_zero_of_scoped (by decide) hs⟩)

end Cert.Alltoall

end
-- ==== Proof.Value.lean ====
/-
# The equation

The reference cuts the first axis of an array into eight parts and makes them eight rows of the second axis
(`swapped`). Its block for device `c` holds at `(d, i, y, z)` what device `d`'s block of the argument holds at
`(i, c, y, z)`: this is what the exchange leaves on device `c`.
-/
module

public import proofs.«01_k».proof.Proof.Run
public import Idealize.ShloMosaic.Lib.Layout
public import Idealize.ShloMosaic.Lib.Pipeline.Value

@[expose] public section

noncomputable section

namespace Cert.Alltoall

open Idealize.ShloMosaic Idealize.ShloMosaic.ValueIdx Idealize.ShloMosaic.TcCoe

section Shapes

variable {α : Type} {n N r w : ℕ}

/-- The reference, for one array of `8 n` slots of `8` parts. -/
def swapped (x : (⟨4, ![N, 8, r, w]⟩ : Shape).Idx → α) (h₁ : (⟨4, ![N, 8, r, w]⟩ : Shape).ShapeCasts ⟨5, ![8, n, 8, r, w]⟩)
    (h₂ : (⟨5, ![8, n, 8, r, w]⟩ : Shape).Transposes [0, 2, 1, 3, 4] ⟨5, ![8, 8, n, r, w]⟩)
    (h₃ : (⟨5, ![8, 8, n, r, w]⟩ : Shape).ShapeCasts ⟨4, ![8, N, r, w]⟩) : (⟨4, ![8, N, r, w]⟩ : Shape).Idx → α :=
  shapeCast ⟨4, ![8, N, r, w]⟩ (transpose ⟨5, ![8, 8, n, r, w]⟩ [0, 2, 1, 3, 4] (shapeCast ⟨5, ![8, n, 8, r, w]⟩ x h₁) h₂) h₃

theorem swapped_block (hN : N = 8 * n) (x : (⟨4, ![N, 8, r, w]⟩ : Shape).Idx → α) (h₁ : (⟨4, ![N, 8, r, w]⟩ : Shape).ShapeCasts ⟨5, ![8, n, 8, r, w]⟩)
    (h₂ : (⟨5, ![8, n, 8, r, w]⟩ : Shape).Transposes [0, 2, 1, 3, 4] ⟨5, ![8, 8, n, r, w]⟩)
    (h₃ : (⟨5, ![8, 8, n, r, w]⟩ : Shape).ShapeCasts ⟨4, ![8, N, r, w]⟩)
    (ht : Layout.Tiles ⟨4, ![8, n, r, w]⟩ ⟨4, ![8, N, r, w]⟩ 1 8) (hs : Layout.Tiles ⟨4, ![n, 8, r, w]⟩ ⟨4, ![N, 8, r, w]⟩ 0 8)
    (c d : Fin 8) (i : Fin n) (y : Fin r) (z : Fin w) :
    Layout.block ⟨4, ![8, n, r, w]⟩ ⟨4, ![8, N, r, w]⟩ 1 8 c (swapped x h₁ h₂ h₃) ht (ix4 d i y z)
      = Layout.block ⟨4, ![n, 8, r, w]⟩ ⟨4, ![N, 8, r, w]⟩ 0 8 d x hs (ix4 i c y z) := by
  subst hN
  unfold swapped
  rw [Layout.block_apply, Layout.block_apply]
  rw [shapeCast_apply _ h₃ _ (ix5 d c i y z) (by
    rw [Shape.rowMajor_val_five, Shape.rowMajor_val_four]
    show (((d.val * 8 + c.val) * n + i.val) * r + y.val) * w + z.val = ((d.val * (8 * n) + (c.val * n + i.val)) * r + y.val) * w + z.val
    rw [show (d.val * 8 + c.val) * n + i.val = d.val * (8 * n) + (c.val * n + i.val) by rw [Nat.add_mul, Nat.mul_assoc, Nat.add_assoc]])]
  rw [transpose_apply _ _ h₂ (ix5 d c i y z) (ix5 d i c y z) (by
    intro b
    match b with
    | ⟨0, _⟩ => rfl
    | ⟨1, _⟩ => rfl
    | ⟨2, _⟩ => rfl
    | ⟨3, _⟩ => rfl
    | ⟨4, _⟩ => rfl)]
  exact shapeCast_apply _ h₁ _ _ (by
    rw [Shape.rowMajor_val_five, Shape.rowMajor_val_four]
    rfl)

end Shapes

variable {F : FTy → Type} [FloatOps F]
open Cert.KernelIdeal Idealize.SL.Sem

variable (m : (ℓ : Loc nD τ sig) → Buf (Elt F) ℓ)

/-- A result is the block of an array that agrees with the exchange. -/
theorem result_eq (c : Dev nD) (a : Fin 5) (X : Buf (Elt F) ((outM a).view.loc (c : Thread nD τ)))
    (h : ∀ d i y z, (outM a).view.read (Elt F) X (ix4 d i y z) = (inM a).view.read (Elt F) (m ((inM a).view.loc ((d : Dev nD) : Thread nD τ))) (ix4 i c y z)) :
    result m c a = X := by
  refine ((outM_whole a).eq_unread (X := exchanged m c a) ?_).symm
  funext i
  rw [eq_ix4 i]
  exact h _ _ _ _

/-- The run, from memories whose arguments are the devices' blocks of whole arrays. -/
theorem run_blocks (g : Dev nD → PrngReg)
    (x0 : (⟨4, ![48, 8, 352, 1024]⟩ : Shape).Idx → Elt F .bf16) (x1 : (⟨4, ![8, 8, 864, 1024]⟩ : Shape).Idx → Elt F .bf16)
    (x2 : (⟨4, ![8, 8, 128, 1024]⟩ : Shape).Idx → Elt F .bf16) (x3 : (⟨4, ![8, 8, 128, 256]⟩ : Shape).Idx → Elt F .bf16)
    (x4 : (⟨4, ![16, 8, 128, 512]⟩ : Shape).Idx → Elt F .bf16)
    (hx : ∀ c : Dev nD,
      m ((c.tc : Thread nD τ).loc main_arg0) = Layout.block ⟨4, ![6, 8, 352, 1024]⟩ ⟨4, ![48, 8, 352, 1024]⟩ 0 8 c x0
      ∧ m ((c.tc : Thread nD τ).loc main_arg1) = Layout.block ⟨4, ![1, 8, 864, 1024]⟩ ⟨4, ![8, 8, 864, 1024]⟩ 0 8 c x1
      ∧ m ((c.tc : Thread nD τ).loc main_arg2) = Layout.block ⟨4, ![1, 8, 128, 1024]⟩ ⟨4, ![8, 8, 128, 1024]⟩ 0 8 c x2
      ∧ m ((c.tc : Thread nD τ).loc main_arg3) = Layout.block ⟨4, ![1, 8, 128, 256]⟩ ⟨4, ![8, 8, 128, 256]⟩ 0 8 c x3
      ∧ m ((c.tc : Thread nD τ).loc main_arg4) = Layout.block ⟨4, ![2, 8, 128, 512]⟩ ⟨4, ![16, 8, 128, 512]⟩ 0 8 c x4)
    (h0 h0' h0'') (h1 h1' h1'') (h2 h2' h2'') (h3 h3' h3'') (h4 h4' h4'') :
    θ_run defs (onTc (τ := τ) (main (F := F))) ⟨m, fun _ => 0, g⟩ fun r => ∀ c : Dev nD,
      r.2.mem ((c.tc : Thread nD τ).loc main_v1_0) = Layout.block ⟨4, ![8, 6, 352, 1024]⟩ ⟨4, ![8, 48, 352, 1024]⟩ 1 8 c (swapped (n := 6) x0 h0 h0' h0'')
      ∧ r.2.mem ((c.tc : Thread nD τ).loc main_v1_1) = Layout.block ⟨4, ![8, 1, 864, 1024]⟩ ⟨4, ![8, 8, 864, 1024]⟩ 1 8 c (swapped (n := 1) x1 h1 h1' h1'')
      ∧ r.2.mem ((c.tc : Thread nD τ).loc main_v1_2) = Layout.block ⟨4, ![8, 1, 128, 1024]⟩ ⟨4, ![8, 8, 128, 1024]⟩ 1 8 c (swapped (n := 1) x2 h2 h2' h2'')
      ∧ r.2.mem ((c.tc : Thread nD τ).loc main_v1_3) = Layout.block ⟨4, ![8, 1, 128, 256]⟩ ⟨4, ![8, 8, 128, 256]⟩ 1 8 c (swapped (n := 1) x3 h3 h3' h3'')
      ∧ r.2.mem ((c.tc : Thread nD τ).loc main_v1_4) = Layout.block ⟨4, ![8, 2, 128, 512]⟩ ⟨4, ![8, 16, 128, 512]⟩ 1 8 c (swapped (n := 2) x4 h4 h4' h4'')
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m g)
  obtain ⟨hin, hout⟩ := h.1 c
  refine ⟨(hout 0).trans (result_eq m c 0 _ fun d i y z => ?_), (hout 1).trans (result_eq m c 1 _ fun d i y z => ?_),
    (hout 2).trans (result_eq m c 2 _ fun d i y z => ?_), (hout 3).trans (result_eq m c 3 _ fun d i y z => ?_),
    (hout 4).trans (result_eq m c 4 _ fun d i y z => ?_), hin 0, hin 1, hin 2, hin 3, hin 4⟩
  · exact (swapped_block rfl x0 h0 h0' h0'' (by decide) (by decide) c d i y z).trans (congrFun (hx d).1.symm _)
  · exact (swapped_block rfl x1 h1 h1' h1'' (by decide) (by decide) c d i y z).trans (congrFun (hx d).2.1.symm _)
  · exact (swapped_block rfl x2 h2 h2' h2'' (by decide) (by decide) c d i y z).trans (congrFun (hx d).2.2.1.symm _)
  · exact (swapped_block rfl x3 h3 h3' h3'' (by decide) (by decide) c d i y z).trans (congrFun (hx d).2.2.2.1.symm _)
  · exact (swapped_block rfl x4 h4 h4' h4'' (by decide) (by decide) c d i y z).trans (congrFun (hx d).2.2.2.2.symm _)

end Cert.Alltoall

end
-- ==== Proof.GatherProgram.lean ====
/-
# The weight gather's body as lists of steps

The kernel's body, written over the arrays `a` and the seven transfers `k` of each instead of statement by statement. A
device copies its own part into its own row, sends it to its neighbour on the chip and to the same core of the three other
chips, hands each part that arrives from another chip on to its neighbour, and waits for the rest. `printed_on` says that
this is the printed body, on every device.
-/
module

public import proofs.«01_k».proof.Proof.Exchange
public import proofs.«01_k».proof.Proof.Slots
public import proofs.«01_k».proof.Proof.Gen.GatherIdeal
public import proofs.«01_k».proof.Proof.Gen.GatherIdeal.Skeleton
public import proofs.«01_k».proof.Proof.Gen.GatherIdeal.Launch
public import Idealize.ShloMosaic.Lib.Pipeline.Regions

@[expose] public section

noncomputable section

namespace Cert.GatherWeights

open Cert.GatherIdeal Cert.GatherIdeal.Gen
open Idealize.ShloMosaic Idealize.ShloMosaic.TcCoe
open Idealize.SL Idealize.SL.Sem

set_option Elab.async false

variable {F : FTy → Type} [FloatOps F]

/-! ## The arrays -/

/-- Array `a`'s extents on a device: how many matrices, their rows and their columns. -/
def nm : Fin 5 → ℕ := ![6, 1, 1, 1, 2]
def rw' : Fin 5 → ℕ := ![352, 864, 128, 128, 128]
def cl : Fin 5 → ℕ := ![1024, 1024, 1024, 256, 512]

/-- One device's part. -/
abbrev blk (a : Fin 5) : Shape := ⟨3, ![nm a, rw' a, cl a]⟩
/-- All parts: one slot per device on axis 1; and one slot with its unit axis. -/
abbrev outSh (a : Fin 5) : Shape := ⟨4, ![nm a, 8, rw' a, cl a]⟩
abbrev outSl (a : Fin 5) : Shape := ⟨4, ![nm a, 1, rw' a, cl a]⟩

def inR : Fin 5 → Ref sig .tc := ![main_arg0, main_arg1, main_arg2, main_arg3, main_arg4]
def outR : Fin 5 → Ref sig .tc := ![main_v1_0, main_v1_1, main_v1_2, main_v1_3, main_v1_4]

/-- Argument `a`, and result `a`, whole. -/
def inM : (a : Fin 5) → Memref sig .tc .hbm (blk a) .bf16
  | ⟨0, _⟩ => Memref.whole main_arg0
  | ⟨1, _⟩ => Memref.whole main_arg1
  | ⟨2, _⟩ => Memref.whole main_arg2
  | ⟨3, _⟩ => Memref.whole main_arg3
  | ⟨4, _⟩ => Memref.whole main_arg4

def outM : (a : Fin 5) → Memref sig .tc .hbm (outSh a) .bf16
  | ⟨0, _⟩ => Memref.whole main_v1_0
  | ⟨1, _⟩ => Memref.whole main_v1_1
  | ⟨2, _⟩ => Memref.whole main_v1_2
  | ⟨3, _⟩ => Memref.whole main_v1_3
  | ⟨4, _⟩ => Memref.whole main_v1_4

theorem inM_whole : ∀ a, (inM a).IsWhole
  | ⟨0, _⟩ => Memref.isWhole_whole _
  | ⟨1, _⟩ => Memref.isWhole_whole _
  | ⟨2, _⟩ => Memref.isWhole_whole _
  | ⟨3, _⟩ => Memref.isWhole_whole _
  | ⟨4, _⟩ => Memref.isWhole_whole _

theorem outM_whole : ∀ a, (outM a).IsWhole
  | ⟨0, _⟩ => Memref.isWhole_whole _
  | ⟨1, _⟩ => Memref.isWhole_whole _
  | ⟨2, _⟩ => Memref.isWhole_whole _
  | ⟨3, _⟩ => Memref.isWhole_whole _
  | ⟨4, _⟩ => Memref.isWhole_whole _

/-! ## The slots -/

theorem outWords : ∀ (a : Fin 5) (p : Fin 8), (Slots.rect1 (n := nm a) (r := rw' a) (w := cl a) p).WholeWords (EltTy.packing .bf16) := by decide +kernel
theorem outSq : ∀ a : Fin 5, (outSl a).Squeezes (blk a) := by decide +kernel

/-- Slot `p` of result `a`. -/
def dst (a : Fin 5) (p : Fin 8) : Memref sig .tc .hbm (blk a) .bf16 := Slots.slot1 (outM a) (outSq a) p

theorem in_exact (a : Fin 5) : (inM a).view.WordExact := (inM_whole a).wordExact
theorem dst_exact (a : Fin 5) (p : Fin 8) : (dst a p).view.WordExact := ((outM_whole a).wordExact_slice rfl _ (outWords a p)).reshape _ _

/-! ## The semaphores -/

theorem inbT : ∀ (j : Fin 35) (i : Fin 1), (![j.val] : Fin 1 → ℕ) i + S1.size i ≤ S35.size i := by decide +kernel
theorem inbL : ∀ (j : Fin 5) (i : Fin 1), (![j.val] : Fin 1 → ℕ) i + S1.size i ≤ S5.size i := by decide +kernel

/-- The number of array `a`'s transfer `k`. -/
def num (a : Fin 5) (k : Fin 7) : Fin 35 := ⟨a.val * 7 + k.val, by have := a.isLt; have := k.isLt; omega⟩

def sendSem (j : Fin 35) : DmaSem sig := ((cc0_scratch0.slice (Rect.unit (s := S35) ![j.val] S1.size (inbT j))).squeeze S_ squeezes_S1_S_).sem
def recvSem (j : Fin 35) : DmaSem sig := ((cc0_scratch1.slice (Rect.unit (s := S35) ![j.val] S1.size (inbT j))).squeeze S_ squeezes_S1_S_).sem
def locSem (j : Fin 5) : DmaSem sig := ((cc0_scratch2.slice (Rect.unit (s := S5) ![j.val] S1.size (inbL j))).squeeze S_ squeezes_S1_S_).sem

/-! ## Who sends what to whom

Devices are numbered by three bits, of which the last says which of a chip's two cores it is. -/

/-- The device that differs from `d` in the bits of `n`. -/
def flip (n : Fin 8) (d : Dev nD) : Dev nD := ⟨d.val ^^^ n.val, Nat.xor_lt_two_pow (n := 3) d.isLt n.isLt⟩

/-- Transfer `k` goes to `dest k d`: 0 to the neighbour, 1 to 3 to the other chips, 4 to 6 to the neighbour again. -/
def dest (k : Fin 7) : Dev nD → Dev nD := flip ((![1, 4, 2, 6, 1, 1, 1] : Fin 7 → Fin 8) k)
/-- Transfer `k` carries the part of device `part k d`: 0 to 3 the sender's own, 4 to 6 those of the other chips. -/
def part (k : Fin 7) : Dev nD → Dev nD := flip ((![0, 0, 0, 0, 4, 2, 6] : Fin 7 → Fin 8) k)
/-- The devices in the order their parts arrive at `c`, its own first. -/
def order (k : Fin 8) : Dev nD → Dev nD := flip ((![0, 1, 4, 2, 6, 5, 3, 7] : Fin 8 → Fin 8) k)
/-- Transfer `k` brings the part of device `orig k d` to device `d`. -/
abbrev orig (k : Fin 7) (d : Dev nD) : Dev nD := order k.succ d

theorem dest_dest (k : Fin 7) (c : Dev nD) : dest k (dest k c) = c := by
  unfold dest flip; exact Fin.ext (by dsimp only; rw [Nat.xor_assoc, Nat.xor_self, Nat.xor_zero])
theorem orig_dest : ∀ (k : Fin 7) (c : Dev nD), orig k (dest k c) = part k c := by decide +kernel

/-- The transfers: a device's own part, of an array, by one of the first four; one that is handed on, from chip `j`; and all
    of them. -/
abbrev Own : Type := Fin 5 × Fin 4
abbrev Pass : Type := Fin 3 × Fin 5
abbrev J : Type := Fin 7 × Fin 5

/-- Its place among all: of an own part, of one handed on, of the one that must arrive before, of the ones waited for last. -/
def own (f : Own) : J := (f.2.castLE (by decide), f.1)
def fwd (p : Pass) : J := (⟨4 + p.1.val, by have := p.1.isLt; omega⟩, p.2)
def near (p : Pass) : J := (⟨1 + p.1.val, by have := p.1.isLt; omega⟩, p.2)
def late (f : Own) : J := ((![0, 4, 5, 6] : Fin 4 → Fin 7) f.2, f.1)

theorem part_own : ∀ (f : Own) (c : Dev nD), part (own f).1 c = c := fun ⟨a, k⟩ c => by
  have h : ∀ (k : Fin 4) (c : Dev nD), part (k.castLE (by decide)) c = c := by decide +kernel
  exact h k c
theorem orig_near : ∀ (p : Pass) (c : Dev nD), orig (near p).1 c = part (fwd p).1 c := fun ⟨j, a⟩ c => by
  have h : ∀ (j : Fin 3) (c : Dev nD), orig ⟨1 + j.val, by have := j.isLt; omega⟩ c = part ⟨4 + j.val, by have := j.isLt; omega⟩ c := by decide +kernel
  exact h j c

/-! ## The steps -/

abbrev Pg (F : FTy → Type) := Prog (TpuEff nD τ sig (Elt F) Λ₀ .tc) PUnit

/-- Copy the device's own part to its slot. -/
def locStart (d : Dev nD) (a : Fin 5) (p : Pg F) : Pg F :=
  .op (.enqueueDma (inM a) (.here (dst a d)) (.dma (locSem a)) (in_exact a) (dst_exact a d) ⟨Or.inl rfl, trivial⟩) fun _ => p
/-- Send it. -/
def ownStart (d : Dev nD) (f : Own) (p : Pg F) : Pg F :=
  .op (.enqueueDma (inM f.1) (.remote (Dev.tc (dest (own f).1 d)) (dst f.1 d) (.dma (sendSem (num f.1 (own f).1)))) (.dma (recvSem (num f.1 (own f).1)))
    (in_exact _) (dst_exact _ _) ⟨⟨rfl, Or.inl rfl⟩, trivial⟩) fun _ => p
/-- Wait for a part. -/
def recvWait (d : Dev nD) (j : J) (q : Fin 8) (p : Pg F) : Pg F :=
  .op (.waitDma2 (recvSem (num j.2 j.1)) (dst j.2 q) (dst j.2 q) (dst_exact _ _) (dst_exact _ _)) fun _ => p
/-- Hand it on. -/
def fwdStart (d : Dev nD) (j : J) (p : Pg F) : Pg F :=
  .op (.enqueueDma (dst j.2 (part j.1 d)) (.remote (Dev.tc (dest j.1 d)) (dst j.2 (part j.1 d)) (.dma (sendSem (num j.2 j.1)))) (.dma (recvSem (num j.2 j.1)))
    (dst_exact _ _) (dst_exact _ _) ⟨⟨rfl, Or.inl rfl⟩, trivial⟩) fun _ => p
/-- Wait for a part from another chip and hand it on. -/
def relay (d : Dev nD) (x : Pass) (p : Pg F) : Pg F := recvWait d (near x) (part (fwd x).1 d) (fwdStart d (fwd x) p)
/-- Wait for one of the other parts. -/
def lateWait (d : Dev nD) (f : Own) (p : Pg F) : Pg F := recvWait d (late f) (orig (late f).1 d) p
/-- Wait until a send has left. -/
def ownWait (d : Dev nD) (f : Own) (p : Pg F) : Pg F :=
  .op (.waitDma2 (sendSem (num f.1 (own f).1)) (dst f.1 d) (inM f.1) (dst_exact _ _) (in_exact _)) fun _ => p
def fwdWait (d : Dev nD) (x : Pass) (p : Pg F) : Pg F :=
  .op (.waitDma2 (sendSem (num x.2 (fwd x).1)) (dst x.2 (part (fwd x).1 d)) (dst x.2 (part (fwd x).1 d)) (dst_exact _ _) (dst_exact _ _)) fun _ => p
/-- Wait for the device's own copy. -/
def locWait (d : Dev nD) (a : Fin 5) (p : Pg F) : Pg F :=
  .op (.waitDma2 (locSem a) (inM a) (dst a d) (in_exact _) (dst_exact _ _)) fun _ => p

/-- The arrays, and the transfers in the order they are issued and waited for in. -/
def arrs : List (Fin 5) := [0, 1, 2, 3, 4]
def owns : List Own := arrs.flatMap fun a => ([0, 1, 2, 3] : List (Fin 4)).map fun k => (a, k)
def passes : List Pass := ([0, 1, 2] : List (Fin 3)).flatMap fun j => arrs.map fun a => (j, a)

/-- The body after its device is known. -/
def prog (d : Dev nD) : Pg F :=
  arrs.foldr (locStart d) <| owns.foldr (ownStart d) <| passes.foldr (relay d) <| owns.foldr (lateWait d) <| owns.foldr (ownWait d) <|
    passes.foldr (fwdWait d) <| arrs.foldr (locWait d) <| .ret ⟨⟩

/-- What a program that begins by asking for its device does on device `d`. -/
def onDev {α : Type} (d : Dev nD) : Prog (TpuEff nD τ sig (Elt F) Λ₀ .tc) α → Prog (TpuEff nD τ sig (Elt F) Λ₀ .tc) α
  | .op .deviceId k => k d
  | p => p

/-- The printed body, at the call's operands. -/
abbrev printed : Prog (TpuEff nD τ sig (Elt F) Λ₀ .tc) PUnit :=
  cc0_gather_weights_l0 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) cc0_scratch0 cc0_scratch1 cc0_scratch2

/-- The printed body asks for its device first. -/
theorem printed_asks : (printed (F := F)) = .op .deviceId fun d => onDev d printed := by chain_rfl

theorem printed_on (d : Dev nD) : onDev d (printed (F := F)) = prog d := by
  fin_cases d <;> chain_rfl

end Cert.GatherWeights

end
-- ==== Proof.GatherWalk.lean ====
/-
# One device's walk through the weight gather

The semaphores as a family over `Key`, what each of them hands over (`pay`), and the body's run on device `c` from the
slots, tokens and credits it starts with to the slots it ends with (`walk`). Every slot ends with the same contents on every
device (`result`), so what is handed over is stated with those contents. A part that is handed on is waited for while other
parts are still owed: the receives of the parts handed on stand one level above the others.
-/
module

public import proofs.«01_k».proof.Proof.GatherProgram
public import Idealize.ShloMosaic.Lib.Transfers

@[expose] public section

noncomputable section

namespace Cert.GatherWeights

open Cert.GatherIdeal Cert.GatherIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

set_option Elab.async false

/-! ## The semaphores -/

/-- The semaphores: an own part's send, a handed-on part's send, a receive, a local copy. -/
abbrev Key : Type := ((Own ⊕ Pass) ⊕ J) ⊕ Fin 5
abbrev kO (f : Own) : Key := .inl (.inl (.inl f))
abbrev kF (x : Pass) : Key := .inl (.inl (.inr x))
abbrev kR (j : J) : Key := .inl (.inr j)
abbrev kL (a : Fin 5) : Key := .inr a

def osem : Key → SemLoc sig
  | .inl (.inl (.inl f)) => .dma (sendSem (num f.1 (own f).1))
  | .inl (.inl (.inr x)) => .dma (sendSem (num x.2 (fwd x).1))
  | .inl (.inr j) => .dma (recvSem (num j.2 j.1))
  | .inr a => .dma (locSem a)

/-- Where a semaphore lies. -/
def place : Key → ℕ
  | .inl (.inl (.inl f)) => f.1.val * 7 + f.2.val
  | .inl (.inl (.inr x)) => x.2.val * 7 + (4 + x.1.val)
  | .inl (.inr j) => 35 + (j.2.val * 7 + j.1.val)
  | .inr a => 70 + a.val

theorem send_place : ∀ j : Fin 35, (sendSem j).val = j.val := by decide +kernel
theorem recv_place : ∀ j : Fin 35, (recvSem j).val = 35 + j.val := by decide +kernel
theorem loc_place : ∀ a : Fin 5, (locSem a).val = 70 + a.val := by decide +kernel

theorem osem_place : ∀ k : Key, ∃ s : DmaSem sig, osem k = .dma s ∧ s.val = place k
  | .inl (.inl (.inl f)) => ⟨_, rfl, send_place _⟩
  | .inl (.inl (.inr x)) => ⟨_, rfl, send_place _⟩
  | .inl (.inr j) => ⟨_, rfl, recv_place _⟩
  | .inr a => ⟨_, rfl, loc_place _⟩

theorem place_inj : Function.Injective place := by
  rintro (((⟨⟨a, ha⟩, ⟨k, hk⟩⟩ | ⟨⟨k, hk⟩, ⟨a, ha⟩⟩) | ⟨⟨k, hk⟩, ⟨a, ha⟩⟩) | ⟨a, ha⟩)
    (((⟨⟨a', ha'⟩, ⟨k', hk'⟩⟩ | ⟨⟨k', hk'⟩, ⟨a', ha'⟩⟩) | ⟨⟨k', hk'⟩, ⟨a', ha'⟩⟩) | ⟨a', ha'⟩) h <;>
    simp only [place] at h <;>
    first
    | (obtain ⟨rfl, rfl⟩ : k = k' ∧ a = a' := by omega
       rfl)
    | (obtain rfl : a = a' := by omega
       rfl)
    | (exfalso; omega)

theorem osem_inj : Function.Injective osem := by
  intro k k' h
  obtain ⟨s, hs, hp⟩ := osem_place k
  obtain ⟨s', hs', hp'⟩ := osem_place k'
  rw [hs, hs'] at h
  have : s = s' := SemLoc.dma.inj h
  exact place_inj (by rw [← hp, ← hp', this])

/-- The units a part of array `a` credits. -/
def units (a : Fin 5) : ℕ := (dst a 0).view.dmaCredit

theorem dst_units : ∀ (a : Fin 5) (p : Fin 8), (dst a p).view.dmaCredit = units a
  | ⟨0, _⟩, _ => rfl
  | ⟨1, _⟩, _ => rfl
  | ⟨2, _⟩, _ => rfl
  | ⟨3, _⟩, _ => rfl
  | ⟨4, _⟩, _ => rfl

theorem in_units : ∀ a : Fin 5, (inM a).view.dmaCredit = units a
  | ⟨0, _⟩ => rfl
  | ⟨1, _⟩ => rfl
  | ⟨2, _⟩ => rfl
  | ⟨3, _⟩ => rfl
  | ⟨4, _⟩ => rfl

theorem blk_pos : ∀ a : Fin 5, 0 < (blk a).numel := by decide +kernel
theorem units_pos (a : Fin 5) : 0 < units a := View.dmaCredit_pos _ (blk_pos a)

def amt : Key → ℕ
  | .inl (.inl (.inl f)) => units f.1
  | .inl (.inl (.inr x)) => units x.2
  | .inl (.inr j) => units j.2
  | .inr a => units a

theorem amt_pos : ∀ k, 0 < amt k
  | .inl (.inl (.inl f)) => units_pos _
  | .inl (.inl (.inr x)) => units_pos _
  | .inl (.inr j) => units_pos _
  | .inr a => units_pos _

/-! ## The slots and what is handed over -/

variable {F : FTy → Type} [FloatOps F]

abbrev UA : Type := UK nD τ sig Key
local notation "𝕄" => MT nD τ sig Unit (Elt F) ℕ UA ℕ

variable (m : (ℓ : Loc nD τ sig) → Buf (Elt F) ℓ)

/-- What every device ends with in result `a`: in slot `p` the part of device `p`. -/
def gathered (a : Fin 5) : (outSh a).Idx → Elt F .bf16 := fun i =>
  (inM a).view.read (Elt F) (m ((inM a).view.loc ((⟨(i (1 : Fin 4)).val, (i (1 : Fin 4)).isLt⟩ : Dev nD) : Thread nD τ))) (ix3 (i (0 : Fin 4)) (i (2 : Fin 4)) (i (3 : Fin 4)))

def result (c : Dev nD) (a : Fin 5) : Buf (Elt F) ((outM a).view.loc (c : Thread nD τ)) := (outM_whole a).unread (gathered m a)

/-- A share of device `c`'s argument `a`; slot `p` of its result `a`, as the launch finds it and as it ends. -/
def inAt (c : Dev nD) (a : Fin 5) (q : PosShare TreeShare) : sProp 𝕄 :=
  (inM a).view.loc (c : Thread nD τ) ↦[(inM a).view.set]{q} m ((inM a).view.loc (c : Thread nD τ))
def dstAt (c : Dev nD) (a : Fin 5) (p : Fin 8) : sProp 𝕄 :=
  (outM a).view.loc (c : Thread nD τ) ↦[(dst a p).view.set]{fullShare} m ((outM a).view.loc (c : Thread nD τ))
def gotAt (c : Dev nD) (a : Fin 5) (p : Fin 8) : sProp 𝕄 :=
  (outM a).view.loc (c : Thread nD τ) ↦[(dst a p).view.set]{fullShare} result m c a

/-- The four sends and the local copy of an argument read it at a time, each with a share of its own. -/
abbrev shareOf (k : Fin 4) : PosShare TreeShare := shareTok fullShare 4 k
abbrev shareRest : PosShare TreeShare := shareDrop fullShare 4

/-- What a semaphore hands its waiter: a send gives the source back, a receive gives the slot as written, a local copy both. -/
def pay (c : Dev nD) : Key → sProp 𝕄
  | .inl (.inl (.inl f)) => inAt m c f.1 (shareOf f.2)
  | .inl (.inl (.inr x)) => gotAt m c x.2 (part (fwd x).1 c)
  | .inl (.inr j) => gotAt m c j.2 (orig j.1 c)
  | .inr a => iprop(gotAt m c a c ∗ inAt m c a shareRest)

theorem keeps (ℓ : Loc nD τ sig) (I : Finset (Idx ℓ)) (q : PosShare TreeShare) (f : Buf (Elt F) ℓ) : BI.Storable (upEmb : UEmb _ 𝕄) (ℓ ↦[I]{q} f : sProp 𝕄) := inferInstance
instance inAt_keeps (c : Dev nD) (a : Fin 5) (q : PosShare TreeShare) : BI.Storable (upEmb : UEmb _ 𝕄) (inAt m c a q) := keeps _ _ _ _
instance gotAt_keeps (c : Dev nD) (a : Fin 5) (p : Fin 8) : BI.Storable (upEmb : UEmb _ 𝕄) (gotAt m c a p) := keeps _ _ _ _

instance payable : Payable (pay m) where
  storable c k := match k with
    | .inl (.inl (.inl f)) => inAt_keeps m c _ _
    | .inl (.inl (.inr x)) => gotAt_keeps m c _ _
    | .inl (.inr j) => gotAt_keeps m c _ _
    | .inr a => (inferInstance : BI.Storable (upEmb : UEmb _ 𝕄) iprop(gotAt m c a c ∗ inAt m c a shareRest))

/-- What slot `p` must be given: the part of device `p`. -/
theorem read_result (c : Dev nD) (a : Fin 5) (p : Fin 8) (x : (blk a).Idx) :
    (dst a p).view.read (Elt F) (result m c a) x = (inM a).view.read (Elt F) (m ((inM a).view.loc ((p : Dev nD) : Thread nD τ))) x := by
  have hx : x = ix3 (x (0 : Fin 3)) (x (1 : Fin 3)) (x (2 : Fin 3)) := by
    funext i; match i with | ⟨0, _⟩ => rfl | ⟨1, _⟩ => rfl | ⟨2, _⟩ => rfl
  rw [hx]
  refine (Slots.read_slot1 (outM a) (outSq a) p _ _ _ _).trans ?_
  unfold result
  rw [(outM_whole a).read_unread]
  rfl

/-- Slot `p`, written with it. -/
theorem written (c : Dev nD) (a : Fin 5) (p : Fin 8) (f : Buf (Elt F) ((outM a).view.loc (c : Thread nD τ))) (u : (blk a).Idx → Elt F .bf16)
    (hu : ∀ x, (inM a).view.read (Elt F) (m ((inM a).view.loc ((p : Dev nD) : Thread nD τ))) x = u x) :
    ((outM a).view.loc (c : Thread nD τ) ↦[(dst a p).view.set]{fullShare} ((dst a p).view.write (Elt F) f u Finset.univ)) = (gotAt m c a p : sProp 𝕄) :=
  pointsTo_congr (Slots.write_on (dst a p).view _ _ _ fun x => (read_result m c a p x).trans (hu x))

/-! ## The steps -/

abbrev 𝒱₀ : Variants := Variants.none

/-- Every device's semaphores have a level: the receives of parts handed on are the upper ones. -/
abbrev levels : GSem nD τ sig → Finset Unit := fun g => if g.1.2 = .tc then {()} else ∅
open Classical in
def level : GSem nD τ sig → Unit → ℕ := fun g _ => if ∃ x : Pass, g.2 = osem (kR (fwd x)) then 2 else 1

section Walk
variable {m} {Kn : Dev nD × Key → ℕ} (c : Dev nD)

abbrev recs (Kn : Dev nD × Key → ℕ) : sProp 𝕄 := records osem amt amt_pos (pay m) Kn
abbrev wpc (c : Dev nD) (p : Pg F) (Q : PUnit → sProp 𝕄) : sProp 𝕄 := wp frame (wpE (defs₀ (F := F)) 𝒱₀ (c : Thread nD τ) none) Set.univ p Q
abbrev tok (c : Dev nD) (k : Key) : sProp 𝕄 := dutyTok ER (cell osem (c, k)) 0 k
abbrev at₀ (c : Dev nD) (k : Key) : sProp 𝕄 := atPos ER (cell osem (c, k)) 0 ∅ 0
abbrev at₁ (c : Dev nD) (k : Key) : sProp 𝕄 := atPos ER (cell osem (c, k)) 1 ∅ 0
abbrev crd (c : Dev nD) (k : Key) : sProp 𝕄 := cred (tallyAt (cell osem (c, k)) () (amt k))
abbrev levs : sProp 𝕄 := levAts levels level

/-- What device `c` owes while the sends `l` are still to be issued. -/
def owed (c : Dev nD) : List J → CellTallies nD τ sig Unit
  | [] => 0
  | j :: l => owed c l + tallyAt (cell osem (dest j.1 c, kR j)) () (amt (kR j))

theorem owed_only (g : GSem nD τ sig) (i : Unit) : ∀ l : List J, 0 < owed c l g i → ∃ j ∈ l, g = cell osem (dest j.1 c, kR j)
  | [], h => absurd h (Nat.lt_irrefl 0)
  | j :: l, h => by
    have h' : 0 < owed c l g i + (tallyAt (cell osem (dest j.1 c, kR j)) () (amt (kR j)) : CellTallies nD τ sig Unit) g i := h
    rw [tallyAt_apply] at h'
    by_cases hg : g = cell osem (dest j.1 c, kR j) ∧ i = ()
    · exact ⟨j, List.mem_cons_self, hg.1⟩
    · rw [if_neg hg, Nat.add_zero] at h'
      obtain ⟨j', hj', e⟩ := owed_only g i l h'
      exact ⟨j', List.mem_cons_of_mem _ hj', e⟩

/-- A part from another chip may be waited for while parts are still to be handed on. -/
theorem may_wait (x : Pass) (l : List Pass) : (levs : sProp 𝕄) ⊢ MayWait (c : Thread nD τ) (osem (kR (near x))) () (owed c (l.map fwd)) := by
  refine MayOwe.of_cut 1 (fun p hp => ?_) (fun g i h => ?_) (fun p hp => ?_) (fun g i h => ?_)
  · exact Finset.mem_singleton_self _
  · obtain ⟨j, -, rfl⟩ := owed_only c g i _ h
    exact Finset.mem_singleton_self _
  · obtain rfl := Finset.mem_singleton.mp hp
    unfold level
    rw [if_neg]
    rintro ⟨y, hy⟩
    have h1 : kR (near x) = kR (fwd y) := osem_inj hy
    have h2 : near x = fwd y := Sum.inr.inj (Sum.inl.inj h1)
    have h3 : 1 + x.1.val = 4 + y.1.val := congrArg (fun j : J => j.1.val) h2
    have := x.1.isLt; omega
  · obtain ⟨j, hj, rfl⟩ := owed_only c g i _ h
    obtain ⟨y, -, rfl⟩ := List.mem_map.mp hj
    unfold level
    rw [if_pos ⟨y, rfl⟩]
    exact Nat.one_lt_two

theorem loc_step (a : Fin 5) (p : Pg F) (Q : PUnit → sProp 𝕄) :
    iprop(recs (m := m) Kn ∗ (inAt m c a shareRest ∗ dstAt m c a c ∗ tok c (kL a)) ∗ emp)
      ⊢ iprop(((crd c (kL a) ∗ emp) -∗ wpc c p Q) -∗ wpc c (locStart c a p) Q) := by
  have h := step_copy (osem := osem) (amt := amt) (hamt := amt_pos) (pay := pay m) (defs := defs₀ (F := F)) (𝒱 := 𝒱₀) osem_inj (Kn := Kn) (Q := Q) c (kL a)
    (src := inM a) (dst := dst a c) (sem := .dma (locSem a)) (hsrc := in_exact a) (hdst := dst_exact a c) (hsem := ⟨Or.inl rfl, trivial⟩) (kk := fun _ => p)
    shareRest (m ((inM a).view.loc (c : Thread nD τ))) (m ((outM a).view.loc (c : Thread nD τ))) rfl (dst_units a c)
    (sep_mono_left (Entails.of_eq (written m c a c _ _ fun _ => rfl)))
  unfold inAt dstAt
  iintro ⟨#HR, ⟨Hs, Hd, Ht⟩, -⟩ Hk
  iapply h $$ [Hs Hd Ht]
  · isplitr; · iexact HR
    isplitl [Hs]; · iexact Hs
    isplitl [Hd]; · iexact Hd
    iexact Ht
  iintro Hc
  iapply Hk
  isplitl [Hc]; · iexact Hc
  iempintro

theorem orig_of (j : J) (p : Fin 8) (h : part j.1 c = p) : gotAt m (dest j.1 c) j.2 p ⊢ (gotAt m (dest j.1 c) j.2 (orig j.1 (dest j.1 c)) : sProp 𝕄) := by
  subst h; rw [orig_dest]

theorem own_step (f : Own) (l : List J) (p : Pg F) (Q : PUnit → sProp 𝕄) :
    iprop(recs (m := m) Kn ∗ (inAt m c f.1 (shareOf f.2) ∗ dstAt m (dest (own f).1 c) f.1 c ∗ tok c (kO f) ∗ tok (dest (own f).1 c) (kR (own f))) ∗ owesW c (owed c (own f :: l)))
      ⊢ iprop(((crd c (kO f) ∗ owesW c (owed c l)) -∗ wpc c p Q) -∗ wpc c (ownStart c f p) Q) := by
  have h := step_send (osem := osem) (amt := amt) (hamt := amt_pos) (pay := pay m) (defs := defs₀ (F := F)) (𝒱 := 𝒱₀) osem_inj (Kn := Kn) (Q := Q) c (dest (own f).1 c) (kO f) (kR (own f))
    (src := inM f.1) (n := dest (own f).1 c) (dst := dst f.1 c) (sS := .dma (sendSem (num f.1 (own f).1))) (sem := .dma (recvSem (num f.1 (own f).1)))
    (hsrc := in_exact _) (hdst := dst_exact _ _) (hsc := rfl) (hsem := ⟨⟨rfl, Or.inl rfl⟩, trivial⟩) (kk := fun _ => p)
    (shareOf f.2) (m ((inM f.1).view.loc (c : Thread nD τ))) (m ((outM f.1).view.loc (dest (own f).1 c : Thread nD τ))) rfl rfl rfl (dst_units f.1 c) rfl (owed c l) (by routes) .rfl
    ((Entails.of_eq (written m (dest (own f).1 c) f.1 c _ _ fun _ => rfl)).trans (orig_of (m := m) c (own f) c (part_own f c)))
  unfold inAt dstAt
  iintro ⟨#HR, ⟨Hs, Hd, Ht1, Ht2⟩, HO⟩ Hk
  iapply h $$ [Hs Hd Ht1 Ht2 HO]
  · isplitr; · iexact HR
    isplitl [Hs]; · iexact Hs
    isplitl [Hd]; · iexact Hd
    isplitl [Ht1]; · iexact Ht1
    isplitl [Ht2]; · iexact Ht2
    iexact HO
  iexact Hk

theorem fwd_step (x : Pass) (l : List J) (p : Pg F) (Q : PUnit → sProp 𝕄) :
    iprop(recs (m := m) Kn ∗ (gotAt m c x.2 (part (fwd x).1 c) ∗ dstAt m (dest (fwd x).1 c) x.2 (part (fwd x).1 c) ∗ tok c (kF x) ∗ tok (dest (fwd x).1 c) (kR (fwd x)))
        ∗ owesW c (owed c (fwd x :: l)))
      ⊢ iprop(((crd c (kF x) ∗ owesW c (owed c l)) -∗ wpc c p Q) -∗ wpc c (fwdStart c (fwd x) p) Q) := by
  have h := step_send (osem := osem) (amt := amt) (hamt := amt_pos) (pay := pay m) (defs := defs₀ (F := F)) (𝒱 := 𝒱₀) osem_inj (Kn := Kn) (Q := Q) c (dest (fwd x).1 c) (kF x) (kR (fwd x))
    (src := dst x.2 (part (fwd x).1 c)) (n := dest (fwd x).1 c) (dst := dst x.2 (part (fwd x).1 c)) (sS := .dma (sendSem (num x.2 (fwd x).1))) (sem := .dma (recvSem (num x.2 (fwd x).1)))
    (hsrc := dst_exact _ _) (hdst := dst_exact _ _) (hsc := rfl) (hsem := ⟨⟨rfl, Or.inl rfl⟩, trivial⟩) (kk := fun _ => p)
    fullShare (result m c x.2) (m ((outM x.2).view.loc (dest (fwd x).1 c : Thread nD τ))) rfl rfl rfl (dst_units x.2 _) rfl (owed c l) (by routes) .rfl
    ((Entails.of_eq (written m (dest (fwd x).1 c) x.2 (part (fwd x).1 c) _ _ fun y => (read_result m c x.2 _ y).symm)).trans (orig_of (m := m) c (fwd x) _ rfl))
  unfold dstAt gotAt
  iintro ⟨#HR, ⟨Hs, Hd, Ht1, Ht2⟩, HO⟩ Hk
  iapply h $$ [Hs Hd Ht1 Ht2 HO]
  · isplitr; · iexact HR
    isplitl [Hs]; · iexact Hs
    isplitl [Hd]; · iexact Hd
    isplitl [Ht1]; · iexact Ht1
    isplitl [Ht2]; · iexact Ht2
    iexact HO
  iexact Hk

/-- A wait, when it may be made. -/
theorem wait_step (k : Key) {s : Shape} {sem : DmaSem sig} {u v : Memref sig .tc .hbm s .bf16} {hu : u.view.WordExact} {hv : v.view.WordExact}
    (hs : SemLoc.dma sem = osem k) (hN : v.view.dmaCredit = amt k) (O : CellTallies nD τ sig Unit) (hO : (levs : sProp 𝕄) ⊢ MayWait (c : Thread nD τ) (osem k) () O) (p : Pg F) (Q : PUnit → sProp 𝕄) :
    iprop((recs (m := m) Kn ∗ levs) ∗ (crd c k ∗ at₀ c k) ∗ owesW c O)
      ⊢ iprop((((at₁ c k ∗ pay m c k) ∗ owesW c O) -∗ wpc c p Q) -∗ wpc c (.op (.waitDma2 sem u v hu hv) fun _ => p) Q) := by
  have h := step_wait (osem := osem) (amt := amt) (hamt := amt_pos) (pay := pay m) (defs := defs₀ (F := F)) (𝒱 := 𝒱₀) osem_inj (Kn := Kn) (Q := Q) c k
    (src := u) (dst := v) (sem := sem) (hsrc := hu) (hdst := hv) (kk := fun _ => p) hs hN O
  iintro ⟨⟨#HR, #HL⟩, ⟨Hc, Ha⟩, HO⟩ Hk
  iapply h $$ [Hc Ha HO]
  · isplitr; · iexact HR
    isplitl [Hc]; · iexact Hc
    isplitl [HO]; · iexact HO
    isplitr; · iapply hO; iexact HL
    iexact Ha
  iintro ⟨HO, Ha, Hp⟩
  iapply Hk
  isplitr [HO]
  · isplitl [Ha] <;> iassumption
  iexact HO

/-- Nothing owed, any wait may be made. -/
theorem free_wait (k : Key) : (levs : sProp 𝕄) ⊢ MayWait (c : Thread nD τ) (osem k) () 0 := by
  rw [MayWait_zero]; iintro -; iempintro

/-- A part from another chip is waited for and handed on. -/
theorem relay_step (x : Pass) (l : List Pass) (p : Pg F) (Q : PUnit → sProp 𝕄) :
    iprop((recs (m := m) Kn ∗ levs)
        ∗ ((crd c (kR (near x)) ∗ at₀ c (kR (near x))) ∗ dstAt m (dest (fwd x).1 c) x.2 (part (fwd x).1 c) ∗ tok c (kF x) ∗ tok (dest (fwd x).1 c) (kR (fwd x)))
        ∗ owesW c (owed c ((x :: l).map fwd)))
      ⊢ iprop((((at₁ c (kR (near x)) ∗ crd c (kF x)) ∗ owesW c (owed c (l.map fwd))) -∗ wpc c p Q) -∗ wpc c (relay c x p) Q) := by
  have h1 := wait_step (m := m) (Kn := Kn) c (kR (near x)) (u := dst x.2 (part (fwd x).1 c)) (v := dst x.2 (part (fwd x).1 c)) (hu := dst_exact _ _) (hv := dst_exact _ _)
    (sem := recvSem (num (near x).2 (near x).1)) rfl (dst_units _ _) (owed c ((x :: l).map fwd)) (may_wait c x (x :: l)) (fwdStart c (fwd x) p) Q
  have h2 := fwd_step (m := m) (Kn := Kn) c x (l.map fwd) p Q
  have hp : pay m c (kR (near x)) ⊢ (gotAt m c x.2 (part (fwd x).1 c) : sProp 𝕄) := by
    have : ∀ q, q = part (fwd x).1 c → (gotAt m c x.2 q ⊢ (gotAt m c x.2 (part (fwd x).1 c) : sProp 𝕄)) := fun _ h => h ▸ .rfl
    exact this _ (orig_near x c)
  iintro ⟨⟨#HR, #HL⟩, ⟨Hw, Hd, Ht1, Ht2⟩, HO⟩ Hk
  iapply h1 $$ [Hw HO]
  · isplitr
    · isplitr; · iexact HR
      iexact HL
    isplitl [Hw]; · iexact Hw
    iexact HO
  iintro ⟨⟨Ha, Hp⟩, HO⟩
  ihave Hp := hp $$ Hp
  iapply h2 $$ [Hp Hd Ht1 Ht2 HO]
  · isplitr; · iexact HR
    isplitr [HO]
    · isplitl [Hp]; · iexact Hp
      isplitl [Hd]; · iexact Hd
      isplitl [Ht1] <;> iassumption
    iexact HO
  iintro ⟨Hc, HO⟩
  iapply Hk
  isplitr [HO]
  · isplitl [Ha] <;> iassumption
  iexact HO

/-- What device `c` starts its walk with. -/
def begin (m : (ℓ : Loc nD τ sig) → Buf (Elt F) ℓ) (c : Dev nD) : sProp 𝕄 :=
  iprop(bigSepL arrs (fun a => iprop(inAt m c a shareRest ∗ dstAt m c a c ∗ tok c (kL a)))
    ∗ bigSepL owns (fun f => iprop(inAt m c f.1 (shareOf f.2) ∗ dstAt m (dest (own f).1 c) f.1 c ∗ tok c (kO f) ∗ tok (dest (own f).1 c) (kR (own f))))
    ∗ bigSepL passes (fun x => iprop((crd c (kR (near x)) ∗ at₀ c (kR (near x)))
        ∗ dstAt m (dest (fwd x).1 c) x.2 (part (fwd x).1 c) ∗ tok c (kF x) ∗ tok (dest (fwd x).1 c) (kR (fwd x))))
    ∗ bigSepL owns (fun f => iprop(crd c (kR (late f)) ∗ at₀ c (kR (late f))))
    ∗ bigSepL owns (fun f => at₀ c (kO f)) ∗ bigSepL passes (fun x => at₀ c (kF x)) ∗ bigSepL arrs (fun a => at₀ c (kL a)))

/-- What it ends with. -/
def finish (m : (ℓ : Loc nD τ sig) → Buf (Elt F) ℓ) (c : Dev nD) : sProp 𝕄 :=
  iprop(bigSepL passes (fun x => at₁ c (kR (near x)))
    ∗ bigSepL owns (fun f => iprop(at₁ c (kR (late f)) ∗ gotAt m c f.1 (orig (late f).1 c)))
    ∗ bigSepL owns (fun f => iprop(at₁ c (kO f) ∗ inAt m c f.1 (shareOf f.2)))
    ∗ bigSepL passes (fun x => iprop(at₁ c (kF x) ∗ gotAt m c x.2 (part (fwd x).1 c)))
    ∗ bigSepL arrs (fun a => iprop(at₁ c (kL a) ∗ gotAt m c a c ∗ inAt m c a shareRest)))

theorem zip_sep {β : Type} (l : List β) (Φ Ψ : β → sProp 𝕄) : iprop(bigSepL l Φ ∗ bigSepL l Ψ) ⊢ bigSepL l fun b => iprop(Φ b ∗ Ψ b) := by
  induction l with
  | nil => rw [bigSepL_nil, bigSepL_nil, bigSepL_nil]; iintro -; iempintro
  | cons b l ih =>
    rw [bigSepL_cons', bigSepL_cons', bigSepL_cons']
    iintro ⟨⟨H1, H2⟩, H3, H4⟩
    isplitl [H1 H3]; · isplitl [H1] <;> iassumption
    iapply ih; isplitl [H2] <;> iassumption

theorem unzip_sep {β : Type} (l : List β) (Φ Ψ : β → sProp 𝕄) : (bigSepL l fun b => iprop(Φ b ∗ Ψ b)) ⊢ iprop(bigSepL l Φ ∗ bigSepL l Ψ) := by
  induction l with
  | nil => rw [bigSepL_nil, bigSepL_nil, bigSepL_nil]; iintro -; isplitr <;> iempintro
  | cons b l ih =>
    rw [bigSepL_cons', bigSepL_cons', bigSepL_cons']
    iintro ⟨⟨H1, H2⟩, H⟩
    ihave H := ih $$ H
    icases H with ⟨H3, H4⟩
    isplitl [H1 H3]; · isplitl [H1] <;> iassumption
    isplitl [H2] <;> iassumption

/-- The order the sends are issued in. -/
def sends : List J := owns.map own ++ passes.map fwd

theorem walk (m : (ℓ : Loc nD τ sig) → Buf (Elt F) ℓ) (Q : PUnit → sProp 𝕄) :
    iprop((recs (m := m) Kn ∗ levs) ∗ begin m c ∗ owesW c (owed c sends)) ⊢ iprop(((finish m c ∗ owesW c 0) -∗ Q ⟨⟩) -∗ wpc c (prog c) Q) := by
  unfold begin finish prog sends
  iintro ⟨⟨#HR, #HV⟩, ⟨HL, HS, HP, HT, HaO, HaF, HaL⟩, HO⟩ Hk
  iapply (phase (defs := defs₀ (F := F)) (𝒱 := 𝒱₀) (Q := Q) c (locStart c) (recs (m := m) Kn) (fun a => iprop(inAt m c a shareRest ∗ dstAt m c a c ∗ tok c (kL a))) (fun a => crd c (kL a)) (fun _ => iprop(emp))
    (fun a _ p => loc_step c a p Q) _ arrs) $$ [HL]
  · isplitr; · iexact HR
    isplitl [HL]; · iexact HL
    iempintro
  iintro ⟨HcL, -⟩
  iapply (phase (defs := defs₀ (F := F)) (𝒱 := 𝒱₀) (Q := Q) c (ownStart c) (recs (m := m) Kn) _ (fun f => crd c (kO f)) (fun l => owesW c (owed c (l.map own ++ passes.map fwd)))
    (fun f l p => own_step c f (l.map own ++ passes.map fwd) p Q) _ owns) $$ [HS HO]
  · isplitr; · iexact HR
    isplitl [HS]; · iexact HS
    iexact HO
  iintro ⟨HcO, HO⟩
  iapply (phase (defs := defs₀ (F := F)) (𝒱 := 𝒱₀) (Q := Q) c (relay c) iprop(recs (m := m) Kn ∗ levs) _ (fun x => iprop(at₁ c (kR (near x)) ∗ crd c (kF x))) (fun l => owesW c (owed c (l.map fwd)))
    (fun x l p => relay_step c x l p Q) _ passes) $$ [HP HO]
  · isplitr
    · isplitr; · iexact HR
      iexact HV
    isplitl [HP]; · iexact HP
    iexact HO
  iintro ⟨H0, HO⟩
  ihave H0 := (unzip_sep passes _ _) $$ H0
  icases H0 with ⟨H0, HcF⟩
  iapply (phase (defs := defs₀ (F := F)) (𝒱 := 𝒱₀) (Q := Q) c (lateWait c) iprop(recs (m := m) Kn ∗ levs) (fun f => iprop(crd c (kR (late f)) ∗ at₀ c (kR (late f)))) (fun f => iprop(at₁ c (kR (late f)) ∗ pay m c (kR (late f)))) (fun _ => owesW c 0)
    (fun f _ p => wait_step c (kR (late f)) rfl (dst_units _ _) 0 (free_wait c _) p Q) _ owns) $$ [HT HO]
  · isplitr
    · isplitr; · iexact HR
      iexact HV
    isplitl [HT]; · iexact HT
    iexact HO
  iintro ⟨H1, HO⟩
  iapply (phase (defs := defs₀ (F := F)) (𝒱 := 𝒱₀) (Q := Q) c (ownWait c) iprop(recs (m := m) Kn ∗ levs) (fun f => iprop(crd c (kO f) ∗ at₀ c (kO f))) (fun f => iprop(at₁ c (kO f) ∗ pay m c (kO f))) (fun _ => owesW c 0)
    (fun f _ p => wait_step c (kO f) rfl (in_units _) 0 (free_wait c _) p Q) _ owns) $$ [HcO HaO HO]
  · isplitr
    · isplitr; · iexact HR
      iexact HV
    isplitr [HO]
    · iapply zip_sep; isplitl [HcO] <;> iassumption
    iexact HO
  iintro ⟨H2, HO⟩
  iapply (phase (defs := defs₀ (F := F)) (𝒱 := 𝒱₀) (Q := Q) c (fwdWait c) iprop(recs (m := m) Kn ∗ levs) (fun x => iprop(crd c (kF x) ∗ at₀ c (kF x))) (fun x => iprop(at₁ c (kF x) ∗ pay m c (kF x))) (fun _ => owesW c 0)
    (fun x _ p => wait_step c (kF x) rfl (dst_units _ _) 0 (free_wait c _) p Q) _ passes) $$ [HcF HaF HO]
  · isplitr
    · isplitr; · iexact HR
      iexact HV
    isplitr [HO]
    · iapply zip_sep; isplitl [HcF] <;> iassumption
    iexact HO
  iintro ⟨H3, HO⟩
  iapply (phase (defs := defs₀ (F := F)) (𝒱 := 𝒱₀) (Q := Q) c (locWait c) iprop(recs (m := m) Kn ∗ levs) (fun a => iprop(crd c (kL a) ∗ at₀ c (kL a))) (fun a => iprop(at₁ c (kL a) ∗ pay m c (kL a))) (fun _ => owesW c 0)
    (fun a _ p => wait_step c (kL a) rfl (dst_units _ _) 0 (free_wait c _) p Q) _ arrs) $$ [HcL HaL HO]
  · isplitr
    · isplitr; · iexact HR
      iexact HV
    isplitr [HO]
    · iapply zip_sep; isplitl [HcL] <;> iassumption
    iexact HO
  iintro ⟨H4, HO⟩
  rw [wp_ret]
  imodintro
  iapply Hk
  isplitr [HO]
  · isplitl [H0]; · iexact H0
    isplitl [H1]; · iexact H1
    isplitl [H2]; · iexact H2
    isplitl [H3]; · iexact H3
    iexact H4
  iexact HO

end Walk

end Cert.GatherWeights

end
-- ==== Proof.GatherDeal.lean ====
/-
# Dealing the weight gather's slots and tokens, and collecting them

At launch every device's memory is cut into slots and shares, and every slot of a result goes to the device that will write
it (`opening`); at the end the slots of a device are its arrays again, and slot `p` of a result holds the part of device `p`
(`closing`).
-/
module

public import proofs.«01_k».proof.Proof.SharedLaunch
public import proofs.«01_k».proof.Proof.GatherWalk

@[expose] public section

noncomputable section

namespace Cert.GatherWeights

open Cert.GatherIdeal Cert.GatherIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

set_option Elab.async false

variable {F : FTy → Type} [FloatOps F]
local notation "𝕄" => MT nD τ sig Unit (Elt F) ℕ UA ℕ
variable (m : (ℓ : Loc nD τ sig) → Buf (Elt F) ℓ)

/-! ## Lists and families -/

theorem arrs_all (Φ : Fin 5 → sProp 𝕄) : bigSepL arrs Φ = bigSep Finset.univ Φ :=
  (bigSep_univ_eq_bigSepL arrs (by decide) (by decide) Φ).symm
theorem owns_all (Φ : Own → sProp 𝕄) : bigSepL owns Φ = bigSep Finset.univ Φ :=
  (bigSep_univ_eq_bigSepL owns (by decide +kernel) (by decide +kernel) Φ).symm
theorem passes_all (Φ : Pass → sProp 𝕄) : bigSepL passes Φ = bigSep Finset.univ Φ :=
  (bigSep_univ_eq_bigSepL passes (by decide +kernel) (by decide +kernel) Φ).symm
theorem sends_all (Φ : J → sProp 𝕄) : bigSepL sends Φ = bigSep Finset.univ Φ :=
  (bigSep_univ_eq_bigSepL sends (by decide +kernel) (by decide +kernel) Φ).symm

/-- The transfers, as they are sent. -/
theorem by_send (Φ : J → sProp 𝕄) : bigSep Finset.univ Φ = iprop((bigSep Finset.univ fun f => Φ (own f)) ∗ bigSep Finset.univ fun x => Φ (fwd x)) := by
  rw [← sends_all, sends, bigSepL_append, bigSepL_map, bigSepL_map, owns_all, passes_all]
/-- The transfers, as they are waited for. -/
theorem by_wait (Φ : J → sProp 𝕄) : bigSep Finset.univ Φ = iprop((bigSep Finset.univ fun x => Φ (near x)) ∗ bigSep Finset.univ fun f => Φ (late f)) := by
  rw [bigSep_univ_eq_bigSepL (passes.map near ++ owns.map late) (by decide +kernel) (by decide +kernel) Φ, bigSepL_append, bigSepL_map, bigSepL_map, owns_all, passes_all]

/-- The devices, seen from `c`. -/
def around (c : Dev nD) : Fin 8 ≃ Dev nD := Equiv.ofBijective (fun k => order k c) ((by decide +kernel : ∀ c : Dev nD, Function.Bijective fun k => order k c) c)

theorem order_zero : ∀ c : Dev nD, order 0 c = c := by decide +kernel

/-- All devices are one and those whose parts arrive at it. -/
theorem self_and_others (c : Dev nD) (Φ : Dev nD → sProp 𝕄) :
    bigSep Finset.univ Φ = iprop(Φ c ∗ bigSep Finset.univ fun k : Fin 7 => Φ (orig k c)) := by
  rw [bigSep_univ_equiv (around c), Fin.univ_succ, Finset.cons_eq_insert, bigSep_insert (by simp [Fin.succ_ne_zero]), bigSep_map]
  show iprop(Φ (order 0 c) ∗ _) = _
  rw [order_zero]
  rfl

/-- Where a transfer goes, as a rearrangement of the devices. -/
def swap (k : Fin 7) : Dev nD ≃ Dev nD := ⟨dest k, dest k, dest_dest k, dest_dest k⟩

/-- What every device has for each transfer, handed to the device at the other end. -/
theorem swap_all (Θ : J → Dev nD → sProp 𝕄) :
    (bigSep Finset.univ fun c : Dev nD => bigSep Finset.univ fun j : J => Θ j c) = bigSep Finset.univ fun c : Dev nD => bigSep Finset.univ fun j : J => Θ j (dest j.1 c) := by
  rw [bigSep_univ_comm, bigSep_univ_comm (fun (c : Dev nD) (j : J) => Θ j (dest j.1 c))]
  exact bigSep_congr fun j _ => bigSep_univ_equiv (swap j.1) (Θ j)

/-- Slots by device are the device's own and those the transfers bring. -/
theorem by_transfer (c : Dev nD) (Φ : Fin 5 → Dev nD → sProp 𝕄) :
    (bigSep Finset.univ fun a => bigSep Finset.univ fun p => Φ a p)
      = iprop((bigSep Finset.univ fun a => Φ a c) ∗ bigSep Finset.univ fun j : J => Φ j.2 (orig j.1 c)) := by
  rw [bigSep_congr (Ψ := fun a => iprop(Φ a c ∗ bigSep Finset.univ fun k : Fin 7 => Φ a (orig k c))) fun a _ => self_and_others c (Φ a), bigSep_sep',
    bigSep_univ_comm (fun (a : Fin 5) (k : Fin 7) => Φ a (orig k c)), bigSep_univ_prod (fun j : J => Φ j.2 (orig j.1 c))]

/-! ## The memory -/

/-- Argument `a` of device `c`, and result `a`, whole, at contents. -/
abbrev inAll (c : Dev nD) (a : Fin 5) (f : Buf (Elt F) ((inM a).view.loc (c : Thread nD τ))) : sProp 𝕄 := (inM a).view.loc (c : Thread nD τ) ↦{fullShare} f
abbrev outAll (c : Dev nD) (a : Fin 5) (f : Buf (Elt F) ((outM a).view.loc (c : Thread nD τ))) : sProp 𝕄 := (outM a).view.loc (c : Thread nD τ) ↦{fullShare} f

theorem bufs_eq (c : Dev nD) :
    (unscopedBufs c (fun b => m ((c.tc : Thread nD τ).loc b)) : sProp 𝕄)
      = iprop((bigSep Finset.univ fun a => inAll c a (m _)) ∗ bigSep Finset.univ fun a => outAll c a (m _)) := by
  unfold unscopedBufs
  rw [bigSep_eq_bigSepL_of_eq (arrs.map inR ++ arrs.map outR) (by decide +kernel) (by decide +kernel), bigSepL_append, bigSepL_map, bigSepL_map, ← arrs_all, ← arrs_all]
  rfl

theorem in_shares (c : Dev nD) :
    (bigSep Finset.univ fun a => inAll (F := F) c a (m _)) = iprop((bigSep Finset.univ fun a => inAt m c a shareRest) ∗ bigSep Finset.univ fun f : Own => inAt m c f.1 (shareOf f.2)) := by
  rw [bigSep_univ_prod (fun f : Own => inAt m c f.1 (shareOf f.2)), ← bigSep_sep']
  have h : ∀ (ℓ : Loc nD τ sig) (f : Buf (Elt F) ℓ), (ℓ ↦{fullShare} f : sProp 𝕄) = iprop((ℓ ↦{shareRest} f) ∗ bigSep Finset.univ fun k : Fin 4 => ℓ ↦{shareOf k} f) :=
    fun ℓ f => equiv_iff.mp ⟨pointsTo_toks_split fullShare 4, pointsTo_toks_join fullShare 4⟩
  refine bigSep_congr fun a _ => ?_
  unfold inAt
  dsimp only
  rw [(inM_whole a).set_eq_univ]
  exact h _ _

theorem out_slots (c : Dev nD) :
    (bigSep Finset.univ fun a => outAll (F := F) c a (m _)) = iprop((bigSep Finset.univ fun a => dstAt m c a c) ∗ bigSep Finset.univ fun j : J => dstAt m c j.2 (orig j.1 c)) := by
  rw [← by_transfer c (fun a p => dstAt m c a p)]
  exact bigSep_congr fun a _ => Slots.split1 (outM_whole a) (outSq a) c fullShare _

theorem out_result (c : Dev nD) :
    (bigSep Finset.univ fun a => outAll (F := F) c a (result m c a)) = iprop((bigSep Finset.univ fun a => gotAt m c a c) ∗ bigSep Finset.univ fun j : J => gotAt m c j.2 (orig j.1 c)) := by
  rw [← by_transfer c (fun a p => gotAt m c a p)]
  exact bigSep_congr fun a _ => Slots.split1 (outM_whole a) (outSq a) c fullShare _

/-! ## The opening -/

/-- What device `c` starts with, its credits not counted. -/
def ready (c : Dev nD) : sProp 𝕄 :=
  iprop((bigSep Finset.univ fun a => iprop(inAt m c a shareRest ∗ dstAt m c a c ∗ tok c (kL a)))
    ∗ (bigSep Finset.univ fun f : Own => iprop(inAt m c f.1 (shareOf f.2) ∗ dstAt m (dest (own f).1 c) f.1 c ∗ tok c (kO f) ∗ tok (dest (own f).1 c) (kR (own f))))
    ∗ (bigSep Finset.univ fun x : Pass => iprop(dstAt m (dest (fwd x).1 c) x.2 (part (fwd x).1 c) ∗ tok c (kF x) ∗ tok (dest (fwd x).1 c) (kR (fwd x))))
    ∗ (bigSep Finset.univ fun j : J => at₀ c (kR j))
    ∗ (bigSep Finset.univ fun f => at₀ c (kO f)) ∗ (bigSep Finset.univ fun x => at₀ c (kF x)) ∗ (bigSep Finset.univ fun a => at₀ c (kL a)))

theorem begin_eq (c : Dev nD) : iprop(ready m c ∗ bigSepL sends fun j => crd c (kR j)) ⊢ begin m c := by
  unfold ready begin
  rw [arrs_all, arrs_all, sends_all, owns_all, owns_all, owns_all, passes_all, passes_all, by_wait, by_wait]
  simp only [bigSep_sep']
  iintro ⟨⟨H1, H2, ⟨H3, H4, H5⟩, ⟨H6, H7⟩, H8, H9, H10⟩, H11, H12⟩
  isplitl [H1]; · iexact H1
  isplitl [H2]; · iexact H2
  isplitl [H3 H4 H5 H6 H11]
  · isplitl [H11 H6]; · isplitl [H11] <;> iassumption
    isplitl [H3]; · iexact H3
    isplitl [H4] <;> iassumption
  isplitl [H7 H12]; · isplitl [H12] <;> iassumption
  isplitl [H8]; · iexact H8
  isplitl [H9] <;> iassumption

theorem keys_split (Φ : Key → sProp 𝕄) :
    bigSep Finset.univ Φ = iprop((((bigSep Finset.univ fun f => Φ (kO f)) ∗ bigSep Finset.univ fun x => Φ (kF x)) ∗ bigSep Finset.univ fun j => Φ (kR j)) ∗ bigSep Finset.univ fun a => Φ (kL a)) := by
  rw [bigSep_univ_sum, bigSep_univ_sum, bigSep_univ_sum]; rfl

theorem opening :
    iprop((bigSep Finset.univ fun c : Dev nD => unscopedBufs c (fun b => m ((c.tc : Thread nD τ).loc b)))
        ∗ (bigSep Finset.univ fun c : Dev nD => bigSep Finset.univ fun k => at₀ c k) ∗ (bigSep Finset.univ fun c : Dev nD => bigSep Finset.univ fun k => tok c k))
      ⊢ (bigSep Finset.univ (ready m) : sProp 𝕄) := by
  have hd : (bigSep Finset.univ fun c : Dev nD => bigSep Finset.univ fun j : J => dstAt m c j.2 (orig j.1 c))
      = iprop((bigSep Finset.univ fun c : Dev nD => bigSep Finset.univ fun f : Own => dstAt m (dest (own f).1 c) f.1 c)
          ∗ bigSep Finset.univ fun c : Dev nD => bigSep Finset.univ fun x : Pass => dstAt m (dest (fwd x).1 c) x.2 (part (fwd x).1 c)) := by
    rw [swap_all (fun j c => dstAt m c j.2 (orig j.1 c)), ← bigSep_sep']
    refine bigSep_congr fun c _ => ?_
    rw [by_send]
    simp only [orig_dest, part_own]
    rfl
  have hb : (bigSep Finset.univ fun c : Dev nD => (unscopedBufs c (fun b => m ((c.tc : Thread nD τ).loc b)) : sProp 𝕄))
      = iprop(((bigSep Finset.univ fun c : Dev nD => bigSep Finset.univ fun a => inAt m c a shareRest) ∗ bigSep Finset.univ fun c : Dev nD => bigSep Finset.univ fun f : Own => inAt m c f.1 (shareOf f.2))
          ∗ (bigSep Finset.univ fun c : Dev nD => bigSep Finset.univ fun a => dstAt m c a c)
          ∗ (bigSep Finset.univ fun c : Dev nD => bigSep Finset.univ fun f : Own => dstAt m (dest (own f).1 c) f.1 c)
          ∗ bigSep Finset.univ fun c : Dev nD => bigSep Finset.univ fun x : Pass => dstAt m (dest (fwd x).1 c) x.2 (part (fwd x).1 c)) := by
    rw [bigSep_congr fun c _ => bufs_eq m c, bigSep_sep', bigSep_congr fun c _ => in_shares m c, bigSep_congr fun c _ => out_slots m c, bigSep_sep', bigSep_sep', hd]
  have ht : (bigSep Finset.univ fun c : Dev nD => bigSep Finset.univ fun k => (tok c k : sProp 𝕄))
      = iprop((((bigSep Finset.univ fun c : Dev nD => bigSep Finset.univ fun f => tok c (kO f)) ∗ bigSep Finset.univ fun c : Dev nD => bigSep Finset.univ fun x => tok c (kF x))
          ∗ (bigSep Finset.univ fun c : Dev nD => bigSep Finset.univ fun f : Own => tok (dest (own f).1 c) (kR (own f))) ∗ bigSep Finset.univ fun c : Dev nD => bigSep Finset.univ fun x : Pass => tok (dest (fwd x).1 c) (kR (fwd x)))
          ∗ bigSep Finset.univ fun c : Dev nD => bigSep Finset.univ fun a => tok c (kL a)) := by
    rw [bigSep_congr fun c _ => keys_split (fun k => tok c k), bigSep_sep', bigSep_sep', bigSep_sep', swap_all (fun j c => tok c (kR j)),
      bigSep_congr fun c _ => by_send (fun j : J => tok (dest j.1 c) (kR j)), bigSep_sep']
  have ha : (bigSep Finset.univ fun c : Dev nD => bigSep Finset.univ fun k => (at₀ c k : sProp 𝕄))
      = iprop((((bigSep Finset.univ fun c : Dev nD => bigSep Finset.univ fun f => at₀ c (kO f)) ∗ bigSep Finset.univ fun c : Dev nD => bigSep Finset.univ fun x => at₀ c (kF x))
          ∗ bigSep Finset.univ fun c : Dev nD => bigSep Finset.univ fun j : J => at₀ c (kR j))
          ∗ bigSep Finset.univ fun c : Dev nD => bigSep Finset.univ fun a => at₀ c (kL a)) := by
    rw [bigSep_congr fun c _ => keys_split (fun k => at₀ c k), bigSep_sep', bigSep_sep', bigSep_sep']
  rw [hb, ht, ha]
  unfold ready
  simp only [bigSep_sep']
  iintro ⟨⟨⟨Hi1, Hi2⟩, Hd1, Hd2, Hd3⟩, ⟨⟨⟨Ha1, Ha2⟩, Ha3⟩, Ha4⟩, ⟨⟨Ht1, Ht2⟩, Ht3, Ht4⟩, Ht5⟩
  isplitl [Hi1 Hd1 Ht5]
  · isplitl [Hi1]; · iexact Hi1
    isplitl [Hd1] <;> iassumption
  isplitl [Hi2 Hd2 Ht1 Ht3]
  · isplitl [Hi2]; · iexact Hi2
    isplitl [Hd2]; · iexact Hd2
    isplitl [Ht1] <;> iassumption
  isplitl [Hd3 Ht2 Ht4]
  · isplitl [Hd3]; · iexact Hd3
    isplitl [Ht2] <;> iassumption
  isplitl [Ha3]; · iexact Ha3
  isplitl [Ha1]; · iexact Ha1
  isplitl [Ha2] <;> iassumption

/-! ## The closing -/

theorem closing (c : Dev nD) :
    finish m c ⊢ (iprop(((bigSep Finset.univ fun a => inAll c a (m _)) ∗ bigSep Finset.univ fun a => outAll c a (result m c a)) ∗ bigSep Finset.univ fun k => at₁ c k) : sProp 𝕄) := by
  have hg : (bigSep Finset.univ fun j : J => gotAt m c j.2 (orig j.1 c))
      = iprop((bigSep Finset.univ fun x : Pass => gotAt m c x.2 (part (fwd x).1 c)) ∗ bigSep Finset.univ fun f : Own => gotAt m c f.1 (orig (late f).1 c)) := by
    rw [by_wait]
    simp only [orig_near]
    rfl
  unfold finish
  rw [arrs_all, owns_all, owns_all, passes_all, passes_all, out_result, in_shares, hg, keys_split, by_wait (fun j => at₁ c (kR j))]
  simp only [bigSep_sep']
  iintro ⟨H1, ⟨H2, H3⟩, ⟨H4, H5⟩, ⟨H6, H7⟩, H8, H9, H10⟩
  isplitr [H1 H2 H4 H6 H8]
  · isplitl [H5 H10]
    · isplitl [H10] <;> iassumption
    isplitl [H9]; · iexact H9
    isplitl [H7] <;> iassumption
  isplitr [H8]
  · isplitl [H4 H6]
    · isplitl [H4] <;> iassumption
    isplitl [H1] <;> iassumption
  iexact H8

/-! ## The credits -/

theorem credits (c : Dev nD) (l : List J) :
    (Pipeline.launchCred (fun d => owed d l) c : sProp 𝕄) ⊢ bigSepL l fun j => crd c (kR j) := by
  induction l with
  | nil => rw [bigSepL_nil]; show Pipeline.launchCred (fun _ => 0) c ⊢ _; rw [Pipeline.launchCred_zero]; exact .rfl
  | cons j l ih =>
    rw [bigSepL_cons']
    have h := Pipeline.launchCred_tallyAt (Val := Elt F) (Name := ℕ) (U := UA) (Lvl := ℕ) (τ := τ) (osem (kR j)) (dest j.1) (dest j.1) (dest_dest j.1) (dest_dest j.1) () (amt (kR j)) c
    show Pipeline.launchCred (fun d => owed d l + tallyAt (cell osem (dest j.1 d, kR j)) () (amt (kR j))) c ⊢ _
    rw [Pipeline.launchCred_add]
    iintro ⟨H1, H2⟩
    isplitl [H2]; · iapply h; iexact H2
    iapply ih; iexact H1

end Cert.GatherWeights

end
-- ==== Proof.GatherRun.lean ====
/-
# The run of the weight gather, for any float values

From any memory, every device returns with its arguments as they were, with what the devices hold for it in its results
and with every counter at zero.
-/
module

public import proofs.«01_k».proof.Proof.GatherDeal

@[expose] public section

noncomputable section

namespace Cert.GatherWeights

open Cert.GatherIdeal Cert.GatherIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {F : FTy → Type} [FloatOps F]
local notation "𝕄" => MT nD τ sig Unit (Elt F) ℕ UA ℕ
variable (m : (ℓ : Loc nD τ sig) → Buf (Elt F) ℓ)

/-- What device `c` enters with, and leaves with beside its semaphores. -/
def enter (c : Dev nD) : sProp 𝕄 := iprop(∃ Kn, (recs (m := m) Kn ∗ levs) ∗ begin m c)
def leave (c : Dev nD) : sProp 𝕄 := iprop((bigSep Finset.univ fun a => inAll c a (m _)) ∗ bigSep Finset.univ fun a => outAll c a (result m c a))

def dats (_ : Fin 1) (c : Dev nD) : Dat τ (Elt F) Unit ℕ UA ℕ cfg0 c where
  A w := w.elim0
  after w _ := w.elim0
  Φ t := match t with
    | ⟨0, _⟩ => enter m c
    | ⟨_ + 1, _⟩ => iprop(leave m c ∗ ownSems0 osem c)
  q _ := fullShare
  owed t := match t with
    | ⟨0, _⟩ => owed c sends
    | ⟨_ + 1, _⟩ => 0

theorem body_run (c : Dev nD) :
    iprop(enter m c ∗ (dats m 0 c).owesAt () t0_0.castSucc)
      ⊢ wp frame (wpE (defs₀ (F := F)) 𝒱₀ (c : Thread nD τ) none) Set.univ printed
          (fun _ => iprop((leave m c ∗ ownSems0 osem c) ∗ (dats m 0 c).owesAt () t0_0.succ)) := by
  rw [printed_asks, wp_deviceId, printed_on]
  unfold enter Dat.owesAt Pipeline.owesWithin
  rw [show (dats m 0 c).owed t0_0.castSucc = owed c sends from rfl, show (dats m 0 c).owed t0_0.succ = 0 from rfl]
  iintro ⟨⟨%Kn, ⟨#HR, #HV⟩, HB⟩, ⟨%W, %hW, HO⟩⟩
  iapply wp_fupd
  iapply (walk c m _) $$ [HB HO]
  · isplitr
    · isplitr; · iexact HR
      iexact HV
    isplitl [HB]; · iexact HB
    unfold owesW; iexists W; iexact HO
  iintro ⟨HF, HO⟩
  ihave H := (closing m c) $$ HF
  icases H with ⟨HM, Hat⟩
  imod (close_all osem amt amt_pos (pay m) Kn c) $$ [Hat] with Hz
  · isplitr; · iexact HR
    iexact Hat
  imodintro
  isplitl [HM Hz]
  · isplitl [HM]; · unfold leave; iexact HM
    iexact Hz
  unfold owesW
  icases HO with ⟨%W', HO⟩
  iexists W'
  isplitr; · ipureintro; exact fun _ _ => Or.inl trivial
  iexact HO

theorem no_windows (Φ : Fin cfg0.W → sProp 𝕄) : bigSep Finset.univ Φ = iprop(emp) := by
  rw [show (Finset.univ : Finset (Fin cfg0.W)) = ∅ from rfl, bigSep_empty]; rfl

theorem called (F : FTy → Type) [FloatOps F] : defs₀ (F := F) .tc cfg0.body (cfg0.bodyArgs t0_0 (cfg0.slots t0_0)) = printed := by chain_rfl

theorem body_obligation (c : Dev nD) : BodyObligation (dats (F := F) m 0 c) (defs₀ (F := F)) 𝒱₀ () Set.univ := fun t => by
  rw [fin_N0 t, no_windows, no_windows]
  have e1 : (iprop((dats m 0 c).owesAt () t0_0.castSucc ∗ emp) : sProp 𝕄) = (dats m 0 c).owesAt () t0_0.castSucc := equiv_iff.mp sep_emp
  have e2 : (iprop((dats m 0 c).owesAt () t0_0.succ ∗ emp) : sProp 𝕄) = (dats m 0 c).owesAt () t0_0.succ := equiv_iff.mp sep_emp
  rw [e1, e2, called, show (dats m 0 c).Φ t0_0.castSucc = enter m c from rfl, show (dats m 0 c).Φ t0_0.succ = iprop(leave m c ∗ ownSems0 osem c) from rfl]
  refine (Entails.of_eq rfl).trans ((body_run m c).trans (Entails.of_eq ?_))
  clear e1 e2
  unfold printed
  generalize cc0_gather_weights_l0 (F := F) _ _ _ _ _ _ _ _ _ _ _ _ _ = P
  congr 1

/-! ## The launch -/

theorem ownSemFacts : Pipeline.OwnSemFacts cfg0.spec osem := by decide +kernel

def u₀ : UA := (initOf (Pipeline.cells cfgs cellOf_inj) (Pipeline.launchToks cfgs cellOf_inj), initOf (famCells osem osem_inj) (famToks osem osem_inj))

def handed (c : Dev nD) : sProp 𝕄 := iprop(∃ Kn, recs (m := m) Kn ∗ ready m c)

theorem deal :
    (bigSep Finset.univ fun c => iprop(ownSems0 osem c ∗ unscopedBufs c (fun b => m ((c.tc : Thread nD τ).loc b)) ∗ funded osem amt amt_pos (pay m) c) : sProp 𝕄)
      ⊢ |={Set.univ}=> bigSep Finset.univ (handed m) := by
  have hre : (bigSep Finset.univ fun c => iprop(ownSems0 osem c ∗ unscopedBufs c (fun b => m ((c.tc : Thread nD τ).loc b)) ∗ funded osem amt amt_pos (pay m) c) : sProp 𝕄)
      ⊢ iprop((bigSep Finset.univ fun c : Dev nD => unscopedBufs c (fun b => m ((c.tc : Thread nD τ).loc b)))
          ∗ bigSep Finset.univ fun c : Dev nD => iprop(ownSems0 osem c ∗ funded osem amt amt_pos (pay m) c)) := by
    simp only [bigSep_sep']
    iintro ⟨H1, H2, H3⟩
    isplitl [H2]; · iexact H2
    isplitl [H1] <;> iassumption
  iintro H
  ihave H := hre $$ H
  icases H with ⟨HM, HG⟩
  imod (alloc_all osem amt amt_pos (pay m)) $$ HG with ⟨%Kn, #HR, Hat, Htok⟩
  imodintro
  ihave HD := (opening m) $$ [HM Hat Htok]
  · isplitl [HM]; · iexact HM
    isplitl [Hat] <;> iassumption
  iapply (share_out (R := recs (m := m) Kn) (Φ := ready m) (Ψ := handed m) fun c _ => by
    unfold handed
    iintro H
    iexists Kn
    iexact H)
  isplitr; · iexact HR
  iexact HD

/-- A final memory: every argument as it was, every result the gathered one. -/
def QY (c : Dev nD) (s : MemSt nD τ sig (Elt F)) : Prop :=
  (∀ a, s.mem ((inM a).view.loc (c : Thread nD τ)) = m _) ∧ ∀ a, s.mem ((outM a).view.loc (c : Thread nD τ)) = result m c a

set_option maxRecDepth 8000 in
theorem run_main (g : Dev nD → PrngReg) :
    θ_run defs (onTc (τ := τ) (main (F := F))) ⟨m, fun _ => 0, g⟩ fun r => (∀ c, QY m c r.2) ∧ r.2.sem = fun _ => 0 :=
  θ_run_shared (fun p => (cfgs p).toPCfg) (fun _ p => (cfgs p).toPCfg_adm) (Dat.toRs (dats m)) () cellOf_inj (0 : Fin 1)
    winFacts0.to₀ ownSemFacts EP defs₀ 𝒱₀ m g main
    (hmain := fun _ => rfl)
    (hbody := fun c => (body_obligation m c).toR) (hne := block_pos0) (hstage := stage_whole0)
    (O₀ := fun c => owed c sends) (howed₀ := fun _ => rfl) (howedN := fun _ => rfl)
    (L := levels) (lv := level) (hL := fun _ h => if_neg h)
    (hwaits := fun c => Pipeline.cellsWaits_intro cfgs (dats m) () 0 c fun w => w.elim0)
    (G := funded osem amt amt_pos (pay m)) (G' := handed m) (u₀ := u₀)
    (hu₀ := by
      unfold u₀
      iintro Hu
      ihave H := (ownU_pair _ _) $$ Hu
      icases H with ⟨HP, HX⟩
      imod (fund_all osem amt amt_pos (pay m) osem_inj) $$ HX with HG
      imodintro
      isplitl [HP] <;> iassumption)
    (hglob := deal m)
    (harr := fun c => by
      show _ ⊢ bigSep Finset.univ _
      rw [show (Finset.univ : Finset (Fin cfg0.W)) = ∅ from rfl, bigSep_empty])
    (hpf := fun c => by
      unfold Pipeline.prefHeld
      rw [show (Finset.univ : Finset (Fin 0)) = ∅ from rfl, bigSep_empty])
    (X := enter m) (Y := leave m)
    (hX := fun c => by
      unfold handed enter
      iintro ⟨#HV, Hcr, %Kn, #HR, HG⟩
      ihave Hc := (credits (F := F) c sends) $$ Hcr
      imodintro
      iexists Kn
      isplitr
      · isplitr; · iexact HR
        iexact HV
      iapply (begin_eq m c)
      isplitl [HG] <;> iassumption)
    (hin := fun c => by
      show iprop(enter m c ∗ _ ∗ _) ⊢ enter m c
      iintro ⟨H, -, -⟩
      iexact H)
    (hout := fun c => by
      show iprop(leave m c ∗ ownSems0 osem c) ⊢ iprop(leave m c ∗ ownSems0 osem c ∗ Pipeline.scopedRest cfg0.spec c)
      rw [scopedRest0_eq]
      iintro ⟨H1, H2⟩
      isplitl [H1]; · iexact H1
      isplitl [H2]; · iexact H2
      iempintro)
    (QY := QY m)
    (hY := fun c s' => by
      unfold leave
      iintro ⟨⟨H1, H2⟩, HSI⟩
      ihave H := (pointsTo_read_all Finset.univ (fun a : Fin 5 => (inM a).view.loc (c : Thread nD τ)) (fun a => m _) s') $$ [H1 HSI]
      · isplitl [H1] <;> iassumption
      icases H with ⟨%h1, HSI⟩
      ihave H := (pointsTo_read_all Finset.univ (fun a : Fin 5 => (outM a).view.loc (c : Thread nD τ)) (fun a => result m c a) s') $$ [H2 HSI]
      · isplitl [H2] <;> iassumption
      icases H with ⟨%h2, HSI⟩
      imodintro
      isplitr; · ipureintro; exact ⟨fun a => h1 a (Finset.mem_univ a), fun a => h2 a (Finset.mem_univ a)⟩
      iexact HSI)
    (hQ := fun s h hs => ⟨h, sem_eq_zero_of_scoped (by decide) hs⟩)

end Cert.GatherWeights

end
-- ==== Proof.GatherValue.lean ====
/-
# The equation of the weight gather

The reference reads the second axis of an array as eight parts of rows. Part `d` of it is what device `d`'s block holds: this is
what the gather leaves in slot `d` on every device.
-/
module

public import proofs.«01_k».proof.Proof.GatherRun
public import Idealize.ShloMosaic.Lib.Layout
public import Idealize.ShloMosaic.Lib.Pipeline.Value

@[expose] public section

noncomputable section

namespace Cert.GatherWeights

open Idealize.ShloMosaic Idealize.ShloMosaic.ValueIdx Idealize.ShloMosaic.TcCoe

section Shapes

variable {α : Type} {n N r w : ℕ}

/-- The reference, for one array whose second axis is eight parts. -/
theorem parts (hN : N = 8 * r) (x : (⟨3, ![n, N, w]⟩ : Shape).Idx → α) (h : (⟨3, ![n, N, w]⟩ : Shape).ShapeCasts ⟨4, ![n, 8, r, w]⟩)
    (ht : Layout.Tiles ⟨3, ![n, r, w]⟩ ⟨3, ![n, N, w]⟩ 1 8) (d : Fin 8) (i : Fin n) (y : Fin r) (z : Fin w) :
    shapeCast ⟨4, ![n, 8, r, w]⟩ x h (ix4 i d y z) = Layout.block ⟨3, ![n, r, w]⟩ ⟨3, ![n, N, w]⟩ 1 8 d x ht (ix3 i y z) := by
  subst hN
  rw [Layout.block_apply]
  exact shapeCast_apply _ h _ _ (by
    rw [Shape.rowMajor_val_four, Shape.rowMajor_val_three]
    show (i.val * (8 * r) + (d.val * r + y.val)) * w + z.val = ((i.val * 8 + d.val) * r + y.val) * w + z.val
    rw [Nat.add_mul (i.val * 8), Nat.mul_assoc i.val, Nat.add_assoc])

end Shapes

variable {F : FTy → Type} [FloatOps F]
open Cert.GatherIdeal Idealize.SL.Sem

variable (m : (ℓ : Loc nD τ sig) → Buf (Elt F) ℓ)

/-- A result is an array that agrees with the gather. -/
theorem result_eq (c : Dev nD) (a : Fin 5) (X : Buf (Elt F) ((outM a).view.loc (c : Thread nD τ)))
    (h : ∀ i d y z, (outM a).view.read (Elt F) X (ix4 i d y z) = (inM a).view.read (Elt F) (m ((inM a).view.loc ((d : Dev nD) : Thread nD τ))) (ix3 i y z)) :
    result m c a = X := by
  refine ((outM_whole a).eq_unread (X := gathered m a) ?_).symm
  funext i
  rw [eq_ix4 i]
  exact h _ _ _ _

/-- The run, from memories whose arguments are the devices' blocks of whole arrays. -/
theorem run_blocks (g : Dev nD → PrngReg)
    (x0 : (⟨3, ![6, 2816, 1024]⟩ : Shape).Idx → Elt F .bf16)
    (x1 : (⟨3, ![1, 6912, 1024]⟩ : Shape).Idx → Elt F .bf16)
    (x2 : (⟨3, ![1, 1024, 1024]⟩ : Shape).Idx → Elt F .bf16)
    (x3 : (⟨3, ![1, 1024, 256]⟩ : Shape).Idx → Elt F .bf16)
    (x4 : (⟨3, ![2, 1024, 512]⟩ : Shape).Idx → Elt F .bf16)
    (hx : ∀ c : Dev nD,
      m ((c.tc : Thread nD τ).loc main_arg0) = Layout.block ⟨3, ![6, 352, 1024]⟩ ⟨3, ![6, 2816, 1024]⟩ 1 8 c x0
      ∧ m ((c.tc : Thread nD τ).loc main_arg1) = Layout.block ⟨3, ![1, 864, 1024]⟩ ⟨3, ![1, 6912, 1024]⟩ 1 8 c x1
      ∧ m ((c.tc : Thread nD τ).loc main_arg2) = Layout.block ⟨3, ![1, 128, 1024]⟩ ⟨3, ![1, 1024, 1024]⟩ 1 8 c x2
      ∧ m ((c.tc : Thread nD τ).loc main_arg3) = Layout.block ⟨3, ![1, 128, 256]⟩ ⟨3, ![1, 1024, 256]⟩ 1 8 c x3
      ∧ m ((c.tc : Thread nD τ).loc main_arg4) = Layout.block ⟨3, ![2, 128, 512]⟩ ⟨3, ![2, 1024, 512]⟩ 1 8 c x4)
    (h0 : (⟨3, ![6, 2816, 1024]⟩ : Shape).ShapeCasts ⟨4, ![6, 8, 352, 1024]⟩) (h1 : (⟨3, ![1, 6912, 1024]⟩ : Shape).ShapeCasts ⟨4, ![1, 8, 864, 1024]⟩) (h2 : (⟨3, ![1, 1024, 1024]⟩ : Shape).ShapeCasts ⟨4, ![1, 8, 128, 1024]⟩) (h3 : (⟨3, ![1, 1024, 256]⟩ : Shape).ShapeCasts ⟨4, ![1, 8, 128, 256]⟩) (h4 : (⟨3, ![2, 1024, 512]⟩ : Shape).ShapeCasts ⟨4, ![2, 8, 128, 512]⟩) :
    θ_run defs (onTc (τ := τ) (main (F := F))) ⟨m, fun _ => 0, g⟩ fun r => ∀ c : Dev nD,
      r.2.mem ((c.tc : Thread nD τ).loc main_v1_0) = shapeCast ⟨4, ![6, 8, 352, 1024]⟩ x0 h0
      ∧ r.2.mem ((c.tc : Thread nD τ).loc main_v1_1) = shapeCast ⟨4, ![1, 8, 864, 1024]⟩ x1 h1
      ∧ r.2.mem ((c.tc : Thread nD τ).loc main_v1_2) = shapeCast ⟨4, ![1, 8, 128, 1024]⟩ x2 h2
      ∧ r.2.mem ((c.tc : Thread nD τ).loc main_v1_3) = shapeCast ⟨4, ![1, 8, 128, 256]⟩ x3 h3
      ∧ r.2.mem ((c.tc : Thread nD τ).loc main_v1_4) = shapeCast ⟨4, ![2, 8, 128, 512]⟩ x4 h4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m g)
  obtain ⟨hin, hout⟩ := h.1 c
  refine ⟨(hout 0).trans (result_eq m c 0 _ fun i d y z => ?_), (hout 1).trans (result_eq m c 1 _ fun i d y z => ?_), (hout 2).trans (result_eq m c 2 _ fun i d y z => ?_), (hout 3).trans (result_eq m c 3 _ fun i d y z => ?_), (hout 4).trans (result_eq m c 4 _ fun i d y z => ?_), hin 0, hin 1, hin 2, hin 3, hin 4⟩
  · exact (parts rfl x0 h0 (by decide) d i y z).trans (congrFun (hx d).1.symm _)
  · exact (parts rfl x1 h1 (by decide) d i y z).trans (congrFun (hx d).2.1.symm _)
  · exact (parts rfl x2 h2 (by decide) d i y z).trans (congrFun (hx d).2.2.1.symm _)
  · exact (parts rfl x3 h3 (by decide) d i y z).trans (congrFun (hx d).2.2.2.1.symm _)
  · exact (parts rfl x4 h4 (by decide) d i y z).trans (congrFun (hx d).2.2.2.2.symm _)

end Cert.GatherWeights

end
-- ==== Proof.StackProgram.lean ====
/-
# The small gather's body as lists of steps

The kernel's body, written over the arrays `a` and the seven transfers `k` of each instead of statement by statement. A
device copies its own part into its own row, sends it to its neighbour on the chip and to the same core of the three other
chips, hands each part that arrives from another chip on to its neighbour, and waits for the rest. `printed_on` says that
this is the printed body, on every device.
-/
module

public import proofs.«01_k».proof.Proof.Exchange
public import proofs.«01_k».proof.Proof.Slots
public import proofs.«01_k».proof.Proof.Gen.GatherSmallIdeal
public import proofs.«01_k».proof.Proof.Gen.GatherSmallIdeal.Skeleton
public import proofs.«01_k».proof.Proof.Gen.GatherSmallIdeal.Launch
public import Idealize.ShloMosaic.Lib.Pipeline.Regions

@[expose] public section

noncomputable section

namespace Cert.GatherStack

open Cert.GatherSmallIdeal Cert.GatherSmallIdeal.Gen
open Idealize.ShloMosaic Idealize.ShloMosaic.TcCoe
open Idealize.SL Idealize.SL.Sem

set_option Elab.async false

variable {F : FTy → Type} [FloatOps F]

/-! ## The arrays -/

/-- Array `a`'s extents on a device: how many matrices, their rows and their columns. -/
def nm : Fin 1 → ℕ := ![1]
def rw' : Fin 1 → ℕ := ![2184]
def cl : Fin 1 → ℕ := ![128]

/-- One device's part. -/
abbrev blk (a : Fin 1) : Shape := ⟨3, ![nm a, rw' a, cl a]⟩
/-- All parts: one slot per device on axis 1; and one slot with its unit axis. -/
abbrev outSh (a : Fin 1) : Shape := ⟨4, ![nm a, 8, rw' a, cl a]⟩
abbrev outSl (a : Fin 1) : Shape := ⟨4, ![nm a, 1, rw' a, cl a]⟩

def inR : Fin 1 → Ref sig .tc := ![main_arg0]
def outR : Fin 1 → Ref sig .tc := ![main_v1]

/-- Argument `a`, and result `a`, whole. -/
def inM : (a : Fin 1) → Memref sig .tc .hbm (blk a) .f32
  | ⟨0, _⟩ => Memref.whole main_arg0

def outM : (a : Fin 1) → Memref sig .tc .hbm (outSh a) .f32
  | ⟨0, _⟩ => Memref.whole main_v1

theorem inM_whole : ∀ a, (inM a).IsWhole
  | ⟨0, _⟩ => Memref.isWhole_whole _

theorem outM_whole : ∀ a, (outM a).IsWhole
  | ⟨0, _⟩ => Memref.isWhole_whole _

/-! ## The slots -/

theorem outWords : ∀ (a : Fin 1) (p : Fin 8), (Slots.rect1 (n := nm a) (r := rw' a) (w := cl a) p).WholeWords (EltTy.packing .f32) := by decide +kernel
theorem outSq : ∀ a : Fin 1, (outSl a).Squeezes (blk a) := by decide +kernel

/-- Slot `p` of result `a`. -/
def dst (a : Fin 1) (p : Fin 8) : Memref sig .tc .hbm (blk a) .f32 := Slots.slot1 (outM a) (outSq a) p

theorem in_exact (a : Fin 1) : (inM a).view.WordExact := (inM_whole a).wordExact
theorem dst_exact (a : Fin 1) (p : Fin 8) : (dst a p).view.WordExact := ((outM_whole a).wordExact_slice rfl _ (outWords a p)).reshape _ _

/-! ## The semaphores -/

theorem inbT : ∀ (j : Fin 7) (i : Fin 1), (![j.val] : Fin 1 → ℕ) i + S1.size i ≤ S7.size i := by decide +kernel
theorem inbL : ∀ (j : Fin 1) (i : Fin 1), (![j.val] : Fin 1 → ℕ) i + S1.size i ≤ S1.size i := by decide +kernel

/-- The number of array `a`'s transfer `k`. -/
def num (a : Fin 1) (k : Fin 7) : Fin 7 := ⟨a.val * 7 + k.val, by have := a.isLt; have := k.isLt; omega⟩

def sendSem (j : Fin 7) : DmaSem sig := ((cc0_scratch0.slice (Rect.unit (s := S7) ![j.val] S1.size (inbT j))).squeeze S_ squeezes_S1_S_).sem
def recvSem (j : Fin 7) : DmaSem sig := ((cc0_scratch1.slice (Rect.unit (s := S7) ![j.val] S1.size (inbT j))).squeeze S_ squeezes_S1_S_).sem
def locSem (j : Fin 1) : DmaSem sig := ((cc0_scratch2.slice (Rect.unit (s := S1) ![j.val] S1.size (inbL j))).squeeze S_ squeezes_S1_S_).sem

/-! ## Who sends what to whom

Devices are numbered by three bits, of which the last says which of a chip's two cores it is. -/

/-- The device that differs from `d` in the bits of `n`. -/
def flip (n : Fin 8) (d : Dev nD) : Dev nD := ⟨d.val ^^^ n.val, Nat.xor_lt_two_pow (n := 3) d.isLt n.isLt⟩

/-- Transfer `k` goes to `dest k d`: 0 to the neighbour, 1 to 3 to the other chips, 4 to 6 to the neighbour again. -/
def dest (k : Fin 7) : Dev nD → Dev nD := flip ((![1, 4, 2, 6, 1, 1, 1] : Fin 7 → Fin 8) k)
/-- Transfer `k` carries the part of device `part k d`: 0 to 3 the sender's own, 4 to 6 those of the other chips. -/
def part (k : Fin 7) : Dev nD → Dev nD := flip ((![0, 0, 0, 0, 4, 2, 6] : Fin 7 → Fin 8) k)
/-- The devices in the order their parts arrive at `c`, its own first. -/
def order (k : Fin 8) : Dev nD → Dev nD := flip ((![0, 1, 4, 2, 6, 5, 3, 7] : Fin 8 → Fin 8) k)
/-- Transfer `k` brings the part of device `orig k d` to device `d`. -/
abbrev orig (k : Fin 7) (d : Dev nD) : Dev nD := order k.succ d

theorem dest_dest (k : Fin 7) (c : Dev nD) : dest k (dest k c) = c := by
  unfold dest flip; exact Fin.ext (by dsimp only; rw [Nat.xor_assoc, Nat.xor_self, Nat.xor_zero])
theorem orig_dest : ∀ (k : Fin 7) (c : Dev nD), orig k (dest k c) = part k c := by decide +kernel

/-- The transfers: a device's own part, of an array, by one of the first four; one that is handed on, from chip `j`; and all
    of them. -/
abbrev Own : Type := Fin 1 × Fin 4
abbrev Pass : Type := Fin 3 × Fin 1
abbrev J : Type := Fin 7 × Fin 1

/-- Its place among all: of an own part, of one handed on, of the one that must arrive before, of the ones waited for last. -/
def own (f : Own) : J := (f.2.castLE (by decide), f.1)
def fwd (p : Pass) : J := (⟨4 + p.1.val, by have := p.1.isLt; omega⟩, p.2)
def near (p : Pass) : J := (⟨1 + p.1.val, by have := p.1.isLt; omega⟩, p.2)
def late (f : Own) : J := ((![0, 4, 5, 6] : Fin 4 → Fin 7) f.2, f.1)

theorem part_own : ∀ (f : Own) (c : Dev nD), part (own f).1 c = c := fun ⟨a, k⟩ c => by
  have h : ∀ (k : Fin 4) (c : Dev nD), part (k.castLE (by decide)) c = c := by decide +kernel
  exact h k c
theorem orig_near : ∀ (p : Pass) (c : Dev nD), orig (near p).1 c = part (fwd p).1 c := fun ⟨j, a⟩ c => by
  have h : ∀ (j : Fin 3) (c : Dev nD), orig ⟨1 + j.val, by have := j.isLt; omega⟩ c = part ⟨4 + j.val, by have := j.isLt; omega⟩ c := by decide +kernel
  exact h j c

/-! ## The steps -/

abbrev Pg (F : FTy → Type) := Prog (TpuEff nD τ sig (Elt F) Λ₀ .tc) PUnit

/-- Copy the device's own part to its slot. -/
def locStart (d : Dev nD) (a : Fin 1) (p : Pg F) : Pg F :=
  .op (.enqueueDma (inM a) (.here (dst a d)) (.dma (locSem a)) (in_exact a) (dst_exact a d) ⟨Or.inl rfl, trivial⟩) fun _ => p
/-- Send it. -/
def ownStart (d : Dev nD) (f : Own) (p : Pg F) : Pg F :=
  .op (.enqueueDma (inM f.1) (.remote (Dev.tc (dest (own f).1 d)) (dst f.1 d) (.dma (sendSem (num f.1 (own f).1)))) (.dma (recvSem (num f.1 (own f).1)))
    (in_exact _) (dst_exact _ _) ⟨⟨rfl, Or.inl rfl⟩, trivial⟩) fun _ => p
/-- Wait for a part. -/
def recvWait (d : Dev nD) (j : J) (q : Fin 8) (p : Pg F) : Pg F :=
  .op (.waitDma2 (recvSem (num j.2 j.1)) (dst j.2 q) (dst j.2 q) (dst_exact _ _) (dst_exact _ _)) fun _ => p
/-- Hand it on. -/
def fwdStart (d : Dev nD) (j : J) (p : Pg F) : Pg F :=
  .op (.enqueueDma (dst j.2 (part j.1 d)) (.remote (Dev.tc (dest j.1 d)) (dst j.2 (part j.1 d)) (.dma (sendSem (num j.2 j.1)))) (.dma (recvSem (num j.2 j.1)))
    (dst_exact _ _) (dst_exact _ _) ⟨⟨rfl, Or.inl rfl⟩, trivial⟩) fun _ => p
/-- Wait for a part from another chip and hand it on. -/
def relay (d : Dev nD) (x : Pass) (p : Pg F) : Pg F := recvWait d (near x) (part (fwd x).1 d) (fwdStart d (fwd x) p)
/-- Wait for one of the other parts. -/
def lateWait (d : Dev nD) (f : Own) (p : Pg F) : Pg F := recvWait d (late f) (orig (late f).1 d) p
/-- Wait until a send has left. -/
def ownWait (d : Dev nD) (f : Own) (p : Pg F) : Pg F :=
  .op (.waitDma2 (sendSem (num f.1 (own f).1)) (dst f.1 d) (inM f.1) (dst_exact _ _) (in_exact _)) fun _ => p
def fwdWait (d : Dev nD) (x : Pass) (p : Pg F) : Pg F :=
  .op (.waitDma2 (sendSem (num x.2 (fwd x).1)) (dst x.2 (part (fwd x).1 d)) (dst x.2 (part (fwd x).1 d)) (dst_exact _ _) (dst_exact _ _)) fun _ => p
/-- Wait for the device's own copy. -/
def locWait (d : Dev nD) (a : Fin 1) (p : Pg F) : Pg F :=
  .op (.waitDma2 (locSem a) (inM a) (dst a d) (in_exact _) (dst_exact _ _)) fun _ => p

/-- The arrays, and the transfers in the order they are issued and waited for in. -/
def arrs : List (Fin 1) := [0]
def owns : List Own := arrs.flatMap fun a => ([0, 1, 2, 3] : List (Fin 4)).map fun k => (a, k)
def passes : List Pass := ([0, 1, 2] : List (Fin 3)).flatMap fun j => arrs.map fun a => (j, a)

/-- The body after its device is known. -/
def prog (d : Dev nD) : Pg F :=
  arrs.foldr (locStart d) <| owns.foldr (ownStart d) <| passes.foldr (relay d) <| owns.foldr (lateWait d) <| owns.foldr (ownWait d) <|
    passes.foldr (fwdWait d) <| arrs.foldr (locWait d) <| .ret ⟨⟩

/-- What a program that begins by asking for its device does on device `d`. -/
def onDev {α : Type} (d : Dev nD) : Prog (TpuEff nD τ sig (Elt F) Λ₀ .tc) α → Prog (TpuEff nD τ sig (Elt F) Λ₀ .tc) α
  | .op .deviceId k => k d
  | p => p

/-- The printed body, at the call's operands. -/
abbrev printed : Prog (TpuEff nD τ sig (Elt F) Λ₀ .tc) PUnit :=
  cc0_gather_small_grads (Memref.whole main_arg0) (Memref.isWhole_whole _) (Memref.whole main_v1) (Memref.isWhole_whole _) cc0_scratch0 cc0_scratch1 cc0_scratch2

/-- The printed body asks for its device first. -/
theorem printed_asks : (printed (F := F)) = .op .deviceId fun d => onDev d printed := by chain_rfl

theorem printed_on (d : Dev nD) : onDev d (printed (F := F)) = prog d := by
  fin_cases d <;> chain_rfl

end Cert.GatherStack

end
-- ==== Proof.StackWalk.lean ====
/-
# One device's walk through the small gather

The semaphores as a family over `Key`, what each of them hands over (`pay`), and the body's run on device `c` from the
slots, tokens and credits it starts with to the slots it ends with (`walk`). Every slot ends with the same contents on every
device (`result`), so what is handed over is stated with those contents. A part that is handed on is waited for while other
parts are still owed: the receives of the parts handed on stand one level above the others.
-/
module

public import proofs.«01_k».proof.Proof.StackProgram
public import Idealize.ShloMosaic.Lib.Transfers

@[expose] public section

noncomputable section

namespace Cert.GatherStack

open Cert.GatherSmallIdeal Cert.GatherSmallIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

set_option Elab.async false

/-! ## The semaphores -/

/-- The semaphores: an own part's send, a handed-on part's send, a receive, a local copy. -/
abbrev Key : Type := ((Own ⊕ Pass) ⊕ J) ⊕ Fin 1
abbrev kO (f : Own) : Key := .inl (.inl (.inl f))
abbrev kF (x : Pass) : Key := .inl (.inl (.inr x))
abbrev kR (j : J) : Key := .inl (.inr j)
abbrev kL (a : Fin 1) : Key := .inr a

def osem : Key → SemLoc sig
  | .inl (.inl (.inl f)) => .dma (sendSem (num f.1 (own f).1))
  | .inl (.inl (.inr x)) => .dma (sendSem (num x.2 (fwd x).1))
  | .inl (.inr j) => .dma (recvSem (num j.2 j.1))
  | .inr a => .dma (locSem a)

/-- Where a semaphore lies. -/
def place : Key → ℕ
  | .inl (.inl (.inl f)) => f.1.val * 7 + f.2.val
  | .inl (.inl (.inr x)) => x.2.val * 7 + (4 + x.1.val)
  | .inl (.inr j) => 7 + (j.2.val * 7 + j.1.val)
  | .inr a => 14 + a.val

theorem send_place : ∀ j : Fin 7, (sendSem j).val = j.val := by decide +kernel
theorem recv_place : ∀ j : Fin 7, (recvSem j).val = 7 + j.val := by decide +kernel
theorem loc_place : ∀ a : Fin 1, (locSem a).val = 14 + a.val := by decide +kernel

theorem osem_place : ∀ k : Key, ∃ s : DmaSem sig, osem k = .dma s ∧ s.val = place k
  | .inl (.inl (.inl f)) => ⟨_, rfl, send_place _⟩
  | .inl (.inl (.inr x)) => ⟨_, rfl, send_place _⟩
  | .inl (.inr j) => ⟨_, rfl, recv_place _⟩
  | .inr a => ⟨_, rfl, loc_place _⟩

theorem place_inj : Function.Injective place := by
  rintro (((⟨⟨a, ha⟩, ⟨k, hk⟩⟩ | ⟨⟨k, hk⟩, ⟨a, ha⟩⟩) | ⟨⟨k, hk⟩, ⟨a, ha⟩⟩) | ⟨a, ha⟩)
    (((⟨⟨a', ha'⟩, ⟨k', hk'⟩⟩ | ⟨⟨k', hk'⟩, ⟨a', ha'⟩⟩) | ⟨⟨k', hk'⟩, ⟨a', ha'⟩⟩) | ⟨a', ha'⟩) h <;>
    simp only [place] at h <;>
    first
    | (obtain ⟨rfl, rfl⟩ : k = k' ∧ a = a' := by omega
       rfl)
    | (obtain rfl : a = a' := by omega
       rfl)
    | (exfalso; omega)

theorem osem_inj : Function.Injective osem := by
  intro k k' h
  obtain ⟨s, hs, hp⟩ := osem_place k
  obtain ⟨s', hs', hp'⟩ := osem_place k'
  rw [hs, hs'] at h
  have : s = s' := SemLoc.dma.inj h
  exact place_inj (by rw [← hp, ← hp', this])

/-- The units a part of array `a` credits. -/
def units (a : Fin 1) : ℕ := (dst a 0).view.dmaCredit

theorem dst_units : ∀ (a : Fin 1) (p : Fin 8), (dst a p).view.dmaCredit = units a
  | ⟨0, _⟩, _ => rfl

theorem in_units : ∀ a : Fin 1, (inM a).view.dmaCredit = units a
  | ⟨0, _⟩ => rfl

theorem blk_pos : ∀ a : Fin 1, 0 < (blk a).numel := by decide +kernel
theorem units_pos (a : Fin 1) : 0 < units a := View.dmaCredit_pos _ (blk_pos a)

def amt : Key → ℕ
  | .inl (.inl (.inl f)) => units f.1
  | .inl (.inl (.inr x)) => units x.2
  | .inl (.inr j) => units j.2
  | .inr a => units a

theorem amt_pos : ∀ k, 0 < amt k
  | .inl (.inl (.inl f)) => units_pos _
  | .inl (.inl (.inr x)) => units_pos _
  | .inl (.inr j) => units_pos _
  | .inr a => units_pos _

/-! ## The slots and what is handed over -/

variable {F : FTy → Type} [FloatOps F]

abbrev UA : Type := UK nD τ sig Key
local notation "𝕄" => MT nD τ sig Unit (Elt F) ℕ UA ℕ

variable (m : (ℓ : Loc nD τ sig) → Buf (Elt F) ℓ)

/-- What every device ends with in result `a`: in slot `p` the part of device `p`. -/
def gathered (a : Fin 1) : (outSh a).Idx → Elt F .f32 := fun i =>
  (inM a).view.read (Elt F) (m ((inM a).view.loc ((⟨(i (1 : Fin 4)).val, (i (1 : Fin 4)).isLt⟩ : Dev nD) : Thread nD τ))) (ix3 (i (0 : Fin 4)) (i (2 : Fin 4)) (i (3 : Fin 4)))

def result (c : Dev nD) (a : Fin 1) : Buf (Elt F) ((outM a).view.loc (c : Thread nD τ)) := (outM_whole a).unread (gathered m a)

/-- A share of device `c`'s argument `a`; slot `p` of its result `a`, as the launch finds it and as it ends. -/
def inAt (c : Dev nD) (a : Fin 1) (q : PosShare TreeShare) : sProp 𝕄 :=
  (inM a).view.loc (c : Thread nD τ) ↦[(inM a).view.set]{q} m ((inM a).view.loc (c : Thread nD τ))
def dstAt (c : Dev nD) (a : Fin 1) (p : Fin 8) : sProp 𝕄 :=
  (outM a).view.loc (c : Thread nD τ) ↦[(dst a p).view.set]{fullShare} m ((outM a).view.loc (c : Thread nD τ))
def gotAt (c : Dev nD) (a : Fin 1) (p : Fin 8) : sProp 𝕄 :=
  (outM a).view.loc (c : Thread nD τ) ↦[(dst a p).view.set]{fullShare} result m c a

/-- The four sends and the local copy of an argument read it at a time, each with a share of its own. -/
abbrev shareOf (k : Fin 4) : PosShare TreeShare := shareTok fullShare 4 k
abbrev shareRest : PosShare TreeShare := shareDrop fullShare 4

/-- What a semaphore hands its waiter: a send gives the source back, a receive gives the slot as written, a local copy both. -/
def pay (c : Dev nD) : Key → sProp 𝕄
  | .inl (.inl (.inl f)) => inAt m c f.1 (shareOf f.2)
  | .inl (.inl (.inr x)) => gotAt m c x.2 (part (fwd x).1 c)
  | .inl (.inr j) => gotAt m c j.2 (orig j.1 c)
  | .inr a => iprop(gotAt m c a c ∗ inAt m c a shareRest)

theorem keeps (ℓ : Loc nD τ sig) (I : Finset (Idx ℓ)) (q : PosShare TreeShare) (f : Buf (Elt F) ℓ) : BI.Storable (upEmb : UEmb _ 𝕄) (ℓ ↦[I]{q} f : sProp 𝕄) := inferInstance
instance inAt_keeps (c : Dev nD) (a : Fin 1) (q : PosShare TreeShare) : BI.Storable (upEmb : UEmb _ 𝕄) (inAt m c a q) := keeps _ _ _ _
instance gotAt_keeps (c : Dev nD) (a : Fin 1) (p : Fin 8) : BI.Storable (upEmb : UEmb _ 𝕄) (gotAt m c a p) := keeps _ _ _ _

instance payable : Payable (pay m) where
  storable c k := match k with
    | .inl (.inl (.inl f)) => inAt_keeps m c _ _
    | .inl (.inl (.inr x)) => gotAt_keeps m c _ _
    | .inl (.inr j) => gotAt_keeps m c _ _
    | .inr a => (inferInstance : BI.Storable (upEmb : UEmb _ 𝕄) iprop(gotAt m c a c ∗ inAt m c a shareRest))

/-- What slot `p` must be given: the part of device `p`. -/
theorem read_result (c : Dev nD) (a : Fin 1) (p : Fin 8) (x : (blk a).Idx) :
    (dst a p).view.read (Elt F) (result m c a) x = (inM a).view.read (Elt F) (m ((inM a).view.loc ((p : Dev nD) : Thread nD τ))) x := by
  have hx : x = ix3 (x (0 : Fin 3)) (x (1 : Fin 3)) (x (2 : Fin 3)) := by
    funext i; match i with | ⟨0, _⟩ => rfl | ⟨1, _⟩ => rfl | ⟨2, _⟩ => rfl
  rw [hx]
  refine (Slots.read_slot1 (outM a) (outSq a) p _ _ _ _).trans ?_
  unfold result
  rw [(outM_whole a).read_unread]
  rfl

/-- Slot `p`, written with it. -/
theorem written (c : Dev nD) (a : Fin 1) (p : Fin 8) (f : Buf (Elt F) ((outM a).view.loc (c : Thread nD τ))) (u : (blk a).Idx → Elt F .f32)
    (hu : ∀ x, (inM a).view.read (Elt F) (m ((inM a).view.loc ((p : Dev nD) : Thread nD τ))) x = u x) :
    ((outM a).view.loc (c : Thread nD τ) ↦[(dst a p).view.set]{fullShare} ((dst a p).view.write (Elt F) f u Finset.univ)) = (gotAt m c a p : sProp 𝕄) :=
  pointsTo_congr (Slots.write_on (dst a p).view _ _ _ fun x => (read_result m c a p x).trans (hu x))

/-! ## The steps -/

abbrev 𝒱₀ : Variants := Variants.none

/-- Every device's semaphores have a level: the receives of parts handed on are the upper ones. -/
abbrev levels : GSem nD τ sig → Finset Unit := fun g => if g.1.2 = .tc then {()} else ∅
open Classical in
def level : GSem nD τ sig → Unit → ℕ := fun g _ => if ∃ x : Pass, g.2 = osem (kR (fwd x)) then 2 else 1

section Walk
variable {m} {Kn : Dev nD × Key → ℕ} (c : Dev nD)

abbrev recs (Kn : Dev nD × Key → ℕ) : sProp 𝕄 := records osem amt amt_pos (pay m) Kn
abbrev wpc (c : Dev nD) (p : Pg F) (Q : PUnit → sProp 𝕄) : sProp 𝕄 := wp frame (wpE (defs₀ (F := F)) 𝒱₀ (c : Thread nD τ) none) Set.univ p Q
abbrev tok (c : Dev nD) (k : Key) : sProp 𝕄 := dutyTok ER (cell osem (c, k)) 0 k
abbrev at₀ (c : Dev nD) (k : Key) : sProp 𝕄 := atPos ER (cell osem (c, k)) 0 ∅ 0
abbrev at₁ (c : Dev nD) (k : Key) : sProp 𝕄 := atPos ER (cell osem (c, k)) 1 ∅ 0
abbrev crd (c : Dev nD) (k : Key) : sProp 𝕄 := cred (tallyAt (cell osem (c, k)) () (amt k))
abbrev levs : sProp 𝕄 := levAts levels level

/-- What device `c` owes while the sends `l` are still to be issued. -/
def owed (c : Dev nD) : List J → CellTallies nD τ sig Unit
  | [] => 0
  | j :: l => owed c l + tallyAt (cell osem (dest j.1 c, kR j)) () (amt (kR j))

theorem owed_only (g : GSem nD τ sig) (i : Unit) : ∀ l : List J, 0 < owed c l g i → ∃ j ∈ l, g = cell osem (dest j.1 c, kR j)
  | [], h => absurd h (Nat.lt_irrefl 0)
  | j :: l, h => by
    have h' : 0 < owed c l g i + (tallyAt (cell osem (dest j.1 c, kR j)) () (amt (kR j)) : CellTallies nD τ sig Unit) g i := h
    rw [tallyAt_apply] at h'
    by_cases hg : g = cell osem (dest j.1 c, kR j) ∧ i = ()
    · exact ⟨j, List.mem_cons_self, hg.1⟩
    · rw [if_neg hg, Nat.add_zero] at h'
      obtain ⟨j', hj', e⟩ := owed_only g i l h'
      exact ⟨j', List.mem_cons_of_mem _ hj', e⟩

/-- A part from another chip may be waited for while parts are still to be handed on. -/
theorem may_wait (x : Pass) (l : List Pass) : (levs : sProp 𝕄) ⊢ MayWait (c : Thread nD τ) (osem (kR (near x))) () (owed c (l.map fwd)) := by
  refine MayOwe.of_cut 1 (fun p hp => ?_) (fun g i h => ?_) (fun p hp => ?_) (fun g i h => ?_)
  · exact Finset.mem_singleton_self _
  · obtain ⟨j, -, rfl⟩ := owed_only c g i _ h
    exact Finset.mem_singleton_self _
  · obtain rfl := Finset.mem_singleton.mp hp
    unfold level
    rw [if_neg]
    rintro ⟨y, hy⟩
    have h1 : kR (near x) = kR (fwd y) := osem_inj hy
    have h2 : near x = fwd y := Sum.inr.inj (Sum.inl.inj h1)
    have h3 : 1 + x.1.val = 4 + y.1.val := congrArg (fun j : J => j.1.val) h2
    have := x.1.isLt; omega
  · obtain ⟨j, hj, rfl⟩ := owed_only c g i _ h
    obtain ⟨y, -, rfl⟩ := List.mem_map.mp hj
    unfold level
    rw [if_pos ⟨y, rfl⟩]
    exact Nat.one_lt_two

theorem loc_step (a : Fin 1) (p : Pg F) (Q : PUnit → sProp 𝕄) :
    iprop(recs (m := m) Kn ∗ (inAt m c a shareRest ∗ dstAt m c a c ∗ tok c (kL a)) ∗ emp)
      ⊢ iprop(((crd c (kL a) ∗ emp) -∗ wpc c p Q) -∗ wpc c (locStart c a p) Q) := by
  have h := step_copy (osem := osem) (amt := amt) (hamt := amt_pos) (pay := pay m) (defs := defs₀ (F := F)) (𝒱 := 𝒱₀) osem_inj (Kn := Kn) (Q := Q) c (kL a)
    (src := inM a) (dst := dst a c) (sem := .dma (locSem a)) (hsrc := in_exact a) (hdst := dst_exact a c) (hsem := ⟨Or.inl rfl, trivial⟩) (kk := fun _ => p)
    shareRest (m ((inM a).view.loc (c : Thread nD τ))) (m ((outM a).view.loc (c : Thread nD τ))) rfl (dst_units a c)
    (sep_mono_left (Entails.of_eq (written m c a c _ _ fun _ => rfl)))
  unfold inAt dstAt
  iintro ⟨#HR, ⟨Hs, Hd, Ht⟩, -⟩ Hk
  iapply h $$ [Hs Hd Ht]
  · isplitr; · iexact HR
    isplitl [Hs]; · iexact Hs
    isplitl [Hd]; · iexact Hd
    iexact Ht
  iintro Hc
  iapply Hk
  isplitl [Hc]; · iexact Hc
  iempintro

theorem orig_of (j : J) (p : Fin 8) (h : part j.1 c = p) : gotAt m (dest j.1 c) j.2 p ⊢ (gotAt m (dest j.1 c) j.2 (orig j.1 (dest j.1 c)) : sProp 𝕄) := by
  subst h; rw [orig_dest]

theorem own_step (f : Own) (l : List J) (p : Pg F) (Q : PUnit → sProp 𝕄) :
    iprop(recs (m := m) Kn ∗ (inAt m c f.1 (shareOf f.2) ∗ dstAt m (dest (own f).1 c) f.1 c ∗ tok c (kO f) ∗ tok (dest (own f).1 c) (kR (own f))) ∗ owesW c (owed c (own f :: l)))
      ⊢ iprop(((crd c (kO f) ∗ owesW c (owed c l)) -∗ wpc c p Q) -∗ wpc c (ownStart c f p) Q) := by
  have h := step_send (osem := osem) (amt := amt) (hamt := amt_pos) (pay := pay m) (defs := defs₀ (F := F)) (𝒱 := 𝒱₀) osem_inj (Kn := Kn) (Q := Q) c (dest (own f).1 c) (kO f) (kR (own f))
    (src := inM f.1) (n := dest (own f).1 c) (dst := dst f.1 c) (sS := .dma (sendSem (num f.1 (own f).1))) (sem := .dma (recvSem (num f.1 (own f).1)))
    (hsrc := in_exact _) (hdst := dst_exact _ _) (hsc := rfl) (hsem := ⟨⟨rfl, Or.inl rfl⟩, trivial⟩) (kk := fun _ => p)
    (shareOf f.2) (m ((inM f.1).view.loc (c : Thread nD τ))) (m ((outM f.1).view.loc (dest (own f).1 c : Thread nD τ))) rfl rfl rfl (dst_units f.1 c) rfl (owed c l) (by routes) .rfl
    ((Entails.of_eq (written m (dest (own f).1 c) f.1 c _ _ fun _ => rfl)).trans (orig_of (m := m) c (own f) c (part_own f c)))
  unfold inAt dstAt
  iintro ⟨#HR, ⟨Hs, Hd, Ht1, Ht2⟩, HO⟩ Hk
  iapply h $$ [Hs Hd Ht1 Ht2 HO]
  · isplitr; · iexact HR
    isplitl [Hs]; · iexact Hs
    isplitl [Hd]; · iexact Hd
    isplitl [Ht1]; · iexact Ht1
    isplitl [Ht2]; · iexact Ht2
    iexact HO
  iexact Hk

theorem fwd_step (x : Pass) (l : List J) (p : Pg F) (Q : PUnit → sProp 𝕄) :
    iprop(recs (m := m) Kn ∗ (gotAt m c x.2 (part (fwd x).1 c) ∗ dstAt m (dest (fwd x).1 c) x.2 (part (fwd x).1 c) ∗ tok c (kF x) ∗ tok (dest (fwd x).1 c) (kR (fwd x)))
        ∗ owesW c (owed c (fwd x :: l)))
      ⊢ iprop(((crd c (kF x) ∗ owesW c (owed c l)) -∗ wpc c p Q) -∗ wpc c (fwdStart c (fwd x) p) Q) := by
  have h := step_send (osem := osem) (amt := amt) (hamt := amt_pos) (pay := pay m) (defs := defs₀ (F := F)) (𝒱 := 𝒱₀) osem_inj (Kn := Kn) (Q := Q) c (dest (fwd x).1 c) (kF x) (kR (fwd x))
    (src := dst x.2 (part (fwd x).1 c)) (n := dest (fwd x).1 c) (dst := dst x.2 (part (fwd x).1 c)) (sS := .dma (sendSem (num x.2 (fwd x).1))) (sem := .dma (recvSem (num x.2 (fwd x).1)))
    (hsrc := dst_exact _ _) (hdst := dst_exact _ _) (hsc := rfl) (hsem := ⟨⟨rfl, Or.inl rfl⟩, trivial⟩) (kk := fun _ => p)
    fullShare (result m c x.2) (m ((outM x.2).view.loc (dest (fwd x).1 c : Thread nD τ))) rfl rfl rfl (dst_units x.2 _) rfl (owed c l) (by routes) .rfl
    ((Entails.of_eq (written m (dest (fwd x).1 c) x.2 (part (fwd x).1 c) _ _ fun y => (read_result m c x.2 _ y).symm)).trans (orig_of (m := m) c (fwd x) _ rfl))
  unfold dstAt gotAt
  iintro ⟨#HR, ⟨Hs, Hd, Ht1, Ht2⟩, HO⟩ Hk
  iapply h $$ [Hs Hd Ht1 Ht2 HO]
  · isplitr; · iexact HR
    isplitl [Hs]; · iexact Hs
    isplitl [Hd]; · iexact Hd
    isplitl [Ht1]; · iexact Ht1
    isplitl [Ht2]; · iexact Ht2
    iexact HO
  iexact Hk

/-- A wait, when it may be made. -/
theorem wait_step (k : Key) {s : Shape} {sem : DmaSem sig} {u v : Memref sig .tc .hbm s .f32} {hu : u.view.WordExact} {hv : v.view.WordExact}
    (hs : SemLoc.dma sem = osem k) (hN : v.view.dmaCredit = amt k) (O : CellTallies nD τ sig Unit) (hO : (levs : sProp 𝕄) ⊢ MayWait (c : Thread nD τ) (osem k) () O) (p : Pg F) (Q : PUnit → sProp 𝕄) :
    iprop((recs (m := m) Kn ∗ levs) ∗ (crd c k ∗ at₀ c k) ∗ owesW c O)
      ⊢ iprop((((at₁ c k ∗ pay m c k) ∗ owesW c O) -∗ wpc c p Q) -∗ wpc c (.op (.waitDma2 sem u v hu hv) fun _ => p) Q) := by
  have h := step_wait (osem := osem) (amt := amt) (hamt := amt_pos) (pay := pay m) (defs := defs₀ (F := F)) (𝒱 := 𝒱₀) osem_inj (Kn := Kn) (Q := Q) c k
    (src := u) (dst := v) (sem := sem) (hsrc := hu) (hdst := hv) (kk := fun _ => p) hs hN O
  iintro ⟨⟨#HR, #HL⟩, ⟨Hc, Ha⟩, HO⟩ Hk
  iapply h $$ [Hc Ha HO]
  · isplitr; · iexact HR
    isplitl [Hc]; · iexact Hc
    isplitl [HO]; · iexact HO
    isplitr; · iapply hO; iexact HL
    iexact Ha
  iintro ⟨HO, Ha, Hp⟩
  iapply Hk
  isplitr [HO]
  · isplitl [Ha] <;> iassumption
  iexact HO

/-- Nothing owed, any wait may be made. -/
theorem free_wait (k : Key) : (levs : sProp 𝕄) ⊢ MayWait (c : Thread nD τ) (osem k) () 0 := by
  rw [MayWait_zero]; iintro -; iempintro

/-- A part from another chip is waited for and handed on. -/
theorem relay_step (x : Pass) (l : List Pass) (p : Pg F) (Q : PUnit → sProp 𝕄) :
    iprop((recs (m := m) Kn ∗ levs)
        ∗ ((crd c (kR (near x)) ∗ at₀ c (kR (near x))) ∗ dstAt m (dest (fwd x).1 c) x.2 (part (fwd x).1 c) ∗ tok c (kF x) ∗ tok (dest (fwd x).1 c) (kR (fwd x)))
        ∗ owesW c (owed c ((x :: l).map fwd)))
      ⊢ iprop((((at₁ c (kR (near x)) ∗ crd c (kF x)) ∗ owesW c (owed c (l.map fwd))) -∗ wpc c p Q) -∗ wpc c (relay c x p) Q) := by
  have h1 := wait_step (m := m) (Kn := Kn) c (kR (near x)) (u := dst x.2 (part (fwd x).1 c)) (v := dst x.2 (part (fwd x).1 c)) (hu := dst_exact _ _) (hv := dst_exact _ _)
    (sem := recvSem (num (near x).2 (near x).1)) rfl (dst_units _ _) (owed c ((x :: l).map fwd)) (may_wait c x (x :: l)) (fwdStart c (fwd x) p) Q
  have h2 := fwd_step (m := m) (Kn := Kn) c x (l.map fwd) p Q
  have hp : pay m c (kR (near x)) ⊢ (gotAt m c x.2 (part (fwd x).1 c) : sProp 𝕄) := by
    have : ∀ q, q = part (fwd x).1 c → (gotAt m c x.2 q ⊢ (gotAt m c x.2 (part (fwd x).1 c) : sProp 𝕄)) := fun _ h => h ▸ .rfl
    exact this _ (orig_near x c)
  iintro ⟨⟨#HR, #HL⟩, ⟨Hw, Hd, Ht1, Ht2⟩, HO⟩ Hk
  iapply h1 $$ [Hw HO]
  · isplitr
    · isplitr; · iexact HR
      iexact HL
    isplitl [Hw]; · iexact Hw
    iexact HO
  iintro ⟨⟨Ha, Hp⟩, HO⟩
  ihave Hp := hp $$ Hp
  iapply h2 $$ [Hp Hd Ht1 Ht2 HO]
  · isplitr; · iexact HR
    isplitr [HO]
    · isplitl [Hp]; · iexact Hp
      isplitl [Hd]; · iexact Hd
      isplitl [Ht1] <;> iassumption
    iexact HO
  iintro ⟨Hc, HO⟩
  iapply Hk
  isplitr [HO]
  · isplitl [Ha] <;> iassumption
  iexact HO

/-- What device `c` starts its walk with. -/
def begin (m : (ℓ : Loc nD τ sig) → Buf (Elt F) ℓ) (c : Dev nD) : sProp 𝕄 :=
  iprop(bigSepL arrs (fun a => iprop(inAt m c a shareRest ∗ dstAt m c a c ∗ tok c (kL a)))
    ∗ bigSepL owns (fun f => iprop(inAt m c f.1 (shareOf f.2) ∗ dstAt m (dest (own f).1 c) f.1 c ∗ tok c (kO f) ∗ tok (dest (own f).1 c) (kR (own f))))
    ∗ bigSepL passes (fun x => iprop((crd c (kR (near x)) ∗ at₀ c (kR (near x)))
        ∗ dstAt m (dest (fwd x).1 c) x.2 (part (fwd x).1 c) ∗ tok c (kF x) ∗ tok (dest (fwd x).1 c) (kR (fwd x))))
    ∗ bigSepL owns (fun f => iprop(crd c (kR (late f)) ∗ at₀ c (kR (late f))))
    ∗ bigSepL owns (fun f => at₀ c (kO f)) ∗ bigSepL passes (fun x => at₀ c (kF x)) ∗ bigSepL arrs (fun a => at₀ c (kL a)))

/-- What it ends with. -/
def finish (m : (ℓ : Loc nD τ sig) → Buf (Elt F) ℓ) (c : Dev nD) : sProp 𝕄 :=
  iprop(bigSepL passes (fun x => at₁ c (kR (near x)))
    ∗ bigSepL owns (fun f => iprop(at₁ c (kR (late f)) ∗ gotAt m c f.1 (orig (late f).1 c)))
    ∗ bigSepL owns (fun f => iprop(at₁ c (kO f) ∗ inAt m c f.1 (shareOf f.2)))
    ∗ bigSepL passes (fun x => iprop(at₁ c (kF x) ∗ gotAt m c x.2 (part (fwd x).1 c)))
    ∗ bigSepL arrs (fun a => iprop(at₁ c (kL a) ∗ gotAt m c a c ∗ inAt m c a shareRest)))

theorem zip_sep {β : Type} (l : List β) (Φ Ψ : β → sProp 𝕄) : iprop(bigSepL l Φ ∗ bigSepL l Ψ) ⊢ bigSepL l fun b => iprop(Φ b ∗ Ψ b) := by
  induction l with
  | nil => rw [bigSepL_nil, bigSepL_nil, bigSepL_nil]; iintro -; iempintro
  | cons b l ih =>
    rw [bigSepL_cons', bigSepL_cons', bigSepL_cons']
    iintro ⟨⟨H1, H2⟩, H3, H4⟩
    isplitl [H1 H3]; · isplitl [H1] <;> iassumption
    iapply ih; isplitl [H2] <;> iassumption

theorem unzip_sep {β : Type} (l : List β) (Φ Ψ : β → sProp 𝕄) : (bigSepL l fun b => iprop(Φ b ∗ Ψ b)) ⊢ iprop(bigSepL l Φ ∗ bigSepL l Ψ) := by
  induction l with
  | nil => rw [bigSepL_nil, bigSepL_nil, bigSepL_nil]; iintro -; isplitr <;> iempintro
  | cons b l ih =>
    rw [bigSepL_cons', bigSepL_cons', bigSepL_cons']
    iintro ⟨⟨H1, H2⟩, H⟩
    ihave H := ih $$ H
    icases H with ⟨H3, H4⟩
    isplitl [H1 H3]; · isplitl [H1] <;> iassumption
    isplitl [H2] <;> iassumption

/-- The order the sends are issued in. -/
def sends : List J := owns.map own ++ passes.map fwd

theorem walk (m : (ℓ : Loc nD τ sig) → Buf (Elt F) ℓ) (Q : PUnit → sProp 𝕄) :
    iprop((recs (m := m) Kn ∗ levs) ∗ begin m c ∗ owesW c (owed c sends)) ⊢ iprop(((finish m c ∗ owesW c 0) -∗ Q ⟨⟩) -∗ wpc c (prog c) Q) := by
  unfold begin finish prog sends
  iintro ⟨⟨#HR, #HV⟩, ⟨HL, HS, HP, HT, HaO, HaF, HaL⟩, HO⟩ Hk
  iapply (phase (defs := defs₀ (F := F)) (𝒱 := 𝒱₀) (Q := Q) c (locStart c) (recs (m := m) Kn) (fun a => iprop(inAt m c a shareRest ∗ dstAt m c a c ∗ tok c (kL a))) (fun a => crd c (kL a)) (fun _ => iprop(emp))
    (fun a _ p => loc_step c a p Q) _ arrs) $$ [HL]
  · isplitr; · iexact HR
    isplitl [HL]; · iexact HL
    iempintro
  iintro ⟨HcL, -⟩
  iapply (phase (defs := defs₀ (F := F)) (𝒱 := 𝒱₀) (Q := Q) c (ownStart c) (recs (m := m) Kn) _ (fun f => crd c (kO f)) (fun l => owesW c (owed c (l.map own ++ passes.map fwd)))
    (fun f l p => own_step c f (l.map own ++ passes.map fwd) p Q) _ owns) $$ [HS HO]
  · isplitr; · iexact HR
    isplitl [HS]; · iexact HS
    iexact HO
  iintro ⟨HcO, HO⟩
  iapply (phase (defs := defs₀ (F := F)) (𝒱 := 𝒱₀) (Q := Q) c (relay c) iprop(recs (m := m) Kn ∗ levs) _ (fun x => iprop(at₁ c (kR (near x)) ∗ crd c (kF x))) (fun l => owesW c (owed c (l.map fwd)))
    (fun x l p => relay_step c x l p Q) _ passes) $$ [HP HO]
  · isplitr
    · isplitr; · iexact HR
      iexact HV
    isplitl [HP]; · iexact HP
    iexact HO
  iintro ⟨H0, HO⟩
  ihave H0 := (unzip_sep passes _ _) $$ H0
  icases H0 with ⟨H0, HcF⟩
  iapply (phase (defs := defs₀ (F := F)) (𝒱 := 𝒱₀) (Q := Q) c (lateWait c) iprop(recs (m := m) Kn ∗ levs) (fun f => iprop(crd c (kR (late f)) ∗ at₀ c (kR (late f)))) (fun f => iprop(at₁ c (kR (late f)) ∗ pay m c (kR (late f)))) (fun _ => owesW c 0)
    (fun f _ p => wait_step c (kR (late f)) rfl (dst_units _ _) 0 (free_wait c _) p Q) _ owns) $$ [HT HO]
  · isplitr
    · isplitr; · iexact HR
      iexact HV
    isplitl [HT]; · iexact HT
    iexact HO
  iintro ⟨H1, HO⟩
  iapply (phase (defs := defs₀ (F := F)) (𝒱 := 𝒱₀) (Q := Q) c (ownWait c) iprop(recs (m := m) Kn ∗ levs) (fun f => iprop(crd c (kO f) ∗ at₀ c (kO f))) (fun f => iprop(at₁ c (kO f) ∗ pay m c (kO f))) (fun _ => owesW c 0)
    (fun f _ p => wait_step c (kO f) rfl (in_units _) 0 (free_wait c _) p Q) _ owns) $$ [HcO HaO HO]
  · isplitr
    · isplitr; · iexact HR
      iexact HV
    isplitr [HO]
    · iapply zip_sep; isplitl [HcO] <;> iassumption
    iexact HO
  iintro ⟨H2, HO⟩
  iapply (phase (defs := defs₀ (F := F)) (𝒱 := 𝒱₀) (Q := Q) c (fwdWait c) iprop(recs (m := m) Kn ∗ levs) (fun x => iprop(crd c (kF x) ∗ at₀ c (kF x))) (fun x => iprop(at₁ c (kF x) ∗ pay m c (kF x))) (fun _ => owesW c 0)
    (fun x _ p => wait_step c (kF x) rfl (dst_units _ _) 0 (free_wait c _) p Q) _ passes) $$ [HcF HaF HO]
  · isplitr
    · isplitr; · iexact HR
      iexact HV
    isplitr [HO]
    · iapply zip_sep; isplitl [HcF] <;> iassumption
    iexact HO
  iintro ⟨H3, HO⟩
  iapply (phase (defs := defs₀ (F := F)) (𝒱 := 𝒱₀) (Q := Q) c (locWait c) iprop(recs (m := m) Kn ∗ levs) (fun a => iprop(crd c (kL a) ∗ at₀ c (kL a))) (fun a => iprop(at₁ c (kL a) ∗ pay m c (kL a))) (fun _ => owesW c 0)
    (fun a _ p => wait_step c (kL a) rfl (dst_units _ _) 0 (free_wait c _) p Q) _ arrs) $$ [HcL HaL HO]
  · isplitr
    · isplitr; · iexact HR
      iexact HV
    isplitr [HO]
    · iapply zip_sep; isplitl [HcL] <;> iassumption
    iexact HO
  iintro ⟨H4, HO⟩
  rw [wp_ret]
  imodintro
  iapply Hk
  isplitr [HO]
  · isplitl [H0]; · iexact H0
    isplitl [H1]; · iexact H1
    isplitl [H2]; · iexact H2
    isplitl [H3]; · iexact H3
    iexact H4
  iexact HO

end Walk

end Cert.GatherStack

end
-- ==== Proof.StackDeal.lean ====
/-
# Dealing the small gather's slots and tokens, and collecting them

At launch every device's memory is cut into slots and shares, and every slot of a result goes to the device that will write
it (`opening`); at the end the slots of a device are its arrays again, and slot `p` of a result holds the part of device `p`
(`closing`).
-/
module

public import proofs.«01_k».proof.Proof.SharedLaunch
public import proofs.«01_k».proof.Proof.StackWalk

@[expose] public section

noncomputable section

namespace Cert.GatherStack

open Cert.GatherSmallIdeal Cert.GatherSmallIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

set_option Elab.async false

variable {F : FTy → Type} [FloatOps F]
local notation "𝕄" => MT nD τ sig Unit (Elt F) ℕ UA ℕ
variable (m : (ℓ : Loc nD τ sig) → Buf (Elt F) ℓ)

/-! ## Lists and families -/

theorem arrs_all (Φ : Fin 1 → sProp 𝕄) : bigSepL arrs Φ = bigSep Finset.univ Φ :=
  (bigSep_univ_eq_bigSepL arrs (by decide) (by decide) Φ).symm
theorem owns_all (Φ : Own → sProp 𝕄) : bigSepL owns Φ = bigSep Finset.univ Φ :=
  (bigSep_univ_eq_bigSepL owns (by decide +kernel) (by decide +kernel) Φ).symm
theorem passes_all (Φ : Pass → sProp 𝕄) : bigSepL passes Φ = bigSep Finset.univ Φ :=
  (bigSep_univ_eq_bigSepL passes (by decide +kernel) (by decide +kernel) Φ).symm
theorem sends_all (Φ : J → sProp 𝕄) : bigSepL sends Φ = bigSep Finset.univ Φ :=
  (bigSep_univ_eq_bigSepL sends (by decide +kernel) (by decide +kernel) Φ).symm

/-- The transfers, as they are sent. -/
theorem by_send (Φ : J → sProp 𝕄) : bigSep Finset.univ Φ = iprop((bigSep Finset.univ fun f => Φ (own f)) ∗ bigSep Finset.univ fun x => Φ (fwd x)) := by
  rw [← sends_all, sends, bigSepL_append, bigSepL_map, bigSepL_map, owns_all, passes_all]
/-- The transfers, as they are waited for. -/
theorem by_wait (Φ : J → sProp 𝕄) : bigSep Finset.univ Φ = iprop((bigSep Finset.univ fun x => Φ (near x)) ∗ bigSep Finset.univ fun f => Φ (late f)) := by
  rw [bigSep_univ_eq_bigSepL (passes.map near ++ owns.map late) (by decide +kernel) (by decide +kernel) Φ, bigSepL_append, bigSepL_map, bigSepL_map, owns_all, passes_all]

/-- The devices, seen from `c`. -/
def around (c : Dev nD) : Fin 8 ≃ Dev nD := Equiv.ofBijective (fun k => order k c) ((by decide +kernel : ∀ c : Dev nD, Function.Bijective fun k => order k c) c)

theorem order_zero : ∀ c : Dev nD, order 0 c = c := by decide +kernel

/-- All devices are one and those whose parts arrive at it. -/
theorem self_and_others (c : Dev nD) (Φ : Dev nD → sProp 𝕄) :
    bigSep Finset.univ Φ = iprop(Φ c ∗ bigSep Finset.univ fun k : Fin 7 => Φ (orig k c)) := by
  rw [bigSep_univ_equiv (around c), Fin.univ_succ, Finset.cons_eq_insert, bigSep_insert (by simp [Fin.succ_ne_zero]), bigSep_map]
  show iprop(Φ (order 0 c) ∗ _) = _
  rw [order_zero]
  rfl

/-- Where a transfer goes, as a rearrangement of the devices. -/
def swap (k : Fin 7) : Dev nD ≃ Dev nD := ⟨dest k, dest k, dest_dest k, dest_dest k⟩

/-- What every device has for each transfer, handed to the device at the other end. -/
theorem swap_all (Θ : J → Dev nD → sProp 𝕄) :
    (bigSep Finset.univ fun c : Dev nD => bigSep Finset.univ fun j : J => Θ j c) = bigSep Finset.univ fun c : Dev nD => bigSep Finset.univ fun j : J => Θ j (dest j.1 c) := by
  rw [bigSep_univ_comm, bigSep_univ_comm (fun (c : Dev nD) (j : J) => Θ j (dest j.1 c))]
  exact bigSep_congr fun j _ => bigSep_univ_equiv (swap j.1) (Θ j)

/-- Slots by device are the device's own and those the transfers bring. -/
theorem by_transfer (c : Dev nD) (Φ : Fin 1 → Dev nD → sProp 𝕄) :
    (bigSep Finset.univ fun a => bigSep Finset.univ fun p => Φ a p)
      = iprop((bigSep Finset.univ fun a => Φ a c) ∗ bigSep Finset.univ fun j : J => Φ j.2 (orig j.1 c)) := by
  rw [bigSep_congr (Ψ := fun a => iprop(Φ a c ∗ bigSep Finset.univ fun k : Fin 7 => Φ a (orig k c))) fun a _ => self_and_others c (Φ a), bigSep_sep',
    bigSep_univ_comm (fun (a : Fin 1) (k : Fin 7) => Φ a (orig k c)), bigSep_univ_prod (fun j : J => Φ j.2 (orig j.1 c))]

/-! ## The memory -/

/-- Argument `a` of device `c`, and result `a`, whole, at contents. -/
abbrev inAll (c : Dev nD) (a : Fin 1) (f : Buf (Elt F) ((inM a).view.loc (c : Thread nD τ))) : sProp 𝕄 := (inM a).view.loc (c : Thread nD τ) ↦{fullShare} f
abbrev outAll (c : Dev nD) (a : Fin 1) (f : Buf (Elt F) ((outM a).view.loc (c : Thread nD τ))) : sProp 𝕄 := (outM a).view.loc (c : Thread nD τ) ↦{fullShare} f

theorem bufs_eq (c : Dev nD) :
    (unscopedBufs c (fun b => m ((c.tc : Thread nD τ).loc b)) : sProp 𝕄)
      = iprop((bigSep Finset.univ fun a => inAll c a (m _)) ∗ bigSep Finset.univ fun a => outAll c a (m _)) := by
  unfold unscopedBufs
  rw [bigSep_eq_bigSepL_of_eq (arrs.map inR ++ arrs.map outR) (by decide +kernel) (by decide +kernel), bigSepL_append, bigSepL_map, bigSepL_map, ← arrs_all, ← arrs_all]
  rfl

theorem in_shares (c : Dev nD) :
    (bigSep Finset.univ fun a => inAll (F := F) c a (m _)) = iprop((bigSep Finset.univ fun a => inAt m c a shareRest) ∗ bigSep Finset.univ fun f : Own => inAt m c f.1 (shareOf f.2)) := by
  rw [bigSep_univ_prod (fun f : Own => inAt m c f.1 (shareOf f.2)), ← bigSep_sep']
  have h : ∀ (ℓ : Loc nD τ sig) (f : Buf (Elt F) ℓ), (ℓ ↦{fullShare} f : sProp 𝕄) = iprop((ℓ ↦{shareRest} f) ∗ bigSep Finset.univ fun k : Fin 4 => ℓ ↦{shareOf k} f) :=
    fun ℓ f => equiv_iff.mp ⟨pointsTo_toks_split fullShare 4, pointsTo_toks_join fullShare 4⟩
  refine bigSep_congr fun a _ => ?_
  unfold inAt
  dsimp only
  rw [(inM_whole a).set_eq_univ]
  exact h _ _

theorem out_slots (c : Dev nD) :
    (bigSep Finset.univ fun a => outAll (F := F) c a (m _)) = iprop((bigSep Finset.univ fun a => dstAt m c a c) ∗ bigSep Finset.univ fun j : J => dstAt m c j.2 (orig j.1 c)) := by
  rw [← by_transfer c (fun a p => dstAt m c a p)]
  exact bigSep_congr fun a _ => Slots.split1 (outM_whole a) (outSq a) c fullShare _

theorem out_result (c : Dev nD) :
    (bigSep Finset.univ fun a => outAll (F := F) c a (result m c a)) = iprop((bigSep Finset.univ fun a => gotAt m c a c) ∗ bigSep Finset.univ fun j : J => gotAt m c j.2 (orig j.1 c)) := by
  rw [← by_transfer c (fun a p => gotAt m c a p)]
  exact bigSep_congr fun a _ => Slots.split1 (outM_whole a) (outSq a) c fullShare _

/-! ## The opening -/

/-- What device `c` starts with, its credits not counted. -/
def ready (c : Dev nD) : sProp 𝕄 :=
  iprop((bigSep Finset.univ fun a => iprop(inAt m c a shareRest ∗ dstAt m c a c ∗ tok c (kL a)))
    ∗ (bigSep Finset.univ fun f : Own => iprop(inAt m c f.1 (shareOf f.2) ∗ dstAt m (dest (own f).1 c) f.1 c ∗ tok c (kO f) ∗ tok (dest (own f).1 c) (kR (own f))))
    ∗ (bigSep Finset.univ fun x : Pass => iprop(dstAt m (dest (fwd x).1 c) x.2 (part (fwd x).1 c) ∗ tok c (kF x) ∗ tok (dest (fwd x).1 c) (kR (fwd x))))
    ∗ (bigSep Finset.univ fun j : J => at₀ c (kR j))
    ∗ (bigSep Finset.univ fun f => at₀ c (kO f)) ∗ (bigSep Finset.univ fun x => at₀ c (kF x)) ∗ (bigSep Finset.univ fun a => at₀ c (kL a)))

theorem begin_eq (c : Dev nD) : iprop(ready m c ∗ bigSepL sends fun j => crd c (kR j)) ⊢ begin m c := by
  unfold ready begin
  rw [arrs_all, arrs_all, sends_all, owns_all, owns_all, owns_all, passes_all, passes_all, by_wait, by_wait]
  simp only [bigSep_sep']
  iintro ⟨⟨H1, H2, ⟨H3, H4, H5⟩, ⟨H6, H7⟩, H8, H9, H10⟩, H11, H12⟩
  isplitl [H1]; · iexact H1
  isplitl [H2]; · iexact H2
  isplitl [H3 H4 H5 H6 H11]
  · isplitl [H11 H6]; · isplitl [H11] <;> iassumption
    isplitl [H3]; · iexact H3
    isplitl [H4] <;> iassumption
  isplitl [H7 H12]; · isplitl [H12] <;> iassumption
  isplitl [H8]; · iexact H8
  isplitl [H9] <;> iassumption

theorem keys_split (Φ : Key → sProp 𝕄) :
    bigSep Finset.univ Φ = iprop((((bigSep Finset.univ fun f => Φ (kO f)) ∗ bigSep Finset.univ fun x => Φ (kF x)) ∗ bigSep Finset.univ fun j => Φ (kR j)) ∗ bigSep Finset.univ fun a => Φ (kL a)) := by
  rw [bigSep_univ_sum, bigSep_univ_sum, bigSep_univ_sum]; rfl

theorem opening :
    iprop((bigSep Finset.univ fun c : Dev nD => unscopedBufs c (fun b => m ((c.tc : Thread nD τ).loc b)))
        ∗ (bigSep Finset.univ fun c : Dev nD => bigSep Finset.univ fun k => at₀ c k) ∗ (bigSep Finset.univ fun c : Dev nD => bigSep Finset.univ fun k => tok c k))
      ⊢ (bigSep Finset.univ (ready m) : sProp 𝕄) := by
  have hd : (bigSep Finset.univ fun c : Dev nD => bigSep Finset.univ fun j : J => dstAt m c j.2 (orig j.1 c))
      = iprop((bigSep Finset.univ fun c : Dev nD => bigSep Finset.univ fun f : Own => dstAt m (dest (own f).1 c) f.1 c)
          ∗ bigSep Finset.univ fun c : Dev nD => bigSep Finset.univ fun x : Pass => dstAt m (dest (fwd x).1 c) x.2 (part (fwd x).1 c)) := by
    rw [swap_all (fun j c => dstAt m c j.2 (orig j.1 c)), ← bigSep_sep']
    refine bigSep_congr fun c _ => ?_
    rw [by_send]
    simp only [orig_dest, part_own]
    rfl
  have hb : (bigSep Finset.univ fun c : Dev nD => (unscopedBufs c (fun b => m ((c.tc : Thread nD τ).loc b)) : sProp 𝕄))
      = iprop(((bigSep Finset.univ fun c : Dev nD => bigSep Finset.univ fun a => inAt m c a shareRest) ∗ bigSep Finset.univ fun c : Dev nD => bigSep Finset.univ fun f : Own => inAt m c f.1 (shareOf f.2))
          ∗ (bigSep Finset.univ fun c : Dev nD => bigSep Finset.univ fun a => dstAt m c a c)
          ∗ (bigSep Finset.univ fun c : Dev nD => bigSep Finset.univ fun f : Own => dstAt m (dest (own f).1 c) f.1 c)
          ∗ bigSep Finset.univ fun c : Dev nD => bigSep Finset.univ fun x : Pass => dstAt m (dest (fwd x).1 c) x.2 (part (fwd x).1 c)) := by
    rw [bigSep_congr fun c _ => bufs_eq m c, bigSep_sep', bigSep_congr fun c _ => in_shares m c, bigSep_congr fun c _ => out_slots m c, bigSep_sep', bigSep_sep', hd]
  have ht : (bigSep Finset.univ fun c : Dev nD => bigSep Finset.univ fun k => (tok c k : sProp 𝕄))
      = iprop((((bigSep Finset.univ fun c : Dev nD => bigSep Finset.univ fun f => tok c (kO f)) ∗ bigSep Finset.univ fun c : Dev nD => bigSep Finset.univ fun x => tok c (kF x))
          ∗ (bigSep Finset.univ fun c : Dev nD => bigSep Finset.univ fun f : Own => tok (dest (own f).1 c) (kR (own f))) ∗ bigSep Finset.univ fun c : Dev nD => bigSep Finset.univ fun x : Pass => tok (dest (fwd x).1 c) (kR (fwd x)))
          ∗ bigSep Finset.univ fun c : Dev nD => bigSep Finset.univ fun a => tok c (kL a)) := by
    rw [bigSep_congr fun c _ => keys_split (fun k => tok c k), bigSep_sep', bigSep_sep', bigSep_sep', swap_all (fun j c => tok c (kR j)),
      bigSep_congr fun c _ => by_send (fun j : J => tok (dest j.1 c) (kR j)), bigSep_sep']
  have ha : (bigSep Finset.univ fun c : Dev nD => bigSep Finset.univ fun k => (at₀ c k : sProp 𝕄))
      = iprop((((bigSep Finset.univ fun c : Dev nD => bigSep Finset.univ fun f => at₀ c (kO f)) ∗ bigSep Finset.univ fun c : Dev nD => bigSep Finset.univ fun x => at₀ c (kF x))
          ∗ bigSep Finset.univ fun c : Dev nD => bigSep Finset.univ fun j : J => at₀ c (kR j))
          ∗ bigSep Finset.univ fun c : Dev nD => bigSep Finset.univ fun a => at₀ c (kL a)) := by
    rw [bigSep_congr fun c _ => keys_split (fun k => at₀ c k), bigSep_sep', bigSep_sep', bigSep_sep']
  rw [hb, ht, ha]
  unfold ready
  simp only [bigSep_sep']
  iintro ⟨⟨⟨Hi1, Hi2⟩, Hd1, Hd2, Hd3⟩, ⟨⟨⟨Ha1, Ha2⟩, Ha3⟩, Ha4⟩, ⟨⟨Ht1, Ht2⟩, Ht3, Ht4⟩, Ht5⟩
  isplitl [Hi1 Hd1 Ht5]
  · isplitl [Hi1]; · iexact Hi1
    isplitl [Hd1] <;> iassumption
  isplitl [Hi2 Hd2 Ht1 Ht3]
  · isplitl [Hi2]; · iexact Hi2
    isplitl [Hd2]; · iexact Hd2
    isplitl [Ht1] <;> iassumption
  isplitl [Hd3 Ht2 Ht4]
  · isplitl [Hd3]; · iexact Hd3
    isplitl [Ht2] <;> iassumption
  isplitl [Ha3]; · iexact Ha3
  isplitl [Ha1]; · iexact Ha1
  isplitl [Ha2] <;> iassumption

/-! ## The closing -/

theorem closing (c : Dev nD) :
    finish m c ⊢ (iprop(((bigSep Finset.univ fun a => inAll c a (m _)) ∗ bigSep Finset.univ fun a => outAll c a (result m c a)) ∗ bigSep Finset.univ fun k => at₁ c k) : sProp 𝕄) := by
  have hg : (bigSep Finset.univ fun j : J => gotAt m c j.2 (orig j.1 c))
      = iprop((bigSep Finset.univ fun x : Pass => gotAt m c x.2 (part (fwd x).1 c)) ∗ bigSep Finset.univ fun f : Own => gotAt m c f.1 (orig (late f).1 c)) := by
    rw [by_wait]
    simp only [orig_near]
    rfl
  unfold finish
  rw [arrs_all, owns_all, owns_all, passes_all, passes_all, out_result, in_shares, hg, keys_split, by_wait (fun j => at₁ c (kR j))]
  simp only [bigSep_sep']
  iintro ⟨H1, ⟨H2, H3⟩, ⟨H4, H5⟩, ⟨H6, H7⟩, H8, H9, H10⟩
  isplitr [H1 H2 H4 H6 H8]
  · isplitl [H5 H10]
    · isplitl [H10] <;> iassumption
    isplitl [H9]; · iexact H9
    isplitl [H7] <;> iassumption
  isplitr [H8]
  · isplitl [H4 H6]
    · isplitl [H4] <;> iassumption
    isplitl [H1] <;> iassumption
  iexact H8

/-! ## The credits -/

theorem credits (c : Dev nD) (l : List J) :
    (Pipeline.launchCred (fun d => owed d l) c : sProp 𝕄) ⊢ bigSepL l fun j => crd c (kR j) := by
  induction l with
  | nil => rw [bigSepL_nil]; show Pipeline.launchCred (fun _ => 0) c ⊢ _; rw [Pipeline.launchCred_zero]; exact .rfl
  | cons j l ih =>
    rw [bigSepL_cons']
    have h := Pipeline.launchCred_tallyAt (Val := Elt F) (Name := ℕ) (U := UA) (Lvl := ℕ) (τ := τ) (osem (kR j)) (dest j.1) (dest j.1) (dest_dest j.1) (dest_dest j.1) () (amt (kR j)) c
    show Pipeline.launchCred (fun d => owed d l + tallyAt (cell osem (dest j.1 d, kR j)) () (amt (kR j))) c ⊢ _
    rw [Pipeline.launchCred_add]
    iintro ⟨H1, H2⟩
    isplitl [H2]; · iapply h; iexact H2
    iapply ih; iexact H1

end Cert.GatherStack

end
-- ==== Proof.StackRun.lean ====
/-
# The run of the small gather, for any float values

From any memory, every device returns with its arguments as they were, with what the devices hold for it in its results
and with every counter at zero.
-/
module

public import proofs.«01_k».proof.Proof.StackDeal

@[expose] public section

noncomputable section

namespace Cert.GatherStack

open Cert.GatherSmallIdeal Cert.GatherSmallIdeal.Gen Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {F : FTy → Type} [FloatOps F]
local notation "𝕄" => MT nD τ sig Unit (Elt F) ℕ UA ℕ
variable (m : (ℓ : Loc nD τ sig) → Buf (Elt F) ℓ)

/-- What device `c` enters with, and leaves with beside its semaphores. -/
def enter (c : Dev nD) : sProp 𝕄 := iprop(∃ Kn, (recs (m := m) Kn ∗ levs) ∗ begin m c)
def leave (c : Dev nD) : sProp 𝕄 := iprop((bigSep Finset.univ fun a => inAll c a (m _)) ∗ bigSep Finset.univ fun a => outAll c a (result m c a))

def dats (_ : Fin 1) (c : Dev nD) : Dat τ (Elt F) Unit ℕ UA ℕ cfg0 c where
  A w := w.elim0
  after w _ := w.elim0
  Φ t := match t with
    | ⟨0, _⟩ => enter m c
    | ⟨_ + 1, _⟩ => iprop(leave m c ∗ ownSems0 osem c)
  q _ := fullShare
  owed t := match t with
    | ⟨0, _⟩ => owed c sends
    | ⟨_ + 1, _⟩ => 0

theorem body_run (c : Dev nD) :
    iprop(enter m c ∗ (dats m 0 c).owesAt () t0_0.castSucc)
      ⊢ wp frame (wpE (defs₀ (F := F)) 𝒱₀ (c : Thread nD τ) none) Set.univ printed
          (fun _ => iprop((leave m c ∗ ownSems0 osem c) ∗ (dats m 0 c).owesAt () t0_0.succ)) := by
  rw [printed_asks, wp_deviceId, printed_on]
  unfold enter Dat.owesAt Pipeline.owesWithin
  rw [show (dats m 0 c).owed t0_0.castSucc = owed c sends from rfl, show (dats m 0 c).owed t0_0.succ = 0 from rfl]
  iintro ⟨⟨%Kn, ⟨#HR, #HV⟩, HB⟩, ⟨%W, %hW, HO⟩⟩
  iapply wp_fupd
  iapply (walk c m _) $$ [HB HO]
  · isplitr
    · isplitr; · iexact HR
      iexact HV
    isplitl [HB]; · iexact HB
    unfold owesW; iexists W; iexact HO
  iintro ⟨HF, HO⟩
  ihave H := (closing m c) $$ HF
  icases H with ⟨HM, Hat⟩
  imod (close_all osem amt amt_pos (pay m) Kn c) $$ [Hat] with Hz
  · isplitr; · iexact HR
    iexact Hat
  imodintro
  isplitl [HM Hz]
  · isplitl [HM]; · unfold leave; iexact HM
    iexact Hz
  unfold owesW
  icases HO with ⟨%W', HO⟩
  iexists W'
  isplitr; · ipureintro; exact fun _ _ => Or.inl trivial
  iexact HO

theorem no_windows (Φ : Fin cfg0.W → sProp 𝕄) : bigSep Finset.univ Φ = iprop(emp) := by
  rw [show (Finset.univ : Finset (Fin cfg0.W)) = ∅ from rfl, bigSep_empty]; rfl

theorem called (F : FTy → Type) [FloatOps F] : defs₀ (F := F) .tc cfg0.body (cfg0.bodyArgs t0_0 (cfg0.slots t0_0)) = printed := by chain_rfl

theorem body_obligation (c : Dev nD) : BodyObligation (dats (F := F) m 0 c) (defs₀ (F := F)) 𝒱₀ () Set.univ := fun t => by
  rw [fin_N0 t, no_windows, no_windows]
  have e1 : (iprop((dats m 0 c).owesAt () t0_0.castSucc ∗ emp) : sProp 𝕄) = (dats m 0 c).owesAt () t0_0.castSucc := equiv_iff.mp sep_emp
  have e2 : (iprop((dats m 0 c).owesAt () t0_0.succ ∗ emp) : sProp 𝕄) = (dats m 0 c).owesAt () t0_0.succ := equiv_iff.mp sep_emp
  rw [e1, e2, called, show (dats m 0 c).Φ t0_0.castSucc = enter m c from rfl, show (dats m 0 c).Φ t0_0.succ = iprop(leave m c ∗ ownSems0 osem c) from rfl]
  refine (Entails.of_eq rfl).trans ((body_run m c).trans (Entails.of_eq ?_))
  clear e1 e2
  unfold printed
  generalize cc0_gather_small_grads (F := F) _ _ _ _ _ = P
  congr 1

/-! ## The launch -/

theorem ownSemFacts : Pipeline.OwnSemFacts cfg0.spec osem := by decide +kernel

def u₀ : UA := (initOf (Pipeline.cells cfgs cellOf_inj) (Pipeline.launchToks cfgs cellOf_inj), initOf (famCells osem osem_inj) (famToks osem osem_inj))

def handed (c : Dev nD) : sProp 𝕄 := iprop(∃ Kn, recs (m := m) Kn ∗ ready m c)

theorem deal :
    (bigSep Finset.univ fun c => iprop(ownSems0 osem c ∗ unscopedBufs c (fun b => m ((c.tc : Thread nD τ).loc b)) ∗ funded osem amt amt_pos (pay m) c) : sProp 𝕄)
      ⊢ |={Set.univ}=> bigSep Finset.univ (handed m) := by
  have hre : (bigSep Finset.univ fun c => iprop(ownSems0 osem c ∗ unscopedBufs c (fun b => m ((c.tc : Thread nD τ).loc b)) ∗ funded osem amt amt_pos (pay m) c) : sProp 𝕄)
      ⊢ iprop((bigSep Finset.univ fun c : Dev nD => unscopedBufs c (fun b => m ((c.tc : Thread nD τ).loc b)))
          ∗ bigSep Finset.univ fun c : Dev nD => iprop(ownSems0 osem c ∗ funded osem amt amt_pos (pay m) c)) := by
    simp only [bigSep_sep']
    iintro ⟨H1, H2, H3⟩
    isplitl [H2]; · iexact H2
    isplitl [H1] <;> iassumption
  iintro H
  ihave H := hre $$ H
  icases H with ⟨HM, HG⟩
  imod (alloc_all osem amt amt_pos (pay m)) $$ HG with ⟨%Kn, #HR, Hat, Htok⟩
  imodintro
  ihave HD := (opening m) $$ [HM Hat Htok]
  · isplitl [HM]; · iexact HM
    isplitl [Hat] <;> iassumption
  iapply (share_out (R := recs (m := m) Kn) (Φ := ready m) (Ψ := handed m) fun c _ => by
    unfold handed
    iintro H
    iexists Kn
    iexact H)
  isplitr; · iexact HR
  iexact HD

/-- A final memory: every argument as it was, every result the gathered one. -/
def QY (c : Dev nD) (s : MemSt nD τ sig (Elt F)) : Prop :=
  (∀ a, s.mem ((inM a).view.loc (c : Thread nD τ)) = m _) ∧ ∀ a, s.mem ((outM a).view.loc (c : Thread nD τ)) = result m c a

set_option maxRecDepth 8000 in
theorem run_main (g : Dev nD → PrngReg) :
    θ_run defs (onTc (τ := τ) (main (F := F))) ⟨m, fun _ => 0, g⟩ fun r => (∀ c, QY m c r.2) ∧ r.2.sem = fun _ => 0 :=
  θ_run_shared (fun p => (cfgs p).toPCfg) (fun _ p => (cfgs p).toPCfg_adm) (Dat.toRs (dats m)) () cellOf_inj (0 : Fin 1)
    winFacts0.to₀ ownSemFacts EP defs₀ 𝒱₀ m g main
    (hmain := fun _ => rfl)
    (hbody := fun c => (body_obligation m c).toR) (hne := block_pos0) (hstage := stage_whole0)
    (O₀ := fun c => owed c sends) (howed₀ := fun _ => rfl) (howedN := fun _ => rfl)
    (L := levels) (lv := level) (hL := fun _ h => if_neg h)
    (hwaits := fun c => Pipeline.cellsWaits_intro cfgs (dats m) () 0 c fun w => w.elim0)
    (G := funded osem amt amt_pos (pay m)) (G' := handed m) (u₀ := u₀)
    (hu₀ := by
      unfold u₀
      iintro Hu
      ihave H := (ownU_pair _ _) $$ Hu
      icases H with ⟨HP, HX⟩
      imod (fund_all osem amt amt_pos (pay m) osem_inj) $$ HX with HG
      imodintro
      isplitl [HP] <;> iassumption)
    (hglob := deal m)
    (harr := fun c => by
      show _ ⊢ bigSep Finset.univ _
      rw [show (Finset.univ : Finset (Fin cfg0.W)) = ∅ from rfl, bigSep_empty])
    (hpf := fun c => by
      unfold Pipeline.prefHeld
      rw [show (Finset.univ : Finset (Fin 0)) = ∅ from rfl, bigSep_empty])
    (X := enter m) (Y := leave m)
    (hX := fun c => by
      unfold handed enter
      iintro ⟨#HV, Hcr, %Kn, #HR, HG⟩
      ihave Hc := (credits (F := F) c sends) $$ Hcr
      imodintro
      iexists Kn
      isplitr
      · isplitr; · iexact HR
        iexact HV
      iapply (begin_eq m c)
      isplitl [HG] <;> iassumption)
    (hin := fun c => by
      show iprop(enter m c ∗ _ ∗ _) ⊢ enter m c
      iintro ⟨H, -, -⟩
      iexact H)
    (hout := fun c => by
      show iprop(leave m c ∗ ownSems0 osem c) ⊢ iprop(leave m c ∗ ownSems0 osem c ∗ Pipeline.scopedRest cfg0.spec c)
      rw [scopedRest0_eq]
      iintro ⟨H1, H2⟩
      isplitl [H1]; · iexact H1
      isplitl [H2]; · iexact H2
      iempintro)
    (QY := QY m)
    (hY := fun c s' => by
      unfold leave
      iintro ⟨⟨H1, H2⟩, HSI⟩
      ihave H := (pointsTo_read_all Finset.univ (fun a : Fin 1 => (inM a).view.loc (c : Thread nD τ)) (fun a => m _) s') $$ [H1 HSI]
      · isplitl [H1] <;> iassumption
      icases H with ⟨%h1, HSI⟩
      ihave H := (pointsTo_read_all Finset.univ (fun a : Fin 1 => (outM a).view.loc (c : Thread nD τ)) (fun a => result m c a) s') $$ [H2 HSI]
      · isplitl [H2] <;> iassumption
      icases H with ⟨%h2, HSI⟩
      imodintro
      isplitr; · ipureintro; exact ⟨fun a => h1 a (Finset.mem_univ a), fun a => h2 a (Finset.mem_univ a)⟩
      iexact HSI)
    (hQ := fun s h hs => ⟨h, sem_eq_zero_of_scoped (by decide) hs⟩)

end Cert.GatherStack

end
-- ==== Proof.StackValue.lean ====
/-
# The equation of the small gather

The reference is the stack of the devices' blocks under a leading axis of one: what the gather leaves on every device.
-/
module

public import proofs.«01_k».proof.Proof.StackRun
public import Idealize.ShloMosaic.Lib.Layout
public import Idealize.ShloMosaic.Lib.Pipeline.Value

@[expose] public section

noncomputable section

namespace Cert.GatherStack

open Idealize.ShloMosaic Idealize.ShloMosaic.ValueIdx Idealize.ShloMosaic.TcCoe

section Shapes

variable {α : Type} {n N r w : ℕ}

/-- The reference: a stack under a leading axis of one. -/
theorem stacked (x : (⟨3, ![8, r, w]⟩ : Shape).Idx → α) (h : (⟨3, ![8, r, w]⟩ : Shape).BroadcastsInDim ⟨4, ![1, 8, r, w]⟩ ![1, 2, 3])
    (ht : Layout.Tiles ⟨3, ![1, r, w]⟩ ⟨3, ![8, r, w]⟩ 0 8) (d : Fin 8) (i : Fin 1) (y : Fin r) (z : Fin w) :
    broadcastInDim ⟨4, ![1, 8, r, w]⟩ ![1, 2, 3] h x (ix4 i d y z) = Layout.block ⟨3, ![1, r, w]⟩ ⟨3, ![8, r, w]⟩ 0 8 d x ht (ix3 i y z) := by
  rw [Layout.block_apply]
  refine (broadcastInDim_apply _ h x _ (ix3 d y z) fun a => ?_).trans (congrArg x ?_)
  · match a with
    | ⟨0, _⟩ => rfl
    | ⟨1, _⟩ =>
      show y.val = if r = 1 then 0 else y.val
      have := y.isLt
      split <;> omega
    | ⟨2, _⟩ =>
      show z.val = if w = 1 then 0 else z.val
      have := z.isLt
      split <;> omega
  · funext a
    refine Fin.ext ?_
    match a with
    | ⟨0, _⟩ =>
      show d.val = d.val * 1 + i.val
      have := i.isLt
      omega
    | ⟨1, _⟩ => rfl
    | ⟨2, _⟩ => rfl

end Shapes

variable {F : FTy → Type} [FloatOps F]
open Cert.GatherSmallIdeal Idealize.SL.Sem

variable (m : (ℓ : Loc nD τ sig) → Buf (Elt F) ℓ)

/-- A result is an array that agrees with the gather. -/
theorem result_eq (c : Dev nD) (a : Fin 1) (X : Buf (Elt F) ((outM a).view.loc (c : Thread nD τ)))
    (h : ∀ i d y z, (outM a).view.read (Elt F) X (ix4 i d y z) = (inM a).view.read (Elt F) (m ((inM a).view.loc ((d : Dev nD) : Thread nD τ))) (ix3 i y z)) :
    result m c a = X := by
  refine ((outM_whole a).eq_unread (X := gathered m a) ?_).symm
  funext i
  rw [eq_ix4 i]
  exact h _ _ _ _

/-- The run, from memories whose arguments are the devices' blocks of whole arrays. -/
theorem run_blocks (g : Dev nD → PrngReg) (x : (⟨3, ![8, 2184, 128]⟩ : Shape).Idx → Elt F .f32)
    (hx : ∀ c : Dev nD, m ((c.tc : Thread nD τ).loc main_arg0) = Layout.block ⟨3, ![1, 2184, 128]⟩ ⟨3, ![8, 2184, 128]⟩ 0 8 c x)
    (h : (⟨3, ![8, 2184, 128]⟩ : Shape).BroadcastsInDim ⟨4, ![1, 8, 2184, 128]⟩ ![1, 2, 3]) :
    θ_run defs (onTc (τ := τ) (main (F := F))) ⟨m, fun _ => 0, g⟩ fun r => ∀ c : Dev nD,
      r.2.mem ((c.tc : Thread nD τ).loc main_v1) = broadcastInDim ⟨4, ![1, 8, 2184, 128]⟩ ![1, 2, 3] h x
      ∧ r.2.mem ((c.tc : Thread nD τ).loc main_arg0) = m ((c.tc : Thread nD τ).loc main_arg0) := by
  refine (θ_run defs _ _).mono (fun r h' c => ?_) (run_main m g)
  obtain ⟨hin, hout⟩ := h'.1 c
  refine ⟨(hout 0).trans (result_eq m c 0 _ fun i d y z => ?_), hin 0⟩
  exact (stacked x h (by decide) d i y z).trans (congrFun (hx d).symm _)

end Cert.GatherStack

end
-- ==== Proof.SumSlots.lean ====
/-
# A sum over eight slots, written out

What the kernel adds up one slot after the other is the host's sum over the axis of the slots, and a device's block of the
sum is the sum of its blocks.
-/
module

public import Idealize.ShloMosaic.Lib.IdealHost
public import Idealize.ShloMosaic.Lib.Layout
public import Idealize.ShloMosaic.Lib.Pointwise.Reduce
public import Idealize.ShloMosaic.Lib.Pipeline.Value

@[expose] public section

noncomputable section

namespace Cert.Slots

open Idealize.ShloMosaic

variable {n N r w : ℕ}

/-- Eight summands, left to right. -/
def chain (f : Fin 8 → EReal) : EReal := f 0 + f 1 + f 2 + f 3 + f 4 + f 5 + f 6 + f 7

theorem chain_eq (f : Fin 8 → EReal) : chain f = ∑ k, f k := (Fin.sum_univ_eight f).symm

theorem chain_of {a0 a1 a2 a3 a4 a5 a6 a7 : EReal} (f : Fin 8 → EReal) (h0 : a0 = f 0) (h1 : a1 = f 1) (h2 : a2 = f 2) (h3 : a3 = f 3)
    (h4 : a4 = f 4) (h5 : a5 = f 5) (h6 : a6 = f 6) (h7 : a7 = f 7) : a0 + a1 + a2 + a3 + a4 + a5 + a6 + a7 = chain f := by
  rw [h0, h1, h2, h3, h4, h5, h6, h7]
  rfl

/-- The sum where the slots are the first axis, and where they are the second. -/
def sum0 (x : (⟨4, ![8, n, r, w]⟩ : Shape).Idx → EReal) : (⟨3, ![n, r, w]⟩ : Shape).Idx → EReal :=
  fun i => chain fun k => x (Idealize.ShloMosaic.ix4 k (i 0) (i 1) (i 2))

def sum1 (x : (⟨4, ![n, 8, r, w]⟩ : Shape).Idx → EReal) : (⟨3, ![n, r, w]⟩ : Shape).Idx → EReal :=
  fun i => chain fun k => x (Idealize.ShloMosaic.ix4 (i 0) k (i 1) (i 2))

theorem host0 (x : (⟨4, ![8, n, r, w]⟩ : Shape).Idx → EReal) (h : (⟨4, ![8, n, r, w]⟩ : Shape).ReducesTo [0] ⟨3, ![n, r, w]⟩)
    (hu : 0 < (⟨0, ![]⟩ : Shape).numel) :
    Host.reduceAdd (F := Ideal) (φ := .f32) x (constant ⟨0, ![]⟩ .f32 0x00000000#32) h hu = sum0 x := by
  funext i
  rw [Idealize.ShloMosaic.ValueIdx.hostReduceAdd_apply, Ideal.hostReduceAdd_r4_a0]
  refine (congrArg₂ (· + ·) (Ideal.ofBits_zero_f32) rfl).trans ((zero_add _).trans ?_)
  unfold sum0
  rw [chain_eq]
  exact Finset.sum_congr rfl fun k _ => rfl

theorem host1 (x : (⟨4, ![n, 8, r, w]⟩ : Shape).Idx → EReal) (h : (⟨4, ![n, 8, r, w]⟩ : Shape).ReducesTo [1] ⟨3, ![n, r, w]⟩)
    (hu : 0 < (⟨0, ![]⟩ : Shape).numel) :
    Host.reduceAdd (F := Ideal) (φ := .f32) x (constant ⟨0, ![]⟩ .f32 0x00000000#32) h hu = sum1 x := by
  funext i
  rw [Idealize.ShloMosaic.ValueIdx.hostReduceAdd_apply, Ideal.hostReduceAdd_r4_a1]
  refine (congrArg₂ (· + ·) (Ideal.ofBits_zero_f32) rfl).trans ((zero_add _).trans ?_)
  unfold sum1
  rw [chain_eq]
  exact Finset.sum_congr rfl fun k _ => rfl

/-- A device's block of the sum is the sum of its blocks. -/
theorem sum0_block (c : Fin 8) (x : (⟨4, ![8, N, r, w]⟩ : Shape).Idx → EReal)
    (h4 : Layout.Tiles ⟨4, ![8, n, r, w]⟩ ⟨4, ![8, N, r, w]⟩ 1 8) (h3 : Layout.Tiles ⟨3, ![n, r, w]⟩ ⟨3, ![N, r, w]⟩ 0 8) :
    sum0 (Layout.block ⟨4, ![8, n, r, w]⟩ ⟨4, ![8, N, r, w]⟩ 1 8 c x h4) = Layout.block ⟨3, ![n, r, w]⟩ ⟨3, ![N, r, w]⟩ 0 8 c (sum0 x) h3 := by
  funext i
  rw [Layout.block_apply]
  unfold sum0
  refine congrArg chain (funext fun k => ?_)
  rw [Layout.block_apply]
  refine congrArg x (funext fun a => ?_)
  match a with
  | ⟨0, _⟩ => rfl
  | ⟨1, _⟩ => rfl
  | ⟨2, _⟩ => rfl
  | ⟨3, _⟩ => rfl

end Cert.Slots

end
-- ==== Proof.SumValue.lean ====
/-
# The sums on the reals

Every point of the grid adds up the eight slots of one block. The blocks tile the result, so the result is the sum of the
slots, which is the reference's. One section for each shape.
-/
module

public import Idealize.ShloMosaic.Lib.Pipeline.ValueKit.Partial
public import proofs.«01_k».proof.Defs
public import proofs.«01_k».proof.Proof.SumSlots
public import proofs.«01_k».proof.Proof.Gen.Sum0Ideal.Value
public import proofs.«01_k».proof.Proof.Gen.Sum0RefIdeal.Run
public import proofs.«01_k».proof.Proof.Gen.Sum1Ideal.Value
public import proofs.«01_k».proof.Proof.Gen.Sum1RefIdeal.Run
public import proofs.«01_k».proof.Proof.Gen.Sum2Ideal.Value
public import proofs.«01_k».proof.Proof.Gen.Sum2RefIdeal.Run
public import proofs.«01_k».proof.Proof.Gen.Sum3Ideal.Value
public import proofs.«01_k».proof.Proof.Gen.Sum3RefIdeal.Run
public import proofs.«01_k».proof.Proof.Gen.Sum4Ideal.Value
public import proofs.«01_k».proof.Proof.Gen.Sum4RefIdeal.Run
public import proofs.«01_k».proof.Proof.Gen.SumSmallIdeal.Value
public import proofs.«01_k».proof.Proof.Gen.SumSmallRefIdeal.Run

@[expose] public section

noncomputable section

namespace Cert.Values

open Idealize.ShloMosaic Idealize.ShloMosaic.TcCoe Idealize.SL.Sem

section Sum0

open Cert.Sum0Ideal Cert.Sum0Ideal.Gen Cert.Sum0Ideal.Value

variable (m : (ℓ : Loc nD τ sig) → Buf (Elt Ideal) ℓ)

/-- Where a point reads and writes. -/
theorem places0 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = 0 ∧ win0_1.index t (2 : Fin 3) = 0 :=
  (by decide +kernel : ∀ t : Fin grid0.N, _)

/-- What a point writes is its block of the sum. -/
theorem written0 (c : Dev nD) (t : Fin cfg0.N) :
    (dats m 0 c).flushed 1 t = ((cfg0.win 1).blk t).view.read (Elt Ideal) (Cert.Slots.sum0 (n := 6) (r := 352) (w := 1024) (V m c main_arg0)) := by
  rw [flushed1]
  unfold out0_1
  funext j
  refine (canon1_eq _ _ _ _ _ _ _ _ j).trans ?_
  obtain ⟨e0, e1, e2, e3, e4⟩ := places0 t
  have hj : (j 0).val < 1 := (j 0).isLt
  have h0 : ((cfg0.win 0).blk t).view.emb (r0_0.idx (ix1_0 j)) = Idealize.ShloMosaic.ix4 0 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (0 + 1 * 0) = 0; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have h1 : ((cfg0.win 0).blk t).view.emb (r0_1.idx (ix1_1 j)) = Idealize.ShloMosaic.ix4 1 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (1 + 1 * 0) = 1; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have h2 : ((cfg0.win 0).blk t).view.emb (r0_2.idx (ix1_2 j)) = Idealize.ShloMosaic.ix4 2 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (2 + 1 * 0) = 2; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have h3 : ((cfg0.win 0).blk t).view.emb (r0_3.idx (ix1_3 j)) = Idealize.ShloMosaic.ix4 3 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (3 + 1 * 0) = 3; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have h4 : ((cfg0.win 0).blk t).view.emb (r0_4.idx (ix1_4 j)) = Idealize.ShloMosaic.ix4 4 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (4 + 1 * 0) = 4; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have h5 : ((cfg0.win 0).blk t).view.emb (r0_5.idx (ix1_5 j)) = Idealize.ShloMosaic.ix4 5 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (5 + 1 * 0) = 5; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have h6 : ((cfg0.win 0).blk t).view.emb (r0_6.idx (ix1_6 j)) = Idealize.ShloMosaic.ix4 6 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (6 + 1 * 0) = 6; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have h7 : ((cfg0.win 0).blk t).view.emb (r0_7.idx (ix1_7 j)) = Idealize.ShloMosaic.ix4 7 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (7 + 1 * 0) = 7; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 352 + 1 * (0 + 1 * (j 1).val) = win0_1.index t (1 : Fin 3) * 352 + 1 * (j 1).val; omega
    | ⟨3, _⟩ => show win0_0.index t (3 : Fin 4) * 1024 + 1 * (0 + 1 * (j 2).val) = win0_1.index t (2 : Fin 3) * 1024 + 1 * (j 2).val; omega
  have key : ∀ A : (⟨4, ![8, 6, 352, 1024]⟩ : Shape).Idx → EReal,
      A (((cfg0.win 0).blk t).view.emb (r0_0.idx (ix1_0 j))) + A (((cfg0.win 0).blk t).view.emb (r0_1.idx (ix1_1 j))) + A (((cfg0.win 0).blk t).view.emb (r0_2.idx (ix1_2 j))) + A (((cfg0.win 0).blk t).view.emb (r0_3.idx (ix1_3 j)))
        + A (((cfg0.win 0).blk t).view.emb (r0_4.idx (ix1_4 j))) + A (((cfg0.win 0).blk t).view.emb (r0_5.idx (ix1_5 j))) + A (((cfg0.win 0).blk t).view.emb (r0_6.idx (ix1_6 j))) + A (((cfg0.win 0).blk t).view.emb (r0_7.idx (ix1_7 j)))
        = Cert.Slots.sum0 A (((cfg0.win 1).blk t).view.emb j) := fun A =>
    Cert.Slots.chain_of (fun k => A (Idealize.ShloMosaic.ix4 k (((cfg0.win 1).blk t).view.emb j 0) (((cfg0.win 1).blk t).view.emb j 1) (((cfg0.win 1).blk t).view.emb j 2))) (congrArg A h0) (congrArg A h1) (congrArg A h2)
      (congrArg A h3) (congrArg A h4) (congrArg A h5) (congrArg A h6) (congrArg A h7)
  exact key (V m c main_arg0)

theorem total0 (c : Dev nD) : (dats m 0 c).arrAt 1 cfg0.N = Cert.Slots.sum0 (n := 6) (r := 352) (w := 1024) (m ((c : Thread nD τ).loc main_arg0)) :=
  (dats m 0 c).arrAt_eq_of_cover 1 _ (fun t _ => written0 m c t)
    (Pipeline.Window.Covers.cover _ (by decide +kernel) (Memref.isWhole_whole _))

end Sum0

/-- Slots of shape 6x352x1024: a device's result is its block of the reference's. -/
theorem value_sum0 : Cert.algebraic_Sum0Ideal_Sum0RefIdeal := fun m g m' g' _ hx =>
  ⟨Cert.Slots.sum0 (n := 48) (r := 352) (w := 1024) (m' (((0 : Dev Cert.Sum0RefIdeal.nD).tc : Thread Cert.Sum0RefIdeal.nD Cert.Sum0RefIdeal.τ).loc Cert.Sum0RefIdeal.main_arg0)),
    (θ_run Cert.Sum0Ideal.defs _ _).mono (fun r h c => ⟨(h c).1.trans ((total0 m c).trans
      ((congrArg Cert.Slots.sum0 (hx c)).trans (Cert.Slots.sum0_block c _ _ _))), (h c).2⟩) (Cert.Sum0Ideal.Value.run_blocks (F := Ideal) m g),
    (θ_run Cert.Sum0RefIdeal.defs _ _).mono (fun r h => ⟨(h 0).1.trans (Cert.Slots.host0 _ _ _), (h 0).2⟩)
      (Cert.Sum0RefIdeal.Value.run (F := Ideal) m' g')⟩

section Sum1

open Cert.Sum1Ideal Cert.Sum1Ideal.Gen Cert.Sum1Ideal.Value

variable (m : (ℓ : Loc nD τ sig) → Buf (Elt Ideal) ℓ)

/-- Where a point reads and writes. -/
theorem places1 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = 0 ∧ win0_1.index t (2 : Fin 3) = 0 :=
  (by decide +kernel : ∀ t : Fin grid0.N, _)

/-- What a point writes is its block of the sum. -/
theorem written1 (c : Dev nD) (t : Fin cfg0.N) :
    (dats m 0 c).flushed 1 t = ((cfg0.win 1).blk t).view.read (Elt Ideal) (Cert.Slots.sum0 (n := 1) (r := 864) (w := 1024) (V m c main_arg0)) := by
  rw [flushed1]
  unfold out0_1
  funext j
  refine (canon1_eq _ _ _ _ _ _ _ _ j).trans ?_
  obtain ⟨e0, e1, e2, e3, e4⟩ := places1 t
  have hj : (j 0).val < 1 := (j 0).isLt
  have h0 : ((cfg0.win 0).blk t).view.emb (r0_0.idx (ix1_0 j)) = Idealize.ShloMosaic.ix4 0 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (0 + 1 * 0) = 0; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have h1 : ((cfg0.win 0).blk t).view.emb (r0_1.idx (ix1_1 j)) = Idealize.ShloMosaic.ix4 1 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (1 + 1 * 0) = 1; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have h2 : ((cfg0.win 0).blk t).view.emb (r0_2.idx (ix1_2 j)) = Idealize.ShloMosaic.ix4 2 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (2 + 1 * 0) = 2; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have h3 : ((cfg0.win 0).blk t).view.emb (r0_3.idx (ix1_3 j)) = Idealize.ShloMosaic.ix4 3 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (3 + 1 * 0) = 3; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have h4 : ((cfg0.win 0).blk t).view.emb (r0_4.idx (ix1_4 j)) = Idealize.ShloMosaic.ix4 4 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (4 + 1 * 0) = 4; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have h5 : ((cfg0.win 0).blk t).view.emb (r0_5.idx (ix1_5 j)) = Idealize.ShloMosaic.ix4 5 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (5 + 1 * 0) = 5; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have h6 : ((cfg0.win 0).blk t).view.emb (r0_6.idx (ix1_6 j)) = Idealize.ShloMosaic.ix4 6 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (6 + 1 * 0) = 6; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have h7 : ((cfg0.win 0).blk t).view.emb (r0_7.idx (ix1_7 j)) = Idealize.ShloMosaic.ix4 7 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (7 + 1 * 0) = 7; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 432 + 1 * (0 + 1 * (j 1).val) = win0_1.index t (1 : Fin 3) * 432 + 1 * (j 1).val; omega
    | ⟨3, _⟩ => show win0_0.index t (3 : Fin 4) * 1024 + 1 * (0 + 1 * (j 2).val) = win0_1.index t (2 : Fin 3) * 1024 + 1 * (j 2).val; omega
  have key : ∀ A : (⟨4, ![8, 1, 864, 1024]⟩ : Shape).Idx → EReal,
      A (((cfg0.win 0).blk t).view.emb (r0_0.idx (ix1_0 j))) + A (((cfg0.win 0).blk t).view.emb (r0_1.idx (ix1_1 j))) + A (((cfg0.win 0).blk t).view.emb (r0_2.idx (ix1_2 j))) + A (((cfg0.win 0).blk t).view.emb (r0_3.idx (ix1_3 j)))
        + A (((cfg0.win 0).blk t).view.emb (r0_4.idx (ix1_4 j))) + A (((cfg0.win 0).blk t).view.emb (r0_5.idx (ix1_5 j))) + A (((cfg0.win 0).blk t).view.emb (r0_6.idx (ix1_6 j))) + A (((cfg0.win 0).blk t).view.emb (r0_7.idx (ix1_7 j)))
        = Cert.Slots.sum0 A (((cfg0.win 1).blk t).view.emb j) := fun A =>
    Cert.Slots.chain_of (fun k => A (Idealize.ShloMosaic.ix4 k (((cfg0.win 1).blk t).view.emb j 0) (((cfg0.win 1).blk t).view.emb j 1) (((cfg0.win 1).blk t).view.emb j 2))) (congrArg A h0) (congrArg A h1) (congrArg A h2)
      (congrArg A h3) (congrArg A h4) (congrArg A h5) (congrArg A h6) (congrArg A h7)
  exact key (V m c main_arg0)

theorem total1 (c : Dev nD) : (dats m 0 c).arrAt 1 cfg0.N = Cert.Slots.sum0 (n := 1) (r := 864) (w := 1024) (m ((c : Thread nD τ).loc main_arg0)) :=
  (dats m 0 c).arrAt_eq_of_cover 1 _ (fun t _ => written1 m c t)
    (Pipeline.Window.Covers.cover _ (by decide +kernel) (Memref.isWhole_whole _))

end Sum1

/-- Slots of shape 1x864x1024: a device's result is its block of the reference's. -/
theorem value_sum1 : Cert.algebraic_Sum1Ideal_Sum1RefIdeal := fun m g m' g' _ hx =>
  ⟨Cert.Slots.sum0 (n := 8) (r := 864) (w := 1024) (m' (((0 : Dev Cert.Sum1RefIdeal.nD).tc : Thread Cert.Sum1RefIdeal.nD Cert.Sum1RefIdeal.τ).loc Cert.Sum1RefIdeal.main_arg0)),
    (θ_run Cert.Sum1Ideal.defs _ _).mono (fun r h c => ⟨(h c).1.trans ((total1 m c).trans
      ((congrArg Cert.Slots.sum0 (hx c)).trans (Cert.Slots.sum0_block c _ _ _))), (h c).2⟩) (Cert.Sum1Ideal.Value.run_blocks (F := Ideal) m g),
    (θ_run Cert.Sum1RefIdeal.defs _ _).mono (fun r h => ⟨(h 0).1.trans (Cert.Slots.host0 _ _ _), (h 0).2⟩)
      (Cert.Sum1RefIdeal.Value.run (F := Ideal) m' g')⟩

section Sum2

open Cert.Sum2Ideal Cert.Sum2Ideal.Gen Cert.Sum2Ideal.Value

variable (m : (ℓ : Loc nD τ sig) → Buf (Elt Ideal) ℓ)

/-- Where a point reads and writes. -/
theorem places2 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = 0 ∧ win0_1.index t (2 : Fin 3) = 0 :=
  (by decide +kernel : ∀ t : Fin grid0.N, _)

/-- What a point writes is its block of the sum. -/
theorem written2 (c : Dev nD) (t : Fin cfg0.N) :
    (dats m 0 c).flushed 1 t = ((cfg0.win 1).blk t).view.read (Elt Ideal) (Cert.Slots.sum0 (n := 1) (r := 128) (w := 1024) (V m c main_arg0)) := by
  rw [flushed1]
  unfold out0_1
  funext j
  refine (canon1_eq _ _ _ _ _ _ _ _ j).trans ?_
  obtain ⟨e0, e1, e2, e3, e4⟩ := places2 t
  have hj : (j 0).val < 1 := (j 0).isLt
  have h0 : ((cfg0.win 0).blk t).view.emb (r0_0.idx (ix1_0 j)) = Idealize.ShloMosaic.ix4 0 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (0 + 1 * 0) = 0; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have h1 : ((cfg0.win 0).blk t).view.emb (r0_1.idx (ix1_1 j)) = Idealize.ShloMosaic.ix4 1 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (1 + 1 * 0) = 1; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have h2 : ((cfg0.win 0).blk t).view.emb (r0_2.idx (ix1_2 j)) = Idealize.ShloMosaic.ix4 2 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (2 + 1 * 0) = 2; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have h3 : ((cfg0.win 0).blk t).view.emb (r0_3.idx (ix1_3 j)) = Idealize.ShloMosaic.ix4 3 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (3 + 1 * 0) = 3; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have h4 : ((cfg0.win 0).blk t).view.emb (r0_4.idx (ix1_4 j)) = Idealize.ShloMosaic.ix4 4 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (4 + 1 * 0) = 4; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have h5 : ((cfg0.win 0).blk t).view.emb (r0_5.idx (ix1_5 j)) = Idealize.ShloMosaic.ix4 5 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (5 + 1 * 0) = 5; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have h6 : ((cfg0.win 0).blk t).view.emb (r0_6.idx (ix1_6 j)) = Idealize.ShloMosaic.ix4 6 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (6 + 1 * 0) = 6; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have h7 : ((cfg0.win 0).blk t).view.emb (r0_7.idx (ix1_7 j)) = Idealize.ShloMosaic.ix4 7 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (7 + 1 * 0) = 7; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 1024 + 1 * (0 + 1 * (j 2).val) = win0_1.index t (2 : Fin 3) * 1024 + 1 * (j 2).val; omega
  have key : ∀ A : (⟨4, ![8, 1, 128, 1024]⟩ : Shape).Idx → EReal,
      A (((cfg0.win 0).blk t).view.emb (r0_0.idx (ix1_0 j))) + A (((cfg0.win 0).blk t).view.emb (r0_1.idx (ix1_1 j))) + A (((cfg0.win 0).blk t).view.emb (r0_2.idx (ix1_2 j))) + A (((cfg0.win 0).blk t).view.emb (r0_3.idx (ix1_3 j)))
        + A (((cfg0.win 0).blk t).view.emb (r0_4.idx (ix1_4 j))) + A (((cfg0.win 0).blk t).view.emb (r0_5.idx (ix1_5 j))) + A (((cfg0.win 0).blk t).view.emb (r0_6.idx (ix1_6 j))) + A (((cfg0.win 0).blk t).view.emb (r0_7.idx (ix1_7 j)))
        = Cert.Slots.sum0 A (((cfg0.win 1).blk t).view.emb j) := fun A =>
    Cert.Slots.chain_of (fun k => A (Idealize.ShloMosaic.ix4 k (((cfg0.win 1).blk t).view.emb j 0) (((cfg0.win 1).blk t).view.emb j 1) (((cfg0.win 1).blk t).view.emb j 2))) (congrArg A h0) (congrArg A h1) (congrArg A h2)
      (congrArg A h3) (congrArg A h4) (congrArg A h5) (congrArg A h6) (congrArg A h7)
  exact key (V m c main_arg0)

theorem total2 (c : Dev nD) : (dats m 0 c).arrAt 1 cfg0.N = Cert.Slots.sum0 (n := 1) (r := 128) (w := 1024) (m ((c : Thread nD τ).loc main_arg0)) :=
  (dats m 0 c).arrAt_eq_of_cover 1 _ (fun t _ => written2 m c t)
    (Pipeline.Window.Covers.cover _ (by decide +kernel) (Memref.isWhole_whole _))

end Sum2

/-- Slots of shape 1x128x1024: a device's result is its block of the reference's. -/
theorem value_sum2 : Cert.algebraic_Sum2Ideal_Sum2RefIdeal := fun m g m' g' _ hx =>
  ⟨Cert.Slots.sum0 (n := 8) (r := 128) (w := 1024) (m' (((0 : Dev Cert.Sum2RefIdeal.nD).tc : Thread Cert.Sum2RefIdeal.nD Cert.Sum2RefIdeal.τ).loc Cert.Sum2RefIdeal.main_arg0)),
    (θ_run Cert.Sum2Ideal.defs _ _).mono (fun r h c => ⟨(h c).1.trans ((total2 m c).trans
      ((congrArg Cert.Slots.sum0 (hx c)).trans (Cert.Slots.sum0_block c _ _ _))), (h c).2⟩) (Cert.Sum2Ideal.Value.run_blocks (F := Ideal) m g),
    (θ_run Cert.Sum2RefIdeal.defs _ _).mono (fun r h => ⟨(h 0).1.trans (Cert.Slots.host0 _ _ _), (h 0).2⟩)
      (Cert.Sum2RefIdeal.Value.run (F := Ideal) m' g')⟩

section Sum3

open Cert.Sum3Ideal Cert.Sum3Ideal.Gen Cert.Sum3Ideal.Value

variable (m : (ℓ : Loc nD τ sig) → Buf (Elt Ideal) ℓ)

/-- Where a point reads and writes. -/
theorem places3 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = 0 ∧ win0_1.index t (2 : Fin 3) = 0 :=
  (by decide +kernel : ∀ t : Fin grid0.N, _)

/-- What a point writes is its block of the sum. -/
theorem written3 (c : Dev nD) (t : Fin cfg0.N) :
    (dats m 0 c).flushed 1 t = ((cfg0.win 1).blk t).view.read (Elt Ideal) (Cert.Slots.sum0 (n := 1) (r := 128) (w := 256) (V m c main_arg0)) := by
  rw [flushed1]
  unfold out0_1
  funext j
  refine (canon1_eq _ _ _ _ _ _ _ _ j).trans ?_
  obtain ⟨e0, e1, e2, e3, e4⟩ := places3 t
  have hj : (j 0).val < 1 := (j 0).isLt
  have h0 : ((cfg0.win 0).blk t).view.emb (r0_0.idx (ix1_0 j)) = Idealize.ShloMosaic.ix4 0 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (0 + 1 * 0) = 0; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have h1 : ((cfg0.win 0).blk t).view.emb (r0_1.idx (ix1_1 j)) = Idealize.ShloMosaic.ix4 1 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (1 + 1 * 0) = 1; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have h2 : ((cfg0.win 0).blk t).view.emb (r0_2.idx (ix1_2 j)) = Idealize.ShloMosaic.ix4 2 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (2 + 1 * 0) = 2; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have h3 : ((cfg0.win 0).blk t).view.emb (r0_3.idx (ix1_3 j)) = Idealize.ShloMosaic.ix4 3 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (3 + 1 * 0) = 3; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have h4 : ((cfg0.win 0).blk t).view.emb (r0_4.idx (ix1_4 j)) = Idealize.ShloMosaic.ix4 4 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (4 + 1 * 0) = 4; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have h5 : ((cfg0.win 0).blk t).view.emb (r0_5.idx (ix1_5 j)) = Idealize.ShloMosaic.ix4 5 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (5 + 1 * 0) = 5; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have h6 : ((cfg0.win 0).blk t).view.emb (r0_6.idx (ix1_6 j)) = Idealize.ShloMosaic.ix4 6 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (6 + 1 * 0) = 6; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have h7 : ((cfg0.win 0).blk t).view.emb (r0_7.idx (ix1_7 j)) = Idealize.ShloMosaic.ix4 7 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (7 + 1 * 0) = 7; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 256 + 1 * (0 + 1 * (j 2).val) = win0_1.index t (2 : Fin 3) * 256 + 1 * (j 2).val; omega
  have key : ∀ A : (⟨4, ![8, 1, 128, 256]⟩ : Shape).Idx → EReal,
      A (((cfg0.win 0).blk t).view.emb (r0_0.idx (ix1_0 j))) + A (((cfg0.win 0).blk t).view.emb (r0_1.idx (ix1_1 j))) + A (((cfg0.win 0).blk t).view.emb (r0_2.idx (ix1_2 j))) + A (((cfg0.win 0).blk t).view.emb (r0_3.idx (ix1_3 j)))
        + A (((cfg0.win 0).blk t).view.emb (r0_4.idx (ix1_4 j))) + A (((cfg0.win 0).blk t).view.emb (r0_5.idx (ix1_5 j))) + A (((cfg0.win 0).blk t).view.emb (r0_6.idx (ix1_6 j))) + A (((cfg0.win 0).blk t).view.emb (r0_7.idx (ix1_7 j)))
        = Cert.Slots.sum0 A (((cfg0.win 1).blk t).view.emb j) := fun A =>
    Cert.Slots.chain_of (fun k => A (Idealize.ShloMosaic.ix4 k (((cfg0.win 1).blk t).view.emb j 0) (((cfg0.win 1).blk t).view.emb j 1) (((cfg0.win 1).blk t).view.emb j 2))) (congrArg A h0) (congrArg A h1) (congrArg A h2)
      (congrArg A h3) (congrArg A h4) (congrArg A h5) (congrArg A h6) (congrArg A h7)
  exact key (V m c main_arg0)

theorem total3 (c : Dev nD) : (dats m 0 c).arrAt 1 cfg0.N = Cert.Slots.sum0 (n := 1) (r := 128) (w := 256) (m ((c : Thread nD τ).loc main_arg0)) :=
  (dats m 0 c).arrAt_eq_of_cover 1 _ (fun t _ => written3 m c t)
    (Pipeline.Window.Covers.cover _ (by decide +kernel) (Memref.isWhole_whole _))

end Sum3

/-- Slots of shape 1x128x256: a device's result is its block of the reference's. -/
theorem value_sum3 : Cert.algebraic_Sum3Ideal_Sum3RefIdeal := fun m g m' g' _ hx =>
  ⟨Cert.Slots.sum0 (n := 8) (r := 128) (w := 256) (m' (((0 : Dev Cert.Sum3RefIdeal.nD).tc : Thread Cert.Sum3RefIdeal.nD Cert.Sum3RefIdeal.τ).loc Cert.Sum3RefIdeal.main_arg0)),
    (θ_run Cert.Sum3Ideal.defs _ _).mono (fun r h c => ⟨(h c).1.trans ((total3 m c).trans
      ((congrArg Cert.Slots.sum0 (hx c)).trans (Cert.Slots.sum0_block c _ _ _))), (h c).2⟩) (Cert.Sum3Ideal.Value.run_blocks (F := Ideal) m g),
    (θ_run Cert.Sum3RefIdeal.defs _ _).mono (fun r h => ⟨(h 0).1.trans (Cert.Slots.host0 _ _ _), (h 0).2⟩)
      (Cert.Sum3RefIdeal.Value.run (F := Ideal) m' g')⟩

section Sum4

open Cert.Sum4Ideal Cert.Sum4Ideal.Gen Cert.Sum4Ideal.Value

variable (m : (ℓ : Loc nD τ sig) → Buf (Elt Ideal) ℓ)

/-- Where a point reads and writes. -/
theorem places4 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = 0 ∧ win0_1.index t (2 : Fin 3) = 0 :=
  (by decide +kernel : ∀ t : Fin grid0.N, _)

/-- What a point writes is its block of the sum. -/
theorem written4 (c : Dev nD) (t : Fin cfg0.N) :
    (dats m 0 c).flushed 1 t = ((cfg0.win 1).blk t).view.read (Elt Ideal) (Cert.Slots.sum0 (n := 2) (r := 128) (w := 512) (V m c main_arg0)) := by
  rw [flushed1]
  unfold out0_1
  funext j
  refine (canon1_eq _ _ _ _ _ _ _ _ j).trans ?_
  obtain ⟨e0, e1, e2, e3, e4⟩ := places4 t
  have hj : (j 0).val < 1 := (j 0).isLt
  have h0 : ((cfg0.win 0).blk t).view.emb (r0_0.idx (ix1_0 j)) = Idealize.ShloMosaic.ix4 0 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (0 + 1 * 0) = 0; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have h1 : ((cfg0.win 0).blk t).view.emb (r0_1.idx (ix1_1 j)) = Idealize.ShloMosaic.ix4 1 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (1 + 1 * 0) = 1; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have h2 : ((cfg0.win 0).blk t).view.emb (r0_2.idx (ix1_2 j)) = Idealize.ShloMosaic.ix4 2 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (2 + 1 * 0) = 2; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have h3 : ((cfg0.win 0).blk t).view.emb (r0_3.idx (ix1_3 j)) = Idealize.ShloMosaic.ix4 3 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (3 + 1 * 0) = 3; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have h4 : ((cfg0.win 0).blk t).view.emb (r0_4.idx (ix1_4 j)) = Idealize.ShloMosaic.ix4 4 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (4 + 1 * 0) = 4; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have h5 : ((cfg0.win 0).blk t).view.emb (r0_5.idx (ix1_5 j)) = Idealize.ShloMosaic.ix4 5 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (5 + 1 * 0) = 5; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have h6 : ((cfg0.win 0).blk t).view.emb (r0_6.idx (ix1_6 j)) = Idealize.ShloMosaic.ix4 6 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (6 + 1 * 0) = 6; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have h7 : ((cfg0.win 0).blk t).view.emb (r0_7.idx (ix1_7 j)) = Idealize.ShloMosaic.ix4 7 (((cfg0.win 1).blk t).view.emb j 0) (((cfg0.win 1).blk t).view.emb j 1) (((cfg0.win 1).blk t).view.emb j 2) := by
    funext a; apply Fin.ext
    match a with
    | ⟨0, _⟩ => show win0_0.index t (0 : Fin 4) * 8 + 1 * (7 + 1 * 0) = 7; omega
    | ⟨1, _⟩ => show win0_0.index t (1 : Fin 4) * 1 + 1 * (0 + 1 * 0) = win0_1.index t (0 : Fin 3) * 1 + 1 * (j 0).val; omega
    | ⟨2, _⟩ => show win0_0.index t (2 : Fin 4) * 128 + 1 * (0 + 1 * (j 1).val) = win0_1.index t (1 : Fin 3) * 128 + 1 * (j 1).val; omega
    | ⟨3, _⟩ => show win0_0.index t (3 : Fin 4) * 512 + 1 * (0 + 1 * (j 2).val) = win0_1.index t (2 : Fin 3) * 512 + 1 * (j 2).val; omega
  have key : ∀ A : (⟨4, ![8, 2, 128, 512]⟩ : Shape).Idx → EReal,
      A (((cfg0.win 0).blk t).view.emb (r0_0.idx (ix1_0 j))) + A (((cfg0.win 0).blk t).view.emb (r0_1.idx (ix1_1 j))) + A (((cfg0.win 0).blk t).view.emb (r0_2.idx (ix1_2 j))) + A (((cfg0.win 0).blk t).view.emb (r0_3.idx (ix1_3 j)))
        + A (((cfg0.win 0).blk t).view.emb (r0_4.idx (ix1_4 j))) + A (((cfg0.win 0).blk t).view.emb (r0_5.idx (ix1_5 j))) + A (((cfg0.win 0).blk t).view.emb (r0_6.idx (ix1_6 j))) + A (((cfg0.win 0).blk t).view.emb (r0_7.idx (ix1_7 j)))
        = Cert.Slots.sum0 A (((cfg0.win 1).blk t).view.emb j) := fun A =>
    Cert.Slots.chain_of (fun k => A (Idealize.ShloMosaic.ix4 k (((cfg0.win 1).blk t).view.emb j 0) (((cfg0.win 1).blk t).view.emb j 1) (((cfg0.win 1).blk t).view.emb j 2))) (congrArg A h0) (congrArg A h1) (congrArg A h2)
      (congrArg A h3) (congrArg A h4) (congrArg A h5) (congrArg A h6) (congrArg A h7)
  exact key (V m c main_arg0)

theorem total4 (c : Dev nD) : (dats m 0 c).arrAt 1 cfg0.N = Cert.Slots.sum0 (n := 2) (r := 128) (w := 512) (m ((c : Thread nD τ).loc main_arg0)) :=
  (dats m 0 c).arrAt_eq_of_cover 1 _ (fun t _ => written4 m c t)
    (Pipeline.Window.Covers.cover _ (by decide +kernel) (Memref.isWhole_whole _))

end Sum4

/-- Slots of shape 2x128x512: a device's result is its block of the reference's. -/
theorem value_sum4 : Cert.algebraic_Sum4Ideal_Sum4RefIdeal := fun m g m' g' _ hx =>
  ⟨Cert.Slots.sum0 (n := 16) (r := 128) (w := 512) (m' (((0 : Dev Cert.Sum4RefIdeal.nD).tc : Thread Cert.Sum4RefIdeal.nD Cert.Sum4RefIdeal.τ).loc Cert.Sum4RefIdeal.main_arg0)),
    (θ_run Cert.Sum4Ideal.defs _ _).mono (fun r h c => ⟨(h c).1.trans ((total4 m c).trans
      ((congrArg Cert.Slots.sum0 (hx c)).trans (Cert.Slots.sum0_block c _ _ _))), (h c).2⟩) (Cert.Sum4Ideal.Value.run_blocks (F := Ideal) m g),
    (θ_run Cert.Sum4RefIdeal.defs _ _).mono (fun r h => ⟨(h 0).1.trans (Cert.Slots.host0 _ _ _), (h 0).2⟩)
      (Cert.Sum4RefIdeal.Value.run (F := Ideal) m' g')⟩

section SumSmall

open Cert.SumSmallIdeal Cert.SumSmallIdeal.Gen Cert.SumSmallIdeal.Value

variable (m : (ℓ : Loc nD τ sig) → Buf (Elt Ideal) ℓ)

/-- Where a point reads and writes. -/
theorem placesSmall : ∀ t : Fin cfg0.N, win0_0.index t (1 : Fin 4) = 0 ∧ win0_0.index t (0 : Fin 4) = win0_1.index t (0 : Fin 3)
    ∧ win0_0.index t (2 : Fin 4) = win0_1.index t (1 : Fin 3) ∧ win0_0.index t (3 : Fin 4) = 0 ∧ win0_1.index t (2 : Fin 3) = 0 :=
  (by decide +kernel : ∀ t : Fin grid0.N, _)

/-- What a point writes is its block of the sum. -/
theorem writtenSmall (c : Dev nD) (t : Fin cfg0.N) :
    (dats m 0 c).flushed 1 t = ((cfg0.win 1).blk t).view.read (Elt Ideal) (Cert.Slots.sum1 (n := 1) (r := 2184) (w := 128) (V m c main_arg0)) := by
  rw [flushed1]
  unfold out0_1
  funext j
  refine (canon1_eq _ _ _ _ _ _ _ _ j).trans ?_
  obtain ⟨e0, e1, e2, e3, e4⟩ := placesSmall t
  have hj : (j 0).val < 1 := (j 0).isLt
  have h0 : ((cfg0.win 0).blk t).view.emb (r0_0.idx (ix1_0 j)) = Idealize.ShloMosaic.ix4 (((cfg0.win 1).blk t).view.emb j 0) 0 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (0 + 1 * 0) = 0; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have h1 : ((cfg0.win 0).blk t).view.emb (r0_1.idx (ix1_1 j)) = Idealize.ShloMosaic.ix4 (((cfg0.win 1).blk t).view.emb j 0) 1 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (1 + 1 * 0) = 1; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have h2 : ((cfg0.win 0).blk t).view.emb (r0_2.idx (ix1_2 j)) = Idealize.ShloMosaic.ix4 (((cfg0.win 1).blk t).view.emb j 0) 2 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (2 + 1 * 0) = 2; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have h3 : ((cfg0.win 0).blk t).view.emb (r0_3.idx (ix1_3 j)) = Idealize.ShloMosaic.ix4 (((cfg0.win 1).blk t).view.emb j 0) 3 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (3 + 1 * 0) = 3; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have h4 : ((cfg0.win 0).blk t).view.emb (r0_4.idx (ix1_4 j)) = Idealize.ShloMosaic.ix4 (((cfg0.win 1).blk t).view.emb j 0) 4 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (4 + 1 * 0) = 4; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have h5 : ((cfg0.win 0).blk t).view.emb (r0_5.idx (ix1_5 j)) = Idealize.ShloMosaic.ix4 (((cfg0.win 1).blk t).view.emb j 0) 5 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (5 + 1 * 0) = 5; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have h6 : ((cfg0.win 0).blk t).view.emb (r0_6.idx (ix1_6 j)) = Idealize.ShloMosaic.ix4 (((cfg0.win 1).blk t).view.emb j 0) 6 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (6 + 1 * 0) = 6; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have h7 : ((cfg0.win 0).blk t).view.emb (r0_7.idx (ix1_7 j)) = Idealize.ShloMosaic.ix4 (((cfg0.win 1).blk t).view.emb j 0) 7 (((cfg0.win 1).blk t).view.emb j 1) (((cfg0.win 1).blk t).view.emb j 2) := by
    funext a; apply Fin.ext
    match a with
    | ⟨0, _⟩ => show win0_0.index t (0 : Fin 4) * 1 + 1 * (0 + 1 * 0) = win0_1.index t (0 : Fin 3) * 1 + 1 * (j 0).val; omega
    | ⟨1, _⟩ => show win0_0.index t (1 : Fin 4) * 8 + 1 * (7 + 1 * 0) = 7; omega
    | ⟨2, _⟩ => show win0_0.index t (2 : Fin 4) * 728 + 1 * (0 + 1 * (j 1).val) = win0_1.index t (1 : Fin 3) * 728 + 1 * (j 1).val; omega
    | ⟨3, _⟩ => show win0_0.index t (3 : Fin 4) * 128 + 1 * (0 + 1 * (j 2).val) = win0_1.index t (2 : Fin 3) * 128 + 1 * (j 2).val; omega
  have key : ∀ A : (⟨4, ![1, 8, 2184, 128]⟩ : Shape).Idx → EReal,
      A (((cfg0.win 0).blk t).view.emb (r0_0.idx (ix1_0 j))) + A (((cfg0.win 0).blk t).view.emb (r0_1.idx (ix1_1 j))) + A (((cfg0.win 0).blk t).view.emb (r0_2.idx (ix1_2 j))) + A (((cfg0.win 0).blk t).view.emb (r0_3.idx (ix1_3 j)))
        + A (((cfg0.win 0).blk t).view.emb (r0_4.idx (ix1_4 j))) + A (((cfg0.win 0).blk t).view.emb (r0_5.idx (ix1_5 j))) + A (((cfg0.win 0).blk t).view.emb (r0_6.idx (ix1_6 j))) + A (((cfg0.win 0).blk t).view.emb (r0_7.idx (ix1_7 j)))
        = Cert.Slots.sum1 A (((cfg0.win 1).blk t).view.emb j) := fun A =>
    Cert.Slots.chain_of (fun k => A (Idealize.ShloMosaic.ix4 (((cfg0.win 1).blk t).view.emb j 0) k (((cfg0.win 1).blk t).view.emb j 1) (((cfg0.win 1).blk t).view.emb j 2))) (congrArg A h0) (congrArg A h1) (congrArg A h2)
      (congrArg A h3) (congrArg A h4) (congrArg A h5) (congrArg A h6) (congrArg A h7)
  exact key (V m c main_arg0)

theorem totalSmall (c : Dev nD) : (dats m 0 c).arrAt 1 cfg0.N = Cert.Slots.sum1 (n := 1) (r := 2184) (w := 128) (m ((c : Thread nD τ).loc main_arg0)) :=
  (dats m 0 c).arrAt_eq_of_cover 1 _ (fun t _ => writtenSmall m c t)
    (Pipeline.Window.Covers.cover _ (by decide +kernel) (Memref.isWhole_whole _))

end SumSmall

/-- The small gradients: the kernel's sum is the reference's. -/
theorem value_sumSmall : Cert.algebraic_SumSmallIdeal_SumSmallRefIdeal := fun m g m' g' _ hx =>
  ⟨fun _ => Cert.Slots.sum1 (n := 1) (r := 2184) (w := 128) (m' (((0 : Dev Cert.SumSmallRefIdeal.nD).tc : Thread Cert.SumSmallRefIdeal.nD Cert.SumSmallRefIdeal.τ).loc Cert.SumSmallRefIdeal.main_arg0)),
    (θ_run Cert.SumSmallIdeal.defs _ _).mono (fun r h c => ⟨(h c).1.trans ((totalSmall m c).trans (by
        obtain rfl : c = 0 := Subsingleton.elim _ _
        exact congrArg _ (hx 0).symm)), (h c).2⟩) (Cert.SumSmallIdeal.Value.run_blocks (F := Ideal) m g),
    (θ_run Cert.SumSmallRefIdeal.defs _ _).mono (fun r h c => by
      obtain rfl : c = 0 := Subsingleton.elim _ _
      exact ⟨(h 0).1.trans (Cert.Slots.host1 _ _ _), (h 0).2⟩) (Cert.SumSmallRefIdeal.Value.run (F := Ideal) m' g')⟩

end Cert.Values

end
-- ==== Proof.StepValue.lean ====
/-
# The optimizer's step on the reals

The kernel goes through an array block by block and the reference takes it whole. Index by index they are the same
operations of the weight, its gradient and its two moments, one theorem for each shape.
-/
module

public import proofs.«01_k».proof.Defs
public import proofs.«01_k».proof.Proof.Gen.Step0Ideal.Value
public import proofs.«01_k».proof.Proof.Gen.Step0RefIdeal.Run
public import proofs.«01_k».proof.Proof.Gen.Step1Ideal.Value
public import proofs.«01_k».proof.Proof.Gen.Step1RefIdeal.Run
public import proofs.«01_k».proof.Proof.Gen.Step2Ideal.Value
public import proofs.«01_k».proof.Proof.Gen.Step2RefIdeal.Run
public import proofs.«01_k».proof.Proof.Gen.Step3Ideal.Value
public import proofs.«01_k».proof.Proof.Gen.Step3RefIdeal.Run
public import proofs.«01_k».proof.Proof.Gen.Step4Ideal.Value
public import proofs.«01_k».proof.Proof.Gen.Step4RefIdeal.Run
public import proofs.«01_k».proof.Proof.Gen.Step5Ideal.Value
public import proofs.«01_k».proof.Proof.Gen.Step5RefIdeal.Run
public import proofs.«01_k».proof.Proof.Gen.Step6Ideal.Value
public import proofs.«01_k».proof.Proof.Gen.Step6RefIdeal.Run

@[expose] public section

noncomputable section

namespace Cert.Values

open Idealize.ShloMosaic Idealize.SL.Sem

/-- Arrays of 2048 rows of 352: the three results of the kernel are the reference's. -/
theorem value_step0 : Cert.algebraic_Step0Ideal_Step0RefIdeal := fun m g m' g' _ hx => by
  obtain ⟨h0, h1, h2, h3⟩ := hx 0
  refine ⟨_, _, _, Cert.Step0Ideal.Value.run (F := Ideal) m g, (θ_run Cert.Step0RefIdeal.defs _ _).mono (fun r h c => ?_)
    (Cert.Step0RefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, h3]; rfl
  · rw [h1, h2]; rfl
  · rw [h1, h3]; rfl

/-- Arrays of 704 rows of 1024: the three results of the kernel are the reference's. -/
theorem value_step1 : Cert.algebraic_Step1Ideal_Step1RefIdeal := fun m g m' g' _ hx => by
  obtain ⟨h0, h1, h2, h3⟩ := hx 0
  refine ⟨_, _, _, Cert.Step1Ideal.Value.run (F := Ideal) m g, (θ_run Cert.Step1RefIdeal.defs _ _).mono (fun r h c => ?_)
    (Cert.Step1RefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, h3]; rfl
  · rw [h1, h2]; rfl
  · rw [h1, h3]; rfl

/-- Arrays of 2048 rows of 864: the three results of the kernel are the reference's. -/
theorem value_step2 : Cert.algebraic_Step2Ideal_Step2RefIdeal := fun m g m' g' _ hx => by
  obtain ⟨h0, h1, h2, h3⟩ := hx 0
  refine ⟨_, _, _, Cert.Step2Ideal.Value.run (F := Ideal) m g, (θ_run Cert.Step2RefIdeal.defs _ _).mono (fun r h c => ?_)
    (Cert.Step2RefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, h3]; rfl
  · rw [h1, h2]; rfl
  · rw [h1, h3]; rfl

/-- Arrays of 512 rows of 128: the three results of the kernel are the reference's. -/
theorem value_step3 : Cert.algebraic_Step3Ideal_Step3RefIdeal := fun m g m' g' _ hx => by
  obtain ⟨h0, h1, h2, h3⟩ := hx 0
  refine ⟨_, _, _, Cert.Step3Ideal.Value.run (F := Ideal) m g, (θ_run Cert.Step3RefIdeal.defs _ _).mono (fun r h c => ?_)
    (Cert.Step3RefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, h3]; rfl
  · rw [h1, h2]; rfl
  · rw [h1, h3]; rfl

/-- Arrays of 1024 rows of 128: the three results of the kernel are the reference's. -/
theorem value_step4 : Cert.algebraic_Step4Ideal_Step4RefIdeal := fun m g m' g' _ hx => by
  obtain ⟨h0, h1, h2, h3⟩ := hx 0
  refine ⟨_, _, _, Cert.Step4Ideal.Value.run (F := Ideal) m g, (θ_run Cert.Step4RefIdeal.defs _ _).mono (fun r h c => ?_)
    (Cert.Step4RefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, h3]; rfl
  · rw [h1, h2]; rfl
  · rw [h1, h3]; rfl

/-- Arrays of 256 rows of 1024: the three results of the kernel are the reference's. -/
theorem value_step5 : Cert.algebraic_Step5Ideal_Step5RefIdeal := fun m g m' g' _ hx => by
  obtain ⟨h0, h1, h2, h3⟩ := hx 0
  refine ⟨_, _, _, Cert.Step5Ideal.Value.run (F := Ideal) m g, (θ_run Cert.Step5RefIdeal.defs _ _).mono (fun r h c => ?_)
    (Cert.Step5RefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, h3]; rfl
  · rw [h1, h2]; rfl
  · rw [h1, h3]; rfl

/-- Arrays of 2184 rows of 128: the three results of the kernel are the reference's. -/
theorem value_step6 : Cert.algebraic_Step6Ideal_Step6RefIdeal := fun m g m' g' _ hx => by
  obtain ⟨h0, h1, h2, h3⟩ := hx 0
  refine ⟨_, _, _, Cert.Step6Ideal.Value.run (F := Ideal) m g, (θ_run Cert.Step6RefIdeal.defs _ _).mono (fun r h c => ?_)
    (Cert.Step6RefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, h3]; rfl
  · rw [h1, h2]; rfl
  · rw [h1, h3]; rfl

end Cert.Values

end
-- ==== Proof.Norm.lean ====
/-
# The norm's backward pass, row by row

The formulas on one row of 1024, which do not say how many rows there are: a tile of 512 and the whole array of 4096
take the same ones. A sum down the columns is the sum of its tiles'.
-/
module

public import Idealize.ShloMosaic.Lib.Pointwise
public import Idealize.ShloMosaic.Lib.IdealHost

@[expose] public section

noncomputable section

namespace Cert.Norm

open Idealize.ShloMosaic

/-- `n` rows of 1024. -/
abbrev Rows (n : Nat) := (⟨2, ![n, 1024]⟩ : Shape).Idx → EReal

/-- The length of a row and the norm's epsilon, as both programs spell them. -/
def width : EReal := Ideal.ofBits .f32 0x44800000#32
def eps : EReal := Ideal.ofBits .f32 0x358637BD#32

def row {n : Nat} (x : Rows n) (i : Fin n) : Fin 1024 → EReal := fun k => x (ix2 i k)

/-- A row's mean, the reciprocal root of its mean square, and what the norm's derivative makes of a row. -/
def mean (a : Fin 1024 → EReal) : EReal := Ideal.div (∑ k, a k) width
def inv (x : Fin 1024 → EReal) : EReal := Ideal.rsqrt (mean (fun k => x k * x k) + eps)
def back (x g dy : Fin 1024 → EReal) (j : Fin 1024) : EReal :=
  inv x * (dy j * g j - x j * (inv x * inv x * mean (fun k => dy k * g k * x k)))

/-- A row's part of the gain's gradient. -/
def gain (x dy : Fin 1024 → EReal) (j : Fin 1024) : EReal := dy j * (x j * inv x)

/-- The kernel's reciprocal of a row's length, and the half. -/
def share : EReal := Ideal.ofBits .f32 0x3A800000#32
def half : EReal := Ideal.ofBits .f32 0x3F000000#32

theorem width_eq : width = ((1024 : ℝ) : EReal) := by
  unfold width
  simp [Ideal.ofBits, Ideal.ieee, -EReal.coe_mul]; norm_num

theorem share_eq : share = ((1 / 1024 : ℝ) : EReal) := by
  unfold share
  simp [Ideal.ofBits, Ideal.ieee, -EReal.coe_mul]; norm_num

theorem half_eq : half = ((1 / 2 : ℝ) : EReal) := by
  unfold half
  simp [Ideal.ofBits, Ideal.ieee, -EReal.coe_mul]; norm_num

/-- The reference's quotient is the kernel's product. -/
theorem div_width (a : EReal) : Ideal.div a width = a * share := by
  rw [width_eq, share_eq]
  exact Ideal.div_coe (by norm_num) a

theorem half_add (a b : EReal) : half * (a + b) = half * a + half * b := by
  refine EReal.left_distrib_of_nonneg_of_ne_top ?_ ?_ a b
  · rw [half_eq]; exact EReal.coe_nonneg.mpr (by norm_num)
  · rw [half_eq]; exact EReal.coe_ne_top _

/-- A row's error against its target, its gradient, and its mean square. -/
def err (x g t : Fin 1024 → EReal) (j : Fin 1024) : EReal := x j * inv x * g j - t j
def slope (x g t : Fin 1024 → EReal) (j : Fin 1024) : EReal := err x g t j * share
def loss (x g t : Fin 1024 → EReal) : EReal := mean (fun k => err x g t k * err x g t k)

theorem slope_eq : slope = fun x g t j => Ideal.div (err x g t j) width := by
  funext x g t j
  exact (div_width _).symm

/-- Row `i` of tile `t`. -/
def place (t : Nat) (ht : t < 8) (i : Fin 512) : Fin 4096 := ⟨t * 512 + i.val, by omega⟩

/-- What tile `t` adds to a sum down the 4096 rows. -/
def tile (f : Fin 4096 → EReal) (t : Nat) : EReal := if ht : t < 8 then ∑ i, f (place t ht i) else 0

theorem tile_of {f : Fin 4096 → EReal} {t : Nat} (ht : t < 8) : tile f t = ∑ i, f (place t ht i) := dif_pos ht

/-- The eight tiles are all the rows. -/
theorem sum_tiles (f : Fin 4096 → EReal) : ∑ t ∈ Finset.range 8, tile f t = ∑ k, f k := by
  rw [Finset.sum_range, Fin.sum_univ_tiles 8 512 rfl f]
  exact Finset.sum_congr rfl fun t _ => tile_of t.isLt

end Cert.Norm
-- ==== Proof.BackValue.lean ====
/-
# The norm's backward pass on the reals

The kernel takes eight tiles of 512 rows. What it writes of a tile is the whole array's formula on the tile's rows, and
the gain's gradient, added up in a block that stays, is after the last tile the sum down all rows.
-/
module

public import Idealize.ShloMosaic.Lib.Pipeline.ValueKit.Partial
public import proofs.«01_k».proof.Defs
public import proofs.«01_k».proof.Proof.Norm
public import proofs.«01_k».proof.Proof.Gen.BackIdeal.Value
public import proofs.«01_k».proof.Proof.Gen.BackRefIdeal.Run

@[expose] public section

set_option maxRecDepth 16384

noncomputable section

namespace Cert.Values

open Idealize.ShloMosaic Idealize.ShloMosaic.TcCoe Idealize.SL.Sem
open Cert.Norm

theorem origin : (![0, 0] : Fin 2 → Nat) = fun _ => 0 := funext fun a => by fin_cases a <;> rfl

/-- The two results as formulas of whole arrays. -/
def backDx (x : Rows 4096) (g : Rows 1) (dh dres : Rows 4096) : Rows 4096 := fun i =>
  dres (ix2 (i 0) (i 1)) + back (row x (i 0)) (row g 0) (row dh (i 0)) (i 1)
def backDg (x dh : Rows 4096) : Rows 1 := fun i => ∑ k, Norm.gain (row x k) (row dh k) (i 1)

section Back

open Cert.BackIdeal Cert.BackIdeal.Gen Cert.BackIdeal.Value

section Body

variable (c : Dev nD) (i : grid0.Coords) (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (x : Vec Ideal S512x1024 .f32) (g : Vec Ideal S1x1024 .f32) (dh dres : Vec Ideal S512x1024 .f32) (acc : Vec Ideal S1x1024 .f32)

/-- What a point leaves, the first one and the others. -/
theorem dx_first (hc : cond0_0 i) : out0_A_4 (F := Ideal) c i a1 h1 a2 h2 a3 h3 a4 h4 a5 h5 a6 h6 hc x g dh dres = k0_pay3 x dh g dres := by
  unfold out0_A_4
  rw [View.read_writes_eq_canon _ _ _ (cover0_A_4 c i a1 h1 a2 h2 a3 h3 a4 h4 a5 h5 a6 h6 hc x g dh dres)]
  unfold kernelRun0_A
  dsimp only
  rw [View.canon_unit_zero origin]
  simp only [View.readAt_eq_ld, h1.read_unread, h2.read_unread, h3.read_unread, h4.read_unread, View.ld_unit_zero (S := S512x1024) origin,
    View.ld_unit_zero (S := S1x1024) origin]

theorem dx_later (hc : ¬cond0_0 i) :
    out0_B_4 (F := Ideal) c i a1 h1 a2 h2 a3 h3 a4 h4 a5 h5 a6 h6 hc x g dh dres acc = k0_pay3 x dh g dres := by
  unfold out0_B_4
  rw [View.read_writes_eq_canon _ _ _ (cover0_B_4 c i a1 h1 a2 h2 a3 h3 a4 h4 a5 h5 a6 h6 hc x g dh dres acc)]
  unfold kernelRun0_B
  dsimp only
  rw [View.canon_unit_zero origin]
  simp only [View.readAt_eq_ld, h1.read_unread, h2.read_unread, h3.read_unread, h4.read_unread, View.ld_unit_zero (S := S512x1024) origin,
    View.ld_unit_zero (S := S1x1024) origin]

theorem dg_first (hc : cond0_0 i) :
    out0_A_5 (F := Ideal) c i a1 h1 a2 h2 a3 h3 a4 h4 a5 h5 a6 h6 hc x g dh dres = k0_pay1 k0_pay4 (k0_pay6 x dh) := by
  unfold out0_A_5
  rw [View.read_writes_eq_canon _ _ _ (cover0_A_5 c i a1 h1 a2 h2 a3 h3 a4 h4 a5 h5 a6 h6 hc x g dh dres)]
  unfold kernelRun0_A
  dsimp only
  sl_unfold_words
  rw [View.canon_cons_unit_zero (S := S1x1024) origin, View.readCov_unit_zero (S := S1x1024) _ origin]
  unfold k0_pay5
  simp only [View.readAt_eq_ld, h1.read_unread, h3.read_unread, View.ld_unit_zero (S := S512x1024) origin, shapeCast_self]

theorem dg_later (hc : ¬cond0_0 i) :
    out0_B_5 (F := Ideal) c i a1 h1 a2 h2 a3 h3 a4 h4 a5 h5 a6 h6 hc x g dh dres acc = k0_pay1 acc (k0_pay6 x dh) := by
  unfold out0_B_5
  rw [View.read_writes_eq_canon _ _ _ (cover0_B_5 c i a1 h1 a2 h2 a3 h3 a4 h4 a5 h5 a6 h6 hc x g dh dres acc)]
  unfold kernelRun0_B
  dsimp only
  sl_unfold_words
  rw [View.canon_unit_zero origin]
  unfold k0_pay5
  simp only [View.readAt_eq_ld, h1.read_unread, h3.read_unread, h6.read_unread, View.ld_unit_zero (S := S512x1024) origin,
    View.ld_unit_zero (S := S1x1024) origin, shapeCast_self]

/-- A tile's result, element by element. -/
theorem dx_entry (p : Fin 512) (j : Fin 1024) :
    k0_pay3 (F := Ideal) x dh g dres (ix2 p j) = dres (ix2 p j) + back (row (n := 512) x p) (row (n := 1) g 0) (row (n := 512) dh p) j := by
  pointwise [k0_pay3, k0_pay2]
  rfl

theorem dg_entry (j : Fin 1024) :
    k0_pay1 (F := Ideal) acc (k0_pay6 x dh) (ix2 0 j) = acc (ix2 0 j) + ∑ p : Fin 512, Norm.gain (row (n := 512) x p) (row (n := 512) dh p) j := by
  pointwise [k0_pay1, k0_pay6, k0_pay2]
  rfl

theorem dg_start (j : Fin 1024) : k0_pay4 (F := Ideal) (ix2 0 j) = (0 : EReal) := by
  pointwise [k0_pay4]

end Body

variable (m : (ℓ : Loc nD τ sig) → Buf (Elt Ideal) ℓ) (c : Dev nD)

/-- Where a point reads and writes. -/
theorem backPlaces : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = 0 ∧ win0_5.index t (1 : Fin 2) = 0) :=
  (by decide +kernel : ∀ t : Fin grid0.N, _)

theorem back_lt (t : Fin cfg0.N) : t.val < 8 := lt_of_lt_of_eq t.isLt (show cfg0.N = 8 from N_0)

/-- A tile's blocks, in the arrays they are cut from. -/
theorem back_x (t : Fin cfg0.N) (p : Fin 512) : row (n := 512) (iblk m c 0 t) p = row (n := 4096) (V m c main_arg0) (place t.val (back_lt t) p) := by
  obtain ⟨⟨e0, e1⟩, -⟩ := backPlaces t
  funext k
  unfold row iblk
  rw [View.read_apply]
  show V m c main_arg0 _ = V m c main_arg0 _
  congr 1
  funext a; apply Fin.ext
  match a with
  | ⟨0, _⟩ => show win0_0.index t (0 : Fin 2) * 512 + 1 * p.val = t.val * 512 + p.val; omega
  | ⟨1, _⟩ => show win0_0.index t (1 : Fin 2) * 1024 + 1 * k.val = k.val; omega

theorem back_g (t : Fin cfg0.N) : row (n := 1) (iblk m c 1 t) 0 = row (n := 1) (V m c main_arg1) 0 := by
  obtain ⟨-, ⟨e0, e1⟩, -⟩ := backPlaces t
  funext k
  unfold row iblk
  rw [View.read_apply]
  show V m c main_arg1 _ = V m c main_arg1 _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem back_dh (t : Fin cfg0.N) (p : Fin 512) : row (n := 512) (iblk m c 2 t) p = row (n := 4096) (V m c main_arg2) (place t.val (back_lt t) p) := by
  obtain ⟨-, -, ⟨e0, e1⟩, -⟩ := backPlaces t
  funext k
  unfold row iblk
  rw [View.read_apply]
  show V m c main_arg2 _ = V m c main_arg2 _
  congr 1
  funext a; apply Fin.ext
  match a with
  | ⟨0, _⟩ => show win0_2.index t (0 : Fin 2) * 512 + 1 * p.val = t.val * 512 + p.val; omega
  | ⟨1, _⟩ => show win0_2.index t (1 : Fin 2) * 1024 + 1 * k.val = k.val; omega

theorem back_dres (t : Fin cfg0.N) (p : Fin 512) : row (n := 512) (iblk m c 3 t) p = row (n := 4096) (V m c main_arg3) (place t.val (back_lt t) p) := by
  obtain ⟨-, -, -, ⟨e0, e1⟩, -⟩ := backPlaces t
  funext k
  unfold row iblk
  rw [View.read_apply]
  show V m c main_arg3 _ = V m c main_arg3 _
  congr 1
  funext a; apply Fin.ext
  match a with
  | ⟨0, _⟩ => show win0_3.index t (0 : Fin 2) * 512 + 1 * p.val = t.val * 512 + p.val; omega
  | ⟨1, _⟩ => show win0_3.index t (1 : Fin 2) * 1024 + 1 * k.val = k.val; omega

/-- After any point the first output's block holds the formula of the point's tile. -/
theorem back_left (t : Fin cfg0.N) : (outsAt0 m c t.val t.isLt).1 = k0_pay3 (iblk m c 0 t) (iblk m c 2 t) (iblk m c 1 t) (iblk m c 3 t) := by
  by_cases h0 : t.val % 8 = 0
  · rw [outsAt0_A m c t h0]; dsimp only; rw [dx_first]
  · rw [outsAt0_B m c t h0]; dsimp only; rw [dx_later]

theorem back_written (t : Fin cfg0.N) : (dats m 0 c).flushed 4 t
    = ((cfg0.win 4).blk t).view.read (Elt Ideal) (backDx (V m c main_arg0) (V m c main_arg1) (V m c main_arg2) (V m c main_arg3)) := by
  rw [flushed4, back_left]
  funext y
  obtain ⟨p, j, rfl⟩ : ∃ (p : Fin 512) (j : Fin 1024), y = ix2 p j := ⟨y 0, y 1, eq_ix2 y⟩
  obtain ⟨-, -, -, -, ⟨e0, e1⟩, -⟩ := backPlaces t
  have here : ((cfg0.win 4).blk t).view.emb (ix2 p j) = ix2 (place t.val (back_lt t) p) j := by
    funext a; apply Fin.ext
    match a with
    | ⟨0, _⟩ => show win0_4.index t (0 : Fin 2) * 512 + 1 * p.val = t.val * 512 + p.val; omega
    | ⟨1, _⟩ => show win0_4.index t (1 : Fin 2) * 1024 + 1 * j.val = j.val; omega
  refine (dx_entry (iblk m c 0 t) (iblk m c 1 t) (iblk m c 2 t) (iblk m c 3 t) p j).trans ?_
  rw [back_x, back_g, back_dh]
  rw [View.read_apply, here]
  exact congrArg (· + back (row (n := 4096) (V m c main_arg0) (place t.val (back_lt t) p)) (row (n := 1) (V m c main_arg1) 0)
    (row (n := 4096) (V m c main_arg2) (place t.val (back_lt t) p)) j) (congrFun (back_dres m c t p) j)

theorem back_dx : (dats m 0 c).arrAt 4 cfg0.N = backDx (V m c main_arg0) (V m c main_arg1) (V m c main_arg2) (V m c main_arg3) :=
  (dats m 0 c).arrAt_eq_of_cover 4 _ (fun t _ => back_written m c t)
    (Pipeline.Window.Covers.cover _ (by decide +kernel) (Memref.isWhole_whole _))

/-- The gain's gradient down the tiles taken so far. -/
theorem back_sum (j : Fin 1024) : ∀ (n : ℕ) (h : n < cfg0.N), (outsAt0 m c n h).2 (ix2 0 j)
    = ∑ t ∈ Finset.range (n + 1), tile (fun k => Norm.gain (row (n := 4096) (V m c main_arg0) k) (row (n := 4096) (V m c main_arg2) k) j) t
  | 0, h => by
    rw [show outsAt0 m c 0 h = _ from outsAt0_A m c ⟨0, h⟩ rfl]
    dsimp only
    rw [dg_first]
    refine (dg_entry _ _ _ j).trans ?_
    rw [dg_start, zero_add, Finset.sum_range_one, tile_of (t := 0) (by omega)]
    exact Finset.sum_congr rfl fun p _ => by rw [back_x, back_dh]
  | n + 1, h => by
    have h8 : n + 1 < 8 := back_lt ⟨n + 1, h⟩
    have hB : ¬(⟨n + 1, h⟩ : Fin cfg0.N).val % 8 = 0 := by dsimp only; omega
    rw [show outsAt0 m c (n + 1) h = _ from outsAt0_B m c ⟨n + 1, h⟩ hB]
    dsimp only
    rw [dg_later]
    refine (dg_entry _ _ _ j).trans ?_
    rw [Finset.sum_range_succ, tile_of h8]
    refine congrArg₂ (· + ·) (back_sum j n _) ?_
    exact Finset.sum_congr rfl fun p _ => by rw [back_x, back_dh]

theorem back_total : (outsAt0 m c 7 (by rw [show cfg0.N = 8 from N_0]; decide)).2 = backDg (V m c main_arg0) (V m c main_arg2) := by
  funext y
  obtain ⟨p, j, rfl⟩ : ∃ (p : Fin 1) (j : Fin 1024), y = ix2 p j := ⟨y 0, y 1, eq_ix2 y⟩
  obtain rfl : p = 0 := Subsingleton.elim _ _
  exact (back_sum m c j 7 _).trans (sum_tiles _)

theorem back_flushed (t : Fin cfg0.N) (hf : (cfg0.win 5).flush t = true) :
    (dats m 0 c).flushed 5 t = ((cfg0.win 5).blk t).view.read (Elt Ideal) (backDg (V m c main_arg0) (V m c main_arg2)) := by
  have h7 : t.val = 7 := by have := (flush0_5 t).mp hf; have := back_lt t; omega
  obtain rfl : t = t0_7 := Fin.ext h7
  rw [flushed5, show (outsAt0 m c t0_7.val t0_7.isLt).2 = _ from back_total m c]
  have hz : (fun a => win0_5.index t0_7 a * main_v0_1.ty.shape.size a) = fun _ => 0 := funext fun a => by fin_cases a <;> decide
  exact (Memref.read_access_unit_zero (Elt Ideal) main_v0_1 hz (fun a => by rw [congrFun hz a]; simp) (backDg (V m c main_arg0) (V m c main_arg2))).symm

theorem back_dg : (dats m 0 c).arrAt 5 cfg0.N = backDg (V m c main_arg0) (V m c main_arg2) :=
  (dats m 0 c).arrAt_eq_of_cover 5 _ (back_flushed m c)
    (Pipeline.Window.Covers.cover _ (by decide +kernel) (Memref.isWhole_whole _))

end Back

/-- The norm's backward pass: both results of the kernel are the reference's. -/
theorem value_back : Cert.algebraic_BackIdeal_BackRefIdeal := fun m g m' g' _ hx => by
  obtain ⟨h0, h1, h2, h3⟩ := hx 0
  refine ⟨_, _, Cert.BackIdeal.Value.run_blocks (F := Ideal) m g, (θ_run Cert.BackRefIdeal.defs _ _).mono (fun r h c => ?_)
    (Cert.BackRefIdeal.Value.run (F := Ideal) m' g')⟩
  obtain ⟨e0, e1, e⟩ := h c
  obtain rfl : c = 0 := Subsingleton.elim _ _
  refine ⟨e0.trans ?_, e1.trans ?_, e⟩
  · rw [h0, h1, h2, h3, back_dx]
    funext y
    obtain ⟨p, j, rfl⟩ : ∃ (p : Fin 4096) (j : Fin 1024), y = ix2 p j := ⟨y 0, y 1, eq_ix2 y⟩
    pointwise
    rfl
  · rw [h0, h2, back_dg]
    funext y
    obtain ⟨p, j, rfl⟩ : ∃ (p : Fin 1) (j : Fin 1024), y = ix2 p j := ⟨y 0, y 1, eq_ix2 y⟩
    pointwise
    rfl

end Cert.Values
-- ==== Proof.Product.lean ====
/-
# Products of matrices

The two products the kernels take, of the rows of one matrix with the rows or with the columns of another, at sizes that
do not enter: a tile and the whole array take the same ones.
-/
module

public import Idealize.ShloMosaic.Lib.Pointwise
public import Idealize.ShloMosaic.Lib.IdealHost

@[expose] public section

noncomputable section

namespace Cert.Product

open Idealize.ShloMosaic

/-- A matrix. -/
abbrev Mat (m n : Nat) := (⟨2, ![m, n]⟩ : Shape).Idx → EReal

/-- The block's corner. -/
theorem corner : (![0, 0] : Fin 2 → Nat) = fun _ => 0 := funext fun a => by fin_cases a <;> rfl

/-- An index, from its two coordinates. -/
theorem at2 {m n : Nat} {i : (⟨2, ![m, n]⟩ : Shape).Idx} {r : Fin m} {l : Fin n} (hr : (i 0).val = r.val) (hl : (i 1).val = l.val) :
    i = ix2 r l := by
  funext a; apply Fin.ext
  match a with
  | ⟨0, _⟩ => exact hr
  | ⟨1, _⟩ => exact hl

/-- The half. -/
def half : EReal := Ideal.ofBits .f32 0x3F000000#32

/-- A row of `a` against a row of `b`, and against a column. -/
def byRow {m n k : Nat} (a : Mat m k) (b : Mat n k) (r : Fin m) (l : Fin n) : EReal := ∑ q, a (ix2 r q) * b (ix2 l q)
def byCol {m n k : Nat} (a : Mat m k) (b : Mat k n) (r : Fin m) (l : Fin n) : EReal := ∑ q, a (ix2 r q) * b (ix2 q l)

end Cert.Product
-- ==== Proof.ActValue.lean ====
/-
# The calls that work row by row: the first norm, the feed-forward block's activation and its derivative, and the gates

Each block of the kernel is the formula on its rows, and the blocks tile the array.
-/
module

public import Idealize.ShloMosaic.Lib.Pipeline.ValueKit.Partial
public import proofs.«01_k».proof.Defs
public import proofs.«01_k».proof.Proof.Norm
public import proofs.«01_k».proof.Proof.Product
public import proofs.«01_k».proof.Proof.Gen.Norm1Ideal.Value
public import proofs.«01_k».proof.Proof.Gen.Norm1RefIdeal.Run
public import proofs.«01_k».proof.Proof.Gen.ActIdeal.Value
public import proofs.«01_k».proof.Proof.Gen.ActRefIdeal.Run
public import proofs.«01_k».proof.Proof.Gen.ActBackIdeal.Value
public import proofs.«01_k».proof.Proof.Gen.ActBackRefIdeal.Run
public import proofs.«01_k».proof.Proof.Gen.GatesIdeal.Value
public import proofs.«01_k».proof.Proof.Gen.GatesRefIdeal.Run

@[expose] public section

set_option maxRecDepth 16384

noncomputable section

namespace Cert.Values

open Idealize.ShloMosaic Idealize.ShloMosaic.TcCoe Idealize.SL.Sem
open Cert.Product

/-- The logistic. -/
def unit1 : EReal := Ideal.ofBits .f32 0x3F800000#32
def logistic (x : EReal) : EReal := Ideal.div unit1 (unit1 + Ideal.exp (-x))

/-- A gate and the value beside it, at one column of the two halves. -/
def actAt (g u : EReal) : EReal := g * logistic g * u
def act {n : Nat} (x : Mat n 5632) : Mat n 2816 := fun i =>
  actAt (x (ix2 (i 0) ⟨(i 1).val, lt_of_lt_of_le (show (i 1).val < 2816 from (i 1).isLt) (by decide)⟩))
    (x (ix2 (i 0) ⟨2816 + (i 1).val, by have : (i 1).val < 2816 := (i 1).isLt; omega⟩))

section Act

open Cert.ActIdeal Cert.ActIdeal.Gen Cert.ActIdeal.Value

variable (m : (ℓ : Loc nD τ sig) → Buf (Elt Ideal) ℓ) (c : Dev nD)

theorem actPlaces : ∀ t : Fin cfg0.N, (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

theorem act_read (t : Fin cfg0.N) (p : Fin 256) (k : Fin 5632) (q : Fin 4096) (hq : q.val = t.val * 256 + p.val) :
    iblk m c 0 t (ix2 p k) = V m c main_arg0 (ix2 q k) := by
  obtain ⟨⟨e0, e1⟩, -⟩ := actPlaces t
  exact congrArg (V m c main_arg0) (at2 (show win0_0.index t (0 : Fin 2) * 256 + 1 * p.val = q.val by omega)
    (show win0_0.index t (1 : Fin 2) * 5632 + 1 * k.val = k.val by omega))

theorem act_tile (x : Vec Ideal S256x5632 .bf16) : out0_1 (F := Ideal) x = act x := by
  funext y
  obtain ⟨p, j, rfl⟩ : ∃ (p : Fin 256) (j : Fin 2816), y = ix2 p j := ⟨y 0, y 1, eq_ix2 y⟩
  unfold out0_1 act actAt logistic unit1
  rw [View.canon_unit_zero corner]
  pointwise [k0_pay1, zero_sub]

theorem act_written (t : Fin cfg0.N) : (dats m 0 c).flushed 1 t = ((cfg0.win 1).blk t).view.read (Elt Ideal) (act (V m c main_arg0)) := by
  rw [flushed1]
  funext y
  obtain ⟨p, j, rfl⟩ : ∃ (p : Fin 256) (j : Fin 2816), y = ix2 p j := ⟨y 0, y 1, eq_ix2 y⟩
  obtain ⟨-, ⟨e0, e1⟩⟩ := actPlaces t
  have ht : t.val < 16 := lt_of_lt_of_eq t.isLt (show cfg0.N = 16 from N_0)
  have here : ((cfg0.win 1).blk t).view.emb (ix2 p j) = ix2 (⟨t.val * 256 + p.val, by omega⟩ : Fin 4096) j :=
    at2 (show win0_1.index t (0 : Fin 2) * 256 + 1 * p.val = t.val * 256 + p.val by omega)
      (show win0_1.index t (1 : Fin 2) * 2816 + 1 * j.val = j.val by omega)
  refine (congrFun (act_tile (iblk m c 0 t)) (ix2 p j)).trans ?_
  rw [View.read_apply, here]
  exact congrArg₂ actAt (act_read m c t p _ _ rfl) (act_read m c t p _ _ rfl)

theorem act_whole : (dats m 0 c).arrAt 1 cfg0.N = act (V m c main_arg0) :=
  (dats m 0 c).arrAt_eq_of_cover 1 _ (fun t _ => act_written m c t)
    (Pipeline.Window.Covers.cover _ (by decide +kernel) (Memref.isWhole_whole _))

end Act

theorem value_act : Cert.algebraic_ActIdeal_ActRefIdeal := fun m g m' g' _ hx => by
  have h0 := hx 0
  refine ⟨_, Cert.ActIdeal.Value.run_blocks (F := Ideal) m g, (θ_run Cert.ActRefIdeal.defs _ _).mono (fun r h c => ?_)
    (Cert.ActRefIdeal.Value.run (F := Ideal) m' g')⟩
  obtain ⟨e0, e⟩ := h c
  obtain rfl : c = 0 := Subsingleton.elim _ _
  refine ⟨e0.trans ?_, e⟩
  rw [h0, act_whole]
  funext y
  obtain ⟨p, j, rfl⟩ : ∃ (p : Fin 4096) (j : Fin 2816), y = ix2 p j := ⟨y 0, y 1, eq_ix2 y⟩
  unfold act actAt logistic unit1
  pointwise

/-- A column's place in the gates' half and in the other. -/
def gateCol (j : Fin 2816) : Fin 5632 := ⟨j.val, by omega⟩
def sideCol (j : Fin 2816) : Fin 5632 := ⟨2816 + j.val, by omega⟩

/-- The derivative, a gate's and the value's beside it. -/
def gateBack (g u d : EReal) : EReal := d * u * (logistic g * (unit1 + g * (unit1 - logistic g)))
def sideBack (g d : EReal) : EReal := d * (g * logistic g)
def actBack {n : Nat} (x : Mat n 5632) (d : Mat n 2816) : Mat n 5632 := fun i =>
  if h : (i 1).val < 2816 then
    gateBack (x (ix2 (i 0) (i 1))) (x (ix2 (i 0) ⟨2816 + (i 1).val, by omega⟩)) (d (ix2 (i 0) ⟨(i 1).val, h⟩))
  else
    sideBack (x (ix2 (i 0) ⟨(i 1).val - 2816, by have : (i 1).val < 5632 := (i 1).isLt; omega⟩))
      (d (ix2 (i 0) ⟨(i 1).val - 2816, by have : (i 1).val < 5632 := (i 1).isLt; omega⟩))

theorem actBack_gate {n : Nat} (x : Mat n 5632) (d : Mat n 2816) (p : Fin n) (j : Fin 2816) :
    actBack x d (ix2 p (gateCol j)) = gateBack (x (ix2 p (gateCol j))) (x (ix2 p (sideCol j))) (d (ix2 p j)) :=
  dif_pos j.isLt

theorem actBack_side {n : Nat} (x : Mat n 5632) (d : Mat n 2816) (p : Fin n) (j : Fin 2816) :
    actBack x d (ix2 p (sideCol j)) = sideBack (x (ix2 p (gateCol j))) (d (ix2 p j)) := by
  have e : 2816 + j.val - 2816 = j.val := by omega
  exact (dif_neg (show ¬ 2816 + j.val < 2816 by omega)).trans (congrArg₂ sideBack (congrArg x (at2 rfl e)) (congrArg d (at2 rfl e)))

section ActBack

open Cert.ActBackIdeal Cert.ActBackIdeal.Gen Cert.ActBackIdeal.Value

variable (m : (ℓ : Loc nD τ sig) → Buf (Elt Ideal) ℓ) (c : Dev nD)

theorem actBackPlaces : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

theorem actBack_read (t : Fin cfg0.N) (p : Fin 256) (k : Fin 5632) (q : Fin 4096) (hq : q.val = t.val * 256 + p.val) :
    iblk m c 0 t (ix2 p k) = V m c main_arg0 (ix2 q k) := by
  obtain ⟨⟨e0, e1⟩, -⟩ := actBackPlaces t
  exact congrArg (V m c main_arg0) (at2 (show win0_0.index t (0 : Fin 2) * 256 + 1 * p.val = q.val by omega)
    (show win0_0.index t (1 : Fin 2) * 5632 + 1 * k.val = k.val by omega))

theorem actBack_grad (t : Fin cfg0.N) (p : Fin 256) (k : Fin 2816) (q : Fin 4096) (hq : q.val = t.val * 256 + p.val) :
    iblk m c 1 t (ix2 p k) = V m c main_arg1 (ix2 q k) := by
  obtain ⟨-, ⟨e0, e1⟩, -⟩ := actBackPlaces t
  exact congrArg (V m c main_arg1) (at2 (show win0_1.index t (0 : Fin 2) * 256 + 1 * p.val = q.val by omega)
    (show win0_1.index t (1 : Fin 2) * 2816 + 1 * k.val = k.val by omega))

theorem actBack_tile (x : Vec Ideal S256x5632 .bf16) (d : Vec Ideal S256x2816 .bf16) : out0_2 (F := Ideal) x d = actBack x d := by
  funext y
  unfold out0_2
  refine View.canon_apply_of_pieces (Val := Elt Ideal) (e := .bf16) (actBack x d) _ ?_ y (cover0_2 _ _ y)
  intro pc hpc
  rcases List.mem_cons.mp hpc with rfl | hpc
  · intro z
    obtain ⟨p, j, rfl⟩ : ∃ (p : Fin 256) (j : Fin 2816), z = ix2 p j := ⟨z 0, z 1, eq_ix2 z⟩
    have here : r0_1.idx (ix2 p j) = ix2 p (sideCol j) :=
      at2 (show 0 + 1 * p.val = p.val by omega) (show 2816 + 1 * j.val = 2816 + j.val by omega)
    show _ = actBack x d (r0_1.idx (ix2 p j))
    rw [here, actBack_side]
    unfold sideBack logistic unit1 gateCol
    pointwise [k0_pay5, k0_pay4, k0_pay3, k0_pay2, k0_pay1, zero_sub]
  · rcases List.mem_cons.mp hpc with rfl | hpc
    · intro z
      obtain ⟨p, j, rfl⟩ : ∃ (p : Fin 256) (j : Fin 2816), z = ix2 p j := ⟨z 0, z 1, eq_ix2 z⟩
      have here : r0_0.idx (ix2 p j) = ix2 p (gateCol j) :=
        at2 (show 0 + 1 * p.val = p.val by omega) (show 0 + 1 * j.val = j.val by omega)
      show _ = actBack x d (r0_0.idx (ix2 p j))
      rw [here, actBack_gate]
      unfold gateBack logistic unit1 gateCol sideCol
      pointwise [k0_pay5, k0_pay4, k0_pay3, k0_pay2, k0_pay1, zero_sub]
    · nomatch hpc

theorem actBack_written (t : Fin cfg0.N) : (dats m 0 c).flushed 2 t = ((cfg0.win 2).blk t).view.read (Elt Ideal) (actBack (V m c main_arg0) (V m c main_arg1)) := by
  rw [flushed2]
  funext y
  obtain ⟨p, j, rfl⟩ : ∃ (p : Fin 256) (j : Fin 5632), y = ix2 p j := ⟨y 0, y 1, eq_ix2 y⟩
  obtain ⟨-, -, ⟨e0, e1⟩⟩ := actBackPlaces t
  have ht : t.val < 16 := lt_of_lt_of_eq t.isLt (show cfg0.N = 16 from N_0)
  have here : ((cfg0.win 2).blk t).view.emb (ix2 p j) = ix2 (⟨t.val * 256 + p.val, by omega⟩ : Fin 4096) j :=
    at2 (show win0_2.index t (0 : Fin 2) * 256 + 1 * p.val = t.val * 256 + p.val by omega)
      (show win0_2.index t (1 : Fin 2) * 5632 + 1 * j.val = j.val by omega)
  refine (congrFun (actBack_tile (iblk m c 0 t) (iblk m c 1 t)) (ix2 p j)).trans ?_
  rw [View.read_apply, here]
  by_cases h : j.val < 2816
  · obtain ⟨l, rfl⟩ : ∃ l : Fin 2816, j = gateCol l := ⟨⟨j.val, h⟩, rfl⟩
    rw [actBack_gate]
    refine Eq.trans ?_ (actBack_gate (V m c main_arg0) (V m c main_arg1) ⟨t.val * 256 + p.val, by omega⟩ l).symm
    rw [actBack_read m c t p (gateCol l) ⟨t.val * 256 + p.val, by omega⟩ rfl,
      actBack_read m c t p (sideCol l) ⟨t.val * 256 + p.val, by omega⟩ rfl,
      actBack_grad m c t p l ⟨t.val * 256 + p.val, by omega⟩ rfl]
  · obtain ⟨l, rfl⟩ : ∃ l : Fin 2816, j = sideCol l := ⟨⟨j.val - 2816, by omega⟩, Fin.ext (show j.val = 2816 + (j.val - 2816) by omega)⟩
    rw [actBack_side]
    refine Eq.trans ?_ (actBack_side (V m c main_arg0) (V m c main_arg1) ⟨t.val * 256 + p.val, by omega⟩ l).symm
    rw [actBack_read m c t p (gateCol l) ⟨t.val * 256 + p.val, by omega⟩ rfl,
      actBack_grad m c t p l ⟨t.val * 256 + p.val, by omega⟩ rfl]

theorem actBack_whole : (dats m 0 c).arrAt 2 cfg0.N = actBack (V m c main_arg0) (V m c main_arg1) :=
  (dats m 0 c).arrAt_eq_of_cover 2 _ (fun t _ => actBack_written m c t)
    (Pipeline.Window.Covers.cover _ (by decide +kernel) (Memref.isWhole_whole _))

end ActBack

theorem value_actBack : Cert.algebraic_ActBackIdeal_ActBackRefIdeal := fun m g m' g' _ hx => by
  obtain ⟨h0, h1⟩ := hx 0
  refine ⟨_, Cert.ActBackIdeal.Value.run_blocks (F := Ideal) m g, (θ_run Cert.ActBackRefIdeal.defs _ _).mono (fun r h c => ?_)
    (Cert.ActBackRefIdeal.Value.run (F := Ideal) m' g')⟩
  obtain ⟨e0, e⟩ := h c
  obtain rfl : c = 0 := Subsingleton.elim _ _
  refine ⟨e0.trans ?_, e⟩
  rw [h0, h1, actBack_whole]
  funext y
  obtain ⟨p, j, rfl⟩ : ∃ (p : Fin 4096) (j : Fin 5632), y = ix2 p j := ⟨y 0, y 1, eq_ix2 y⟩
  unfold actBack gateBack sideBack logistic unit1
  pointwise

/-- The norm of each row, times the gain. -/
def norm1 {n : Nat} (x : Mat n 1024) (g : Mat 1 1024) : Mat n 1024 := fun i =>
  x (ix2 (i 0) (i 1)) * Norm.inv (Norm.row x (i 0)) * g (ix2 (0 : Fin 1) (i 1))

section Norm1

open Cert.Norm1Ideal Cert.Norm1Ideal.Gen Cert.Norm1Ideal.Value

variable (m : (ℓ : Loc nD τ sig) → Buf (Elt Ideal) ℓ) (c : Dev nD)

theorem norm1Places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem norm1_read (t : Fin cfg0.N) (p : Fin 512) (k : Fin 1024) (q : Fin 4096) (hq : q.val = t.val * 512 + p.val) :
    iblk m c 0 t (ix2 p k) = V m c main_arg0 (ix2 q k) := by
  obtain ⟨⟨e0, e1⟩, -⟩ := norm1Places t
  exact congrArg (V m c main_arg0) (at2 (show win0_0.index t (0 : Fin 2) * 512 + 1 * p.val = q.val by omega)
    (show win0_0.index t (1 : Fin 2) * 1024 + 1 * k.val = k.val by omega))

theorem norm1_gain (t : Fin cfg0.N) (k : Fin 1024) : iblk m c 1 t (ix2 (0 : Fin 1) k) = V m c main_arg1 (ix2 (0 : Fin 1) k) := by
  obtain ⟨-, ⟨e0, e1⟩, -⟩ := norm1Places t
  exact congrArg (V m c main_arg1) (at2 (show win0_1.index t (0 : Fin 2) * 1 + 1 * 0 = 0 by omega)
    (show win0_1.index t (1 : Fin 2) * 1024 + 1 * k.val = k.val by omega))

theorem norm1_tile (x : Vec Ideal S512x1024 .f32) (g : Vec Ideal S1x1024 .f32) : out0_2 (F := Ideal) x g = norm1 x g := by
  funext y
  obtain ⟨p, j, rfl⟩ : ∃ (p : Fin 512) (j : Fin 1024), y = ix2 p j := ⟨y 0, y 1, eq_ix2 y⟩
  unfold out0_2 norm1 Norm.inv Norm.mean Norm.width Norm.eps Norm.row
  rw [View.canon_unit_zero corner]
  simp only [View.ld_unit_zero (S := S512x1024) corner, View.ld_unit_zero (S := S1x1024) corner]
  pointwise [k0_pay1]

theorem norm1_written (t : Fin cfg0.N) : (dats m 0 c).flushed 2 t = ((cfg0.win 2).blk t).view.read (Elt Ideal) (norm1 (V m c main_arg0) (V m c main_arg1)) := by
  rw [flushed2]
  funext y
  obtain ⟨p, j, rfl⟩ : ∃ (p : Fin 512) (j : Fin 1024), y = ix2 p j := ⟨y 0, y 1, eq_ix2 y⟩
  obtain ⟨-, -, ⟨e0, e1⟩⟩ := norm1Places t
  have ht : t.val < 8 := lt_of_lt_of_eq t.isLt (show cfg0.N = 8 from N_0)
  have here : ((cfg0.win 2).blk t).view.emb (ix2 p j) = ix2 (⟨t.val * 512 + p.val, by omega⟩ : Fin 4096) j :=
    at2 (show win0_2.index t (0 : Fin 2) * 512 + 1 * p.val = t.val * 512 + p.val by omega)
      (show win0_2.index t (1 : Fin 2) * 1024 + 1 * j.val = j.val by omega)
  refine (congrFun (norm1_tile (iblk m c 0 t) (iblk m c 1 t)) (ix2 p j)).trans ?_
  rw [View.read_apply, here]
  refine congrArg₂ (fun a b : EReal => a * b) (congrArg₂ (fun a b : EReal => a * b) (norm1_read m c t p j ⟨t.val * 512 + p.val, by omega⟩ rfl) (congrArg Norm.inv (funext fun k => ?_))) (norm1_gain m c t j)
  exact norm1_read m c t p k ⟨t.val * 512 + p.val, by omega⟩ rfl

theorem norm1_whole : (dats m 0 c).arrAt 2 cfg0.N = norm1 (V m c main_arg0) (V m c main_arg1) :=
  (dats m 0 c).arrAt_eq_of_cover 2 _ (fun t _ => norm1_written m c t)
    (Pipeline.Window.Covers.cover _ (by decide +kernel) (Memref.isWhole_whole _))

end Norm1

theorem value_norm1 : Cert.algebraic_Norm1Ideal_Norm1RefIdeal := fun m g m' g' _ hx => by
  obtain ⟨h0, h1⟩ := hx 0
  refine ⟨_, Cert.Norm1Ideal.Value.run_blocks (F := Ideal) m g, (θ_run Cert.Norm1RefIdeal.defs _ _).mono (fun r h c => ?_)
    (Cert.Norm1RefIdeal.Value.run (F := Ideal) m' g')⟩
  obtain ⟨e0, e⟩ := h c
  obtain rfl : c = 0 := Subsingleton.elim _ _
  refine ⟨e0.trans ?_, e⟩
  rw [h0, h1, norm1_whole]
  funext y
  obtain ⟨p, j, rfl⟩ : ∃ (p : Fin 4096) (j : Fin 1024), y = ix2 p j := ⟨y 0, y 1, eq_ix2 y⟩
  unfold norm1 Norm.inv Norm.mean Norm.width Norm.eps Norm.row
  pointwise

/-- Three branches, each by its gate. -/
def gateAt (z b p : EReal) : EReal := logistic (z + b) * p
def gates (z : Mat 4096 6912) (b : Mat 1 3072) (x y w : Mat 4096 1024) : Mat 4096 1024 := fun i =>
  have hi : (i 1).val < 1024 := (i 1).isLt
  gateAt (z (ix2 (i 0) ⟨3840 + (i 1).val, by omega⟩)) (b (ix2 (0 : Fin 1) ⟨(i 1).val, by omega⟩)) (x i)
    + gateAt (z (ix2 (i 0) ⟨3840 + (1024 + (i 1).val), by omega⟩)) (b (ix2 (0 : Fin 1) ⟨1024 + (i 1).val, by omega⟩)) (y i)
    + gateAt (z (ix2 (i 0) ⟨3840 + (2048 + (i 1).val), by omega⟩)) (b (ix2 (0 : Fin 1) ⟨2048 + (i 1).val, by omega⟩)) (w i)

section Gates

open Cert.GatesIdeal Cert.GatesIdeal.Gen Cert.GatesIdeal.Value

variable (m : (ℓ : Loc nD τ sig) → Buf (Elt Ideal) ℓ) (c : Dev nD)

theorem gatesPlaces : ∀ t : Fin cfg0.N,
    ((win0_0.index t (0 : Fin 2) = t.val % 8 ∧ win0_0.index t (1 : Fin 2) = 15 + t.val / 8)
      ∧ (win0_1.index t (0 : Fin 2) = t.val % 8 ∧ win0_1.index t (1 : Fin 2) = 19 + t.val / 8)
      ∧ (win0_2.index t (0 : Fin 2) = t.val % 8 ∧ win0_2.index t (1 : Fin 2) = 23 + t.val / 8))
    ∧ ((win0_3.index t (0 : Fin 2) = 0 ∧ win0_3.index t (1 : Fin 2) = t.val / 8)
      ∧ (win0_4.index t (0 : Fin 2) = 0 ∧ win0_4.index t (1 : Fin 2) = 4 + t.val / 8)
      ∧ (win0_5.index t (0 : Fin 2) = 0 ∧ win0_5.index t (1 : Fin 2) = 8 + t.val / 8))
    ∧ ((win0_6.index t (0 : Fin 2) = t.val % 8 ∧ win0_6.index t (1 : Fin 2) = t.val / 8)
      ∧ (win0_7.index t (0 : Fin 2) = t.val % 8 ∧ win0_7.index t (1 : Fin 2) = t.val / 8)
      ∧ (win0_8.index t (0 : Fin 2) = t.val % 8 ∧ win0_8.index t (1 : Fin 2) = t.val / 8))
    ∧ (win0_9.index t (0 : Fin 2) = t.val % 8 ∧ win0_9.index t (1 : Fin 2) = t.val / 8) :=
  (by decide +kernel : ∀ t : Fin grid0.N, _)

theorem gates_z (t : Fin cfg0.N) (p : Fin 512) (j : Fin 256) (q : Fin 4096) (k : Fin 1024) (hq : q.val = t.val % 8 * 512 + p.val)
    (hk : k.val = t.val / 8 * 256 + j.val) :
    iblk m c 0 t (ix2 p j) = V m c main_arg0 (ix2 q (⟨3840 + k.val, by omega⟩ : Fin 6912))
      ∧ iblk m c 1 t (ix2 p j) = V m c main_arg0 (ix2 q (⟨3840 + (1024 + k.val), by omega⟩ : Fin 6912))
      ∧ iblk m c 2 t (ix2 p j) = V m c main_arg0 (ix2 q (⟨3840 + (2048 + k.val), by omega⟩ : Fin 6912)) := by
  obtain ⟨⟨⟨a0, a1⟩, ⟨b0, b1⟩, ⟨c0, c1⟩⟩, -⟩ := gatesPlaces t
  refine ⟨congrArg (V m c main_arg0) (at2 ?_ ?_), congrArg (V m c main_arg0) (at2 ?_ ?_), congrArg (V m c main_arg0) (at2 ?_ ?_)⟩
  · show win0_0.index t (0 : Fin 2) * 512 + 1 * p.val = q.val; omega
  · show win0_0.index t (1 : Fin 2) * 256 + 1 * j.val = 3840 + k.val; omega
  · show win0_1.index t (0 : Fin 2) * 512 + 1 * p.val = q.val; omega
  · show win0_1.index t (1 : Fin 2) * 256 + 1 * j.val = 3840 + (1024 + k.val); omega
  · show win0_2.index t (0 : Fin 2) * 512 + 1 * p.val = q.val; omega
  · show win0_2.index t (1 : Fin 2) * 256 + 1 * j.val = 3840 + (2048 + k.val); omega

theorem gates_b (t : Fin cfg0.N) (j : Fin 256) (k : Fin 1024) (hk : k.val = t.val / 8 * 256 + j.val) :
    iblk m c 3 t (ix2 (0 : Fin 1) j) = V m c main_arg1 (ix2 (0 : Fin 1) (⟨k.val, by omega⟩ : Fin 3072))
      ∧ iblk m c 4 t (ix2 (0 : Fin 1) j) = V m c main_arg1 (ix2 (0 : Fin 1) (⟨1024 + k.val, by omega⟩ : Fin 3072))
      ∧ iblk m c 5 t (ix2 (0 : Fin 1) j) = V m c main_arg1 (ix2 (0 : Fin 1) (⟨2048 + k.val, by omega⟩ : Fin 3072)) := by
  obtain ⟨-, ⟨⟨a0, a1⟩, ⟨b0, b1⟩, ⟨c0, c1⟩⟩, -⟩ := gatesPlaces t
  refine ⟨congrArg (V m c main_arg1) (at2 ?_ ?_), congrArg (V m c main_arg1) (at2 ?_ ?_), congrArg (V m c main_arg1) (at2 ?_ ?_)⟩
  · show win0_3.index t (0 : Fin 2) * 1 + 1 * 0 = 0; omega
  · show win0_3.index t (1 : Fin 2) * 256 + 1 * j.val = k.val; omega
  · show win0_4.index t (0 : Fin 2) * 1 + 1 * 0 = 0; omega
  · show win0_4.index t (1 : Fin 2) * 256 + 1 * j.val = 1024 + k.val; omega
  · show win0_5.index t (0 : Fin 2) * 1 + 1 * 0 = 0; omega
  · show win0_5.index t (1 : Fin 2) * 256 + 1 * j.val = 2048 + k.val; omega

theorem gates_p (t : Fin cfg0.N) (p : Fin 512) (j : Fin 256) (q : Fin 4096) (k : Fin 1024) (hq : q.val = t.val % 8 * 512 + p.val)
    (hk : k.val = t.val / 8 * 256 + j.val) :
    iblk m c 6 t (ix2 p j) = V m c main_arg2 (ix2 q k)
      ∧ iblk m c 7 t (ix2 p j) = V m c main_arg3 (ix2 q k)
      ∧ iblk m c 8 t (ix2 p j) = V m c main_arg4 (ix2 q k) := by
  obtain ⟨-, -, ⟨⟨a0, a1⟩, ⟨b0, b1⟩, ⟨c0, c1⟩⟩, -⟩ := gatesPlaces t
  refine ⟨congrArg (V m c main_arg2) (at2 ?_ ?_), congrArg (V m c main_arg3) (at2 ?_ ?_), congrArg (V m c main_arg4) (at2 ?_ ?_)⟩
  · show win0_6.index t (0 : Fin 2) * 512 + 1 * p.val = q.val; omega
  · show win0_6.index t (1 : Fin 2) * 256 + 1 * j.val = k.val; omega
  · show win0_7.index t (0 : Fin 2) * 512 + 1 * p.val = q.val; omega
  · show win0_7.index t (1 : Fin 2) * 256 + 1 * j.val = k.val; omega
  · show win0_8.index t (0 : Fin 2) * 512 + 1 * p.val = q.val; omega
  · show win0_8.index t (1 : Fin 2) * 256 + 1 * j.val = k.val; omega

theorem gates_tile (z0 z1 z2 : Vec Ideal S512x256 .f32) (b0 b1 b2 : Vec Ideal S1x256 .f32) (x y w : Vec Ideal S512x256 .f32) (p : Fin 512) (j : Fin 256) :
    out0_9 (F := Ideal) z0 z1 z2 b0 b1 b2 x y w (ix2 p j) = gateAt (z0 (ix2 p j)) (b0 (ix2 (0 : Fin 1) j)) (x (ix2 p j))
      + gateAt (z1 (ix2 p j)) (b1 (ix2 (0 : Fin 1) j)) (y (ix2 p j)) + gateAt (z2 (ix2 p j)) (b2 (ix2 (0 : Fin 1) j)) (w (ix2 p j)) := by
  unfold out0_9 gateAt logistic unit1
  rw [View.canon_unit_zero corner]
  simp only [View.ld_unit_zero (S := S512x256) corner, View.ld_unit_zero (S := S1x256) corner]
  pointwise [k0_pay1, k0_pay2, k0_pay3, zero_sub]

theorem gates_written (t : Fin cfg0.N) : (dats m 0 c).flushed 9 t = ((cfg0.win 9).blk t).view.read (Elt Ideal)
    (gates (V m c main_arg0) (V m c main_arg1) (V m c main_arg2) (V m c main_arg3) (V m c main_arg4)) := by
  rw [flushed9]
  funext y
  obtain ⟨p, j, rfl⟩ : ∃ (p : Fin 512) (j : Fin 256), y = ix2 p j := ⟨y 0, y 1, eq_ix2 y⟩
  obtain ⟨-, -, -, ⟨e0, e1⟩⟩ := gatesPlaces t
  have ht : t.val < 32 := lt_of_lt_of_eq t.isLt (show cfg0.N = 32 from N_0)
  have here : ((cfg0.win 9).blk t).view.emb (ix2 p j) = ix2 (⟨t.val % 8 * 512 + p.val, by omega⟩ : Fin 4096) (⟨t.val / 8 * 256 + j.val, by omega⟩ : Fin 1024) :=
    at2 (show win0_9.index t (0 : Fin 2) * 512 + 1 * p.val = t.val % 8 * 512 + p.val by omega)
      (show win0_9.index t (1 : Fin 2) * 256 + 1 * j.val = t.val / 8 * 256 + j.val by omega)
  obtain ⟨z0, z1, z2⟩ := gates_z m c t p j (⟨t.val % 8 * 512 + p.val, by omega⟩ : Fin 4096) (⟨t.val / 8 * 256 + j.val, by omega⟩ : Fin 1024) rfl rfl
  obtain ⟨b0, b1, b2⟩ := gates_b m c t j (⟨t.val / 8 * 256 + j.val, by omega⟩ : Fin 1024) rfl
  obtain ⟨p0, p1, p2⟩ := gates_p m c t p j (⟨t.val % 8 * 512 + p.val, by omega⟩ : Fin 4096) (⟨t.val / 8 * 256 + j.val, by omega⟩ : Fin 1024) rfl rfl
  refine (gates_tile (iblk m c 0 t) (iblk m c 1 t) (iblk m c 2 t) (iblk m c 3 t) (iblk m c 4 t) (iblk m c 5 t) (iblk m c 6 t) (iblk m c 7 t) (iblk m c 8 t) p j).trans ?_
  rw [View.read_apply, here, z0, z1, z2, b0, b1, b2, p0, p1, p2]
  rfl

theorem gates_whole : (dats m 0 c).arrAt 9 cfg0.N = gates (V m c main_arg0) (V m c main_arg1) (V m c main_arg2) (V m c main_arg3) (V m c main_arg4) :=
  (dats m 0 c).arrAt_eq_of_cover 9 _ (fun t _ => gates_written m c t)
    (Pipeline.Window.Covers.cover _ (by decide +kernel) (Memref.isWhole_whole _))

end Gates

theorem value_gates : Cert.algebraic_GatesIdeal_GatesRefIdeal := fun m g m' g' _ hx => by
  obtain ⟨h0, h1, h2, h3, h4⟩ := hx 0
  refine ⟨_, Cert.GatesIdeal.Value.run_blocks (F := Ideal) m g, (θ_run Cert.GatesRefIdeal.defs _ _).mono (fun r h c => ?_)
    (Cert.GatesRefIdeal.Value.run (F := Ideal) m' g')⟩
  obtain ⟨e0, e⟩ := h c
  obtain rfl : c = 0 := Subsingleton.elim _ _
  refine ⟨e0.trans ?_, e⟩
  rw [h0, h1, h2, h3, h4, gates_whole]
  funext y
  obtain ⟨p, j, rfl⟩ : ∃ (p : Fin 4096) (j : Fin 1024), y = ix2 p j := ⟨y 0, y 1, eq_ix2 y⟩
  unfold gates gateAt logistic unit1
  pointwise

end Cert.Values
-- ==== Proof.GateValue.lean ====
/-
# The gates' backward pass on the reals

The kernel takes thirty-two tiles, four blocks of columns and in each the eight tiles of 512 rows. The three gates differ
in the columns they read and the product they weigh, so each fact is stated once, of the gate's number. The bias
gradients add up in blocks that stay for a block of columns, and are after its last tile the sums over all rows.
-/
module

public import Idealize.ShloMosaic.Lib.Pipeline.ValueKit.Partial
public import proofs.«01_k».proof.Defs
public import proofs.«01_k».proof.Proof.Norm
public import proofs.«01_k».proof.Proof.Product
public import proofs.«01_k».proof.Proof.ActValue
public import proofs.«01_k».proof.Proof.Gen.GatesBackIdeal.Value
public import proofs.«01_k».proof.Proof.Gen.GatesBackRefIdeal.Run

@[expose] public section

set_option maxRecDepth 16384

noncomputable section

namespace Cert.Values

open Idealize.ShloMosaic Idealize.ShloMosaic.TcCoe Idealize.SL.Sem
open Cert.Norm Cert.Product

/-- A sum taken tile by tile, from the first to the last of eight. -/
theorem added {N : Nat} (S : (n : ℕ) → n < N → EReal) (g : Fin 4096 → EReal) (s : ℕ) (first : ∀ h, S (8 * s) h = tile g 0)
    (next : ∀ k, k < 7 → ∀ h h', S (8 * s + (k + 1)) h = S (8 * s + k) h' + tile g (k + 1)) :
    ∀ k, k < 8 → ∀ h, S (8 * s + k) h = ∑ t ∈ Finset.range (k + 1), tile g t
  | 0, _, h => by rw [Finset.sum_range_one]; exact first h
  | k + 1, hk, h => by
    rw [Finset.sum_range_succ, next k (by omega) h (lt_of_le_of_lt (by omega) h)]
    exact congrArg (fun z : EReal => z + tile g (k + 1)) (added S g s first next k (by omega) _)

/-- The derivative through a gate, at a logit's two parts, the gated value and the gradient. -/
def gateSlope (z b x v : EReal) : EReal := v * x * (logistic (z + b) * (unit1 - logistic (z + b)))

/-- What gate `o` takes, and its results as formulas of whole arrays. -/
def gateZ (z : Mat 4096 6912) : Fin 3 → Fin 4096 → Fin 1024 → EReal
  | 0, q, k => z (ix2 q ⟨3840 + k.val, by omega⟩)
  | 1, q, k => z (ix2 q ⟨3840 + (1024 + k.val), by omega⟩)
  | 2, q, k => z (ix2 q ⟨3840 + (2048 + k.val), by omega⟩)
def gateB (b : Mat 1 3072) : Fin 3 → Fin 1024 → EReal
  | 0, k => b (ix2 (0 : Fin 1) ⟨k.val, by omega⟩)
  | 1, k => b (ix2 (0 : Fin 1) ⟨1024 + k.val, by omega⟩)
  | 2, k => b (ix2 (0 : Fin 1) ⟨2048 + k.val, by omega⟩)
def gateDp (o : Fin 3) (z : Mat 4096 6912) (b : Mat 1 3072) (v : Mat 4096 1024) : Mat 4096 1024 := fun i =>
  logistic (gateZ z o (i 0) (i 1) + gateB b o (i 1)) * v i
def gateDz (o : Fin 3) (z : Mat 4096 6912) (b : Mat 1 3072) (x v : Mat 4096 1024) : Mat 4096 1024 := fun i =>
  gateSlope (gateZ z o (i 0) (i 1)) (gateB b o (i 1)) (x i) (v i)
def gateDb (o : Fin 3) (z : Mat 4096 6912) (b : Mat 1 3072) (x v : Mat 4096 1024) : Mat 1 1024 := fun i =>
  ∑ q : Fin 4096, gateDz o z b x v (ix2 q (i 1))

section GatesBack

open Cert.GatesBackIdeal Cert.GatesBackIdeal.Gen Cert.GatesBackIdeal.Value

/-- What a tile's formulas say at an entry. -/
theorem gatesBack_dp (v z : Vec Ideal S512x256 .f32) (b : Vec Ideal S1x256 .f32) (p : Fin 512) (j : Fin 256) :
    k0_pay2 (F := Ideal) v z b (ix2 p j) = logistic (z (ix2 p j) + b (ix2 (0 : Fin 1) j)) * v (ix2 p j) := by
  unfold logistic unit1
  pointwise [k0_pay2, k0_pay1, zero_sub]

theorem gatesBack_dz (v z : Vec Ideal S512x256 .f32) (b : Vec Ideal S1x256 .f32) (x : Vec Ideal S512x256 .f32) (p : Fin 512) (j : Fin 256) :
    k0_pay4 (F := Ideal) v z b x (ix2 p j) = gateSlope (z (ix2 p j)) (b (ix2 (0 : Fin 1) j)) (x (ix2 p j)) (v (ix2 p j)) := by
  unfold gateSlope logistic unit1
  pointwise [k0_pay4, k0_pay3, k0_pay1, zero_sub]

theorem gatesBack_db (v z : Vec Ideal S512x256 .f32) (b : Vec Ideal S1x256 .f32) (x : Vec Ideal S512x256 .f32) (acc : Vec Ideal S1x256 .f32) (j : Fin 256) :
    k0_pay6 (F := Ideal) v z b x acc (ix2 (0 : Fin 1) j)
      = acc (ix2 (0 : Fin 1) j) + ∑ p : Fin 512, gateSlope (z (ix2 p j)) (b (ix2 (0 : Fin 1) j)) (x (ix2 p j)) (v (ix2 p j)) := by
  unfold gateSlope logistic unit1
  pointwise [k0_pay6, k0_pay3, k0_pay1, zero_sub]

theorem gatesBack_start (j : Fin 256) : k0_pay5 (F := Ideal) (ix2 (0 : Fin 1) j) = (0 : EReal) := by
  pointwise [k0_pay5]

variable (m : (ℓ : Loc nD τ sig) → Buf (Elt Ideal) ℓ) (c : Dev nD)

/-- A point's blocks of gate `o`, and the sums it leaves. -/
def dgateV (t : Fin cfg0.N) : Vec Ideal S512x256 .f32 := iblk m c 9 t
def dgateZ (t : Fin cfg0.N) : Fin 3 → Vec Ideal S512x256 .f32
  | 0 => iblk m c 0 t
  | 1 => iblk m c 1 t
  | 2 => iblk m c 2 t
def dgateB (t : Fin cfg0.N) : Fin 3 → Vec Ideal S1x256 .f32
  | 0 => iblk m c 3 t
  | 1 => iblk m c 4 t
  | 2 => iblk m c 5 t
def dgateP (t : Fin cfg0.N) : Fin 3 → Vec Ideal S512x256 .f32
  | 0 => iblk m c 6 t
  | 1 => iblk m c 7 t
  | 2 => iblk m c 8 t
def dgateLeft (n : ℕ) (h : n < cfg0.N) : Fin 3 → Vec Ideal S1x256 .f32
  | 0 => (outsAt0 m c n h).2.2.2.2.2.2.1
  | 1 => (outsAt0 m c n h).2.2.2.2.2.2.2.1
  | 2 => (outsAt0 m c n h).2.2.2.2.2.2.2.2

/-- The products the gates weigh. -/
def dgateX : Fin 3 → Mat 4096 1024
  | 0 => V m c main_arg2
  | 1 => V m c main_arg3
  | 2 => V m c main_arg4

set_option maxHeartbeats 800000 in
/-- What the first point of a block of columns leaves, and what the others leave. -/
theorem gatesBack_first (t : Fin cfg0.N) (h : t.val % 8 = 0) : outsAt0 m c t.val t.isLt =
    (k0_pay8 (iblk m c 9 t) (iblk m c 0 t) (iblk m c 3 t), k0_pay14 (iblk m c 9 t) (iblk m c 1 t) (iblk m c 4 t), k0_pay2 (iblk m c 9 t) (iblk m c 2 t) (iblk m c 5 t),
      k0_pay10 (iblk m c 9 t) (iblk m c 0 t) (iblk m c 3 t) (iblk m c 6 t), k0_pay16 (iblk m c 9 t) (iblk m c 1 t) (iblk m c 4 t) (iblk m c 7 t), k0_pay4 (iblk m c 9 t) (iblk m c 2 t) (iblk m c 5 t) (iblk m c 8 t),
      k0_pay12 (iblk m c 9 t) (iblk m c 0 t) (iblk m c 3 t) (iblk m c 6 t) (k0_pay11 (F := Ideal)), k0_pay18 (iblk m c 9 t) (iblk m c 1 t) (iblk m c 4 t) (iblk m c 7 t) (k0_pay17 (F := Ideal)), k0_pay6 (iblk m c 9 t) (iblk m c 2 t) (iblk m c 5 t) (iblk m c 8 t) (k0_pay5 (F := Ideal))) := by
  rw [outsAt0_A m c t h h h]
  refine Prod.ext ?_ (Prod.ext ?_ (Prod.ext ?_ (Prod.ext ?_ (Prod.ext ?_ (Prod.ext ?_ (Prod.ext ?_ (Prod.ext ?_ ?_)))))))
  all_goals dsimp only
  on_goal 1 => (unfold out0_A_10; rw [View.read_writes_eq_canon _ _ _ (fun y => cover0_A_10 (y := y) ..)])
  on_goal 2 => (unfold out0_A_11; rw [View.read_writes_eq_canon _ _ _ (fun y => cover0_A_11 (y := y) ..)])
  on_goal 3 => (unfold out0_A_12; rw [View.read_writes_eq_canon _ _ _ (fun y => cover0_A_12 (y := y) ..)])
  on_goal 4 => (unfold out0_A_13; rw [View.read_writes_eq_canon _ _ _ (fun y => cover0_A_13 (y := y) ..)])
  on_goal 5 => (unfold out0_A_14; rw [View.read_writes_eq_canon _ _ _ (fun y => cover0_A_14 (y := y) ..)])
  on_goal 6 => (unfold out0_A_15; rw [View.read_writes_eq_canon _ _ _ (fun y => cover0_A_15 (y := y) ..)])
  on_goal 7 => (unfold out0_A_16; rw [View.read_writes_eq_canon _ _ _ (fun y => cover0_A_16 (y := y) ..)])
  on_goal 8 => (unfold out0_A_17; rw [View.read_writes_eq_canon _ _ _ (fun y => cover0_A_17 (y := y) ..)])
  on_goal 9 => (unfold out0_A_18; rw [View.read_writes_eq_canon _ _ _ (fun y => cover0_A_18 (y := y) ..)])
  all_goals
    unfold kernelRun0_A
    dsimp only
    sl_unfold_words
    first | rw [View.canon_unit_zero corner] | rw [View.canon_cons_unit_zero (S := S1x256) corner, View.readCov_unit_zero (S := S1x256) _ corner]
    simp only [View.readAt_eq_ld, View.ld_unit_zero (S := S512x256) corner, View.ld_unit_zero (S := S1x256) corner, shapeCast_self,
      (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

set_option maxHeartbeats 800000 in
theorem gatesBack_later (t : Fin cfg0.N) (h : ¬t.val % 8 = 0) : outsAt0 m c t.val t.isLt =
    (k0_pay8 (iblk m c 9 t) (iblk m c 0 t) (iblk m c 3 t), k0_pay14 (iblk m c 9 t) (iblk m c 1 t) (iblk m c 4 t), k0_pay2 (iblk m c 9 t) (iblk m c 2 t) (iblk m c 5 t),
      k0_pay10 (iblk m c 9 t) (iblk m c 0 t) (iblk m c 3 t) (iblk m c 6 t), k0_pay16 (iblk m c 9 t) (iblk m c 1 t) (iblk m c 4 t) (iblk m c 7 t), k0_pay4 (iblk m c 9 t) (iblk m c 2 t) (iblk m c 5 t) (iblk m c 8 t),
      k0_pay12 (iblk m c 9 t) (iblk m c 0 t) (iblk m c 3 t) (iblk m c 6 t) (outsAt0 m c (t.val - 1) (Nat.lt_of_le_of_lt (Nat.sub_le _ _) t.isLt)).2.2.2.2.2.2.1, k0_pay18 (iblk m c 9 t) (iblk m c 1 t) (iblk m c 4 t) (iblk m c 7 t) (outsAt0 m c (t.val - 1) (Nat.lt_of_le_of_lt (Nat.sub_le _ _) t.isLt)).2.2.2.2.2.2.2.1, k0_pay6 (iblk m c 9 t) (iblk m c 2 t) (iblk m c 5 t) (iblk m c 8 t) (outsAt0 m c (t.val - 1) (Nat.lt_of_le_of_lt (Nat.sub_le _ _) t.isLt)).2.2.2.2.2.2.2.2) := by
  rw [outsAt0_B m c t h h h]
  refine Prod.ext ?_ (Prod.ext ?_ (Prod.ext ?_ (Prod.ext ?_ (Prod.ext ?_ (Prod.ext ?_ (Prod.ext ?_ (Prod.ext ?_ ?_)))))))
  all_goals dsimp only
  on_goal 1 => (unfold out0_B_10; rw [View.read_writes_eq_canon _ _ _ (fun y => cover0_B_10 (y := y) ..)])
  on_goal 2 => (unfold out0_B_11; rw [View.read_writes_eq_canon _ _ _ (fun y => cover0_B_11 (y := y) ..)])
  on_goal 3 => (unfold out0_B_12; rw [View.read_writes_eq_canon _ _ _ (fun y => cover0_B_12 (y := y) ..)])
  on_goal 4 => (unfold out0_B_13; rw [View.read_writes_eq_canon _ _ _ (fun y => cover0_B_13 (y := y) ..)])
  on_goal 5 => (unfold out0_B_14; rw [View.read_writes_eq_canon _ _ _ (fun y => cover0_B_14 (y := y) ..)])
  on_goal 6 => (unfold out0_B_15; rw [View.read_writes_eq_canon _ _ _ (fun y => cover0_B_15 (y := y) ..)])
  on_goal 7 => (unfold out0_B_16; rw [View.read_writes_eq_canon _ _ _ (fun y => cover0_B_16 (y := y) ..)])
  on_goal 8 => (unfold out0_B_17; rw [View.read_writes_eq_canon _ _ _ (fun y => cover0_B_17 (y := y) ..)])
  on_goal 9 => (unfold out0_B_18; rw [View.read_writes_eq_canon _ _ _ (fun y => cover0_B_18 (y := y) ..)])
  all_goals
    unfold kernelRun0_B
    dsimp only
    sl_unfold_words
    first | rw [View.canon_unit_zero corner]
    simp only [View.readAt_eq_ld, View.ld_unit_zero (S := S512x256) corner, View.ld_unit_zero (S := S1x256) corner, shapeCast_self,
      (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_16 t).read_unread, (hs0_17 t).read_unread, (hs0_18 t).read_unread]

/-- Where a point reads and writes. -/
theorem dgatePlaces : ∀ t : Fin cfg0.N, (win0_0.index t (0 : Fin 2) = t.val % 8 ∧ win0_0.index t (1 : Fin 2) = 15 + t.val / 8)
    ∧ (win0_1.index t (0 : Fin 2) = t.val % 8 ∧ win0_1.index t (1 : Fin 2) = 19 + t.val / 8)
    ∧ (win0_2.index t (0 : Fin 2) = t.val % 8 ∧ win0_2.index t (1 : Fin 2) = 23 + t.val / 8)
    ∧ (win0_3.index t (0 : Fin 2) = 0 ∧ win0_3.index t (1 : Fin 2) = t.val / 8)
    ∧ (win0_4.index t (0 : Fin 2) = 0 ∧ win0_4.index t (1 : Fin 2) = 4 + t.val / 8)
    ∧ (win0_5.index t (0 : Fin 2) = 0 ∧ win0_5.index t (1 : Fin 2) = 8 + t.val / 8)
    ∧ (win0_10.index t (0 : Fin 2) = t.val % 8 ∧ win0_10.index t (1 : Fin 2) = t.val / 8)
    ∧ (win0_16.index t (0 : Fin 2) = 0 ∧ win0_16.index t (1 : Fin 2) = t.val / 8) :=
  (by decide +kernel : ∀ t : Fin grid0.N, _)

theorem dgate_lt (t : Fin cfg0.N) : t.val < 32 := lt_of_lt_of_eq t.isLt (show cfg0.N = 32 from N_0)

/-- A tile's row and column, in the whole arrays. -/
def dgateRow (t : Fin cfg0.N) (p : Fin 512) : Fin 4096 := place (t.val % 8) (Nat.mod_lt _ (by omega)) p
def dgateCol (t : Fin cfg0.N) (j : Fin 256) : Fin 1024 := ⟨t.val / 8 * 256 + j.val, by have := dgate_lt t; omega⟩

theorem dgate_spot (t : Fin cfg0.N) {p : Fin 512} {j : Fin 256} {i : (⟨2, ![4096, 1024]⟩ : Shape).Idx} (h0 : (i 0).val = win0_10.index t (0 : Fin 2) * 512 + 1 * p.val)
    (h1 : (i 1).val = win0_10.index t (1 : Fin 2) * 256 + 1 * j.val) : i = ix2 (dgateRow t p) (dgateCol t j) := by
  obtain ⟨-, -, -, -, -, -, ⟨a0, a1⟩, -⟩ := dgatePlaces t
  exact at2 (h0.trans (show _ = t.val % 8 * 512 + p.val by omega)) (h1.trans (show _ = t.val / 8 * 256 + j.val by omega))

theorem dgate_spot1 (t : Fin cfg0.N) {j : Fin 256} {i : (⟨2, ![1, 1024]⟩ : Shape).Idx} (h1 : (i 1).val = win0_16.index t (1 : Fin 2) * 256 + 1 * j.val) :
    i = ix2 (0 : Fin 1) (dgateCol t j) := by
  obtain ⟨-, -, -, -, -, -, -, ⟨a0, a1⟩⟩ := dgatePlaces t
  exact at2 (Nat.lt_one_iff.mp (i 0).isLt) (h1.trans (show _ = t.val / 8 * 256 + j.val by omega))

/-- A tile's blocks, in the arrays they are cut from. -/
theorem dgate_v (t : Fin cfg0.N) (p : Fin 512) (j : Fin 256) : dgateV m c t (ix2 p j) = V m c main_arg5 (ix2 (dgateRow t p) (dgateCol t j)) :=
  congrArg (V m c main_arg5) (dgate_spot t rfl rfl)

theorem dgate_z (t : Fin cfg0.N) (p : Fin 512) (j : Fin 256) (k : Fin 1024) (hk : k.val = t.val / 8 * 256 + j.val) :
    ∀ o : Fin 3, dgateZ m c t o (ix2 p j) = gateZ (V m c main_arg0) o (dgateRow t p) k
  | 0 => by
    obtain ⟨⟨a0, a1⟩, -⟩ := dgatePlaces t
    exact congrArg (V m c main_arg0) (at2 (show win0_0.index t (0 : Fin 2) * 512 + 1 * p.val = t.val % 8 * 512 + p.val by omega)
      (show win0_0.index t (1 : Fin 2) * 256 + 1 * j.val = 3840 + k.val by omega))
  | 1 => by
    obtain ⟨-, ⟨a0, a1⟩, -⟩ := dgatePlaces t
    exact congrArg (V m c main_arg0) (at2 (show win0_1.index t (0 : Fin 2) * 512 + 1 * p.val = t.val % 8 * 512 + p.val by omega)
      (show win0_1.index t (1 : Fin 2) * 256 + 1 * j.val = 3840 + (1024 + k.val) by omega))
  | 2 => by
    obtain ⟨-, -, ⟨a0, a1⟩, -⟩ := dgatePlaces t
    exact congrArg (V m c main_arg0) (at2 (show win0_2.index t (0 : Fin 2) * 512 + 1 * p.val = t.val % 8 * 512 + p.val by omega)
      (show win0_2.index t (1 : Fin 2) * 256 + 1 * j.val = 3840 + (2048 + k.val) by omega))

theorem dgate_b (t : Fin cfg0.N) (j : Fin 256) (k : Fin 1024) (hk : k.val = t.val / 8 * 256 + j.val) :
    ∀ o : Fin 3, dgateB m c t o (ix2 (0 : Fin 1) j) = gateB (V m c main_arg1) o k
  | 0 => by
    obtain ⟨-, -, -, ⟨a0, a1⟩, -⟩ := dgatePlaces t
    exact congrArg (V m c main_arg1) (at2 (show win0_3.index t (0 : Fin 2) * 1 + 1 * 0 = 0 by omega)
      (show win0_3.index t (1 : Fin 2) * 256 + 1 * j.val = k.val by omega))
  | 1 => by
    obtain ⟨-, -, -, -, ⟨a0, a1⟩, -⟩ := dgatePlaces t
    exact congrArg (V m c main_arg1) (at2 (show win0_4.index t (0 : Fin 2) * 1 + 1 * 0 = 0 by omega)
      (show win0_4.index t (1 : Fin 2) * 256 + 1 * j.val = 1024 + k.val by omega))
  | 2 => by
    obtain ⟨-, -, -, -, -, ⟨a0, a1⟩, -⟩ := dgatePlaces t
    exact congrArg (V m c main_arg1) (at2 (show win0_5.index t (0 : Fin 2) * 1 + 1 * 0 = 0 by omega)
      (show win0_5.index t (1 : Fin 2) * 256 + 1 * j.val = 2048 + k.val by omega))

theorem dgate_p (t : Fin cfg0.N) (p : Fin 512) (j : Fin 256) : ∀ o : Fin 3, dgateP m c t o (ix2 p j) = dgateX m c o (ix2 (dgateRow t p) (dgateCol t j))
  | 0 => congrArg (V m c main_arg2) (dgate_spot t rfl rfl)
  | 1 => congrArg (V m c main_arg3) (dgate_spot t rfl rfl)
  | 2 => congrArg (V m c main_arg4) (dgate_spot t rfl rfl)

/-- The formulas of this call's arrays. -/
def dgateDp (o : Fin 3) : Mat 4096 1024 := gateDp o (V m c main_arg0) (V m c main_arg1) (V m c main_arg5)
def dgateDz (o : Fin 3) : Mat 4096 1024 := gateDz o (V m c main_arg0) (V m c main_arg1) (dgateX m c o) (V m c main_arg5)
def dgateDb (o : Fin 3) : Mat 1 1024 := gateDb o (V m c main_arg0) (V m c main_arg1) (dgateX m c o) (V m c main_arg5)

/-- A tile of the products' gradients, and of the logits'. -/
theorem dgate_dp (t : Fin cfg0.N) (o : Fin 3) (p : Fin 512) (j : Fin 256) : k0_pay2 (F := Ideal) (dgateV m c t) (dgateZ m c t o) (dgateB m c t o) (ix2 p j)
    = dgateDp m c o (ix2 (dgateRow t p) (dgateCol t j)) := by
  rw [gatesBack_dp, dgate_v, dgate_z m c t p j (dgateCol t j) rfl, dgate_b m c t j (dgateCol t j) rfl]
  rfl

theorem dgate_dz (t : Fin cfg0.N) (o : Fin 3) (p : Fin 512) (j : Fin 256) :
    k0_pay4 (F := Ideal) (dgateV m c t) (dgateZ m c t o) (dgateB m c t o) (dgateP m c t o) (ix2 p j)
      = dgateDz m c o (ix2 (dgateRow t p) (dgateCol t j)) := by
  rw [gatesBack_dz, dgate_v, dgate_z m c t p j (dgateCol t j) rfl, dgate_b m c t j (dgateCol t j) rfl, dgate_p]
  rfl

/-- A tile's addition to the biases' gradients. -/
theorem dgate_db (t : Fin cfg0.N) (o : Fin 3) (acc : Vec Ideal S1x256 .f32) (j : Fin 256) :
    k0_pay6 (F := Ideal) (dgateV m c t) (dgateZ m c t o) (dgateB m c t o) (dgateP m c t o) acc (ix2 (0 : Fin 1) j) = acc (ix2 (0 : Fin 1) j)
      + tile (fun q => dgateDz m c o (ix2 q (dgateCol t j))) (t.val % 8) := by
  rw [gatesBack_db, tile_of (Nat.mod_lt _ (by omega))]
  refine congrArg (fun z : EReal => acc (ix2 (0 : Fin 1) j) + z) (Finset.sum_congr rfl fun p _ => ?_)
  rw [dgate_v, dgate_z m c t p j (dgateCol t j) rfl, dgate_b m c t j (dgateCol t j) rfl, dgate_p]
  rfl

theorem dgate_left_first (t : Fin cfg0.N) (h : t.val % 8 = 0) : ∀ o : Fin 3, dgateLeft m c t.val t.isLt o
    = k0_pay6 (F := Ideal) (dgateV m c t) (dgateZ m c t o) (dgateB m c t o) (dgateP m c t o) (k0_pay5 (F := Ideal))
  | 0 => by dsimp only [dgateLeft, dgateV, dgateZ, dgateB, dgateP]; rw [gatesBack_first m c t h]; rfl
  | 1 => by dsimp only [dgateLeft, dgateV, dgateZ, dgateB, dgateP]; rw [gatesBack_first m c t h]; rfl
  | 2 => by dsimp only [dgateLeft, dgateV, dgateZ, dgateB, dgateP]; rw [gatesBack_first m c t h]

theorem dgate_left_later (t : Fin cfg0.N) (h : ¬t.val % 8 = 0) : ∀ o : Fin 3, dgateLeft m c t.val t.isLt o
    = k0_pay6 (F := Ideal) (dgateV m c t) (dgateZ m c t o) (dgateB m c t o) (dgateP m c t o) (dgateLeft m c (t.val - 1) (Nat.lt_of_le_of_lt (Nat.sub_le _ _) t.isLt) o)
  | 0 => by dsimp only [dgateLeft, dgateV, dgateZ, dgateB, dgateP]; rw [gatesBack_later m c t h]; rfl
  | 1 => by dsimp only [dgateLeft, dgateV, dgateZ, dgateB, dgateP]; rw [gatesBack_later m c t h]; rfl
  | 2 => by dsimp only [dgateLeft, dgateV, dgateZ, dgateB, dgateP]; rw [gatesBack_later m c t h]

theorem dgate_at {n n' : ℕ} (hn : n < cfg0.N) (hn' : n' < cfg0.N) (e : n = n') (o : Fin 3) (j : Fin 256) :
    dgateLeft m c n hn o (ix2 (0 : Fin 1) j) = dgateLeft m c n' hn' o (ix2 (0 : Fin 1) j) := by
  subst e
  rfl

/-- The biases' gradients after a block of columns' last tile. -/
theorem dgate_sum (t : Fin cfg0.N) (h : t.val % 8 = 7) (o : Fin 3) (j : Fin 256) : dgateLeft m c t.val t.isLt o (ix2 (0 : Fin 1) j)
    = dgateDb m c o (ix2 (0 : Fin 1) (dgateCol t j)) := by
  have ht := dgate_lt t
  have hN : cfg0.N = 32 := N_0
  have col (u : Fin cfg0.N) (hu : u.val / 8 = t.val / 8) : dgateCol u j = dgateCol t j :=
    Fin.ext (show u.val / 8 * 256 + j.val = t.val / 8 * 256 + j.val by rw [hu])
  refine (dgate_at m c _ (by omega) (show t.val = 8 * (t.val / 8) + 7 by omega) o j).trans ((added (fun n h => dgateLeft m c n h o (ix2 (0 : Fin 1) j))
    (fun q => dgateDz m c o (ix2 q (dgateCol t j))) (t.val / 8)
    (fun h => ?_) (fun k hk h h' => ?_) 7 (by omega) _).trans (sum_tiles _))
  · have hm : (⟨8 * (t.val / 8), h⟩ : Fin cfg0.N).val % 8 = 0 := by dsimp only; omega
    refine (congrFun (dgate_left_first m c ⟨8 * (t.val / 8), h⟩ hm o) _).trans ?_
    rw [dgate_db, gatesBack_start, zero_add, hm, col _ (by dsimp only; omega)]
  · have hm : (⟨8 * (t.val / 8) + (k + 1), h⟩ : Fin cfg0.N).val % 8 = k + 1 := by dsimp only; omega
    refine (congrFun (dgate_left_later m c ⟨8 * (t.val / 8) + (k + 1), h⟩ (by omega) o) _).trans ?_
    rw [dgate_db, hm, col _ (by dsimp only; omega)]
    exact congrArg (fun z : EReal => z + tile _ (k + 1)) (dgate_at m c _ h' (by dsimp only; omega) o j)

/-- What any point leaves of the results written tile by tile. -/
theorem dgate_tiles (t : Fin cfg0.N) : ∃ r, outsAt0 m c t.val t.isLt =
    (k0_pay2 (dgateV m c t) (dgateZ m c t 0) (dgateB m c t 0), k0_pay2 (dgateV m c t) (dgateZ m c t 1) (dgateB m c t 1), k0_pay2 (dgateV m c t) (dgateZ m c t 2) (dgateB m c t 2),
      k0_pay4 (dgateV m c t) (dgateZ m c t 0) (dgateB m c t 0) (dgateP m c t 0), k0_pay4 (dgateV m c t) (dgateZ m c t 1) (dgateB m c t 1) (dgateP m c t 1),
      k0_pay4 (dgateV m c t) (dgateZ m c t 2) (dgateB m c t 2) (dgateP m c t 2), r) := by
  by_cases h : t.val % 8 = 0
  · exact ⟨_, gatesBack_first m c t h⟩
  · exact ⟨_, gatesBack_later m c t h⟩

/-- The whole arrays. -/
theorem dgate_whole : ((dats m 0 c).arrAt 10 cfg0.N = dgateDp m c 0 ∧ (dats m 0 c).arrAt 11 cfg0.N = dgateDp m c 1 ∧ (dats m 0 c).arrAt 12 cfg0.N = dgateDp m c 2)
    ∧ ((dats m 0 c).arrAt 13 cfg0.N = dgateDz m c 0 ∧ (dats m 0 c).arrAt 14 cfg0.N = dgateDz m c 1 ∧ (dats m 0 c).arrAt 15 cfg0.N = dgateDz m c 2)
    ∧ ((dats m 0 c).arrAt 16 cfg0.N = dgateDb m c 0 ∧ (dats m 0 c).arrAt 17 cfg0.N = dgateDb m c 1 ∧ (dats m 0 c).arrAt 18 cfg0.N = dgateDb m c 2) := by
  refine ⟨⟨?_, ?_, ?_⟩, ⟨?_, ?_, ?_⟩, ?_, ?_, ?_⟩
  all_goals refine (dats m 0 c).arrAt_eq_of_cover _ _ (fun t hf => ?_) (Pipeline.Window.Covers.cover _ (by decide +kernel) (Memref.isWhole_whole _))
  all_goals obtain ⟨r, hr⟩ := dgate_tiles m c t
  all_goals first | rw [flushed10, hr] | rw [flushed11, hr] | rw [flushed12, hr] | rw [flushed13, hr] | rw [flushed14, hr] | rw [flushed15, hr] | rw [flushed16] | rw [flushed17] | rw [flushed18]
  all_goals funext y
  iterate 3
    obtain ⟨p, j, rfl⟩ : ∃ (p : Fin 512) (j : Fin 256), y = ix2 p j := ⟨y 0, y 1, eq_ix2 y⟩
    exact (dgate_dp m c t _ p j).trans (congrArg (dgateDp m c _) (dgate_spot t rfl rfl)).symm
  iterate 3
    obtain ⟨p, j, rfl⟩ : ∃ (p : Fin 512) (j : Fin 256), y = ix2 p j := ⟨y 0, y 1, eq_ix2 y⟩
    exact (dgate_dz m c t _ p j).trans (congrArg (dgateDz m c _) (dgate_spot t rfl rfl)).symm
  all_goals
    obtain ⟨p, j, rfl⟩ : ∃ (p : Fin 1) (j : Fin 256), y = ix2 p j := ⟨y 0, y 1, eq_ix2 y⟩
    obtain rfl : p = 0 := Subsingleton.elim _ _
    have h7 : t.val % 8 = 7 := by first | exact (flush0_16 t).mp hf | exact (flush0_17 t).mp hf | exact (flush0_18 t).mp hf
    rw [View.read_apply]
  on_goal 1 => refine (dgate_sum m c t h7 0 j).trans ?_
  on_goal 2 => refine (dgate_sum m c t h7 1 j).trans ?_
  on_goal 3 => refine (dgate_sum m c t h7 2 j).trans ?_
  all_goals exact congrArg (dgateDb m c _) (dgate_spot1 (j := j) t (by rfl)).symm

end GatesBack

/-- An index is its two coordinates. -/
theorem dgate_split {n k : Nat} (y : (⟨2, ![n, k]⟩ : Shape).Idx) : ∃ (p : Fin n) (j : Fin k), y = ix2 p j := ⟨y 0, y 1, eq_ix2 y⟩

/-- The nine results are the derivative of the three gates. -/
theorem value_gatesBack : Cert.algebraic_GatesBackIdeal_GatesBackRefIdeal := fun m g m' g' _ hx => by
  obtain ⟨h0, h1, h2, h3, h4, h5⟩ := hx 0
  refine ⟨_, _, _, _, _, _, _, _, _, Cert.GatesBackIdeal.Value.run_blocks (F := Ideal) m g, (θ_run Cert.GatesBackRefIdeal.defs _ _).mono (fun r h c => ?_)
    (Cert.GatesBackRefIdeal.Value.run (F := Ideal) m' g')⟩
  obtain ⟨e0, e1, e2, e3, e4, e5, e6, e7, e8, e⟩ := h c
  obtain rfl : c = 0 := Subsingleton.elim _ _
  obtain ⟨⟨w0, w1, w2⟩, ⟨w3, w4, w5⟩, ⟨w6, w7, w8⟩⟩ := dgate_whole m 0
  refine ⟨e0.trans (Eq.trans ?_ w0.symm), e1.trans (Eq.trans ?_ w1.symm), e2.trans (Eq.trans ?_ w2.symm), e3.trans (Eq.trans ?_ w3.symm), e4.trans (Eq.trans ?_ w4.symm), e5.trans (Eq.trans ?_ w5.symm), e6.trans (Eq.trans ?_ w6.symm), e7.trans (Eq.trans ?_ w7.symm), e8.trans (Eq.trans ?_ w8.symm), e⟩
  all_goals first | rw [h0, h1, h2, h5] | rw [h0, h1, h3, h5] | rw [h0, h1, h4, h5] | rw [h0, h1, h5]
  all_goals
    funext y
    obtain ⟨p, j, rfl⟩ := dgate_split y
    first | unfold dgateDp gateDp | unfold dgateDz gateDz gateSlope | unfold dgateDb gateDb gateDz gateSlope
    try unfold dgateX
    unfold gateZ gateB logistic unit1
    pointwise

end Cert.Values
-- ==== Proof.WidenValue.lean ====
/-
# The products of the feed-forward block

The calls `gu`, `down` and `dact`: one block of the product per grid point, with the residual added or the scale applied
before the block is written.
-/
module

public import Idealize.ShloMosaic.Lib.Pipeline.ValueKit.Partial
public import proofs.«01_k».proof.Defs
public import proofs.«01_k».proof.Proof.Product
public import proofs.«01_k».proof.Proof.Gen.WidenIdeal.Value
public import proofs.«01_k».proof.Proof.Gen.WidenRefIdeal.Run
public import proofs.«01_k».proof.Proof.Gen.DownIdeal.Value
public import proofs.«01_k».proof.Proof.Gen.DownRefIdeal.Run
public import proofs.«01_k».proof.Proof.Gen.DactIdeal.Value
public import proofs.«01_k».proof.Proof.Gen.DactRefIdeal.Run

@[expose] public section

set_option maxRecDepth 16384

noncomputable section

namespace Cert.Values

open Idealize.ShloMosaic Idealize.ShloMosaic.TcCoe Idealize.SL.Sem
open Cert.Product

def widen (a : Mat 4096 1024) (b : Mat 16896 1024) : Mat 4096 5632 := fun i => byRow a b (i 0) ⟨(i 1).val, lt_of_lt_of_le (show (i 1).val < 5632 by have : (i 1).val < 5632 := (i 1).isLt; omega) (by decide)⟩

section Widen

open Cert.WidenIdeal Cert.WidenIdeal.Gen Cert.WidenIdeal.Value

variable (m : (ℓ : Loc nD τ sig) → Buf (Elt Ideal) ℓ) (c : Dev nD)

theorem widenPlaces : ∀ t : Fin cfg0.N, (win0_0.index t (0 : Fin 2) = t.val % 8 ∧ win0_0.index t (1 : Fin 2) = 0) ∧ (win0_1.index t (0 : Fin 2) = t.val / 8 ∧ win0_1.index t (1 : Fin 2) = 0)
    ∧ (win0_2.index t (0 : Fin 2) = t.val % 8 ∧ win0_2.index t (1 : Fin 2) = t.val / 8) :=
  (by decide +kernel : ∀ t : Fin grid0.N, _)

theorem widen_left (t : Fin cfg0.N) (p : Fin 512) (k : Fin 1024) (q : Fin 4096) (l : Fin 1024) (hq : q.val = t.val % 8 * 512 + p.val) (hl : l.val = k.val) :
    iblk m c 0 t (ix2 p k) = V m c main_arg0 (ix2 q l) := by
  obtain ⟨⟨e0, e1⟩, -⟩ := widenPlaces t
  exact congrArg (V m c main_arg0) (at2 (show win0_0.index t (0 : Fin 2) * 512 + 1 * p.val = q.val by omega)
    (show win0_0.index t (1 : Fin 2) * 1024 + 1 * k.val = l.val by omega))

theorem widen_right (t : Fin cfg0.N) (p : Fin 1408) (k : Fin 1024) (q : Fin 16896) (l : Fin 1024) (hq : q.val = t.val / 8 * 1408 + p.val) (hl : l.val = k.val) :
    iblk m c 1 t (ix2 p k) = V m c main_arg1 (ix2 q l) := by
  obtain ⟨-, ⟨e0, e1⟩, -⟩ := widenPlaces t
  exact congrArg (V m c main_arg1) (at2 (show win0_1.index t (0 : Fin 2) * 1408 + 1 * p.val = q.val by omega)
    (show win0_1.index t (1 : Fin 2) * 1024 + 1 * k.val = l.val by omega))

theorem widen_tile (x : Vec Ideal S512x1024 .bf16) (w : Vec Ideal S1408x1024 .bf16) (p : Fin 512) (j : Fin 1408) :
    out0_2 (F := Ideal) x w (ix2 p j) = ∑ k : Fin 1024, x (ix2 p k) * w (ix2 j k) := by
  unfold out0_2
  rw [View.canon_unit_zero corner]
  simp only [View.ld_unit_zero (S := S512x1024) corner, View.ld_unit_zero (S := S1408x1024) corner]
  pointwise [k0_pay1]

theorem widen_written (t : Fin cfg0.N) : (dats m 0 c).flushed 2 t = ((cfg0.win 2).blk t).view.read (Elt Ideal) (widen (V m c main_arg0) (V m c main_arg1)) := by
  rw [flushed2]
  funext y
  obtain ⟨p, j, rfl⟩ : ∃ (p : Fin 512) (j : Fin 1408), y = ix2 p j := ⟨y 0, y 1, eq_ix2 y⟩
  obtain ⟨-, -, ⟨e0, e1⟩⟩ := widenPlaces t
  have ht : t.val < 32 := lt_of_lt_of_eq t.isLt (show cfg0.N = 32 from N_0)
  have here : ((cfg0.win 2).blk t).view.emb (ix2 p j) = ix2 (⟨t.val % 8 * 512 + p.val, by omega⟩ : Fin 4096) (⟨t.val / 8 * 1408 + j.val, by omega⟩ : Fin 5632) :=
    at2 (show win0_2.index t (0 : Fin 2) * 512 + 1 * p.val = t.val % 8 * 512 + p.val by omega)
      (show win0_2.index t (1 : Fin 2) * 1408 + 1 * j.val = t.val / 8 * 1408 + j.val by omega)
  refine (widen_tile (iblk m c 0 t) (iblk m c 1 t) p j).trans ?_
  rw [View.read_apply, here]
  exact Finset.sum_congr rfl fun k _ => congrArg₂ (fun a b : EReal => a * b) (widen_left m c t p k ⟨t.val % 8 * 512 + p.val, by omega⟩ k rfl rfl) (widen_right m c t j k ⟨(t.val / 8 * 1408 + j.val), by omega⟩ k rfl rfl)

theorem widen_whole : (dats m 0 c).arrAt 2 cfg0.N = widen (V m c main_arg0) (V m c main_arg1) :=
  (dats m 0 c).arrAt_eq_of_cover 2 _ (fun t _ => widen_written m c t)
    (Pipeline.Window.Covers.cover _ (by decide +kernel) (Memref.isWhole_whole _))

end Widen

theorem value_widen : Cert.algebraic_WidenIdeal_WidenRefIdeal := fun m g m' g' _ hx => by
  obtain ⟨h0, h1⟩ := hx 0
  refine ⟨_, Cert.WidenIdeal.Value.run_blocks (F := Ideal) m g, (θ_run Cert.WidenRefIdeal.defs _ _).mono (fun r h c => ?_)
    (Cert.WidenRefIdeal.Value.run (F := Ideal) m' g')⟩
  obtain ⟨e0, e⟩ := h c
  obtain rfl : c = 0 := Subsingleton.elim _ _
  refine ⟨e0.trans ?_, e⟩
  rw [h0, h1, widen_whole]
  funext y
  obtain ⟨p, j, rfl⟩ : ∃ (p : Fin 4096) (j : Fin 5632), y = ix2 p j := ⟨y 0, y 1, eq_ix2 y⟩
  unfold widen byRow
  pointwise

def down (a : Mat 4096 2816) (b : Mat 16896 1024) (x : Mat 4096 1024) : Mat 4096 1024 := fun i => x i + (∑ k : Fin 2816, a (ix2 (i 0) k) * b (ix2 (⟨5632 + k.val, by omega⟩ : Fin 16896) (i 1))) * half

section Down

open Cert.DownIdeal Cert.DownIdeal.Gen Cert.DownIdeal.Value

variable (m : (ℓ : Loc nD τ sig) → Buf (Elt Ideal) ℓ) (c : Dev nD)

theorem downPlaces : ∀ t : Fin cfg0.N, (win0_0.index t (0 : Fin 2) = t.val % 8 ∧ win0_0.index t (1 : Fin 2) = 0) ∧ (win0_1.index t (0 : Fin 2) = 2 ∧ win0_1.index t (1 : Fin 2) = t.val / 8)
    ∧ (win0_2.index t (0 : Fin 2) = t.val % 8 ∧ win0_2.index t (1 : Fin 2) = t.val / 8)
    ∧ (win0_3.index t (0 : Fin 2) = t.val % 8 ∧ win0_3.index t (1 : Fin 2) = t.val / 8) :=
  (by decide +kernel : ∀ t : Fin grid0.N, _)

theorem down_left (t : Fin cfg0.N) (p : Fin 512) (k : Fin 2816) (q : Fin 4096) (l : Fin 2816) (hq : q.val = t.val % 8 * 512 + p.val) (hl : l.val = k.val) :
    iblk m c 0 t (ix2 p k) = V m c main_arg0 (ix2 q l) := by
  obtain ⟨⟨e0, e1⟩, -⟩ := downPlaces t
  exact congrArg (V m c main_arg0) (at2 (show win0_0.index t (0 : Fin 2) * 512 + 1 * p.val = q.val by omega)
    (show win0_0.index t (1 : Fin 2) * 2816 + 1 * k.val = l.val by omega))

theorem down_right (t : Fin cfg0.N) (p : Fin 2816) (k : Fin 512) (q : Fin 16896) (l : Fin 1024) (hq : q.val = 5632 + p.val) (hl : l.val = t.val / 8 * 512 + k.val) :
    iblk m c 1 t (ix2 p k) = V m c main_arg1 (ix2 q l) := by
  obtain ⟨-, ⟨e0, e1⟩, -⟩ := downPlaces t
  exact congrArg (V m c main_arg1) (at2 (show win0_1.index t (0 : Fin 2) * 2816 + 1 * p.val = q.val by omega)
    (show win0_1.index t (1 : Fin 2) * 512 + 1 * k.val = l.val by omega))

theorem down_onto (t : Fin cfg0.N) (p : Fin 512) (k : Fin 512) (q : Fin 4096) (l : Fin 1024) (hq : q.val = t.val % 8 * 512 + p.val) (hl : l.val = t.val / 8 * 512 + k.val) :
    iblk m c 2 t (ix2 p k) = V m c main_arg2 (ix2 q l) := by
  obtain ⟨-, -, ⟨e0, e1⟩, -⟩ := downPlaces t
  exact congrArg (V m c main_arg2) (at2 (show win0_2.index t (0 : Fin 2) * 512 + 1 * p.val = q.val by omega)
    (show win0_2.index t (1 : Fin 2) * 512 + 1 * k.val = l.val by omega))

theorem down_tile (x : Vec Ideal S512x2816 .bf16) (w : Vec Ideal S2816x512 .bf16) (r : Vec Ideal S512x512 .f32) (p : Fin 512) (j : Fin 512) :
    out0_3 (F := Ideal) x w r (ix2 p j) = r (ix2 p j) + (∑ k : Fin 2816, x (ix2 p k) * w (ix2 k j)) * half := by
  unfold out0_3
  rw [View.canon_unit_zero corner]
  simp only [View.ld_unit_zero (S := S512x2816) corner, View.ld_unit_zero (S := S2816x512) corner, View.ld_unit_zero (S := S512x512) corner]
  pointwise [k0_pay1]
  rfl

theorem down_written (t : Fin cfg0.N) : (dats m 0 c).flushed 3 t = ((cfg0.win 3).blk t).view.read (Elt Ideal) (down (V m c main_arg0) (V m c main_arg1) (V m c main_arg2)) := by
  rw [flushed3]
  funext y
  obtain ⟨p, j, rfl⟩ : ∃ (p : Fin 512) (j : Fin 512), y = ix2 p j := ⟨y 0, y 1, eq_ix2 y⟩
  obtain ⟨-, -, -, ⟨e0, e1⟩⟩ := downPlaces t
  have ht : t.val < 16 := lt_of_lt_of_eq t.isLt (show cfg0.N = 16 from N_0)
  have here : ((cfg0.win 3).blk t).view.emb (ix2 p j) = ix2 (⟨t.val % 8 * 512 + p.val, by omega⟩ : Fin 4096) (⟨t.val / 8 * 512 + j.val, by omega⟩ : Fin 1024) :=
    at2 (show win0_3.index t (0 : Fin 2) * 512 + 1 * p.val = t.val % 8 * 512 + p.val by omega)
      (show win0_3.index t (1 : Fin 2) * 512 + 1 * j.val = t.val / 8 * 512 + j.val by omega)
  refine (down_tile (iblk m c 0 t) (iblk m c 1 t) (iblk m c 2 t) p j).trans ?_
  rw [View.read_apply, here]
  exact congrArg₂ (· + ·) (down_onto m c t p j ⟨t.val % 8 * 512 + p.val, by omega⟩ ⟨t.val / 8 * 512 + j.val, by omega⟩ rfl rfl) (congrArg (· * half) (Finset.sum_congr rfl fun k _ => congrArg₂ (fun a b : EReal => a * b) (down_left m c t p k ⟨t.val % 8 * 512 + p.val, by omega⟩ k rfl rfl) (down_right m c t k j ⟨5632 + k.val, by omega⟩ ⟨t.val / 8 * 512 + j.val, by omega⟩ rfl rfl)))

theorem down_whole : (dats m 0 c).arrAt 3 cfg0.N = down (V m c main_arg0) (V m c main_arg1) (V m c main_arg2) :=
  (dats m 0 c).arrAt_eq_of_cover 3 _ (fun t _ => down_written m c t)
    (Pipeline.Window.Covers.cover _ (by decide +kernel) (Memref.isWhole_whole _))

end Down

theorem value_down : Cert.algebraic_DownIdeal_DownRefIdeal := fun m g m' g' _ hx => by
  obtain ⟨h0, h1, h2⟩ := hx 0
  refine ⟨_, Cert.DownIdeal.Value.run_blocks (F := Ideal) m g, (θ_run Cert.DownRefIdeal.defs _ _).mono (fun r h c => ?_)
    (Cert.DownRefIdeal.Value.run (F := Ideal) m' g')⟩
  obtain ⟨e0, e⟩ := h c
  obtain rfl : c = 0 := Subsingleton.elim _ _
  refine ⟨e0.trans ?_, e⟩
  rw [h0, h1, h2, down_whole]
  funext y
  obtain ⟨p, j, rfl⟩ : ∃ (p : Fin 4096) (j : Fin 1024), y = ix2 p j := ⟨y 0, y 1, eq_ix2 y⟩
  unfold down
  pointwise
  rfl

def dact (a : Mat 4096 1024) (b : Mat 16896 1024) : Mat 4096 2816 := fun i => (byRow a b (i 0) ⟨5632 + (i 1).val, lt_of_lt_of_le (show 5632 + (i 1).val < 8448 by have : (i 1).val < 2816 := (i 1).isLt; omega) (by decide)⟩) * half

section Dact

open Cert.DactIdeal Cert.DactIdeal.Gen Cert.DactIdeal.Value

variable (m : (ℓ : Loc nD τ sig) → Buf (Elt Ideal) ℓ) (c : Dev nD)

theorem dactPlaces : ∀ t : Fin cfg0.N, (win0_0.index t (0 : Fin 2) = t.val % 8 ∧ win0_0.index t (1 : Fin 2) = 0) ∧ (win0_1.index t (0 : Fin 2) = 4 + t.val / 8 ∧ win0_1.index t (1 : Fin 2) = 0)
    ∧ (win0_2.index t (0 : Fin 2) = t.val % 8 ∧ win0_2.index t (1 : Fin 2) = t.val / 8) :=
  (by decide +kernel : ∀ t : Fin grid0.N, _)

theorem dact_left (t : Fin cfg0.N) (p : Fin 512) (k : Fin 1024) (q : Fin 4096) (l : Fin 1024) (hq : q.val = t.val % 8 * 512 + p.val) (hl : l.val = k.val) :
    iblk m c 0 t (ix2 p k) = V m c main_arg0 (ix2 q l) := by
  obtain ⟨⟨e0, e1⟩, -⟩ := dactPlaces t
  exact congrArg (V m c main_arg0) (at2 (show win0_0.index t (0 : Fin 2) * 512 + 1 * p.val = q.val by omega)
    (show win0_0.index t (1 : Fin 2) * 1024 + 1 * k.val = l.val by omega))

theorem dact_right (t : Fin cfg0.N) (p : Fin 1408) (k : Fin 1024) (q : Fin 16896) (l : Fin 1024) (hq : q.val = 5632 + t.val / 8 * 1408 + p.val) (hl : l.val = k.val) :
    iblk m c 1 t (ix2 p k) = V m c main_arg1 (ix2 q l) := by
  obtain ⟨-, ⟨e0, e1⟩, -⟩ := dactPlaces t
  exact congrArg (V m c main_arg1) (at2 (show win0_1.index t (0 : Fin 2) * 1408 + 1 * p.val = q.val by omega)
    (show win0_1.index t (1 : Fin 2) * 1024 + 1 * k.val = l.val by omega))

theorem dact_tile (x : Vec Ideal S512x1024 .f32) (w : Vec Ideal S1408x1024 .bf16) (p : Fin 512) (j : Fin 1408) :
    out0_2 (F := Ideal) x w (ix2 p j) = (∑ k : Fin 1024, x (ix2 p k) * w (ix2 j k)) * half := by
  unfold out0_2
  rw [View.canon_unit_zero corner]
  simp only [View.ld_unit_zero (S := S512x1024) corner, View.ld_unit_zero (S := S1408x1024) corner]
  pointwise [k0_pay1]
  rfl

theorem dact_written (t : Fin cfg0.N) : (dats m 0 c).flushed 2 t = ((cfg0.win 2).blk t).view.read (Elt Ideal) (dact (V m c main_arg0) (V m c main_arg1)) := by
  rw [flushed2]
  funext y
  obtain ⟨p, j, rfl⟩ : ∃ (p : Fin 512) (j : Fin 1408), y = ix2 p j := ⟨y 0, y 1, eq_ix2 y⟩
  obtain ⟨-, -, ⟨e0, e1⟩⟩ := dactPlaces t
  have ht : t.val < 16 := lt_of_lt_of_eq t.isLt (show cfg0.N = 16 from N_0)
  have here : ((cfg0.win 2).blk t).view.emb (ix2 p j) = ix2 (⟨t.val % 8 * 512 + p.val, by omega⟩ : Fin 4096) (⟨t.val / 8 * 1408 + j.val, by omega⟩ : Fin 2816) :=
    at2 (show win0_2.index t (0 : Fin 2) * 512 + 1 * p.val = t.val % 8 * 512 + p.val by omega)
      (show win0_2.index t (1 : Fin 2) * 1408 + 1 * j.val = t.val / 8 * 1408 + j.val by omega)
  refine (dact_tile (iblk m c 0 t) (iblk m c 1 t) p j).trans ?_
  rw [View.read_apply, here]
  exact congrArg (· * half) (Finset.sum_congr rfl fun k _ => congrArg₂ (fun a b : EReal => a * b) (dact_left m c t p k ⟨t.val % 8 * 512 + p.val, by omega⟩ k rfl rfl) (dact_right m c t j k ⟨5632 + (t.val / 8 * 1408 + j.val), by omega⟩ k (by dsimp only; omega) rfl))

theorem dact_whole : (dats m 0 c).arrAt 2 cfg0.N = dact (V m c main_arg0) (V m c main_arg1) :=
  (dats m 0 c).arrAt_eq_of_cover 2 _ (fun t _ => dact_written m c t)
    (Pipeline.Window.Covers.cover _ (by decide +kernel) (Memref.isWhole_whole _))

end Dact

theorem value_dact : Cert.algebraic_DactIdeal_DactRefIdeal := fun m g m' g' _ hx => by
  obtain ⟨h0, h1⟩ := hx 0
  refine ⟨_, Cert.DactIdeal.Value.run_blocks (F := Ideal) m g, (θ_run Cert.DactRefIdeal.defs _ _).mono (fun r h c => ?_)
    (Cert.DactRefIdeal.Value.run (F := Ideal) m' g')⟩
  obtain ⟨e0, e⟩ := h c
  obtain rfl : c = 0 := Subsingleton.elim _ _
  refine ⟨e0.trans ?_, e⟩
  rw [h0, h1, dact_whole]
  funext y
  obtain ⟨p, j, rfl⟩ : ∃ (p : Fin 4096) (j : Fin 2816), y = ix2 p j := ⟨y 0, y 1, eq_ix2 y⟩
  unfold dact byRow
  pointwise
  rfl

end Cert.Values
-- ==== Proof.SplitValue.lean ====
/-
# The products taken in two halves

The sum of each of these products is taken in two points: the first leaves its half in the scratch, the second adds its
own and writes the block.
-/
module

public import Idealize.ShloMosaic.Lib.Pipeline.ValueKit.Partial
public import proofs.«01_k».proof.Defs
public import proofs.«01_k».proof.Proof.Product
public import proofs.«01_k».proof.Proof.Gen.DhidIdeal.Value
public import proofs.«01_k».proof.Proof.Gen.DhidRefIdeal.Run
public import proofs.«01_k».proof.Proof.Gen.DmixIdeal.Value
public import proofs.«01_k».proof.Proof.Gen.DmixRefIdeal.Run

@[expose] public section

set_option maxRecDepth 16384

noncomputable section

namespace Cert.Values

open Idealize.ShloMosaic Idealize.ShloMosaic.TcCoe Idealize.SL.Sem
open Cert.Product

/-- The feed-forward block's first weights are the first 5632 rows. -/
def dhid (a : Mat 4096 5632) (b : Mat 16896 1024) : Mat 4096 1024 := fun i => ∑ k : Fin 5632, a (ix2 (i 0) k) * b (ix2 (⟨k.val, by omega⟩ : Fin 16896) (i 1))

section Dhid

open Cert.DhidIdeal Cert.DhidIdeal.Gen Cert.DhidIdeal.Value

section Body

variable (c : Dev nD) (i : grid0.Coords) (a3 : Memref sig .tc .vmem S512x2816 .bf16) (h3 : a3.IsWhole) (a4 : Memref sig .tc .vmem S2816x512 .bf16) (h4 : a4.IsWhole)
  (a5 : Memref sig .tc .vmem S512x512 .f32) (h5 : a5.IsWhole) (a6 : Memref sig .tc .vmem S512x512 .f32) (h6 : a6.IsWhole)
  (x : Vec Ideal S512x2816 .bf16) (w : Vec Ideal S2816x512 .bf16) (acc : Vec Ideal S512x512 .f32)

/-- The first half leaves its product, the second adds its own. -/
theorem dhid_first (hc0 : cond0_0 i) (hc1 : ¬cond0_1 i) (hc2 : ¬cond0_2 i) :
    sout0_A_0 (F := Ideal) c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero corner]
  simp only [View.readAt_eq_ld, h3.read_unread, h4.read_unread, View.ld_unit_zero (S := S512x2816) corner, View.ld_unit_zero (S := S2816x512) corner, shapeCast_self]

theorem dhid_last (hc0 : ¬cond0_0 i) (hc1 : cond0_1 i) (hc2 : cond0_2 i) :
    out0_B_2 (F := Ideal) c i a3 h3 a4 h4 a5 h5 a6 h6 hc0 hc1 hc2 x w acc = k0_pay3 x w acc := by
  unfold out0_B_2
  rw [View.read_writes_eq_canon _ _ _ (cover0_B_2 c i a3 h3 a4 h4 a5 h5 a6 h6 hc0 hc1 hc2 x w acc)]
  unfold kernelRun0_B
  dsimp only
  sl_unfold_words
  rw [View.canon_unit_zero corner, View.readCov_unit_zero (S := S512x512) _ corner]
  simp only [View.readAt_eq_ld, h3.read_unread, h4.read_unread, h6.read_unread, View.ld_unit_zero (S := S512x2816) corner, View.ld_unit_zero (S := S2816x512) corner,
    View.ld_unit_zero (S := S512x512) corner, shapeCast_self]

theorem dhid_entry (p : Fin 512) (j : Fin 512) :
    k0_pay3 (F := Ideal) x w acc (ix2 p j) = acc (ix2 p j) + ∑ k : Fin 2816, x (ix2 p k) * w (ix2 k j) := by
  pointwise [k0_pay3, k0_pay1]

theorem dhid_start (p : Fin 512) (j : Fin 512) : k0_pay2 (F := Ideal) x w (ix2 p j) = ∑ k : Fin 2816, x (ix2 p k) * w (ix2 k j) := by
  pointwise [k0_pay2, k0_pay1]

end Body

variable (m : (ℓ : Loc nD τ sig) → Buf (Elt Ideal) ℓ) (c : Dev nD)

theorem dhidPlaces : ∀ t : Fin cfg0.N, (win0_0.index t (0 : Fin 2) = t.val / 2 % 8 ∧ win0_0.index t (1 : Fin 2) = t.val % 2)
    ∧ (win0_1.index t (0 : Fin 2) = t.val % 2 ∧ win0_1.index t (1 : Fin 2) = t.val / 16)
    ∧ (win0_2.index t (0 : Fin 2) = t.val / 2 % 8 ∧ win0_2.index t (1 : Fin 2) = t.val / 16) :=
  (by decide +kernel : ∀ t : Fin grid0.N, _)

theorem dhid_lt (t : Fin cfg0.N) : t.val < 32 := lt_of_lt_of_eq t.isLt (show cfg0.N = 32 from N_0)

/-- A point's blocks are the halves of a row and of a column. -/
theorem dhid_left (t : Fin cfg0.N) (p : Fin 512) (k : Fin 2816) (q : Fin 4096) (b : Fin 2) (hq : q.val = t.val / 2 % 8 * 512 + p.val) (hb : b.val = t.val % 2) :
    iblk m c 0 t (ix2 p k) = V m c main_arg0 (ix2 q (⟨b.val * 2816 + k.val, by omega⟩ : Fin 5632)) := by
  obtain ⟨⟨e0, e1⟩, -⟩ := dhidPlaces t
  exact congrArg (V m c main_arg0) (at2 (show win0_0.index t (0 : Fin 2) * 512 + 1 * p.val = q.val by omega)
    (show win0_0.index t (1 : Fin 2) * 2816 + 1 * k.val = b.val * 2816 + k.val by omega))

theorem dhid_right (t : Fin cfg0.N) (k : Fin 2816) (j : Fin 512) (l : Fin 1024) (b : Fin 2) (hl : l.val = t.val / 16 * 512 + j.val) (hb : b.val = t.val % 2) :
    iblk m c 1 t (ix2 k j) = V m c main_arg1 (ix2 (⟨b.val * 2816 + k.val, by omega⟩ : Fin 16896) l) := by
  obtain ⟨-, ⟨e0, e1⟩, -⟩ := dhidPlaces t
  exact congrArg (V m c main_arg1) (at2 (show win0_1.index t (0 : Fin 2) * 2816 + 1 * k.val = b.val * 2816 + k.val by omega)
    (show win0_1.index t (1 : Fin 2) * 512 + 1 * j.val = l.val by omega))

theorem dhid_written (t : Fin cfg0.N) (hf : (cfg0.win 2).flush t = true) :
    (dats m 0 c).flushed 2 t = ((cfg0.win 2).blk t).view.read (Elt Ideal) (dhid (V m c main_arg0) (V m c main_arg1)) := by
  have h1 : t.val % 2 = 1 := (flush0_2 t).mp hf
  have ht := dhid_lt t
  let s : Fin cfg0.N := ⟨t.val - 1, lt_of_le_of_lt (Nat.sub_le _ _) t.isLt⟩
  have hs : s.val % 2 = 0 := show (t.val - 1) % 2 = 0 by omega
  rw [flushed2_B m c t (by omega) h1 h1, dhid_last]
  rw [show outsAt0 m c (t.val - 1) _ = _ from outsAt0_A m c s hs (by omega) (by omega)]
  dsimp only
  rw [dhid_first]
  funext y
  obtain ⟨p, j, rfl⟩ : ∃ (p : Fin 512) (j : Fin 512), y = ix2 p j := ⟨y 0, y 1, eq_ix2 y⟩
  obtain ⟨-, -, ⟨e0, e1⟩⟩ := dhidPlaces t
  have here : ((cfg0.win 2).blk t).view.emb (ix2 p j) = ix2 (⟨t.val / 2 % 8 * 512 + p.val, by omega⟩ : Fin 4096) (⟨t.val / 16 * 512 + j.val, by omega⟩ : Fin 1024) :=
    at2 (show win0_2.index t (0 : Fin 2) * 512 + 1 * p.val = t.val / 2 % 8 * 512 + p.val by omega)
      (show win0_2.index t (1 : Fin 2) * 512 + 1 * j.val = t.val / 16 * 512 + j.val by omega)
  refine (dhid_entry (iblk m c 0 t) (iblk m c 1 t) _ p j).trans ?_
  rw [dhid_start, View.read_apply, here]
  let f : Fin 5632 → EReal := fun k => V m c main_arg0 (ix2 (⟨t.val / 2 % 8 * 512 + p.val, by omega⟩ : Fin 4096) k)
  let g : Fin 5632 → EReal := fun k => V m c main_arg1 (ix2 (⟨k.val, by omega⟩ : Fin 16896) (⟨t.val / 16 * 512 + j.val, by omega⟩ : Fin 1024))
  refine Eq.trans ?_ (Fin.sum_univ_tiles 2 2816 rfl fun k : Fin 5632 => f k * g k).symm
  rw [Fin.sum_univ_two]
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact dhid_left m c s p k ⟨t.val / 2 % 8 * 512 + p.val, by omega⟩ 0 (show t.val / 2 % 8 * 512 + p.val = (t.val - 1) / 2 % 8 * 512 + p.val by omega) hs.symm
  · exact dhid_right m c s k j ⟨t.val / 16 * 512 + j.val, by omega⟩ 0 (show t.val / 16 * 512 + j.val = (t.val - 1) / 16 * 512 + j.val by omega) hs.symm
  · exact dhid_left m c t p k ⟨t.val / 2 % 8 * 512 + p.val, by omega⟩ 1 rfl h1.symm
  · exact dhid_right m c t k j ⟨t.val / 16 * 512 + j.val, by omega⟩ 1 rfl h1.symm

theorem dhid_whole : (dats m 0 c).arrAt 2 cfg0.N = dhid (V m c main_arg0) (V m c main_arg1) :=
  (dats m 0 c).arrAt_eq_of_cover 2 _ (fun t h => dhid_written m c t h)
    (Pipeline.Window.Covers.cover _ (by decide +kernel) (Memref.isWhole_whole _))

end Dhid

theorem value_dhid : Cert.algebraic_DhidIdeal_DhidRefIdeal := fun m g m' g' _ hx => by
  obtain ⟨h0, h1⟩ := hx 0
  refine ⟨_, Cert.DhidIdeal.Value.run_blocks (F := Ideal) m g, (θ_run Cert.DhidRefIdeal.defs _ _).mono (fun r h c => ?_)
    (Cert.DhidRefIdeal.Value.run (F := Ideal) m' g')⟩
  obtain ⟨e0, e⟩ := h c
  obtain rfl : c = 0 := Subsingleton.elim _ _
  refine ⟨e0.trans ?_, e⟩
  rw [h0, h1, dhid_whole]
  funext y
  obtain ⟨p, j, rfl⟩ : ∃ (p : Fin 4096) (j : Fin 1024), y = ix2 p j := ⟨y 0, y 1, eq_ix2 y⟩
  unfold dhid
  pointwise

def dmix (a : Mat 4096 6912) (b : Mat 6912 1024) : Mat 4096 1024 := fun i => ∑ k : Fin 6912, a (ix2 (i 0) k) * b (ix2 (⟨k.val, by omega⟩ : Fin 6912) (i 1))

section Dmix

open Cert.DmixIdeal Cert.DmixIdeal.Gen Cert.DmixIdeal.Value

section Body

variable (c : Dev nD) (i : grid0.Coords) (a3 : Memref sig .tc .vmem S512x3456 .bf16) (h3 : a3.IsWhole) (a4 : Memref sig .tc .vmem S3456x512 .bf16) (h4 : a4.IsWhole)
  (a5 : Memref sig .tc .vmem S512x512 .f32) (h5 : a5.IsWhole) (a6 : Memref sig .tc .vmem S512x512 .f32) (h6 : a6.IsWhole)
  (x : Vec Ideal S512x3456 .bf16) (w : Vec Ideal S3456x512 .bf16) (acc : Vec Ideal S512x512 .f32)

/-- The first half leaves its product, the second adds its own. -/
theorem dmix_first (hc0 : cond0_0 i) (hc1 : ¬cond0_1 i) (hc2 : ¬cond0_2 i) :
    sout0_A_0 (F := Ideal) c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero corner]
  simp only [View.readAt_eq_ld, h3.read_unread, h4.read_unread, View.ld_unit_zero (S := S512x3456) corner, View.ld_unit_zero (S := S3456x512) corner, shapeCast_self]

theorem dmix_last (hc0 : ¬cond0_0 i) (hc1 : cond0_1 i) (hc2 : cond0_2 i) :
    out0_B_2 (F := Ideal) c i a3 h3 a4 h4 a5 h5 a6 h6 hc0 hc1 hc2 x w acc = k0_pay3 x w acc := by
  unfold out0_B_2
  rw [View.read_writes_eq_canon _ _ _ (cover0_B_2 c i a3 h3 a4 h4 a5 h5 a6 h6 hc0 hc1 hc2 x w acc)]
  unfold kernelRun0_B
  dsimp only
  sl_unfold_words
  rw [View.canon_unit_zero corner, View.readCov_unit_zero (S := S512x512) _ corner]
  simp only [View.readAt_eq_ld, h3.read_unread, h4.read_unread, h6.read_unread, View.ld_unit_zero (S := S512x3456) corner, View.ld_unit_zero (S := S3456x512) corner,
    View.ld_unit_zero (S := S512x512) corner, shapeCast_self]

theorem dmix_entry (p : Fin 512) (j : Fin 512) :
    k0_pay3 (F := Ideal) x w acc (ix2 p j) = acc (ix2 p j) + ∑ k : Fin 3456, x (ix2 p k) * w (ix2 k j) := by
  pointwise [k0_pay3, k0_pay1]

theorem dmix_start (p : Fin 512) (j : Fin 512) : k0_pay2 (F := Ideal) x w (ix2 p j) = ∑ k : Fin 3456, x (ix2 p k) * w (ix2 k j) := by
  pointwise [k0_pay2, k0_pay1]

end Body

variable (m : (ℓ : Loc nD τ sig) → Buf (Elt Ideal) ℓ) (c : Dev nD)

theorem dmixPlaces : ∀ t : Fin cfg0.N, (win0_0.index t (0 : Fin 2) = t.val / 2 % 8 ∧ win0_0.index t (1 : Fin 2) = t.val % 2)
    ∧ (win0_1.index t (0 : Fin 2) = t.val % 2 ∧ win0_1.index t (1 : Fin 2) = t.val / 16)
    ∧ (win0_2.index t (0 : Fin 2) = t.val / 2 % 8 ∧ win0_2.index t (1 : Fin 2) = t.val / 16) :=
  (by decide +kernel : ∀ t : Fin grid0.N, _)

theorem dmix_lt (t : Fin cfg0.N) : t.val < 32 := lt_of_lt_of_eq t.isLt (show cfg0.N = 32 from N_0)

/-- A point's blocks are the halves of a row and of a column. -/
theorem dmix_left (t : Fin cfg0.N) (p : Fin 512) (k : Fin 3456) (q : Fin 4096) (b : Fin 2) (hq : q.val = t.val / 2 % 8 * 512 + p.val) (hb : b.val = t.val % 2) :
    iblk m c 0 t (ix2 p k) = V m c main_arg0 (ix2 q (⟨b.val * 3456 + k.val, by omega⟩ : Fin 6912)) := by
  obtain ⟨⟨e0, e1⟩, -⟩ := dmixPlaces t
  exact congrArg (V m c main_arg0) (at2 (show win0_0.index t (0 : Fin 2) * 512 + 1 * p.val = q.val by omega)
    (show win0_0.index t (1 : Fin 2) * 3456 + 1 * k.val = b.val * 3456 + k.val by omega))

theorem dmix_right (t : Fin cfg0.N) (k : Fin 3456) (j : Fin 512) (l : Fin 1024) (b : Fin 2) (hl : l.val = t.val / 16 * 512 + j.val) (hb : b.val = t.val % 2) :
    iblk m c 1 t (ix2 k j) = V m c main_arg1 (ix2 (⟨b.val * 3456 + k.val, by omega⟩ : Fin 6912) l) := by
  obtain ⟨-, ⟨e0, e1⟩, -⟩ := dmixPlaces t
  exact congrArg (V m c main_arg1) (at2 (show win0_1.index t (0 : Fin 2) * 3456 + 1 * k.val = b.val * 3456 + k.val by omega)
    (show win0_1.index t (1 : Fin 2) * 512 + 1 * j.val = l.val by omega))

theorem dmix_written (t : Fin cfg0.N) (hf : (cfg0.win 2).flush t = true) :
    (dats m 0 c).flushed 2 t = ((cfg0.win 2).blk t).view.read (Elt Ideal) (dmix (V m c main_arg0) (V m c main_arg1)) := by
  have h1 : t.val % 2 = 1 := (flush0_2 t).mp hf
  have ht := dmix_lt t
  let s : Fin cfg0.N := ⟨t.val - 1, lt_of_le_of_lt (Nat.sub_le _ _) t.isLt⟩
  have hs : s.val % 2 = 0 := show (t.val - 1) % 2 = 0 by omega
  rw [flushed2_B m c t (by omega) h1 h1, dmix_last]
  rw [show outsAt0 m c (t.val - 1) _ = _ from outsAt0_A m c s hs (by omega) (by omega)]
  dsimp only
  rw [dmix_first]
  funext y
  obtain ⟨p, j, rfl⟩ : ∃ (p : Fin 512) (j : Fin 512), y = ix2 p j := ⟨y 0, y 1, eq_ix2 y⟩
  obtain ⟨-, -, ⟨e0, e1⟩⟩ := dmixPlaces t
  have here : ((cfg0.win 2).blk t).view.emb (ix2 p j) = ix2 (⟨t.val / 2 % 8 * 512 + p.val, by omega⟩ : Fin 4096) (⟨t.val / 16 * 512 + j.val, by omega⟩ : Fin 1024) :=
    at2 (show win0_2.index t (0 : Fin 2) * 512 + 1 * p.val = t.val / 2 % 8 * 512 + p.val by omega)
      (show win0_2.index t (1 : Fin 2) * 512 + 1 * j.val = t.val / 16 * 512 + j.val by omega)
  refine (dmix_entry (iblk m c 0 t) (iblk m c 1 t) _ p j).trans ?_
  rw [dmix_start, View.read_apply, here]
  let f : Fin 6912 → EReal := fun k => V m c main_arg0 (ix2 (⟨t.val / 2 % 8 * 512 + p.val, by omega⟩ : Fin 4096) k)
  let g : Fin 6912 → EReal := fun k => V m c main_arg1 (ix2 (⟨k.val, by omega⟩ : Fin 6912) (⟨t.val / 16 * 512 + j.val, by omega⟩ : Fin 1024))
  refine Eq.trans ?_ (Fin.sum_univ_tiles 2 3456 rfl fun k : Fin 6912 => f k * g k).symm
  rw [Fin.sum_univ_two]
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact dmix_left m c s p k ⟨t.val / 2 % 8 * 512 + p.val, by omega⟩ 0 (show t.val / 2 % 8 * 512 + p.val = (t.val - 1) / 2 % 8 * 512 + p.val by omega) hs.symm
  · exact dmix_right m c s k j ⟨t.val / 16 * 512 + j.val, by omega⟩ 0 (show t.val / 16 * 512 + j.val = (t.val - 1) / 16 * 512 + j.val by omega) hs.symm
  · exact dmix_left m c t p k ⟨t.val / 2 % 8 * 512 + p.val, by omega⟩ 1 rfl h1.symm
  · exact dmix_right m c t k j ⟨t.val / 16 * 512 + j.val, by omega⟩ 1 rfl h1.symm

theorem dmix_whole : (dats m 0 c).arrAt 2 cfg0.N = dmix (V m c main_arg0) (V m c main_arg1) :=
  (dats m 0 c).arrAt_eq_of_cover 2 _ (fun t h => dmix_written m c t h)
    (Pipeline.Window.Covers.cover _ (by decide +kernel) (Memref.isWhole_whole _))

end Dmix

theorem value_dmix : Cert.algebraic_DmixIdeal_DmixRefIdeal := fun m g m' g' _ hx => by
  obtain ⟨h0, h1⟩ := hx 0
  refine ⟨_, Cert.DmixIdeal.Value.run_blocks (F := Ideal) m g, (θ_run Cert.DmixRefIdeal.defs _ _).mono (fun r h c => ?_)
    (Cert.DmixRefIdeal.Value.run (F := Ideal) m' g')⟩
  obtain ⟨e0, e⟩ := h c
  obtain rfl : c = 0 := Subsingleton.elim _ _
  refine ⟨e0.trans ?_, e⟩
  rw [h0, h1, dmix_whole]
  funext y
  obtain ⟨p, j, rfl⟩ : ∃ (p : Fin 4096) (j : Fin 1024), y = ix2 p j := ⟨y 0, y 1, eq_ix2 y⟩
  unfold dmix
  pointwise

end Cert.Values
-- ==== Proof.MixerValue.lean ====
/-
# The products of the mixer

The products that lead into the mixer and out of it and the projections, and those of their backward pass: one block of the
product per grid point.
-/
module

public import Idealize.ShloMosaic.Lib.Pipeline.ValueKit.Partial
public import proofs.«01_k».proof.Defs
public import proofs.«01_k».proof.Proof.Product
public import proofs.«01_k».proof.Proof.Gen.InwardIdeal.Value
public import proofs.«01_k».proof.Proof.Gen.InwardRefIdeal.Run
public import proofs.«01_k».proof.Proof.Gen.ProjAIdeal.Value
public import proofs.«01_k».proof.Proof.Gen.ProjARefIdeal.Run
public import proofs.«01_k».proof.Proof.Gen.ProjBIdeal.Value
public import proofs.«01_k».proof.Proof.Gen.ProjBRefIdeal.Run
public import proofs.«01_k».proof.Proof.Gen.ProjCIdeal.Value
public import proofs.«01_k».proof.Proof.Gen.ProjCRefIdeal.Run
public import proofs.«01_k».proof.Proof.Gen.OutwardIdeal.Value
public import proofs.«01_k».proof.Proof.Gen.OutwardRefIdeal.Run
public import proofs.«01_k».proof.Proof.Gen.DmergedIdeal.Value
public import proofs.«01_k».proof.Proof.Gen.DmergedRefIdeal.Run
public import proofs.«01_k».proof.Proof.Gen.DyaIdeal.Value
public import proofs.«01_k».proof.Proof.Gen.DyaRefIdeal.Run
public import proofs.«01_k».proof.Proof.Gen.DybIdeal.Value
public import proofs.«01_k».proof.Proof.Gen.DybRefIdeal.Run
public import proofs.«01_k».proof.Proof.Gen.DycIdeal.Value
public import proofs.«01_k».proof.Proof.Gen.DycRefIdeal.Run

@[expose] public section

set_option maxRecDepth 16384

noncomputable section

namespace Cert.Values

open Idealize.ShloMosaic Idealize.ShloMosaic.TcCoe Idealize.SL.Sem
open Cert.Product

def inward (a : Mat 4096 1024) (b : Mat 6912 1024) : Mat 4096 6912 := fun i => byRow a b (i 0) ⟨(i 1).val, lt_of_lt_of_le (show (i 1).val < 6912 by have : (i 1).val < 6912 := (i 1).isLt; omega) (by decide)⟩

section Inward

open Cert.InwardIdeal Cert.InwardIdeal.Gen Cert.InwardIdeal.Value

variable (m : (ℓ : Loc nD τ sig) → Buf (Elt Ideal) ℓ) (c : Dev nD)

theorem inwardPlaces : ∀ t : Fin cfg0.N, (win0_0.index t (0 : Fin 2) = t.val % 8 ∧ win0_0.index t (1 : Fin 2) = 0) ∧ (win0_1.index t (0 : Fin 2) = t.val / 8 ∧ win0_1.index t (1 : Fin 2) = 0)
    ∧ (win0_2.index t (0 : Fin 2) = t.val % 8 ∧ win0_2.index t (1 : Fin 2) = t.val / 8) :=
  (by decide +kernel : ∀ t : Fin grid0.N, _)

theorem inward_left (t : Fin cfg0.N) (p : Fin 512) (k : Fin 1024) (q : Fin 4096) (l : Fin 1024) (hq : q.val = t.val % 8 * 512 + p.val) (hl : l.val = k.val) :
    iblk m c 0 t (ix2 p k) = V m c main_arg0 (ix2 q l) := by
  obtain ⟨⟨e0, e1⟩, -⟩ := inwardPlaces t
  exact congrArg (V m c main_arg0) (at2 (show win0_0.index t (0 : Fin 2) * 512 + 1 * p.val = q.val by omega)
    (show win0_0.index t (1 : Fin 2) * 1024 + 1 * k.val = l.val by omega))

theorem inward_right (t : Fin cfg0.N) (p : Fin 1152) (k : Fin 1024) (q : Fin 6912) (l : Fin 1024) (hq : q.val = t.val / 8 * 1152 + p.val) (hl : l.val = k.val) :
    iblk m c 1 t (ix2 p k) = V m c main_arg1 (ix2 q l) := by
  obtain ⟨-, ⟨e0, e1⟩, -⟩ := inwardPlaces t
  exact congrArg (V m c main_arg1) (at2 (show win0_1.index t (0 : Fin 2) * 1152 + 1 * p.val = q.val by omega)
    (show win0_1.index t (1 : Fin 2) * 1024 + 1 * k.val = l.val by omega))

theorem inward_tile (x : Vec Ideal S512x1024 .bf16) (w : Vec Ideal S1152x1024 .bf16) (p : Fin 512) (j : Fin 1152) :
    out0_2 (F := Ideal) x w (ix2 p j) = ∑ k : Fin 1024, x (ix2 p k) * w (ix2 j k) := by
  unfold out0_2
  rw [View.canon_unit_zero corner]
  simp only [View.ld_unit_zero (S := S512x1024) corner, View.ld_unit_zero (S := S1152x1024) corner]
  pointwise [k0_pay1]

theorem inward_written (t : Fin cfg0.N) : (dats m 0 c).flushed 2 t = ((cfg0.win 2).blk t).view.read (Elt Ideal) (inward (V m c main_arg0) (V m c main_arg1)) := by
  rw [flushed2]
  funext y
  obtain ⟨p, j, rfl⟩ : ∃ (p : Fin 512) (j : Fin 1152), y = ix2 p j := ⟨y 0, y 1, eq_ix2 y⟩
  obtain ⟨-, -, ⟨e0, e1⟩⟩ := inwardPlaces t
  have ht : t.val < 48 := lt_of_lt_of_eq t.isLt (show cfg0.N = 48 from N_0)
  have here : ((cfg0.win 2).blk t).view.emb (ix2 p j) = ix2 (⟨t.val % 8 * 512 + p.val, by omega⟩ : Fin 4096) (⟨t.val / 8 * 1152 + j.val, by omega⟩ : Fin 6912) :=
    at2 (show win0_2.index t (0 : Fin 2) * 512 + 1 * p.val = t.val % 8 * 512 + p.val by omega)
      (show win0_2.index t (1 : Fin 2) * 1152 + 1 * j.val = t.val / 8 * 1152 + j.val by omega)
  refine (inward_tile (iblk m c 0 t) (iblk m c 1 t) p j).trans ?_
  rw [View.read_apply, here]
  exact Finset.sum_congr rfl fun k _ => congrArg₂ (fun a b : EReal => a * b) (inward_left m c t p k ⟨t.val % 8 * 512 + p.val, by omega⟩ k rfl rfl) (inward_right m c t j k ⟨(t.val / 8 * 1152 + j.val), by omega⟩ k rfl rfl)

theorem inward_whole : (dats m 0 c).arrAt 2 cfg0.N = inward (V m c main_arg0) (V m c main_arg1) :=
  (dats m 0 c).arrAt_eq_of_cover 2 _ (fun t _ => inward_written m c t)
    (Pipeline.Window.Covers.cover _ (by decide +kernel) (Memref.isWhole_whole _))

end Inward

theorem value_inward : Cert.algebraic_InwardIdeal_InwardRefIdeal := fun m g m' g' _ hx => by
  obtain ⟨h0, h1⟩ := hx 0
  refine ⟨_, Cert.InwardIdeal.Value.run_blocks (F := Ideal) m g, (θ_run Cert.InwardRefIdeal.defs _ _).mono (fun r h c => ?_)
    (Cert.InwardRefIdeal.Value.run (F := Ideal) m' g')⟩
  obtain ⟨e0, e⟩ := h c
  obtain rfl : c = 0 := Subsingleton.elim _ _
  refine ⟨e0.trans ?_, e⟩
  rw [h0, h1, inward_whole]
  funext y
  obtain ⟨p, j, rfl⟩ : ∃ (p : Fin 4096) (j : Fin 6912), y = ix2 p j := ⟨y 0, y 1, eq_ix2 y⟩
  unfold inward byRow
  pointwise

def projA (a : Mat 4096 256) (b : Mat 1024 256) : Mat 4096 1024 := fun i => byRow a b (i 0) ⟨(i 1).val, lt_of_lt_of_le (show (i 1).val < 1024 by have : (i 1).val < 1024 := (i 1).isLt; omega) (by decide)⟩

section ProjA

open Cert.ProjAIdeal Cert.ProjAIdeal.Gen Cert.ProjAIdeal.Value

variable (m : (ℓ : Loc nD τ sig) → Buf (Elt Ideal) ℓ) (c : Dev nD)

theorem projAPlaces : ∀ t : Fin cfg0.N, (win0_0.index t (0 : Fin 2) = t.val % 4 ∧ win0_0.index t (1 : Fin 2) = 0) ∧ (win0_1.index t (0 : Fin 2) = t.val / 4 ∧ win0_1.index t (1 : Fin 2) = 0)
    ∧ (win0_2.index t (0 : Fin 2) = t.val % 4 ∧ win0_2.index t (1 : Fin 2) = t.val / 4) :=
  (by decide +kernel : ∀ t : Fin grid0.N, _)

theorem projA_left (t : Fin cfg0.N) (p : Fin 1024) (k : Fin 256) (q : Fin 4096) (l : Fin 256) (hq : q.val = t.val % 4 * 1024 + p.val) (hl : l.val = k.val) :
    iblk m c 0 t (ix2 p k) = V m c main_arg0 (ix2 q l) := by
  obtain ⟨⟨e0, e1⟩, -⟩ := projAPlaces t
  exact congrArg (V m c main_arg0) (at2 (show win0_0.index t (0 : Fin 2) * 1024 + 1 * p.val = q.val by omega)
    (show win0_0.index t (1 : Fin 2) * 256 + 1 * k.val = l.val by omega))

theorem projA_right (t : Fin cfg0.N) (p : Fin 512) (k : Fin 256) (q : Fin 1024) (l : Fin 256) (hq : q.val = t.val / 4 * 512 + p.val) (hl : l.val = k.val) :
    iblk m c 1 t (ix2 p k) = V m c main_arg1 (ix2 q l) := by
  obtain ⟨-, ⟨e0, e1⟩, -⟩ := projAPlaces t
  exact congrArg (V m c main_arg1) (at2 (show win0_1.index t (0 : Fin 2) * 512 + 1 * p.val = q.val by omega)
    (show win0_1.index t (1 : Fin 2) * 256 + 1 * k.val = l.val by omega))

theorem projA_tile (x : Vec Ideal S1024x256 .f32) (w : Vec Ideal S512x256 .bf16) (p : Fin 1024) (j : Fin 512) :
    out0_2 (F := Ideal) x w (ix2 p j) = ∑ k : Fin 256, x (ix2 p k) * w (ix2 j k) := by
  unfold out0_2
  rw [View.canon_unit_zero corner]
  simp only [View.ld_unit_zero (S := S1024x256) corner, View.ld_unit_zero (S := S512x256) corner]
  pointwise [k0_pay1]

theorem projA_written (t : Fin cfg0.N) : (dats m 0 c).flushed 2 t = ((cfg0.win 2).blk t).view.read (Elt Ideal) (projA (V m c main_arg0) (V m c main_arg1)) := by
  rw [flushed2]
  funext y
  obtain ⟨p, j, rfl⟩ : ∃ (p : Fin 1024) (j : Fin 512), y = ix2 p j := ⟨y 0, y 1, eq_ix2 y⟩
  obtain ⟨-, -, ⟨e0, e1⟩⟩ := projAPlaces t
  have ht : t.val < 8 := lt_of_lt_of_eq t.isLt (show cfg0.N = 8 from N_0)
  have here : ((cfg0.win 2).blk t).view.emb (ix2 p j) = ix2 (⟨t.val % 4 * 1024 + p.val, by omega⟩ : Fin 4096) (⟨t.val / 4 * 512 + j.val, by omega⟩ : Fin 1024) :=
    at2 (show win0_2.index t (0 : Fin 2) * 1024 + 1 * p.val = t.val % 4 * 1024 + p.val by omega)
      (show win0_2.index t (1 : Fin 2) * 512 + 1 * j.val = t.val / 4 * 512 + j.val by omega)
  refine (projA_tile (iblk m c 0 t) (iblk m c 1 t) p j).trans ?_
  rw [View.read_apply, here]
  exact Finset.sum_congr rfl fun k _ => congrArg₂ (fun a b : EReal => a * b) (projA_left m c t p k ⟨t.val % 4 * 1024 + p.val, by omega⟩ k rfl rfl) (projA_right m c t j k ⟨(t.val / 4 * 512 + j.val), by omega⟩ k rfl rfl)

theorem projA_whole : (dats m 0 c).arrAt 2 cfg0.N = projA (V m c main_arg0) (V m c main_arg1) :=
  (dats m 0 c).arrAt_eq_of_cover 2 _ (fun t _ => projA_written m c t)
    (Pipeline.Window.Covers.cover _ (by decide +kernel) (Memref.isWhole_whole _))

end ProjA

theorem value_projA : Cert.algebraic_ProjAIdeal_ProjARefIdeal := fun m g m' g' _ hx => by
  obtain ⟨h0, h1⟩ := hx 0
  refine ⟨_, Cert.ProjAIdeal.Value.run_blocks (F := Ideal) m g, (θ_run Cert.ProjARefIdeal.defs _ _).mono (fun r h c => ?_)
    (Cert.ProjARefIdeal.Value.run (F := Ideal) m' g')⟩
  obtain ⟨e0, e⟩ := h c
  obtain rfl : c = 0 := Subsingleton.elim _ _
  refine ⟨e0.trans ?_, e⟩
  rw [h0, h1, projA_whole]
  funext y
  obtain ⟨p, j, rfl⟩ : ∃ (p : Fin 4096) (j : Fin 1024), y = ix2 p j := ⟨y 0, y 1, eq_ix2 y⟩
  unfold projA byRow
  pointwise

def projB (a : Mat 4096 512) (b : Mat 2048 512) : Mat 4096 1024 := fun i => byRow a b (i 0) ⟨(i 1).val, lt_of_lt_of_le (show (i 1).val < 1024 by have : (i 1).val < 1024 := (i 1).isLt; omega) (by decide)⟩

section ProjB

open Cert.ProjBIdeal Cert.ProjBIdeal.Gen Cert.ProjBIdeal.Value

variable (m : (ℓ : Loc nD τ sig) → Buf (Elt Ideal) ℓ) (c : Dev nD)

theorem projBPlaces : ∀ t : Fin cfg0.N, (win0_0.index t (0 : Fin 2) = t.val % 4 ∧ win0_0.index t (1 : Fin 2) = 0) ∧ (win0_1.index t (0 : Fin 2) = t.val / 4 ∧ win0_1.index t (1 : Fin 2) = 0)
    ∧ (win0_2.index t (0 : Fin 2) = t.val % 4 ∧ win0_2.index t (1 : Fin 2) = t.val / 4) :=
  (by decide +kernel : ∀ t : Fin grid0.N, _)

theorem projB_left (t : Fin cfg0.N) (p : Fin 1024) (k : Fin 512) (q : Fin 4096) (l : Fin 512) (hq : q.val = t.val % 4 * 1024 + p.val) (hl : l.val = k.val) :
    iblk m c 0 t (ix2 p k) = V m c main_arg0 (ix2 q l) := by
  obtain ⟨⟨e0, e1⟩, -⟩ := projBPlaces t
  exact congrArg (V m c main_arg0) (at2 (show win0_0.index t (0 : Fin 2) * 1024 + 1 * p.val = q.val by omega)
    (show win0_0.index t (1 : Fin 2) * 512 + 1 * k.val = l.val by omega))

theorem projB_right (t : Fin cfg0.N) (p : Fin 512) (k : Fin 512) (q : Fin 2048) (l : Fin 512) (hq : q.val = t.val / 4 * 512 + p.val) (hl : l.val = k.val) :
    iblk m c 1 t (ix2 p k) = V m c main_arg1 (ix2 q l) := by
  obtain ⟨-, ⟨e0, e1⟩, -⟩ := projBPlaces t
  exact congrArg (V m c main_arg1) (at2 (show win0_1.index t (0 : Fin 2) * 512 + 1 * p.val = q.val by omega)
    (show win0_1.index t (1 : Fin 2) * 512 + 1 * k.val = l.val by omega))

theorem projB_tile (x : Vec Ideal S1024x512 .bf16) (w : Vec Ideal S512x512 .bf16) (p : Fin 1024) (j : Fin 512) :
    out0_2 (F := Ideal) x w (ix2 p j) = ∑ k : Fin 512, x (ix2 p k) * w (ix2 j k) := by
  unfold out0_2
  rw [View.canon_unit_zero corner]
  simp only [View.ld_unit_zero (S := S1024x512) corner, View.ld_unit_zero (S := S512x512) corner]
  pointwise [k0_pay1]

theorem projB_written (t : Fin cfg0.N) : (dats m 0 c).flushed 2 t = ((cfg0.win 2).blk t).view.read (Elt Ideal) (projB (V m c main_arg0) (V m c main_arg1)) := by
  rw [flushed2]
  funext y
  obtain ⟨p, j, rfl⟩ : ∃ (p : Fin 1024) (j : Fin 512), y = ix2 p j := ⟨y 0, y 1, eq_ix2 y⟩
  obtain ⟨-, -, ⟨e0, e1⟩⟩ := projBPlaces t
  have ht : t.val < 8 := lt_of_lt_of_eq t.isLt (show cfg0.N = 8 from N_0)
  have here : ((cfg0.win 2).blk t).view.emb (ix2 p j) = ix2 (⟨t.val % 4 * 1024 + p.val, by omega⟩ : Fin 4096) (⟨t.val / 4 * 512 + j.val, by omega⟩ : Fin 1024) :=
    at2 (show win0_2.index t (0 : Fin 2) * 1024 + 1 * p.val = t.val % 4 * 1024 + p.val by omega)
      (show win0_2.index t (1 : Fin 2) * 512 + 1 * j.val = t.val / 4 * 512 + j.val by omega)
  refine (projB_tile (iblk m c 0 t) (iblk m c 1 t) p j).trans ?_
  rw [View.read_apply, here]
  exact Finset.sum_congr rfl fun k _ => congrArg₂ (fun a b : EReal => a * b) (projB_left m c t p k ⟨t.val % 4 * 1024 + p.val, by omega⟩ k rfl rfl) (projB_right m c t j k ⟨(t.val / 4 * 512 + j.val), by omega⟩ k rfl rfl)

theorem projB_whole : (dats m 0 c).arrAt 2 cfg0.N = projB (V m c main_arg0) (V m c main_arg1) :=
  (dats m 0 c).arrAt_eq_of_cover 2 _ (fun t _ => projB_written m c t)
    (Pipeline.Window.Covers.cover _ (by decide +kernel) (Memref.isWhole_whole _))

end ProjB

theorem value_projB : Cert.algebraic_ProjBIdeal_ProjBRefIdeal := fun m g m' g' _ hx => by
  obtain ⟨h0, h1⟩ := hx 0
  refine ⟨_, Cert.ProjBIdeal.Value.run_blocks (F := Ideal) m g, (θ_run Cert.ProjBRefIdeal.defs _ _).mono (fun r h c => ?_)
    (Cert.ProjBRefIdeal.Value.run (F := Ideal) m' g')⟩
  obtain ⟨e0, e⟩ := h c
  obtain rfl : c = 0 := Subsingleton.elim _ _
  refine ⟨e0.trans ?_, e⟩
  rw [h0, h1, projB_whole]
  funext y
  obtain ⟨p, j, rfl⟩ : ∃ (p : Fin 4096) (j : Fin 1024), y = ix2 p j := ⟨y 0, y 1, eq_ix2 y⟩
  unfold projB byRow
  pointwise

def projC (a : Mat 4096 512) (b : Mat 2048 512) : Mat 4096 1024 := fun i => byRow a b (i 0) ⟨1024 + (i 1).val, lt_of_lt_of_le (show 1024 + (i 1).val < 2048 by have : (i 1).val < 1024 := (i 1).isLt; omega) (by decide)⟩

section ProjC

open Cert.ProjCIdeal Cert.ProjCIdeal.Gen Cert.ProjCIdeal.Value

variable (m : (ℓ : Loc nD τ sig) → Buf (Elt Ideal) ℓ) (c : Dev nD)

theorem projCPlaces : ∀ t : Fin cfg0.N, (win0_0.index t (0 : Fin 2) = t.val % 4 ∧ win0_0.index t (1 : Fin 2) = 0) ∧ (win0_1.index t (0 : Fin 2) = 2 + t.val / 4 ∧ win0_1.index t (1 : Fin 2) = 0)
    ∧ (win0_2.index t (0 : Fin 2) = t.val % 4 ∧ win0_2.index t (1 : Fin 2) = t.val / 4) :=
  (by decide +kernel : ∀ t : Fin grid0.N, _)

theorem projC_left (t : Fin cfg0.N) (p : Fin 1024) (k : Fin 512) (q : Fin 4096) (l : Fin 512) (hq : q.val = t.val % 4 * 1024 + p.val) (hl : l.val = k.val) :
    iblk m c 0 t (ix2 p k) = V m c main_arg0 (ix2 q l) := by
  obtain ⟨⟨e0, e1⟩, -⟩ := projCPlaces t
  exact congrArg (V m c main_arg0) (at2 (show win0_0.index t (0 : Fin 2) * 1024 + 1 * p.val = q.val by omega)
    (show win0_0.index t (1 : Fin 2) * 512 + 1 * k.val = l.val by omega))

theorem projC_right (t : Fin cfg0.N) (p : Fin 512) (k : Fin 512) (q : Fin 2048) (l : Fin 512) (hq : q.val = 1024 + t.val / 4 * 512 + p.val) (hl : l.val = k.val) :
    iblk m c 1 t (ix2 p k) = V m c main_arg1 (ix2 q l) := by
  obtain ⟨-, ⟨e0, e1⟩, -⟩ := projCPlaces t
  exact congrArg (V m c main_arg1) (at2 (show win0_1.index t (0 : Fin 2) * 512 + 1 * p.val = q.val by omega)
    (show win0_1.index t (1 : Fin 2) * 512 + 1 * k.val = l.val by omega))

theorem projC_tile (x : Vec Ideal S1024x512 .bf16) (w : Vec Ideal S512x512 .bf16) (p : Fin 1024) (j : Fin 512) :
    out0_2 (F := Ideal) x w (ix2 p j) = ∑ k : Fin 512, x (ix2 p k) * w (ix2 j k) := by
  unfold out0_2
  rw [View.canon_unit_zero corner]
  simp only [View.ld_unit_zero (S := S1024x512) corner, View.ld_unit_zero (S := S512x512) corner]
  pointwise [k0_pay1]

theorem projC_written (t : Fin cfg0.N) : (dats m 0 c).flushed 2 t = ((cfg0.win 2).blk t).view.read (Elt Ideal) (projC (V m c main_arg0) (V m c main_arg1)) := by
  rw [flushed2]
  funext y
  obtain ⟨p, j, rfl⟩ : ∃ (p : Fin 1024) (j : Fin 512), y = ix2 p j := ⟨y 0, y 1, eq_ix2 y⟩
  obtain ⟨-, -, ⟨e0, e1⟩⟩ := projCPlaces t
  have ht : t.val < 8 := lt_of_lt_of_eq t.isLt (show cfg0.N = 8 from N_0)
  have here : ((cfg0.win 2).blk t).view.emb (ix2 p j) = ix2 (⟨t.val % 4 * 1024 + p.val, by omega⟩ : Fin 4096) (⟨t.val / 4 * 512 + j.val, by omega⟩ : Fin 1024) :=
    at2 (show win0_2.index t (0 : Fin 2) * 1024 + 1 * p.val = t.val % 4 * 1024 + p.val by omega)
      (show win0_2.index t (1 : Fin 2) * 512 + 1 * j.val = t.val / 4 * 512 + j.val by omega)
  refine (projC_tile (iblk m c 0 t) (iblk m c 1 t) p j).trans ?_
  rw [View.read_apply, here]
  exact Finset.sum_congr rfl fun k _ => congrArg₂ (fun a b : EReal => a * b) (projC_left m c t p k ⟨t.val % 4 * 1024 + p.val, by omega⟩ k rfl rfl) (projC_right m c t j k ⟨1024 + (t.val / 4 * 512 + j.val), by omega⟩ k (by dsimp only; omega) rfl)

theorem projC_whole : (dats m 0 c).arrAt 2 cfg0.N = projC (V m c main_arg0) (V m c main_arg1) :=
  (dats m 0 c).arrAt_eq_of_cover 2 _ (fun t _ => projC_written m c t)
    (Pipeline.Window.Covers.cover _ (by decide +kernel) (Memref.isWhole_whole _))

end ProjC

theorem value_projC : Cert.algebraic_ProjCIdeal_ProjCRefIdeal := fun m g m' g' _ hx => by
  obtain ⟨h0, h1⟩ := hx 0
  refine ⟨_, Cert.ProjCIdeal.Value.run_blocks (F := Ideal) m g, (θ_run Cert.ProjCRefIdeal.defs _ _).mono (fun r h c => ?_)
    (Cert.ProjCRefIdeal.Value.run (F := Ideal) m' g')⟩
  obtain ⟨e0, e⟩ := h c
  obtain rfl : c = 0 := Subsingleton.elim _ _
  refine ⟨e0.trans ?_, e⟩
  rw [h0, h1, projC_whole]
  funext y
  obtain ⟨p, j, rfl⟩ : ∃ (p : Fin 4096) (j : Fin 1024), y = ix2 p j := ⟨y 0, y 1, eq_ix2 y⟩
  unfold projC byRow
  pointwise

def outward (a : Mat 4096 1024) (b : Mat 1024 1024) (x : Mat 4096 1024) : Mat 4096 1024 := fun i => x i + byCol a b (i 0) (i 1)

section Outward

open Cert.OutwardIdeal Cert.OutwardIdeal.Gen Cert.OutwardIdeal.Value

variable (m : (ℓ : Loc nD τ sig) → Buf (Elt Ideal) ℓ) (c : Dev nD)

theorem outwardPlaces : ∀ t : Fin cfg0.N, (win0_0.index t (0 : Fin 2) = t.val % 8 ∧ win0_0.index t (1 : Fin 2) = 0) ∧ (win0_1.index t (0 : Fin 2) = 0 ∧ win0_1.index t (1 : Fin 2) = t.val / 8)
    ∧ (win0_2.index t (0 : Fin 2) = t.val % 8 ∧ win0_2.index t (1 : Fin 2) = t.val / 8)
    ∧ (win0_3.index t (0 : Fin 2) = t.val % 8 ∧ win0_3.index t (1 : Fin 2) = t.val / 8) :=
  (by decide +kernel : ∀ t : Fin grid0.N, _)

theorem outward_left (t : Fin cfg0.N) (p : Fin 512) (k : Fin 1024) (q : Fin 4096) (l : Fin 1024) (hq : q.val = t.val % 8 * 512 + p.val) (hl : l.val = k.val) :
    iblk m c 0 t (ix2 p k) = V m c main_arg0 (ix2 q l) := by
  obtain ⟨⟨e0, e1⟩, -⟩ := outwardPlaces t
  exact congrArg (V m c main_arg0) (at2 (show win0_0.index t (0 : Fin 2) * 512 + 1 * p.val = q.val by omega)
    (show win0_0.index t (1 : Fin 2) * 1024 + 1 * k.val = l.val by omega))

theorem outward_right (t : Fin cfg0.N) (p : Fin 1024) (k : Fin 512) (q : Fin 1024) (l : Fin 1024) (hq : q.val = p.val) (hl : l.val = t.val / 8 * 512 + k.val) :
    iblk m c 1 t (ix2 p k) = V m c main_arg1 (ix2 q l) := by
  obtain ⟨-, ⟨e0, e1⟩, -⟩ := outwardPlaces t
  exact congrArg (V m c main_arg1) (at2 (show win0_1.index t (0 : Fin 2) * 1024 + 1 * p.val = q.val by omega)
    (show win0_1.index t (1 : Fin 2) * 512 + 1 * k.val = l.val by omega))

theorem outward_onto (t : Fin cfg0.N) (p : Fin 512) (k : Fin 512) (q : Fin 4096) (l : Fin 1024) (hq : q.val = t.val % 8 * 512 + p.val) (hl : l.val = t.val / 8 * 512 + k.val) :
    iblk m c 2 t (ix2 p k) = V m c main_arg2 (ix2 q l) := by
  obtain ⟨-, -, ⟨e0, e1⟩, -⟩ := outwardPlaces t
  exact congrArg (V m c main_arg2) (at2 (show win0_2.index t (0 : Fin 2) * 512 + 1 * p.val = q.val by omega)
    (show win0_2.index t (1 : Fin 2) * 512 + 1 * k.val = l.val by omega))

theorem outward_tile (x : Vec Ideal S512x1024 .bf16) (w : Vec Ideal S1024x512 .bf16) (r : Vec Ideal S512x512 .f32) (p : Fin 512) (j : Fin 512) :
    out0_3 (F := Ideal) x w r (ix2 p j) = r (ix2 p j) + ∑ k : Fin 1024, x (ix2 p k) * w (ix2 k j) := by
  unfold out0_3
  rw [View.canon_unit_zero corner]
  simp only [View.ld_unit_zero (S := S512x1024) corner, View.ld_unit_zero (S := S1024x512) corner, View.ld_unit_zero (S := S512x512) corner]
  pointwise [k0_pay1]

theorem outward_written (t : Fin cfg0.N) : (dats m 0 c).flushed 3 t = ((cfg0.win 3).blk t).view.read (Elt Ideal) (outward (V m c main_arg0) (V m c main_arg1) (V m c main_arg2)) := by
  rw [flushed3]
  funext y
  obtain ⟨p, j, rfl⟩ : ∃ (p : Fin 512) (j : Fin 512), y = ix2 p j := ⟨y 0, y 1, eq_ix2 y⟩
  obtain ⟨-, -, -, ⟨e0, e1⟩⟩ := outwardPlaces t
  have ht : t.val < 16 := lt_of_lt_of_eq t.isLt (show cfg0.N = 16 from N_0)
  have here : ((cfg0.win 3).blk t).view.emb (ix2 p j) = ix2 (⟨t.val % 8 * 512 + p.val, by omega⟩ : Fin 4096) (⟨t.val / 8 * 512 + j.val, by omega⟩ : Fin 1024) :=
    at2 (show win0_3.index t (0 : Fin 2) * 512 + 1 * p.val = t.val % 8 * 512 + p.val by omega)
      (show win0_3.index t (1 : Fin 2) * 512 + 1 * j.val = t.val / 8 * 512 + j.val by omega)
  refine (outward_tile (iblk m c 0 t) (iblk m c 1 t) (iblk m c 2 t) p j).trans ?_
  rw [View.read_apply, here]
  exact congrArg₂ (· + ·) (outward_onto m c t p j ⟨t.val % 8 * 512 + p.val, by omega⟩ ⟨t.val / 8 * 512 + j.val, by omega⟩ rfl rfl) (Finset.sum_congr rfl fun k _ => congrArg₂ (fun a b : EReal => a * b) (outward_left m c t p k ⟨t.val % 8 * 512 + p.val, by omega⟩ k rfl rfl) (outward_right m c t k j ⟨k.val, by omega⟩ ⟨t.val / 8 * 512 + j.val, by omega⟩ rfl rfl))

theorem outward_whole : (dats m 0 c).arrAt 3 cfg0.N = outward (V m c main_arg0) (V m c main_arg1) (V m c main_arg2) :=
  (dats m 0 c).arrAt_eq_of_cover 3 _ (fun t _ => outward_written m c t)
    (Pipeline.Window.Covers.cover _ (by decide +kernel) (Memref.isWhole_whole _))

end Outward

theorem value_outward : Cert.algebraic_OutwardIdeal_OutwardRefIdeal := fun m g m' g' _ hx => by
  obtain ⟨h0, h1, h2⟩ := hx 0
  refine ⟨_, Cert.OutwardIdeal.Value.run_blocks (F := Ideal) m g, (θ_run Cert.OutwardRefIdeal.defs _ _).mono (fun r h c => ?_)
    (Cert.OutwardRefIdeal.Value.run (F := Ideal) m' g')⟩
  obtain ⟨e0, e⟩ := h c
  obtain rfl : c = 0 := Subsingleton.elim _ _
  refine ⟨e0.trans ?_, e⟩
  rw [h0, h1, h2, outward_whole]
  funext y
  obtain ⟨p, j, rfl⟩ : ∃ (p : Fin 4096) (j : Fin 1024), y = ix2 p j := ⟨y 0, y 1, eq_ix2 y⟩
  unfold outward byCol
  pointwise

def dmerged (a : Mat 4096 1024) (b : Mat 1024 1024) : Mat 4096 1024 := fun i => byRow a b (i 0) ⟨(i 1).val, lt_of_lt_of_le (show (i 1).val < 1024 by have : (i 1).val < 1024 := (i 1).isLt; omega) (by decide)⟩

section Dmerged

open Cert.DmergedIdeal Cert.DmergedIdeal.Gen Cert.DmergedIdeal.Value

variable (m : (ℓ : Loc nD τ sig) → Buf (Elt Ideal) ℓ) (c : Dev nD)

theorem dmergedPlaces : ∀ t : Fin cfg0.N, (win0_0.index t (0 : Fin 2) = t.val % 8 ∧ win0_0.index t (1 : Fin 2) = 0) ∧ (win0_1.index t (0 : Fin 2) = t.val / 8 ∧ win0_1.index t (1 : Fin 2) = 0)
    ∧ (win0_2.index t (0 : Fin 2) = t.val % 8 ∧ win0_2.index t (1 : Fin 2) = t.val / 8) :=
  (by decide +kernel : ∀ t : Fin grid0.N, _)

theorem dmerged_left (t : Fin cfg0.N) (p : Fin 512) (k : Fin 1024) (q : Fin 4096) (l : Fin 1024) (hq : q.val = t.val % 8 * 512 + p.val) (hl : l.val = k.val) :
    iblk m c 0 t (ix2 p k) = V m c main_arg0 (ix2 q l) := by
  obtain ⟨⟨e0, e1⟩, -⟩ := dmergedPlaces t
  exact congrArg (V m c main_arg0) (at2 (show win0_0.index t (0 : Fin 2) * 512 + 1 * p.val = q.val by omega)
    (show win0_0.index t (1 : Fin 2) * 1024 + 1 * k.val = l.val by omega))

theorem dmerged_right (t : Fin cfg0.N) (p : Fin 512) (k : Fin 1024) (q : Fin 1024) (l : Fin 1024) (hq : q.val = t.val / 8 * 512 + p.val) (hl : l.val = k.val) :
    iblk m c 1 t (ix2 p k) = V m c main_arg1 (ix2 q l) := by
  obtain ⟨-, ⟨e0, e1⟩, -⟩ := dmergedPlaces t
  exact congrArg (V m c main_arg1) (at2 (show win0_1.index t (0 : Fin 2) * 512 + 1 * p.val = q.val by omega)
    (show win0_1.index t (1 : Fin 2) * 1024 + 1 * k.val = l.val by omega))

theorem dmerged_tile (x : Vec Ideal S512x1024 .f32) (w : Vec Ideal S512x1024 .bf16) (p : Fin 512) (j : Fin 512) :
    out0_2 (F := Ideal) x w (ix2 p j) = ∑ k : Fin 1024, x (ix2 p k) * w (ix2 j k) := by
  unfold out0_2
  rw [View.canon_unit_zero corner]
  simp only [View.ld_unit_zero (S := S512x1024) corner]
  pointwise [k0_pay1]

theorem dmerged_written (t : Fin cfg0.N) : (dats m 0 c).flushed 2 t = ((cfg0.win 2).blk t).view.read (Elt Ideal) (dmerged (V m c main_arg0) (V m c main_arg1)) := by
  rw [flushed2]
  funext y
  obtain ⟨p, j, rfl⟩ : ∃ (p : Fin 512) (j : Fin 512), y = ix2 p j := ⟨y 0, y 1, eq_ix2 y⟩
  obtain ⟨-, -, ⟨e0, e1⟩⟩ := dmergedPlaces t
  have ht : t.val < 16 := lt_of_lt_of_eq t.isLt (show cfg0.N = 16 from N_0)
  have here : ((cfg0.win 2).blk t).view.emb (ix2 p j) = ix2 (⟨t.val % 8 * 512 + p.val, by omega⟩ : Fin 4096) (⟨t.val / 8 * 512 + j.val, by omega⟩ : Fin 1024) :=
    at2 (show win0_2.index t (0 : Fin 2) * 512 + 1 * p.val = t.val % 8 * 512 + p.val by omega)
      (show win0_2.index t (1 : Fin 2) * 512 + 1 * j.val = t.val / 8 * 512 + j.val by omega)
  refine (dmerged_tile (iblk m c 0 t) (iblk m c 1 t) p j).trans ?_
  rw [View.read_apply, here]
  exact Finset.sum_congr rfl fun k _ => congrArg₂ (fun a b : EReal => a * b) (dmerged_left m c t p k ⟨t.val % 8 * 512 + p.val, by omega⟩ k rfl rfl) (dmerged_right m c t j k ⟨(t.val / 8 * 512 + j.val), by omega⟩ k rfl rfl)

theorem dmerged_whole : (dats m 0 c).arrAt 2 cfg0.N = dmerged (V m c main_arg0) (V m c main_arg1) :=
  (dats m 0 c).arrAt_eq_of_cover 2 _ (fun t _ => dmerged_written m c t)
    (Pipeline.Window.Covers.cover _ (by decide +kernel) (Memref.isWhole_whole _))

end Dmerged

theorem value_dmerged : Cert.algebraic_DmergedIdeal_DmergedRefIdeal := fun m g m' g' _ hx => by
  obtain ⟨h0, h1⟩ := hx 0
  refine ⟨_, Cert.DmergedIdeal.Value.run_blocks (F := Ideal) m g, (θ_run Cert.DmergedRefIdeal.defs _ _).mono (fun r h c => ?_)
    (Cert.DmergedRefIdeal.Value.run (F := Ideal) m' g')⟩
  obtain ⟨e0, e⟩ := h c
  obtain rfl : c = 0 := Subsingleton.elim _ _
  refine ⟨e0.trans ?_, e⟩
  rw [h0, h1, dmerged_whole]
  funext y
  obtain ⟨p, j, rfl⟩ : ∃ (p : Fin 4096) (j : Fin 1024), y = ix2 p j := ⟨y 0, y 1, eq_ix2 y⟩
  unfold dmerged byRow
  pointwise

def dya (a : Mat 4096 1024) (b : Mat 1024 256) : Mat 4096 256 := fun i => byCol a b (i 0) (i 1)

section Dya

open Cert.DyaIdeal Cert.DyaIdeal.Gen Cert.DyaIdeal.Value

variable (m : (ℓ : Loc nD τ sig) → Buf (Elt Ideal) ℓ) (c : Dev nD)

theorem dyaPlaces : ∀ t : Fin cfg0.N, (win0_0.index t (0 : Fin 2) = t.val % 4 ∧ win0_0.index t (1 : Fin 2) = 0) ∧ (win0_1.index t (0 : Fin 2) = 0 ∧ win0_1.index t (1 : Fin 2) = 0)
    ∧ (win0_2.index t (0 : Fin 2) = t.val % 4 ∧ win0_2.index t (1 : Fin 2) = 0) :=
  (by decide +kernel : ∀ t : Fin grid0.N, _)

theorem dya_left (t : Fin cfg0.N) (p : Fin 1024) (k : Fin 1024) (q : Fin 4096) (l : Fin 1024) (hq : q.val = t.val % 4 * 1024 + p.val) (hl : l.val = k.val) :
    iblk m c 0 t (ix2 p k) = V m c main_arg0 (ix2 q l) := by
  obtain ⟨⟨e0, e1⟩, -⟩ := dyaPlaces t
  exact congrArg (V m c main_arg0) (at2 (show win0_0.index t (0 : Fin 2) * 1024 + 1 * p.val = q.val by omega)
    (show win0_0.index t (1 : Fin 2) * 1024 + 1 * k.val = l.val by omega))

theorem dya_right (t : Fin cfg0.N) (p : Fin 1024) (k : Fin 256) (q : Fin 1024) (l : Fin 256) (hq : q.val = p.val) (hl : l.val = k.val) :
    iblk m c 1 t (ix2 p k) = V m c main_arg1 (ix2 q l) := by
  obtain ⟨-, ⟨e0, e1⟩, -⟩ := dyaPlaces t
  exact congrArg (V m c main_arg1) (at2 (show win0_1.index t (0 : Fin 2) * 1024 + 1 * p.val = q.val by omega)
    (show win0_1.index t (1 : Fin 2) * 256 + 1 * k.val = l.val by omega))

theorem dya_tile (x : Vec Ideal S1024x1024 .bf16) (w : Vec Ideal S1024x256 .bf16) (p : Fin 1024) (j : Fin 256) :
    out0_2 (F := Ideal) x w (ix2 p j) = ∑ k : Fin 1024, x (ix2 p k) * w (ix2 k j) := by
  unfold out0_2
  rw [View.canon_unit_zero corner]
  simp only [View.ld_unit_zero (S := S1024x1024) corner, View.ld_unit_zero (S := S1024x256) corner]
  pointwise [k0_pay1]

theorem dya_written (t : Fin cfg0.N) : (dats m 0 c).flushed 2 t = ((cfg0.win 2).blk t).view.read (Elt Ideal) (dya (V m c main_arg0) (V m c main_arg1)) := by
  rw [flushed2]
  funext y
  obtain ⟨p, j, rfl⟩ : ∃ (p : Fin 1024) (j : Fin 256), y = ix2 p j := ⟨y 0, y 1, eq_ix2 y⟩
  obtain ⟨-, -, ⟨e0, e1⟩⟩ := dyaPlaces t
  have ht : t.val < 4 := lt_of_lt_of_eq t.isLt (show cfg0.N = 4 from N_0)
  have here : ((cfg0.win 2).blk t).view.emb (ix2 p j) = ix2 (⟨t.val % 4 * 1024 + p.val, by omega⟩ : Fin 4096) (⟨j.val, by omega⟩ : Fin 256) :=
    at2 (show win0_2.index t (0 : Fin 2) * 1024 + 1 * p.val = t.val % 4 * 1024 + p.val by omega)
      (show win0_2.index t (1 : Fin 2) * 256 + 1 * j.val = j.val by omega)
  refine (dya_tile (iblk m c 0 t) (iblk m c 1 t) p j).trans ?_
  rw [View.read_apply, here]
  exact Finset.sum_congr rfl fun k _ => congrArg₂ (fun a b : EReal => a * b) (dya_left m c t p k ⟨t.val % 4 * 1024 + p.val, by omega⟩ k rfl rfl) (dya_right m c t k j ⟨k.val, by omega⟩ ⟨j.val, by omega⟩ rfl rfl)

theorem dya_whole : (dats m 0 c).arrAt 2 cfg0.N = dya (V m c main_arg0) (V m c main_arg1) :=
  (dats m 0 c).arrAt_eq_of_cover 2 _ (fun t _ => dya_written m c t)
    (Pipeline.Window.Covers.cover _ (by decide +kernel) (Memref.isWhole_whole _))

end Dya

theorem value_dya : Cert.algebraic_DyaIdeal_DyaRefIdeal := fun m g m' g' _ hx => by
  obtain ⟨h0, h1⟩ := hx 0
  refine ⟨_, Cert.DyaIdeal.Value.run_blocks (F := Ideal) m g, (θ_run Cert.DyaRefIdeal.defs _ _).mono (fun r h c => ?_)
    (Cert.DyaRefIdeal.Value.run (F := Ideal) m' g')⟩
  obtain ⟨e0, e⟩ := h c
  obtain rfl : c = 0 := Subsingleton.elim _ _
  refine ⟨e0.trans ?_, e⟩
  rw [h0, h1, dya_whole]
  funext y
  obtain ⟨p, j, rfl⟩ : ∃ (p : Fin 4096) (j : Fin 256), y = ix2 p j := ⟨y 0, y 1, eq_ix2 y⟩
  unfold dya byCol
  pointwise

def dyb (a : Mat 4096 1024) (b : Mat 2048 512) : Mat 4096 512 := fun i => ∑ k : Fin 1024, a (ix2 (i 0) k) * b (ix2 (⟨k.val, by omega⟩ : Fin 2048) (i 1))

section Dyb

open Cert.DybIdeal Cert.DybIdeal.Gen Cert.DybIdeal.Value

variable (m : (ℓ : Loc nD τ sig) → Buf (Elt Ideal) ℓ) (c : Dev nD)

theorem dybPlaces : ∀ t : Fin cfg0.N, (win0_0.index t (0 : Fin 2) = t.val % 4 ∧ win0_0.index t (1 : Fin 2) = 0) ∧ (win0_1.index t (0 : Fin 2) = 0 ∧ win0_1.index t (1 : Fin 2) = 0)
    ∧ (win0_2.index t (0 : Fin 2) = t.val % 4 ∧ win0_2.index t (1 : Fin 2) = 0) :=
  (by decide +kernel : ∀ t : Fin grid0.N, _)

theorem dyb_left (t : Fin cfg0.N) (p : Fin 1024) (k : Fin 1024) (q : Fin 4096) (l : Fin 1024) (hq : q.val = t.val % 4 * 1024 + p.val) (hl : l.val = k.val) :
    iblk m c 0 t (ix2 p k) = V m c main_arg0 (ix2 q l) := by
  obtain ⟨⟨e0, e1⟩, -⟩ := dybPlaces t
  exact congrArg (V m c main_arg0) (at2 (show win0_0.index t (0 : Fin 2) * 1024 + 1 * p.val = q.val by omega)
    (show win0_0.index t (1 : Fin 2) * 1024 + 1 * k.val = l.val by omega))

theorem dyb_right (t : Fin cfg0.N) (p : Fin 1024) (k : Fin 512) (q : Fin 2048) (l : Fin 512) (hq : q.val = p.val) (hl : l.val = k.val) :
    iblk m c 1 t (ix2 p k) = V m c main_arg1 (ix2 q l) := by
  obtain ⟨-, ⟨e0, e1⟩, -⟩ := dybPlaces t
  exact congrArg (V m c main_arg1) (at2 (show win0_1.index t (0 : Fin 2) * 1024 + 1 * p.val = q.val by omega)
    (show win0_1.index t (1 : Fin 2) * 512 + 1 * k.val = l.val by omega))

theorem dyb_tile (x : Vec Ideal S1024x1024 .bf16) (w : Vec Ideal S1024x512 .bf16) (p : Fin 1024) (j : Fin 512) :
    out0_2 (F := Ideal) x w (ix2 p j) = ∑ k : Fin 1024, x (ix2 p k) * w (ix2 k j) := by
  unfold out0_2
  rw [View.canon_unit_zero corner]
  simp only [View.ld_unit_zero (S := S1024x1024) corner, View.ld_unit_zero (S := S1024x512) corner]
  pointwise [k0_pay1]

theorem dyb_written (t : Fin cfg0.N) : (dats m 0 c).flushed 2 t = ((cfg0.win 2).blk t).view.read (Elt Ideal) (dyb (V m c main_arg0) (V m c main_arg1)) := by
  rw [flushed2]
  funext y
  obtain ⟨p, j, rfl⟩ : ∃ (p : Fin 1024) (j : Fin 512), y = ix2 p j := ⟨y 0, y 1, eq_ix2 y⟩
  obtain ⟨-, -, ⟨e0, e1⟩⟩ := dybPlaces t
  have ht : t.val < 4 := lt_of_lt_of_eq t.isLt (show cfg0.N = 4 from N_0)
  have here : ((cfg0.win 2).blk t).view.emb (ix2 p j) = ix2 (⟨t.val % 4 * 1024 + p.val, by omega⟩ : Fin 4096) (⟨j.val, by omega⟩ : Fin 512) :=
    at2 (show win0_2.index t (0 : Fin 2) * 1024 + 1 * p.val = t.val % 4 * 1024 + p.val by omega)
      (show win0_2.index t (1 : Fin 2) * 512 + 1 * j.val = j.val by omega)
  refine (dyb_tile (iblk m c 0 t) (iblk m c 1 t) p j).trans ?_
  rw [View.read_apply, here]
  exact Finset.sum_congr rfl fun k _ => congrArg₂ (fun a b : EReal => a * b) (dyb_left m c t p k ⟨t.val % 4 * 1024 + p.val, by omega⟩ k rfl rfl) (dyb_right m c t k j ⟨k.val, by omega⟩ ⟨j.val, by omega⟩ rfl rfl)

theorem dyb_whole : (dats m 0 c).arrAt 2 cfg0.N = dyb (V m c main_arg0) (V m c main_arg1) :=
  (dats m 0 c).arrAt_eq_of_cover 2 _ (fun t _ => dyb_written m c t)
    (Pipeline.Window.Covers.cover _ (by decide +kernel) (Memref.isWhole_whole _))

end Dyb

theorem value_dyb : Cert.algebraic_DybIdeal_DybRefIdeal := fun m g m' g' _ hx => by
  obtain ⟨h0, h1⟩ := hx 0
  refine ⟨_, Cert.DybIdeal.Value.run_blocks (F := Ideal) m g, (θ_run Cert.DybRefIdeal.defs _ _).mono (fun r h c => ?_)
    (Cert.DybRefIdeal.Value.run (F := Ideal) m' g')⟩
  obtain ⟨e0, e⟩ := h c
  obtain rfl : c = 0 := Subsingleton.elim _ _
  refine ⟨e0.trans ?_, e⟩
  rw [h0, h1, dyb_whole]
  funext y
  obtain ⟨p, j, rfl⟩ : ∃ (p : Fin 4096) (j : Fin 512), y = ix2 p j := ⟨y 0, y 1, eq_ix2 y⟩
  unfold dyb
  pointwise

def dyc (a : Mat 4096 1024) (b : Mat 2048 512) : Mat 4096 512 := fun i => ∑ k : Fin 1024, a (ix2 (i 0) k) * b (ix2 (⟨1024 + k.val, by omega⟩ : Fin 2048) (i 1))

section Dyc

open Cert.DycIdeal Cert.DycIdeal.Gen Cert.DycIdeal.Value

variable (m : (ℓ : Loc nD τ sig) → Buf (Elt Ideal) ℓ) (c : Dev nD)

theorem dycPlaces : ∀ t : Fin cfg0.N, (win0_0.index t (0 : Fin 2) = t.val % 4 ∧ win0_0.index t (1 : Fin 2) = 0) ∧ (win0_1.index t (0 : Fin 2) = 1 ∧ win0_1.index t (1 : Fin 2) = 0)
    ∧ (win0_2.index t (0 : Fin 2) = t.val % 4 ∧ win0_2.index t (1 : Fin 2) = 0) :=
  (by decide +kernel : ∀ t : Fin grid0.N, _)

theorem dyc_left (t : Fin cfg0.N) (p : Fin 1024) (k : Fin 1024) (q : Fin 4096) (l : Fin 1024) (hq : q.val = t.val % 4 * 1024 + p.val) (hl : l.val = k.val) :
    iblk m c 0 t (ix2 p k) = V m c main_arg0 (ix2 q l) := by
  obtain ⟨⟨e0, e1⟩, -⟩ := dycPlaces t
  exact congrArg (V m c main_arg0) (at2 (show win0_0.index t (0 : Fin 2) * 1024 + 1 * p.val = q.val by omega)
    (show win0_0.index t (1 : Fin 2) * 1024 + 1 * k.val = l.val by omega))

theorem dyc_right (t : Fin cfg0.N) (p : Fin 1024) (k : Fin 512) (q : Fin 2048) (l : Fin 512) (hq : q.val = 1024 + p.val) (hl : l.val = k.val) :
    iblk m c 1 t (ix2 p k) = V m c main_arg1 (ix2 q l) := by
  obtain ⟨-, ⟨e0, e1⟩, -⟩ := dycPlaces t
  exact congrArg (V m c main_arg1) (at2 (show win0_1.index t (0 : Fin 2) * 1024 + 1 * p.val = q.val by omega)
    (show win0_1.index t (1 : Fin 2) * 512 + 1 * k.val = l.val by omega))

theorem dyc_tile (x : Vec Ideal S1024x1024 .bf16) (w : Vec Ideal S1024x512 .bf16) (p : Fin 1024) (j : Fin 512) :
    out0_2 (F := Ideal) x w (ix2 p j) = ∑ k : Fin 1024, x (ix2 p k) * w (ix2 k j) := by
  unfold out0_2
  rw [View.canon_unit_zero corner]
  simp only [View.ld_unit_zero (S := S1024x1024) corner, View.ld_unit_zero (S := S1024x512) corner]
  pointwise [k0_pay1]

theorem dyc_written (t : Fin cfg0.N) : (dats m 0 c).flushed 2 t = ((cfg0.win 2).blk t).view.read (Elt Ideal) (dyc (V m c main_arg0) (V m c main_arg1)) := by
  rw [flushed2]
  funext y
  obtain ⟨p, j, rfl⟩ : ∃ (p : Fin 1024) (j : Fin 512), y = ix2 p j := ⟨y 0, y 1, eq_ix2 y⟩
  obtain ⟨-, -, ⟨e0, e1⟩⟩ := dycPlaces t
  have ht : t.val < 4 := lt_of_lt_of_eq t.isLt (show cfg0.N = 4 from N_0)
  have here : ((cfg0.win 2).blk t).view.emb (ix2 p j) = ix2 (⟨t.val % 4 * 1024 + p.val, by omega⟩ : Fin 4096) (⟨j.val, by omega⟩ : Fin 512) :=
    at2 (show win0_2.index t (0 : Fin 2) * 1024 + 1 * p.val = t.val % 4 * 1024 + p.val by omega)
      (show win0_2.index t (1 : Fin 2) * 512 + 1 * j.val = j.val by omega)
  refine (dyc_tile (iblk m c 0 t) (iblk m c 1 t) p j).trans ?_
  rw [View.read_apply, here]
  exact Finset.sum_congr rfl fun k _ => congrArg₂ (fun a b : EReal => a * b) (dyc_left m c t p k ⟨t.val % 4 * 1024 + p.val, by omega⟩ k rfl rfl) (dyc_right m c t k j ⟨1024 + k.val, by omega⟩ ⟨j.val, by omega⟩ rfl rfl)

theorem dyc_whole : (dats m 0 c).arrAt 2 cfg0.N = dyc (V m c main_arg0) (V m c main_arg1) :=
  (dats m 0 c).arrAt_eq_of_cover 2 _ (fun t _ => dyc_written m c t)
    (Pipeline.Window.Covers.cover _ (by decide +kernel) (Memref.isWhole_whole _))

end Dyc

theorem value_dyc : Cert.algebraic_DycIdeal_DycRefIdeal := fun m g m' g' _ hx => by
  obtain ⟨h0, h1⟩ := hx 0
  refine ⟨_, Cert.DycIdeal.Value.run_blocks (F := Ideal) m g, (θ_run Cert.DycRefIdeal.defs _ _).mono (fun r h c => ?_)
    (Cert.DycRefIdeal.Value.run (F := Ideal) m' g')⟩
  obtain ⟨e0, e⟩ := h c
  obtain rfl : c = 0 := Subsingleton.elim _ _
  refine ⟨e0.trans ?_, e⟩
  rw [h0, h1, dyc_whole]
  funext y
  obtain ⟨p, j, rfl⟩ : ∃ (p : Fin 4096) (j : Fin 512), y = ix2 p j := ⟨y 0, y 1, eq_ix2 y⟩
  unfold dyc
  pointwise

end Cert.Values
-- ==== Proof.Weigh.lean ====
/-
# Gradients of weights

The product of one matrix's columns with another's, summed down 4096 rows, and where its entries go: the rows of the
product, in order, are the rows of the eight devices' parts of one array after another.
-/
module

public import proofs.«01_k».proof.Proof.Product
public import proofs.«01_k».proof.Proof.Norm

@[expose] public section

noncomputable section

namespace Cert.Weigh

open Idealize.ShloMosaic
open Cert.Product

/-- Arrays of eight devices' parts. -/
abbrev Stack (P r n : Nat) := (⟨4, ![P, 8, r, n]⟩ : Shape).Idx → EReal

theorem at4 {P q r n : Nat} {i : (⟨4, ![P, q, r, n]⟩ : Shape).Idx} {a : Fin P} {d : Fin q} {p : Fin r} {j : Fin n}
    (h0 : (i 0).val = a.val) (h1 : (i 1).val = d.val) (h2 : (i 2).val = p.val) (h3 : (i 3).val = j.val) : i = ix4 a d p j := by
  funext a; apply Fin.ext
  match a with
  | ⟨0, _⟩ => exact h0
  | ⟨1, _⟩ => exact h1
  | ⟨2, _⟩ => exact h2
  | ⟨3, _⟩ => exact h3

/-- What a row adds to an entry, and the entry. -/
def term {M N : Nat} (a : Mat 4096 M) (b : Mat 4096 N) (q : Fin M) (l : Fin N) : Fin 4096 → EReal := fun k => a (ix2 k q) * b (ix2 k l)
def entry {M N : Nat} (a : Mat 4096 M) (b : Mat 4096 N) (q : Fin M) (l : Fin N) : EReal := ∑ k, term a b q l k

/-- The row of the product that array `a`, device `d`, row `p` is, where the first array is `first`. -/
def place {M : Nat} [NeZero M] (first r a d p : Nat) : Fin M := Fin.ofNat M (((a - first) * 8 + d) * r + p)

/-- The entry at its place. -/
def spread {P r n M : Nat} [NeZero M] (first : Nat) (a : Mat 4096 M) (b : Mat 4096 n) : Stack P r n :=
  fun i => entry a b (place first r (i 0).val (i 1).val (i 2).val) (i 3)

theorem place_val {M : Nat} [NeZero M] {first r a d p : Nat} (h : ((a - first) * 8 + d) * r + p < M) :
    (place (M := M) first r a d p).val = ((a - first) * 8 + d) * r + p := Nat.mod_eq_of_lt h

/-- A store over the whole of a matrix, read back. -/
theorem read_back {sig : RefSig} {κ : Kind} {sp : Space} {S : Shape} (v : View sig κ sp S .f32) {o : Fin S.rank → Nat} (h : o = fun _ => 0)
    (inb : ∀ a, o a + S.size a ≤ S.size a) (X : Vec Ideal S .f32) (r : Rect S) :
    v.readCov (Val := Elt Ideal) [⟨Rect.unit o S.size inb, X⟩] r.toLoadRect = View.ld (Val := Elt Ideal) (e' := .f32) X r := by
  have all : ∀ y, ∃ p ∈ ([⟨Rect.unit o S.size inb, X⟩] : List (View.Piece (Elt Ideal) S .f32)), y ∈ p.1.set :=
    fun y => ⟨_, List.mem_cons_self, View.mem_set_unit_zero h inb y⟩
  rw [View.readCov_eq_canon_ld _ _ _ all, View.canon_unit_zero h]

/-- A matrix's rows as `q` parts, each entry through `f`. -/
def parts {q r m n : Nat} [NeZero m] (f : EReal → EReal) (X : Mat m n) : (⟨4, ![1, q, r, n]⟩ : Shape).Idx → EReal :=
  fun i => f (X (ix2 (Fin.ofNat m ((i 1).val * r + (i 2).val)) (i 3)))

/-- A part's store, of the rows it reads. -/
theorem piece {q r m n : Nat} [NeZero m] {f : EReal → EReal} {pay : Vec Ideal ⟨2, ![r, n]⟩ .f32 → Vec Ideal ⟨4, ![1, 1, r, n]⟩ .bf16}
    (hpay : ∀ v p j, pay v (ix4 (0 : Fin 1) (0 : Fin 1) p j) = f (v (ix2 p j))) (X : Vec Ideal ⟨2, ![m, n]⟩ .f32) (e o : Nat) (ho : o = e * r)
    (inb : ∀ a, (![o, 0] : Fin 2 → Nat) a + (![r, n] : Fin 2 → Nat) a ≤ (⟨2, ![m, n]⟩ : Shape).size a)
    (inb' : ∀ a, (![0, e, 0, 0] : Fin 4 → Nat) a + (![1, 1, r, n] : Fin 4 → Nat) a ≤ (⟨4, ![1, q, r, n]⟩ : Shape).size a)
    (y : (⟨4, ![1, 1, r, n]⟩ : Shape).Idx) :
    pay (View.ld (Val := Elt Ideal) (e' := .f32) X (Rect.unit (s := ⟨2, ![m, n]⟩) ![o, 0] ![r, n] inb)) y
      = parts (q := q) f X ((Rect.unit (s := ⟨4, ![1, q, r, n]⟩) ![0, e, 0, 0] ![1, 1, r, n] inb').emb y) := by
  obtain ⟨a, b, p, j, rfl⟩ : ∃ (a : Fin 1) (b : Fin 1) (p : Fin r) (j : Fin n), y = ix4 a b p j := ⟨y 0, y 1, y 2, y 3, eq_ix4 y⟩
  obtain rfl : a = 0 := Subsingleton.elim _ _
  obtain rfl : b = 0 := Subsingleton.elim _ _
  have hm : o + r ≤ m := inb 0
  refine (hpay _ p j).trans (congrArg f (congrArg X (at2 ?_ ?_)))
  · show o + 1 * p.val = ((e + 1 * 0) * r + (0 + 1 * p.val)) % m
    have hp := p.isLt
    simp only [Nat.mul_zero, Nat.add_zero, Nat.one_mul, Nat.zero_add, ← ho]
    exact (Nat.mod_eq_of_lt (by omega)).symm
  · show 0 + 1 * j.val = 0 + 1 * j.val
    rfl

/-- A sum taken tile by tile: the first tile starts it, each next one adds to it. -/
theorem taken {N : Nat} (S : (n : ℕ) → n < N → EReal) (g : Fin 4096 → EReal) (s : ℕ)
    (first : ∀ h, S (8 * s) h = Norm.tile g 0) (next : ∀ k, k < 6 → ∀ h h', S (8 * s + (k + 1)) h = S (8 * s + k) h' + Norm.tile g (k + 1)) :
    ∀ k, k < 7 → ∀ h, S (8 * s + k) h = ∑ t ∈ Finset.range (k + 1), Norm.tile g t
  | 0, _, h => by rw [Finset.sum_range_one]; exact first h
  | k + 1, hk, h => by
    rw [Finset.sum_range_succ, next k (by omega) h (lt_of_le_of_lt (by omega) h)]
    exact congrArg (fun z : EReal => z + Norm.tile g (k + 1)) (taken S g s first next k (by omega) _)

/-- The last tile completes it. -/
theorem taken_all {z : EReal} {g : Fin 4096 → EReal} (h : z = ∑ t ∈ Finset.range 7, Norm.tile g t) : z + Norm.tile g 7 = ∑ k, g k := by
  rw [h, ← Norm.sum_tiles g]
  exact (Finset.sum_range_succ _ 7).symm

/-- The arrays from `first` on, `count` of them, are the product's rows through `f`; the others stay. -/
def weighed {P r n M : Nat} [NeZero M] (first count : Nat) (f : EReal → EReal) (a : Mat 4096 M) (b : Mat 4096 n) (old : Stack P r n) : Stack P r n :=
  fun i => if first ≤ (i 0).val ∧ (i 0).val < first + count then f (spread first a b i) else old i

theorem weighed_new {P r n M : Nat} [NeZero M] {first count : Nat} {f : EReal → EReal} {a : Mat 4096 M} {b : Mat 4096 n} {old : Stack P r n} {q : Fin P} {d : Fin 8} {p : Fin r} {j : Fin n}
    (h : first ≤ q.val ∧ q.val < first + count) (l : Fin M) (hl : l.val = ((q.val - first) * 8 + d.val) * r + p.val) :
    weighed first count f a b old (ix4 q d p j) = f (∑ k : Fin 4096, a (ix2 k l) * b (ix2 k j)) := by
  obtain rfl : place (M := M) first r q.val d.val p.val = l := Fin.ext ((place_val (hl ▸ l.isLt)).trans hl.symm)
  exact if_pos h

theorem weighed_old {P r n M : Nat} [NeZero M] {first count : Nat} {f : EReal → EReal} {a : Mat 4096 M} {b : Mat 4096 n} {old : Stack P r n} {q : Fin P} {d : Fin 8} {p : Fin r} {j : Fin n}
    (h : ¬(first ≤ q.val ∧ q.val < first + count)) : weighed first count f a b old (ix4 q d p j) = old (ix4 q d p j) := if_neg h

/-- Half of an entry. -/
def halved (v : EReal) : EReal := v * half

/-- A matrix's rows laid out as arrays of parts. -/
theorem parted {P r n M : Nat} (Z : (⟨2, ![M, n]⟩ : Shape).Idx → EReal) (h : (⟨2, ![M, n]⟩ : Shape).ShapeCasts ⟨4, ![P, 8, r, n]⟩) (a : Fin P) (d : Fin 8) (p : Fin r) (j : Fin n)
    (l : Fin M) (hl : l.val = (a.val * 8 + d.val) * r + p.val) : shapeCast (⟨4, ![P, 8, r, n]⟩ : Shape) Z h (ix4 a d p j) = Z (ix2 l j) :=
  shapeCast_apply _ h _ _ (by
    rw [Shape.rowMajor_val_four, Shape.rowMajor_val_two]
    show l.val * n + j.val = ((a.val * 8 + d.val) * r + p.val) * n + j.val
    rw [hl])

end Cert.Weigh
-- ==== Proof.WeighValue.lean ====
/-
# The gradients of weights before the exchange

Each call multiplies one matrix's columns with another's tile by tile down the rows, adding up, and stores the sum's
rows as the devices' parts in one array of the stack, or two. The other arrays stay what they were.
-/
module

public import proofs.«01_k».proof.Defs
public import proofs.«01_k».proof.Proof.Weigh
public import Idealize.ShloMosaic.Lib.Pipeline.ValueKit.Partial
public import proofs.«01_k».proof.Proof.Gen.WgOutIdeal.Value
public import proofs.«01_k».proof.Proof.Gen.WgOutRefIdeal.Run
public import proofs.«01_k».proof.Proof.Gen.WgAIdeal.Value
public import proofs.«01_k».proof.Proof.Gen.WgARefIdeal.Run
public import proofs.«01_k».proof.Proof.Gen.WgBIdeal.Value
public import proofs.«01_k».proof.Proof.Gen.WgBRefIdeal.Run
public import proofs.«01_k».proof.Proof.Gen.WgCIdeal.Value
public import proofs.«01_k».proof.Proof.Gen.WgCRefIdeal.Run
public import proofs.«01_k».proof.Proof.Gen.WgDownIdeal.Value
public import proofs.«01_k».proof.Proof.Gen.WgDownRefIdeal.Run
public import proofs.«01_k».proof.Proof.Gen.WgWidenIdeal.Value
public import proofs.«01_k».proof.Proof.Gen.WgWidenRefIdeal.Run
public import proofs.«01_k».proof.Proof.Gen.WgInIdeal.Value
public import proofs.«01_k».proof.Proof.Gen.WgInRefIdeal.Run

@[expose] public section

set_option maxRecDepth 16384

noncomputable section

namespace Cert.Values

open Idealize.ShloMosaic Idealize.ShloMosaic.TcCoe Idealize.SL.Sem
open Cert.Product Cert.Weigh

section WgOut

open Cert.WgOutIdeal Cert.WgOutIdeal.Gen Cert.WgOutIdeal.Value

section Body

variable (c : Dev nD) (i : grid0.Coords) (a3 : Memref sig .tc .vmem S512x1024 .bf16) (h3 : a3.IsWhole) (a4 : Memref sig .tc .vmem S512x1024 .f32) (h4 : a4.IsWhole)
  (a6 : Memref sig .tc .vmem S1x8x128x1024 .bf16) (h6 : a6.IsWhole) (a7 : Memref sig .tc .vmem S1024x1024 .f32) (h7 : a7.IsWhole)
  (x : Vec Ideal S512x1024 .bf16) (w : Vec Ideal S512x1024 .f32) (acc : Vec Ideal S1024x1024 .f32)

theorem wgOut_first (hc0 : cond0_0 i) (hc1 : ¬cond0_1 i) (hc2 : ¬cond0_2 i) :
    sout0_A_0 (F := Ideal) c i a3 h3 a4 h4 a6 h6 a7 h7 hc0 hc1 hc2 x w = k0_pay2 x w := by
  unfold sout0_A_0
  rw [View.read_writes_eq_canon _ _ _ (scover0_A_0 c i a3 h3 a4 h4 a6 h6 a7 h7 hc0 hc1 hc2 x w)]
  unfold kernelRun0_A
  dsimp only
  sl_unfold_words
  rw [View.canon_unit_zero corner]
  simp only [View.readAt_eq_ld, h3.read_unread, h4.read_unread, View.ld_unit_zero (S := S512x1024) corner, shapeCast_self]

theorem wgOut_next (hc0 : ¬cond0_0 i) (hc1 : cond0_1 i) (hc2 : ¬cond0_2 i) :
    sout0_B_0 (F := Ideal) c i a3 h3 a4 h4 a6 h6 a7 h7 hc0 hc1 hc2 x w acc = k0_pay3 x w acc := by
  unfold sout0_B_0
  rw [View.read_writes_eq_canon _ _ _ (scover0_B_0 c i a3 h3 a4 h4 a6 h6 a7 h7 hc0 hc1 hc2 x w acc)]
  unfold kernelRun0_B
  dsimp only
  sl_unfold_words
  rw [View.canon_unit_zero corner]
  simp only [View.readAt_eq_ld, h3.read_unread, h4.read_unread, h7.read_unread, View.ld_unit_zero (S := S512x1024) corner, View.ld_unit_zero (S := S1024x1024) corner, shapeCast_self]

theorem wgOut_entry (p : Fin 1024) (j : Fin 1024) :
    k0_pay3 (F := Ideal) x w acc (ix2 p j) = acc (ix2 p j) + ∑ k : Fin 512, x (ix2 k p) * w (ix2 k j) := by
  pointwise [k0_pay3, k0_pay1]

theorem wgOut_start (p : Fin 1024) (j : Fin 1024) : k0_pay2 (F := Ideal) x w (ix2 p j) = ∑ k : Fin 512, x (ix2 k p) * w (ix2 k j) := by
  pointwise [k0_pay2, k0_pay1]

theorem wgOut_pay (v : Vec Ideal S128x1024 .f32) (p : Fin 128) (j : Fin 1024) : k0_pay4 (F := Ideal) v (ix4 (0 : Fin 1) (0 : Fin 1) p j) = id (v (ix2 p j)) := by
  pointwise [k0_pay4, id]

/-- The last point's block is the whole sum's parts. -/
theorem wgOut_out (hc0 : ¬cond0_0 i) (hc1 : cond0_1 i) (hc2 : cond0_2 i) :
    out0_C_2 (F := Ideal) c i a3 h3 a4 h4 a6 h6 a7 h7 hc0 hc1 hc2 x w acc = parts id (k0_pay3 (F := Ideal) x w acc) := by
  funext y
  unfold out0_C_2
  rw [View.read_writes_eq_canon _ _ _ (cover0_C_2 c i a3 h3 a4 h4 a6 h6 a7 h7 hc0 hc1 hc2 x w acc)]
  refine View.canon_apply_of_pieces (Val := Elt Ideal) (e := .bf16) (parts (q := 8) (r := 128) id (k0_pay3 (F := Ideal) x w acc)) _ ?_ _ (cover0_C_2 c i a3 h3 a4 h4 a6 h6 a7 h7 hc0 hc1 hc2 x w acc _)
  unfold kernelRun0_C
  dsimp only
  sl_unfold_words
  simp only [View.readAt_eq_ld, h3.read_unread, h4.read_unread, h7.read_unread, View.ld_unit_zero (S := S512x1024) corner, View.ld_unit_zero (S := S1024x1024) corner]
  intro pc hpc
  simp only [List.mem_cons, List.not_mem_nil, or_false, read_back (S := S1024x1024) a7.view corner] at hpc
  rcases hpc with rfl | rfl | rfl | rfl | rfl | rfl | rfl | rfl
  · exact fun y => piece wgOut_pay (k0_pay3 (F := Ideal) x w acc) 7 896 rfl inb_S1024x1024_S128x1024_896_0 inb_S1x8x128x1024_S1x1x128x1024_0_7_0_0 y
  · exact fun y => piece wgOut_pay (k0_pay3 (F := Ideal) x w acc) 6 768 rfl inb_S1024x1024_S128x1024_768_0 inb_S1x8x128x1024_S1x1x128x1024_0_6_0_0 y
  · exact fun y => piece wgOut_pay (k0_pay3 (F := Ideal) x w acc) 5 640 rfl inb_S1024x1024_S128x1024_640_0 inb_S1x8x128x1024_S1x1x128x1024_0_5_0_0 y
  · exact fun y => piece wgOut_pay (k0_pay3 (F := Ideal) x w acc) 4 512 rfl inb_S1024x1024_S128x1024_512_0 inb_S1x8x128x1024_S1x1x128x1024_0_4_0_0 y
  · exact fun y => piece wgOut_pay (k0_pay3 (F := Ideal) x w acc) 3 384 rfl inb_S1024x1024_S128x1024_384_0 inb_S1x8x128x1024_S1x1x128x1024_0_3_0_0 y
  · exact fun y => piece wgOut_pay (k0_pay3 (F := Ideal) x w acc) 2 256 rfl inb_S1024x1024_S128x1024_256_0 inb_S1x8x128x1024_S1x1x128x1024_0_2_0_0 y
  · exact fun y => piece wgOut_pay (k0_pay3 (F := Ideal) x w acc) 1 128 rfl inb_S1024x1024_S128x1024_128_0 inb_S1x8x128x1024_S1x1x128x1024_0_1_0_0 y
  · exact fun y => piece wgOut_pay (k0_pay3 (F := Ideal) x w acc) 0 0 rfl inb_S1024x1024_S128x1024_0_0 inb_S1x8x128x1024_S1x1x128x1024_0_0_0_0 y

end Body

variable (m : (ℓ : Loc nD τ sig) → Buf (Elt Ideal) ℓ) (c : Dev nD)

theorem wgOutPlaces : ∀ t : Fin cfg0.N, (win0_0.index t (0 : Fin 2) = t.val % 8 ∧ win0_0.index t (1 : Fin 2) = t.val / 8 / 1)
    ∧ (win0_1.index t (0 : Fin 2) = t.val % 8 ∧ win0_1.index t (1 : Fin 2) = t.val / 8 % 1)
    ∧ (win0_2.index t (0 : Fin 4) = 0 + t.val / 8 / 1 / 1 ∧ win0_2.index t (1 : Fin 4) = t.val / 8 / 1 % 1
      ∧ win0_2.index t (2 : Fin 4) = 0 ∧ win0_2.index t (3 : Fin 4) = t.val / 8 % 1) :=
  (by decide +kernel : ∀ t : Fin grid0.N, _)

theorem wgOut_lt (t : Fin cfg0.N) : t.val < 8 := lt_of_lt_of_eq t.isLt (show cfg0.N = 8 from N_0)

abbrev wgOutLeft (t : Fin cfg0.N) : Mat 512 1024 := iblk m c 0 t
abbrev wgOutRight (t : Fin cfg0.N) : Mat 512 1024 := iblk m c 1 t

/-- A point's product is a tile of the sum. -/
theorem wgOut_tile (t : Fin cfg0.N) (s k : Nat) (hk : k < 8) (ht : t.val = 8 * s + k) (p : Fin 1024) (j : Fin 1024) (q : Fin 1024) (l : Fin 1024)
    (hq : q.val = s / 1 * 1024 + p.val) (hl : l.val = s % 1 * 1024 + j.val) :
    ∑ i : Fin 512, wgOutLeft m c t (ix2 i p) * wgOutRight m c t (ix2 i j) = Norm.tile (term (V m c main_arg0) (V m c main_arg1) q l) k := by
  obtain ⟨⟨e0, e1⟩, ⟨e2, e3⟩, -⟩ := wgOutPlaces t
  rw [Norm.tile_of hk]
  refine Finset.sum_congr rfl fun i _ => congrArg₂ (fun a b : EReal => a * b) ?_ ?_
  · exact congrArg (V m c main_arg0) (at2 (show win0_0.index t (0 : Fin 2) * 512 + 1 * i.val = k * 512 + i.val by omega)
      (show win0_0.index t (1 : Fin 2) * 1024 + 1 * p.val = q.val by omega))
  · exact congrArg (V m c main_arg1) (at2 (show win0_1.index t (0 : Fin 2) * 512 + 1 * i.val = k * 512 + i.val by omega)
      (show win0_1.index t (1 : Fin 2) * 1024 + 1 * j.val = l.val by omega))

theorem wgOut_sum (s : Nat) (p : Fin 1024) (j : Fin 1024) (q : Fin 1024) (l : Fin 1024)
    (hq : q.val = s / 1 * 1024 + p.val) (hl : l.val = s % 1 * 1024 + j.val) (k : Nat) (hk : k < 7) (n : Nat) (h : n < cfg0.N) (hn : n = 8 * s + k) :
    (outsAt0 m c n h).2 (ix2 p j) = ∑ t ∈ Finset.range (k + 1), Norm.tile (term (V m c main_arg0) (V m c main_arg1) q l) t := by
  subst hn
  refine taken (fun n h => (outsAt0 m c n h).2 (ix2 p j)) _ s (fun h => ?_) (fun k hk h h' => ?_) k hk h
  · have := wgOut_lt ⟨_, h⟩
    show (outsAt0 m c (8 * s) h).2 (ix2 p j) = _
    rw [show outsAt0 m c (8 * s) h = _ from outsAt0_A m c ⟨8 * s, h⟩ (by dsimp only; omega) (by dsimp only at this ⊢; omega) (by dsimp only; omega)]
    dsimp only
    rw [wgOut_first]
    exact (wgOut_start (iblk m c 0 ⟨8 * s, h⟩) (iblk m c 1 ⟨8 * s, h⟩) p j).trans (wgOut_tile m c ⟨8 * s, h⟩ s 0 (by omega) rfl p j q l hq hl)
  · show (outsAt0 m c (8 * s + (k + 1)) h).2 (ix2 p j) = (outsAt0 m c (8 * s + k) h').2 (ix2 p j) + _
    rw [show outsAt0 m c (8 * s + (k + 1)) h = _ from outsAt0_B m c ⟨8 * s + (k + 1), h⟩ (by dsimp only; omega) (by dsimp only; omega) (by dsimp only; omega)]
    dsimp only
    rw [wgOut_next]
    exact (wgOut_entry (iblk m c 0 ⟨8 * s + (k + 1), h⟩) (iblk m c 1 ⟨8 * s + (k + 1), h⟩) _ p j).trans
      (congrArg (fun z : EReal => (outsAt0 m c (8 * s + k) h').2 (ix2 p j) + z) (wgOut_tile m c ⟨8 * s + (k + 1), h⟩ s (k + 1) (by omega) rfl p j q l hq hl))

theorem wgOut_written (t : Fin cfg0.N) (hf : (cfg0.win 2).flush t = true) :
    (dats m 0 c).flushed 2 t = ((cfg0.win 2).blk t).view.read (Elt Ideal) (fun i => id (spread (P := 1) (r := 128) 0 (V m c main_arg0) (V m c main_arg1) i)) := by
  have h2 : t.val % 8 = 7 := (flush0_2 t).mp hf
  have ht := wgOut_lt t
  rw [flushed2_C m c t (by omega) (by omega) h2, wgOut_out]
  funext y
  obtain ⟨a, d, p, j, rfl⟩ : ∃ (a : Fin 1) (d : Fin 8) (p : Fin 128) (j : Fin 1024), y = ix4 a d p j := ⟨y 0, y 1, y 2, y 3, eq_ix4 y⟩
  obtain ⟨-, -, ⟨e0, e1, e2, e3⟩⟩ := wgOutPlaces t
  have ha := a.isLt
  obtain ⟨A, hA⟩ : ∃ A : Fin 1, A.val = 0 + t.val / 8 / 1 / 1 := ⟨⟨_, by omega⟩, rfl⟩
  obtain ⟨D, hD⟩ : ∃ D : Fin 8, D.val = t.val / 8 / 1 % 1 * 8 + d.val := ⟨⟨_, by omega⟩, rfl⟩
  obtain ⟨l, hl⟩ : ∃ l : Fin 1024, l.val = t.val / 8 % 1 * 1024 + j.val := ⟨⟨_, by omega⟩, rfl⟩
  obtain ⟨q, hq, hq'⟩ : ∃ q : Fin 1024, q.val = ((A.val - 0) * 8 + D.val) * 128 + p.val ∧ q = place 0 128 A.val D.val p.val :=
    ⟨_, place_val (by omega), rfl⟩
  obtain ⟨p', hp, hp'⟩ : ∃ p' : Fin 1024, p'.val = d.val * 128 + p.val ∧ p' = Fin.ofNat 1024 (d.val * 128 + p.val) := ⟨_, Nat.mod_eq_of_lt (by omega), rfl⟩
  have here : ((cfg0.win 2).blk t).view.emb (ix4 a d p j) = ix4 A D p l :=
    at4 (show win0_2.index t (0 : Fin 4) * 1 + 1 * a.val = A.val by omega) (show win0_2.index t (1 : Fin 4) * 8 + 1 * d.val = D.val by omega)
      (show win0_2.index t (2 : Fin 4) * 128 + 1 * p.val = p.val by omega) (show win0_2.index t (3 : Fin 4) * 1024 + 1 * j.val = l.val by omega)
  rw [View.read_apply, here]
  show id (k0_pay3 (F := Ideal) (iblk m c 0 t) (iblk m c 1 t) _ (ix2 (Fin.ofNat 1024 (d.val * 128 + p.val)) j)) = id (entry (V m c main_arg0) (V m c main_arg1) (place 0 128 A.val D.val p.val) l)
  rw [← hq', ← hp']
  have hq1 : q.val = t.val / 8 / 1 * 1024 + p'.val := by omega
  refine congrArg id ((wgOut_entry (iblk m c 0 t) (iblk m c 1 t) _ p' j).trans ?_)
  refine Eq.trans ?_ (taken_all (wgOut_sum m c (t.val / 8) p' j q l hq1 hl 6 (by omega) (t.val - 1) (Nat.lt_of_le_of_lt (Nat.sub_le _ _) t.isLt) (by omega)))
  exact congrArg (fun z : EReal => (outsAt0 m c (t.val - 1) (Nat.lt_of_le_of_lt (Nat.sub_le _ _) t.isLt)).2 (ix2 p' j) + z) (wgOut_tile m c t (t.val / 8) 7 (by omega) (by omega) p' j q l hq1 hl)

theorem wgOut_whole : (dats m 0 c).arrAt 2 cfg0.N = weighed 0 1 id (V m c main_arg0) (V m c main_arg1) (V m c main_v0) :=
  (dats m 0 c).arrAt_eq_of_coversWhere 2 (fun i => id (spread (P := 1) (r := 128) 0 (V m c main_arg0) (V m c main_arg1) i))
    (fun β => 0 ≤ β (0 : Fin 4) ∧ β (0 : Fin 4) < 0 + 1) (by decide +kernel) (fun t h y => congrFun (wgOut_written m c t h) y)
    (fun j => by blk_simp [Pipeline.Window.cell_apply, Nat.div_one])

end WgOut

set_option maxHeartbeats 1000000 in
theorem value_wgOut : Cert.algebraic_WgOutIdeal_WgOutRefIdeal := fun m g m' g' _ hx => by
  obtain ⟨h0, h1, h2⟩ := hx 0
  refine ⟨_, Cert.WgOutIdeal.Value.run_blocks (F := Ideal) m g, (θ_run Cert.WgOutRefIdeal.defs _ _).mono (fun r h c => ?_)
    (Cert.WgOutRefIdeal.Value.run (F := Ideal) m' g')⟩
  obtain ⟨e0, e⟩ := h c
  obtain rfl : c = 0 := Subsingleton.elim _ _
  refine ⟨e0.trans ?_, e⟩
  rw [h0, h1, h2, wgOut_whole]
  funext y
  obtain ⟨a, d, p, j, rfl⟩ : ∃ (a : Fin 1) (d : Fin 8) (p : Fin 128) (j : Fin 1024), y = ix4 a d p j := ⟨y 0, y 1, y 2, y 3, eq_ix4 y⟩
  fin_cases a <;> pointwise
  · refine Eq.trans ?_ (weighed_new (first := 0) (count := 1) (f := id) (q := (0 : Fin 1)) (d := d) (p := p) (j := j) (by decide)
      (⟨0 * 128 + (d.val * 128 + p.val), by omega⟩ : Fin 1024) (by dsimp only; omega)).symm
    refine congrArg id (Finset.sum_congr rfl fun k _ => congrArg₂ (fun a b : EReal => a * b) (congrArg (m _) (congrArg (ix2 k) (Fin.ext ?_))) rfl)
    dsimp only
    omega

section WgA

open Cert.WgAIdeal Cert.WgAIdeal.Gen Cert.WgAIdeal.Value

section Body

variable (c : Dev nD) (i : grid0.Coords) (a3 : Memref sig .tc .vmem S512x1024 .bf16) (h3 : a3.IsWhole) (a4 : Memref sig .tc .vmem S512x256 .f32) (h4 : a4.IsWhole)
  (a6 : Memref sig .tc .vmem S1x8x128x256 .bf16) (h6 : a6.IsWhole) (a7 : Memref sig .tc .vmem S1024x256 .f32) (h7 : a7.IsWhole)
  (x : Vec Ideal S512x1024 .bf16) (w : Vec Ideal S512x256 .f32) (acc : Vec Ideal S1024x256 .f32)

theorem wgA_first (hc0 : cond0_0 i) (hc1 : ¬cond0_1 i) (hc2 : ¬cond0_2 i) :
    sout0_A_0 (F := Ideal) c i a3 h3 a4 h4 a6 h6 a7 h7 hc0 hc1 hc2 x w = k0_pay2 x w := by
  unfold sout0_A_0
  rw [View.read_writes_eq_canon _ _ _ (scover0_A_0 c i a3 h3 a4 h4 a6 h6 a7 h7 hc0 hc1 hc2 x w)]
  unfold kernelRun0_A
  dsimp only
  sl_unfold_words
  rw [View.canon_unit_zero corner]
  simp only [View.readAt_eq_ld, h3.read_unread, h4.read_unread, View.ld_unit_zero (S := S512x1024) corner, View.ld_unit_zero (S := S512x256) corner, shapeCast_self]

theorem wgA_next (hc0 : ¬cond0_0 i) (hc1 : cond0_1 i) (hc2 : ¬cond0_2 i) :
    sout0_B_0 (F := Ideal) c i a3 h3 a4 h4 a6 h6 a7 h7 hc0 hc1 hc2 x w acc = k0_pay3 x w acc := by
  unfold sout0_B_0
  rw [View.read_writes_eq_canon _ _ _ (scover0_B_0 c i a3 h3 a4 h4 a6 h6 a7 h7 hc0 hc1 hc2 x w acc)]
  unfold kernelRun0_B
  dsimp only
  sl_unfold_words
  rw [View.canon_unit_zero corner]
  simp only [View.readAt_eq_ld, h3.read_unread, h4.read_unread, h7.read_unread, View.ld_unit_zero (S := S512x1024) corner, View.ld_unit_zero (S := S512x256) corner, View.ld_unit_zero (S := S1024x256) corner, shapeCast_self]

theorem wgA_entry (p : Fin 1024) (j : Fin 256) :
    k0_pay3 (F := Ideal) x w acc (ix2 p j) = acc (ix2 p j) + ∑ k : Fin 512, x (ix2 k p) * w (ix2 k j) := by
  pointwise [k0_pay3, k0_pay1]

theorem wgA_start (p : Fin 1024) (j : Fin 256) : k0_pay2 (F := Ideal) x w (ix2 p j) = ∑ k : Fin 512, x (ix2 k p) * w (ix2 k j) := by
  pointwise [k0_pay2, k0_pay1]

theorem wgA_pay (v : Vec Ideal S128x256 .f32) (p : Fin 128) (j : Fin 256) : k0_pay4 (F := Ideal) v (ix4 (0 : Fin 1) (0 : Fin 1) p j) = id (v (ix2 p j)) := by
  pointwise [k0_pay4, id]

/-- The last point's block is the whole sum's parts. -/
theorem wgA_out (hc0 : ¬cond0_0 i) (hc1 : cond0_1 i) (hc2 : cond0_2 i) :
    out0_C_2 (F := Ideal) c i a3 h3 a4 h4 a6 h6 a7 h7 hc0 hc1 hc2 x w acc = parts id (k0_pay3 (F := Ideal) x w acc) := by
  funext y
  unfold out0_C_2
  rw [View.read_writes_eq_canon _ _ _ (cover0_C_2 c i a3 h3 a4 h4 a6 h6 a7 h7 hc0 hc1 hc2 x w acc)]
  refine View.canon_apply_of_pieces (Val := Elt Ideal) (e := .bf16) (parts (q := 8) (r := 128) id (k0_pay3 (F := Ideal) x w acc)) _ ?_ _ (cover0_C_2 c i a3 h3 a4 h4 a6 h6 a7 h7 hc0 hc1 hc2 x w acc _)
  unfold kernelRun0_C
  dsimp only
  sl_unfold_words
  simp only [View.readAt_eq_ld, h3.read_unread, h4.read_unread, h7.read_unread, View.ld_unit_zero (S := S512x1024) corner, View.ld_unit_zero (S := S512x256) corner, View.ld_unit_zero (S := S1024x256) corner]
  intro pc hpc
  simp only [List.mem_cons, List.not_mem_nil, or_false, read_back (S := S1024x256) a7.view corner] at hpc
  rcases hpc with rfl | rfl | rfl | rfl | rfl | rfl | rfl | rfl
  · exact fun y => piece wgA_pay (k0_pay3 (F := Ideal) x w acc) 7 896 rfl inb_S1024x256_S128x256_896_0 inb_S1x8x128x256_S1x1x128x256_0_7_0_0 y
  · exact fun y => piece wgA_pay (k0_pay3 (F := Ideal) x w acc) 6 768 rfl inb_S1024x256_S128x256_768_0 inb_S1x8x128x256_S1x1x128x256_0_6_0_0 y
  · exact fun y => piece wgA_pay (k0_pay3 (F := Ideal) x w acc) 5 640 rfl inb_S1024x256_S128x256_640_0 inb_S1x8x128x256_S1x1x128x256_0_5_0_0 y
  · exact fun y => piece wgA_pay (k0_pay3 (F := Ideal) x w acc) 4 512 rfl inb_S1024x256_S128x256_512_0 inb_S1x8x128x256_S1x1x128x256_0_4_0_0 y
  · exact fun y => piece wgA_pay (k0_pay3 (F := Ideal) x w acc) 3 384 rfl inb_S1024x256_S128x256_384_0 inb_S1x8x128x256_S1x1x128x256_0_3_0_0 y
  · exact fun y => piece wgA_pay (k0_pay3 (F := Ideal) x w acc) 2 256 rfl inb_S1024x256_S128x256_256_0 inb_S1x8x128x256_S1x1x128x256_0_2_0_0 y
  · exact fun y => piece wgA_pay (k0_pay3 (F := Ideal) x w acc) 1 128 rfl inb_S1024x256_S128x256_128_0 inb_S1x8x128x256_S1x1x128x256_0_1_0_0 y
  · exact fun y => piece wgA_pay (k0_pay3 (F := Ideal) x w acc) 0 0 rfl inb_S1024x256_S128x256_0_0 inb_S1x8x128x256_S1x1x128x256_0_0_0_0 y

end Body

variable (m : (ℓ : Loc nD τ sig) → Buf (Elt Ideal) ℓ) (c : Dev nD)

theorem wgAPlaces : ∀ t : Fin cfg0.N, (win0_0.index t (0 : Fin 2) = t.val % 8 ∧ win0_0.index t (1 : Fin 2) = t.val / 8 / 1)
    ∧ (win0_1.index t (0 : Fin 2) = t.val % 8 ∧ win0_1.index t (1 : Fin 2) = t.val / 8 % 1)
    ∧ (win0_2.index t (0 : Fin 4) = 0 + t.val / 8 / 1 / 1 ∧ win0_2.index t (1 : Fin 4) = t.val / 8 / 1 % 1
      ∧ win0_2.index t (2 : Fin 4) = 0 ∧ win0_2.index t (3 : Fin 4) = t.val / 8 % 1) :=
  (by decide +kernel : ∀ t : Fin grid0.N, _)

theorem wgA_lt (t : Fin cfg0.N) : t.val < 8 := lt_of_lt_of_eq t.isLt (show cfg0.N = 8 from N_0)

abbrev wgALeft (t : Fin cfg0.N) : Mat 512 1024 := iblk m c 0 t
abbrev wgARight (t : Fin cfg0.N) : Mat 512 256 := iblk m c 1 t

/-- A point's product is a tile of the sum. -/
theorem wgA_tile (t : Fin cfg0.N) (s k : Nat) (hk : k < 8) (ht : t.val = 8 * s + k) (p : Fin 1024) (j : Fin 256) (q : Fin 1024) (l : Fin 256)
    (hq : q.val = s / 1 * 1024 + p.val) (hl : l.val = s % 1 * 256 + j.val) :
    ∑ i : Fin 512, wgALeft m c t (ix2 i p) * wgARight m c t (ix2 i j) = Norm.tile (term (V m c main_arg0) (V m c main_arg1) q l) k := by
  obtain ⟨⟨e0, e1⟩, ⟨e2, e3⟩, -⟩ := wgAPlaces t
  rw [Norm.tile_of hk]
  refine Finset.sum_congr rfl fun i _ => congrArg₂ (fun a b : EReal => a * b) ?_ ?_
  · exact congrArg (V m c main_arg0) (at2 (show win0_0.index t (0 : Fin 2) * 512 + 1 * i.val = k * 512 + i.val by omega)
      (show win0_0.index t (1 : Fin 2) * 1024 + 1 * p.val = q.val by omega))
  · exact congrArg (V m c main_arg1) (at2 (show win0_1.index t (0 : Fin 2) * 512 + 1 * i.val = k * 512 + i.val by omega)
      (show win0_1.index t (1 : Fin 2) * 256 + 1 * j.val = l.val by omega))

theorem wgA_sum (s : Nat) (p : Fin 1024) (j : Fin 256) (q : Fin 1024) (l : Fin 256)
    (hq : q.val = s / 1 * 1024 + p.val) (hl : l.val = s % 1 * 256 + j.val) (k : Nat) (hk : k < 7) (n : Nat) (h : n < cfg0.N) (hn : n = 8 * s + k) :
    (outsAt0 m c n h).2 (ix2 p j) = ∑ t ∈ Finset.range (k + 1), Norm.tile (term (V m c main_arg0) (V m c main_arg1) q l) t := by
  subst hn
  refine taken (fun n h => (outsAt0 m c n h).2 (ix2 p j)) _ s (fun h => ?_) (fun k hk h h' => ?_) k hk h
  · have := wgA_lt ⟨_, h⟩
    show (outsAt0 m c (8 * s) h).2 (ix2 p j) = _
    rw [show outsAt0 m c (8 * s) h = _ from outsAt0_A m c ⟨8 * s, h⟩ (by dsimp only; omega) (by dsimp only at this ⊢; omega) (by dsimp only; omega)]
    dsimp only
    rw [wgA_first]
    exact (wgA_start (iblk m c 0 ⟨8 * s, h⟩) (iblk m c 1 ⟨8 * s, h⟩) p j).trans (wgA_tile m c ⟨8 * s, h⟩ s 0 (by omega) rfl p j q l hq hl)
  · show (outsAt0 m c (8 * s + (k + 1)) h).2 (ix2 p j) = (outsAt0 m c (8 * s + k) h').2 (ix2 p j) + _
    rw [show outsAt0 m c (8 * s + (k + 1)) h = _ from outsAt0_B m c ⟨8 * s + (k + 1), h⟩ (by dsimp only; omega) (by dsimp only; omega) (by dsimp only; omega)]
    dsimp only
    rw [wgA_next]
    exact (wgA_entry (iblk m c 0 ⟨8 * s + (k + 1), h⟩) (iblk m c 1 ⟨8 * s + (k + 1), h⟩) _ p j).trans
      (congrArg (fun z : EReal => (outsAt0 m c (8 * s + k) h').2 (ix2 p j) + z) (wgA_tile m c ⟨8 * s + (k + 1), h⟩ s (k + 1) (by omega) rfl p j q l hq hl))

theorem wgA_written (t : Fin cfg0.N) (hf : (cfg0.win 2).flush t = true) :
    (dats m 0 c).flushed 2 t = ((cfg0.win 2).blk t).view.read (Elt Ideal) (fun i => id (spread (P := 1) (r := 128) 0 (V m c main_arg0) (V m c main_arg1) i)) := by
  have h2 : t.val % 8 = 7 := (flush0_2 t).mp hf
  have ht := wgA_lt t
  rw [flushed2_C m c t (by omega) (by omega) h2, wgA_out]
  funext y
  obtain ⟨a, d, p, j, rfl⟩ : ∃ (a : Fin 1) (d : Fin 8) (p : Fin 128) (j : Fin 256), y = ix4 a d p j := ⟨y 0, y 1, y 2, y 3, eq_ix4 y⟩
  obtain ⟨-, -, ⟨e0, e1, e2, e3⟩⟩ := wgAPlaces t
  have ha := a.isLt
  obtain ⟨A, hA⟩ : ∃ A : Fin 1, A.val = 0 + t.val / 8 / 1 / 1 := ⟨⟨_, by omega⟩, rfl⟩
  obtain ⟨D, hD⟩ : ∃ D : Fin 8, D.val = t.val / 8 / 1 % 1 * 8 + d.val := ⟨⟨_, by omega⟩, rfl⟩
  obtain ⟨l, hl⟩ : ∃ l : Fin 256, l.val = t.val / 8 % 1 * 256 + j.val := ⟨⟨_, by omega⟩, rfl⟩
  obtain ⟨q, hq, hq'⟩ : ∃ q : Fin 1024, q.val = ((A.val - 0) * 8 + D.val) * 128 + p.val ∧ q = place 0 128 A.val D.val p.val :=
    ⟨_, place_val (by omega), rfl⟩
  obtain ⟨p', hp, hp'⟩ : ∃ p' : Fin 1024, p'.val = d.val * 128 + p.val ∧ p' = Fin.ofNat 1024 (d.val * 128 + p.val) := ⟨_, Nat.mod_eq_of_lt (by omega), rfl⟩
  have here : ((cfg0.win 2).blk t).view.emb (ix4 a d p j) = ix4 A D p l :=
    at4 (show win0_2.index t (0 : Fin 4) * 1 + 1 * a.val = A.val by omega) (show win0_2.index t (1 : Fin 4) * 8 + 1 * d.val = D.val by omega)
      (show win0_2.index t (2 : Fin 4) * 128 + 1 * p.val = p.val by omega) (show win0_2.index t (3 : Fin 4) * 256 + 1 * j.val = l.val by omega)
  rw [View.read_apply, here]
  show id (k0_pay3 (F := Ideal) (iblk m c 0 t) (iblk m c 1 t) _ (ix2 (Fin.ofNat 1024 (d.val * 128 + p.val)) j)) = id (entry (V m c main_arg0) (V m c main_arg1) (place 0 128 A.val D.val p.val) l)
  rw [← hq', ← hp']
  have hq1 : q.val = t.val / 8 / 1 * 1024 + p'.val := by omega
  refine congrArg id ((wgA_entry (iblk m c 0 t) (iblk m c 1 t) _ p' j).trans ?_)
  refine Eq.trans ?_ (taken_all (wgA_sum m c (t.val / 8) p' j q l hq1 hl 6 (by omega) (t.val - 1) (Nat.lt_of_le_of_lt (Nat.sub_le _ _) t.isLt) (by omega)))
  exact congrArg (fun z : EReal => (outsAt0 m c (t.val - 1) (Nat.lt_of_le_of_lt (Nat.sub_le _ _) t.isLt)).2 (ix2 p' j) + z) (wgA_tile m c t (t.val / 8) 7 (by omega) (by omega) p' j q l hq1 hl)

theorem wgA_whole : (dats m 0 c).arrAt 2 cfg0.N = weighed 0 1 id (V m c main_arg0) (V m c main_arg1) (V m c main_v0) :=
  (dats m 0 c).arrAt_eq_of_coversWhere 2 (fun i => id (spread (P := 1) (r := 128) 0 (V m c main_arg0) (V m c main_arg1) i))
    (fun β => 0 ≤ β (0 : Fin 4) ∧ β (0 : Fin 4) < 0 + 1) (by decide +kernel) (fun t h y => congrFun (wgA_written m c t h) y)
    (fun j => by blk_simp [Pipeline.Window.cell_apply, Nat.div_one])

end WgA

set_option maxHeartbeats 1000000 in
theorem value_wgA : Cert.algebraic_WgAIdeal_WgARefIdeal := fun m g m' g' _ hx => by
  obtain ⟨h0, h1, h2⟩ := hx 0
  refine ⟨_, Cert.WgAIdeal.Value.run_blocks (F := Ideal) m g, (θ_run Cert.WgARefIdeal.defs _ _).mono (fun r h c => ?_)
    (Cert.WgARefIdeal.Value.run (F := Ideal) m' g')⟩
  obtain ⟨e0, e⟩ := h c
  obtain rfl : c = 0 := Subsingleton.elim _ _
  refine ⟨e0.trans ?_, e⟩
  rw [h0, h1, h2, wgA_whole]
  funext y
  obtain ⟨a, d, p, j, rfl⟩ : ∃ (a : Fin 1) (d : Fin 8) (p : Fin 128) (j : Fin 256), y = ix4 a d p j := ⟨y 0, y 1, y 2, y 3, eq_ix4 y⟩
  fin_cases a <;> pointwise
  · refine Eq.trans ?_ (weighed_new (first := 0) (count := 1) (f := id) (q := (0 : Fin 1)) (d := d) (p := p) (j := j) (by decide)
      (⟨0 * 128 + (d.val * 128 + p.val), by omega⟩ : Fin 1024) (by dsimp only; omega)).symm
    refine congrArg id (Finset.sum_congr rfl fun k _ => congrArg₂ (fun a b : EReal => a * b) (congrArg (m _) (congrArg (ix2 k) (Fin.ext ?_))) rfl)
    dsimp only
    omega

section WgB

open Cert.WgBIdeal Cert.WgBIdeal.Gen Cert.WgBIdeal.Value

section Body

variable (c : Dev nD) (i : grid0.Coords) (a3 : Memref sig .tc .vmem S512x1024 .bf16) (h3 : a3.IsWhole) (a4 : Memref sig .tc .vmem S512x512 .bf16) (h4 : a4.IsWhole)
  (a6 : Memref sig .tc .vmem S1x8x128x512 .bf16) (h6 : a6.IsWhole) (a7 : Memref sig .tc .vmem S1024x512 .f32) (h7 : a7.IsWhole)
  (x : Vec Ideal S512x1024 .bf16) (w : Vec Ideal S512x512 .bf16) (acc : Vec Ideal S1024x512 .f32)

theorem wgB_first (hc0 : cond0_0 i) (hc1 : ¬cond0_1 i) (hc2 : ¬cond0_2 i) :
    sout0_A_0 (F := Ideal) c i a3 h3 a4 h4 a6 h6 a7 h7 hc0 hc1 hc2 x w = k0_pay2 x w := by
  unfold sout0_A_0
  rw [View.read_writes_eq_canon _ _ _ (scover0_A_0 c i a3 h3 a4 h4 a6 h6 a7 h7 hc0 hc1 hc2 x w)]
  unfold kernelRun0_A
  dsimp only
  sl_unfold_words
  rw [View.canon_unit_zero corner]
  simp only [View.readAt_eq_ld, h3.read_unread, h4.read_unread, View.ld_unit_zero (S := S512x1024) corner, View.ld_unit_zero (S := S512x512) corner, shapeCast_self]

theorem wgB_next (hc0 : ¬cond0_0 i) (hc1 : cond0_1 i) (hc2 : ¬cond0_2 i) :
    sout0_B_0 (F := Ideal) c i a3 h3 a4 h4 a6 h6 a7 h7 hc0 hc1 hc2 x w acc = k0_pay3 x w acc := by
  unfold sout0_B_0
  rw [View.read_writes_eq_canon _ _ _ (scover0_B_0 c i a3 h3 a4 h4 a6 h6 a7 h7 hc0 hc1 hc2 x w acc)]
  unfold kernelRun0_B
  dsimp only
  sl_unfold_words
  rw [View.canon_unit_zero corner]
  simp only [View.readAt_eq_ld, h3.read_unread, h4.read_unread, h7.read_unread, View.ld_unit_zero (S := S512x1024) corner, View.ld_unit_zero (S := S512x512) corner, View.ld_unit_zero (S := S1024x512) corner, shapeCast_self]

theorem wgB_entry (p : Fin 1024) (j : Fin 512) :
    k0_pay3 (F := Ideal) x w acc (ix2 p j) = acc (ix2 p j) + ∑ k : Fin 512, x (ix2 k p) * w (ix2 k j) := by
  pointwise [k0_pay3, k0_pay1]

theorem wgB_start (p : Fin 1024) (j : Fin 512) : k0_pay2 (F := Ideal) x w (ix2 p j) = ∑ k : Fin 512, x (ix2 k p) * w (ix2 k j) := by
  pointwise [k0_pay2, k0_pay1]

theorem wgB_pay (v : Vec Ideal S128x512 .f32) (p : Fin 128) (j : Fin 512) : k0_pay4 (F := Ideal) v (ix4 (0 : Fin 1) (0 : Fin 1) p j) = id (v (ix2 p j)) := by
  pointwise [k0_pay4, id]

/-- The last point's block is the whole sum's parts. -/
theorem wgB_out (hc0 : ¬cond0_0 i) (hc1 : cond0_1 i) (hc2 : cond0_2 i) :
    out0_C_2 (F := Ideal) c i a3 h3 a4 h4 a6 h6 a7 h7 hc0 hc1 hc2 x w acc = parts id (k0_pay3 (F := Ideal) x w acc) := by
  funext y
  unfold out0_C_2
  rw [View.read_writes_eq_canon _ _ _ (cover0_C_2 c i a3 h3 a4 h4 a6 h6 a7 h7 hc0 hc1 hc2 x w acc)]
  refine View.canon_apply_of_pieces (Val := Elt Ideal) (e := .bf16) (parts (q := 8) (r := 128) id (k0_pay3 (F := Ideal) x w acc)) _ ?_ _ (cover0_C_2 c i a3 h3 a4 h4 a6 h6 a7 h7 hc0 hc1 hc2 x w acc _)
  unfold kernelRun0_C
  dsimp only
  sl_unfold_words
  simp only [View.readAt_eq_ld, h3.read_unread, h4.read_unread, h7.read_unread, View.ld_unit_zero (S := S512x1024) corner, View.ld_unit_zero (S := S512x512) corner, View.ld_unit_zero (S := S1024x512) corner]
  intro pc hpc
  simp only [List.mem_cons, List.not_mem_nil, or_false, read_back (S := S1024x512) a7.view corner] at hpc
  rcases hpc with rfl | rfl | rfl | rfl | rfl | rfl | rfl | rfl
  · exact fun y => piece wgB_pay (k0_pay3 (F := Ideal) x w acc) 7 896 rfl inb_S1024x512_S128x512_896_0 inb_S1x8x128x512_S1x1x128x512_0_7_0_0 y
  · exact fun y => piece wgB_pay (k0_pay3 (F := Ideal) x w acc) 6 768 rfl inb_S1024x512_S128x512_768_0 inb_S1x8x128x512_S1x1x128x512_0_6_0_0 y
  · exact fun y => piece wgB_pay (k0_pay3 (F := Ideal) x w acc) 5 640 rfl inb_S1024x512_S128x512_640_0 inb_S1x8x128x512_S1x1x128x512_0_5_0_0 y
  · exact fun y => piece wgB_pay (k0_pay3 (F := Ideal) x w acc) 4 512 rfl inb_S1024x512_S128x512_512_0 inb_S1x8x128x512_S1x1x128x512_0_4_0_0 y
  · exact fun y => piece wgB_pay (k0_pay3 (F := Ideal) x w acc) 3 384 rfl inb_S1024x512_S128x512_384_0 inb_S1x8x128x512_S1x1x128x512_0_3_0_0 y
  · exact fun y => piece wgB_pay (k0_pay3 (F := Ideal) x w acc) 2 256 rfl inb_S1024x512_S128x512_256_0 inb_S1x8x128x512_S1x1x128x512_0_2_0_0 y
  · exact fun y => piece wgB_pay (k0_pay3 (F := Ideal) x w acc) 1 128 rfl inb_S1024x512_S128x512_128_0 inb_S1x8x128x512_S1x1x128x512_0_1_0_0 y
  · exact fun y => piece wgB_pay (k0_pay3 (F := Ideal) x w acc) 0 0 rfl inb_S1024x512_S128x512_0_0 inb_S1x8x128x512_S1x1x128x512_0_0_0_0 y

end Body

variable (m : (ℓ : Loc nD τ sig) → Buf (Elt Ideal) ℓ) (c : Dev nD)

theorem wgBPlaces : ∀ t : Fin cfg0.N, (win0_0.index t (0 : Fin 2) = t.val % 8 ∧ win0_0.index t (1 : Fin 2) = t.val / 8 / 1)
    ∧ (win0_1.index t (0 : Fin 2) = t.val % 8 ∧ win0_1.index t (1 : Fin 2) = t.val / 8 % 1)
    ∧ (win0_2.index t (0 : Fin 4) = 0 + t.val / 8 / 1 / 1 ∧ win0_2.index t (1 : Fin 4) = t.val / 8 / 1 % 1
      ∧ win0_2.index t (2 : Fin 4) = 0 ∧ win0_2.index t (3 : Fin 4) = t.val / 8 % 1) :=
  (by decide +kernel : ∀ t : Fin grid0.N, _)

theorem wgB_lt (t : Fin cfg0.N) : t.val < 8 := lt_of_lt_of_eq t.isLt (show cfg0.N = 8 from N_0)

abbrev wgBLeft (t : Fin cfg0.N) : Mat 512 1024 := iblk m c 0 t
abbrev wgBRight (t : Fin cfg0.N) : Mat 512 512 := iblk m c 1 t

/-- A point's product is a tile of the sum. -/
theorem wgB_tile (t : Fin cfg0.N) (s k : Nat) (hk : k < 8) (ht : t.val = 8 * s + k) (p : Fin 1024) (j : Fin 512) (q : Fin 1024) (l : Fin 512)
    (hq : q.val = s / 1 * 1024 + p.val) (hl : l.val = s % 1 * 512 + j.val) :
    ∑ i : Fin 512, wgBLeft m c t (ix2 i p) * wgBRight m c t (ix2 i j) = Norm.tile (term (V m c main_arg0) (V m c main_arg1) q l) k := by
  obtain ⟨⟨e0, e1⟩, ⟨e2, e3⟩, -⟩ := wgBPlaces t
  rw [Norm.tile_of hk]
  refine Finset.sum_congr rfl fun i _ => congrArg₂ (fun a b : EReal => a * b) ?_ ?_
  · exact congrArg (V m c main_arg0) (at2 (show win0_0.index t (0 : Fin 2) * 512 + 1 * i.val = k * 512 + i.val by omega)
      (show win0_0.index t (1 : Fin 2) * 1024 + 1 * p.val = q.val by omega))
  · exact congrArg (V m c main_arg1) (at2 (show win0_1.index t (0 : Fin 2) * 512 + 1 * i.val = k * 512 + i.val by omega)
      (show win0_1.index t (1 : Fin 2) * 512 + 1 * j.val = l.val by omega))

theorem wgB_sum (s : Nat) (p : Fin 1024) (j : Fin 512) (q : Fin 1024) (l : Fin 512)
    (hq : q.val = s / 1 * 1024 + p.val) (hl : l.val = s % 1 * 512 + j.val) (k : Nat) (hk : k < 7) (n : Nat) (h : n < cfg0.N) (hn : n = 8 * s + k) :
    (outsAt0 m c n h).2 (ix2 p j) = ∑ t ∈ Finset.range (k + 1), Norm.tile (term (V m c main_arg0) (V m c main_arg1) q l) t := by
  subst hn
  refine taken (fun n h => (outsAt0 m c n h).2 (ix2 p j)) _ s (fun h => ?_) (fun k hk h h' => ?_) k hk h
  · have := wgB_lt ⟨_, h⟩
    show (outsAt0 m c (8 * s) h).2 (ix2 p j) = _
    rw [show outsAt0 m c (8 * s) h = _ from outsAt0_A m c ⟨8 * s, h⟩ (by dsimp only; omega) (by dsimp only at this ⊢; omega) (by dsimp only; omega)]
    dsimp only
    rw [wgB_first]
    exact (wgB_start (iblk m c 0 ⟨8 * s, h⟩) (iblk m c 1 ⟨8 * s, h⟩) p j).trans (wgB_tile m c ⟨8 * s, h⟩ s 0 (by omega) rfl p j q l hq hl)
  · show (outsAt0 m c (8 * s + (k + 1)) h).2 (ix2 p j) = (outsAt0 m c (8 * s + k) h').2 (ix2 p j) + _
    rw [show outsAt0 m c (8 * s + (k + 1)) h = _ from outsAt0_B m c ⟨8 * s + (k + 1), h⟩ (by dsimp only; omega) (by dsimp only; omega) (by dsimp only; omega)]
    dsimp only
    rw [wgB_next]
    exact (wgB_entry (iblk m c 0 ⟨8 * s + (k + 1), h⟩) (iblk m c 1 ⟨8 * s + (k + 1), h⟩) _ p j).trans
      (congrArg (fun z : EReal => (outsAt0 m c (8 * s + k) h').2 (ix2 p j) + z) (wgB_tile m c ⟨8 * s + (k + 1), h⟩ s (k + 1) (by omega) rfl p j q l hq hl))

theorem wgB_written (t : Fin cfg0.N) (hf : (cfg0.win 2).flush t = true) :
    (dats m 0 c).flushed 2 t = ((cfg0.win 2).blk t).view.read (Elt Ideal) (fun i => id (spread (P := 2) (r := 128) 0 (V m c main_arg0) (V m c main_arg1) i)) := by
  have h2 : t.val % 8 = 7 := (flush0_2 t).mp hf
  have ht := wgB_lt t
  rw [flushed2_C m c t (by omega) (by omega) h2, wgB_out]
  funext y
  obtain ⟨a, d, p, j, rfl⟩ : ∃ (a : Fin 1) (d : Fin 8) (p : Fin 128) (j : Fin 512), y = ix4 a d p j := ⟨y 0, y 1, y 2, y 3, eq_ix4 y⟩
  obtain ⟨-, -, ⟨e0, e1, e2, e3⟩⟩ := wgBPlaces t
  have ha := a.isLt
  obtain ⟨A, hA⟩ : ∃ A : Fin 2, A.val = 0 + t.val / 8 / 1 / 1 := ⟨⟨_, by omega⟩, rfl⟩
  obtain ⟨D, hD⟩ : ∃ D : Fin 8, D.val = t.val / 8 / 1 % 1 * 8 + d.val := ⟨⟨_, by omega⟩, rfl⟩
  obtain ⟨l, hl⟩ : ∃ l : Fin 512, l.val = t.val / 8 % 1 * 512 + j.val := ⟨⟨_, by omega⟩, rfl⟩
  obtain ⟨q, hq, hq'⟩ : ∃ q : Fin 1024, q.val = ((A.val - 0) * 8 + D.val) * 128 + p.val ∧ q = place 0 128 A.val D.val p.val :=
    ⟨_, place_val (by omega), rfl⟩
  obtain ⟨p', hp, hp'⟩ : ∃ p' : Fin 1024, p'.val = d.val * 128 + p.val ∧ p' = Fin.ofNat 1024 (d.val * 128 + p.val) := ⟨_, Nat.mod_eq_of_lt (by omega), rfl⟩
  have here : ((cfg0.win 2).blk t).view.emb (ix4 a d p j) = ix4 A D p l :=
    at4 (show win0_2.index t (0 : Fin 4) * 1 + 1 * a.val = A.val by omega) (show win0_2.index t (1 : Fin 4) * 8 + 1 * d.val = D.val by omega)
      (show win0_2.index t (2 : Fin 4) * 128 + 1 * p.val = p.val by omega) (show win0_2.index t (3 : Fin 4) * 512 + 1 * j.val = l.val by omega)
  rw [View.read_apply, here]
  show id (k0_pay3 (F := Ideal) (iblk m c 0 t) (iblk m c 1 t) _ (ix2 (Fin.ofNat 1024 (d.val * 128 + p.val)) j)) = id (entry (V m c main_arg0) (V m c main_arg1) (place 0 128 A.val D.val p.val) l)
  rw [← hq', ← hp']
  have hq1 : q.val = t.val / 8 / 1 * 1024 + p'.val := by omega
  refine congrArg id ((wgB_entry (iblk m c 0 t) (iblk m c 1 t) _ p' j).trans ?_)
  refine Eq.trans ?_ (taken_all (wgB_sum m c (t.val / 8) p' j q l hq1 hl 6 (by omega) (t.val - 1) (Nat.lt_of_le_of_lt (Nat.sub_le _ _) t.isLt) (by omega)))
  exact congrArg (fun z : EReal => (outsAt0 m c (t.val - 1) (Nat.lt_of_le_of_lt (Nat.sub_le _ _) t.isLt)).2 (ix2 p' j) + z) (wgB_tile m c t (t.val / 8) 7 (by omega) (by omega) p' j q l hq1 hl)

theorem wgB_whole : (dats m 0 c).arrAt 2 cfg0.N = weighed 0 1 id (V m c main_arg0) (V m c main_arg1) (V m c main_v0) :=
  (dats m 0 c).arrAt_eq_of_coversWhere 2 (fun i => id (spread (P := 2) (r := 128) 0 (V m c main_arg0) (V m c main_arg1) i))
    (fun β => 0 ≤ β (0 : Fin 4) ∧ β (0 : Fin 4) < 0 + 1) (by decide +kernel) (fun t h y => congrFun (wgB_written m c t h) y)
    (fun j => by blk_simp [Pipeline.Window.cell_apply, Nat.div_one])

end WgB

set_option maxHeartbeats 1000000 in
theorem value_wgB : Cert.algebraic_WgBIdeal_WgBRefIdeal := fun m g m' g' _ hx => by
  obtain ⟨h0, h1, h2⟩ := hx 0
  refine ⟨_, Cert.WgBIdeal.Value.run_blocks (F := Ideal) m g, (θ_run Cert.WgBRefIdeal.defs _ _).mono (fun r h c => ?_)
    (Cert.WgBRefIdeal.Value.run (F := Ideal) m' g')⟩
  obtain ⟨e0, e⟩ := h c
  obtain rfl : c = 0 := Subsingleton.elim _ _
  refine ⟨e0.trans ?_, e⟩
  rw [h0, h1, h2, wgB_whole]
  funext y
  obtain ⟨a, d, p, j, rfl⟩ : ∃ (a : Fin 2) (d : Fin 8) (p : Fin 128) (j : Fin 512), y = ix4 a d p j := ⟨y 0, y 1, y 2, y 3, eq_ix4 y⟩
  fin_cases a <;> pointwise
  · refine Eq.trans ?_ (weighed_new (first := 0) (count := 1) (f := id) (q := (0 : Fin 2)) (d := d) (p := p) (j := j) (by decide)
      (⟨0 * 128 + (d.val * 128 + p.val), by omega⟩ : Fin 1024) (by dsimp only; omega)).symm
    refine congrArg id (Finset.sum_congr rfl fun k _ => congrArg₂ (fun a b : EReal => a * b) (congrArg (m _) (congrArg (ix2 k) (Fin.ext ?_))) rfl)
    dsimp only
    omega
  · exact (weighed_old (first := 0) (count := 1) (q := (1 : Fin 2)) (by decide)).symm

section WgC

open Cert.WgCIdeal Cert.WgCIdeal.Gen Cert.WgCIdeal.Value

section Body

variable (c : Dev nD) (i : grid0.Coords) (a3 : Memref sig .tc .vmem S512x1024 .bf16) (h3 : a3.IsWhole) (a4 : Memref sig .tc .vmem S512x512 .bf16) (h4 : a4.IsWhole)
  (a6 : Memref sig .tc .vmem S1x8x128x512 .bf16) (h6 : a6.IsWhole) (a7 : Memref sig .tc .vmem S1024x512 .f32) (h7 : a7.IsWhole)
  (x : Vec Ideal S512x1024 .bf16) (w : Vec Ideal S512x512 .bf16) (acc : Vec Ideal S1024x512 .f32)

theorem wgC_first (hc0 : cond0_0 i) (hc1 : ¬cond0_1 i) (hc2 : ¬cond0_2 i) :
    sout0_A_0 (F := Ideal) c i a3 h3 a4 h4 a6 h6 a7 h7 hc0 hc1 hc2 x w = k0_pay2 x w := by
  unfold sout0_A_0
  rw [View.read_writes_eq_canon _ _ _ (scover0_A_0 c i a3 h3 a4 h4 a6 h6 a7 h7 hc0 hc1 hc2 x w)]
  unfold kernelRun0_A
  dsimp only
  sl_unfold_words
  rw [View.canon_unit_zero corner]
  simp only [View.readAt_eq_ld, h3.read_unread, h4.read_unread, View.ld_unit_zero (S := S512x1024) corner, View.ld_unit_zero (S := S512x512) corner, shapeCast_self]

theorem wgC_next (hc0 : ¬cond0_0 i) (hc1 : cond0_1 i) (hc2 : ¬cond0_2 i) :
    sout0_B_0 (F := Ideal) c i a3 h3 a4 h4 a6 h6 a7 h7 hc0 hc1 hc2 x w acc = k0_pay3 x w acc := by
  unfold sout0_B_0
  rw [View.read_writes_eq_canon _ _ _ (scover0_B_0 c i a3 h3 a4 h4 a6 h6 a7 h7 hc0 hc1 hc2 x w acc)]
  unfold kernelRun0_B
  dsimp only
  sl_unfold_words
  rw [View.canon_unit_zero corner]
  simp only [View.readAt_eq_ld, h3.read_unread, h4.read_unread, h7.read_unread, View.ld_unit_zero (S := S512x1024) corner, View.ld_unit_zero (S := S512x512) corner, View.ld_unit_zero (S := S1024x512) corner, shapeCast_self]

theorem wgC_entry (p : Fin 1024) (j : Fin 512) :
    k0_pay3 (F := Ideal) x w acc (ix2 p j) = acc (ix2 p j) + ∑ k : Fin 512, x (ix2 k p) * w (ix2 k j) := by
  pointwise [k0_pay3, k0_pay1]

theorem wgC_start (p : Fin 1024) (j : Fin 512) : k0_pay2 (F := Ideal) x w (ix2 p j) = ∑ k : Fin 512, x (ix2 k p) * w (ix2 k j) := by
  pointwise [k0_pay2, k0_pay1]

theorem wgC_pay (v : Vec Ideal S128x512 .f32) (p : Fin 128) (j : Fin 512) : k0_pay4 (F := Ideal) v (ix4 (0 : Fin 1) (0 : Fin 1) p j) = id (v (ix2 p j)) := by
  pointwise [k0_pay4, id]

/-- The last point's block is the whole sum's parts. -/
theorem wgC_out (hc0 : ¬cond0_0 i) (hc1 : cond0_1 i) (hc2 : cond0_2 i) :
    out0_C_2 (F := Ideal) c i a3 h3 a4 h4 a6 h6 a7 h7 hc0 hc1 hc2 x w acc = parts id (k0_pay3 (F := Ideal) x w acc) := by
  funext y
  unfold out0_C_2
  rw [View.read_writes_eq_canon _ _ _ (cover0_C_2 c i a3 h3 a4 h4 a6 h6 a7 h7 hc0 hc1 hc2 x w acc)]
  refine View.canon_apply_of_pieces (Val := Elt Ideal) (e := .bf16) (parts (q := 8) (r := 128) id (k0_pay3 (F := Ideal) x w acc)) _ ?_ _ (cover0_C_2 c i a3 h3 a4 h4 a6 h6 a7 h7 hc0 hc1 hc2 x w acc _)
  unfold kernelRun0_C
  dsimp only
  sl_unfold_words
  simp only [View.readAt_eq_ld, h3.read_unread, h4.read_unread, h7.read_unread, View.ld_unit_zero (S := S512x1024) corner, View.ld_unit_zero (S := S512x512) corner, View.ld_unit_zero (S := S1024x512) corner]
  intro pc hpc
  simp only [List.mem_cons, List.not_mem_nil, or_false, read_back (S := S1024x512) a7.view corner] at hpc
  rcases hpc with rfl | rfl | rfl | rfl | rfl | rfl | rfl | rfl
  · exact fun y => piece wgC_pay (k0_pay3 (F := Ideal) x w acc) 7 896 rfl inb_S1024x512_S128x512_896_0 inb_S1x8x128x512_S1x1x128x512_0_7_0_0 y
  · exact fun y => piece wgC_pay (k0_pay3 (F := Ideal) x w acc) 6 768 rfl inb_S1024x512_S128x512_768_0 inb_S1x8x128x512_S1x1x128x512_0_6_0_0 y
  · exact fun y => piece wgC_pay (k0_pay3 (F := Ideal) x w acc) 5 640 rfl inb_S1024x512_S128x512_640_0 inb_S1x8x128x512_S1x1x128x512_0_5_0_0 y
  · exact fun y => piece wgC_pay (k0_pay3 (F := Ideal) x w acc) 4 512 rfl inb_S1024x512_S128x512_512_0 inb_S1x8x128x512_S1x1x128x512_0_4_0_0 y
  · exact fun y => piece wgC_pay (k0_pay3 (F := Ideal) x w acc) 3 384 rfl inb_S1024x512_S128x512_384_0 inb_S1x8x128x512_S1x1x128x512_0_3_0_0 y
  · exact fun y => piece wgC_pay (k0_pay3 (F := Ideal) x w acc) 2 256 rfl inb_S1024x512_S128x512_256_0 inb_S1x8x128x512_S1x1x128x512_0_2_0_0 y
  · exact fun y => piece wgC_pay (k0_pay3 (F := Ideal) x w acc) 1 128 rfl inb_S1024x512_S128x512_128_0 inb_S1x8x128x512_S1x1x128x512_0_1_0_0 y
  · exact fun y => piece wgC_pay (k0_pay3 (F := Ideal) x w acc) 0 0 rfl inb_S1024x512_S128x512_0_0 inb_S1x8x128x512_S1x1x128x512_0_0_0_0 y

end Body

variable (m : (ℓ : Loc nD τ sig) → Buf (Elt Ideal) ℓ) (c : Dev nD)

theorem wgCPlaces : ∀ t : Fin cfg0.N, (win0_0.index t (0 : Fin 2) = t.val % 8 ∧ win0_0.index t (1 : Fin 2) = t.val / 8 / 1)
    ∧ (win0_1.index t (0 : Fin 2) = t.val % 8 ∧ win0_1.index t (1 : Fin 2) = t.val / 8 % 1)
    ∧ (win0_2.index t (0 : Fin 4) = 1 + t.val / 8 / 1 / 1 ∧ win0_2.index t (1 : Fin 4) = t.val / 8 / 1 % 1
      ∧ win0_2.index t (2 : Fin 4) = 0 ∧ win0_2.index t (3 : Fin 4) = t.val / 8 % 1) :=
  (by decide +kernel : ∀ t : Fin grid0.N, _)

theorem wgC_lt (t : Fin cfg0.N) : t.val < 8 := lt_of_lt_of_eq t.isLt (show cfg0.N = 8 from N_0)

abbrev wgCLeft (t : Fin cfg0.N) : Mat 512 1024 := iblk m c 0 t
abbrev wgCRight (t : Fin cfg0.N) : Mat 512 512 := iblk m c 1 t

/-- A point's product is a tile of the sum. -/
theorem wgC_tile (t : Fin cfg0.N) (s k : Nat) (hk : k < 8) (ht : t.val = 8 * s + k) (p : Fin 1024) (j : Fin 512) (q : Fin 1024) (l : Fin 512)
    (hq : q.val = s / 1 * 1024 + p.val) (hl : l.val = s % 1 * 512 + j.val) :
    ∑ i : Fin 512, wgCLeft m c t (ix2 i p) * wgCRight m c t (ix2 i j) = Norm.tile (term (V m c main_arg0) (V m c main_arg1) q l) k := by
  obtain ⟨⟨e0, e1⟩, ⟨e2, e3⟩, -⟩ := wgCPlaces t
  rw [Norm.tile_of hk]
  refine Finset.sum_congr rfl fun i _ => congrArg₂ (fun a b : EReal => a * b) ?_ ?_
  · exact congrArg (V m c main_arg0) (at2 (show win0_0.index t (0 : Fin 2) * 512 + 1 * i.val = k * 512 + i.val by omega)
      (show win0_0.index t (1 : Fin 2) * 1024 + 1 * p.val = q.val by omega))
  · exact congrArg (V m c main_arg1) (at2 (show win0_1.index t (0 : Fin 2) * 512 + 1 * i.val = k * 512 + i.val by omega)
      (show win0_1.index t (1 : Fin 2) * 512 + 1 * j.val = l.val by omega))

theorem wgC_sum (s : Nat) (p : Fin 1024) (j : Fin 512) (q : Fin 1024) (l : Fin 512)
    (hq : q.val = s / 1 * 1024 + p.val) (hl : l.val = s % 1 * 512 + j.val) (k : Nat) (hk : k < 7) (n : Nat) (h : n < cfg0.N) (hn : n = 8 * s + k) :
    (outsAt0 m c n h).2 (ix2 p j) = ∑ t ∈ Finset.range (k + 1), Norm.tile (term (V m c main_arg0) (V m c main_arg1) q l) t := by
  subst hn
  refine taken (fun n h => (outsAt0 m c n h).2 (ix2 p j)) _ s (fun h => ?_) (fun k hk h h' => ?_) k hk h
  · have := wgC_lt ⟨_, h⟩
    show (outsAt0 m c (8 * s) h).2 (ix2 p j) = _
    rw [show outsAt0 m c (8 * s) h = _ from outsAt0_A m c ⟨8 * s, h⟩ (by dsimp only; omega) (by dsimp only at this ⊢; omega) (by dsimp only; omega)]
    dsimp only
    rw [wgC_first]
    exact (wgC_start (iblk m c 0 ⟨8 * s, h⟩) (iblk m c 1 ⟨8 * s, h⟩) p j).trans (wgC_tile m c ⟨8 * s, h⟩ s 0 (by omega) rfl p j q l hq hl)
  · show (outsAt0 m c (8 * s + (k + 1)) h).2 (ix2 p j) = (outsAt0 m c (8 * s + k) h').2 (ix2 p j) + _
    rw [show outsAt0 m c (8 * s + (k + 1)) h = _ from outsAt0_B m c ⟨8 * s + (k + 1), h⟩ (by dsimp only; omega) (by dsimp only; omega) (by dsimp only; omega)]
    dsimp only
    rw [wgC_next]
    exact (wgC_entry (iblk m c 0 ⟨8 * s + (k + 1), h⟩) (iblk m c 1 ⟨8 * s + (k + 1), h⟩) _ p j).trans
      (congrArg (fun z : EReal => (outsAt0 m c (8 * s + k) h').2 (ix2 p j) + z) (wgC_tile m c ⟨8 * s + (k + 1), h⟩ s (k + 1) (by omega) rfl p j q l hq hl))

theorem wgC_written (t : Fin cfg0.N) (hf : (cfg0.win 2).flush t = true) :
    (dats m 0 c).flushed 2 t = ((cfg0.win 2).blk t).view.read (Elt Ideal) (fun i => id (spread (P := 2) (r := 128) 1 (V m c main_arg0) (V m c main_arg1) i)) := by
  have h2 : t.val % 8 = 7 := (flush0_2 t).mp hf
  have ht := wgC_lt t
  rw [flushed2_C m c t (by omega) (by omega) h2, wgC_out]
  funext y
  obtain ⟨a, d, p, j, rfl⟩ : ∃ (a : Fin 1) (d : Fin 8) (p : Fin 128) (j : Fin 512), y = ix4 a d p j := ⟨y 0, y 1, y 2, y 3, eq_ix4 y⟩
  obtain ⟨-, -, ⟨e0, e1, e2, e3⟩⟩ := wgCPlaces t
  have ha := a.isLt
  obtain ⟨A, hA⟩ : ∃ A : Fin 2, A.val = 1 + t.val / 8 / 1 / 1 := ⟨⟨_, by omega⟩, rfl⟩
  obtain ⟨D, hD⟩ : ∃ D : Fin 8, D.val = t.val / 8 / 1 % 1 * 8 + d.val := ⟨⟨_, by omega⟩, rfl⟩
  obtain ⟨l, hl⟩ : ∃ l : Fin 512, l.val = t.val / 8 % 1 * 512 + j.val := ⟨⟨_, by omega⟩, rfl⟩
  obtain ⟨q, hq, hq'⟩ : ∃ q : Fin 1024, q.val = ((A.val - 1) * 8 + D.val) * 128 + p.val ∧ q = place 1 128 A.val D.val p.val :=
    ⟨_, place_val (by omega), rfl⟩
  obtain ⟨p', hp, hp'⟩ : ∃ p' : Fin 1024, p'.val = d.val * 128 + p.val ∧ p' = Fin.ofNat 1024 (d.val * 128 + p.val) := ⟨_, Nat.mod_eq_of_lt (by omega), rfl⟩
  have here : ((cfg0.win 2).blk t).view.emb (ix4 a d p j) = ix4 A D p l :=
    at4 (show win0_2.index t (0 : Fin 4) * 1 + 1 * a.val = A.val by omega) (show win0_2.index t (1 : Fin 4) * 8 + 1 * d.val = D.val by omega)
      (show win0_2.index t (2 : Fin 4) * 128 + 1 * p.val = p.val by omega) (show win0_2.index t (3 : Fin 4) * 512 + 1 * j.val = l.val by omega)
  rw [View.read_apply, here]
  show id (k0_pay3 (F := Ideal) (iblk m c 0 t) (iblk m c 1 t) _ (ix2 (Fin.ofNat 1024 (d.val * 128 + p.val)) j)) = id (entry (V m c main_arg0) (V m c main_arg1) (place 1 128 A.val D.val p.val) l)
  rw [← hq', ← hp']
  have hq1 : q.val = t.val / 8 / 1 * 1024 + p'.val := by omega
  refine congrArg id ((wgC_entry (iblk m c 0 t) (iblk m c 1 t) _ p' j).trans ?_)
  refine Eq.trans ?_ (taken_all (wgC_sum m c (t.val / 8) p' j q l hq1 hl 6 (by omega) (t.val - 1) (Nat.lt_of_le_of_lt (Nat.sub_le _ _) t.isLt) (by omega)))
  exact congrArg (fun z : EReal => (outsAt0 m c (t.val - 1) (Nat.lt_of_le_of_lt (Nat.sub_le _ _) t.isLt)).2 (ix2 p' j) + z) (wgC_tile m c t (t.val / 8) 7 (by omega) (by omega) p' j q l hq1 hl)

theorem wgC_whole : (dats m 0 c).arrAt 2 cfg0.N = weighed 1 1 id (V m c main_arg0) (V m c main_arg1) (V m c main_v0) :=
  (dats m 0 c).arrAt_eq_of_coversWhere 2 (fun i => id (spread (P := 2) (r := 128) 1 (V m c main_arg0) (V m c main_arg1) i))
    (fun β => 1 ≤ β (0 : Fin 4) ∧ β (0 : Fin 4) < 1 + 1) (by decide +kernel) (fun t h y => congrFun (wgC_written m c t h) y)
    (fun j => by blk_simp [Pipeline.Window.cell_apply, Nat.div_one])

end WgC

set_option maxHeartbeats 1000000 in
theorem value_wgC : Cert.algebraic_WgCIdeal_WgCRefIdeal := fun m g m' g' _ hx => by
  obtain ⟨h0, h1, h2⟩ := hx 0
  refine ⟨_, Cert.WgCIdeal.Value.run_blocks (F := Ideal) m g, (θ_run Cert.WgCRefIdeal.defs _ _).mono (fun r h c => ?_)
    (Cert.WgCRefIdeal.Value.run (F := Ideal) m' g')⟩
  obtain ⟨e0, e⟩ := h c
  obtain rfl : c = 0 := Subsingleton.elim _ _
  refine ⟨e0.trans ?_, e⟩
  rw [h0, h1, h2, wgC_whole]
  funext y
  obtain ⟨a, d, p, j, rfl⟩ : ∃ (a : Fin 2) (d : Fin 8) (p : Fin 128) (j : Fin 512), y = ix4 a d p j := ⟨y 0, y 1, y 2, y 3, eq_ix4 y⟩
  fin_cases a <;> pointwise
  · exact (weighed_old (first := 1) (count := 1) (q := (0 : Fin 2)) (by decide)).symm
  · refine Eq.trans ?_ (weighed_new (first := 1) (count := 1) (f := id) (q := (1 : Fin 2)) (d := d) (p := p) (j := j) (by decide)
      (⟨0 * 128 + (d.val * 128 + p.val), by omega⟩ : Fin 1024) (by dsimp only; omega)).symm
    refine congrArg id (Finset.sum_congr rfl fun k _ => congrArg₂ (fun a b : EReal => a * b) (congrArg (m _) (congrArg (ix2 k) (Fin.ext ?_))) rfl)
    dsimp only
    omega

section WgDown

open Cert.WgDownIdeal Cert.WgDownIdeal.Gen Cert.WgDownIdeal.Value

section Body

variable (c : Dev nD) (i : grid0.Coords) (a3 : Memref sig .tc .vmem S512x2816 .bf16) (h3 : a3.IsWhole) (a4 : Memref sig .tc .vmem S512x512 .f32) (h4 : a4.IsWhole)
  (a6 : Memref sig .tc .vmem S1x8x352x512 .bf16) (h6 : a6.IsWhole) (a7 : Memref sig .tc .vmem S2816x512 .f32) (h7 : a7.IsWhole)
  (x : Vec Ideal S512x2816 .bf16) (w : Vec Ideal S512x512 .f32) (acc : Vec Ideal S2816x512 .f32)

theorem wgDown_first (hc0 : cond0_0 i) (hc1 : ¬cond0_1 i) (hc2 : ¬cond0_2 i) :
    sout0_A_0 (F := Ideal) c i a3 h3 a4 h4 a6 h6 a7 h7 hc0 hc1 hc2 x w = k0_pay2 x w := by
  unfold sout0_A_0
  rw [View.read_writes_eq_canon _ _ _ (scover0_A_0 c i a3 h3 a4 h4 a6 h6 a7 h7 hc0 hc1 hc2 x w)]
  unfold kernelRun0_A
  dsimp only
  sl_unfold_words
  rw [View.canon_unit_zero corner]
  simp only [View.readAt_eq_ld, h3.read_unread, h4.read_unread, View.ld_unit_zero (S := S512x2816) corner, View.ld_unit_zero (S := S512x512) corner, shapeCast_self]

theorem wgDown_next (hc0 : ¬cond0_0 i) (hc1 : cond0_1 i) (hc2 : ¬cond0_2 i) :
    sout0_B_0 (F := Ideal) c i a3 h3 a4 h4 a6 h6 a7 h7 hc0 hc1 hc2 x w acc = k0_pay3 x w acc := by
  unfold sout0_B_0
  rw [View.read_writes_eq_canon _ _ _ (scover0_B_0 c i a3 h3 a4 h4 a6 h6 a7 h7 hc0 hc1 hc2 x w acc)]
  unfold kernelRun0_B
  dsimp only
  sl_unfold_words
  rw [View.canon_unit_zero corner]
  simp only [View.readAt_eq_ld, h3.read_unread, h4.read_unread, h7.read_unread, View.ld_unit_zero (S := S512x2816) corner, View.ld_unit_zero (S := S512x512) corner, View.ld_unit_zero (S := S2816x512) corner, shapeCast_self]

theorem wgDown_entry (p : Fin 2816) (j : Fin 512) :
    k0_pay3 (F := Ideal) x w acc (ix2 p j) = acc (ix2 p j) + ∑ k : Fin 512, x (ix2 k p) * w (ix2 k j) := by
  pointwise [k0_pay3, k0_pay1]

theorem wgDown_start (p : Fin 2816) (j : Fin 512) : k0_pay2 (F := Ideal) x w (ix2 p j) = ∑ k : Fin 512, x (ix2 k p) * w (ix2 k j) := by
  pointwise [k0_pay2, k0_pay1]

theorem wgDown_pay (v : Vec Ideal S352x512 .f32) (p : Fin 352) (j : Fin 512) : k0_pay4 (F := Ideal) v (ix4 (0 : Fin 1) (0 : Fin 1) p j) = halved (v (ix2 p j)) := by
  pointwise [k0_pay4, halved, half]

/-- The last point's block is the whole sum's parts. -/
theorem wgDown_out (hc0 : ¬cond0_0 i) (hc1 : cond0_1 i) (hc2 : cond0_2 i) :
    out0_C_2 (F := Ideal) c i a3 h3 a4 h4 a6 h6 a7 h7 hc0 hc1 hc2 x w acc = parts halved (k0_pay3 (F := Ideal) x w acc) := by
  funext y
  unfold out0_C_2
  rw [View.read_writes_eq_canon _ _ _ (cover0_C_2 c i a3 h3 a4 h4 a6 h6 a7 h7 hc0 hc1 hc2 x w acc)]
  refine View.canon_apply_of_pieces (Val := Elt Ideal) (e := .bf16) (parts (q := 8) (r := 352) halved (k0_pay3 (F := Ideal) x w acc)) _ ?_ _ (cover0_C_2 c i a3 h3 a4 h4 a6 h6 a7 h7 hc0 hc1 hc2 x w acc _)
  unfold kernelRun0_C
  dsimp only
  sl_unfold_words
  simp only [View.readAt_eq_ld, h3.read_unread, h4.read_unread, h7.read_unread, View.ld_unit_zero (S := S512x2816) corner, View.ld_unit_zero (S := S512x512) corner, View.ld_unit_zero (S := S2816x512) corner]
  intro pc hpc
  simp only [List.mem_cons, List.not_mem_nil, or_false, read_back (S := S2816x512) a7.view corner] at hpc
  rcases hpc with rfl | rfl | rfl | rfl | rfl | rfl | rfl | rfl
  · exact fun y => piece wgDown_pay (k0_pay3 (F := Ideal) x w acc) 7 2464 rfl inb_S2816x512_S352x512_2464_0 inb_S1x8x352x512_S1x1x352x512_0_7_0_0 y
  · exact fun y => piece wgDown_pay (k0_pay3 (F := Ideal) x w acc) 6 2112 rfl inb_S2816x512_S352x512_2112_0 inb_S1x8x352x512_S1x1x352x512_0_6_0_0 y
  · exact fun y => piece wgDown_pay (k0_pay3 (F := Ideal) x w acc) 5 1760 rfl inb_S2816x512_S352x512_1760_0 inb_S1x8x352x512_S1x1x352x512_0_5_0_0 y
  · exact fun y => piece wgDown_pay (k0_pay3 (F := Ideal) x w acc) 4 1408 rfl inb_S2816x512_S352x512_1408_0 inb_S1x8x352x512_S1x1x352x512_0_4_0_0 y
  · exact fun y => piece wgDown_pay (k0_pay3 (F := Ideal) x w acc) 3 1056 rfl inb_S2816x512_S352x512_1056_0 inb_S1x8x352x512_S1x1x352x512_0_3_0_0 y
  · exact fun y => piece wgDown_pay (k0_pay3 (F := Ideal) x w acc) 2 704 rfl inb_S2816x512_S352x512_704_0 inb_S1x8x352x512_S1x1x352x512_0_2_0_0 y
  · exact fun y => piece wgDown_pay (k0_pay3 (F := Ideal) x w acc) 1 352 rfl inb_S2816x512_S352x512_352_0 inb_S1x8x352x512_S1x1x352x512_0_1_0_0 y
  · exact fun y => piece wgDown_pay (k0_pay3 (F := Ideal) x w acc) 0 0 rfl inb_S2816x512_S352x512_0_0 inb_S1x8x352x512_S1x1x352x512_0_0_0_0 y

end Body

variable (m : (ℓ : Loc nD τ sig) → Buf (Elt Ideal) ℓ) (c : Dev nD)

theorem wgDownPlaces : ∀ t : Fin cfg0.N, (win0_0.index t (0 : Fin 2) = t.val % 8 ∧ win0_0.index t (1 : Fin 2) = t.val / 8 / 2)
    ∧ (win0_1.index t (0 : Fin 2) = t.val % 8 ∧ win0_1.index t (1 : Fin 2) = t.val / 8 % 2)
    ∧ (win0_2.index t (0 : Fin 4) = 2 + t.val / 8 / 2 / 1 ∧ win0_2.index t (1 : Fin 4) = t.val / 8 / 2 % 1
      ∧ win0_2.index t (2 : Fin 4) = 0 ∧ win0_2.index t (3 : Fin 4) = t.val / 8 % 2) :=
  (by decide +kernel : ∀ t : Fin grid0.N, _)

theorem wgDown_lt (t : Fin cfg0.N) : t.val < 16 := lt_of_lt_of_eq t.isLt (show cfg0.N = 16 from N_0)

abbrev wgDownLeft (t : Fin cfg0.N) : Mat 512 2816 := iblk m c 0 t
abbrev wgDownRight (t : Fin cfg0.N) : Mat 512 512 := iblk m c 1 t

/-- A point's product is a tile of the sum. -/
theorem wgDown_tile (t : Fin cfg0.N) (s k : Nat) (hk : k < 8) (ht : t.val = 8 * s + k) (p : Fin 2816) (j : Fin 512) (q : Fin 2816) (l : Fin 1024)
    (hq : q.val = s / 2 * 2816 + p.val) (hl : l.val = s % 2 * 512 + j.val) :
    ∑ i : Fin 512, wgDownLeft m c t (ix2 i p) * wgDownRight m c t (ix2 i j) = Norm.tile (term (V m c main_arg0) (V m c main_arg1) q l) k := by
  obtain ⟨⟨e0, e1⟩, ⟨e2, e3⟩, -⟩ := wgDownPlaces t
  rw [Norm.tile_of hk]
  refine Finset.sum_congr rfl fun i _ => congrArg₂ (fun a b : EReal => a * b) ?_ ?_
  · exact congrArg (V m c main_arg0) (at2 (show win0_0.index t (0 : Fin 2) * 512 + 1 * i.val = k * 512 + i.val by omega)
      (show win0_0.index t (1 : Fin 2) * 2816 + 1 * p.val = q.val by omega))
  · exact congrArg (V m c main_arg1) (at2 (show win0_1.index t (0 : Fin 2) * 512 + 1 * i.val = k * 512 + i.val by omega)
      (show win0_1.index t (1 : Fin 2) * 512 + 1 * j.val = l.val by omega))

theorem wgDown_sum (s : Nat) (p : Fin 2816) (j : Fin 512) (q : Fin 2816) (l : Fin 1024)
    (hq : q.val = s / 2 * 2816 + p.val) (hl : l.val = s % 2 * 512 + j.val) (k : Nat) (hk : k < 7) (n : Nat) (h : n < cfg0.N) (hn : n = 8 * s + k) :
    (outsAt0 m c n h).2 (ix2 p j) = ∑ t ∈ Finset.range (k + 1), Norm.tile (term (V m c main_arg0) (V m c main_arg1) q l) t := by
  subst hn
  refine taken (fun n h => (outsAt0 m c n h).2 (ix2 p j)) _ s (fun h => ?_) (fun k hk h h' => ?_) k hk h
  · have := wgDown_lt ⟨_, h⟩
    show (outsAt0 m c (8 * s) h).2 (ix2 p j) = _
    rw [show outsAt0 m c (8 * s) h = _ from outsAt0_A m c ⟨8 * s, h⟩ (by dsimp only; omega) (by dsimp only at this ⊢; omega) (by dsimp only; omega)]
    dsimp only
    rw [wgDown_first]
    exact (wgDown_start (iblk m c 0 ⟨8 * s, h⟩) (iblk m c 1 ⟨8 * s, h⟩) p j).trans (wgDown_tile m c ⟨8 * s, h⟩ s 0 (by omega) rfl p j q l hq hl)
  · show (outsAt0 m c (8 * s + (k + 1)) h).2 (ix2 p j) = (outsAt0 m c (8 * s + k) h').2 (ix2 p j) + _
    rw [show outsAt0 m c (8 * s + (k + 1)) h = _ from outsAt0_B m c ⟨8 * s + (k + 1), h⟩ (by dsimp only; omega) (by dsimp only; omega) (by dsimp only; omega)]
    dsimp only
    rw [wgDown_next]
    exact (wgDown_entry (iblk m c 0 ⟨8 * s + (k + 1), h⟩) (iblk m c 1 ⟨8 * s + (k + 1), h⟩) _ p j).trans
      (congrArg (fun z : EReal => (outsAt0 m c (8 * s + k) h').2 (ix2 p j) + z) (wgDown_tile m c ⟨8 * s + (k + 1), h⟩ s (k + 1) (by omega) rfl p j q l hq hl))

theorem wgDown_written (t : Fin cfg0.N) (hf : (cfg0.win 2).flush t = true) :
    (dats m 0 c).flushed 2 t = ((cfg0.win 2).blk t).view.read (Elt Ideal) (fun i => halved (spread (P := 6) (r := 352) 2 (V m c main_arg0) (V m c main_arg1) i)) := by
  have h2 : t.val % 8 = 7 := (flush0_2 t).mp hf
  have ht := wgDown_lt t
  rw [flushed2_C m c t (by omega) (by omega) h2, wgDown_out]
  funext y
  obtain ⟨a, d, p, j, rfl⟩ : ∃ (a : Fin 1) (d : Fin 8) (p : Fin 352) (j : Fin 512), y = ix4 a d p j := ⟨y 0, y 1, y 2, y 3, eq_ix4 y⟩
  obtain ⟨-, -, ⟨e0, e1, e2, e3⟩⟩ := wgDownPlaces t
  have ha := a.isLt
  obtain ⟨A, hA⟩ : ∃ A : Fin 6, A.val = 2 + t.val / 8 / 2 / 1 := ⟨⟨_, by omega⟩, rfl⟩
  obtain ⟨D, hD⟩ : ∃ D : Fin 8, D.val = t.val / 8 / 2 % 1 * 8 + d.val := ⟨⟨_, by omega⟩, rfl⟩
  obtain ⟨l, hl⟩ : ∃ l : Fin 1024, l.val = t.val / 8 % 2 * 512 + j.val := ⟨⟨_, by omega⟩, rfl⟩
  obtain ⟨q, hq, hq'⟩ : ∃ q : Fin 2816, q.val = ((A.val - 2) * 8 + D.val) * 352 + p.val ∧ q = place 2 352 A.val D.val p.val :=
    ⟨_, place_val (by omega), rfl⟩
  obtain ⟨p', hp, hp'⟩ : ∃ p' : Fin 2816, p'.val = d.val * 352 + p.val ∧ p' = Fin.ofNat 2816 (d.val * 352 + p.val) := ⟨_, Nat.mod_eq_of_lt (by omega), rfl⟩
  have here : ((cfg0.win 2).blk t).view.emb (ix4 a d p j) = ix4 A D p l :=
    at4 (show win0_2.index t (0 : Fin 4) * 1 + 1 * a.val = A.val by omega) (show win0_2.index t (1 : Fin 4) * 8 + 1 * d.val = D.val by omega)
      (show win0_2.index t (2 : Fin 4) * 352 + 1 * p.val = p.val by omega) (show win0_2.index t (3 : Fin 4) * 512 + 1 * j.val = l.val by omega)
  rw [View.read_apply, here]
  show halved (k0_pay3 (F := Ideal) (iblk m c 0 t) (iblk m c 1 t) _ (ix2 (Fin.ofNat 2816 (d.val * 352 + p.val)) j)) = halved (entry (V m c main_arg0) (V m c main_arg1) (place 2 352 A.val D.val p.val) l)
  rw [← hq', ← hp']
  have hq1 : q.val = t.val / 8 / 2 * 2816 + p'.val := by omega
  refine congrArg halved ((wgDown_entry (iblk m c 0 t) (iblk m c 1 t) _ p' j).trans ?_)
  refine Eq.trans ?_ (taken_all (wgDown_sum m c (t.val / 8) p' j q l hq1 hl 6 (by omega) (t.val - 1) (Nat.lt_of_le_of_lt (Nat.sub_le _ _) t.isLt) (by omega)))
  exact congrArg (fun z : EReal => (outsAt0 m c (t.val - 1) (Nat.lt_of_le_of_lt (Nat.sub_le _ _) t.isLt)).2 (ix2 p' j) + z) (wgDown_tile m c t (t.val / 8) 7 (by omega) (by omega) p' j q l hq1 hl)

theorem wgDown_whole : (dats m 0 c).arrAt 2 cfg0.N = weighed 2 1 halved (V m c main_arg0) (V m c main_arg1) (V m c main_v0) :=
  (dats m 0 c).arrAt_eq_of_coversWhere 2 (fun i => halved (spread (P := 6) (r := 352) 2 (V m c main_arg0) (V m c main_arg1) i))
    (fun β => 2 ≤ β (0 : Fin 4) ∧ β (0 : Fin 4) < 2 + 1) (by decide +kernel) (fun t h y => congrFun (wgDown_written m c t h) y)
    (fun j => by blk_simp [Pipeline.Window.cell_apply, Nat.div_one])

end WgDown

set_option maxHeartbeats 1000000 in
theorem value_wgDown : Cert.algebraic_WgDownIdeal_WgDownRefIdeal := fun m g m' g' _ hx => by
  obtain ⟨h0, h1, h2⟩ := hx 0
  refine ⟨_, Cert.WgDownIdeal.Value.run_blocks (F := Ideal) m g, (θ_run Cert.WgDownRefIdeal.defs _ _).mono (fun r h c => ?_)
    (Cert.WgDownRefIdeal.Value.run (F := Ideal) m' g')⟩
  obtain ⟨e0, e⟩ := h c
  obtain rfl : c = 0 := Subsingleton.elim _ _
  refine ⟨e0.trans ?_, e⟩
  rw [h0, h1, h2, wgDown_whole]
  funext y
  obtain ⟨a, d, p, j, rfl⟩ : ∃ (a : Fin 6) (d : Fin 8) (p : Fin 352) (j : Fin 1024), y = ix4 a d p j := ⟨y 0, y 1, y 2, y 3, eq_ix4 y⟩
  fin_cases a <;> pointwise
  · exact (weighed_old (first := 2) (count := 1) (q := (0 : Fin 6)) (by decide)).symm
  · exact (weighed_old (first := 2) (count := 1) (q := (1 : Fin 6)) (by decide)).symm
  · refine Eq.trans ?_ (weighed_new (first := 2) (count := 1) (f := halved) (q := (2 : Fin 6)) (d := d) (p := p) (j := j) (by decide)
      (⟨0 * 352 + (d.val * 352 + p.val), by omega⟩ : Fin 2816) (by dsimp only; omega)).symm
    refine congrArg halved (Finset.sum_congr rfl fun k _ => congrArg₂ (fun a b : EReal => a * b) (congrArg (m _) (congrArg (ix2 k) (Fin.ext ?_))) rfl)
    dsimp only
    omega
  · exact (weighed_old (first := 2) (count := 1) (q := (3 : Fin 6)) (by decide)).symm
  · exact (weighed_old (first := 2) (count := 1) (q := (4 : Fin 6)) (by decide)).symm
  · exact (weighed_old (first := 2) (count := 1) (q := (5 : Fin 6)) (by decide)).symm

section WgIn

open Cert.WgInIdeal Cert.WgInIdeal.Gen Cert.WgInIdeal.Value

section Body

variable (c : Dev nD) (i : grid0.Coords) (a3 : Memref sig .tc .vmem S512x3456 .bf16) (h3 : a3.IsWhole) (a4 : Memref sig .tc .vmem S512x512 .bf16) (h4 : a4.IsWhole)
  (a6 : Memref sig .tc .vmem S1x4x864x512 .bf16) (h6 : a6.IsWhole) (a7 : Memref sig .tc .vmem S3456x512 .f32) (h7 : a7.IsWhole)
  (x : Vec Ideal S512x3456 .bf16) (w : Vec Ideal S512x512 .bf16) (acc : Vec Ideal S3456x512 .f32)

theorem wgIn_first (hc0 : cond0_0 i) (hc1 : ¬cond0_1 i) (hc2 : ¬cond0_2 i) :
    sout0_A_0 (F := Ideal) c i a3 h3 a4 h4 a6 h6 a7 h7 hc0 hc1 hc2 x w = k0_pay2 x w := by
  unfold sout0_A_0
  rw [View.read_writes_eq_canon _ _ _ (scover0_A_0 c i a3 h3 a4 h4 a6 h6 a7 h7 hc0 hc1 hc2 x w)]
  unfold kernelRun0_A
  dsimp only
  sl_unfold_words
  rw [View.canon_unit_zero corner]
  simp only [View.readAt_eq_ld, h3.read_unread, h4.read_unread, View.ld_unit_zero (S := S512x3456) corner, View.ld_unit_zero (S := S512x512) corner, shapeCast_self]

theorem wgIn_next (hc0 : ¬cond0_0 i) (hc1 : cond0_1 i) (hc2 : ¬cond0_2 i) :
    sout0_B_0 (F := Ideal) c i a3 h3 a4 h4 a6 h6 a7 h7 hc0 hc1 hc2 x w acc = k0_pay3 x w acc := by
  unfold sout0_B_0
  rw [View.read_writes_eq_canon _ _ _ (scover0_B_0 c i a3 h3 a4 h4 a6 h6 a7 h7 hc0 hc1 hc2 x w acc)]
  unfold kernelRun0_B
  dsimp only
  sl_unfold_words
  rw [View.canon_unit_zero corner]
  simp only [View.readAt_eq_ld, h3.read_unread, h4.read_unread, h7.read_unread, View.ld_unit_zero (S := S512x3456) corner, View.ld_unit_zero (S := S512x512) corner, View.ld_unit_zero (S := S3456x512) corner, shapeCast_self]

theorem wgIn_entry (p : Fin 3456) (j : Fin 512) :
    k0_pay3 (F := Ideal) x w acc (ix2 p j) = acc (ix2 p j) + ∑ k : Fin 512, x (ix2 k p) * w (ix2 k j) := by
  pointwise [k0_pay3, k0_pay1]

theorem wgIn_start (p : Fin 3456) (j : Fin 512) : k0_pay2 (F := Ideal) x w (ix2 p j) = ∑ k : Fin 512, x (ix2 k p) * w (ix2 k j) := by
  pointwise [k0_pay2, k0_pay1]

theorem wgIn_pay (v : Vec Ideal S864x512 .f32) (p : Fin 864) (j : Fin 512) : k0_pay4 (F := Ideal) v (ix4 (0 : Fin 1) (0 : Fin 1) p j) = id (v (ix2 p j)) := by
  pointwise [k0_pay4, id]

/-- The last point's block is the whole sum's parts. -/
theorem wgIn_out (hc0 : ¬cond0_0 i) (hc1 : cond0_1 i) (hc2 : cond0_2 i) :
    out0_C_2 (F := Ideal) c i a3 h3 a4 h4 a6 h6 a7 h7 hc0 hc1 hc2 x w acc = parts id (k0_pay3 (F := Ideal) x w acc) := by
  funext y
  unfold out0_C_2
  rw [View.read_writes_eq_canon _ _ _ (cover0_C_2 c i a3 h3 a4 h4 a6 h6 a7 h7 hc0 hc1 hc2 x w acc)]
  refine View.canon_apply_of_pieces (Val := Elt Ideal) (e := .bf16) (parts (q := 4) (r := 864) id (k0_pay3 (F := Ideal) x w acc)) _ ?_ _ (cover0_C_2 c i a3 h3 a4 h4 a6 h6 a7 h7 hc0 hc1 hc2 x w acc _)
  unfold kernelRun0_C
  dsimp only
  sl_unfold_words
  simp only [View.readAt_eq_ld, h3.read_unread, h4.read_unread, h7.read_unread, View.ld_unit_zero (S := S512x3456) corner, View.ld_unit_zero (S := S512x512) corner, View.ld_unit_zero (S := S3456x512) corner]
  intro pc hpc
  simp only [List.mem_cons, List.not_mem_nil, or_false, read_back (S := S3456x512) a7.view corner] at hpc
  rcases hpc with rfl | rfl | rfl | rfl
  · exact fun y => piece wgIn_pay (k0_pay3 (F := Ideal) x w acc) 3 2592 rfl inb_S3456x512_S864x512_2592_0 inb_S1x4x864x512_S1x1x864x512_0_3_0_0 y
  · exact fun y => piece wgIn_pay (k0_pay3 (F := Ideal) x w acc) 2 1728 rfl inb_S3456x512_S864x512_1728_0 inb_S1x4x864x512_S1x1x864x512_0_2_0_0 y
  · exact fun y => piece wgIn_pay (k0_pay3 (F := Ideal) x w acc) 1 864 rfl inb_S3456x512_S864x512_864_0 inb_S1x4x864x512_S1x1x864x512_0_1_0_0 y
  · exact fun y => piece wgIn_pay (k0_pay3 (F := Ideal) x w acc) 0 0 rfl inb_S3456x512_S864x512_0_0 inb_S1x4x864x512_S1x1x864x512_0_0_0_0 y

end Body

variable (m : (ℓ : Loc nD τ sig) → Buf (Elt Ideal) ℓ) (c : Dev nD)

theorem wgInPlaces : ∀ t : Fin cfg0.N, (win0_0.index t (0 : Fin 2) = t.val % 8 ∧ win0_0.index t (1 : Fin 2) = t.val / 8 / 2)
    ∧ (win0_1.index t (0 : Fin 2) = t.val % 8 ∧ win0_1.index t (1 : Fin 2) = t.val / 8 % 2)
    ∧ (win0_2.index t (0 : Fin 4) = 0 + t.val / 8 / 2 / 2 ∧ win0_2.index t (1 : Fin 4) = t.val / 8 / 2 % 2
      ∧ win0_2.index t (2 : Fin 4) = 0 ∧ win0_2.index t (3 : Fin 4) = t.val / 8 % 2) :=
  (by decide +kernel : ∀ t : Fin grid0.N, _)

theorem wgIn_lt (t : Fin cfg0.N) : t.val < 32 := lt_of_lt_of_eq t.isLt (show cfg0.N = 32 from N_0)

abbrev wgInLeft (t : Fin cfg0.N) : Mat 512 3456 := iblk m c 0 t
abbrev wgInRight (t : Fin cfg0.N) : Mat 512 512 := iblk m c 1 t

/-- A point's product is a tile of the sum. -/
theorem wgIn_tile (t : Fin cfg0.N) (s k : Nat) (hk : k < 8) (ht : t.val = 8 * s + k) (p : Fin 3456) (j : Fin 512) (q : Fin 6912) (l : Fin 1024)
    (hq : q.val = s / 2 * 3456 + p.val) (hl : l.val = s % 2 * 512 + j.val) :
    ∑ i : Fin 512, wgInLeft m c t (ix2 i p) * wgInRight m c t (ix2 i j) = Norm.tile (term (V m c main_arg0) (V m c main_arg1) q l) k := by
  obtain ⟨⟨e0, e1⟩, ⟨e2, e3⟩, -⟩ := wgInPlaces t
  rw [Norm.tile_of hk]
  refine Finset.sum_congr rfl fun i _ => congrArg₂ (fun a b : EReal => a * b) ?_ ?_
  · exact congrArg (V m c main_arg0) (at2 (show win0_0.index t (0 : Fin 2) * 512 + 1 * i.val = k * 512 + i.val by omega)
      (show win0_0.index t (1 : Fin 2) * 3456 + 1 * p.val = q.val by omega))
  · exact congrArg (V m c main_arg1) (at2 (show win0_1.index t (0 : Fin 2) * 512 + 1 * i.val = k * 512 + i.val by omega)
      (show win0_1.index t (1 : Fin 2) * 512 + 1 * j.val = l.val by omega))

theorem wgIn_sum (s : Nat) (p : Fin 3456) (j : Fin 512) (q : Fin 6912) (l : Fin 1024)
    (hq : q.val = s / 2 * 3456 + p.val) (hl : l.val = s % 2 * 512 + j.val) (k : Nat) (hk : k < 7) (n : Nat) (h : n < cfg0.N) (hn : n = 8 * s + k) :
    (outsAt0 m c n h).2 (ix2 p j) = ∑ t ∈ Finset.range (k + 1), Norm.tile (term (V m c main_arg0) (V m c main_arg1) q l) t := by
  subst hn
  refine taken (fun n h => (outsAt0 m c n h).2 (ix2 p j)) _ s (fun h => ?_) (fun k hk h h' => ?_) k hk h
  · have := wgIn_lt ⟨_, h⟩
    show (outsAt0 m c (8 * s) h).2 (ix2 p j) = _
    rw [show outsAt0 m c (8 * s) h = _ from outsAt0_A m c ⟨8 * s, h⟩ (by dsimp only; omega) (by dsimp only at this ⊢; omega) (by dsimp only; omega)]
    dsimp only
    rw [wgIn_first]
    exact (wgIn_start (iblk m c 0 ⟨8 * s, h⟩) (iblk m c 1 ⟨8 * s, h⟩) p j).trans (wgIn_tile m c ⟨8 * s, h⟩ s 0 (by omega) rfl p j q l hq hl)
  · show (outsAt0 m c (8 * s + (k + 1)) h).2 (ix2 p j) = (outsAt0 m c (8 * s + k) h').2 (ix2 p j) + _
    rw [show outsAt0 m c (8 * s + (k + 1)) h = _ from outsAt0_B m c ⟨8 * s + (k + 1), h⟩ (by dsimp only; omega) (by dsimp only; omega) (by dsimp only; omega)]
    dsimp only
    rw [wgIn_next]
    exact (wgIn_entry (iblk m c 0 ⟨8 * s + (k + 1), h⟩) (iblk m c 1 ⟨8 * s + (k + 1), h⟩) _ p j).trans
      (congrArg (fun z : EReal => (outsAt0 m c (8 * s + k) h').2 (ix2 p j) + z) (wgIn_tile m c ⟨8 * s + (k + 1), h⟩ s (k + 1) (by omega) rfl p j q l hq hl))

theorem wgIn_written (t : Fin cfg0.N) (hf : (cfg0.win 2).flush t = true) :
    (dats m 0 c).flushed 2 t = ((cfg0.win 2).blk t).view.read (Elt Ideal) (fun i => id (spread (P := 1) (r := 864) 0 (V m c main_arg0) (V m c main_arg1) i)) := by
  have h2 : t.val % 8 = 7 := (flush0_2 t).mp hf
  have ht := wgIn_lt t
  rw [flushed2_C m c t (by omega) (by omega) h2, wgIn_out]
  funext y
  obtain ⟨a, d, p, j, rfl⟩ : ∃ (a : Fin 1) (d : Fin 4) (p : Fin 864) (j : Fin 512), y = ix4 a d p j := ⟨y 0, y 1, y 2, y 3, eq_ix4 y⟩
  obtain ⟨-, -, ⟨e0, e1, e2, e3⟩⟩ := wgInPlaces t
  have ha := a.isLt
  obtain ⟨A, hA⟩ : ∃ A : Fin 1, A.val = 0 + t.val / 8 / 2 / 2 := ⟨⟨_, by omega⟩, rfl⟩
  obtain ⟨D, hD⟩ : ∃ D : Fin 8, D.val = t.val / 8 / 2 % 2 * 4 + d.val := ⟨⟨_, by omega⟩, rfl⟩
  obtain ⟨l, hl⟩ : ∃ l : Fin 1024, l.val = t.val / 8 % 2 * 512 + j.val := ⟨⟨_, by omega⟩, rfl⟩
  obtain ⟨q, hq, hq'⟩ : ∃ q : Fin 6912, q.val = ((A.val - 0) * 8 + D.val) * 864 + p.val ∧ q = place 0 864 A.val D.val p.val :=
    ⟨_, place_val (by omega), rfl⟩
  obtain ⟨p', hp, hp'⟩ : ∃ p' : Fin 3456, p'.val = d.val * 864 + p.val ∧ p' = Fin.ofNat 3456 (d.val * 864 + p.val) := ⟨_, Nat.mod_eq_of_lt (by omega), rfl⟩
  have here : ((cfg0.win 2).blk t).view.emb (ix4 a d p j) = ix4 A D p l :=
    at4 (show win0_2.index t (0 : Fin 4) * 1 + 1 * a.val = A.val by omega) (show win0_2.index t (1 : Fin 4) * 4 + 1 * d.val = D.val by omega)
      (show win0_2.index t (2 : Fin 4) * 864 + 1 * p.val = p.val by omega) (show win0_2.index t (3 : Fin 4) * 512 + 1 * j.val = l.val by omega)
  rw [View.read_apply, here]
  show id (k0_pay3 (F := Ideal) (iblk m c 0 t) (iblk m c 1 t) _ (ix2 (Fin.ofNat 3456 (d.val * 864 + p.val)) j)) = id (entry (V m c main_arg0) (V m c main_arg1) (place 0 864 A.val D.val p.val) l)
  rw [← hq', ← hp']
  have hq1 : q.val = t.val / 8 / 2 * 3456 + p'.val := by omega
  refine congrArg id ((wgIn_entry (iblk m c 0 t) (iblk m c 1 t) _ p' j).trans ?_)
  refine Eq.trans ?_ (taken_all (wgIn_sum m c (t.val / 8) p' j q l hq1 hl 6 (by omega) (t.val - 1) (Nat.lt_of_le_of_lt (Nat.sub_le _ _) t.isLt) (by omega)))
  exact congrArg (fun z : EReal => (outsAt0 m c (t.val - 1) (Nat.lt_of_le_of_lt (Nat.sub_le _ _) t.isLt)).2 (ix2 p' j) + z) (wgIn_tile m c t (t.val / 8) 7 (by omega) (by omega) p' j q l hq1 hl)

theorem wgIn_whole : (dats m 0 c).arrAt 2 cfg0.N = weighed 0 1 id (V m c main_arg0) (V m c main_arg1) (V m c main_v0) :=
  (dats m 0 c).arrAt_eq_of_coversWhere 2 (fun i => id (spread (P := 1) (r := 864) 0 (V m c main_arg0) (V m c main_arg1) i))
    (fun β => 0 ≤ β (0 : Fin 4) ∧ β (0 : Fin 4) < 0 + 1) (by decide +kernel) (fun t h y => congrFun (wgIn_written m c t h) y)
    (fun j => by blk_simp [Pipeline.Window.cell_apply, Nat.div_one])

end WgIn

set_option maxHeartbeats 1000000 in
theorem value_wgIn : Cert.algebraic_WgInIdeal_WgInRefIdeal := fun m g m' g' _ hx => by
  obtain ⟨h0, h1, h2⟩ := hx 0
  refine ⟨_, Cert.WgInIdeal.Value.run_blocks (F := Ideal) m g, (θ_run Cert.WgInRefIdeal.defs _ _).mono (fun r h c => ?_)
    (Cert.WgInRefIdeal.Value.run (F := Ideal) m' g')⟩
  obtain ⟨e0, e⟩ := h c
  obtain rfl : c = 0 := Subsingleton.elim _ _
  refine ⟨e0.trans ?_, e⟩
  rw [h0, h1, h2, wgIn_whole]
  funext y
  obtain ⟨a, d, p, j, rfl⟩ : ∃ (a : Fin 1) (d : Fin 8) (p : Fin 864) (j : Fin 1024), y = ix4 a d p j := ⟨y 0, y 1, y 2, y 3, eq_ix4 y⟩
  fin_cases a <;> pointwise
  · refine Eq.trans ?_ (weighed_new (first := 0) (count := 1) (f := id) (q := (0 : Fin 1)) (d := d) (p := p) (j := j) (by decide)
      (⟨0 * 864 + (d.val * 864 + p.val), by omega⟩ : Fin 6912) (by dsimp only; omega)).symm
    refine congrArg id (Finset.sum_congr rfl fun k _ => congrArg₂ (fun a b : EReal => a * b) (congrArg (m _) (congrArg (ix2 k) (Fin.ext ?_))) rfl)
    dsimp only
    omega

section WgWiden

open Cert.WgWidenIdeal Cert.WgWidenIdeal.Gen Cert.WgWidenIdeal.Value

section Body

variable (c : Dev nD) (i : grid0.Coords) (a3 : Memref sig .tc .vmem S512x2816 .bf16) (h3 : a3.IsWhole) (a4 : Memref sig .tc .vmem S512x512 .bf16) (h4 : a4.IsWhole)
  (a6 : Memref sig .tc .vmem S1x8x352x512 .bf16) (h6 : a6.IsWhole) (a7 : Memref sig .tc .vmem S2816x512 .f32) (h7 : a7.IsWhole)
  (x : Vec Ideal S512x2816 .bf16) (w : Vec Ideal S512x512 .bf16) (acc : Vec Ideal S2816x512 .f32)

theorem wgWiden_first (hc0 : cond0_0 i) (hc1 : ¬cond0_1 i) (hc2 : ¬cond0_2 i) :
    sout0_A_0 (F := Ideal) c i a3 h3 a4 h4 a6 h6 a7 h7 hc0 hc1 hc2 x w = k0_pay2 x w := by
  unfold sout0_A_0
  rw [View.read_writes_eq_canon _ _ _ (scover0_A_0 c i a3 h3 a4 h4 a6 h6 a7 h7 hc0 hc1 hc2 x w)]
  unfold kernelRun0_A
  dsimp only
  sl_unfold_words
  rw [View.canon_unit_zero corner]
  simp only [View.readAt_eq_ld, h3.read_unread, h4.read_unread, View.ld_unit_zero (S := S512x2816) corner, View.ld_unit_zero (S := S512x512) corner, shapeCast_self]

theorem wgWiden_next (hc0 : ¬cond0_0 i) (hc1 : cond0_1 i) (hc2 : ¬cond0_2 i) :
    sout0_B_0 (F := Ideal) c i a3 h3 a4 h4 a6 h6 a7 h7 hc0 hc1 hc2 x w acc = k0_pay3 x w acc := by
  unfold sout0_B_0
  rw [View.read_writes_eq_canon _ _ _ (scover0_B_0 c i a3 h3 a4 h4 a6 h6 a7 h7 hc0 hc1 hc2 x w acc)]
  unfold kernelRun0_B
  dsimp only
  sl_unfold_words
  rw [View.canon_unit_zero corner]
  simp only [View.readAt_eq_ld, h3.read_unread, h4.read_unread, h7.read_unread, View.ld_unit_zero (S := S512x2816) corner, View.ld_unit_zero (S := S512x512) corner, View.ld_unit_zero (S := S2816x512) corner, shapeCast_self]

theorem wgWiden_entry (p : Fin 2816) (j : Fin 512) :
    k0_pay3 (F := Ideal) x w acc (ix2 p j) = acc (ix2 p j) + ∑ k : Fin 512, x (ix2 k p) * w (ix2 k j) := by
  pointwise [k0_pay3, k0_pay1]

theorem wgWiden_start (p : Fin 2816) (j : Fin 512) : k0_pay2 (F := Ideal) x w (ix2 p j) = ∑ k : Fin 512, x (ix2 k p) * w (ix2 k j) := by
  pointwise [k0_pay2, k0_pay1]

theorem wgWiden_pay (v : Vec Ideal S352x512 .f32) (p : Fin 352) (j : Fin 512) : k0_pay4 (F := Ideal) v (ix4 (0 : Fin 1) (0 : Fin 1) p j) = id (v (ix2 p j)) := by
  pointwise [k0_pay4, id]

/-- The last point's block is the whole sum's parts. -/
theorem wgWiden_out (hc0 : ¬cond0_0 i) (hc1 : cond0_1 i) (hc2 : cond0_2 i) :
    out0_C_2 (F := Ideal) c i a3 h3 a4 h4 a6 h6 a7 h7 hc0 hc1 hc2 x w acc = parts id (k0_pay3 (F := Ideal) x w acc) := by
  funext y
  unfold out0_C_2
  rw [View.read_writes_eq_canon _ _ _ (cover0_C_2 c i a3 h3 a4 h4 a6 h6 a7 h7 hc0 hc1 hc2 x w acc)]
  refine View.canon_apply_of_pieces (Val := Elt Ideal) (e := .bf16) (parts (q := 8) (r := 352) id (k0_pay3 (F := Ideal) x w acc)) _ ?_ _ (cover0_C_2 c i a3 h3 a4 h4 a6 h6 a7 h7 hc0 hc1 hc2 x w acc _)
  unfold kernelRun0_C
  dsimp only
  sl_unfold_words
  simp only [View.readAt_eq_ld, h3.read_unread, h4.read_unread, h7.read_unread, View.ld_unit_zero (S := S512x2816) corner, View.ld_unit_zero (S := S512x512) corner, View.ld_unit_zero (S := S2816x512) corner]
  intro pc hpc
  simp only [List.mem_cons, List.not_mem_nil, or_false, read_back (S := S2816x512) a7.view corner] at hpc
  rcases hpc with rfl | rfl | rfl | rfl | rfl | rfl | rfl | rfl
  · exact fun y => piece wgWiden_pay (k0_pay3 (F := Ideal) x w acc) 7 2464 rfl inb_S2816x512_S352x512_2464_0 inb_S1x8x352x512_S1x1x352x512_0_7_0_0 y
  · exact fun y => piece wgWiden_pay (k0_pay3 (F := Ideal) x w acc) 6 2112 rfl inb_S2816x512_S352x512_2112_0 inb_S1x8x352x512_S1x1x352x512_0_6_0_0 y
  · exact fun y => piece wgWiden_pay (k0_pay3 (F := Ideal) x w acc) 5 1760 rfl inb_S2816x512_S352x512_1760_0 inb_S1x8x352x512_S1x1x352x512_0_5_0_0 y
  · exact fun y => piece wgWiden_pay (k0_pay3 (F := Ideal) x w acc) 4 1408 rfl inb_S2816x512_S352x512_1408_0 inb_S1x8x352x512_S1x1x352x512_0_4_0_0 y
  · exact fun y => piece wgWiden_pay (k0_pay3 (F := Ideal) x w acc) 3 1056 rfl inb_S2816x512_S352x512_1056_0 inb_S1x8x352x512_S1x1x352x512_0_3_0_0 y
  · exact fun y => piece wgWiden_pay (k0_pay3 (F := Ideal) x w acc) 2 704 rfl inb_S2816x512_S352x512_704_0 inb_S1x8x352x512_S1x1x352x512_0_2_0_0 y
  · exact fun y => piece wgWiden_pay (k0_pay3 (F := Ideal) x w acc) 1 352 rfl inb_S2816x512_S352x512_352_0 inb_S1x8x352x512_S1x1x352x512_0_1_0_0 y
  · exact fun y => piece wgWiden_pay (k0_pay3 (F := Ideal) x w acc) 0 0 rfl inb_S2816x512_S352x512_0_0 inb_S1x8x352x512_S1x1x352x512_0_0_0_0 y

end Body

variable (m : (ℓ : Loc nD τ sig) → Buf (Elt Ideal) ℓ) (c : Dev nD)

theorem wgWidenPlaces : ∀ t : Fin cfg0.N, (win0_0.index t (0 : Fin 2) = t.val % 8 ∧ win0_0.index t (1 : Fin 2) = t.val / 8 / 2)
    ∧ (win0_1.index t (0 : Fin 2) = t.val % 8 ∧ win0_1.index t (1 : Fin 2) = t.val / 8 % 2)
    ∧ (win0_2.index t (0 : Fin 4) = 0 + t.val / 8 / 2 / 1 ∧ win0_2.index t (1 : Fin 4) = t.val / 8 / 2 % 1
      ∧ win0_2.index t (2 : Fin 4) = 0 ∧ win0_2.index t (3 : Fin 4) = t.val / 8 % 2) :=
  (by decide +kernel : ∀ t : Fin grid0.N, _)

theorem wgWiden_lt (t : Fin cfg0.N) : t.val < 32 := lt_of_lt_of_eq t.isLt (show cfg0.N = 32 from N_0)

abbrev wgWidenLeft (t : Fin cfg0.N) : Mat 512 2816 := iblk m c 0 t
abbrev wgWidenRight (t : Fin cfg0.N) : Mat 512 512 := iblk m c 1 t

/-- A point's product is a tile of the sum. -/
theorem wgWiden_tile (t : Fin cfg0.N) (s k : Nat) (hk : k < 8) (ht : t.val = 8 * s + k) (p : Fin 2816) (j : Fin 512) (q : Fin 5632) (l : Fin 1024)
    (hq : q.val = s / 2 * 2816 + p.val) (hl : l.val = s % 2 * 512 + j.val) :
    ∑ i : Fin 512, wgWidenLeft m c t (ix2 i p) * wgWidenRight m c t (ix2 i j) = Norm.tile (term (V m c main_arg0) (V m c main_arg1) q l) k := by
  obtain ⟨⟨e0, e1⟩, ⟨e2, e3⟩, -⟩ := wgWidenPlaces t
  rw [Norm.tile_of hk]
  refine Finset.sum_congr rfl fun i _ => congrArg₂ (fun a b : EReal => a * b) ?_ ?_
  · exact congrArg (V m c main_arg0) (at2 (show win0_0.index t (0 : Fin 2) * 512 + 1 * i.val = k * 512 + i.val by omega)
      (show win0_0.index t (1 : Fin 2) * 2816 + 1 * p.val = q.val by omega))
  · exact congrArg (V m c main_arg1) (at2 (show win0_1.index t (0 : Fin 2) * 512 + 1 * i.val = k * 512 + i.val by omega)
      (show win0_1.index t (1 : Fin 2) * 512 + 1 * j.val = l.val by omega))

theorem wgWiden_sum (s : Nat) (p : Fin 2816) (j : Fin 512) (q : Fin 5632) (l : Fin 1024)
    (hq : q.val = s / 2 * 2816 + p.val) (hl : l.val = s % 2 * 512 + j.val) (k : Nat) (hk : k < 7) (n : Nat) (h : n < cfg0.N) (hn : n = 8 * s + k) :
    (outsAt0 m c n h).2 (ix2 p j) = ∑ t ∈ Finset.range (k + 1), Norm.tile (term (V m c main_arg0) (V m c main_arg1) q l) t := by
  subst hn
  refine taken (fun n h => (outsAt0 m c n h).2 (ix2 p j)) _ s (fun h => ?_) (fun k hk h h' => ?_) k hk h
  · have := wgWiden_lt ⟨_, h⟩
    show (outsAt0 m c (8 * s) h).2 (ix2 p j) = _
    rw [show outsAt0 m c (8 * s) h = _ from outsAt0_A m c ⟨8 * s, h⟩ (by dsimp only; omega) (by dsimp only at this ⊢; omega) (by dsimp only; omega)]
    dsimp only
    rw [wgWiden_first]
    exact (wgWiden_start (iblk m c 0 ⟨8 * s, h⟩) (iblk m c 1 ⟨8 * s, h⟩) p j).trans (wgWiden_tile m c ⟨8 * s, h⟩ s 0 (by omega) rfl p j q l hq hl)
  · show (outsAt0 m c (8 * s + (k + 1)) h).2 (ix2 p j) = (outsAt0 m c (8 * s + k) h').2 (ix2 p j) + _
    rw [show outsAt0 m c (8 * s + (k + 1)) h = _ from outsAt0_B m c ⟨8 * s + (k + 1), h⟩ (by dsimp only; omega) (by dsimp only; omega) (by dsimp only; omega)]
    dsimp only
    rw [wgWiden_next]
    exact (wgWiden_entry (iblk m c 0 ⟨8 * s + (k + 1), h⟩) (iblk m c 1 ⟨8 * s + (k + 1), h⟩) _ p j).trans
      (congrArg (fun z : EReal => (outsAt0 m c (8 * s + k) h').2 (ix2 p j) + z) (wgWiden_tile m c ⟨8 * s + (k + 1), h⟩ s (k + 1) (by omega) rfl p j q l hq hl))

theorem wgWiden_written (t : Fin cfg0.N) (hf : (cfg0.win 2).flush t = true) :
    (dats m 0 c).flushed 2 t = ((cfg0.win 2).blk t).view.read (Elt Ideal) (fun i => id (spread (P := 6) (r := 352) 0 (V m c main_arg0) (V m c main_arg1) i)) := by
  have h2 : t.val % 8 = 7 := (flush0_2 t).mp hf
  have ht := wgWiden_lt t
  rw [flushed2_C m c t (by omega) (by omega) h2, wgWiden_out]
  funext y
  obtain ⟨a, d, p, j, rfl⟩ : ∃ (a : Fin 1) (d : Fin 8) (p : Fin 352) (j : Fin 512), y = ix4 a d p j := ⟨y 0, y 1, y 2, y 3, eq_ix4 y⟩
  obtain ⟨-, -, ⟨e0, e1, e2, e3⟩⟩ := wgWidenPlaces t
  have ha := a.isLt
  obtain ⟨A, hA⟩ : ∃ A : Fin 6, A.val = 0 + t.val / 8 / 2 / 1 := ⟨⟨_, by omega⟩, rfl⟩
  obtain ⟨D, hD⟩ : ∃ D : Fin 8, D.val = t.val / 8 / 2 % 1 * 8 + d.val := ⟨⟨_, by omega⟩, rfl⟩
  obtain ⟨l, hl⟩ : ∃ l : Fin 1024, l.val = t.val / 8 % 2 * 512 + j.val := ⟨⟨_, by omega⟩, rfl⟩
  obtain ⟨q, hq, hq'⟩ : ∃ q : Fin 5632, q.val = ((A.val - 0) * 8 + D.val) * 352 + p.val ∧ q = place 0 352 A.val D.val p.val :=
    ⟨_, place_val (by omega), rfl⟩
  obtain ⟨p', hp, hp'⟩ : ∃ p' : Fin 2816, p'.val = d.val * 352 + p.val ∧ p' = Fin.ofNat 2816 (d.val * 352 + p.val) := ⟨_, Nat.mod_eq_of_lt (by omega), rfl⟩
  have here : ((cfg0.win 2).blk t).view.emb (ix4 a d p j) = ix4 A D p l :=
    at4 (show win0_2.index t (0 : Fin 4) * 1 + 1 * a.val = A.val by omega) (show win0_2.index t (1 : Fin 4) * 8 + 1 * d.val = D.val by omega)
      (show win0_2.index t (2 : Fin 4) * 352 + 1 * p.val = p.val by omega) (show win0_2.index t (3 : Fin 4) * 512 + 1 * j.val = l.val by omega)
  rw [View.read_apply, here]
  show id (k0_pay3 (F := Ideal) (iblk m c 0 t) (iblk m c 1 t) _ (ix2 (Fin.ofNat 2816 (d.val * 352 + p.val)) j)) = id (entry (V m c main_arg0) (V m c main_arg1) (place 0 352 A.val D.val p.val) l)
  rw [← hq', ← hp']
  have hq1 : q.val = t.val / 8 / 2 * 2816 + p'.val := by omega
  refine congrArg id ((wgWiden_entry (iblk m c 0 t) (iblk m c 1 t) _ p' j).trans ?_)
  refine Eq.trans ?_ (taken_all (wgWiden_sum m c (t.val / 8) p' j q l hq1 hl 6 (by omega) (t.val - 1) (Nat.lt_of_le_of_lt (Nat.sub_le _ _) t.isLt) (by omega)))
  exact congrArg (fun z : EReal => (outsAt0 m c (t.val - 1) (Nat.lt_of_le_of_lt (Nat.sub_le _ _) t.isLt)).2 (ix2 p' j) + z) (wgWiden_tile m c t (t.val / 8) 7 (by omega) (by omega) p' j q l hq1 hl)

theorem wgWiden_whole : (dats m 0 c).arrAt 2 cfg0.N = weighed 0 2 id (V m c main_arg0) (V m c main_arg1) (V m c main_v0) :=
  (dats m 0 c).arrAt_eq_of_coversWhere 2 (fun i => id (spread (P := 6) (r := 352) 0 (V m c main_arg0) (V m c main_arg1) i))
    (fun β => 0 ≤ β (0 : Fin 4) ∧ β (0 : Fin 4) < 0 + 2) (by decide +kernel) (fun t h y => congrFun (wgWiden_written m c t h) y)
    (fun j => by blk_simp [Pipeline.Window.cell_apply, Nat.div_one])

end WgWiden

set_option maxHeartbeats 1000000 in
theorem value_wgWiden : Cert.algebraic_WgWidenIdeal_WgWidenRefIdeal := fun m g m' g' _ hx => by
  obtain ⟨h0, h1, h2⟩ := hx 0
  refine ⟨_, Cert.WgWidenIdeal.Value.run_blocks (F := Ideal) m g, (θ_run Cert.WgWidenRefIdeal.defs _ _).mono (fun r h c => ?_)
    (Cert.WgWidenRefIdeal.Value.run (F := Ideal) m' g')⟩
  obtain ⟨e0, e⟩ := h c
  obtain rfl : c = 0 := Subsingleton.elim _ _
  refine ⟨e0.trans ?_, e⟩
  rw [h0, h1, h2, wgWiden_whole]
  funext y
  obtain ⟨a, d, p, j, rfl⟩ : ∃ (a : Fin 6) (d : Fin 8) (p : Fin 352) (j : Fin 1024), y = ix4 a d p j := ⟨y 0, y 1, y 2, y 3, eq_ix4 y⟩
  generalize hZ : shapeCast _ _ _ = Z
  fin_cases a <;> pointwise
  · subst hZ
    refine (parted _ _ (0 : Fin 2) d p j (⟨0 * 352 + (d.val * 352 + p.val), by omega⟩ : Fin 5632) (show 0 * 352 + (d.val * 352 + p.val) = (0 * 8 + d.val) * 352 + p.val by omega)).trans ?_
    refine Eq.trans ?_ (weighed_new (first := 0) (count := 2) (f := id) (q := (0 : Fin 6)) (d := d) (p := p) (j := j) (by decide)
      (⟨0 * 352 + (d.val * 352 + p.val), by omega⟩ : Fin 5632) (by dsimp only; omega)).symm
    pointwise
    rfl
  · subst hZ
    refine (parted _ _ (1 : Fin 2) d p j (⟨8 * 352 + (d.val * 352 + p.val), by omega⟩ : Fin 5632) (show 8 * 352 + (d.val * 352 + p.val) = (1 * 8 + d.val) * 352 + p.val by omega)).trans ?_
    refine Eq.trans ?_ (weighed_new (first := 0) (count := 2) (f := id) (q := (1 : Fin 6)) (d := d) (p := p) (j := j) (by decide)
      (⟨8 * 352 + (d.val * 352 + p.val), by omega⟩ : Fin 5632) (by dsimp only; omega)).symm
    pointwise
    rfl
  · exact (weighed_old (first := 0) (count := 2) (q := (2 : Fin 6)) (by decide)).symm
  · exact (weighed_old (first := 0) (count := 2) (q := (3 : Fin 6)) (by decide)).symm
  · exact (weighed_old (first := 0) (count := 2) (q := (4 : Fin 6)) (by decide)).symm
  · exact (weighed_old (first := 0) (count := 2) (q := (5 : Fin 6)) (by decide)).symm

end Cert.Values
-- ==== Proof.HeadValue.lean ====
/-
# The loss on the reals

The kernel takes eight tiles of 512 rows. What it writes of a tile is the whole array's formula on the tile's rows; the
loss and the gain's gradient, added up in blocks that stay, are after the last tile the sums over all rows. The half of
a sum is the sum of the halves, and a quotient by 1024 is a product with 1/1024, whatever the arguments.
-/
module

public import Idealize.ShloMosaic.Lib.Pipeline.ValueKit.Partial
public import proofs.«01_k».proof.Defs
public import proofs.«01_k».proof.Proof.Norm
public import proofs.«01_k».proof.Proof.BackValue
public import proofs.«01_k».proof.Proof.Gen.HeadIdeal.Value
public import proofs.«01_k».proof.Proof.Gen.HeadRefIdeal.Run

@[expose] public section

set_option maxRecDepth 16384

noncomputable section

namespace Cert.Values

open Idealize.ShloMosaic Idealize.ShloMosaic.TcCoe Idealize.SL.Sem
open Cert.Norm

/-- The three results as formulas of whole arrays. -/
def headLoss (x : Rows 4096) (g : Rows 1) (t : Rows 4096) : (⟨2, ![8, 128]⟩ : Shape).Idx → EReal := fun _ =>
  half * ∑ k, loss (row x k) (row g 0) (row t k)
def headDx (x : Rows 4096) (g : Rows 1) (t : Rows 4096) : Rows 4096 := fun i =>
  back (row x (i 0)) (row g 0) (slope (row x (i 0)) (row g 0) (row t (i 0))) (i 1)
def headDg (x : Rows 4096) (g : Rows 1) (t : Rows 4096) : Rows 1 := fun i =>
  ∑ k, Norm.gain (row x k) (slope (row x k) (row g 0) (row t k)) (i 1)

section Head

open Cert.HeadIdeal Cert.HeadIdeal.Gen Cert.HeadIdeal.Value

section Body

variable (c : Dev nD) (i : grid0.Coords) (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S8x128 .f32) (h4 : a4.IsWhole)
  (a5 : Memref sig .tc .vmem S512x1024 .f32) (h5 : a5.IsWhole) (a6 : Memref sig .tc .vmem S1x1024 .f32) (h6 : a6.IsWhole)
  (x : Vec Ideal S512x1024 .f32) (g : Vec Ideal S1x1024 .f32) (t : Vec Ideal S512x1024 .f32) (acc3 : Vec Ideal S8x128 .f32) (acc5 : Vec Ideal S1x1024 .f32)

/-- What a point leaves, the first one and the others. -/
theorem head_dx_first (hc : cond0_0 i) :
    out0_A_4 (F := Ideal) c i a1 h1 a2 h2 a3 h3 a4 h4 a5 h5 a6 h6 hc x g t = k0_pay7 x g t := by
  unfold out0_A_4
  rw [View.read_writes_eq_canon _ _ _ (cover0_A_4 c i a1 h1 a2 h2 a3 h3 a4 h4 a5 h5 a6 h6 hc x g t)]
  unfold kernelRun0_A
  dsimp only
  sl_unfold_words
  rw [View.canon_unit_zero origin]
  simp only [View.readAt_eq_ld, h1.read_unread, h2.read_unread, h3.read_unread, h4.read_unread, h6.read_unread,
    View.ld_unit_zero (S := S512x1024) origin, View.ld_unit_zero (S := S1x1024) origin, View.ld_unit_zero (S := S8x128) origin, shapeCast_self]

theorem head_dx_later (hc : ¬cond0_0 i) :
    out0_B_4 (F := Ideal) c i a1 h1 a2 h2 a3 h3 a4 h4 a5 h5 a6 h6 hc x g t acc3 acc5 = k0_pay7 x g t := by
  unfold out0_B_4
  rw [View.read_writes_eq_canon _ _ _ (cover0_B_4 c i a1 h1 a2 h2 a3 h3 a4 h4 a5 h5 a6 h6 hc x g t acc3 acc5)]
  unfold kernelRun0_B
  dsimp only
  sl_unfold_words
  rw [View.canon_unit_zero origin]
  simp only [View.readAt_eq_ld, h1.read_unread, h2.read_unread, h3.read_unread, h4.read_unread, h6.read_unread,
    View.ld_unit_zero (S := S512x1024) origin, View.ld_unit_zero (S := S1x1024) origin, View.ld_unit_zero (S := S8x128) origin, shapeCast_self]

theorem head_dg_first (hc : cond0_0 i) :
    out0_A_5 (F := Ideal) c i a1 h1 a2 h2 a3 h3 a4 h4 a5 h5 a6 h6 hc x g t = k0_pay1 k0_pay8 (k0_pay11 x g t) := by
  unfold out0_A_5
  rw [View.read_writes_eq_canon _ _ _ (cover0_A_5 c i a1 h1 a2 h2 a3 h3 a4 h4 a5 h5 a6 h6 hc x g t)]
  unfold kernelRun0_A
  dsimp only
  sl_unfold_words
  rw [View.canon_cons_unit_zero (S := S1x1024) origin, View.readCov_unit_zero (S := S1x1024) _ origin]
  unfold k0_pay10
  simp only [View.readAt_eq_ld, h1.read_unread, h2.read_unread, h3.read_unread, h4.read_unread, h6.read_unread,
    View.ld_unit_zero (S := S512x1024) origin, View.ld_unit_zero (S := S1x1024) origin, View.ld_unit_zero (S := S8x128) origin, shapeCast_self]

theorem head_dg_later (hc : ¬cond0_0 i) :
    out0_B_5 (F := Ideal) c i a1 h1 a2 h2 a3 h3 a4 h4 a5 h5 a6 h6 hc x g t acc3 acc5 = k0_pay1 acc5 (k0_pay11 x g t) := by
  unfold out0_B_5
  rw [View.read_writes_eq_canon _ _ _ (cover0_B_5 c i a1 h1 a2 h2 a3 h3 a4 h4 a5 h5 a6 h6 hc x g t acc3 acc5)]
  unfold kernelRun0_B
  dsimp only
  sl_unfold_words
  rw [View.canon_unit_zero origin]
  unfold k0_pay10
  simp only [View.readAt_eq_ld, h1.read_unread, h2.read_unread, h3.read_unread, h4.read_unread, h6.read_unread,
    View.ld_unit_zero (S := S512x1024) origin, View.ld_unit_zero (S := S1x1024) origin, View.ld_unit_zero (S := S8x128) origin, shapeCast_self]

theorem head_loss_first (hc : cond0_0 i) :
    out0_A_3 (F := Ideal) c i a1 h1 a2 h2 a3 h3 a4 h4 a5 h5 a6 h6 hc x g t = k0_pay2 (k0_pay5 x g t) (k0_pay9 (F := Ideal)) := by
  unfold out0_A_3
  rw [View.read_writes_eq_canon _ _ _ (cover0_A_3 c i a1 h1 a2 h2 a3 h3 a4 h4 a5 h5 a6 h6 hc x g t)]
  unfold kernelRun0_A
  dsimp only
  sl_unfold_words
  rw [View.canon_cons_unit_zero (S := S8x128) origin, View.readCov_unit_zero (S := S8x128) _ origin]
  simp only [View.readAt_eq_ld, h1.read_unread, h2.read_unread, h3.read_unread, h4.read_unread, h6.read_unread,
    View.ld_unit_zero (S := S512x1024) origin, View.ld_unit_zero (S := S1x1024) origin, View.ld_unit_zero (S := S8x128) origin, shapeCast_self]

theorem head_loss_later (hc : ¬cond0_0 i) :
    out0_B_3 (F := Ideal) c i a1 h1 a2 h2 a3 h3 a4 h4 a5 h5 a6 h6 hc x g t acc3 acc5 = k0_pay2 (k0_pay5 x g t) acc3 := by
  unfold out0_B_3
  rw [View.read_writes_eq_canon _ _ _ (cover0_B_3 c i a1 h1 a2 h2 a3 h3 a4 h4 a5 h5 a6 h6 hc x g t acc3 acc5)]
  unfold kernelRun0_B
  dsimp only
  sl_unfold_words
  rw [View.canon_unit_zero origin]
  simp only [View.readAt_eq_ld, h1.read_unread, h2.read_unread, h3.read_unread, h4.read_unread, h6.read_unread,
    View.ld_unit_zero (S := S512x1024) origin, View.ld_unit_zero (S := S1x1024) origin, View.ld_unit_zero (S := S8x128) origin, shapeCast_self]

/-- A tile's results, element by element. -/
theorem head_dx_entry (p : Fin 512) (j : Fin 1024) :
    k0_pay7 (F := Ideal) x g t (ix2 p j) = back (row (n := 512) x p) (row (n := 1) g 0) (slope (row (n := 512) x p) (row (n := 1) g 0) (row (n := 512) t p)) j := by
  pointwise [k0_pay7, k0_pay6, k0_pay5, k0_pay4, k0_pay3]
  rfl

theorem head_dg_entry (j : Fin 1024) :
    k0_pay1 (F := Ideal) acc5 (k0_pay11 x g t) (ix2 0 j)
      = acc5 (ix2 0 j) + ∑ p : Fin 512, Norm.gain (row (n := 512) x p) (slope (row (n := 512) x p) (row (n := 1) g 0) (row (n := 512) t p)) j := by
  pointwise [k0_pay1, k0_pay11, k0_pay6, k0_pay5, k0_pay4, k0_pay3]
  rfl

theorem head_loss_entry (a : Fin 8) (b : Fin 128) :
    k0_pay2 (F := Ideal) (k0_pay5 x g t) acc3 (ix2 a b)
      = acc3 (ix2 a b) + half * ∑ p : Fin 512, loss (row (n := 512) x p) (row (n := 1) g 0) (row (n := 512) t p) := by
  pointwise [k0_pay2, k0_pay5, k0_pay4, k0_pay3]
  rfl

theorem head_dg_start (j : Fin 1024) : k0_pay8 (F := Ideal) (ix2 0 j) = (0 : EReal) := by
  pointwise [k0_pay8]

theorem head_loss_start (a : Fin 8) (b : Fin 128) : k0_pay9 (F := Ideal) (ix2 a b) = (0 : EReal) := by
  pointwise [k0_pay9]

end Body

variable (m : (ℓ : Loc nD τ sig) → Buf (Elt Ideal) ℓ) (c : Dev nD)

/-- Where a point reads and writes. -/
theorem headPlaces : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = 0 ∧ win0_5.index t (1 : Fin 2) = 0) :=
  (by decide +kernel : ∀ t : Fin grid0.N, _)

theorem head_lt (t : Fin cfg0.N) : t.val < 8 := lt_of_lt_of_eq t.isLt (show cfg0.N = 8 from N_0)

/-- A tile's blocks, in the arrays they are cut from. -/
theorem head_x (t : Fin cfg0.N) (p : Fin 512) : row (n := 512) (iblk m c 0 t) p = row (n := 4096) (V m c main_arg0) (place t.val (head_lt t) p) := by
  obtain ⟨⟨e0, e1⟩, -⟩ := headPlaces t
  funext k
  unfold row iblk
  rw [View.read_apply]
  show V m c main_arg0 _ = V m c main_arg0 _
  congr 1
  funext a; apply Fin.ext
  match a with
  | ⟨0, _⟩ => show win0_0.index t (0 : Fin 2) * 512 + 1 * p.val = t.val * 512 + p.val; omega
  | ⟨1, _⟩ => show win0_0.index t (1 : Fin 2) * 1024 + 1 * k.val = k.val; omega

theorem head_g (t : Fin cfg0.N) : row (n := 1) (iblk m c 1 t) 0 = row (n := 1) (V m c main_arg1) 0 := by
  obtain ⟨-, ⟨e0, e1⟩, -⟩ := headPlaces t
  funext k
  unfold row iblk
  rw [View.read_apply]
  show V m c main_arg1 _ = V m c main_arg1 _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem head_t (t : Fin cfg0.N) (p : Fin 512) : row (n := 512) (iblk m c 2 t) p = row (n := 4096) (V m c main_arg2) (place t.val (head_lt t) p) := by
  obtain ⟨-, -, ⟨e0, e1⟩, -⟩ := headPlaces t
  funext k
  unfold row iblk
  rw [View.read_apply]
  show V m c main_arg2 _ = V m c main_arg2 _
  congr 1
  funext a; apply Fin.ext
  match a with
  | ⟨0, _⟩ => show win0_2.index t (0 : Fin 2) * 512 + 1 * p.val = t.val * 512 + p.val; omega
  | ⟨1, _⟩ => show win0_2.index t (1 : Fin 2) * 1024 + 1 * k.val = k.val; omega

/-- After any point the second output's block holds the formula of the point's tile. -/
theorem head_left (t : Fin cfg0.N) : (outsAt0 m c t.val t.isLt).2.1 = k0_pay7 (iblk m c 0 t) (iblk m c 1 t) (iblk m c 2 t) := by
  by_cases h0 : t.val % 8 = 0
  · rw [outsAt0_A m c t h0]; dsimp only; rw [head_dx_first]
  · rw [outsAt0_B m c t h0]; dsimp only; rw [head_dx_later]

theorem head_written (t : Fin cfg0.N) : (dats m 0 c).flushed 4 t
    = ((cfg0.win 4).blk t).view.read (Elt Ideal) (headDx (V m c main_arg0) (V m c main_arg1) (V m c main_arg2)) := by
  rw [flushed4, head_left]
  funext y
  obtain ⟨p, j, rfl⟩ : ∃ (p : Fin 512) (j : Fin 1024), y = ix2 p j := ⟨y 0, y 1, eq_ix2 y⟩
  obtain ⟨-, -, -, -, ⟨e0, e1⟩, -⟩ := headPlaces t
  have here : ((cfg0.win 4).blk t).view.emb (ix2 p j) = ix2 (place t.val (head_lt t) p) j := by
    funext a; apply Fin.ext
    match a with
    | ⟨0, _⟩ => show win0_4.index t (0 : Fin 2) * 512 + 1 * p.val = t.val * 512 + p.val; omega
    | ⟨1, _⟩ => show win0_4.index t (1 : Fin 2) * 1024 + 1 * j.val = j.val; omega
  refine (head_dx_entry (iblk m c 0 t) (iblk m c 1 t) (iblk m c 2 t) p j).trans ?_
  rw [head_x, head_g, head_t]
  rw [View.read_apply, here]
  rfl

theorem head_dx : (dats m 0 c).arrAt 4 cfg0.N = headDx (V m c main_arg0) (V m c main_arg1) (V m c main_arg2) :=
  (dats m 0 c).arrAt_eq_of_cover 4 _ (fun t _ => head_written m c t)
    (Pipeline.Window.Covers.cover _ (by decide +kernel) (Memref.isWhole_whole _))

/-- The gain's gradient down the tiles taken so far. -/
theorem head_sum (j : Fin 1024) : ∀ (n : ℕ) (h : n < cfg0.N), (outsAt0 m c n h).2.2 (ix2 0 j)
    = ∑ t ∈ Finset.range (n + 1), tile (fun k => Norm.gain (row (n := 4096) (V m c main_arg0) k) (slope (row (n := 4096) (V m c main_arg0) k) (row (n := 1) (V m c main_arg1) 0) (row (n := 4096) (V m c main_arg2) k)) j) t
  | 0, h => by
    rw [show outsAt0 m c 0 h = _ from outsAt0_A m c ⟨0, h⟩ rfl]
    dsimp only
    rw [head_dg_first]
    refine (head_dg_entry _ _ _ _ j).trans ?_
    rw [head_dg_start, zero_add, Finset.sum_range_one, tile_of (t := 0) (by omega)]
    exact Finset.sum_congr rfl fun p _ => by rw [head_x, head_g, head_t]
  | n + 1, h => by
    have h8 : n + 1 < 8 := head_lt ⟨n + 1, h⟩
    have hB : ¬(⟨n + 1, h⟩ : Fin cfg0.N).val % 8 = 0 := by dsimp only; omega
    rw [show outsAt0 m c (n + 1) h = _ from outsAt0_B m c ⟨n + 1, h⟩ hB]
    dsimp only
    rw [head_dg_later]
    refine (head_dg_entry _ _ _ _ j).trans ?_
    rw [Finset.sum_range_succ, tile_of h8]
    refine congrArg₂ (· + ·) (head_sum j n _) ?_
    exact Finset.sum_congr rfl fun p _ => by rw [head_x, head_g, head_t]

/-- The loss over the tiles taken so far. -/
theorem head_part (a : Fin 8) (b : Fin 128) : ∀ (n : ℕ) (h : n < cfg0.N), (outsAt0 m c n h).1 (ix2 a b)
    = half * ∑ t ∈ Finset.range (n + 1), tile (fun k => loss (row (n := 4096) (V m c main_arg0) k) (row (n := 1) (V m c main_arg1) 0) (row (n := 4096) (V m c main_arg2) k)) t
  | 0, h => by
    rw [show outsAt0 m c 0 h = _ from outsAt0_A m c ⟨0, h⟩ rfl]
    dsimp only
    rw [head_loss_first]
    refine (head_loss_entry _ _ _ _ a b).trans ?_
    rw [head_loss_start, zero_add, Finset.sum_range_one, tile_of (t := 0) (by omega)]
    refine congrArg (half * ·) ?_
    exact Finset.sum_congr rfl fun p _ => by rw [head_x, head_g, head_t]
  | n + 1, h => by
    have h8 : n + 1 < 8 := head_lt ⟨n + 1, h⟩
    have hB : ¬(⟨n + 1, h⟩ : Fin cfg0.N).val % 8 = 0 := by dsimp only; omega
    rw [show outsAt0 m c (n + 1) h = _ from outsAt0_B m c ⟨n + 1, h⟩ hB]
    dsimp only
    rw [head_loss_later]
    refine (head_loss_entry _ _ _ _ a b).trans ?_
    rw [Finset.sum_range_succ, tile_of h8, half_add]
    refine congrArg₂ (· + ·) (head_part a b n _) (congrArg (half * ·) ?_)
    exact Finset.sum_congr rfl fun p _ => by rw [head_x, head_g, head_t]

theorem head_dg_total : (outsAt0 m c 7 (by rw [show cfg0.N = 8 from N_0]; decide)).2.2 = headDg (V m c main_arg0) (V m c main_arg1) (V m c main_arg2) := by
  funext y
  obtain ⟨p, j, rfl⟩ : ∃ (p : Fin 1) (j : Fin 1024), y = ix2 p j := ⟨y 0, y 1, eq_ix2 y⟩
  obtain rfl : p = 0 := Subsingleton.elim _ _
  exact (head_sum m c j 7 _).trans (sum_tiles _)

theorem head_loss_total : (outsAt0 m c 7 (by rw [show cfg0.N = 8 from N_0]; decide)).1 = headLoss (V m c main_arg0) (V m c main_arg1) (V m c main_arg2) := by
  funext y
  obtain ⟨a, b, rfl⟩ : ∃ (a : Fin 8) (b : Fin 128), y = ix2 a b := ⟨y 0, y 1, eq_ix2 y⟩
  exact (head_part m c a b 7 _).trans (congrArg (half * ·) (sum_tiles _))

theorem head_dg_flushed (t : Fin cfg0.N) (hf : (cfg0.win 5).flush t = true) :
    (dats m 0 c).flushed 5 t = ((cfg0.win 5).blk t).view.read (Elt Ideal) (headDg (V m c main_arg0) (V m c main_arg1) (V m c main_arg2)) := by
  have h7 : t.val = 7 := by have := (flush0_5 t).mp hf; have := head_lt t; omega
  obtain rfl : t = t0_7 := Fin.ext h7
  rw [flushed5, show (outsAt0 m c t0_7.val t0_7.isLt).2.2 = _ from head_dg_total m c]
  have hz : (fun a => win0_5.index t0_7 a * main_v0_2.ty.shape.size a) = fun _ => 0 := funext fun a => by fin_cases a <;> decide
  exact (Memref.read_access_unit_zero (Elt Ideal) main_v0_2 hz (fun a => by rw [congrFun hz a]; simp) (headDg (V m c main_arg0) (V m c main_arg1) (V m c main_arg2))).symm

theorem head_dg : (dats m 0 c).arrAt 5 cfg0.N = headDg (V m c main_arg0) (V m c main_arg1) (V m c main_arg2) :=
  (dats m 0 c).arrAt_eq_of_cover 5 _ (head_dg_flushed m c)
    (Pipeline.Window.Covers.cover _ (by decide +kernel) (Memref.isWhole_whole _))

theorem head_loss_flushed (t : Fin cfg0.N) (hf : (cfg0.win 3).flush t = true) :
    (dats m 0 c).flushed 3 t = ((cfg0.win 3).blk t).view.read (Elt Ideal) (headLoss (V m c main_arg0) (V m c main_arg1) (V m c main_arg2)) := by
  have h7 : t.val = 7 := by have := (flush0_3 t).mp hf; have := head_lt t; omega
  obtain rfl : t = t0_7 := Fin.ext h7
  rw [flushed3, show (outsAt0 m c t0_7.val t0_7.isLt).1 = _ from head_loss_total m c]
  have hz : (fun a => win0_3.index t0_7 a * main_v0_0.ty.shape.size a) = fun _ => 0 := funext fun a => by fin_cases a <;> decide
  exact (Memref.read_access_unit_zero (Elt Ideal) main_v0_0 hz (fun a => by rw [congrFun hz a]; simp) (headLoss (V m c main_arg0) (V m c main_arg1) (V m c main_arg2))).symm

theorem head_loss : (dats m 0 c).arrAt 3 cfg0.N = headLoss (V m c main_arg0) (V m c main_arg1) (V m c main_arg2) :=
  (dats m 0 c).arrAt_eq_of_cover 3 _ (head_loss_flushed m c)
    (Pipeline.Window.Covers.cover _ (by decide +kernel) (Memref.isWhole_whole _))

end Head

/-- The loss: the three results of the kernel are the reference's. -/
theorem value_head : Cert.algebraic_HeadIdeal_HeadRefIdeal := fun m g m' g' _ hx => by
  obtain ⟨h0, h1, h2⟩ := hx 0
  refine ⟨_, _, _, Cert.HeadIdeal.Value.run_blocks (F := Ideal) m g, (θ_run Cert.HeadRefIdeal.defs _ _).mono (fun r h c => ?_)
    (Cert.HeadRefIdeal.Value.run (F := Ideal) m' g')⟩
  obtain ⟨e0, e1, e2, e⟩ := h c
  obtain rfl : c = 0 := Subsingleton.elim _ _
  refine ⟨e0.trans ?_, e1.trans ?_, e2.trans ?_, e⟩
  · rw [h0, h1, h2, head_loss]
    funext y
    obtain ⟨a, b, rfl⟩ : ∃ (a : Fin 8) (b : Fin 128), y = ix2 a b := ⟨y 0, y 1, eq_ix2 y⟩
    pointwise
    rfl
  · rw [h0, h1, h2, head_dx]
    funext y
    obtain ⟨p, j, rfl⟩ : ∃ (p : Fin 4096) (j : Fin 1024), y = ix2 p j := ⟨y 0, y 1, eq_ix2 y⟩
    unfold headDx
    rw [slope_eq]
    pointwise
    rfl
  · rw [h0, h1, h2, head_dg]
    funext y
    obtain ⟨p, j, rfl⟩ : ∃ (p : Fin 1) (j : Fin 1024), y = ix2 p j := ⟨y 0, y 1, eq_ix2 y⟩
    unfold headDg
    rw [slope_eq]
    pointwise
    rfl

end Cert.Values
-- ==== Proof.LossIdealRun.lean ====
/-
  The run of the loss's total, `LossIdeal`: two host operations read a cell of the device's block, and the all-reduce adds
  it up over the eight devices. Every execution ends with the all-reduce's fold in the result, the argument as it was and
  every counter at zero.
-/
module

public import proofs.«01_k».proof.Proof.Gen.LossIdeal
public import proofs.«01_k».proof.Proof.Gen.LossIdeal.Launch
public import Idealize.ShloMosaic.Lib.Pipeline.Regions
public import Idealize.ShloMosaic.Lib.Pipeline.CollectiveSegs
public import Idealize.ShloMosaic.Lib.Pipeline.Kit
public import Idealize.ShloMosaic.Lib.Tactic

@[expose] public section

noncomputable section

namespace Cert.LossIdeal.Total

open Cert.LossIdeal Cert.LossIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The program has no pipeline: its part of the algebra is there for the launch theorem's sake. -/
abbrev Alg : Type := UR sig nD τ × Sites.UC

local notation "𝕄" => MT nD τ sig ℕ (Elt F) ℕ Alg ℕ

abbrev pipes : Emb (UR sig nD τ) (MT nD τ sig ℕ (Elt F) ℕ Alg ℕ) := embL
abbrev sites : Emb Sites.UC (MT nD τ sig ℕ (Elt F) ℕ Alg ℕ) := embR

variable (m : (ℓ : Loc nD τ sig) → Buf (Elt F) ℓ) (ρ : Dev nD → PrngReg)

/-- A device's buffers at launch, and after the two host operations. -/
abbrev start (c : Dev nD) : Valuation τ sig (Elt F) := fun b => m (c, b)
abbrev picked (c : Dev nD) : Valuation τ sig (Elt F) := StableHlo.after hostOps0 (start m c)

abbrev noAdm : (p : Fin 0) → (pcfgs (F := F) p).Adm := fun p => p.elim0
abbrev noDat : (p : Fin 0) → (c : Dev nD) →
    Pipeline.Dat τ (Elt F) ℕ ℕ Alg ℕ (Pipeline.pin (pcfgs (F := F)) noAdm p) c := fun p => p.elim0

/-- That the all-reduce's cells are under their invariants, copied out of what rides to it. -/
abbrev known : sProp 𝕄 := iprop(∃ κ, (AllReduce.Dat.once (ar0 (F := F)) (picked m)).cellInvs (Sites.E0 sites) κ)

theorem known_of_rides (c : Dev nD) : Sites.rides0 sites (picked m) c ⊢ known m := by
  unfold Sites.rides0 AllReduce.Dat.rides; iintro ⟨H, -⟩; iexact H

local notation "ℍ" => Pipeline.HostSeg (Ix := ℕ) (Name := ℕ) (U := Alg) (Lvl := ℕ) (pcfgs (F := F)) defs₀ Variants.none Sites.L Sites.lv

/-- The two host operations. -/
def pick : ℍ :=
  Pipeline.HostSeg.ofOps _ _ _ _ _ (Pipeline.ucRefs τ sig) hostOps0
    (fun op h => Pipeline.sub_ucRefs op (List.forall_iff_forall_mem.mp hostOps0_sub op h))
    (fun op h => by
      rcases List.mem_cons.mp h with rfl | h
      · rfl
      · rw [List.mem_singleton.mp h]; rfl)
    (start m) (fun c => Sites.Es sites (picked m) 0 c)

/-- The all-reduce. -/
def add : ℍ := Sites.seg0 sites Variants.none (picked m) (Sites.Rest0 (picked m) fun _ => known m)

def segs : List (Pipeline.Seg (pcfgs (F := F)) noAdm noDat 0 defs₀ Variants.none Sites.L Sites.lv) :=
  [.host (pick m), .host (add m)]

theorem main_eq (c : Dev nD) : main (F := F) c = Pipeline.Seg.run (segs m) :=
  main_segs noAdm noDat 0 Variants.none Sites.L Sites.lv (pick m) (add m) rfl rfl c

abbrev final (c : Dev nD) : Valuation τ sig (Elt F) := (ar0 (F := F)).after₀ (picked m) c

abbrev last (c : Dev nD) : sProp 𝕄 :=
  iprop(StableHlo.held (c : Thread nD τ) (Pipeline.ucRefs τ sig) (final m c) ∗ (known m ∗ Sites.Ghost0 sites c))

theorem pick_add (c : Dev nD) : (pick m).post c ⊢ (add m).pre c := by
  refine BIBase.Entails.trans ?_ (Sites.pre0 sites Variants.none (picked m) (fun _ => known m) c)
  show iprop(StableHlo.held (c : Thread nD τ) (Pipeline.ucRefs τ sig) (picked m c) ∗ Sites.Es sites (picked m) 0 c) ⊢ _
  rw [Sites.Es_0]
  iintro ⟨Hh, HO, Hp, Hr⟩
  isplitl [Hh]; · iexact Hh
  ihave #Hi := (known_of_rides m c) $$ Hr
  isplitl [HO Hp Hr]
  · isplitl [HO]; · iexact HO
    isplitl [Hp] <;> iassumption
  iexact Hi

theorem add_last (c : Dev nD) :
    (add m).post c ⊢ iprop(last m c ∗ ∃ W, owes (c : Thread nD τ) (0 : CellTallies nD τ sig ℕ) W) := by
  refine (Sites.post0 sites Variants.none (picked m) (fun _ => known m) c).trans ?_
  iintro ⟨Hh, HE, Hg, Hi⟩
  isplitr [HE]
  · isplitl [Hh]; · iexact Hh
    isplitl [Hi] <;> iassumption
  iapply (Sites.hE_last sites (picked m) c)
  iexact HE

/-- The launch: the buffers of every device, and what the all-reduce needs of its cells. -/
theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c)
          ∗ Sites.G sites (picked m) c)) ∗ levAts Sites.L Sites.lv)
      ⊢ (|={Set.univ}=> bigSep Finset.univ (pick m).pre : sProp 𝕄) := by
  have hbufs (c : Dev nD) : (unscopedBufs c (fun b => m ((c : Thread nD τ).loc b)) : sProp 𝕄)
      = StableHlo.held (c : Thread nD τ) (Pipeline.ucRefs τ sig) (start m c) := Pipeline.unscopedBufs_held c (start m c)
  rw [bigSep_sep']
  iintro ⟨⟨Hb, Hs⟩, HL⟩
  imod (Sites.hE0 sites (picked m) ρ) $$ [Hs HL] with HE
  · isplitl [Hs] <;> iassumption
  imodintro
  iapply (show iprop((bigSep Finset.univ fun c : Dev nD => unscopedBufs c (fun b => m ((c : Thread nD τ).loc b)))
        ∗ bigSep Finset.univ (Sites.Es sites (picked m) 0)) ⊢ bigSep Finset.univ (pick m).pre
      from by rw [← bigSep_sep']; exact bigSep_mono fun c _ => by rw [hbufs]; exact BI.Entails.refl _)
  isplitl [Hb] <;> iassumption

/-- The launch's element. -/
def elem : Alg :=
  (Rounds.initOf (Pipeline.cells (Pipeline.pin (pcfgs (F := F)) noAdm) cellOf_inj)
      (Pipeline.launchToks (Pipeline.pin (pcfgs (F := F)) noAdm) cellOf_inj),
    Sites.uC (U := Alg) (picked m))

set_option backward.isDefEq.respectTransparency.types false in
/-- The run. -/
theorem run : θ_run defs (onTc (τ := τ) (main (F := F))) ⟨m, fun _ => 0, ρ⟩
    (fun r => (∀ c : Dev nD, r.2.mem ((c : Thread nD τ).loc main_v3) = final m c main_v3
      ∧ r.2.mem ((c : Thread nD τ).loc main_arg0) = final m c main_arg0) ∧ r.2.sem = fun _ => 0) :=
  Pipeline.θ_run_regions_kit_sems (pcfgs (F := F)) noAdm noDat 0 cellOf_inj pipes defs₀ Variants.none Sites.L Sites.lv m ρ main (segs m)
    (fun c Q => by rw [main_eq m c])
    (by simp only [segs, Pipeline.Seg.pipes_host, Pipeline.Seg.pipes_nil]; decide)
    (O₀ := Sites.O0 (F := F)) (hL := Sites.hL) (G := Sites.G sites (picked m)) (u₀ := elem m)
    (hu₀ := by
      unfold elem
      iintro Hu
      ihave H := (ownU_pair _ _) $$ Hu
      icases H with ⟨HP, HX⟩
      imodintro
      isplitl [HP]; · iexact HP
      rw [Sites.bigSep_G]; iexact HX)
    (T₀ := (pick m).pre) (Tₙ := last m)
    (hch := ⟨fun c => .rfl, pick_add m, add_last m⟩)
    (hinit := init m ρ)
    (QY := fun c s => (s.mem ((c : Thread nD τ).loc main_v3) = final m c main_v3
        ∧ s.mem ((c : Thread nD τ).loc main_arg0) = final m c main_arg0)
      ∧ s.sem ((ar0 (F := F)).barrierCell c) = 0 ∧ s.sem ((ar0 (F := F)).recvCell c) = 0 ∧ s.sem ((ar0 (F := F)).sendCell c) = 0)
    (hfin := fun c s' => by
      unfold last StableHlo.held
      iintro ⟨⟨Hh, He⟩, HSI⟩
      ihave Hr := (pointsTo_read_all (Pipeline.ucRefs τ sig) (fun b => ((c : Thread nD τ).1, b)) (final m c) s') $$ [Hh HSI]
      · isplitl [Hh] <;> iassumption
      icases Hr with ⟨%hr, HSI⟩
      imod ((AllReduce.Dat.once (ar0 (F := F)) (picked m)).ghostAfter_read (Sites.E0 sites) c (k := 0) le_rfl s') $$ [He HSI] with ⟨%hz, HSI⟩
      · isplitl [He] <;> iassumption
      imodintro
      isplitr
      · ipureintro
        exact ⟨⟨hr main_v3 (by decide), hr main_arg0 (by decide)⟩, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- The argument is not touched: neither the host operations nor the all-reduce writes it. -/
theorem final_arg (c : Dev nD) : final m c main_arg0 = m ((c : Thread nD τ).loc main_arg0) := by
  refine ((ar0 (F := F)).after₀_of_notMem (picked m) c fun h => ?_).trans (by after_results <;> rfl)
  rcases Finset.mem_insert.mp h with h | h
  · have hne : (main_arg0 : Ref sig .tc) ≠ main_v3 := by decide
    exact hne (Proc.devRef_injective _ h)
  · obtain ⟨j, hj⟩ := (ar0 (F := F)).mem_stageRefs.mp h
    have hne : ∀ j : Fin 8, (main_arg0 : Ref sig .tc) ≠ ar0_stage j := by decide
    exact hne j (Proc.devRef_injective _ hj)

theorem peer_eq (d : Dev nD) (j : Fin 8) : (ar0 (F := F)).peer d j = j := by fin_cases d <;> fin_cases j <;> rfl

/-- What a device sends: the first cell of its block. -/
theorem picked_operand (c : Dev nD) :
    picked m c main_v2 = shapeCast S_ (extractStridedSlice S1x1 ![0, 0] (m ((c : Thread nD τ).loc main_arg0)) slices_S8x128_S1x1_0_0) shapeCasts_S1x1_S_ := by
  after_results <;> rfl

/-- The result: what the devices send, added in their order. -/
theorem final_result (c : Dev nD) :
    final m c main_v3 = (ar0 (F := F)).foldGroup fun j => shapeCast S_ (extractStridedSlice S1x1 ![0, 0] (m (((j : Dev nD) : Thread nD τ).loc main_arg0)) slices_S8x128_S1x1_0_0) shapeCasts_S1x1_S_ := by
  have h : (fun j => picked m ((ar0 (F := F)).peer c j) (ar0 (F := F)).operand)
      = fun j : Fin 8 => shapeCast S_ (extractStridedSlice S1x1 ![0, 0] (m (((j : Dev nD) : Thread nD τ).loc main_arg0)) slices_S8x128_S1x1_0_0) shapeCasts_S1x1_S_ := by
    funext j
    rw [peer_eq]; exact picked_operand m j
  refine ((ar0 (F := F)).after₀_result (picked m) c).trans ?_
  rw [h]
  rfl

end Cert.LossIdeal.Total

end
-- ==== Proof.LossValue.lean ====
/-
# The loss's total on the reals

Every device sends the first cell of its block; the eight are added in the devices' order, which is the reference's sum of
every eighth row's first cell.
-/
module

public import proofs.«01_k».proof.Defs
public import proofs.«01_k».proof.Proof.LossIdealRun
public import proofs.«01_k».proof.Proof.SumSlots
public import proofs.«01_k».proof.Proof.Norm
public import proofs.«01_k».proof.Proof.Gen.LossRefIdeal.Run

@[expose] public section

noncomputable section

namespace Cert.Values

open Idealize.ShloMosaic Idealize.ShloMosaic.TcCoe Idealize.SL.Sem

/-- The first cell of every device's block. -/
abbrev parts (x : (⟨2, ![64, 128]⟩ : Shape).Idx → EReal) (k : Fin 8) : EReal := x (ix2 ⟨8 * k.val, by omega⟩ 0)

/-- What a device sends. -/
theorem sent (x : (⟨2, ![64, 128]⟩ : Shape).Idx → EReal) (h : Layout.Tiles ⟨2, ![8, 128]⟩ ⟨2, ![64, 128]⟩ 0 8) (c : Fin 8)
    (hs : (⟨2, ![8, 128]⟩ : Shape).Slices ![0, 0] ⟨2, ![1, 1]⟩) (hc : (⟨2, ![1, 1]⟩ : Shape).ShapeCasts ⟨0, ![]⟩) (i : (⟨0, ![]⟩ : Shape).Idx) :
    shapeCast ⟨0, ![]⟩ (extractStridedSlice ⟨2, ![1, 1]⟩ ![0, 0] (Layout.block ⟨2, ![8, 128]⟩ ⟨2, ![64, 128]⟩ 0 8 c x h) hs) hc i = parts x c := by
  pointwise
  rw [Layout.block_apply]
  refine congrArg x ?_
  funext a; apply Fin.ext
  match a with
  | ⟨0, _⟩ => show c.val * 8 + 0 = 8 * c.val; omega
  | ⟨1, _⟩ => rfl

/-- The reference's sum. -/
theorem summed (x : (⟨2, ![64, 128]⟩ : Shape).Idx → EReal) (hs : (⟨2, ![64, 128]⟩ : Shape).SlicesBy ![0, 0] ![8, 1] ⟨2, ![8, 1]⟩)
    (hc : (⟨2, ![8, 1]⟩ : Shape).ShapeCasts ⟨1, ![8]⟩) (hr : (⟨1, ![8]⟩ : Shape).ReducesTo [0] ⟨0, ![]⟩) (hu : 0 < (⟨0, ![]⟩ : Shape).numel)
    (i : (⟨0, ![]⟩ : Shape).Idx) :
    Host.reduceAdd (F := Ideal) (φ := .f32) (shapeCast ⟨1, ![8]⟩ (Host.slice ⟨2, ![8, 1]⟩ ![0, 0] ![8, 1] x hs) hc)
      (constant ⟨0, ![]⟩ .f32 0x00000000#32) hr hu i = Cert.Slots.chain (parts x) := by
  rw [Idealize.ShloMosaic.ValueIdx.hostReduceAdd_apply, Ideal.hostReduceAdd_r1_a0]
  refine (congrArg₂ (· + ·) (Ideal.ofBits_zero_f32) rfl).trans ((zero_add _).trans ?_)
  rw [Cert.Slots.chain_eq]
  refine Finset.sum_congr rfl fun k _ => ?_
  pointwise

/-- The loss's total: every device's result is the reference's. -/
theorem value_loss : Cert.algebraic_LossIdeal_LossRefIdeal := fun m g m' g' _ hx => by
  refine ⟨_, (θ_run Cert.LossIdeal.defs _ _).mono (fun r h c => ⟨(h.1 c).1.trans ?_, (h.1 c).2.trans (Cert.LossIdeal.Total.final_arg m c)⟩)
    (Cert.LossIdeal.Total.run (F := Ideal) m g), (θ_run Cert.LossRefIdeal.defs _ _).mono (fun r h => h 0)
    (Cert.LossRefIdeal.Value.run (F := Ideal) m' g')⟩
  rw [Cert.LossIdeal.Total.final_result]
  funext i
  refine Eq.trans ?_ (summed _ _ _ _ _ i).symm
  have hd (c : Fin 8) := (congrFun (congrArg (fun x => shapeCast _ (extractStridedSlice _ ![0, 0] x Cert.LossIdeal.Facts₀.slices_S8x128_S1x1_0_0)
    Cert.LossIdeal.Facts₀.shapeCasts_S1x1_S_) (hx c)) i).trans (sent _ _ c _ _ i)
  exact Cert.Slots.chain_of (parts _) (hd 0) (hd 1) (hd 2) (hd 3) (hd 4) (hd 5) (hd 6) (hd 7)

end Cert.Values

end
-- ==== Proof.lean ====
/-
# The claims

The runs of the three exchanges (Proof/Run.lean, Proof/GatherRun.lean, Proof/StackRun.lean) are over any float values: the
two frames of a kernel, its value on the reals and its value bit by bit are their instances. What comes after the exchanges
has the printed frames, as have the loss, the norm's backward pass and the calls of the forward and backward passes; their
values are in the modules of Proof/ whose names end in Value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Value
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRef
public import proofs.«01_k».proof.Proof.Gen.GatherRef.Run
public import proofs.«01_k».proof.Proof.Gen.GatherRefIdeal
public import proofs.«01_k».proof.Proof.Gen.GatherRefIdeal.Run
public import proofs.«01_k».proof.Proof.Gen.GatherSmall
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherSmallIdeal.Frame
public import proofs.«01_k».proof.Proof.Gen.GatherSmallRef
public import proofs.«01_k».proof.Proof.Gen.GatherSmallRef.Run
public import proofs.«01_k».proof.Proof.Gen.GatherSmallRefIdeal
public import proofs.«01_k».proof.Proof.Gen.GatherSmallRefIdeal.Run
public import proofs.«01_k».proof.Proof.GatherValue
public import proofs.«01_k».proof.Proof.StackValue
public import proofs.«01_k».proof.Proof.Gen.Sum0
public import proofs.«01_k».proof.Proof.Gen.Sum0.Frame
public import proofs.«01_k».proof.Proof.Gen.Sum0Ideal
public import proofs.«01_k».proof.Proof.Gen.Sum0Ideal.Frame
public import proofs.«01_k».proof.Proof.Gen.Sum0Ideal.Value
public import proofs.«01_k».proof.Proof.Gen.Sum0RefIdeal
public import proofs.«01_k».proof.Proof.Gen.Sum0RefIdeal.Run
public import proofs.«01_k».proof.Proof.Gen.Sum1
public import proofs.«01_k».proof.Proof.Gen.Sum1.Frame
public import proofs.«01_k».proof.Proof.Gen.Sum1Ideal
public import proofs.«01_k».proof.Proof.Gen.Sum1Ideal.Frame
public import proofs.«01_k».proof.Proof.Gen.Sum1Ideal.Value
public import proofs.«01_k».proof.Proof.Gen.Sum1RefIdeal
public import proofs.«01_k».proof.Proof.Gen.Sum1RefIdeal.Run
public import proofs.«01_k».proof.Proof.Gen.Sum2
public import proofs.«01_k».proof.Proof.Gen.Sum2.Frame
public import proofs.«01_k».proof.Proof.Gen.Sum2Ideal
public import proofs.«01_k».proof.Proof.Gen.Sum2Ideal.Frame
public import proofs.«01_k».proof.Proof.Gen.Sum2Ideal.Value
public import proofs.«01_k».proof.Proof.Gen.Sum2RefIdeal
public import proofs.«01_k».proof.Proof.Gen.Sum2RefIdeal.Run
public import proofs.«01_k».proof.Proof.Gen.Sum3
public import proofs.«01_k».proof.Proof.Gen.Sum3.Frame
public import proofs.«01_k».proof.Proof.Gen.Sum3Ideal
public import proofs.«01_k».proof.Proof.Gen.Sum3Ideal.Frame
public import proofs.«01_k».proof.Proof.Gen.Sum3Ideal.Value
public import proofs.«01_k».proof.Proof.Gen.Sum3RefIdeal
public import proofs.«01_k».proof.Proof.Gen.Sum3RefIdeal.Run
public import proofs.«01_k».proof.Proof.Gen.Sum4
public import proofs.«01_k».proof.Proof.Gen.Sum4.Frame
public import proofs.«01_k».proof.Proof.Gen.Sum4Ideal
public import proofs.«01_k».proof.Proof.Gen.Sum4Ideal.Frame
public import proofs.«01_k».proof.Proof.Gen.Sum4Ideal.Value
public import proofs.«01_k».proof.Proof.Gen.Sum4RefIdeal
public import proofs.«01_k».proof.Proof.Gen.Sum4RefIdeal.Run
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.Step0
public import proofs.«01_k».proof.Proof.Gen.Step0.Frame
public import proofs.«01_k».proof.Proof.Gen.Step0Ideal
public import proofs.«01_k».proof.Proof.Gen.Step0Ideal.Frame
public import proofs.«01_k».proof.Proof.Gen.Step0Ideal.Value
public import proofs.«01_k».proof.Proof.Gen.Step0RefIdeal
public import proofs.«01_k».proof.Proof.Gen.Step0RefIdeal.Run
public import proofs.«01_k».proof.Proof.Gen.Step1
public import proofs.«01_k».proof.Proof.Gen.Step1.Frame
public import proofs.«01_k».proof.Proof.Gen.Step1Ideal
public import proofs.«01_k».proof.Proof.Gen.Step1Ideal.Frame
public import proofs.«01_k».proof.Proof.Gen.Step1Ideal.Value
public import proofs.«01_k».proof.Proof.Gen.Step1RefIdeal
public import proofs.«01_k».proof.Proof.Gen.Step1RefIdeal.Run
public import proofs.«01_k».proof.Proof.Gen.Step2
public import proofs.«01_k».proof.Proof.Gen.Step2.Frame
public import proofs.«01_k».proof.Proof.Gen.Step2Ideal
public import proofs.«01_k».proof.Proof.Gen.Step2Ideal.Frame
public import proofs.«01_k».proof.Proof.Gen.Step2Ideal.Value
public import proofs.«01_k».proof.Proof.Gen.Step2RefIdeal
public import proofs.«01_k».proof.Proof.Gen.Step2RefIdeal.Run
public import proofs.«01_k».proof.Proof.Gen.Step3
public import proofs.«01_k».proof.Proof.Gen.Step3.Frame
public import proofs.«01_k».proof.Proof.Gen.Step3Ideal
public import proofs.«01_k».proof.Proof.Gen.Step3Ideal.Frame
public import proofs.«01_k».proof.Proof.Gen.Step3Ideal.Value
public import proofs.«01_k».proof.Proof.Gen.Step3RefIdeal
public import proofs.«01_k».proof.Proof.Gen.Step3RefIdeal.Run
public import proofs.«01_k».proof.Proof.Gen.Step4
public import proofs.«01_k».proof.Proof.Gen.Step4.Frame
public import proofs.«01_k».proof.Proof.Gen.Step4Ideal
public import proofs.«01_k».proof.Proof.Gen.Step4Ideal.Frame
public import proofs.«01_k».proof.Proof.Gen.Step4Ideal.Value
public import proofs.«01_k».proof.Proof.Gen.Step4RefIdeal
public import proofs.«01_k».proof.Proof.Gen.Step4RefIdeal.Run
public import proofs.«01_k».proof.Proof.Gen.Step5
public import proofs.«01_k».proof.Proof.Gen.Step5.Frame
public import proofs.«01_k».proof.Proof.Gen.Step5Ideal
public import proofs.«01_k».proof.Proof.Gen.Step5Ideal.Frame
public import proofs.«01_k».proof.Proof.Gen.Step5Ideal.Value
public import proofs.«01_k».proof.Proof.Gen.Step5RefIdeal
public import proofs.«01_k».proof.Proof.Gen.Step5RefIdeal.Run
public import proofs.«01_k».proof.Proof.Gen.Step6
public import proofs.«01_k».proof.Proof.Gen.Step6.Frame
public import proofs.«01_k».proof.Proof.Gen.Step6Ideal
public import proofs.«01_k».proof.Proof.Gen.Step6Ideal.Frame
public import proofs.«01_k».proof.Proof.Gen.Step6Ideal.Value
public import proofs.«01_k».proof.Proof.Gen.Step6RefIdeal
public import proofs.«01_k».proof.Proof.Gen.Step6RefIdeal.Run
public import proofs.«01_k».proof.Proof.SumValue
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.Loss
public import proofs.«01_k».proof.Proof.Gen.Loss.Launch
public import proofs.«01_k».proof.Proof.Gen.LossIdeal
public import proofs.«01_k».proof.Proof.Gen.LossIdeal.Launch
public import proofs.«01_k».proof.Proof.Gen.LossRefIdeal
public import proofs.«01_k».proof.Proof.Gen.LossRefIdeal.Run
public import proofs.«01_k».proof.Proof.Gen.Back
public import proofs.«01_k».proof.Proof.Gen.Back.Frame
public import proofs.«01_k».proof.Proof.Gen.BackIdeal
public import proofs.«01_k».proof.Proof.Gen.BackIdeal.Frame
public import proofs.«01_k».proof.Proof.Gen.BackIdeal.Value
public import proofs.«01_k».proof.Proof.Gen.BackRefIdeal
public import proofs.«01_k».proof.Proof.Gen.BackRefIdeal.Run
public import proofs.«01_k».proof.Proof.StepValue
public import proofs.«01_k».proof.Proof.Gen.Norm1
public import proofs.«01_k».proof.Proof.Gen.Norm1.Frame
public import proofs.«01_k».proof.Proof.Gen.Norm1Ideal
public import proofs.«01_k».proof.Proof.Gen.Norm1Ideal.Frame
public import proofs.«01_k».proof.Proof.Gen.Norm1RefIdeal
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActRefIdeal
public import proofs.«01_k».proof.Proof.Gen.ActBack
public import proofs.«01_k».proof.Proof.Gen.ActBack.Frame
public import proofs.«01_k».proof.Proof.Gen.ActBackIdeal
public import proofs.«01_k».proof.Proof.Gen.ActBackIdeal.Frame
public import proofs.«01_k».proof.Proof.Gen.ActBackRefIdeal
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesRefIdeal
public import proofs.«01_k».proof.Proof.Gen.GatesBack
public import proofs.«01_k».proof.Proof.Gen.GatesBack.Frame
public import proofs.«01_k».proof.Proof.Gen.GatesBackIdeal
public import proofs.«01_k».proof.Proof.Gen.GatesBackIdeal.Frame
public import proofs.«01_k».proof.Proof.Gen.GatesBackRefIdeal
public import proofs.«01_k».proof.Proof.Gen.Widen
public import proofs.«01_k».proof.Proof.Gen.Widen.Frame
public import proofs.«01_k».proof.Proof.Gen.WidenIdeal
public import proofs.«01_k».proof.Proof.Gen.WidenIdeal.Frame
public import proofs.«01_k».proof.Proof.Gen.WidenRefIdeal
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactRefIdeal
public import proofs.«01_k».proof.Proof.Gen.Dhid
public import proofs.«01_k».proof.Proof.Gen.Dhid.Frame
public import proofs.«01_k».proof.Proof.Gen.DhidIdeal
public import proofs.«01_k».proof.Proof.Gen.DhidIdeal.Frame
public import proofs.«01_k».proof.Proof.Gen.DhidRefIdeal
public import proofs.«01_k».proof.Proof.Gen.Inward
public import proofs.«01_k».proof.Proof.Gen.Inward.Frame
public import proofs.«01_k».proof.Proof.Gen.InwardIdeal
public import proofs.«01_k».proof.Proof.Gen.InwardIdeal.Frame
public import proofs.«01_k».proof.Proof.Gen.InwardRefIdeal
public import proofs.«01_k».proof.Proof.Gen.ProjA
public import proofs.«01_k».proof.Proof.Gen.ProjA.Frame
public import proofs.«01_k».proof.Proof.Gen.ProjAIdeal
public import proofs.«01_k».proof.Proof.Gen.ProjAIdeal.Frame
public import proofs.«01_k».proof.Proof.Gen.ProjARefIdeal
public import proofs.«01_k».proof.Proof.Gen.ProjB
public import proofs.«01_k».proof.Proof.Gen.ProjB.Frame
public import proofs.«01_k».proof.Proof.Gen.ProjBIdeal
public import proofs.«01_k».proof.Proof.Gen.ProjBIdeal.Frame
public import proofs.«01_k».proof.Proof.Gen.ProjBRefIdeal
public import proofs.«01_k».proof.Proof.Gen.ProjC
public import proofs.«01_k».proof.Proof.Gen.ProjC.Frame
public import proofs.«01_k».proof.Proof.Gen.ProjCIdeal
public import proofs.«01_k».proof.Proof.Gen.ProjCIdeal.Frame
public import proofs.«01_k».proof.Proof.Gen.ProjCRefIdeal
public import proofs.«01_k».proof.Proof.Gen.Outward
public import proofs.«01_k».proof.Proof.Gen.Outward.Frame
public import proofs.«01_k».proof.Proof.Gen.OutwardIdeal
public import proofs.«01_k».proof.Proof.Gen.OutwardIdeal.Frame
public import proofs.«01_k».proof.Proof.Gen.OutwardRefIdeal
public import proofs.«01_k».proof.Proof.Gen.Dmerged
public import proofs.«01_k».proof.Proof.Gen.Dmerged.Frame
public import proofs.«01_k».proof.Proof.Gen.DmergedIdeal
public import proofs.«01_k».proof.Proof.Gen.DmergedIdeal.Frame
public import proofs.«01_k».proof.Proof.Gen.DmergedRefIdeal
public import proofs.«01_k».proof.Proof.Gen.Dya
public import proofs.«01_k».proof.Proof.Gen.Dya.Frame
public import proofs.«01_k».proof.Proof.Gen.DyaIdeal
public import proofs.«01_k».proof.Proof.Gen.DyaIdeal.Frame
public import proofs.«01_k».proof.Proof.Gen.DyaRefIdeal
public import proofs.«01_k».proof.Proof.Gen.Dyb
public import proofs.«01_k».proof.Proof.Gen.Dyb.Frame
public import proofs.«01_k».proof.Proof.Gen.DybIdeal
public import proofs.«01_k».proof.Proof.Gen.DybIdeal.Frame
public import proofs.«01_k».proof.Proof.Gen.DybRefIdeal
public import proofs.«01_k».proof.Proof.Gen.Dyc
public import proofs.«01_k».proof.Proof.Gen.Dyc.Frame
public import proofs.«01_k».proof.Proof.Gen.DycIdeal
public import proofs.«01_k».proof.Proof.Gen.DycIdeal.Frame
public import proofs.«01_k».proof.Proof.Gen.DycRefIdeal
public import proofs.«01_k».proof.Proof.Gen.Dmix
public import proofs.«01_k».proof.Proof.Gen.Dmix.Frame
public import proofs.«01_k».proof.Proof.Gen.DmixIdeal
public import proofs.«01_k».proof.Proof.Gen.DmixIdeal.Frame
public import proofs.«01_k».proof.Proof.Gen.DmixRefIdeal
public import proofs.«01_k».proof.Proof.Gen.WgDown
public import proofs.«01_k».proof.Proof.Gen.WgDown.Frame
public import proofs.«01_k».proof.Proof.Gen.WgDownIdeal
public import proofs.«01_k».proof.Proof.Gen.WgDownIdeal.Frame
public import proofs.«01_k».proof.Proof.Gen.WgDownRefIdeal
public import proofs.«01_k».proof.Proof.Gen.WgWiden
public import proofs.«01_k».proof.Proof.Gen.WgWiden.Frame
public import proofs.«01_k».proof.Proof.Gen.WgWidenIdeal
public import proofs.«01_k».proof.Proof.Gen.WgWidenIdeal.Frame
public import proofs.«01_k».proof.Proof.Gen.WgWidenRefIdeal
public import proofs.«01_k».proof.Proof.Gen.WgIn
public import proofs.«01_k».proof.Proof.Gen.WgIn.Frame
public import proofs.«01_k».proof.Proof.Gen.WgInIdeal
public import proofs.«01_k».proof.Proof.Gen.WgInIdeal.Frame
public import proofs.«01_k».proof.Proof.Gen.WgInRefIdeal
public import proofs.«01_k».proof.Proof.Gen.WgOut
public import proofs.«01_k».proof.Proof.Gen.WgOut.Frame
public import proofs.«01_k».proof.Proof.Gen.WgOutIdeal
public import proofs.«01_k».proof.Proof.Gen.WgOutIdeal.Frame
public import proofs.«01_k».proof.Proof.Gen.WgOutRefIdeal
public import proofs.«01_k».proof.Proof.Gen.WgA
public import proofs.«01_k».proof.Proof.Gen.WgA.Frame
public import proofs.«01_k».proof.Proof.Gen.WgAIdeal
public import proofs.«01_k».proof.Proof.Gen.WgAIdeal.Frame
public import proofs.«01_k».proof.Proof.Gen.WgARefIdeal
public import proofs.«01_k».proof.Proof.Gen.WgB
public import proofs.«01_k».proof.Proof.Gen.WgB.Frame
public import proofs.«01_k».proof.Proof.Gen.WgBIdeal
public import proofs.«01_k».proof.Proof.Gen.WgBIdeal.Frame
public import proofs.«01_k».proof.Proof.Gen.WgBRefIdeal
public import proofs.«01_k».proof.Proof.Gen.WgC
public import proofs.«01_k».proof.Proof.Gen.WgC.Frame
public import proofs.«01_k».proof.Proof.Gen.WgCIdeal
public import proofs.«01_k».proof.Proof.Gen.WgCIdeal.Frame
public import proofs.«01_k».proof.Proof.Gen.WgCRefIdeal
public import proofs.«01_k».proof.Proof.BackValue
public import proofs.«01_k».proof.Proof.ActValue
public import proofs.«01_k».proof.Proof.GateValue
public import proofs.«01_k».proof.Proof.WidenValue
public import proofs.«01_k».proof.Proof.SplitValue
public import proofs.«01_k».proof.Proof.MixerValue
public import proofs.«01_k».proof.Proof.WeighValue
public import proofs.«01_k».proof.Proof.HeadValue
public import proofs.«01_k».proof.Proof.LossRun
public import proofs.«01_k».proof.Proof.LossIdealRun
public import proofs.«01_k».proof.Proof.LossValue
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.KernelIdeal.defs _ _).mono (fun _ h => ⟨fun c => ⟨(h.1 c).1 0, (h.1 c).1 1, (h.1 c).1 2, (h.1 c).1 3, (h.1 c).1 4⟩, h.2⟩)
    (Cert.Alltoall.run_main (F := Bits) m g)

theorem frame_kernelIdeal : Cert.quiescent_KernelIdeal := fun m g _ =>
  (θ_run Cert.KernelIdeal.defs _ _).mono (fun _ h => ⟨fun c => ⟨(h.1 c).1 0, (h.1 c).1 1, (h.1 c).1 2, (h.1 c).1 3, (h.1 c).1 4⟩, h.2⟩)
    (Cert.Alltoall.run_main (F := Ideal) m g)

theorem frame_referenceIdeal : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem frame_reference : Cert.quiescent_Reference := fun m g _ =>
  (θ_run Cert.Reference.defs _ _).mono (fun r h => ⟨fun c => (h c).2.2.2.2.2, sem_eq_zero_of_no_sems (by decide) r.2⟩)
    (Cert.Reference.Value.run (F := Bits) m g)

/-- On the reals: each device ends with its block of the reference's arrays. -/
theorem value_ideal : Cert.algebraic_KernelIdeal_ReferenceIdeal := fun m g m' g' _ hx =>
  ⟨_, _, _, _, _, Cert.Alltoall.run_blocks (F := Ideal) m g _ _ _ _ _ hx _ _ _ _ _ _ _ _ _ _ _ _ _ _ _,
    (θ_run Cert.ReferenceIdeal.defs _ _).mono (fun _ h => h 0) (Cert.ReferenceIdeal.Value.run (F := Ideal) m' g')⟩

/-- And bit by bit. -/
theorem value_bits : Cert.bitexact_Kernel_Reference := fun m g m' g' _ hx =>
  ⟨_, _, _, _, _, Cert.Alltoall.run_blocks (F := Bits) m g _ _ _ _ _ hx _ _ _ _ _ _ _ _ _ _ _ _ _ _ _,
    (θ_run Cert.Reference.defs _ _).mono (fun _ h => h 0) (Cert.Reference.Value.run (F := Bits) m' g')⟩

/-! ## The gather of the weights -/

theorem frame_gather : Cert.quiescent_Gather := fun m g _ =>
  (θ_run Cert.GatherIdeal.defs _ _).mono (fun _ h => ⟨fun c => ⟨(h.1 c).1 0, (h.1 c).1 1, (h.1 c).1 2, (h.1 c).1 3, (h.1 c).1 4⟩, h.2⟩) (Cert.GatherWeights.run_main (F := Bits) m g)

theorem frame_gatherIdeal : Cert.quiescent_GatherIdeal := fun m g _ =>
  (θ_run Cert.GatherIdeal.defs _ _).mono (fun _ h => ⟨fun c => ⟨(h.1 c).1 0, (h.1 c).1 1, (h.1 c).1 2, (h.1 c).1 3, (h.1 c).1 4⟩, h.2⟩) (Cert.GatherWeights.run_main (F := Ideal) m g)

theorem frame_gatherRefIdeal : Cert.quiescent_GatherRefIdeal := fun m g _ =>
  (θ_run Cert.GatherRefIdeal.defs _ _).mono (fun r h => ⟨fun c => (h c).2.2.2.2.2, sem_eq_zero_of_no_sems (by decide) r.2⟩)
    (Cert.GatherRefIdeal.Value.run (F := Ideal) m g)

theorem frame_gatherRef : Cert.quiescent_GatherRef := fun m g _ =>
  (θ_run Cert.GatherRef.defs _ _).mono (fun r h => ⟨fun c => (h c).2.2.2.2.2, sem_eq_zero_of_no_sems (by decide) r.2⟩)
    (Cert.GatherRef.Value.run (F := Bits) m g)

theorem value_gather_ideal : Cert.algebraic_GatherIdeal_GatherRefIdeal := fun m g m' g' _ hx =>
  ⟨_, _, _, _, _, Cert.GatherWeights.run_blocks (F := Ideal) m g _ _ _ _ _ hx _ _ _ _ _,
    (θ_run Cert.GatherRefIdeal.defs _ _).mono (fun _ h => h 0) (Cert.GatherRefIdeal.Value.run (F := Ideal) m' g')⟩

theorem value_gather_bits : Cert.bitexact_Gather_GatherRef := fun m g m' g' _ hx =>
  ⟨_, _, _, _, _, Cert.GatherWeights.run_blocks (F := Bits) m g _ _ _ _ _ hx _ _ _ _ _,
    (θ_run Cert.GatherRef.defs _ _).mono (fun _ h => h 0) (Cert.GatherRef.Value.run (F := Bits) m' g')⟩

/-! ## The gather of the small gradients -/

theorem frame_gatherSmall : Cert.quiescent_GatherSmall := fun m g _ =>
  (θ_run Cert.GatherSmallIdeal.defs _ _).mono (fun _ h => ⟨fun c => (h.1 c).1 0, h.2⟩) (Cert.GatherStack.run_main (F := Bits) m g)

theorem frame_gatherSmallIdeal : Cert.quiescent_GatherSmallIdeal := fun m g _ =>
  (θ_run Cert.GatherSmallIdeal.defs _ _).mono (fun _ h => ⟨fun c => (h.1 c).1 0, h.2⟩) (Cert.GatherStack.run_main (F := Ideal) m g)

theorem frame_gatherSmallRefIdeal : Cert.quiescent_GatherSmallRefIdeal := fun m g _ =>
  (θ_run Cert.GatherSmallRefIdeal.defs _ _).mono (fun r h => ⟨fun c => (h c).2, sem_eq_zero_of_no_sems (by decide) r.2⟩)
    (Cert.GatherSmallRefIdeal.Value.run (F := Ideal) m g)

theorem frame_gatherSmallRef : Cert.quiescent_GatherSmallRef := fun m g _ =>
  (θ_run Cert.GatherSmallRef.defs _ _).mono (fun r h => ⟨fun c => (h c).2, sem_eq_zero_of_no_sems (by decide) r.2⟩)
    (Cert.GatherSmallRef.Value.run (F := Bits) m g)

theorem value_gatherSmall_ideal : Cert.algebraic_GatherSmallIdeal_GatherSmallRefIdeal := fun m g m' g' _ hx =>
  ⟨_, Cert.GatherStack.run_blocks (F := Ideal) m g _ hx _,
    (θ_run Cert.GatherSmallRefIdeal.defs _ _).mono (fun _ h => h 0) (Cert.GatherSmallRefIdeal.Value.run (F := Ideal) m' g')⟩

theorem value_gatherSmall_bits : Cert.bitexact_GatherSmall_GatherSmallRef := fun m g m' g' _ hx =>
  ⟨_, Cert.GatherStack.run_blocks (F := Bits) m g _ hx _,
    (θ_run Cert.GatherSmallRef.defs _ _).mono (fun _ h => h 0) (Cert.GatherSmallRef.Value.run (F := Bits) m' g')⟩

theorem frame_sum0 : Cert.quiescent_Sum0 := fun m ρ _ => Cert.Sum0.Gen.frame m ρ

theorem frame_sum0Ideal : Cert.quiescent_Sum0Ideal := fun m ρ _ => Cert.Sum0Ideal.Gen.frame m ρ

theorem frame_sum0RefIdeal : Cert.quiescent_Sum0RefIdeal := fun m g _ =>
  (θ_run Cert.Sum0RefIdeal.defs _ _).mono (fun r h => ⟨fun c => (h c).2, sem_eq_zero_of_no_sems (by decide) r.2⟩)
    (Cert.Sum0RefIdeal.Value.run (F := Ideal) m g)

theorem frame_sum1 : Cert.quiescent_Sum1 := fun m ρ _ => Cert.Sum1.Gen.frame m ρ

theorem frame_sum1Ideal : Cert.quiescent_Sum1Ideal := fun m ρ _ => Cert.Sum1Ideal.Gen.frame m ρ

theorem frame_sum1RefIdeal : Cert.quiescent_Sum1RefIdeal := fun m g _ =>
  (θ_run Cert.Sum1RefIdeal.defs _ _).mono (fun r h => ⟨fun c => (h c).2, sem_eq_zero_of_no_sems (by decide) r.2⟩)
    (Cert.Sum1RefIdeal.Value.run (F := Ideal) m g)

theorem frame_sum2 : Cert.quiescent_Sum2 := fun m ρ _ => Cert.Sum2.Gen.frame m ρ

theorem frame_sum2Ideal : Cert.quiescent_Sum2Ideal := fun m ρ _ => Cert.Sum2Ideal.Gen.frame m ρ

theorem frame_sum2RefIdeal : Cert.quiescent_Sum2RefIdeal := fun m g _ =>
  (θ_run Cert.Sum2RefIdeal.defs _ _).mono (fun r h => ⟨fun c => (h c).2, sem_eq_zero_of_no_sems (by decide) r.2⟩)
    (Cert.Sum2RefIdeal.Value.run (F := Ideal) m g)

theorem frame_sum3 : Cert.quiescent_Sum3 := fun m ρ _ => Cert.Sum3.Gen.frame m ρ

theorem frame_sum3Ideal : Cert.quiescent_Sum3Ideal := fun m ρ _ => Cert.Sum3Ideal.Gen.frame m ρ

theorem frame_sum3RefIdeal : Cert.quiescent_Sum3RefIdeal := fun m g _ =>
  (θ_run Cert.Sum3RefIdeal.defs _ _).mono (fun r h => ⟨fun c => (h c).2, sem_eq_zero_of_no_sems (by decide) r.2⟩)
    (Cert.Sum3RefIdeal.Value.run (F := Ideal) m g)

theorem frame_sum4 : Cert.quiescent_Sum4 := fun m ρ _ => Cert.Sum4.Gen.frame m ρ

theorem frame_sum4Ideal : Cert.quiescent_Sum4Ideal := fun m ρ _ => Cert.Sum4Ideal.Gen.frame m ρ

theorem frame_sum4RefIdeal : Cert.quiescent_Sum4RefIdeal := fun m g _ =>
  (θ_run Cert.Sum4RefIdeal.defs _ _).mono (fun r h => ⟨fun c => (h c).2, sem_eq_zero_of_no_sems (by decide) r.2⟩)
    (Cert.Sum4RefIdeal.Value.run (F := Ideal) m g)

theorem frame_sumSmall : Cert.quiescent_SumSmall := fun m ρ _ => Cert.SumSmall.Gen.frame m ρ

theorem frame_sumSmallIdeal : Cert.quiescent_SumSmallIdeal := fun m ρ _ => Cert.SumSmallIdeal.Gen.frame m ρ

theorem frame_sumSmallRefIdeal : Cert.quiescent_SumSmallRefIdeal := fun m g _ =>
  (θ_run Cert.SumSmallRefIdeal.defs _ _).mono (fun r h => ⟨fun c => (h c).2, sem_eq_zero_of_no_sems (by decide) r.2⟩)
    (Cert.SumSmallRefIdeal.Value.run (F := Ideal) m g)

theorem frame_step0 : Cert.quiescent_Step0 := fun m ρ _ => Cert.Step0.Gen.frame m ρ

theorem frame_step0Ideal : Cert.quiescent_Step0Ideal := fun m ρ _ => Cert.Step0Ideal.Gen.frame m ρ

theorem frame_step0RefIdeal : Cert.quiescent_Step0RefIdeal := fun m g _ =>
  (θ_run Cert.Step0RefIdeal.defs _ _).mono (fun r h => ⟨fun c => (h c).2.2.2, sem_eq_zero_of_no_sems (by decide) r.2⟩)
    (Cert.Step0RefIdeal.Value.run (F := Ideal) m g)

theorem frame_step1 : Cert.quiescent_Step1 := fun m ρ _ => Cert.Step1.Gen.frame m ρ

theorem frame_step1Ideal : Cert.quiescent_Step1Ideal := fun m ρ _ => Cert.Step1Ideal.Gen.frame m ρ

theorem frame_step1RefIdeal : Cert.quiescent_Step1RefIdeal := fun m g _ =>
  (θ_run Cert.Step1RefIdeal.defs _ _).mono (fun r h => ⟨fun c => (h c).2.2.2, sem_eq_zero_of_no_sems (by decide) r.2⟩)
    (Cert.Step1RefIdeal.Value.run (F := Ideal) m g)

theorem frame_step2 : Cert.quiescent_Step2 := fun m ρ _ => Cert.Step2.Gen.frame m ρ

theorem frame_step2Ideal : Cert.quiescent_Step2Ideal := fun m ρ _ => Cert.Step2Ideal.Gen.frame m ρ

theorem frame_step2RefIdeal : Cert.quiescent_Step2RefIdeal := fun m g _ =>
  (θ_run Cert.Step2RefIdeal.defs _ _).mono (fun r h => ⟨fun c => (h c).2.2.2, sem_eq_zero_of_no_sems (by decide) r.2⟩)
    (Cert.Step2RefIdeal.Value.run (F := Ideal) m g)

theorem frame_step3 : Cert.quiescent_Step3 := fun m ρ _ => Cert.Step3.Gen.frame m ρ

theorem frame_step3Ideal : Cert.quiescent_Step3Ideal := fun m ρ _ => Cert.Step3Ideal.Gen.frame m ρ

theorem frame_step3RefIdeal : Cert.quiescent_Step3RefIdeal := fun m g _ =>
  (θ_run Cert.Step3RefIdeal.defs _ _).mono (fun r h => ⟨fun c => (h c).2.2.2, sem_eq_zero_of_no_sems (by decide) r.2⟩)
    (Cert.Step3RefIdeal.Value.run (F := Ideal) m g)

theorem frame_step4 : Cert.quiescent_Step4 := fun m ρ _ => Cert.Step4.Gen.frame m ρ

theorem frame_step4Ideal : Cert.quiescent_Step4Ideal := fun m ρ _ => Cert.Step4Ideal.Gen.frame m ρ

theorem frame_step4RefIdeal : Cert.quiescent_Step4RefIdeal := fun m g _ =>
  (θ_run Cert.Step4RefIdeal.defs _ _).mono (fun r h => ⟨fun c => (h c).2.2.2, sem_eq_zero_of_no_sems (by decide) r.2⟩)
    (Cert.Step4RefIdeal.Value.run (F := Ideal) m g)

theorem frame_step5 : Cert.quiescent_Step5 := fun m ρ _ => Cert.Step5.Gen.frame m ρ

theorem frame_step5Ideal : Cert.quiescent_Step5Ideal := fun m ρ _ => Cert.Step5Ideal.Gen.frame m ρ

theorem frame_step5RefIdeal : Cert.quiescent_Step5RefIdeal := fun m g _ =>
  (θ_run Cert.Step5RefIdeal.defs _ _).mono (fun r h => ⟨fun c => (h c).2.2.2, sem_eq_zero_of_no_sems (by decide) r.2⟩)
    (Cert.Step5RefIdeal.Value.run (F := Ideal) m g)

theorem frame_step6 : Cert.quiescent_Step6 := fun m ρ _ => Cert.Step6.Gen.frame m ρ

theorem frame_step6Ideal : Cert.quiescent_Step6Ideal := fun m ρ _ => Cert.Step6Ideal.Gen.frame m ρ

theorem frame_step6RefIdeal : Cert.quiescent_Step6RefIdeal := fun m g _ =>
  (θ_run Cert.Step6RefIdeal.defs _ _).mono (fun r h => ⟨fun c => (h c).2.2.2, sem_eq_zero_of_no_sems (by decide) r.2⟩)
    (Cert.Step6RefIdeal.Value.run (F := Ideal) m g)

theorem frame_head : Cert.quiescent_Head := fun m ρ _ => Cert.Head.Gen.frame m ρ

theorem frame_headIdeal : Cert.quiescent_HeadIdeal := fun m ρ _ => Cert.HeadIdeal.Gen.frame m ρ

theorem frame_headRefIdeal : Cert.quiescent_HeadRefIdeal := fun m g _ =>
  (θ_run Cert.HeadRefIdeal.defs _ _).mono (fun r h => ⟨fun c => (h c).2.2.2, sem_eq_zero_of_no_sems (by decide) r.2⟩)
    (Cert.HeadRefIdeal.Value.run (F := Ideal) m g)

theorem frame_loss : Cert.quiescent_Loss := fun m ρ _ =>
  (θ_run Cert.Loss.defs _ _).mono (fun _ h => ⟨fun c => (h.1 c).2.trans (Cert.Loss.Total.final_arg m c), h.2⟩)
    (Cert.Loss.Total.run m ρ)

theorem frame_lossIdeal : Cert.quiescent_LossIdeal := fun m ρ _ =>
  (θ_run Cert.LossIdeal.defs _ _).mono (fun _ h => ⟨fun c => (h.1 c).2.trans (Cert.LossIdeal.Total.final_arg m c), h.2⟩)
    (Cert.LossIdeal.Total.run m ρ)

theorem frame_lossRefIdeal : Cert.quiescent_LossRefIdeal := fun m g _ =>
  (θ_run Cert.LossRefIdeal.defs _ _).mono (fun r h => ⟨fun c => (h c).2, sem_eq_zero_of_no_sems (by decide) r.2⟩)
    (Cert.LossRefIdeal.Value.run (F := Ideal) m g)

theorem frame_back : Cert.quiescent_Back := fun m ρ _ => Cert.Back.Gen.frame m ρ

theorem frame_backIdeal : Cert.quiescent_BackIdeal := fun m ρ _ => Cert.BackIdeal.Gen.frame m ρ

theorem frame_backRefIdeal : Cert.quiescent_BackRefIdeal := fun m g _ =>
  (θ_run Cert.BackRefIdeal.defs _ _).mono (fun r h => ⟨fun c => (h c).2.2, sem_eq_zero_of_no_sems (by decide) r.2⟩)
    (Cert.BackRefIdeal.Value.run (F := Ideal) m g)

theorem frame_norm1 : Cert.quiescent_Norm1 := fun m ρ _ => Cert.Norm1.Gen.frame m ρ

theorem frame_norm1Ideal : Cert.quiescent_Norm1Ideal := fun m ρ _ => Cert.Norm1Ideal.Gen.frame m ρ

theorem frame_norm1RefIdeal : Cert.quiescent_Norm1RefIdeal := fun m g _ =>
  (θ_run Cert.Norm1RefIdeal.defs _ _).mono (fun r h => ⟨fun c => (h c).2, sem_eq_zero_of_no_sems (by decide) r.2⟩)
    (Cert.Norm1RefIdeal.Value.run (F := Ideal) m g)

theorem frame_act : Cert.quiescent_Act := fun m ρ _ => Cert.Act.Gen.frame m ρ

theorem frame_actIdeal : Cert.quiescent_ActIdeal := fun m ρ _ => Cert.ActIdeal.Gen.frame m ρ

theorem frame_actRefIdeal : Cert.quiescent_ActRefIdeal := fun m g _ =>
  (θ_run Cert.ActRefIdeal.defs _ _).mono (fun r h => ⟨fun c => (h c).2, sem_eq_zero_of_no_sems (by decide) r.2⟩)
    (Cert.ActRefIdeal.Value.run (F := Ideal) m g)

theorem frame_actBack : Cert.quiescent_ActBack := fun m ρ _ => Cert.ActBack.Gen.frame m ρ

theorem frame_actBackIdeal : Cert.quiescent_ActBackIdeal := fun m ρ _ => Cert.ActBackIdeal.Gen.frame m ρ

theorem frame_actBackRefIdeal : Cert.quiescent_ActBackRefIdeal := fun m g _ =>
  (θ_run Cert.ActBackRefIdeal.defs _ _).mono (fun r h => ⟨fun c => (h c).2, sem_eq_zero_of_no_sems (by decide) r.2⟩)
    (Cert.ActBackRefIdeal.Value.run (F := Ideal) m g)

theorem frame_gates : Cert.quiescent_Gates := fun m ρ _ => Cert.Gates.Gen.frame m ρ

theorem frame_gatesIdeal : Cert.quiescent_GatesIdeal := fun m ρ _ => Cert.GatesIdeal.Gen.frame m ρ

theorem frame_gatesRefIdeal : Cert.quiescent_GatesRefIdeal := fun m g _ =>
  (θ_run Cert.GatesRefIdeal.defs _ _).mono (fun r h => ⟨fun c => (h c).2, sem_eq_zero_of_no_sems (by decide) r.2⟩)
    (Cert.GatesRefIdeal.Value.run (F := Ideal) m g)

theorem frame_gatesBack : Cert.quiescent_GatesBack := fun m ρ _ => Cert.GatesBack.Gen.frame m ρ

theorem frame_gatesBackIdeal : Cert.quiescent_GatesBackIdeal := fun m ρ _ => Cert.GatesBackIdeal.Gen.frame m ρ

theorem frame_gatesBackRefIdeal : Cert.quiescent_GatesBackRefIdeal := fun m g _ =>
  (θ_run Cert.GatesBackRefIdeal.defs _ _).mono (fun r h => ⟨fun c => (h c).2.2.2.2.2.2.2.2.2, sem_eq_zero_of_no_sems (by decide) r.2⟩)
    (Cert.GatesBackRefIdeal.Value.run (F := Ideal) m g)

theorem frame_widen : Cert.quiescent_Widen := fun m ρ _ => Cert.Widen.Gen.frame m ρ

theorem frame_widenIdeal : Cert.quiescent_WidenIdeal := fun m ρ _ => Cert.WidenIdeal.Gen.frame m ρ

theorem frame_widenRefIdeal : Cert.quiescent_WidenRefIdeal := fun m g _ =>
  (θ_run Cert.WidenRefIdeal.defs _ _).mono (fun r h => ⟨fun c => (h c).2, sem_eq_zero_of_no_sems (by decide) r.2⟩)
    (Cert.WidenRefIdeal.Value.run (F := Ideal) m g)

theorem frame_down : Cert.quiescent_Down := fun m ρ _ => Cert.Down.Gen.frame m ρ

theorem frame_downIdeal : Cert.quiescent_DownIdeal := fun m ρ _ => Cert.DownIdeal.Gen.frame m ρ

theorem frame_downRefIdeal : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

theorem frame_dact : Cert.quiescent_Dact := fun m ρ _ => Cert.Dact.Gen.frame m ρ

theorem frame_dactIdeal : Cert.quiescent_DactIdeal := fun m ρ _ => Cert.DactIdeal.Gen.frame m ρ

theorem frame_dactRefIdeal : Cert.quiescent_DactRefIdeal := fun m g _ =>
  (θ_run Cert.DactRefIdeal.defs _ _).mono (fun r h => ⟨fun c => (h c).2, sem_eq_zero_of_no_sems (by decide) r.2⟩)
    (Cert.DactRefIdeal.Value.run (F := Ideal) m g)

theorem frame_dhid : Cert.quiescent_Dhid := fun m ρ _ => Cert.Dhid.Gen.frame m ρ

theorem frame_dhidIdeal : Cert.quiescent_DhidIdeal := fun m ρ _ => Cert.DhidIdeal.Gen.frame m ρ

theorem frame_dhidRefIdeal : Cert.quiescent_DhidRefIdeal := fun m g _ =>
  (θ_run Cert.DhidRefIdeal.defs _ _).mono (fun r h => ⟨fun c => (h c).2, sem_eq_zero_of_no_sems (by decide) r.2⟩)
    (Cert.DhidRefIdeal.Value.run (F := Ideal) m g)

theorem frame_inward : Cert.quiescent_Inward := fun m ρ _ => Cert.Inward.Gen.frame m ρ

theorem frame_inwardIdeal : Cert.quiescent_InwardIdeal := fun m ρ _ => Cert.InwardIdeal.Gen.frame m ρ

theorem frame_inwardRefIdeal : Cert.quiescent_InwardRefIdeal := fun m g _ =>
  (θ_run Cert.InwardRefIdeal.defs _ _).mono (fun r h => ⟨fun c => (h c).2, sem_eq_zero_of_no_sems (by decide) r.2⟩)
    (Cert.InwardRefIdeal.Value.run (F := Ideal) m g)

theorem frame_projA : Cert.quiescent_ProjA := fun m ρ _ => Cert.ProjA.Gen.frame m ρ

theorem frame_projAIdeal : Cert.quiescent_ProjAIdeal := fun m ρ _ => Cert.ProjAIdeal.Gen.frame m ρ

theorem frame_projARefIdeal : Cert.quiescent_ProjARefIdeal := fun m g _ =>
  (θ_run Cert.ProjARefIdeal.defs _ _).mono (fun r h => ⟨fun c => (h c).2, sem_eq_zero_of_no_sems (by decide) r.2⟩)
    (Cert.ProjARefIdeal.Value.run (F := Ideal) m g)

theorem frame_projB : Cert.quiescent_ProjB := fun m ρ _ => Cert.ProjB.Gen.frame m ρ

theorem frame_projBIdeal : Cert.quiescent_ProjBIdeal := fun m ρ _ => Cert.ProjBIdeal.Gen.frame m ρ

theorem frame_projBRefIdeal : Cert.quiescent_ProjBRefIdeal := fun m g _ =>
  (θ_run Cert.ProjBRefIdeal.defs _ _).mono (fun r h => ⟨fun c => (h c).2, sem_eq_zero_of_no_sems (by decide) r.2⟩)
    (Cert.ProjBRefIdeal.Value.run (F := Ideal) m g)

theorem frame_projC : Cert.quiescent_ProjC := fun m ρ _ => Cert.ProjC.Gen.frame m ρ

theorem frame_projCIdeal : Cert.quiescent_ProjCIdeal := fun m ρ _ => Cert.ProjCIdeal.Gen.frame m ρ

theorem frame_projCRefIdeal : Cert.quiescent_ProjCRefIdeal := fun m g _ =>
  (θ_run Cert.ProjCRefIdeal.defs _ _).mono (fun r h => ⟨fun c => (h c).2, sem_eq_zero_of_no_sems (by decide) r.2⟩)
    (Cert.ProjCRefIdeal.Value.run (F := Ideal) m g)

theorem frame_outward : Cert.quiescent_Outward := fun m ρ _ => Cert.Outward.Gen.frame m ρ

theorem frame_outwardIdeal : Cert.quiescent_OutwardIdeal := fun m ρ _ => Cert.OutwardIdeal.Gen.frame m ρ

theorem frame_outwardRefIdeal : Cert.quiescent_OutwardRefIdeal := fun m g _ =>
  (θ_run Cert.OutwardRefIdeal.defs _ _).mono (fun r h => ⟨fun c => (h c).2, sem_eq_zero_of_no_sems (by decide) r.2⟩)
    (Cert.OutwardRefIdeal.Value.run (F := Ideal) m g)

theorem frame_dmerged : Cert.quiescent_Dmerged := fun m ρ _ => Cert.Dmerged.Gen.frame m ρ

theorem frame_dmergedIdeal : Cert.quiescent_DmergedIdeal := fun m ρ _ => Cert.DmergedIdeal.Gen.frame m ρ

theorem frame_dmergedRefIdeal : Cert.quiescent_DmergedRefIdeal := fun m g _ =>
  (θ_run Cert.DmergedRefIdeal.defs _ _).mono (fun r h => ⟨fun c => (h c).2, sem_eq_zero_of_no_sems (by decide) r.2⟩)
    (Cert.DmergedRefIdeal.Value.run (F := Ideal) m g)

theorem frame_dya : Cert.quiescent_Dya := fun m ρ _ => Cert.Dya.Gen.frame m ρ

theorem frame_dyaIdeal : Cert.quiescent_DyaIdeal := fun m ρ _ => Cert.DyaIdeal.Gen.frame m ρ

theorem frame_dyaRefIdeal : Cert.quiescent_DyaRefIdeal := fun m g _ =>
  (θ_run Cert.DyaRefIdeal.defs _ _).mono (fun r h => ⟨fun c => (h c).2, sem_eq_zero_of_no_sems (by decide) r.2⟩)
    (Cert.DyaRefIdeal.Value.run (F := Ideal) m g)

theorem frame_dyb : Cert.quiescent_Dyb := fun m ρ _ => Cert.Dyb.Gen.frame m ρ

theorem frame_dybIdeal : Cert.quiescent_DybIdeal := fun m ρ _ => Cert.DybIdeal.Gen.frame m ρ

theorem frame_dybRefIdeal : Cert.quiescent_DybRefIdeal := fun m g _ =>
  (θ_run Cert.DybRefIdeal.defs _ _).mono (fun r h => ⟨fun c => (h c).2, sem_eq_zero_of_no_sems (by decide) r.2⟩)
    (Cert.DybRefIdeal.Value.run (F := Ideal) m g)

theorem frame_dyc : Cert.quiescent_Dyc := fun m ρ _ => Cert.Dyc.Gen.frame m ρ

theorem frame_dycIdeal : Cert.quiescent_DycIdeal := fun m ρ _ => Cert.DycIdeal.Gen.frame m ρ

theorem frame_dycRefIdeal : Cert.quiescent_DycRefIdeal := fun m g _ =>
  (θ_run Cert.DycRefIdeal.defs _ _).mono (fun r h => ⟨fun c => (h c).2, sem_eq_zero_of_no_sems (by decide) r.2⟩)
    (Cert.DycRefIdeal.Value.run (F := Ideal) m g)

theorem frame_dmix : Cert.quiescent_Dmix := fun m ρ _ => Cert.Dmix.Gen.frame m ρ

theorem frame_dmixIdeal : Cert.quiescent_DmixIdeal := fun m ρ _ => Cert.DmixIdeal.Gen.frame m ρ

theorem frame_dmixRefIdeal : Cert.quiescent_DmixRefIdeal := fun m g _ =>
  (θ_run Cert.DmixRefIdeal.defs _ _).mono (fun r h => ⟨fun c => (h c).2, sem_eq_zero_of_no_sems (by decide) r.2⟩)
    (Cert.DmixRefIdeal.Value.run (F := Ideal) m g)

theorem frame_wgDown : Cert.quiescent_WgDown := fun m ρ _ => Cert.WgDown.Gen.frame m ρ

theorem frame_wgDownIdeal : Cert.quiescent_WgDownIdeal := fun m ρ _ => Cert.WgDownIdeal.Gen.frame m ρ

theorem frame_wgDownRefIdeal : Cert.quiescent_WgDownRefIdeal := fun m g _ =>
  (θ_run Cert.WgDownRefIdeal.defs _ _).mono (fun r h => ⟨fun c => (h c).2, sem_eq_zero_of_no_sems (by decide) r.2⟩)
    (Cert.WgDownRefIdeal.Value.run (F := Ideal) m g)

theorem frame_wgWiden : Cert.quiescent_WgWiden := fun m ρ _ => Cert.WgWiden.Gen.frame m ρ

theorem frame_wgWidenIdeal : Cert.quiescent_WgWidenIdeal := fun m ρ _ => Cert.WgWidenIdeal.Gen.frame m ρ

theorem frame_wgWidenRefIdeal : Cert.quiescent_WgWidenRefIdeal := fun m g _ =>
  (θ_run Cert.WgWidenRefIdeal.defs _ _).mono (fun r h => ⟨fun c => (h c).2, sem_eq_zero_of_no_sems (by decide) r.2⟩)
    (Cert.WgWidenRefIdeal.Value.run (F := Ideal) m g)

theorem frame_wgIn : Cert.quiescent_WgIn := fun m ρ _ => Cert.WgIn.Gen.frame m ρ

theorem frame_wgInIdeal : Cert.quiescent_WgInIdeal := fun m ρ _ => Cert.WgInIdeal.Gen.frame m ρ

theorem frame_wgInRefIdeal : Cert.quiescent_WgInRefIdeal := fun m g _ =>
  (θ_run Cert.WgInRefIdeal.defs _ _).mono (fun r h => ⟨fun c => (h c).2, sem_eq_zero_of_no_sems (by decide) r.2⟩)
    (Cert.WgInRefIdeal.Value.run (F := Ideal) m g)

theorem frame_wgOut : Cert.quiescent_WgOut := fun m ρ _ => Cert.WgOut.Gen.frame m ρ

theorem frame_wgOutIdeal : Cert.quiescent_WgOutIdeal := fun m ρ _ => Cert.WgOutIdeal.Gen.frame m ρ

theorem frame_wgOutRefIdeal : Cert.quiescent_WgOutRefIdeal := fun m g _ =>
  (θ_run Cert.WgOutRefIdeal.defs _ _).mono (fun r h => ⟨fun c => (h c).2, sem_eq_zero_of_no_sems (by decide) r.2⟩)
    (Cert.WgOutRefIdeal.Value.run (F := Ideal) m g)

theorem frame_wgA : Cert.quiescent_WgA := fun m ρ _ => Cert.WgA.Gen.frame m ρ

theorem frame_wgAIdeal : Cert.quiescent_WgAIdeal := fun m ρ _ => Cert.WgAIdeal.Gen.frame m ρ

theorem frame_wgARefIdeal : Cert.quiescent_WgARefIdeal := fun m g _ =>
  (θ_run Cert.WgARefIdeal.defs _ _).mono (fun r h => ⟨fun c => (h c).2, sem_eq_zero_of_no_sems (by decide) r.2⟩)
    (Cert.WgARefIdeal.Value.run (F := Ideal) m g)

theorem frame_wgB : Cert.quiescent_WgB := fun m ρ _ => Cert.WgB.Gen.frame m ρ

theorem frame_wgBIdeal : Cert.quiescent_WgBIdeal := fun m ρ _ => Cert.WgBIdeal.Gen.frame m ρ

theorem frame_wgBRefIdeal : Cert.quiescent_WgBRefIdeal := fun m g _ =>
  (θ_run Cert.WgBRefIdeal.defs _ _).mono (fun r h => ⟨fun c => (h c).2, sem_eq_zero_of_no_sems (by decide) r.2⟩)
    (Cert.WgBRefIdeal.Value.run (F := Ideal) m g)

theorem frame_wgC : Cert.quiescent_WgC := fun m ρ _ => Cert.WgC.Gen.frame m ρ

theorem frame_wgCIdeal : Cert.quiescent_WgCIdeal := fun m ρ _ => Cert.WgCIdeal.Gen.frame m ρ

theorem frame_wgCRefIdeal : Cert.quiescent_WgCRefIdeal := fun m g _ =>
  (θ_run Cert.WgCRefIdeal.defs _ _).mono (fun r h => ⟨fun c => (h c).2, sem_eq_zero_of_no_sems (by decide) r.2⟩)
    (Cert.WgCRefIdeal.Value.run (F := Ideal) m g)

theorem claim : Cert.Claim := ⟨
  Cert.Kernel.Gen.facts, Cert.KernelIdeal.Gen.facts, Cert.ReferenceIdeal.Gen.facts, Cert.Reference.Gen.facts,
  Cert.Gather.Gen.facts, Cert.GatherIdeal.Gen.facts, Cert.GatherRefIdeal.Gen.facts, Cert.GatherRef.Gen.facts,
  Cert.GatherSmall.Gen.facts, Cert.GatherSmallIdeal.Gen.facts, Cert.GatherSmallRefIdeal.Gen.facts, Cert.GatherSmallRef.Gen.facts,
  Cert.Sum0.Gen.facts, Cert.Sum0Ideal.Gen.facts, Cert.Sum0RefIdeal.Gen.facts, Cert.Sum1.Gen.facts, Cert.Sum1Ideal.Gen.facts,
  Cert.Sum1RefIdeal.Gen.facts, Cert.Sum2.Gen.facts, Cert.Sum2Ideal.Gen.facts, Cert.Sum2RefIdeal.Gen.facts, Cert.Sum3.Gen.facts,
  Cert.Sum3Ideal.Gen.facts, Cert.Sum3RefIdeal.Gen.facts, Cert.Sum4.Gen.facts, Cert.Sum4Ideal.Gen.facts,
  Cert.Sum4RefIdeal.Gen.facts, Cert.SumSmall.Gen.facts, Cert.SumSmallIdeal.Gen.facts, Cert.SumSmallRefIdeal.Gen.facts,
  Cert.Step0.Gen.facts, Cert.Step0Ideal.Gen.facts, Cert.Step0RefIdeal.Gen.facts, Cert.Step1.Gen.facts, Cert.Step1Ideal.Gen.facts,
  Cert.Step1RefIdeal.Gen.facts, Cert.Step2.Gen.facts, Cert.Step2Ideal.Gen.facts, Cert.Step2RefIdeal.Gen.facts,
  Cert.Step3.Gen.facts, Cert.Step3Ideal.Gen.facts, Cert.Step3RefIdeal.Gen.facts, Cert.Step4.Gen.facts, Cert.Step4Ideal.Gen.facts,
  Cert.Step4RefIdeal.Gen.facts, Cert.Step5.Gen.facts, Cert.Step5Ideal.Gen.facts, Cert.Step5RefIdeal.Gen.facts,
  Cert.Step6.Gen.facts, Cert.Step6Ideal.Gen.facts, Cert.Step6RefIdeal.Gen.facts, Cert.Head.Gen.facts, Cert.HeadIdeal.Gen.facts, Cert.HeadRefIdeal.Gen.facts,
  Cert.Loss.Gen.facts, Cert.LossIdeal.Gen.facts, Cert.LossRefIdeal.Gen.facts,
  Cert.Back.Gen.facts, Cert.BackIdeal.Gen.facts, Cert.BackRefIdeal.Gen.facts,
  Cert.Norm1.Gen.facts, Cert.Norm1Ideal.Gen.facts, Cert.Norm1RefIdeal.Gen.facts, Cert.Act.Gen.facts, Cert.ActIdeal.Gen.facts,
  Cert.ActRefIdeal.Gen.facts, Cert.ActBack.Gen.facts, Cert.ActBackIdeal.Gen.facts, Cert.ActBackRefIdeal.Gen.facts,
  Cert.Gates.Gen.facts, Cert.GatesIdeal.Gen.facts, Cert.GatesRefIdeal.Gen.facts, Cert.GatesBack.Gen.facts,
  Cert.GatesBackIdeal.Gen.facts, Cert.GatesBackRefIdeal.Gen.facts, Cert.Widen.Gen.facts, Cert.WidenIdeal.Gen.facts,
  Cert.WidenRefIdeal.Gen.facts, Cert.Down.Gen.facts, Cert.DownIdeal.Gen.facts, Cert.DownRefIdeal.Gen.facts,
  Cert.Dact.Gen.facts, Cert.DactIdeal.Gen.facts, Cert.DactRefIdeal.Gen.facts, Cert.Dhid.Gen.facts, Cert.DhidIdeal.Gen.facts,
  Cert.DhidRefIdeal.Gen.facts, Cert.Inward.Gen.facts, Cert.InwardIdeal.Gen.facts, Cert.InwardRefIdeal.Gen.facts,
  Cert.ProjA.Gen.facts, Cert.ProjAIdeal.Gen.facts, Cert.ProjARefIdeal.Gen.facts, Cert.ProjB.Gen.facts,
  Cert.ProjBIdeal.Gen.facts, Cert.ProjBRefIdeal.Gen.facts, Cert.ProjC.Gen.facts, Cert.ProjCIdeal.Gen.facts,
  Cert.ProjCRefIdeal.Gen.facts, Cert.Outward.Gen.facts, Cert.OutwardIdeal.Gen.facts, Cert.OutwardRefIdeal.Gen.facts,
  Cert.Dmerged.Gen.facts, Cert.DmergedIdeal.Gen.facts, Cert.DmergedRefIdeal.Gen.facts, Cert.Dya.Gen.facts,
  Cert.DyaIdeal.Gen.facts, Cert.DyaRefIdeal.Gen.facts, Cert.Dyb.Gen.facts, Cert.DybIdeal.Gen.facts,
  Cert.DybRefIdeal.Gen.facts, Cert.Dyc.Gen.facts, Cert.DycIdeal.Gen.facts, Cert.DycRefIdeal.Gen.facts, Cert.Dmix.Gen.facts,
  Cert.DmixIdeal.Gen.facts, Cert.DmixRefIdeal.Gen.facts, Cert.WgDown.Gen.facts, Cert.WgDownIdeal.Gen.facts,
  Cert.WgDownRefIdeal.Gen.facts, Cert.WgWiden.Gen.facts, Cert.WgWidenIdeal.Gen.facts, Cert.WgWidenRefIdeal.Gen.facts,
  Cert.WgIn.Gen.facts, Cert.WgInIdeal.Gen.facts, Cert.WgInRefIdeal.Gen.facts, Cert.WgOut.Gen.facts, Cert.WgOutIdeal.Gen.facts,
  Cert.WgOutRefIdeal.Gen.facts, Cert.WgA.Gen.facts, Cert.WgAIdeal.Gen.facts, Cert.WgARefIdeal.Gen.facts, Cert.WgB.Gen.facts,
  Cert.WgBIdeal.Gen.facts, Cert.WgBRefIdeal.Gen.facts, Cert.WgC.Gen.facts, Cert.WgCIdeal.Gen.facts, Cert.WgCRefIdeal.Gen.facts,
  frame_kernel, frame_kernelIdeal,
  frame_referenceIdeal, frame_reference, frame_gather, frame_gatherIdeal, frame_gatherRefIdeal, frame_gatherRef, frame_gatherSmall,
  frame_gatherSmallIdeal, frame_gatherSmallRefIdeal, frame_gatherSmallRef, frame_sum0, frame_sum0Ideal, frame_sum0RefIdeal,
  frame_sum1, frame_sum1Ideal, frame_sum1RefIdeal, frame_sum2, frame_sum2Ideal, frame_sum2RefIdeal, frame_sum3, frame_sum3Ideal,
  frame_sum3RefIdeal, frame_sum4, frame_sum4Ideal, frame_sum4RefIdeal, frame_sumSmall, frame_sumSmallIdeal, frame_sumSmallRefIdeal,
  frame_step0, frame_step0Ideal, frame_step0RefIdeal, frame_step1, frame_step1Ideal, frame_step1RefIdeal, frame_step2,
  frame_step2Ideal, frame_step2RefIdeal, frame_step3, frame_step3Ideal, frame_step3RefIdeal, frame_step4, frame_step4Ideal,
  frame_step4RefIdeal, frame_step5, frame_step5Ideal, frame_step5RefIdeal, frame_step6, frame_step6Ideal, frame_step6RefIdeal,
  frame_head, frame_headIdeal, frame_headRefIdeal, frame_loss, frame_lossIdeal, frame_lossRefIdeal, frame_back, frame_backIdeal, frame_backRefIdeal,
  frame_norm1, frame_norm1Ideal, frame_norm1RefIdeal, frame_act, frame_actIdeal, frame_actRefIdeal, frame_actBack,
  frame_actBackIdeal, frame_actBackRefIdeal, frame_gates, frame_gatesIdeal, frame_gatesRefIdeal, frame_gatesBack,
  frame_gatesBackIdeal, frame_gatesBackRefIdeal, frame_widen, frame_widenIdeal, frame_widenRefIdeal, frame_down,
  frame_downIdeal, frame_downRefIdeal, frame_dact, frame_dactIdeal, frame_dactRefIdeal, frame_dhid, frame_dhidIdeal,
  frame_dhidRefIdeal, frame_inward, frame_inwardIdeal, frame_inwardRefIdeal, frame_projA, frame_projAIdeal,
  frame_projARefIdeal, frame_projB, frame_projBIdeal, frame_projBRefIdeal, frame_projC, frame_projCIdeal, frame_projCRefIdeal,
  frame_outward, frame_outwardIdeal, frame_outwardRefIdeal, frame_dmerged, frame_dmergedIdeal, frame_dmergedRefIdeal,
  frame_dya, frame_dyaIdeal, frame_dyaRefIdeal, frame_dyb, frame_dybIdeal, frame_dybRefIdeal, frame_dyc, frame_dycIdeal,
  frame_dycRefIdeal, frame_dmix, frame_dmixIdeal, frame_dmixRefIdeal, frame_wgDown, frame_wgDownIdeal, frame_wgDownRefIdeal,
  frame_wgWiden, frame_wgWidenIdeal, frame_wgWidenRefIdeal, frame_wgIn, frame_wgInIdeal, frame_wgInRefIdeal, frame_wgOut,
  frame_wgOutIdeal, frame_wgOutRefIdeal, frame_wgA, frame_wgAIdeal, frame_wgARefIdeal, frame_wgB, frame_wgBIdeal,
  frame_wgBRefIdeal, frame_wgC, frame_wgCIdeal, frame_wgCRefIdeal,
  trivial, value_ideal, value_bits, trivial, value_gather_ideal, value_gather_bits, trivial, value_gatherSmall_ideal,
  value_gatherSmall_bits, trivial, Cert.Values.value_sum0, trivial, Cert.Values.value_sum1, trivial, Cert.Values.value_sum2,
  trivial, Cert.Values.value_sum3, trivial, Cert.Values.value_sum4, trivial, Cert.Values.value_sumSmall, trivial,
  Cert.Values.value_step0, trivial, Cert.Values.value_step1, trivial, Cert.Values.value_step2, trivial, Cert.Values.value_step3,
  trivial, Cert.Values.value_step4, trivial, Cert.Values.value_step5, trivial, Cert.Values.value_step6,
  trivial, Cert.Values.value_head, trivial, Cert.Values.value_loss, trivial, Cert.Values.value_back,
  trivial, Cert.Values.value_norm1, trivial, Cert.Values.value_act, trivial, Cert.Values.value_actBack, trivial,
  Cert.Values.value_gates, trivial, Cert.Values.value_gatesBack, trivial, Cert.Values.value_widen, trivial,
  Cert.Values.value_down, trivial, Cert.Values.value_dact, trivial, Cert.Values.value_dhid, trivial, Cert.Values.value_inward,
  trivial, Cert.Values.value_projA, trivial, Cert.Values.value_projB, trivial, Cert.Values.value_projC, trivial,
  Cert.Values.value_outward, trivial, Cert.Values.value_dmerged, trivial, Cert.Values.value_dya, trivial,
  Cert.Values.value_dyb, trivial, Cert.Values.value_dyc, trivial, Cert.Values.value_dmix, trivial, Cert.Values.value_wgDown,
  trivial, Cert.Values.value_wgWiden, trivial, Cert.Values.value_wgIn, trivial, Cert.Values.value_wgOut, trivial,
  Cert.Values.value_wgA, trivial, Cert.Values.value_wgB, trivial, Cert.Values.value_wgC⟩

end Cert.Proof

end
